-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_ExchangeC (m : (ℓ : Loc Cert.ExchangeC.nD Cert.ExchangeC.τ Cert.ExchangeC.sig) → Buf (Elt Bits) ℓ) : Prop :=
  True

def Pre_ExchangeCIdeal (m : (ℓ : Loc Cert.ExchangeCIdeal.nD Cert.ExchangeCIdeal.τ Cert.ExchangeCIdeal.sig) → Buf (Elt Ideal) ℓ) : Prop :=
  True

def Pre_ExchangeCReferenceIdeal (m : (ℓ : Loc Cert.ExchangeCReferenceIdeal.nD Cert.ExchangeCReferenceIdeal.τ Cert.ExchangeCReferenceIdeal.sig) → Buf (Elt Ideal) ℓ) : Prop :=
  True

def Pre_ExchangeCReference (m : (ℓ : Loc Cert.ExchangeCReference.nD Cert.ExchangeCReference.τ Cert.ExchangeCReference.sig) → Buf (Elt Bits) ℓ) : Prop :=
  True

def Pre_ExchangeX (m : (ℓ : Loc Cert.ExchangeX.nD Cert.ExchangeX.τ Cert.ExchangeX.sig) → Buf (Elt Bits) ℓ) : Prop :=
  True

def Pre_ExchangeXIdeal (m : (ℓ : Loc Cert.ExchangeXIdeal.nD Cert.ExchangeXIdeal.τ Cert.ExchangeXIdeal.sig) → Buf (Elt Ideal) ℓ) : Prop :=
  True

def Pre_ExchangeXReferenceIdeal (m : (ℓ : Loc Cert.ExchangeXReferenceIdeal.nD Cert.ExchangeXReferenceIdeal.τ Cert.ExchangeXReferenceIdeal.sig) → Buf (Elt Ideal) ℓ) : Prop :=
  True

def Pre_ExchangeXReference (m : (ℓ : Loc Cert.ExchangeXReference.nD Cert.ExchangeXReference.τ Cert.ExchangeXReference.sig) → Buf (Elt Bits) ℓ) : Prop :=
  True

def Pre_ExchangeY (m : (ℓ : Loc Cert.ExchangeY.nD Cert.ExchangeY.τ Cert.ExchangeY.sig) → Buf (Elt Bits) ℓ) : Prop :=
  True

def Pre_ExchangeYIdeal (m : (ℓ : Loc Cert.ExchangeYIdeal.nD Cert.ExchangeYIdeal.τ Cert.ExchangeYIdeal.sig) → Buf (Elt Ideal) ℓ) : Prop :=
  True

def Pre_ExchangeYReferenceIdeal (m : (ℓ : Loc Cert.ExchangeYReferenceIdeal.nD Cert.ExchangeYReferenceIdeal.τ Cert.ExchangeYReferenceIdeal.sig) → Buf (Elt Ideal) ℓ) : Prop :=
  True

def Pre_ExchangeYReference (m : (ℓ : Loc Cert.ExchangeYReference.nD Cert.ExchangeYReference.τ Cert.ExchangeYReference.sig) → Buf (Elt Bits) ℓ) : Prop :=
  True

def Pre_GatherMod (m : (ℓ : Loc Cert.GatherMod.nD Cert.GatherMod.τ Cert.GatherMod.sig) → Buf (Elt Bits) ℓ) : Prop :=
  True

def Pre_GatherModIdeal (m : (ℓ : Loc Cert.GatherModIdeal.nD Cert.GatherModIdeal.τ Cert.GatherModIdeal.sig) → Buf (Elt Ideal) ℓ) : Prop :=
  True

def Pre_GatherModReferenceIdeal (m : (ℓ : Loc Cert.GatherModReferenceIdeal.nD Cert.GatherModReferenceIdeal.τ Cert.GatherModReferenceIdeal.sig) → Buf (Elt Ideal) ℓ) : Prop :=
  True

def Pre_GatherModReference (m : (ℓ : Loc Cert.GatherModReference.nD Cert.GatherModReference.τ Cert.GatherModReference.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallReferenceIdeal (m : (ℓ : Loc Cert.GatherSmallReferenceIdeal.nD Cert.GatherSmallReferenceIdeal.τ Cert.GatherSmallReferenceIdeal.sig) → Buf (Elt Ideal) ℓ) : Prop :=
  True

def Pre_GatherSmallReference (m : (ℓ : Loc Cert.GatherSmallReference.nD Cert.GatherSmallReference.τ Cert.GatherSmallReference.sig) → Buf (Elt Bits) ℓ) : Prop :=
  True

def Pre_AdamCond (m : (ℓ : Loc Cert.AdamCond.nD Cert.AdamCond.τ Cert.AdamCond.sig) → Buf (Elt Bits) ℓ) : Prop :=
  True

def Pre_AdamCondIdeal (m : (ℓ : Loc Cert.AdamCondIdeal.nD Cert.AdamCondIdeal.τ Cert.AdamCondIdeal.sig) → Buf (Elt Ideal) ℓ) : Prop :=
  True

def Pre_AdamCondReferenceIdeal (m : (ℓ : Loc Cert.AdamCondReferenceIdeal.nD Cert.AdamCondReferenceIdeal.τ Cert.AdamCondReferenceIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasReferenceIdeal (m : (ℓ : Loc Cert.AdamBiasReferenceIdeal.nD Cert.AdamBiasReferenceIdeal.τ Cert.AdamBiasReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_CondForward (m : (ℓ : Loc Cert.CondForward.nD Cert.CondForward.τ Cert.CondForward.sig) → Buf (Elt Bits) ℓ) : Prop :=
  True

def Pre_CondForwardIdeal (m : (ℓ : Loc Cert.CondForwardIdeal.nD Cert.CondForwardIdeal.τ Cert.CondForwardIdeal.sig) → Buf (Elt Ideal) ℓ) : Prop :=
  True

def Pre_CondForwardReferenceIdeal (m : (ℓ : Loc Cert.CondForwardReferenceIdeal.nD Cert.CondForwardReferenceIdeal.τ Cert.CondForwardReferenceIdeal.sig) → Buf (Elt Ideal) ℓ) : Prop :=
  True

def Pre_CondBackward (m : (ℓ : Loc Cert.CondBackward.nD Cert.CondBackward.τ Cert.CondBackward.sig) → Buf (Elt Bits) ℓ) : Prop :=
  True

def Pre_CondBackwardIdeal (m : (ℓ : Loc Cert.CondBackwardIdeal.nD Cert.CondBackwardIdeal.τ Cert.CondBackwardIdeal.sig) → Buf (Elt Ideal) ℓ) : Prop :=
  True

def Pre_CondBackwardReferenceIdeal (m : (ℓ : Loc Cert.CondBackwardReferenceIdeal.nD Cert.CondBackwardReferenceIdeal.τ Cert.CondBackwardReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_GradGateUp (m : (ℓ : Loc Cert.GradGateUp.nD Cert.GradGateUp.τ Cert.GradGateUp.sig) → Buf (Elt Bits) ℓ) : Prop :=
  True

def Pre_GradGateUpIdeal (m : (ℓ : Loc Cert.GradGateUpIdeal.nD Cert.GradGateUpIdeal.τ Cert.GradGateUpIdeal.sig) → Buf (Elt Ideal) ℓ) : Prop :=
  True

def Pre_GradGateUpReferenceIdeal (m : (ℓ : Loc Cert.GradGateUpReferenceIdeal.nD Cert.GradGateUpReferenceIdeal.τ Cert.GradGateUpReferenceIdeal.sig) → Buf (Elt Ideal) ℓ) : Prop :=
  True

def Pre_BackFfn (m : (ℓ : Loc Cert.BackFfn.nD Cert.BackFfn.τ Cert.BackFfn.sig) → Buf (Elt Bits) ℓ) : Prop :=
  True

def Pre_BackFfnIdeal (m : (ℓ : Loc Cert.BackFfnIdeal.nD Cert.BackFfnIdeal.τ Cert.BackFfnIdeal.sig) → Buf (Elt Ideal) ℓ) : Prop :=
  True

def Pre_BackFfnReferenceIdeal (m : (ℓ : Loc Cert.BackFfnReferenceIdeal.nD Cert.BackFfnReferenceIdeal.τ Cert.BackFfnReferenceIdeal.sig) → Buf (Elt Ideal) ℓ) : Prop :=
  True

def Pre_BackOut (m : (ℓ : Loc Cert.BackOut.nD Cert.BackOut.τ Cert.BackOut.sig) → Buf (Elt Bits) ℓ) : Prop :=
  True

def Pre_BackOutIdeal (m : (ℓ : Loc Cert.BackOutIdeal.nD Cert.BackOutIdeal.τ Cert.BackOutIdeal.sig) → Buf (Elt Ideal) ℓ) : Prop :=
  True

def Pre_BackOutReferenceIdeal (m : (ℓ : Loc Cert.BackOutReferenceIdeal.nD Cert.BackOutReferenceIdeal.τ Cert.BackOutReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_BackIn (m : (ℓ : Loc Cert.BackIn.nD Cert.BackIn.τ Cert.BackIn.sig) → Buf (Elt Bits) ℓ) : Prop :=
  True

def Pre_BackInIdeal (m : (ℓ : Loc Cert.BackInIdeal.nD Cert.BackInIdeal.τ Cert.BackInIdeal.sig) → Buf (Elt Ideal) ℓ) : Prop :=
  True

def Pre_BackInReferenceIdeal (m : (ℓ : Loc Cert.BackInReferenceIdeal.nD Cert.BackInReferenceIdeal.τ Cert.BackInReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackReferenceIdeal (m : (ℓ : Loc Cert.FfnBackReferenceIdeal.nD Cert.FfnBackReferenceIdeal.τ Cert.FfnBackReferenceIdeal.sig) → Buf (Elt Ideal) ℓ) : Prop :=
  True

def Pre_PreMix (m : (ℓ : Loc Cert.PreMix.nD Cert.PreMix.τ Cert.PreMix.sig) → Buf (Elt Bits) ℓ) : Prop :=
  True

def Pre_PreMixIdeal (m : (ℓ : Loc Cert.PreMixIdeal.nD Cert.PreMixIdeal.τ Cert.PreMixIdeal.sig) → Buf (Elt Ideal) ℓ) : Prop :=
  True

def Pre_PreMixReferenceIdeal (m : (ℓ : Loc Cert.PreMixReferenceIdeal.nD Cert.PreMixReferenceIdeal.τ Cert.PreMixReferenceIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_BwdMid (m : (ℓ : Loc Cert.BwdMid.nD Cert.BwdMid.τ Cert.BwdMid.sig) → Buf (Elt Bits) ℓ) : Prop :=
  True

def Pre_BwdMidIdeal (m : (ℓ : Loc Cert.BwdMidIdeal.nD Cert.BwdMidIdeal.τ Cert.BwdMidIdeal.sig) → Buf (Elt Ideal) ℓ) : Prop :=
  True

def Pre_BwdMidReferenceIdeal (m : (ℓ : Loc Cert.BwdMidReferenceIdeal.nD Cert.BwdMidReferenceIdeal.τ Cert.BwdMidReferenceIdeal.sig) → Buf (Elt Ideal) ℓ) : Prop :=
  True

def Pre_BwdPre (m : (ℓ : Loc Cert.BwdPre.nD Cert.BwdPre.τ Cert.BwdPre.sig) → Buf (Elt Bits) ℓ) : Prop :=
  True

def Pre_BwdPreIdeal (m : (ℓ : Loc Cert.BwdPreIdeal.nD Cert.BwdPreIdeal.τ Cert.BwdPreIdeal.sig) → Buf (Elt Ideal) ℓ) : Prop :=
  True

def Pre_BwdPreReferenceIdeal (m : (ℓ : Loc Cert.BwdPreReferenceIdeal.nD Cert.BwdPreReferenceIdeal.τ Cert.BwdPreReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_ExchangeC [hExchangeC : Cert.ExchangeC.Facts] : Prop :=
  ∀ (m : (ℓ : Loc Cert.ExchangeC.nD Cert.ExchangeC.τ Cert.ExchangeC.sig) → Buf (Elt Bits) ℓ) (g : Dev Cert.ExchangeC.nD → PrngReg), Pre_ExchangeC m →
    θ_run (Cert.ExchangeC.defs (F := Bits)) (onTc (τ := Cert.ExchangeC.τ) (Cert.ExchangeC.main (F := Bits))) ⟨m, fun _ => 0, g⟩ (fun r => (∀ c : Dev Cert.ExchangeC.nD,
      r.2.mem ((c.tc : Thread Cert.ExchangeC.nD Cert.ExchangeC.τ).loc Cert.ExchangeC.main_arg0) = m ((c.tc : Thread Cert.ExchangeC.nD Cert.ExchangeC.τ).loc Cert.ExchangeC.main_arg0)
      ∧ r.2.mem ((c.tc : Thread Cert.ExchangeC.nD Cert.ExchangeC.τ).loc Cert.ExchangeC.main_arg1) = m ((c.tc : Thread Cert.ExchangeC.nD Cert.ExchangeC.τ).loc Cert.ExchangeC.main_arg1)
      ∧ r.2.mem ((c.tc : Thread Cert.ExchangeC.nD Cert.ExchangeC.τ).loc Cert.ExchangeC.main_arg2) = m ((c.tc : Thread Cert.ExchangeC.nD Cert.ExchangeC.τ).loc Cert.ExchangeC.main_arg2)
      ∧ r.2.mem ((c.tc : Thread Cert.ExchangeC.nD Cert.ExchangeC.τ).loc Cert.ExchangeC.main_arg3) = m ((c.tc : Thread Cert.ExchangeC.nD Cert.ExchangeC.τ).loc Cert.ExchangeC.main_arg3))
      ∧ r.2.sem = fun _ => 0)

def quiescent_ExchangeCIdeal [hExchangeCIdeal : Cert.ExchangeCIdeal.Facts] : Prop :=
  ∀ (m : (ℓ : Loc Cert.ExchangeCIdeal.nD Cert.ExchangeCIdeal.τ Cert.ExchangeCIdeal.sig) → Buf (Elt Ideal) ℓ) (g : Dev Cert.ExchangeCIdeal.nD → PrngReg), Pre_ExchangeCIdeal m →
    θ_run (Cert.ExchangeCIdeal.defs (F := Ideal)) (onTc (τ := Cert.ExchangeCIdeal.τ) (Cert.ExchangeCIdeal.main (F := Ideal))) ⟨m, fun _ => 0, g⟩ (fun r => (∀ c : Dev Cert.ExchangeCIdeal.nD,
      r.2.mem ((c.tc : Thread Cert.ExchangeCIdeal.nD Cert.ExchangeCIdeal.τ).loc Cert.ExchangeCIdeal.main_arg0) = m ((c.tc : Thread Cert.ExchangeCIdeal.nD Cert.ExchangeCIdeal.τ).loc Cert.ExchangeCIdeal.main_arg0)
      ∧ r.2.mem ((c.tc : Thread Cert.ExchangeCIdeal.nD Cert.ExchangeCIdeal.τ).loc Cert.ExchangeCIdeal.main_arg1) = m ((c.tc : Thread Cert.ExchangeCIdeal.nD Cert.ExchangeCIdeal.τ).loc Cert.ExchangeCIdeal.main_arg1)
      ∧ r.2.mem ((c.tc : Thread Cert.ExchangeCIdeal.nD Cert.ExchangeCIdeal.τ).loc Cert.ExchangeCIdeal.main_arg2) = m ((c.tc : Thread Cert.ExchangeCIdeal.nD Cert.ExchangeCIdeal.τ).loc Cert.ExchangeCIdeal.main_arg2)
      ∧ r.2.mem ((c.tc : Thread Cert.ExchangeCIdeal.nD Cert.ExchangeCIdeal.τ).loc Cert.ExchangeCIdeal.main_arg3) = m ((c.tc : Thread Cert.ExchangeCIdeal.nD Cert.ExchangeCIdeal.τ).loc Cert.ExchangeCIdeal.main_arg3))
      ∧ r.2.sem = fun _ => 0)

def quiescent_ExchangeCReferenceIdeal [hExchangeCReferenceIdeal : Cert.ExchangeCReferenceIdeal.Facts] : Prop :=
  ∀ (m : (ℓ : Loc Cert.ExchangeCReferenceIdeal.nD Cert.ExchangeCReferenceIdeal.τ Cert.ExchangeCReferenceIdeal.sig) → Buf (Elt Ideal) ℓ) (g : Dev Cert.ExchangeCReferenceIdeal.nD → PrngReg), Pre_ExchangeCReferenceIdeal m →
    θ_run (Cert.ExchangeCReferenceIdeal.defs (F := Ideal)) (onTc (τ := Cert.ExchangeCReferenceIdeal.τ) (Cert.ExchangeCReferenceIdeal.main (F := Ideal))) ⟨m, fun _ => 0, g⟩ (fun r => (∀ c : Dev Cert.ExchangeCReferenceIdeal.nD,
      r.2.mem ((c.tc : Thread Cert.ExchangeCReferenceIdeal.nD Cert.ExchangeCReferenceIdeal.τ).loc Cert.ExchangeCReferenceIdeal.main_arg0) = m ((c.tc : Thread Cert.ExchangeCReferenceIdeal.nD Cert.ExchangeCReferenceIdeal.τ).loc Cert.ExchangeCReferenceIdeal.main_arg0)
      ∧ r.2.mem ((c.tc : Thread Cert.ExchangeCReferenceIdeal.nD Cert.ExchangeCReferenceIdeal.τ).loc Cert.ExchangeCReferenceIdeal.main_arg1) = m ((c.tc : Thread Cert.ExchangeCReferenceIdeal.nD Cert.ExchangeCReferenceIdeal.τ).loc Cert.ExchangeCReferenceIdeal.main_arg1)
      ∧ r.2.mem ((c.tc : Thread Cert.ExchangeCReferenceIdeal.nD Cert.ExchangeCReferenceIdeal.τ).loc Cert.ExchangeCReferenceIdeal.main_arg2) = m ((c.tc : Thread Cert.ExchangeCReferenceIdeal.nD Cert.ExchangeCReferenceIdeal.τ).loc Cert.ExchangeCReferenceIdeal.main_arg2)
      ∧ r.2.mem ((c.tc : Thread Cert.ExchangeCReferenceIdeal.nD Cert.ExchangeCReferenceIdeal.τ).loc Cert.ExchangeCReferenceIdeal.main_arg3) = m ((c.tc : Thread Cert.ExchangeCReferenceIdeal.nD Cert.ExchangeCReferenceIdeal.τ).loc Cert.ExchangeCReferenceIdeal.main_arg3))
      ∧ r.2.sem = fun _ => 0)

def quiescent_ExchangeCReference [hExchangeCReference : Cert.ExchangeCReference.Facts] : Prop :=
  ∀ (m : (ℓ : Loc Cert.ExchangeCReference.nD Cert.ExchangeCReference.τ Cert.ExchangeCReference.sig) → Buf (Elt Bits) ℓ) (g : Dev Cert.ExchangeCReference.nD → PrngReg), Pre_ExchangeCReference m →
    θ_run (Cert.ExchangeCReference.defs (F := Bits)) (onTc (τ := Cert.ExchangeCReference.τ) (Cert.ExchangeCReference.main (F := Bits))) ⟨m, fun _ => 0, g⟩ (fun r => (∀ c : Dev Cert.ExchangeCReference.nD,
      r.2.mem ((c.tc : Thread Cert.ExchangeCReference.nD Cert.ExchangeCReference.τ).loc Cert.ExchangeCReference.main_arg0) = m ((c.tc : Thread Cert.ExchangeCReference.nD Cert.ExchangeCReference.τ).loc Cert.ExchangeCReference.main_arg0)
      ∧ r.2.mem ((c.tc : Thread Cert.ExchangeCReference.nD Cert.ExchangeCReference.τ).loc Cert.ExchangeCReference.main_arg1) = m ((c.tc : Thread Cert.ExchangeCReference.nD Cert.ExchangeCReference.τ).loc Cert.ExchangeCReference.main_arg1)
      ∧ r.2.mem ((c.tc : Thread Cert.ExchangeCReference.nD Cert.ExchangeCReference.τ).loc Cert.ExchangeCReference.main_arg2) = m ((c.tc : Thread Cert.ExchangeCReference.nD Cert.ExchangeCReference.τ).loc Cert.ExchangeCReference.main_arg2)
      ∧ r.2.mem ((c.tc : Thread Cert.ExchangeCReference.nD Cert.ExchangeCReference.τ).loc Cert.ExchangeCReference.main_arg3) = m ((c.tc : Thread Cert.ExchangeCReference.nD Cert.ExchangeCReference.τ).loc Cert.ExchangeCReference.main_arg3))
      ∧ r.2.sem = fun _ => 0)

def quiescent_ExchangeX [hExchangeX : Cert.ExchangeX.Facts] : Prop :=
  ∀ (m : (ℓ : Loc Cert.ExchangeX.nD Cert.ExchangeX.τ Cert.ExchangeX.sig) → Buf (Elt Bits) ℓ) (g : Dev Cert.ExchangeX.nD → PrngReg), Pre_ExchangeX m →
    θ_run (Cert.ExchangeX.defs (F := Bits)) (onTc (τ := Cert.ExchangeX.τ) (Cert.ExchangeX.main (F := Bits))) ⟨m, fun _ => 0, g⟩ (fun r => (∀ c : Dev Cert.ExchangeX.nD,
      r.2.mem ((c.tc : Thread Cert.ExchangeX.nD Cert.ExchangeX.τ).loc Cert.ExchangeX.main_arg0) = m ((c.tc : Thread Cert.ExchangeX.nD Cert.ExchangeX.τ).loc Cert.ExchangeX.main_arg0)
      ∧ r.2.mem ((c.tc : Thread Cert.ExchangeX.nD Cert.ExchangeX.τ).loc Cert.ExchangeX.main_arg1) = m ((c.tc : Thread Cert.ExchangeX.nD Cert.ExchangeX.τ).loc Cert.ExchangeX.main_arg1)
      ∧ r.2.mem ((c.tc : Thread Cert.ExchangeX.nD Cert.ExchangeX.τ).loc Cert.ExchangeX.main_arg2) = m ((c.tc : Thread Cert.ExchangeX.nD Cert.ExchangeX.τ).loc Cert.ExchangeX.main_arg2)
      ∧ r.2.mem ((c.tc : Thread Cert.ExchangeX.nD Cert.ExchangeX.τ).loc Cert.ExchangeX.main_arg3) = m ((c.tc : Thread Cert.ExchangeX.nD Cert.ExchangeX.τ).loc Cert.ExchangeX.main_arg3))
      ∧ r.2.sem = fun _ => 0)

def quiescent_ExchangeXIdeal [hExchangeXIdeal : Cert.ExchangeXIdeal.Facts] : Prop :=
  ∀ (m : (ℓ : Loc Cert.ExchangeXIdeal.nD Cert.ExchangeXIdeal.τ Cert.ExchangeXIdeal.sig) → Buf (Elt Ideal) ℓ) (g : Dev Cert.ExchangeXIdeal.nD → PrngReg), Pre_ExchangeXIdeal m →
    θ_run (Cert.ExchangeXIdeal.defs (F := Ideal)) (onTc (τ := Cert.ExchangeXIdeal.τ) (Cert.ExchangeXIdeal.main (F := Ideal))) ⟨m, fun _ => 0, g⟩ (fun r => (∀ c : Dev Cert.ExchangeXIdeal.nD,
      r.2.mem ((c.tc : Thread Cert.ExchangeXIdeal.nD Cert.ExchangeXIdeal.τ).loc Cert.ExchangeXIdeal.main_arg0) = m ((c.tc : Thread Cert.ExchangeXIdeal.nD Cert.ExchangeXIdeal.τ).loc Cert.ExchangeXIdeal.main_arg0)
      ∧ r.2.mem ((c.tc : Thread Cert.ExchangeXIdeal.nD Cert.ExchangeXIdeal.τ).loc Cert.ExchangeXIdeal.main_arg1) = m ((c.tc : Thread Cert.ExchangeXIdeal.nD Cert.ExchangeXIdeal.τ).loc Cert.ExchangeXIdeal.main_arg1)
      ∧ r.2.mem ((c.tc : Thread Cert.ExchangeXIdeal.nD Cert.ExchangeXIdeal.τ).loc Cert.ExchangeXIdeal.main_arg2) = m ((c.tc : Thread Cert.ExchangeXIdeal.nD Cert.ExchangeXIdeal.τ).loc Cert.ExchangeXIdeal.main_arg2)
      ∧ r.2.mem ((c.tc : Thread Cert.ExchangeXIdeal.nD Cert.ExchangeXIdeal.τ).loc Cert.ExchangeXIdeal.main_arg3) = m ((c.tc : Thread Cert.ExchangeXIdeal.nD Cert.ExchangeXIdeal.τ).loc Cert.ExchangeXIdeal.main_arg3))
      ∧ r.2.sem = fun _ => 0)

def quiescent_ExchangeXReferenceIdeal [hExchangeXReferenceIdeal : Cert.ExchangeXReferenceIdeal.Facts] : Prop :=
  ∀ (m : (ℓ : Loc Cert.ExchangeXReferenceIdeal.nD Cert.ExchangeXReferenceIdeal.τ Cert.ExchangeXReferenceIdeal.sig) → Buf (Elt Ideal) ℓ) (g : Dev Cert.ExchangeXReferenceIdeal.nD → PrngReg), Pre_ExchangeXReferenceIdeal m →
    θ_run (Cert.ExchangeXReferenceIdeal.defs (F := Ideal)) (onTc (τ := Cert.ExchangeXReferenceIdeal.τ) (Cert.ExchangeXReferenceIdeal.main (F := Ideal))) ⟨m, fun _ => 0, g⟩ (fun r => (∀ c : Dev Cert.ExchangeXReferenceIdeal.nD,
      r.2.mem ((c.tc : Thread Cert.ExchangeXReferenceIdeal.nD Cert.ExchangeXReferenceIdeal.τ).loc Cert.ExchangeXReferenceIdeal.main_arg0) = m ((c.tc : Thread Cert.ExchangeXReferenceIdeal.nD Cert.ExchangeXReferenceIdeal.τ).loc Cert.ExchangeXReferenceIdeal.main_arg0)
      ∧ r.2.mem ((c.tc : Thread Cert.ExchangeXReferenceIdeal.nD Cert.ExchangeXReferenceIdeal.τ).loc Cert.ExchangeXReferenceIdeal.main_arg1) = m ((c.tc : Thread Cert.ExchangeXReferenceIdeal.nD Cert.ExchangeXReferenceIdeal.τ).loc Cert.ExchangeXReferenceIdeal.main_arg1)
      ∧ r.2.mem ((c.tc : Thread Cert.ExchangeXReferenceIdeal.nD Cert.ExchangeXReferenceIdeal.τ).loc Cert.ExchangeXReferenceIdeal.main_arg2) = m ((c.tc : Thread Cert.ExchangeXReferenceIdeal.nD Cert.ExchangeXReferenceIdeal.τ).loc Cert.ExchangeXReferenceIdeal.main_arg2)
      ∧ r.2.mem ((c.tc : Thread Cert.ExchangeXReferenceIdeal.nD Cert.ExchangeXReferenceIdeal.τ).loc Cert.ExchangeXReferenceIdeal.main_arg3) = m ((c.tc : Thread Cert.ExchangeXReferenceIdeal.nD Cert.ExchangeXReferenceIdeal.τ).loc Cert.ExchangeXReferenceIdeal.main_arg3))
      ∧ r.2.sem = fun _ => 0)

def quiescent_ExchangeXReference [hExchangeXReference : Cert.ExchangeXReference.Facts] : Prop :=
  ∀ (m : (ℓ : Loc Cert.ExchangeXReference.nD Cert.ExchangeXReference.τ Cert.ExchangeXReference.sig) → Buf (Elt Bits) ℓ) (g : Dev Cert.ExchangeXReference.nD → PrngReg), Pre_ExchangeXReference m →
    θ_run (Cert.ExchangeXReference.defs (F := Bits)) (onTc (τ := Cert.ExchangeXReference.τ) (Cert.ExchangeXReference.main (F := Bits))) ⟨m, fun _ => 0, g⟩ (fun r => (∀ c : Dev Cert.ExchangeXReference.nD,
      r.2.mem ((c.tc : Thread Cert.ExchangeXReference.nD Cert.ExchangeXReference.τ).loc Cert.ExchangeXReference.main_arg0) = m ((c.tc : Thread Cert.ExchangeXReference.nD Cert.ExchangeXReference.τ).loc Cert.ExchangeXReference.main_arg0)
      ∧ r.2.mem ((c.tc : Thread Cert.ExchangeXReference.nD Cert.ExchangeXReference.τ).loc Cert.ExchangeXReference.main_arg1) = m ((c.tc : Thread Cert.ExchangeXReference.nD Cert.ExchangeXReference.τ).loc Cert.ExchangeXReference.main_arg1)
      ∧ r.2.mem ((c.tc : Thread Cert.ExchangeXReference.nD Cert.ExchangeXReference.τ).loc Cert.ExchangeXReference.main_arg2) = m ((c.tc : Thread Cert.ExchangeXReference.nD Cert.ExchangeXReference.τ).loc Cert.ExchangeXReference.main_arg2)
      ∧ r.2.mem ((c.tc : Thread Cert.ExchangeXReference.nD Cert.ExchangeXReference.τ).loc Cert.ExchangeXReference.main_arg3) = m ((c.tc : Thread Cert.ExchangeXReference.nD Cert.ExchangeXReference.τ).loc Cert.ExchangeXReference.main_arg3))
      ∧ r.2.sem = fun _ => 0)

def quiescent_ExchangeY [hExchangeY : Cert.ExchangeY.Facts] : Prop :=
  ∀ (m : (ℓ : Loc Cert.ExchangeY.nD Cert.ExchangeY.τ Cert.ExchangeY.sig) → Buf (Elt Bits) ℓ) (g : Dev Cert.ExchangeY.nD → PrngReg), Pre_ExchangeY m →
    θ_run (Cert.ExchangeY.defs (F := Bits)) (onTc (τ := Cert.ExchangeY.τ) (Cert.ExchangeY.main (F := Bits))) ⟨m, fun _ => 0, g⟩ (fun r => (∀ c : Dev Cert.ExchangeY.nD,
      r.2.mem ((c.tc : Thread Cert.ExchangeY.nD Cert.ExchangeY.τ).loc Cert.ExchangeY.main_arg0) = m ((c.tc : Thread Cert.ExchangeY.nD Cert.ExchangeY.τ).loc Cert.ExchangeY.main_arg0)
      ∧ r.2.mem ((c.tc : Thread Cert.ExchangeY.nD Cert.ExchangeY.τ).loc Cert.ExchangeY.main_arg1) = m ((c.tc : Thread Cert.ExchangeY.nD Cert.ExchangeY.τ).loc Cert.ExchangeY.main_arg1)
      ∧ r.2.mem ((c.tc : Thread Cert.ExchangeY.nD Cert.ExchangeY.τ).loc Cert.ExchangeY.main_arg2) = m ((c.tc : Thread Cert.ExchangeY.nD Cert.ExchangeY.τ).loc Cert.ExchangeY.main_arg2)
      ∧ r.2.mem ((c.tc : Thread Cert.ExchangeY.nD Cert.ExchangeY.τ).loc Cert.ExchangeY.main_arg3) = m ((c.tc : Thread Cert.ExchangeY.nD Cert.ExchangeY.τ).loc Cert.ExchangeY.main_arg3))
      ∧ r.2.sem = fun _ => 0)

def quiescent_ExchangeYIdeal [hExchangeYIdeal : Cert.ExchangeYIdeal.Facts] : Prop :=
  ∀ (m : (ℓ : Loc Cert.ExchangeYIdeal.nD Cert.ExchangeYIdeal.τ Cert.ExchangeYIdeal.sig) → Buf (Elt Ideal) ℓ) (g : Dev Cert.ExchangeYIdeal.nD → PrngReg), Pre_ExchangeYIdeal m →
    θ_run (Cert.ExchangeYIdeal.defs (F := Ideal)) (onTc (τ := Cert.ExchangeYIdeal.τ) (Cert.ExchangeYIdeal.main (F := Ideal))) ⟨m, fun _ => 0, g⟩ (fun r => (∀ c : Dev Cert.ExchangeYIdeal.nD,
      r.2.mem ((c.tc : Thread Cert.ExchangeYIdeal.nD Cert.ExchangeYIdeal.τ).loc Cert.ExchangeYIdeal.main_arg0) = m ((c.tc : Thread Cert.ExchangeYIdeal.nD Cert.ExchangeYIdeal.τ).loc Cert.ExchangeYIdeal.main_arg0)
      ∧ r.2.mem ((c.tc : Thread Cert.ExchangeYIdeal.nD Cert.ExchangeYIdeal.τ).loc Cert.ExchangeYIdeal.main_arg1) = m ((c.tc : Thread Cert.ExchangeYIdeal.nD Cert.ExchangeYIdeal.τ).loc Cert.ExchangeYIdeal.main_arg1)
      ∧ r.2.mem ((c.tc : Thread Cert.ExchangeYIdeal.nD Cert.ExchangeYIdeal.τ).loc Cert.ExchangeYIdeal.main_arg2) = m ((c.tc : Thread Cert.ExchangeYIdeal.nD Cert.ExchangeYIdeal.τ).loc Cert.ExchangeYIdeal.main_arg2)
      ∧ r.2.mem ((c.tc : Thread Cert.ExchangeYIdeal.nD Cert.ExchangeYIdeal.τ).loc Cert.ExchangeYIdeal.main_arg3) = m ((c.tc : Thread Cert.ExchangeYIdeal.nD Cert.ExchangeYIdeal.τ).loc Cert.ExchangeYIdeal.main_arg3))
      ∧ r.2.sem = fun _ => 0)

def quiescent_ExchangeYReferenceIdeal [hExchangeYReferenceIdeal : Cert.ExchangeYReferenceIdeal.Facts] : Prop :=
  ∀ (m : (ℓ : Loc Cert.ExchangeYReferenceIdeal.nD Cert.ExchangeYReferenceIdeal.τ Cert.ExchangeYReferenceIdeal.sig) → Buf (Elt Ideal) ℓ) (g : Dev Cert.ExchangeYReferenceIdeal.nD → PrngReg), Pre_ExchangeYReferenceIdeal m →
    θ_run (Cert.ExchangeYReferenceIdeal.defs (F := Ideal)) (onTc (τ := Cert.ExchangeYReferenceIdeal.τ) (Cert.ExchangeYReferenceIdeal.main (F := Ideal))) ⟨m, fun _ => 0, g⟩ (fun r => (∀ c : Dev Cert.ExchangeYReferenceIdeal.nD,
      r.2.mem ((c.tc : Thread Cert.ExchangeYReferenceIdeal.nD Cert.ExchangeYReferenceIdeal.τ).loc Cert.ExchangeYReferenceIdeal.main_arg0) = m ((c.tc : Thread Cert.ExchangeYReferenceIdeal.nD Cert.ExchangeYReferenceIdeal.τ).loc Cert.ExchangeYReferenceIdeal.main_arg0)
      ∧ r.2.mem ((c.tc : Thread Cert.ExchangeYReferenceIdeal.nD Cert.ExchangeYReferenceIdeal.τ).loc Cert.ExchangeYReferenceIdeal.main_arg1) = m ((c.tc : Thread Cert.ExchangeYReferenceIdeal.nD Cert.ExchangeYReferenceIdeal.τ).loc Cert.ExchangeYReferenceIdeal.main_arg1)
      ∧ r.2.mem ((c.tc : Thread Cert.ExchangeYReferenceIdeal.nD Cert.ExchangeYReferenceIdeal.τ).loc Cert.ExchangeYReferenceIdeal.main_arg2) = m ((c.tc : Thread Cert.ExchangeYReferenceIdeal.nD Cert.ExchangeYReferenceIdeal.τ).loc Cert.ExchangeYReferenceIdeal.main_arg2)
      ∧ r.2.mem ((c.tc : Thread Cert.ExchangeYReferenceIdeal.nD Cert.ExchangeYReferenceIdeal.τ).loc Cert.ExchangeYReferenceIdeal.main_arg3) = m ((c.tc : Thread Cert.ExchangeYReferenceIdeal.nD Cert.ExchangeYReferenceIdeal.τ).loc Cert.ExchangeYReferenceIdeal.main_arg3))
      ∧ r.2.sem = fun _ => 0)

def quiescent_ExchangeYReference [hExchangeYReference : Cert.ExchangeYReference.Facts] : Prop :=
  ∀ (m : (ℓ : Loc Cert.ExchangeYReference.nD Cert.ExchangeYReference.τ Cert.ExchangeYReference.sig) → Buf (Elt Bits) ℓ) (g : Dev Cert.ExchangeYReference.nD → PrngReg), Pre_ExchangeYReference m →
    θ_run (Cert.ExchangeYReference.defs (F := Bits)) (onTc (τ := Cert.ExchangeYReference.τ) (Cert.ExchangeYReference.main (F := Bits))) ⟨m, fun _ => 0, g⟩ (fun r => (∀ c : Dev Cert.ExchangeYReference.nD,
      r.2.mem ((c.tc : Thread Cert.ExchangeYReference.nD Cert.ExchangeYReference.τ).loc Cert.ExchangeYReference.main_arg0) = m ((c.tc : Thread Cert.ExchangeYReference.nD Cert.ExchangeYReference.τ).loc Cert.ExchangeYReference.main_arg0)
      ∧ r.2.mem ((c.tc : Thread Cert.ExchangeYReference.nD Cert.ExchangeYReference.τ).loc Cert.ExchangeYReference.main_arg1) = m ((c.tc : Thread Cert.ExchangeYReference.nD Cert.ExchangeYReference.τ).loc Cert.ExchangeYReference.main_arg1)
      ∧ r.2.mem ((c.tc : Thread Cert.ExchangeYReference.nD Cert.ExchangeYReference.τ).loc Cert.ExchangeYReference.main_arg2) = m ((c.tc : Thread Cert.ExchangeYReference.nD Cert.ExchangeYReference.τ).loc Cert.ExchangeYReference.main_arg2)
      ∧ r.2.mem ((c.tc : Thread Cert.ExchangeYReference.nD Cert.ExchangeYReference.τ).loc Cert.ExchangeYReference.main_arg3) = m ((c.tc : Thread Cert.ExchangeYReference.nD Cert.ExchangeYReference.τ).loc Cert.ExchangeYReference.main_arg3))
      ∧ r.2.sem = fun _ => 0)

def quiescent_GatherMod [hGatherMod : Cert.GatherMod.Facts] : Prop :=
  ∀ (m : (ℓ : Loc Cert.GatherMod.nD Cert.GatherMod.τ Cert.GatherMod.sig) → Buf (Elt Bits) ℓ) (g : Dev Cert.GatherMod.nD → PrngReg), Pre_GatherMod m →
    θ_run (Cert.GatherMod.defs (F := Bits)) (onTc (τ := Cert.GatherMod.τ) (Cert.GatherMod.main (F := Bits))) ⟨m, fun _ => 0, g⟩ (fun r => (∀ c : Dev Cert.GatherMod.nD,
      r.2.mem ((c.tc : Thread Cert.GatherMod.nD Cert.GatherMod.τ).loc Cert.GatherMod.main_arg0) = m ((c.tc : Thread Cert.GatherMod.nD Cert.GatherMod.τ).loc Cert.GatherMod.main_arg0))
      ∧ r.2.sem = fun _ => 0)

def quiescent_GatherModIdeal [hGatherModIdeal : Cert.GatherModIdeal.Facts] : Prop :=
  ∀ (m : (ℓ : Loc Cert.GatherModIdeal.nD Cert.GatherModIdeal.τ Cert.GatherModIdeal.sig) → Buf (Elt Ideal) ℓ) (g : Dev Cert.GatherModIdeal.nD → PrngReg), Pre_GatherModIdeal m →
    θ_run (Cert.GatherModIdeal.defs (F := Ideal)) (onTc (τ := Cert.GatherModIdeal.τ) (Cert.GatherModIdeal.main (F := Ideal))) ⟨m, fun _ => 0, g⟩ (fun r => (∀ c : Dev Cert.GatherModIdeal.nD,
      r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ r.2.sem = fun _ => 0)

def quiescent_GatherModReferenceIdeal [hGatherModReferenceIdeal : Cert.GatherModReferenceIdeal.Facts] : Prop :=
  ∀ (m : (ℓ : Loc Cert.GatherModReferenceIdeal.nD Cert.GatherModReferenceIdeal.τ Cert.GatherModReferenceIdeal.sig) → Buf (Elt Ideal) ℓ) (g : Dev Cert.GatherModReferenceIdeal.nD → PrngReg), Pre_GatherModReferenceIdeal m →
    θ_run (Cert.GatherModReferenceIdeal.defs (F := Ideal)) (onTc (τ := Cert.GatherModReferenceIdeal.τ) (Cert.GatherModReferenceIdeal.main (F := Ideal))) ⟨m, fun _ => 0, g⟩ (fun r => (∀ c : Dev Cert.GatherModReferenceIdeal.nD,
      r.2.mem ((c.tc : Thread Cert.GatherModReferenceIdeal.nD Cert.GatherModReferenceIdeal.τ).loc Cert.GatherModReferenceIdeal.main_arg0) = m ((c.tc : Thread Cert.GatherModReferenceIdeal.nD Cert.GatherModReferenceIdeal.τ).loc Cert.GatherModReferenceIdeal.main_arg0))
      ∧ r.2.sem = fun _ => 0)

def quiescent_GatherModReference [hGatherModReference : Cert.GatherModReference.Facts] : Prop :=
  ∀ (m : (ℓ : Loc Cert.GatherModReference.nD Cert.GatherModReference.τ Cert.GatherModReference.sig) → Buf (Elt Bits) ℓ) (g : Dev Cert.GatherModReference.nD → PrngReg), Pre_GatherModReference m →
    θ_run (Cert.GatherModReference.defs (F := Bits)) (onTc (τ := Cert.GatherModReference.τ) (Cert.GatherModReference.main (F := Bits))) ⟨m, fun _ => 0, g⟩ (fun r => (∀ c : Dev Cert.GatherModReference.nD,
      r.2.mem ((c.tc : Thread Cert.GatherModReference.nD Cert.GatherModReference.τ).loc Cert.GatherModReference.main_arg0) = m ((c.tc : Thread Cert.GatherModReference.nD Cert.GatherModReference.τ).loc Cert.GatherModReference.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallReferenceIdeal [hGatherSmallReferenceIdeal : Cert.GatherSmallReferenceIdeal.Facts] : Prop :=
  ∀ (m : (ℓ : Loc Cert.GatherSmallReferenceIdeal.nD Cert.GatherSmallReferenceIdeal.τ Cert.GatherSmallReferenceIdeal.sig) → Buf (Elt Ideal) ℓ) (g : Dev Cert.GatherSmallReferenceIdeal.nD → PrngReg), Pre_GatherSmallReferenceIdeal m →
    θ_run (Cert.GatherSmallReferenceIdeal.defs (F := Ideal)) (onTc (τ := Cert.GatherSmallReferenceIdeal.τ) (Cert.GatherSmallReferenceIdeal.main (F := Ideal))) ⟨m, fun _ => 0, g⟩ (fun r => (∀ c : Dev Cert.GatherSmallReferenceIdeal.nD,
      r.2.mem ((c.tc : Thread Cert.GatherSmallReferenceIdeal.nD Cert.GatherSmallReferenceIdeal.τ).loc Cert.GatherSmallReferenceIdeal.main_arg0) = m ((c.tc : Thread Cert.GatherSmallReferenceIdeal.nD Cert.GatherSmallReferenceIdeal.τ).loc Cert.GatherSmallReferenceIdeal.main_arg0))
      ∧ r.2.sem = fun _ => 0)

def quiescent_GatherSmallReference [hGatherSmallReference : Cert.GatherSmallReference.Facts] : Prop :=
  ∀ (m : (ℓ : Loc Cert.GatherSmallReference.nD Cert.GatherSmallReference.τ Cert.GatherSmallReference.sig) → Buf (Elt Bits) ℓ) (g : Dev Cert.GatherSmallReference.nD → PrngReg), Pre_GatherSmallReference m →
    θ_run (Cert.GatherSmallReference.defs (F := Bits)) (onTc (τ := Cert.GatherSmallReference.τ) (Cert.GatherSmallReference.main (F := Bits))) ⟨m, fun _ => 0, g⟩ (fun r => (∀ c : Dev Cert.GatherSmallReference.nD,
      r.2.mem ((c.tc : Thread Cert.GatherSmallReference.nD Cert.GatherSmallReference.τ).loc Cert.GatherSmallReference.main_arg0) = m ((c.tc : Thread Cert.GatherSmallReference.nD Cert.GatherSmallReference.τ).loc Cert.GatherSmallReference.main_arg0))
      ∧ r.2.sem = fun _ => 0)

def quiescent_AdamCond [hAdamCond : Cert.AdamCond.Facts] : Prop :=
  ∀ (m : (ℓ : Loc Cert.AdamCond.nD Cert.AdamCond.τ Cert.AdamCond.sig) → Buf (Elt Bits) ℓ) (g : Dev Cert.AdamCond.nD → PrngReg), Pre_AdamCond m →
    θ_run (Cert.AdamCond.defs (F := Bits)) (onTc (τ := Cert.AdamCond.τ) (Cert.AdamCond.main (F := Bits))) ⟨m, fun _ => 0, g⟩ (fun r => (∀ c : Dev Cert.AdamCond.nD,
      r.2.mem ((c.tc : Thread Cert.AdamCond.nD Cert.AdamCond.τ).loc Cert.AdamCond.main_arg0) = m ((c.tc : Thread Cert.AdamCond.nD Cert.AdamCond.τ).loc Cert.AdamCond.main_arg0)
      ∧ r.2.mem ((c.tc : Thread Cert.AdamCond.nD Cert.AdamCond.τ).loc Cert.AdamCond.main_arg1) = m ((c.tc : Thread Cert.AdamCond.nD Cert.AdamCond.τ).loc Cert.AdamCond.main_arg1)
      ∧ r.2.mem ((c.tc : Thread Cert.AdamCond.nD Cert.AdamCond.τ).loc Cert.AdamCond.main_arg2) = m ((c.tc : Thread Cert.AdamCond.nD Cert.AdamCond.τ).loc Cert.AdamCond.main_arg2)
      ∧ r.2.mem ((c.tc : Thread Cert.AdamCond.nD Cert.AdamCond.τ).loc Cert.AdamCond.main_arg3) = m ((c.tc : Thread Cert.AdamCond.nD Cert.AdamCond.τ).loc Cert.AdamCond.main_arg3))
      ∧ r.2.sem = fun _ => 0)

def quiescent_AdamCondIdeal [hAdamCondIdeal : Cert.AdamCondIdeal.Facts] : Prop :=
  ∀ (m : (ℓ : Loc Cert.AdamCondIdeal.nD Cert.AdamCondIdeal.τ Cert.AdamCondIdeal.sig) → Buf (Elt Ideal) ℓ) (g : Dev Cert.AdamCondIdeal.nD → PrngReg), Pre_AdamCondIdeal m →
    θ_run (Cert.AdamCondIdeal.defs (F := Ideal)) (onTc (τ := Cert.AdamCondIdeal.τ) (Cert.AdamCondIdeal.main (F := Ideal))) ⟨m, fun _ => 0, g⟩ (fun r => (∀ c : Dev Cert.AdamCondIdeal.nD,
      r.2.mem ((c.tc : Thread Cert.AdamCondIdeal.nD Cert.AdamCondIdeal.τ).loc Cert.AdamCondIdeal.main_arg0) = m ((c.tc : Thread Cert.AdamCondIdeal.nD Cert.AdamCondIdeal.τ).loc Cert.AdamCondIdeal.main_arg0)
      ∧ r.2.mem ((c.tc : Thread Cert.AdamCondIdeal.nD Cert.AdamCondIdeal.τ).loc Cert.AdamCondIdeal.main_arg1) = m ((c.tc : Thread Cert.AdamCondIdeal.nD Cert.AdamCondIdeal.τ).loc Cert.AdamCondIdeal.main_arg1)
      ∧ r.2.mem ((c.tc : Thread Cert.AdamCondIdeal.nD Cert.AdamCondIdeal.τ).loc Cert.AdamCondIdeal.main_arg2) = m ((c.tc : Thread Cert.AdamCondIdeal.nD Cert.AdamCondIdeal.τ).loc Cert.AdamCondIdeal.main_arg2)
      ∧ r.2.mem ((c.tc : Thread Cert.AdamCondIdeal.nD Cert.AdamCondIdeal.τ).loc Cert.AdamCondIdeal.main_arg3) = m ((c.tc : Thread Cert.AdamCondIdeal.nD Cert.AdamCondIdeal.τ).loc Cert.AdamCondIdeal.main_arg3))
      ∧ r.2.sem = fun _ => 0)

def quiescent_AdamCondReferenceIdeal [hAdamCondReferenceIdeal : Cert.AdamCondReferenceIdeal.Facts] : Prop :=
  ∀ (m : (ℓ : Loc Cert.AdamCondReferenceIdeal.nD Cert.AdamCondReferenceIdeal.τ Cert.AdamCondReferenceIdeal.sig) → Buf (Elt Ideal) ℓ) (g : Dev Cert.AdamCondReferenceIdeal.nD → PrngReg), Pre_AdamCondReferenceIdeal m →
    θ_run (Cert.AdamCondReferenceIdeal.defs (F := Ideal)) (onTc (τ := Cert.AdamCondReferenceIdeal.τ) (Cert.AdamCondReferenceIdeal.main (F := Ideal))) ⟨m, fun _ => 0, g⟩ (fun r => (∀ c : Dev Cert.AdamCondReferenceIdeal.nD,
      r.2.mem ((c.tc : Thread Cert.AdamCondReferenceIdeal.nD Cert.AdamCondReferenceIdeal.τ).loc Cert.AdamCondReferenceIdeal.main_arg0) = m ((c.tc : Thread Cert.AdamCondReferenceIdeal.nD Cert.AdamCondReferenceIdeal.τ).loc Cert.AdamCondReferenceIdeal.main_arg0)
      ∧ r.2.mem ((c.tc : Thread Cert.AdamCondReferenceIdeal.nD Cert.AdamCondReferenceIdeal.τ).loc Cert.AdamCondReferenceIdeal.main_arg1) = m ((c.tc : Thread Cert.AdamCondReferenceIdeal.nD Cert.AdamCondReferenceIdeal.τ).loc Cert.AdamCondReferenceIdeal.main_arg1)
      ∧ r.2.mem ((c.tc : Thread Cert.AdamCondReferenceIdeal.nD Cert.AdamCondReferenceIdeal.τ).loc Cert.AdamCondReferenceIdeal.main_arg2) = m ((c.tc : Thread Cert.AdamCondReferenceIdeal.nD Cert.AdamCondReferenceIdeal.τ).loc Cert.AdamCondReferenceIdeal.main_arg2)
      ∧ r.2.mem ((c.tc : Thread Cert.AdamCondReferenceIdeal.nD Cert.AdamCondReferenceIdeal.τ).loc Cert.AdamCondReferenceIdeal.main_arg3) = m ((c.tc : Thread Cert.AdamCondReferenceIdeal.nD Cert.AdamCondReferenceIdeal.τ).loc Cert.AdamCondReferenceIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasReferenceIdeal [hAdamBiasReferenceIdeal : Cert.AdamBiasReferenceIdeal.Facts] : Prop :=
  ∀ (m : (ℓ : Loc Cert.AdamBiasReferenceIdeal.nD Cert.AdamBiasReferenceIdeal.τ Cert.AdamBiasReferenceIdeal.sig) → Buf (Elt Ideal) ℓ) (g : Dev Cert.AdamBiasReferenceIdeal.nD → PrngReg), Pre_AdamBiasReferenceIdeal m →
    θ_run (Cert.AdamBiasReferenceIdeal.defs (F := Ideal)) (onTc (τ := Cert.AdamBiasReferenceIdeal.τ) (Cert.AdamBiasReferenceIdeal.main (F := Ideal))) ⟨m, fun _ => 0, g⟩ (fun r => (∀ c : Dev Cert.AdamBiasReferenceIdeal.nD,
      r.2.mem ((c.tc : Thread Cert.AdamBiasReferenceIdeal.nD Cert.AdamBiasReferenceIdeal.τ).loc Cert.AdamBiasReferenceIdeal.main_arg0) = m ((c.tc : Thread Cert.AdamBiasReferenceIdeal.nD Cert.AdamBiasReferenceIdeal.τ).loc Cert.AdamBiasReferenceIdeal.main_arg0)
      ∧ r.2.mem ((c.tc : Thread Cert.AdamBiasReferenceIdeal.nD Cert.AdamBiasReferenceIdeal.τ).loc Cert.AdamBiasReferenceIdeal.main_arg1) = m ((c.tc : Thread Cert.AdamBiasReferenceIdeal.nD Cert.AdamBiasReferenceIdeal.τ).loc Cert.AdamBiasReferenceIdeal.main_arg1)
      ∧ r.2.mem ((c.tc : Thread Cert.AdamBiasReferenceIdeal.nD Cert.AdamBiasReferenceIdeal.τ).loc Cert.AdamBiasReferenceIdeal.main_arg2) = m ((c.tc : Thread Cert.AdamBiasReferenceIdeal.nD Cert.AdamBiasReferenceIdeal.τ).loc Cert.AdamBiasReferenceIdeal.main_arg2)
      ∧ r.2.mem ((c.tc : Thread Cert.AdamBiasReferenceIdeal.nD Cert.AdamBiasReferenceIdeal.τ).loc Cert.AdamBiasReferenceIdeal.main_arg3) = m ((c.tc : Thread Cert.AdamBiasReferenceIdeal.nD Cert.AdamBiasReferenceIdeal.τ).loc Cert.AdamBiasReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23))
      ∧ r.2.sem = fun _ => 0)

def quiescent_CondForward [hCondForward : Cert.CondForward.Facts] : Prop :=
  ∀ (m : (ℓ : Loc Cert.CondForward.nD Cert.CondForward.τ Cert.CondForward.sig) → Buf (Elt Bits) ℓ) (g : Dev Cert.CondForward.nD → PrngReg), Pre_CondForward m →
    θ_run (Cert.CondForward.defs (F := Bits)) (onTc (τ := Cert.CondForward.τ) (Cert.CondForward.main (F := Bits))) ⟨m, fun _ => 0, g⟩ (fun r => (∀ c : Dev Cert.CondForward.nD,
      r.2.mem ((c.tc : Thread Cert.CondForward.nD Cert.CondForward.τ).loc Cert.CondForward.main_arg0) = m ((c.tc : Thread Cert.CondForward.nD Cert.CondForward.τ).loc Cert.CondForward.main_arg0)
      ∧ r.2.mem ((c.tc : Thread Cert.CondForward.nD Cert.CondForward.τ).loc Cert.CondForward.main_arg1) = m ((c.tc : Thread Cert.CondForward.nD Cert.CondForward.τ).loc Cert.CondForward.main_arg1)
      ∧ r.2.mem ((c.tc : Thread Cert.CondForward.nD Cert.CondForward.τ).loc Cert.CondForward.main_arg2) = m ((c.tc : Thread Cert.CondForward.nD Cert.CondForward.τ).loc Cert.CondForward.main_arg2))
      ∧ r.2.sem = fun _ => 0)

def quiescent_CondForwardIdeal [hCondForwardIdeal : Cert.CondForwardIdeal.Facts] : Prop :=
  ∀ (m : (ℓ : Loc Cert.CondForwardIdeal.nD Cert.CondForwardIdeal.τ Cert.CondForwardIdeal.sig) → Buf (Elt Ideal) ℓ) (g : Dev Cert.CondForwardIdeal.nD → PrngReg), Pre_CondForwardIdeal m →
    θ_run (Cert.CondForwardIdeal.defs (F := Ideal)) (onTc (τ := Cert.CondForwardIdeal.τ) (Cert.CondForwardIdeal.main (F := Ideal))) ⟨m, fun _ => 0, g⟩ (fun r => (∀ c : Dev Cert.CondForwardIdeal.nD,
      r.2.mem ((c.tc : Thread Cert.CondForwardIdeal.nD Cert.CondForwardIdeal.τ).loc Cert.CondForwardIdeal.main_arg0) = m ((c.tc : Thread Cert.CondForwardIdeal.nD Cert.CondForwardIdeal.τ).loc Cert.CondForwardIdeal.main_arg0)
      ∧ r.2.mem ((c.tc : Thread Cert.CondForwardIdeal.nD Cert.CondForwardIdeal.τ).loc Cert.CondForwardIdeal.main_arg1) = m ((c.tc : Thread Cert.CondForwardIdeal.nD Cert.CondForwardIdeal.τ).loc Cert.CondForwardIdeal.main_arg1)
      ∧ r.2.mem ((c.tc : Thread Cert.CondForwardIdeal.nD Cert.CondForwardIdeal.τ).loc Cert.CondForwardIdeal.main_arg2) = m ((c.tc : Thread Cert.CondForwardIdeal.nD Cert.CondForwardIdeal.τ).loc Cert.CondForwardIdeal.main_arg2))
      ∧ r.2.sem = fun _ => 0)

def quiescent_CondForwardReferenceIdeal [hCondForwardReferenceIdeal : Cert.CondForwardReferenceIdeal.Facts] : Prop :=
  ∀ (m : (ℓ : Loc Cert.CondForwardReferenceIdeal.nD Cert.CondForwardReferenceIdeal.τ Cert.CondForwardReferenceIdeal.sig) → Buf (Elt Ideal) ℓ) (g : Dev Cert.CondForwardReferenceIdeal.nD → PrngReg), Pre_CondForwardReferenceIdeal m →
    θ_run (Cert.CondForwardReferenceIdeal.defs (F := Ideal)) (onTc (τ := Cert.CondForwardReferenceIdeal.τ) (Cert.CondForwardReferenceIdeal.main (F := Ideal))) ⟨m, fun _ => 0, g⟩ (fun r => (∀ c : Dev Cert.CondForwardReferenceIdeal.nD,
      r.2.mem ((c.tc : Thread Cert.CondForwardReferenceIdeal.nD Cert.CondForwardReferenceIdeal.τ).loc Cert.CondForwardReferenceIdeal.main_arg0) = m ((c.tc : Thread Cert.CondForwardReferenceIdeal.nD Cert.CondForwardReferenceIdeal.τ).loc Cert.CondForwardReferenceIdeal.main_arg0)
      ∧ r.2.mem ((c.tc : Thread Cert.CondForwardReferenceIdeal.nD Cert.CondForwardReferenceIdeal.τ).loc Cert.CondForwardReferenceIdeal.main_arg1) = m ((c.tc : Thread Cert.CondForwardReferenceIdeal.nD Cert.CondForwardReferenceIdeal.τ).loc Cert.CondForwardReferenceIdeal.main_arg1)
      ∧ r.2.mem ((c.tc : Thread Cert.CondForwardReferenceIdeal.nD Cert.CondForwardReferenceIdeal.τ).loc Cert.CondForwardReferenceIdeal.main_arg2) = m ((c.tc : Thread Cert.CondForwardReferenceIdeal.nD Cert.CondForwardReferenceIdeal.τ).loc Cert.CondForwardReferenceIdeal.main_arg2))
      ∧ r.2.sem = fun _ => 0)

def quiescent_CondBackward [hCondBackward : Cert.CondBackward.Facts] : Prop :=
  ∀ (m : (ℓ : Loc Cert.CondBackward.nD Cert.CondBackward.τ Cert.CondBackward.sig) → Buf (Elt Bits) ℓ) (g : Dev Cert.CondBackward.nD → PrngReg), Pre_CondBackward m →
    θ_run (Cert.CondBackward.defs (F := Bits)) (onTc (τ := Cert.CondBackward.τ) (Cert.CondBackward.main (F := Bits))) ⟨m, fun _ => 0, g⟩ (fun r => (∀ c : Dev Cert.CondBackward.nD,
      r.2.mem ((c.tc : Thread Cert.CondBackward.nD Cert.CondBackward.τ).loc Cert.CondBackward.main_arg0) = m ((c.tc : Thread Cert.CondBackward.nD Cert.CondBackward.τ).loc Cert.CondBackward.main_arg0)
      ∧ r.2.mem ((c.tc : Thread Cert.CondBackward.nD Cert.CondBackward.τ).loc Cert.CondBackward.main_arg1) = m ((c.tc : Thread Cert.CondBackward.nD Cert.CondBackward.τ).loc Cert.CondBackward.main_arg1)
      ∧ r.2.mem ((c.tc : Thread Cert.CondBackward.nD Cert.CondBackward.τ).loc Cert.CondBackward.main_arg2) = m ((c.tc : Thread Cert.CondBackward.nD Cert.CondBackward.τ).loc Cert.CondBackward.main_arg2))
      ∧ r.2.sem = fun _ => 0)

def quiescent_CondBackwardIdeal [hCondBackwardIdeal : Cert.CondBackwardIdeal.Facts] : Prop :=
  ∀ (m : (ℓ : Loc Cert.CondBackwardIdeal.nD Cert.CondBackwardIdeal.τ Cert.CondBackwardIdeal.sig) → Buf (Elt Ideal) ℓ) (g : Dev Cert.CondBackwardIdeal.nD → PrngReg), Pre_CondBackwardIdeal m →
    θ_run (Cert.CondBackwardIdeal.defs (F := Ideal)) (onTc (τ := Cert.CondBackwardIdeal.τ) (Cert.CondBackwardIdeal.main (F := Ideal))) ⟨m, fun _ => 0, g⟩ (fun r => (∀ c : Dev Cert.CondBackwardIdeal.nD,
      r.2.mem ((c.tc : Thread Cert.CondBackwardIdeal.nD Cert.CondBackwardIdeal.τ).loc Cert.CondBackwardIdeal.main_arg0) = m ((c.tc : Thread Cert.CondBackwardIdeal.nD Cert.CondBackwardIdeal.τ).loc Cert.CondBackwardIdeal.main_arg0)
      ∧ r.2.mem ((c.tc : Thread Cert.CondBackwardIdeal.nD Cert.CondBackwardIdeal.τ).loc Cert.CondBackwardIdeal.main_arg1) = m ((c.tc : Thread Cert.CondBackwardIdeal.nD Cert.CondBackwardIdeal.τ).loc Cert.CondBackwardIdeal.main_arg1)
      ∧ r.2.mem ((c.tc : Thread Cert.CondBackwardIdeal.nD Cert.CondBackwardIdeal.τ).loc Cert.CondBackwardIdeal.main_arg2) = m ((c.tc : Thread Cert.CondBackwardIdeal.nD Cert.CondBackwardIdeal.τ).loc Cert.CondBackwardIdeal.main_arg2))
      ∧ r.2.sem = fun _ => 0)

def quiescent_CondBackwardReferenceIdeal [hCondBackwardReferenceIdeal : Cert.CondBackwardReferenceIdeal.Facts] : Prop :=
  ∀ (m : (ℓ : Loc Cert.CondBackwardReferenceIdeal.nD Cert.CondBackwardReferenceIdeal.τ Cert.CondBackwardReferenceIdeal.sig) → Buf (Elt Ideal) ℓ) (g : Dev Cert.CondBackwardReferenceIdeal.nD → PrngReg), Pre_CondBackwardReferenceIdeal m →
    θ_run (Cert.CondBackwardReferenceIdeal.defs (F := Ideal)) (onTc (τ := Cert.CondBackwardReferenceIdeal.τ) (Cert.CondBackwardReferenceIdeal.main (F := Ideal))) ⟨m, fun _ => 0, g⟩ (fun r => (∀ c : Dev Cert.CondBackwardReferenceIdeal.nD,
      r.2.mem ((c.tc : Thread Cert.CondBackwardReferenceIdeal.nD Cert.CondBackwardReferenceIdeal.τ).loc Cert.CondBackwardReferenceIdeal.main_arg0) = m ((c.tc : Thread Cert.CondBackwardReferenceIdeal.nD Cert.CondBackwardReferenceIdeal.τ).loc Cert.CondBackwardReferenceIdeal.main_arg0)
      ∧ r.2.mem ((c.tc : Thread Cert.CondBackwardReferenceIdeal.nD Cert.CondBackwardReferenceIdeal.τ).loc Cert.CondBackwardReferenceIdeal.main_arg1) = m ((c.tc : Thread Cert.CondBackwardReferenceIdeal.nD Cert.CondBackwardReferenceIdeal.τ).loc Cert.CondBackwardReferenceIdeal.main_arg1)
      ∧ r.2.mem ((c.tc : Thread Cert.CondBackwardReferenceIdeal.nD Cert.CondBackwardReferenceIdeal.τ).loc Cert.CondBackwardReferenceIdeal.main_arg2) = m ((c.tc : Thread Cert.CondBackwardReferenceIdeal.nD Cert.CondBackwardReferenceIdeal.τ).loc Cert.CondBackwardReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_GradGateUp [hGradGateUp : Cert.GradGateUp.Facts] : Prop :=
  ∀ (m : (ℓ : Loc Cert.GradGateUp.nD Cert.GradGateUp.τ Cert.GradGateUp.sig) → Buf (Elt Bits) ℓ) (g : Dev Cert.GradGateUp.nD → PrngReg), Pre_GradGateUp m →
    θ_run (Cert.GradGateUp.defs (F := Bits)) (onTc (τ := Cert.GradGateUp.τ) (Cert.GradGateUp.main (F := Bits))) ⟨m, fun _ => 0, g⟩ (fun r => (∀ c : Dev Cert.GradGateUp.nD,
      r.2.mem ((c.tc : Thread Cert.GradGateUp.nD Cert.GradGateUp.τ).loc Cert.GradGateUp.main_arg0) = m ((c.tc : Thread Cert.GradGateUp.nD Cert.GradGateUp.τ).loc Cert.GradGateUp.main_arg0)
      ∧ r.2.mem ((c.tc : Thread Cert.GradGateUp.nD Cert.GradGateUp.τ).loc Cert.GradGateUp.main_arg1) = m ((c.tc : Thread Cert.GradGateUp.nD Cert.GradGateUp.τ).loc Cert.GradGateUp.main_arg1))
      ∧ r.2.sem = fun _ => 0)

def quiescent_GradGateUpIdeal [hGradGateUpIdeal : Cert.GradGateUpIdeal.Facts] : Prop :=
  ∀ (m : (ℓ : Loc Cert.GradGateUpIdeal.nD Cert.GradGateUpIdeal.τ Cert.GradGateUpIdeal.sig) → Buf (Elt Ideal) ℓ) (g : Dev Cert.GradGateUpIdeal.nD → PrngReg), Pre_GradGateUpIdeal m →
    θ_run (Cert.GradGateUpIdeal.defs (F := Ideal)) (onTc (τ := Cert.GradGateUpIdeal.τ) (Cert.GradGateUpIdeal.main (F := Ideal))) ⟨m, fun _ => 0, g⟩ (fun r => (∀ c : Dev Cert.GradGateUpIdeal.nD,
      r.2.mem ((c.tc : Thread Cert.GradGateUpIdeal.nD Cert.GradGateUpIdeal.τ).loc Cert.GradGateUpIdeal.main_arg0) = m ((c.tc : Thread Cert.GradGateUpIdeal.nD Cert.GradGateUpIdeal.τ).loc Cert.GradGateUpIdeal.main_arg0)
      ∧ r.2.mem ((c.tc : Thread Cert.GradGateUpIdeal.nD Cert.GradGateUpIdeal.τ).loc Cert.GradGateUpIdeal.main_arg1) = m ((c.tc : Thread Cert.GradGateUpIdeal.nD Cert.GradGateUpIdeal.τ).loc Cert.GradGateUpIdeal.main_arg1))
      ∧ r.2.sem = fun _ => 0)

def quiescent_GradGateUpReferenceIdeal [hGradGateUpReferenceIdeal : Cert.GradGateUpReferenceIdeal.Facts] : Prop :=
  ∀ (m : (ℓ : Loc Cert.GradGateUpReferenceIdeal.nD Cert.GradGateUpReferenceIdeal.τ Cert.GradGateUpReferenceIdeal.sig) → Buf (Elt Ideal) ℓ) (g : Dev Cert.GradGateUpReferenceIdeal.nD → PrngReg), Pre_GradGateUpReferenceIdeal m →
    θ_run (Cert.GradGateUpReferenceIdeal.defs (F := Ideal)) (onTc (τ := Cert.GradGateUpReferenceIdeal.τ) (Cert.GradGateUpReferenceIdeal.main (F := Ideal))) ⟨m, fun _ => 0, g⟩ (fun r => (∀ c : Dev Cert.GradGateUpReferenceIdeal.nD,
      r.2.mem ((c.tc : Thread Cert.GradGateUpReferenceIdeal.nD Cert.GradGateUpReferenceIdeal.τ).loc Cert.GradGateUpReferenceIdeal.main_arg0) = m ((c.tc : Thread Cert.GradGateUpReferenceIdeal.nD Cert.GradGateUpReferenceIdeal.τ).loc Cert.GradGateUpReferenceIdeal.main_arg0)
      ∧ r.2.mem ((c.tc : Thread Cert.GradGateUpReferenceIdeal.nD Cert.GradGateUpReferenceIdeal.τ).loc Cert.GradGateUpReferenceIdeal.main_arg1) = m ((c.tc : Thread Cert.GradGateUpReferenceIdeal.nD Cert.GradGateUpReferenceIdeal.τ).loc Cert.GradGateUpReferenceIdeal.main_arg1))
      ∧ r.2.sem = fun _ => 0)

def quiescent_BackFfn [hBackFfn : Cert.BackFfn.Facts] : Prop :=
  ∀ (m : (ℓ : Loc Cert.BackFfn.nD Cert.BackFfn.τ Cert.BackFfn.sig) → Buf (Elt Bits) ℓ) (g : Dev Cert.BackFfn.nD → PrngReg), Pre_BackFfn m →
    θ_run (Cert.BackFfn.defs (F := Bits)) (onTc (τ := Cert.BackFfn.τ) (Cert.BackFfn.main (F := Bits))) ⟨m, fun _ => 0, g⟩ (fun r => (∀ c : Dev Cert.BackFfn.nD,
      r.2.mem ((c.tc : Thread Cert.BackFfn.nD Cert.BackFfn.τ).loc Cert.BackFfn.main_arg0) = m ((c.tc : Thread Cert.BackFfn.nD Cert.BackFfn.τ).loc Cert.BackFfn.main_arg0)
      ∧ r.2.mem ((c.tc : Thread Cert.BackFfn.nD Cert.BackFfn.τ).loc Cert.BackFfn.main_arg1) = m ((c.tc : Thread Cert.BackFfn.nD Cert.BackFfn.τ).loc Cert.BackFfn.main_arg1))
      ∧ r.2.sem = fun _ => 0)

def quiescent_BackFfnIdeal [hBackFfnIdeal : Cert.BackFfnIdeal.Facts] : Prop :=
  ∀ (m : (ℓ : Loc Cert.BackFfnIdeal.nD Cert.BackFfnIdeal.τ Cert.BackFfnIdeal.sig) → Buf (Elt Ideal) ℓ) (g : Dev Cert.BackFfnIdeal.nD → PrngReg), Pre_BackFfnIdeal m →
    θ_run (Cert.BackFfnIdeal.defs (F := Ideal)) (onTc (τ := Cert.BackFfnIdeal.τ) (Cert.BackFfnIdeal.main (F := Ideal))) ⟨m, fun _ => 0, g⟩ (fun r => (∀ c : Dev Cert.BackFfnIdeal.nD,
      r.2.mem ((c.tc : Thread Cert.BackFfnIdeal.nD Cert.BackFfnIdeal.τ).loc Cert.BackFfnIdeal.main_arg0) = m ((c.tc : Thread Cert.BackFfnIdeal.nD Cert.BackFfnIdeal.τ).loc Cert.BackFfnIdeal.main_arg0)
      ∧ r.2.mem ((c.tc : Thread Cert.BackFfnIdeal.nD Cert.BackFfnIdeal.τ).loc Cert.BackFfnIdeal.main_arg1) = m ((c.tc : Thread Cert.BackFfnIdeal.nD Cert.BackFfnIdeal.τ).loc Cert.BackFfnIdeal.main_arg1))
      ∧ r.2.sem = fun _ => 0)

def quiescent_BackFfnReferenceIdeal [hBackFfnReferenceIdeal : Cert.BackFfnReferenceIdeal.Facts] : Prop :=
  ∀ (m : (ℓ : Loc Cert.BackFfnReferenceIdeal.nD Cert.BackFfnReferenceIdeal.τ Cert.BackFfnReferenceIdeal.sig) → Buf (Elt Ideal) ℓ) (g : Dev Cert.BackFfnReferenceIdeal.nD → PrngReg), Pre_BackFfnReferenceIdeal m →
    θ_run (Cert.BackFfnReferenceIdeal.defs (F := Ideal)) (onTc (τ := Cert.BackFfnReferenceIdeal.τ) (Cert.BackFfnReferenceIdeal.main (F := Ideal))) ⟨m, fun _ => 0, g⟩ (fun r => (∀ c : Dev Cert.BackFfnReferenceIdeal.nD,
      r.2.mem ((c.tc : Thread Cert.BackFfnReferenceIdeal.nD Cert.BackFfnReferenceIdeal.τ).loc Cert.BackFfnReferenceIdeal.main_arg0) = m ((c.tc : Thread Cert.BackFfnReferenceIdeal.nD Cert.BackFfnReferenceIdeal.τ).loc Cert.BackFfnReferenceIdeal.main_arg0)
      ∧ r.2.mem ((c.tc : Thread Cert.BackFfnReferenceIdeal.nD Cert.BackFfnReferenceIdeal.τ).loc Cert.BackFfnReferenceIdeal.main_arg1) = m ((c.tc : Thread Cert.BackFfnReferenceIdeal.nD Cert.BackFfnReferenceIdeal.τ).loc Cert.BackFfnReferenceIdeal.main_arg1))
      ∧ r.2.sem = fun _ => 0)

def quiescent_BackOut [hBackOut : Cert.BackOut.Facts] : Prop :=
  ∀ (m : (ℓ : Loc Cert.BackOut.nD Cert.BackOut.τ Cert.BackOut.sig) → Buf (Elt Bits) ℓ) (g : Dev Cert.BackOut.nD → PrngReg), Pre_BackOut m →
    θ_run (Cert.BackOut.defs (F := Bits)) (onTc (τ := Cert.BackOut.τ) (Cert.BackOut.main (F := Bits))) ⟨m, fun _ => 0, g⟩ (fun r => (∀ c : Dev Cert.BackOut.nD,
      r.2.mem ((c.tc : Thread Cert.BackOut.nD Cert.BackOut.τ).loc Cert.BackOut.main_arg0) = m ((c.tc : Thread Cert.BackOut.nD Cert.BackOut.τ).loc Cert.BackOut.main_arg0)
      ∧ r.2.mem ((c.tc : Thread Cert.BackOut.nD Cert.BackOut.τ).loc Cert.BackOut.main_arg1) = m ((c.tc : Thread Cert.BackOut.nD Cert.BackOut.τ).loc Cert.BackOut.main_arg1))
      ∧ r.2.sem = fun _ => 0)

def quiescent_BackOutIdeal [hBackOutIdeal : Cert.BackOutIdeal.Facts] : Prop :=
  ∀ (m : (ℓ : Loc Cert.BackOutIdeal.nD Cert.BackOutIdeal.τ Cert.BackOutIdeal.sig) → Buf (Elt Ideal) ℓ) (g : Dev Cert.BackOutIdeal.nD → PrngReg), Pre_BackOutIdeal m →
    θ_run (Cert.BackOutIdeal.defs (F := Ideal)) (onTc (τ := Cert.BackOutIdeal.τ) (Cert.BackOutIdeal.main (F := Ideal))) ⟨m, fun _ => 0, g⟩ (fun r => (∀ c : Dev Cert.BackOutIdeal.nD,
      r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
      ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1))
      ∧ r.2.sem = fun _ => 0)

def quiescent_BackOutReferenceIdeal [hBackOutReferenceIdeal : Cert.BackOutReferenceIdeal.Facts] : Prop :=
  ∀ (m : (ℓ : Loc Cert.BackOutReferenceIdeal.nD Cert.BackOutReferenceIdeal.τ Cert.BackOutReferenceIdeal.sig) → Buf (Elt Ideal) ℓ) (g : Dev Cert.BackOutReferenceIdeal.nD → PrngReg), Pre_BackOutReferenceIdeal m →
    θ_run (Cert.BackOutReferenceIdeal.defs (F := Ideal)) (onTc (τ := Cert.BackOutReferenceIdeal.τ) (Cert.BackOutReferenceIdeal.main (F := Ideal))) ⟨m, fun _ => 0, g⟩ (fun r => (∀ c : Dev Cert.BackOutReferenceIdeal.nD,
      r.2.mem ((c.tc : Thread Cert.BackOutReferenceIdeal.nD Cert.BackOutReferenceIdeal.τ).loc Cert.BackOutReferenceIdeal.main_arg0) = m ((c.tc : Thread Cert.BackOutReferenceIdeal.nD Cert.BackOutReferenceIdeal.τ).loc Cert.BackOutReferenceIdeal.main_arg0)
      ∧ r.2.mem ((c.tc : Thread Cert.BackOutReferenceIdeal.nD Cert.BackOutReferenceIdeal.τ).loc Cert.BackOutReferenceIdeal.main_arg1) = m ((c.tc : Thread Cert.BackOutReferenceIdeal.nD Cert.BackOutReferenceIdeal.τ).loc Cert.BackOutReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_BackIn [hBackIn : Cert.BackIn.Facts] : Prop :=
  ∀ (m : (ℓ : Loc Cert.BackIn.nD Cert.BackIn.τ Cert.BackIn.sig) → Buf (Elt Bits) ℓ) (g : Dev Cert.BackIn.nD → PrngReg), Pre_BackIn m →
    θ_run (Cert.BackIn.defs (F := Bits)) (onTc (τ := Cert.BackIn.τ) (Cert.BackIn.main (F := Bits))) ⟨m, fun _ => 0, g⟩ (fun r => (∀ c : Dev Cert.BackIn.nD,
      r.2.mem ((c.tc : Thread Cert.BackIn.nD Cert.BackIn.τ).loc Cert.BackIn.main_arg0) = m ((c.tc : Thread Cert.BackIn.nD Cert.BackIn.τ).loc Cert.BackIn.main_arg0)
      ∧ r.2.mem ((c.tc : Thread Cert.BackIn.nD Cert.BackIn.τ).loc Cert.BackIn.main_arg1) = m ((c.tc : Thread Cert.BackIn.nD Cert.BackIn.τ).loc Cert.BackIn.main_arg1))
      ∧ r.2.sem = fun _ => 0)

def quiescent_BackInIdeal [hBackInIdeal : Cert.BackInIdeal.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ r.2.sem = fun _ => 0)

def quiescent_BackInReferenceIdeal [hBackInReferenceIdeal : Cert.BackInReferenceIdeal.Facts] : Prop :=
  ∀ (m : (ℓ : Loc Cert.BackInReferenceIdeal.nD Cert.BackInReferenceIdeal.τ Cert.BackInReferenceIdeal.sig) → Buf (Elt Ideal) ℓ) (g : Dev Cert.BackInReferenceIdeal.nD → PrngReg), Pre_BackInReferenceIdeal m →
    θ_run (Cert.BackInReferenceIdeal.defs (F := Ideal)) (onTc (τ := Cert.BackInReferenceIdeal.τ) (Cert.BackInReferenceIdeal.main (F := Ideal))) ⟨m, fun _ => 0, g⟩ (fun r => (∀ c : Dev Cert.BackInReferenceIdeal.nD,
      r.2.mem ((c.tc : Thread Cert.BackInReferenceIdeal.nD Cert.BackInReferenceIdeal.τ).loc Cert.BackInReferenceIdeal.main_arg0) = m ((c.tc : Thread Cert.BackInReferenceIdeal.nD Cert.BackInReferenceIdeal.τ).loc Cert.BackInReferenceIdeal.main_arg0)
      ∧ r.2.mem ((c.tc : Thread Cert.BackInReferenceIdeal.nD Cert.BackInReferenceIdeal.τ).loc Cert.BackInReferenceIdeal.main_arg1) = m ((c.tc : Thread Cert.BackInReferenceIdeal.nD Cert.BackInReferenceIdeal.τ).loc Cert.BackInReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2))
      ∧ r.2.sem = fun _ => 0)

def quiescent_FfnBackReferenceIdeal [hFfnBackReferenceIdeal : Cert.FfnBackReferenceIdeal.Facts] : Prop :=
  ∀ (m : (ℓ : Loc Cert.FfnBackReferenceIdeal.nD Cert.FfnBackReferenceIdeal.τ Cert.FfnBackReferenceIdeal.sig) → Buf (Elt Ideal) ℓ) (g : Dev Cert.FfnBackReferenceIdeal.nD → PrngReg), Pre_FfnBackReferenceIdeal m →
    θ_run (Cert.FfnBackReferenceIdeal.defs (F := Ideal)) (onTc (τ := Cert.FfnBackReferenceIdeal.τ) (Cert.FfnBackReferenceIdeal.main (F := Ideal))) ⟨m, fun _ => 0, g⟩ (fun r => (∀ c : Dev Cert.FfnBackReferenceIdeal.nD,
      r.2.mem ((c.tc : Thread Cert.FfnBackReferenceIdeal.nD Cert.FfnBackReferenceIdeal.τ).loc Cert.FfnBackReferenceIdeal.main_arg0) = m ((c.tc : Thread Cert.FfnBackReferenceIdeal.nD Cert.FfnBackReferenceIdeal.τ).loc Cert.FfnBackReferenceIdeal.main_arg0)
      ∧ r.2.mem ((c.tc : Thread Cert.FfnBackReferenceIdeal.nD Cert.FfnBackReferenceIdeal.τ).loc Cert.FfnBackReferenceIdeal.main_arg1) = m ((c.tc : Thread Cert.FfnBackReferenceIdeal.nD Cert.FfnBackReferenceIdeal.τ).loc Cert.FfnBackReferenceIdeal.main_arg1)
      ∧ r.2.mem ((c.tc : Thread Cert.FfnBackReferenceIdeal.nD Cert.FfnBackReferenceIdeal.τ).loc Cert.FfnBackReferenceIdeal.main_arg2) = m ((c.tc : Thread Cert.FfnBackReferenceIdeal.nD Cert.FfnBackReferenceIdeal.τ).loc Cert.FfnBackReferenceIdeal.main_arg2))
      ∧ r.2.sem = fun _ => 0)

def quiescent_PreMix [hPreMix : Cert.PreMix.Facts] : Prop :=
  ∀ (m : (ℓ : Loc Cert.PreMix.nD Cert.PreMix.τ Cert.PreMix.sig) → Buf (Elt Bits) ℓ) (g : Dev Cert.PreMix.nD → PrngReg), Pre_PreMix m →
    θ_run (Cert.PreMix.defs (F := Bits)) (onTc (τ := Cert.PreMix.τ) (Cert.PreMix.main (F := Bits))) ⟨m, fun _ => 0, g⟩ (fun r => (∀ c : Dev Cert.PreMix.nD,
      r.2.mem ((c.tc : Thread Cert.PreMix.nD Cert.PreMix.τ).loc Cert.PreMix.main_arg0) = m ((c.tc : Thread Cert.PreMix.nD Cert.PreMix.τ).loc Cert.PreMix.main_arg0)
      ∧ r.2.mem ((c.tc : Thread Cert.PreMix.nD Cert.PreMix.τ).loc Cert.PreMix.main_arg1) = m ((c.tc : Thread Cert.PreMix.nD Cert.PreMix.τ).loc Cert.PreMix.main_arg1)
      ∧ r.2.mem ((c.tc : Thread Cert.PreMix.nD Cert.PreMix.τ).loc Cert.PreMix.main_arg2) = m ((c.tc : Thread Cert.PreMix.nD Cert.PreMix.τ).loc Cert.PreMix.main_arg2))
      ∧ r.2.sem = fun _ => 0)

def quiescent_PreMixIdeal [hPreMixIdeal : Cert.PreMixIdeal.Facts] : Prop :=
  ∀ (m : (ℓ : Loc Cert.PreMixIdeal.nD Cert.PreMixIdeal.τ Cert.PreMixIdeal.sig) → Buf (Elt Ideal) ℓ) (g : Dev Cert.PreMixIdeal.nD → PrngReg), Pre_PreMixIdeal m →
    θ_run (Cert.PreMixIdeal.defs (F := Ideal)) (onTc (τ := Cert.PreMixIdeal.τ) (Cert.PreMixIdeal.main (F := Ideal))) ⟨m, fun _ => 0, g⟩ (fun r => (∀ c : Dev Cert.PreMixIdeal.nD,
      r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
      ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
      ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2))
      ∧ r.2.sem = fun _ => 0)

def quiescent_PreMixReferenceIdeal [hPreMixReferenceIdeal : Cert.PreMixReferenceIdeal.Facts] : Prop :=
  ∀ (m : (ℓ : Loc Cert.PreMixReferenceIdeal.nD Cert.PreMixReferenceIdeal.τ Cert.PreMixReferenceIdeal.sig) → Buf (Elt Ideal) ℓ) (g : Dev Cert.PreMixReferenceIdeal.nD → PrngReg), Pre_PreMixReferenceIdeal m →
    θ_run (Cert.PreMixReferenceIdeal.defs (F := Ideal)) (onTc (τ := Cert.PreMixReferenceIdeal.τ) (Cert.PreMixReferenceIdeal.main (F := Ideal))) ⟨m, fun _ => 0, g⟩ (fun r => (∀ c : Dev Cert.PreMixReferenceIdeal.nD,
      r.2.mem ((c.tc : Thread Cert.PreMixReferenceIdeal.nD Cert.PreMixReferenceIdeal.τ).loc Cert.PreMixReferenceIdeal.main_arg0) = m ((c.tc : Thread Cert.PreMixReferenceIdeal.nD Cert.PreMixReferenceIdeal.τ).loc Cert.PreMixReferenceIdeal.main_arg0)
      ∧ r.2.mem ((c.tc : Thread Cert.PreMixReferenceIdeal.nD Cert.PreMixReferenceIdeal.τ).loc Cert.PreMixReferenceIdeal.main_arg1) = m ((c.tc : Thread Cert.PreMixReferenceIdeal.nD Cert.PreMixReferenceIdeal.τ).loc Cert.PreMixReferenceIdeal.main_arg1)
      ∧ r.2.mem ((c.tc : Thread Cert.PreMixReferenceIdeal.nD Cert.PreMixReferenceIdeal.τ).loc Cert.PreMixReferenceIdeal.main_arg2) = m ((c.tc : Thread Cert.PreMixReferenceIdeal.nD Cert.PreMixReferenceIdeal.τ).loc Cert.PreMixReferenceIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4))
      ∧ r.2.sem = fun _ => 0)

def quiescent_BwdMid [hBwdMid : Cert.BwdMid.Facts] : Prop :=
  ∀ (m : (ℓ : Loc Cert.BwdMid.nD Cert.BwdMid.τ Cert.BwdMid.sig) → Buf (Elt Bits) ℓ) (g : Dev Cert.BwdMid.nD → PrngReg), Pre_BwdMid m →
    θ_run (Cert.BwdMid.defs (F := Bits)) (onTc (τ := Cert.BwdMid.τ) (Cert.BwdMid.main (F := Bits))) ⟨m, fun _ => 0, g⟩ (fun r => (∀ c : Dev Cert.BwdMid.nD,
      r.2.mem ((c.tc : Thread Cert.BwdMid.nD Cert.BwdMid.τ).loc Cert.BwdMid.main_arg0) = m ((c.tc : Thread Cert.BwdMid.nD Cert.BwdMid.τ).loc Cert.BwdMid.main_arg0)
      ∧ r.2.mem ((c.tc : Thread Cert.BwdMid.nD Cert.BwdMid.τ).loc Cert.BwdMid.main_arg1) = m ((c.tc : Thread Cert.BwdMid.nD Cert.BwdMid.τ).loc Cert.BwdMid.main_arg1)
      ∧ r.2.mem ((c.tc : Thread Cert.BwdMid.nD Cert.BwdMid.τ).loc Cert.BwdMid.main_arg2) = m ((c.tc : Thread Cert.BwdMid.nD Cert.BwdMid.τ).loc Cert.BwdMid.main_arg2)
      ∧ r.2.mem ((c.tc : Thread Cert.BwdMid.nD Cert.BwdMid.τ).loc Cert.BwdMid.main_arg3) = m ((c.tc : Thread Cert.BwdMid.nD Cert.BwdMid.τ).loc Cert.BwdMid.main_arg3)
      ∧ r.2.mem ((c.tc : Thread Cert.BwdMid.nD Cert.BwdMid.τ).loc Cert.BwdMid.main_arg4) = m ((c.tc : Thread Cert.BwdMid.nD Cert.BwdMid.τ).loc Cert.BwdMid.main_arg4)
      ∧ r.2.mem ((c.tc : Thread Cert.BwdMid.nD Cert.BwdMid.τ).loc Cert.BwdMid.main_arg5) = m ((c.tc : Thread Cert.BwdMid.nD Cert.BwdMid.τ).loc Cert.BwdMid.main_arg5)
      ∧ r.2.mem ((c.tc : Thread Cert.BwdMid.nD Cert.BwdMid.τ).loc Cert.BwdMid.main_arg6) = m ((c.tc : Thread Cert.BwdMid.nD Cert.BwdMid.τ).loc Cert.BwdMid.main_arg6))
      ∧ r.2.sem = fun _ => 0)

def quiescent_BwdMidIdeal [hBwdMidIdeal : Cert.BwdMidIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
      ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6))
      ∧ r.2.sem = fun _ => 0)

def quiescent_BwdMidReferenceIdeal [hBwdMidReferenceIdeal : Cert.BwdMidReferenceIdeal.Facts] : Prop :=
  ∀ (m : (ℓ : Loc Cert.BwdMidReferenceIdeal.nD Cert.BwdMidReferenceIdeal.τ Cert.BwdMidReferenceIdeal.sig) → Buf (Elt Ideal) ℓ) (g : Dev Cert.BwdMidReferenceIdeal.nD → PrngReg), Pre_BwdMidReferenceIdeal m →
    θ_run (Cert.BwdMidReferenceIdeal.defs (F := Ideal)) (onTc (τ := Cert.BwdMidReferenceIdeal.τ) (Cert.BwdMidReferenceIdeal.main (F := Ideal))) ⟨m, fun _ => 0, g⟩ (fun r => (∀ c : Dev Cert.BwdMidReferenceIdeal.nD,
      r.2.mem ((c.tc : Thread Cert.BwdMidReferenceIdeal.nD Cert.BwdMidReferenceIdeal.τ).loc Cert.BwdMidReferenceIdeal.main_arg0) = m ((c.tc : Thread Cert.BwdMidReferenceIdeal.nD Cert.BwdMidReferenceIdeal.τ).loc Cert.BwdMidReferenceIdeal.main_arg0)
      ∧ r.2.mem ((c.tc : Thread Cert.BwdMidReferenceIdeal.nD Cert.BwdMidReferenceIdeal.τ).loc Cert.BwdMidReferenceIdeal.main_arg1) = m ((c.tc : Thread Cert.BwdMidReferenceIdeal.nD Cert.BwdMidReferenceIdeal.τ).loc Cert.BwdMidReferenceIdeal.main_arg1)
      ∧ r.2.mem ((c.tc : Thread Cert.BwdMidReferenceIdeal.nD Cert.BwdMidReferenceIdeal.τ).loc Cert.BwdMidReferenceIdeal.main_arg2) = m ((c.tc : Thread Cert.BwdMidReferenceIdeal.nD Cert.BwdMidReferenceIdeal.τ).loc Cert.BwdMidReferenceIdeal.main_arg2)
      ∧ r.2.mem ((c.tc : Thread Cert.BwdMidReferenceIdeal.nD Cert.BwdMidReferenceIdeal.τ).loc Cert.BwdMidReferenceIdeal.main_arg3) = m ((c.tc : Thread Cert.BwdMidReferenceIdeal.nD Cert.BwdMidReferenceIdeal.τ).loc Cert.BwdMidReferenceIdeal.main_arg3)
      ∧ r.2.mem ((c.tc : Thread Cert.BwdMidReferenceIdeal.nD Cert.BwdMidReferenceIdeal.τ).loc Cert.BwdMidReferenceIdeal.main_arg4) = m ((c.tc : Thread Cert.BwdMidReferenceIdeal.nD Cert.BwdMidReferenceIdeal.τ).loc Cert.BwdMidReferenceIdeal.main_arg4)
      ∧ r.2.mem ((c.tc : Thread Cert.BwdMidReferenceIdeal.nD Cert.BwdMidReferenceIdeal.τ).loc Cert.BwdMidReferenceIdeal.main_arg5) = m ((c.tc : Thread Cert.BwdMidReferenceIdeal.nD Cert.BwdMidReferenceIdeal.τ).loc Cert.BwdMidReferenceIdeal.main_arg5)
      ∧ r.2.mem ((c.tc : Thread Cert.BwdMidReferenceIdeal.nD Cert.BwdMidReferenceIdeal.τ).loc Cert.BwdMidReferenceIdeal.main_arg6) = m ((c.tc : Thread Cert.BwdMidReferenceIdeal.nD Cert.BwdMidReferenceIdeal.τ).loc Cert.BwdMidReferenceIdeal.main_arg6))
      ∧ r.2.sem = fun _ => 0)

def quiescent_BwdPre [hBwdPre : Cert.BwdPre.Facts] : Prop :=
  ∀ (m : (ℓ : Loc Cert.BwdPre.nD Cert.BwdPre.τ Cert.BwdPre.sig) → Buf (Elt Bits) ℓ) (g : Dev Cert.BwdPre.nD → PrngReg), Pre_BwdPre m →
    θ_run (Cert.BwdPre.defs (F := Bits)) (onTc (τ := Cert.BwdPre.τ) (Cert.BwdPre.main (F := Bits))) ⟨m, fun _ => 0, g⟩ (fun r => (∀ c : Dev Cert.BwdPre.nD,
      r.2.mem ((c.tc : Thread Cert.BwdPre.nD Cert.BwdPre.τ).loc Cert.BwdPre.main_arg0) = m ((c.tc : Thread Cert.BwdPre.nD Cert.BwdPre.τ).loc Cert.BwdPre.main_arg0)
      ∧ r.2.mem ((c.tc : Thread Cert.BwdPre.nD Cert.BwdPre.τ).loc Cert.BwdPre.main_arg1) = m ((c.tc : Thread Cert.BwdPre.nD Cert.BwdPre.τ).loc Cert.BwdPre.main_arg1)
      ∧ r.2.mem ((c.tc : Thread Cert.BwdPre.nD Cert.BwdPre.τ).loc Cert.BwdPre.main_arg2) = m ((c.tc : Thread Cert.BwdPre.nD Cert.BwdPre.τ).loc Cert.BwdPre.main_arg2)
      ∧ r.2.mem ((c.tc : Thread Cert.BwdPre.nD Cert.BwdPre.τ).loc Cert.BwdPre.main_arg3) = m ((c.tc : Thread Cert.BwdPre.nD Cert.BwdPre.τ).loc Cert.BwdPre.main_arg3)
      ∧ r.2.mem ((c.tc : Thread Cert.BwdPre.nD Cert.BwdPre.τ).loc Cert.BwdPre.main_arg4) = m ((c.tc : Thread Cert.BwdPre.nD Cert.BwdPre.τ).loc Cert.BwdPre.main_arg4))
      ∧ r.2.sem = fun _ => 0)

def quiescent_BwdPreIdeal [hBwdPreIdeal : Cert.BwdPreIdeal.Facts] : Prop :=
  ∀ (m : (ℓ : Loc Cert.BwdPreIdeal.nD Cert.BwdPreIdeal.τ Cert.BwdPreIdeal.sig) → Buf (Elt Ideal) ℓ) (g : Dev Cert.BwdPreIdeal.nD → PrngReg), Pre_BwdPreIdeal m →
    θ_run (Cert.BwdPreIdeal.defs (F := Ideal)) (onTc (τ := Cert.BwdPreIdeal.τ) (Cert.BwdPreIdeal.main (F := Ideal))) ⟨m, fun _ => 0, g⟩ (fun r => (∀ c : Dev Cert.BwdPreIdeal.nD,
      r.2.mem ((c.tc : Thread Cert.BwdPreIdeal.nD Cert.BwdPreIdeal.τ).loc Cert.BwdPreIdeal.main_arg0) = m ((c.tc : Thread Cert.BwdPreIdeal.nD Cert.BwdPreIdeal.τ).loc Cert.BwdPreIdeal.main_arg0)
      ∧ r.2.mem ((c.tc : Thread Cert.BwdPreIdeal.nD Cert.BwdPreIdeal.τ).loc Cert.BwdPreIdeal.main_arg1) = m ((c.tc : Thread Cert.BwdPreIdeal.nD Cert.BwdPreIdeal.τ).loc Cert.BwdPreIdeal.main_arg1)
      ∧ r.2.mem ((c.tc : Thread Cert.BwdPreIdeal.nD Cert.BwdPreIdeal.τ).loc Cert.BwdPreIdeal.main_arg2) = m ((c.tc : Thread Cert.BwdPreIdeal.nD Cert.BwdPreIdeal.τ).loc Cert.BwdPreIdeal.main_arg2)
      ∧ r.2.mem ((c.tc : Thread Cert.BwdPreIdeal.nD Cert.BwdPreIdeal.τ).loc Cert.BwdPreIdeal.main_arg3) = m ((c.tc : Thread Cert.BwdPreIdeal.nD Cert.BwdPreIdeal.τ).loc Cert.BwdPreIdeal.main_arg3)
      ∧ r.2.mem ((c.tc : Thread Cert.BwdPreIdeal.nD Cert.BwdPreIdeal.τ).loc Cert.BwdPreIdeal.main_arg4) = m ((c.tc : Thread Cert.BwdPreIdeal.nD Cert.BwdPreIdeal.τ).loc Cert.BwdPreIdeal.main_arg4))
      ∧ r.2.sem = fun _ => 0)

def quiescent_BwdPreReferenceIdeal [hBwdPreReferenceIdeal : Cert.BwdPreReferenceIdeal.Facts] : Prop :=
  ∀ (m : (ℓ : Loc Cert.BwdPreReferenceIdeal.nD Cert.BwdPreReferenceIdeal.τ Cert.BwdPreReferenceIdeal.sig) → Buf (Elt Ideal) ℓ) (g : Dev Cert.BwdPreReferenceIdeal.nD → PrngReg), Pre_BwdPreReferenceIdeal m →
    θ_run (Cert.BwdPreReferenceIdeal.defs (F := Ideal)) (onTc (τ := Cert.BwdPreReferenceIdeal.τ) (Cert.BwdPreReferenceIdeal.main (F := Ideal))) ⟨m, fun _ => 0, g⟩ (fun r => (∀ c : Dev Cert.BwdPreReferenceIdeal.nD,
      r.2.mem ((c.tc : Thread Cert.BwdPreReferenceIdeal.nD Cert.BwdPreReferenceIdeal.τ).loc Cert.BwdPreReferenceIdeal.main_arg0) = m ((c.tc : Thread Cert.BwdPreReferenceIdeal.nD Cert.BwdPreReferenceIdeal.τ).loc Cert.BwdPreReferenceIdeal.main_arg0)
      ∧ r.2.mem ((c.tc : Thread Cert.BwdPreReferenceIdeal.nD Cert.BwdPreReferenceIdeal.τ).loc Cert.BwdPreReferenceIdeal.main_arg1) = m ((c.tc : Thread Cert.BwdPreReferenceIdeal.nD Cert.BwdPreReferenceIdeal.τ).loc Cert.BwdPreReferenceIdeal.main_arg1)
      ∧ r.2.mem ((c.tc : Thread Cert.BwdPreReferenceIdeal.nD Cert.BwdPreReferenceIdeal.τ).loc Cert.BwdPreReferenceIdeal.main_arg2) = m ((c.tc : Thread Cert.BwdPreReferenceIdeal.nD Cert.BwdPreReferenceIdeal.τ).loc Cert.BwdPreReferenceIdeal.main_arg2)
      ∧ r.2.mem ((c.tc : Thread Cert.BwdPreReferenceIdeal.nD Cert.BwdPreReferenceIdeal.τ).loc Cert.BwdPreReferenceIdeal.main_arg3) = m ((c.tc : Thread Cert.BwdPreReferenceIdeal.nD Cert.BwdPreReferenceIdeal.τ).loc Cert.BwdPreReferenceIdeal.main_arg3)
      ∧ r.2.mem ((c.tc : Thread Cert.BwdPreReferenceIdeal.nD Cert.BwdPreReferenceIdeal.τ).loc Cert.BwdPreReferenceIdeal.main_arg4) = m ((c.tc : Thread Cert.BwdPreReferenceIdeal.nD Cert.BwdPreReferenceIdeal.τ).loc Cert.BwdPreReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2, 1024]⟩ ⟨2, ![16, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![2048, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v0)) (v1 : Buf (Elt Ideal) (((0 : Dev Cert.ReferenceIdeal.nD).tc : Thread Cert.ReferenceIdeal.nD Cert.ReferenceIdeal.τ).loc Cert.ReferenceIdeal.main_v1)) (v2 : Buf (Elt Ideal) (((0 : Dev Cert.ReferenceIdeal.nD).tc : Thread Cert.ReferenceIdeal.nD Cert.ReferenceIdeal.τ).loc Cert.ReferenceIdeal.main_v2)) (v3 : Buf (Elt Ideal) (((0 : Dev Cert.ReferenceIdeal.nD).tc : Thread Cert.ReferenceIdeal.nD Cert.ReferenceIdeal.τ).loc Cert.ReferenceIdeal.main_v7)) (v4 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_v1) = v1
          ∧ r.2.mem (((0 : Dev Cert.ReferenceIdeal.nD).tc : Thread Cert.ReferenceIdeal.nD Cert.ReferenceIdeal.τ).loc Cert.ReferenceIdeal.main_v2) = v2
          ∧ r.2.mem (((0 : Dev Cert.ReferenceIdeal.nD).tc : Thread Cert.ReferenceIdeal.nD Cert.ReferenceIdeal.τ).loc Cert.ReferenceIdeal.main_v7) = v3
          ∧ r.2.mem (((0 : Dev Cert.ReferenceIdeal.nD).tc : Thread Cert.ReferenceIdeal.nD Cert.ReferenceIdeal.τ).loc Cert.ReferenceIdeal.main_v8) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![2, 1024]⟩ ⟨2, ![16, 1024]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![256, 1024]⟩ ⟨2, ![2048, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![128, 1024]⟩ ⟨2, ![1024, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![352, 1024]⟩ ⟨2, ![2816, 1024]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![352, 1024]⟩ ⟨2, ![2816, 1024]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨2, ![352, 1024]⟩ ⟨2, ![2816, 1024]⟩ 0 8 c (m' (((0 : Dev Cert.Reference.nD).tc : Thread Cert.Reference.nD Cert.Reference.τ).loc Cert.Reference.main_arg5))) →
    ∃ (v0 : Buf (Elt Bits) (((0 : Dev Cert.Reference.nD).tc : Thread Cert.Reference.nD Cert.Reference.τ).loc Cert.Reference.main_v0)) (v1 : Buf (Elt Bits) (((0 : Dev Cert.Reference.nD).tc : Thread Cert.Reference.nD Cert.Reference.τ).loc Cert.Reference.main_v1)) (v2 : Buf (Elt Bits) (((0 : Dev Cert.Reference.nD).tc : Thread Cert.Reference.nD Cert.Reference.τ).loc Cert.Reference.main_v2)) (v3 : Buf (Elt Bits) (((0 : Dev Cert.Reference.nD).tc : Thread Cert.Reference.nD Cert.Reference.τ).loc Cert.Reference.main_v7)) (v4 : Buf (Elt Bits) (((0 : Dev Cert.Reference.nD).tc : Thread Cert.Reference.nD Cert.Reference.τ).loc Cert.Reference.main_v8)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_v1_3) = v3
          ∧ r.2.mem ((c.tc : Thread Cert.Kernel.nD Cert.Kernel.τ).loc Cert.Kernel.main_v1_4) = v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_v1) = v1
          ∧ r.2.mem (((0 : Dev Cert.Reference.nD).tc : Thread Cert.Reference.nD Cert.Reference.τ).loc Cert.Reference.main_v2) = v2
          ∧ r.2.mem (((0 : Dev Cert.Reference.nD).tc : Thread Cert.Reference.nD Cert.Reference.τ).loc Cert.Reference.main_v7) = v3
          ∧ r.2.mem (((0 : Dev Cert.Reference.nD).tc : Thread Cert.Reference.nD Cert.Reference.τ).loc Cert.Reference.main_v8) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5))

def preserves_ExchangeC_ExchangeCIdeal : Prop :=
  True

def algebraic_ExchangeCIdeal_ExchangeCReferenceIdeal [hExchangeCIdeal : Cert.ExchangeCIdeal.Facts] [hExchangeCReferenceIdeal : Cert.ExchangeCReferenceIdeal.Facts] : Prop :=
  ∀ (m : (ℓ : Loc Cert.ExchangeCIdeal.nD Cert.ExchangeCIdeal.τ Cert.ExchangeCIdeal.sig) → Buf (Elt Ideal) ℓ) (g : Dev Cert.ExchangeCIdeal.nD → PrngReg)
    (m' : (ℓ : Loc Cert.ExchangeCReferenceIdeal.nD Cert.ExchangeCReferenceIdeal.τ Cert.ExchangeCReferenceIdeal.sig) → Buf (Elt Ideal) ℓ) (g' : Dev Cert.ExchangeCReferenceIdeal.nD → PrngReg), Pre_ExchangeCIdeal m →
    (∀ c : Dev Cert.ExchangeCIdeal.nD,
      m ((c.tc : Thread Cert.ExchangeCIdeal.nD Cert.ExchangeCIdeal.τ).loc Cert.ExchangeCIdeal.main_arg0) = Layout.block ⟨6, ![1, 4, 2, 1, 256, 1024]⟩ ⟨6, ![1, 4, 2, 8, 256, 1024]⟩ 3 8 c (m' (((0 : Dev Cert.ExchangeCReferenceIdeal.nD).tc : Thread Cert.ExchangeCReferenceIdeal.nD Cert.ExchangeCReferenceIdeal.τ).loc Cert.ExchangeCReferenceIdeal.main_arg0))
      ∧ m ((c.tc : Thread Cert.ExchangeCIdeal.nD Cert.ExchangeCIdeal.τ).loc Cert.ExchangeCIdeal.main_arg1) = Layout.block ⟨6, ![1, 4, 2, 1, 128, 1024]⟩ ⟨6, ![1, 4, 2, 8, 128, 1024]⟩ 3 8 c (m' (((0 : Dev Cert.ExchangeCReferenceIdeal.nD).tc : Thread Cert.ExchangeCReferenceIdeal.nD Cert.ExchangeCReferenceIdeal.τ).loc Cert.ExchangeCReferenceIdeal.main_arg1))
      ∧ m ((c.tc : Thread Cert.ExchangeCIdeal.nD Cert.ExchangeCIdeal.τ).loc Cert.ExchangeCIdeal.main_arg2) = Layout.block ⟨6, ![2, 4, 2, 1, 352, 1024]⟩ ⟨6, ![2, 4, 2, 8, 352, 1024]⟩ 3 8 c (m' (((0 : Dev Cert.ExchangeCReferenceIdeal.nD).tc : Thread Cert.ExchangeCReferenceIdeal.nD Cert.ExchangeCReferenceIdeal.τ).loc Cert.ExchangeCReferenceIdeal.main_arg2))
      ∧ m ((c.tc : Thread Cert.ExchangeCIdeal.nD Cert.ExchangeCIdeal.τ).loc Cert.ExchangeCIdeal.main_arg3) = Layout.block ⟨6, ![1, 4, 2, 1, 352, 1024]⟩ ⟨6, ![1, 4, 2, 8, 352, 1024]⟩ 3 8 c (m' (((0 : Dev Cert.ExchangeCReferenceIdeal.nD).tc : Thread Cert.ExchangeCReferenceIdeal.nD Cert.ExchangeCReferenceIdeal.τ).loc Cert.ExchangeCReferenceIdeal.main_arg3))) →
    ∃ (v0 : Buf (Elt Ideal) (((0 : Dev Cert.ExchangeCReferenceIdeal.nD).tc : Thread Cert.ExchangeCReferenceIdeal.nD Cert.ExchangeCReferenceIdeal.τ).loc Cert.ExchangeCReferenceIdeal.main_v24)) (v1 : Buf (Elt Ideal) (((0 : Dev Cert.ExchangeCReferenceIdeal.nD).tc : Thread Cert.ExchangeCReferenceIdeal.nD Cert.ExchangeCReferenceIdeal.τ).loc Cert.ExchangeCReferenceIdeal.main_v49)) (v2 : Buf (Elt Ideal) (((0 : Dev Cert.ExchangeCReferenceIdeal.nD).tc : Thread Cert.ExchangeCReferenceIdeal.nD Cert.ExchangeCReferenceIdeal.τ).loc Cert.ExchangeCReferenceIdeal.main_v74)) (v3 : Buf (Elt Ideal) (((0 : Dev Cert.ExchangeCReferenceIdeal.nD).tc : Thread Cert.ExchangeCReferenceIdeal.nD Cert.ExchangeCReferenceIdeal.τ).loc Cert.ExchangeCReferenceIdeal.main_v99)),
      θ_run (Cert.ExchangeCIdeal.defs (F := Ideal)) (onTc (τ := Cert.ExchangeCIdeal.τ) (Cert.ExchangeCIdeal.main (F := Ideal))) ⟨m, fun _ => 0, g⟩ (fun r => ∀ c : Dev Cert.ExchangeCIdeal.nD,
          r.2.mem ((c.tc : Thread Cert.ExchangeCIdeal.nD Cert.ExchangeCIdeal.τ).loc Cert.ExchangeCIdeal.main_v1_0) = Layout.block ⟨5, ![1, 4, 1, 256, 1024]⟩ ⟨5, ![1, 4, 8, 256, 1024]⟩ 2 8 c v0
          ∧ r.2.mem ((c.tc : Thread Cert.ExchangeCIdeal.nD Cert.ExchangeCIdeal.τ).loc Cert.ExchangeCIdeal.main_v1_1) = Layout.block ⟨5, ![1, 4, 1, 128, 1024]⟩ ⟨5, ![1, 4, 8, 128, 1024]⟩ 2 8 c v1
          ∧ r.2.mem ((c.tc : Thread Cert.ExchangeCIdeal.nD Cert.ExchangeCIdeal.τ).loc Cert.ExchangeCIdeal.main_v1_2) = Layout.block ⟨5, ![2, 4, 1, 352, 1024]⟩ ⟨5, ![2, 4, 8, 352, 1024]⟩ 2 8 c v2
          ∧ r.2.mem ((c.tc : Thread Cert.ExchangeCIdeal.nD Cert.ExchangeCIdeal.τ).loc Cert.ExchangeCIdeal.main_v1_3) = Layout.block ⟨5, ![1, 4, 1, 352, 1024]⟩ ⟨5, ![1, 4, 8, 352, 1024]⟩ 2 8 c v3
          ∧ r.2.mem ((c.tc : Thread Cert.ExchangeCIdeal.nD Cert.ExchangeCIdeal.τ).loc Cert.ExchangeCIdeal.main_arg0) = m ((c.tc : Thread Cert.ExchangeCIdeal.nD Cert.ExchangeCIdeal.τ).loc Cert.ExchangeCIdeal.main_arg0)
          ∧ r.2.mem ((c.tc : Thread Cert.ExchangeCIdeal.nD Cert.ExchangeCIdeal.τ).loc Cert.ExchangeCIdeal.main_arg1) = m ((c.tc : Thread Cert.ExchangeCIdeal.nD Cert.ExchangeCIdeal.τ).loc Cert.ExchangeCIdeal.main_arg1)
          ∧ r.2.mem ((c.tc : Thread Cert.ExchangeCIdeal.nD Cert.ExchangeCIdeal.τ).loc Cert.ExchangeCIdeal.main_arg2) = m ((c.tc : Thread Cert.ExchangeCIdeal.nD Cert.ExchangeCIdeal.τ).loc Cert.ExchangeCIdeal.main_arg2)
          ∧ r.2.mem ((c.tc : Thread Cert.ExchangeCIdeal.nD Cert.ExchangeCIdeal.τ).loc Cert.ExchangeCIdeal.main_arg3) = m ((c.tc : Thread Cert.ExchangeCIdeal.nD Cert.ExchangeCIdeal.τ).loc Cert.ExchangeCIdeal.main_arg3))
      ∧ θ_run (Cert.ExchangeCReferenceIdeal.defs (F := Ideal)) (onTc (τ := Cert.ExchangeCReferenceIdeal.τ) (Cert.ExchangeCReferenceIdeal.main (F := Ideal))) ⟨m', fun _ => 0, g'⟩ (fun r =>
          r.2.mem (((0 : Dev Cert.ExchangeCReferenceIdeal.nD).tc : Thread Cert.ExchangeCReferenceIdeal.nD Cert.ExchangeCReferenceIdeal.τ).loc Cert.ExchangeCReferenceIdeal.main_v24) = v0
          ∧ r.2.mem (((0 : Dev Cert.ExchangeCReferenceIdeal.nD).tc : Thread Cert.ExchangeCReferenceIdeal.nD Cert.ExchangeCReferenceIdeal.τ).loc Cert.ExchangeCReferenceIdeal.main_v49) = v1
          ∧ r.2.mem (((0 : Dev Cert.ExchangeCReferenceIdeal.nD).tc : Thread Cert.ExchangeCReferenceIdeal.nD Cert.ExchangeCReferenceIdeal.τ).loc Cert.ExchangeCReferenceIdeal.main_v74) = v2
          ∧ r.2.mem (((0 : Dev Cert.ExchangeCReferenceIdeal.nD).tc : Thread Cert.ExchangeCReferenceIdeal.nD Cert.ExchangeCReferenceIdeal.τ).loc Cert.ExchangeCReferenceIdeal.main_v99) = v3
          ∧ r.2.mem (((0 : Dev Cert.ExchangeCReferenceIdeal.nD).tc : Thread Cert.ExchangeCReferenceIdeal.nD Cert.ExchangeCReferenceIdeal.τ).loc Cert.ExchangeCReferenceIdeal.main_arg0) = m' (((0 : Dev Cert.ExchangeCReferenceIdeal.nD).tc : Thread Cert.ExchangeCReferenceIdeal.nD Cert.ExchangeCReferenceIdeal.τ).loc Cert.ExchangeCReferenceIdeal.main_arg0)
          ∧ r.2.mem (((0 : Dev Cert.ExchangeCReferenceIdeal.nD).tc : Thread Cert.ExchangeCReferenceIdeal.nD Cert.ExchangeCReferenceIdeal.τ).loc Cert.ExchangeCReferenceIdeal.main_arg1) = m' (((0 : Dev Cert.ExchangeCReferenceIdeal.nD).tc : Thread Cert.ExchangeCReferenceIdeal.nD Cert.ExchangeCReferenceIdeal.τ).loc Cert.ExchangeCReferenceIdeal.main_arg1)
          ∧ r.2.mem (((0 : Dev Cert.ExchangeCReferenceIdeal.nD).tc : Thread Cert.ExchangeCReferenceIdeal.nD Cert.ExchangeCReferenceIdeal.τ).loc Cert.ExchangeCReferenceIdeal.main_arg2) = m' (((0 : Dev Cert.ExchangeCReferenceIdeal.nD).tc : Thread Cert.ExchangeCReferenceIdeal.nD Cert.ExchangeCReferenceIdeal.τ).loc Cert.ExchangeCReferenceIdeal.main_arg2)
          ∧ r.2.mem (((0 : Dev Cert.ExchangeCReferenceIdeal.nD).tc : Thread Cert.ExchangeCReferenceIdeal.nD Cert.ExchangeCReferenceIdeal.τ).loc Cert.ExchangeCReferenceIdeal.main_arg3) = m' (((0 : Dev Cert.ExchangeCReferenceIdeal.nD).tc : Thread Cert.ExchangeCReferenceIdeal.nD Cert.ExchangeCReferenceIdeal.τ).loc Cert.ExchangeCReferenceIdeal.main_arg3))

def bitexact_ExchangeC_ExchangeCReference [hExchangeC : Cert.ExchangeC.Facts] [hExchangeCReference : Cert.ExchangeCReference.Facts] : Prop :=
  ∀ (m : (ℓ : Loc Cert.ExchangeC.nD Cert.ExchangeC.τ Cert.ExchangeC.sig) → Buf (Elt Bits) ℓ) (g : Dev Cert.ExchangeC.nD → PrngReg)
    (m' : (ℓ : Loc Cert.ExchangeCReference.nD Cert.ExchangeCReference.τ Cert.ExchangeCReference.sig) → Buf (Elt Bits) ℓ) (g' : Dev Cert.ExchangeCReference.nD → PrngReg), Pre_ExchangeC m →
    (∀ c : Dev Cert.ExchangeC.nD,
      m ((c.tc : Thread Cert.ExchangeC.nD Cert.ExchangeC.τ).loc Cert.ExchangeC.main_arg0) = Layout.block ⟨6, ![1, 4, 2, 1, 256, 1024]⟩ ⟨6, ![1, 4, 2, 8, 256, 1024]⟩ 3 8 c (m' (((0 : Dev Cert.ExchangeCReference.nD).tc : Thread Cert.ExchangeCReference.nD Cert.ExchangeCReference.τ).loc Cert.ExchangeCReference.main_arg0))
      ∧ m ((c.tc : Thread Cert.ExchangeC.nD Cert.ExchangeC.τ).loc Cert.ExchangeC.main_arg1) = Layout.block ⟨6, ![1, 4, 2, 1, 128, 1024]⟩ ⟨6, ![1, 4, 2, 8, 128, 1024]⟩ 3 8 c (m' (((0 : Dev Cert.ExchangeCReference.nD).tc : Thread Cert.ExchangeCReference.nD Cert.ExchangeCReference.τ).loc Cert.ExchangeCReference.main_arg1))
      ∧ m ((c.tc : Thread Cert.ExchangeC.nD Cert.ExchangeC.τ).loc Cert.ExchangeC.main_arg2) = Layout.block ⟨6, ![2, 4, 2, 1, 352, 1024]⟩ ⟨6, ![2, 4, 2, 8, 352, 1024]⟩ 3 8 c (m' (((0 : Dev Cert.ExchangeCReference.nD).tc : Thread Cert.ExchangeCReference.nD Cert.ExchangeCReference.τ).loc Cert.ExchangeCReference.main_arg2))
      ∧ m ((c.tc : Thread Cert.ExchangeC.nD Cert.ExchangeC.τ).loc Cert.ExchangeC.main_arg3) = Layout.block ⟨6, ![1, 4, 2, 1, 352, 1024]⟩ ⟨6, ![1, 4, 2, 8, 352, 1024]⟩ 3 8 c (m' (((0 : Dev Cert.ExchangeCReference.nD).tc : Thread Cert.ExchangeCReference.nD Cert.ExchangeCReference.τ).loc Cert.ExchangeCReference.main_arg3))) →
    ∃ (v0 : Buf (Elt Bits) (((0 : Dev Cert.ExchangeCReference.nD).tc : Thread Cert.ExchangeCReference.nD Cert.ExchangeCReference.τ).loc Cert.ExchangeCReference.main_v24)) (v1 : Buf (Elt Bits) (((0 : Dev Cert.ExchangeCReference.nD).tc : Thread Cert.ExchangeCReference.nD Cert.ExchangeCReference.τ).loc Cert.ExchangeCReference.main_v49)) (v2 : Buf (Elt Bits) (((0 : Dev Cert.ExchangeCReference.nD).tc : Thread Cert.ExchangeCReference.nD Cert.ExchangeCReference.τ).loc Cert.ExchangeCReference.main_v74)) (v3 : Buf (Elt Bits) (((0 : Dev Cert.ExchangeCReference.nD).tc : Thread Cert.ExchangeCReference.nD Cert.ExchangeCReference.τ).loc Cert.ExchangeCReference.main_v99)),
      θ_run (Cert.ExchangeC.defs (F := Bits)) (onTc (τ := Cert.ExchangeC.τ) (Cert.ExchangeC.main (F := Bits))) ⟨m, fun _ => 0, g⟩ (fun r => ∀ c : Dev Cert.ExchangeC.nD,
          r.2.mem ((c.tc : Thread Cert.ExchangeC.nD Cert.ExchangeC.τ).loc Cert.ExchangeC.main_v1_0) = Layout.block ⟨5, ![1, 4, 1, 256, 1024]⟩ ⟨5, ![1, 4, 8, 256, 1024]⟩ 2 8 c v0
          ∧ r.2.mem ((c.tc : Thread Cert.ExchangeC.nD Cert.ExchangeC.τ).loc Cert.ExchangeC.main_v1_1) = Layout.block ⟨5, ![1, 4, 1, 128, 1024]⟩ ⟨5, ![1, 4, 8, 128, 1024]⟩ 2 8 c v1
          ∧ r.2.mem ((c.tc : Thread Cert.ExchangeC.nD Cert.ExchangeC.τ).loc Cert.ExchangeC.main_v1_2) = Layout.block ⟨5, ![2, 4, 1, 352, 1024]⟩ ⟨5, ![2, 4, 8, 352, 1024]⟩ 2 8 c v2
          ∧ r.2.mem ((c.tc : Thread Cert.ExchangeC.nD Cert.ExchangeC.τ).loc Cert.ExchangeC.main_v1_3) = Layout.block ⟨5, ![1, 4, 1, 352, 1024]⟩ ⟨5, ![1, 4, 8, 352, 1024]⟩ 2 8 c v3
          ∧ r.2.mem ((c.tc : Thread Cert.ExchangeC.nD Cert.ExchangeC.τ).loc Cert.ExchangeC.main_arg0) = m ((c.tc : Thread Cert.ExchangeC.nD Cert.ExchangeC.τ).loc Cert.ExchangeC.main_arg0)
          ∧ r.2.mem ((c.tc : Thread Cert.ExchangeC.nD Cert.ExchangeC.τ).loc Cert.ExchangeC.main_arg1) = m ((c.tc : Thread Cert.ExchangeC.nD Cert.ExchangeC.τ).loc Cert.ExchangeC.main_arg1)
          ∧ r.2.mem ((c.tc : Thread Cert.ExchangeC.nD Cert.ExchangeC.τ).loc Cert.ExchangeC.main_arg2) = m ((c.tc : Thread Cert.ExchangeC.nD Cert.ExchangeC.τ).loc Cert.ExchangeC.main_arg2)
          ∧ r.2.mem ((c.tc : Thread Cert.ExchangeC.nD Cert.ExchangeC.τ).loc Cert.ExchangeC.main_arg3) = m ((c.tc : Thread Cert.ExchangeC.nD Cert.ExchangeC.τ).loc Cert.ExchangeC.main_arg3))
      ∧ θ_run (Cert.ExchangeCReference.defs (F := Bits)) (onTc (τ := Cert.ExchangeCReference.τ) (Cert.ExchangeCReference.main (F := Bits))) ⟨m', fun _ => 0, g'⟩ (fun r =>
          r.2.mem (((0 : Dev Cert.ExchangeCReference.nD).tc : Thread Cert.ExchangeCReference.nD Cert.ExchangeCReference.τ).loc Cert.ExchangeCReference.main_v24) = v0
          ∧ r.2.mem (((0 : Dev Cert.ExchangeCReference.nD).tc : Thread Cert.ExchangeCReference.nD Cert.ExchangeCReference.τ).loc Cert.ExchangeCReference.main_v49) = v1
          ∧ r.2.mem (((0 : Dev Cert.ExchangeCReference.nD).tc : Thread Cert.ExchangeCReference.nD Cert.ExchangeCReference.τ).loc Cert.ExchangeCReference.main_v74) = v2
          ∧ r.2.mem (((0 : Dev Cert.ExchangeCReference.nD).tc : Thread Cert.ExchangeCReference.nD Cert.ExchangeCReference.τ).loc Cert.ExchangeCReference.main_v99) = v3
          ∧ r.2.mem (((0 : Dev Cert.ExchangeCReference.nD).tc : Thread Cert.ExchangeCReference.nD Cert.ExchangeCReference.τ).loc Cert.ExchangeCReference.main_arg0) = m' (((0 : Dev Cert.ExchangeCReference.nD).tc : Thread Cert.ExchangeCReference.nD Cert.ExchangeCReference.τ).loc Cert.ExchangeCReference.main_arg0)
          ∧ r.2.mem (((0 : Dev Cert.ExchangeCReference.nD).tc : Thread Cert.ExchangeCReference.nD Cert.ExchangeCReference.τ).loc Cert.ExchangeCReference.main_arg1) = m' (((0 : Dev Cert.ExchangeCReference.nD).tc : Thread Cert.ExchangeCReference.nD Cert.ExchangeCReference.τ).loc Cert.ExchangeCReference.main_arg1)
          ∧ r.2.mem (((0 : Dev Cert.ExchangeCReference.nD).tc : Thread Cert.ExchangeCReference.nD Cert.ExchangeCReference.τ).loc Cert.ExchangeCReference.main_arg2) = m' (((0 : Dev Cert.ExchangeCReference.nD).tc : Thread Cert.ExchangeCReference.nD Cert.ExchangeCReference.τ).loc Cert.ExchangeCReference.main_arg2)
          ∧ r.2.mem (((0 : Dev Cert.ExchangeCReference.nD).tc : Thread Cert.ExchangeCReference.nD Cert.ExchangeCReference.τ).loc Cert.ExchangeCReference.main_arg3) = m' (((0 : Dev Cert.ExchangeCReference.nD).tc : Thread Cert.ExchangeCReference.nD Cert.ExchangeCReference.τ).loc Cert.ExchangeCReference.main_arg3))

def preserves_ExchangeX_ExchangeXIdeal : Prop :=
  True

def algebraic_ExchangeXIdeal_ExchangeXReferenceIdeal [hExchangeXIdeal : Cert.ExchangeXIdeal.Facts] [hExchangeXReferenceIdeal : Cert.ExchangeXReferenceIdeal.Facts] : Prop :=
  ∀ (m : (ℓ : Loc Cert.ExchangeXIdeal.nD Cert.ExchangeXIdeal.τ Cert.ExchangeXIdeal.sig) → Buf (Elt Ideal) ℓ) (g : Dev Cert.ExchangeXIdeal.nD → PrngReg)
    (m' : (ℓ : Loc Cert.ExchangeXReferenceIdeal.nD Cert.ExchangeXReferenceIdeal.τ Cert.ExchangeXReferenceIdeal.sig) → Buf (Elt Ideal) ℓ) (g' : Dev Cert.ExchangeXReferenceIdeal.nD → PrngReg), Pre_ExchangeXIdeal m →
    (∀ c : Dev Cert.ExchangeXIdeal.nD,
      m ((c.tc : Thread Cert.ExchangeXIdeal.nD Cert.ExchangeXIdeal.τ).loc Cert.ExchangeXIdeal.main_arg0) = Layout.block ⟨6, ![1, 1, 2, 2, 256, 1024]⟩ ⟨6, ![1, 8, 2, 2, 256, 1024]⟩ 1 8 c (m' (((0 : Dev Cert.ExchangeXReferenceIdeal.nD).tc : Thread Cert.ExchangeXReferenceIdeal.nD Cert.ExchangeXReferenceIdeal.τ).loc Cert.ExchangeXReferenceIdeal.main_arg0))
      ∧ m ((c.tc : Thread Cert.ExchangeXIdeal.nD Cert.ExchangeXIdeal.τ).loc Cert.ExchangeXIdeal.main_arg1) = Layout.block ⟨6, ![1, 1, 2, 2, 128, 1024]⟩ ⟨6, ![1, 8, 2, 2, 128, 1024]⟩ 1 8 c (m' (((0 : Dev Cert.ExchangeXReferenceIdeal.nD).tc : Thread Cert.ExchangeXReferenceIdeal.nD Cert.ExchangeXReferenceIdeal.τ).loc Cert.ExchangeXReferenceIdeal.main_arg1))
      ∧ m ((c.tc : Thread Cert.ExchangeXIdeal.nD Cert.ExchangeXIdeal.τ).loc Cert.ExchangeXIdeal.main_arg2) = Layout.block ⟨6, ![2, 1, 2, 2, 352, 1024]⟩ ⟨6, ![2, 8, 2, 2, 352, 1024]⟩ 1 8 c (m' (((0 : Dev Cert.ExchangeXReferenceIdeal.nD).tc : Thread Cert.ExchangeXReferenceIdeal.nD Cert.ExchangeXReferenceIdeal.τ).loc Cert.ExchangeXReferenceIdeal.main_arg2))
      ∧ m ((c.tc : Thread Cert.ExchangeXIdeal.nD Cert.ExchangeXIdeal.τ).loc Cert.ExchangeXIdeal.main_arg3) = Layout.block ⟨6, ![1, 1, 2, 2, 352, 1024]⟩ ⟨6, ![1, 8, 2, 2, 352, 1024]⟩ 1 8 c (m' (((0 : Dev Cert.ExchangeXReferenceIdeal.nD).tc : Thread Cert.ExchangeXReferenceIdeal.nD Cert.ExchangeXReferenceIdeal.τ).loc Cert.ExchangeXReferenceIdeal.main_arg3))) →
    ∃ (v0 : Buf (Elt Ideal) (((0 : Dev Cert.ExchangeXReferenceIdeal.nD).tc : Thread Cert.ExchangeXReferenceIdeal.nD Cert.ExchangeXReferenceIdeal.τ).loc Cert.ExchangeXReferenceIdeal.main_v24)) (v1 : Buf (Elt Ideal) (((0 : Dev Cert.ExchangeXReferenceIdeal.nD).tc : Thread Cert.ExchangeXReferenceIdeal.nD Cert.ExchangeXReferenceIdeal.τ).loc Cert.ExchangeXReferenceIdeal.main_v49)) (v2 : Buf (Elt Ideal) (((0 : Dev Cert.ExchangeXReferenceIdeal.nD).tc : Thread Cert.ExchangeXReferenceIdeal.nD Cert.ExchangeXReferenceIdeal.τ).loc Cert.ExchangeXReferenceIdeal.main_v74)) (v3 : Buf (Elt Ideal) (((0 : Dev Cert.ExchangeXReferenceIdeal.nD).tc : Thread Cert.ExchangeXReferenceIdeal.nD Cert.ExchangeXReferenceIdeal.τ).loc Cert.ExchangeXReferenceIdeal.main_v99)),
      θ_run (Cert.ExchangeXIdeal.defs (F := Ideal)) (onTc (τ := Cert.ExchangeXIdeal.τ) (Cert.ExchangeXIdeal.main (F := Ideal))) ⟨m, fun _ => 0, g⟩ (fun r => ∀ c : Dev Cert.ExchangeXIdeal.nD,
          r.2.mem ((c.tc : Thread Cert.ExchangeXIdeal.nD Cert.ExchangeXIdeal.τ).loc Cert.ExchangeXIdeal.main_v1_0) = Layout.block ⟨5, ![1, 1, 2, 256, 1024]⟩ ⟨5, ![1, 8, 2, 256, 1024]⟩ 1 8 c v0
          ∧ r.2.mem ((c.tc : Thread Cert.ExchangeXIdeal.nD Cert.ExchangeXIdeal.τ).loc Cert.ExchangeXIdeal.main_v1_1) = Layout.block ⟨5, ![1, 1, 2, 128, 1024]⟩ ⟨5, ![1, 8, 2, 128, 1024]⟩ 1 8 c v1
          ∧ r.2.mem ((c.tc : Thread Cert.ExchangeXIdeal.nD Cert.ExchangeXIdeal.τ).loc Cert.ExchangeXIdeal.main_v1_2) = Layout.block ⟨5, ![2, 1, 2, 352, 1024]⟩ ⟨5, ![2, 8, 2, 352, 1024]⟩ 1 8 c v2
          ∧ r.2.mem ((c.tc : Thread Cert.ExchangeXIdeal.nD Cert.ExchangeXIdeal.τ).loc Cert.ExchangeXIdeal.main_v1_3) = Layout.block ⟨5, ![1, 1, 2, 352, 1024]⟩ ⟨5, ![1, 8, 2, 352, 1024]⟩ 1 8 c v3
          ∧ r.2.mem ((c.tc : Thread Cert.ExchangeXIdeal.nD Cert.ExchangeXIdeal.τ).loc Cert.ExchangeXIdeal.main_arg0) = m ((c.tc : Thread Cert.ExchangeXIdeal.nD Cert.ExchangeXIdeal.τ).loc Cert.ExchangeXIdeal.main_arg0)
          ∧ r.2.mem ((c.tc : Thread Cert.ExchangeXIdeal.nD Cert.ExchangeXIdeal.τ).loc Cert.ExchangeXIdeal.main_arg1) = m ((c.tc : Thread Cert.ExchangeXIdeal.nD Cert.ExchangeXIdeal.τ).loc Cert.ExchangeXIdeal.main_arg1)
          ∧ r.2.mem ((c.tc : Thread Cert.ExchangeXIdeal.nD Cert.ExchangeXIdeal.τ).loc Cert.ExchangeXIdeal.main_arg2) = m ((c.tc : Thread Cert.ExchangeXIdeal.nD Cert.ExchangeXIdeal.τ).loc Cert.ExchangeXIdeal.main_arg2)
          ∧ r.2.mem ((c.tc : Thread Cert.ExchangeXIdeal.nD Cert.ExchangeXIdeal.τ).loc Cert.ExchangeXIdeal.main_arg3) = m ((c.tc : Thread Cert.ExchangeXIdeal.nD Cert.ExchangeXIdeal.τ).loc Cert.ExchangeXIdeal.main_arg3))
      ∧ θ_run (Cert.ExchangeXReferenceIdeal.defs (F := Ideal)) (onTc (τ := Cert.ExchangeXReferenceIdeal.τ) (Cert.ExchangeXReferenceIdeal.main (F := Ideal))) ⟨m', fun _ => 0, g'⟩ (fun r =>
          r.2.mem (((0 : Dev Cert.ExchangeXReferenceIdeal.nD).tc : Thread Cert.ExchangeXReferenceIdeal.nD Cert.ExchangeXReferenceIdeal.τ).loc Cert.ExchangeXReferenceIdeal.main_v24) = v0
          ∧ r.2.mem (((0 : Dev Cert.ExchangeXReferenceIdeal.nD).tc : Thread Cert.ExchangeXReferenceIdeal.nD Cert.ExchangeXReferenceIdeal.τ).loc Cert.ExchangeXReferenceIdeal.main_v49) = v1
          ∧ r.2.mem (((0 : Dev Cert.ExchangeXReferenceIdeal.nD).tc : Thread Cert.ExchangeXReferenceIdeal.nD Cert.ExchangeXReferenceIdeal.τ).loc Cert.ExchangeXReferenceIdeal.main_v74) = v2
          ∧ r.2.mem (((0 : Dev Cert.ExchangeXReferenceIdeal.nD).tc : Thread Cert.ExchangeXReferenceIdeal.nD Cert.ExchangeXReferenceIdeal.τ).loc Cert.ExchangeXReferenceIdeal.main_v99) = v3
          ∧ r.2.mem (((0 : Dev Cert.ExchangeXReferenceIdeal.nD).tc : Thread Cert.ExchangeXReferenceIdeal.nD Cert.ExchangeXReferenceIdeal.τ).loc Cert.ExchangeXReferenceIdeal.main_arg0) = m' (((0 : Dev Cert.ExchangeXReferenceIdeal.nD).tc : Thread Cert.ExchangeXReferenceIdeal.nD Cert.ExchangeXReferenceIdeal.τ).loc Cert.ExchangeXReferenceIdeal.main_arg0)
          ∧ r.2.mem (((0 : Dev Cert.ExchangeXReferenceIdeal.nD).tc : Thread Cert.ExchangeXReferenceIdeal.nD Cert.ExchangeXReferenceIdeal.τ).loc Cert.ExchangeXReferenceIdeal.main_arg1) = m' (((0 : Dev Cert.ExchangeXReferenceIdeal.nD).tc : Thread Cert.ExchangeXReferenceIdeal.nD Cert.ExchangeXReferenceIdeal.τ).loc Cert.ExchangeXReferenceIdeal.main_arg1)
          ∧ r.2.mem (((0 : Dev Cert.ExchangeXReferenceIdeal.nD).tc : Thread Cert.ExchangeXReferenceIdeal.nD Cert.ExchangeXReferenceIdeal.τ).loc Cert.ExchangeXReferenceIdeal.main_arg2) = m' (((0 : Dev Cert.ExchangeXReferenceIdeal.nD).tc : Thread Cert.ExchangeXReferenceIdeal.nD Cert.ExchangeXReferenceIdeal.τ).loc Cert.ExchangeXReferenceIdeal.main_arg2)
          ∧ r.2.mem (((0 : Dev Cert.ExchangeXReferenceIdeal.nD).tc : Thread Cert.ExchangeXReferenceIdeal.nD Cert.ExchangeXReferenceIdeal.τ).loc Cert.ExchangeXReferenceIdeal.main_arg3) = m' (((0 : Dev Cert.ExchangeXReferenceIdeal.nD).tc : Thread Cert.ExchangeXReferenceIdeal.nD Cert.ExchangeXReferenceIdeal.τ).loc Cert.ExchangeXReferenceIdeal.main_arg3))

def bitexact_ExchangeX_ExchangeXReference [hExchangeX : Cert.ExchangeX.Facts] [hExchangeXReference : Cert.ExchangeXReference.Facts] : Prop :=
  ∀ (m : (ℓ : Loc Cert.ExchangeX.nD Cert.ExchangeX.τ Cert.ExchangeX.sig) → Buf (Elt Bits) ℓ) (g : Dev Cert.ExchangeX.nD → PrngReg)
    (m' : (ℓ : Loc Cert.ExchangeXReference.nD Cert.ExchangeXReference.τ Cert.ExchangeXReference.sig) → Buf (Elt Bits) ℓ) (g' : Dev Cert.ExchangeXReference.nD → PrngReg), Pre_ExchangeX m →
    (∀ c : Dev Cert.ExchangeX.nD,
      m ((c.tc : Thread Cert.ExchangeX.nD Cert.ExchangeX.τ).loc Cert.ExchangeX.main_arg0) = Layout.block ⟨6, ![1, 1, 2, 2, 256, 1024]⟩ ⟨6, ![1, 8, 2, 2, 256, 1024]⟩ 1 8 c (m' (((0 : Dev Cert.ExchangeXReference.nD).tc : Thread Cert.ExchangeXReference.nD Cert.ExchangeXReference.τ).loc Cert.ExchangeXReference.main_arg0))
      ∧ m ((c.tc : Thread Cert.ExchangeX.nD Cert.ExchangeX.τ).loc Cert.ExchangeX.main_arg1) = Layout.block ⟨6, ![1, 1, 2, 2, 128, 1024]⟩ ⟨6, ![1, 8, 2, 2, 128, 1024]⟩ 1 8 c (m' (((0 : Dev Cert.ExchangeXReference.nD).tc : Thread Cert.ExchangeXReference.nD Cert.ExchangeXReference.τ).loc Cert.ExchangeXReference.main_arg1))
      ∧ m ((c.tc : Thread Cert.ExchangeX.nD Cert.ExchangeX.τ).loc Cert.ExchangeX.main_arg2) = Layout.block ⟨6, ![2, 1, 2, 2, 352, 1024]⟩ ⟨6, ![2, 8, 2, 2, 352, 1024]⟩ 1 8 c (m' (((0 : Dev Cert.ExchangeXReference.nD).tc : Thread Cert.ExchangeXReference.nD Cert.ExchangeXReference.τ).loc Cert.ExchangeXReference.main_arg2))
      ∧ m ((c.tc : Thread Cert.ExchangeX.nD Cert.ExchangeX.τ).loc Cert.ExchangeX.main_arg3) = Layout.block ⟨6, ![1, 1, 2, 2, 352, 1024]⟩ ⟨6, ![1, 8, 2, 2, 352, 1024]⟩ 1 8 c (m' (((0 : Dev Cert.ExchangeXReference.nD).tc : Thread Cert.ExchangeXReference.nD Cert.ExchangeXReference.τ).loc Cert.ExchangeXReference.main_arg3))) →
    ∃ (v0 : Buf (Elt Bits) (((0 : Dev Cert.ExchangeXReference.nD).tc : Thread Cert.ExchangeXReference.nD Cert.ExchangeXReference.τ).loc Cert.ExchangeXReference.main_v24)) (v1 : Buf (Elt Bits) (((0 : Dev Cert.ExchangeXReference.nD).tc : Thread Cert.ExchangeXReference.nD Cert.ExchangeXReference.τ).loc Cert.ExchangeXReference.main_v49)) (v2 : Buf (Elt Bits) (((0 : Dev Cert.ExchangeXReference.nD).tc : Thread Cert.ExchangeXReference.nD Cert.ExchangeXReference.τ).loc Cert.ExchangeXReference.main_v74)) (v3 : Buf (Elt Bits) (((0 : Dev Cert.ExchangeXReference.nD).tc : Thread Cert.ExchangeXReference.nD Cert.ExchangeXReference.τ).loc Cert.ExchangeXReference.main_v99)),
      θ_run (Cert.ExchangeX.defs (F := Bits)) (onTc (τ := Cert.ExchangeX.τ) (Cert.ExchangeX.main (F := Bits))) ⟨m, fun _ => 0, g⟩ (fun r => ∀ c : Dev Cert.ExchangeX.nD,
          r.2.mem ((c.tc : Thread Cert.ExchangeX.nD Cert.ExchangeX.τ).loc Cert.ExchangeX.main_v1_0) = Layout.block ⟨5, ![1, 1, 2, 256, 1024]⟩ ⟨5, ![1, 8, 2, 256, 1024]⟩ 1 8 c v0
          ∧ r.2.mem ((c.tc : Thread Cert.ExchangeX.nD Cert.ExchangeX.τ).loc Cert.ExchangeX.main_v1_1) = Layout.block ⟨5, ![1, 1, 2, 128, 1024]⟩ ⟨5, ![1, 8, 2, 128, 1024]⟩ 1 8 c v1
          ∧ r.2.mem ((c.tc : Thread Cert.ExchangeX.nD Cert.ExchangeX.τ).loc Cert.ExchangeX.main_v1_2) = Layout.block ⟨5, ![2, 1, 2, 352, 1024]⟩ ⟨5, ![2, 8, 2, 352, 1024]⟩ 1 8 c v2
          ∧ r.2.mem ((c.tc : Thread Cert.ExchangeX.nD Cert.ExchangeX.τ).loc Cert.ExchangeX.main_v1_3) = Layout.block ⟨5, ![1, 1, 2, 352, 1024]⟩ ⟨5, ![1, 8, 2, 352, 1024]⟩ 1 8 c v3
          ∧ r.2.mem ((c.tc : Thread Cert.ExchangeX.nD Cert.ExchangeX.τ).loc Cert.ExchangeX.main_arg0) = m ((c.tc : Thread Cert.ExchangeX.nD Cert.ExchangeX.τ).loc Cert.ExchangeX.main_arg0)
          ∧ r.2.mem ((c.tc : Thread Cert.ExchangeX.nD Cert.ExchangeX.τ).loc Cert.ExchangeX.main_arg1) = m ((c.tc : Thread Cert.ExchangeX.nD Cert.ExchangeX.τ).loc Cert.ExchangeX.main_arg1)
          ∧ r.2.mem ((c.tc : Thread Cert.ExchangeX.nD Cert.ExchangeX.τ).loc Cert.ExchangeX.main_arg2) = m ((c.tc : Thread Cert.ExchangeX.nD Cert.ExchangeX.τ).loc Cert.ExchangeX.main_arg2)
          ∧ r.2.mem ((c.tc : Thread Cert.ExchangeX.nD Cert.ExchangeX.τ).loc Cert.ExchangeX.main_arg3) = m ((c.tc : Thread Cert.ExchangeX.nD Cert.ExchangeX.τ).loc Cert.ExchangeX.main_arg3))
      ∧ θ_run (Cert.ExchangeXReference.defs (F := Bits)) (onTc (τ := Cert.ExchangeXReference.τ) (Cert.ExchangeXReference.main (F := Bits))) ⟨m', fun _ => 0, g'⟩ (fun r =>
          r.2.mem (((0 : Dev Cert.ExchangeXReference.nD).tc : Thread Cert.ExchangeXReference.nD Cert.ExchangeXReference.τ).loc Cert.ExchangeXReference.main_v24) = v0
          ∧ r.2.mem (((0 : Dev Cert.ExchangeXReference.nD).tc : Thread Cert.ExchangeXReference.nD Cert.ExchangeXReference.τ).loc Cert.ExchangeXReference.main_v49) = v1
          ∧ r.2.mem (((0 : Dev Cert.ExchangeXReference.nD).tc : Thread Cert.ExchangeXReference.nD Cert.ExchangeXReference.τ).loc Cert.ExchangeXReference.main_v74) = v2
          ∧ r.2.mem (((0 : Dev Cert.ExchangeXReference.nD).tc : Thread Cert.ExchangeXReference.nD Cert.ExchangeXReference.τ).loc Cert.ExchangeXReference.main_v99) = v3
          ∧ r.2.mem (((0 : Dev Cert.ExchangeXReference.nD).tc : Thread Cert.ExchangeXReference.nD Cert.ExchangeXReference.τ).loc Cert.ExchangeXReference.main_arg0) = m' (((0 : Dev Cert.ExchangeXReference.nD).tc : Thread Cert.ExchangeXReference.nD Cert.ExchangeXReference.τ).loc Cert.ExchangeXReference.main_arg0)
          ∧ r.2.mem (((0 : Dev Cert.ExchangeXReference.nD).tc : Thread Cert.ExchangeXReference.nD Cert.ExchangeXReference.τ).loc Cert.ExchangeXReference.main_arg1) = m' (((0 : Dev Cert.ExchangeXReference.nD).tc : Thread Cert.ExchangeXReference.nD Cert.ExchangeXReference.τ).loc Cert.ExchangeXReference.main_arg1)
          ∧ r.2.mem (((0 : Dev Cert.ExchangeXReference.nD).tc : Thread Cert.ExchangeXReference.nD Cert.ExchangeXReference.τ).loc Cert.ExchangeXReference.main_arg2) = m' (((0 : Dev Cert.ExchangeXReference.nD).tc : Thread Cert.ExchangeXReference.nD Cert.ExchangeXReference.τ).loc Cert.ExchangeXReference.main_arg2)
          ∧ r.2.mem (((0 : Dev Cert.ExchangeXReference.nD).tc : Thread Cert.ExchangeXReference.nD Cert.ExchangeXReference.τ).loc Cert.ExchangeXReference.main_arg3) = m' (((0 : Dev Cert.ExchangeXReference.nD).tc : Thread Cert.ExchangeXReference.nD Cert.ExchangeXReference.τ).loc Cert.ExchangeXReference.main_arg3))

def preserves_ExchangeY_ExchangeYIdeal : Prop :=
  True

def algebraic_ExchangeYIdeal_ExchangeYReferenceIdeal [hExchangeYIdeal : Cert.ExchangeYIdeal.Facts] [hExchangeYReferenceIdeal : Cert.ExchangeYReferenceIdeal.Facts] : Prop :=
  ∀ (m : (ℓ : Loc Cert.ExchangeYIdeal.nD Cert.ExchangeYIdeal.τ Cert.ExchangeYIdeal.sig) → Buf (Elt Ideal) ℓ) (g : Dev Cert.ExchangeYIdeal.nD → PrngReg)
    (m' : (ℓ : Loc Cert.ExchangeYReferenceIdeal.nD Cert.ExchangeYReferenceIdeal.τ Cert.ExchangeYReferenceIdeal.sig) → Buf (Elt Ideal) ℓ) (g' : Dev Cert.ExchangeYReferenceIdeal.nD → PrngReg), Pre_ExchangeYIdeal m →
    (∀ c : Dev Cert.ExchangeYIdeal.nD,
      m ((c.tc : Thread Cert.ExchangeYIdeal.nD Cert.ExchangeYIdeal.τ).loc Cert.ExchangeYIdeal.main_arg0) = Layout.block ⟨6, ![1, 1, 2, 1, 256, 1024]⟩ ⟨6, ![1, 8, 2, 1, 256, 1024]⟩ 1 8 c (m' (((0 : Dev Cert.ExchangeYReferenceIdeal.nD).tc : Thread Cert.ExchangeYReferenceIdeal.nD Cert.ExchangeYReferenceIdeal.τ).loc Cert.ExchangeYReferenceIdeal.main_arg0))
      ∧ m ((c.tc : Thread Cert.ExchangeYIdeal.nD Cert.ExchangeYIdeal.τ).loc Cert.ExchangeYIdeal.main_arg1) = Layout.block ⟨6, ![1, 1, 2, 1, 128, 1024]⟩ ⟨6, ![1, 8, 2, 1, 128, 1024]⟩ 1 8 c (m' (((0 : Dev Cert.ExchangeYReferenceIdeal.nD).tc : Thread Cert.ExchangeYReferenceIdeal.nD Cert.ExchangeYReferenceIdeal.τ).loc Cert.ExchangeYReferenceIdeal.main_arg1))
      ∧ m ((c.tc : Thread Cert.ExchangeYIdeal.nD Cert.ExchangeYIdeal.τ).loc Cert.ExchangeYIdeal.main_arg2) = Layout.block ⟨6, ![2, 1, 2, 1, 352, 1024]⟩ ⟨6, ![2, 8, 2, 1, 352, 1024]⟩ 1 8 c (m' (((0 : Dev Cert.ExchangeYReferenceIdeal.nD).tc : Thread Cert.ExchangeYReferenceIdeal.nD Cert.ExchangeYReferenceIdeal.τ).loc Cert.ExchangeYReferenceIdeal.main_arg2))
      ∧ m ((c.tc : Thread Cert.ExchangeYIdeal.nD Cert.ExchangeYIdeal.τ).loc Cert.ExchangeYIdeal.main_arg3) = Layout.block ⟨6, ![1, 1, 2, 1, 352, 1024]⟩ ⟨6, ![1, 8, 2, 1, 352, 1024]⟩ 1 8 c (m' (((0 : Dev Cert.ExchangeYReferenceIdeal.nD).tc : Thread Cert.ExchangeYReferenceIdeal.nD Cert.ExchangeYReferenceIdeal.τ).loc Cert.ExchangeYReferenceIdeal.main_arg3))) →
    ∃ (v0 : Buf (Elt Ideal) (((0 : Dev Cert.ExchangeYReferenceIdeal.nD).tc : Thread Cert.ExchangeYReferenceIdeal.nD Cert.ExchangeYReferenceIdeal.τ).loc Cert.ExchangeYReferenceIdeal.main_v24)) (v1 : Buf (Elt Ideal) (((0 : Dev Cert.ExchangeYReferenceIdeal.nD).tc : Thread Cert.ExchangeYReferenceIdeal.nD Cert.ExchangeYReferenceIdeal.τ).loc Cert.ExchangeYReferenceIdeal.main_v49)) (v2 : Buf (Elt Ideal) (((0 : Dev Cert.ExchangeYReferenceIdeal.nD).tc : Thread Cert.ExchangeYReferenceIdeal.nD Cert.ExchangeYReferenceIdeal.τ).loc Cert.ExchangeYReferenceIdeal.main_v74)) (v3 : Buf (Elt Ideal) (((0 : Dev Cert.ExchangeYReferenceIdeal.nD).tc : Thread Cert.ExchangeYReferenceIdeal.nD Cert.ExchangeYReferenceIdeal.τ).loc Cert.ExchangeYReferenceIdeal.main_v99)),
      θ_run (Cert.ExchangeYIdeal.defs (F := Ideal)) (onTc (τ := Cert.ExchangeYIdeal.τ) (Cert.ExchangeYIdeal.main (F := Ideal))) ⟨m, fun _ => 0, g⟩ (fun r => ∀ c : Dev Cert.ExchangeYIdeal.nD,
          r.2.mem ((c.tc : Thread Cert.ExchangeYIdeal.nD Cert.ExchangeYIdeal.τ).loc Cert.ExchangeYIdeal.main_v1_0) = Layout.block ⟨5, ![1, 1, 1, 256, 1024]⟩ ⟨5, ![1, 8, 1, 256, 1024]⟩ 1 8 c v0
          ∧ r.2.mem ((c.tc : Thread Cert.ExchangeYIdeal.nD Cert.ExchangeYIdeal.τ).loc Cert.ExchangeYIdeal.main_v1_1) = Layout.block ⟨5, ![1, 1, 1, 128, 1024]⟩ ⟨5, ![1, 8, 1, 128, 1024]⟩ 1 8 c v1
          ∧ r.2.mem ((c.tc : Thread Cert.ExchangeYIdeal.nD Cert.ExchangeYIdeal.τ).loc Cert.ExchangeYIdeal.main_v1_2) = Layout.block ⟨5, ![2, 1, 1, 352, 1024]⟩ ⟨5, ![2, 8, 1, 352, 1024]⟩ 1 8 c v2
          ∧ r.2.mem ((c.tc : Thread Cert.ExchangeYIdeal.nD Cert.ExchangeYIdeal.τ).loc Cert.ExchangeYIdeal.main_v1_3) = Layout.block ⟨5, ![1, 1, 1, 352, 1024]⟩ ⟨5, ![1, 8, 1, 352, 1024]⟩ 1 8 c v3
          ∧ r.2.mem ((c.tc : Thread Cert.ExchangeYIdeal.nD Cert.ExchangeYIdeal.τ).loc Cert.ExchangeYIdeal.main_arg0) = m ((c.tc : Thread Cert.ExchangeYIdeal.nD Cert.ExchangeYIdeal.τ).loc Cert.ExchangeYIdeal.main_arg0)
          ∧ r.2.mem ((c.tc : Thread Cert.ExchangeYIdeal.nD Cert.ExchangeYIdeal.τ).loc Cert.ExchangeYIdeal.main_arg1) = m ((c.tc : Thread Cert.ExchangeYIdeal.nD Cert.ExchangeYIdeal.τ).loc Cert.ExchangeYIdeal.main_arg1)
          ∧ r.2.mem ((c.tc : Thread Cert.ExchangeYIdeal.nD Cert.ExchangeYIdeal.τ).loc Cert.ExchangeYIdeal.main_arg2) = m ((c.tc : Thread Cert.ExchangeYIdeal.nD Cert.ExchangeYIdeal.τ).loc Cert.ExchangeYIdeal.main_arg2)
          ∧ r.2.mem ((c.tc : Thread Cert.ExchangeYIdeal.nD Cert.ExchangeYIdeal.τ).loc Cert.ExchangeYIdeal.main_arg3) = m ((c.tc : Thread Cert.ExchangeYIdeal.nD Cert.ExchangeYIdeal.τ).loc Cert.ExchangeYIdeal.main_arg3))
      ∧ θ_run (Cert.ExchangeYReferenceIdeal.defs (F := Ideal)) (onTc (τ := Cert.ExchangeYReferenceIdeal.τ) (Cert.ExchangeYReferenceIdeal.main (F := Ideal))) ⟨m', fun _ => 0, g'⟩ (fun r =>
          r.2.mem (((0 : Dev Cert.ExchangeYReferenceIdeal.nD).tc : Thread Cert.ExchangeYReferenceIdeal.nD Cert.ExchangeYReferenceIdeal.τ).loc Cert.ExchangeYReferenceIdeal.main_v24) = v0
          ∧ r.2.mem (((0 : Dev Cert.ExchangeYReferenceIdeal.nD).tc : Thread Cert.ExchangeYReferenceIdeal.nD Cert.ExchangeYReferenceIdeal.τ).loc Cert.ExchangeYReferenceIdeal.main_v49) = v1
          ∧ r.2.mem (((0 : Dev Cert.ExchangeYReferenceIdeal.nD).tc : Thread Cert.ExchangeYReferenceIdeal.nD Cert.ExchangeYReferenceIdeal.τ).loc Cert.ExchangeYReferenceIdeal.main_v74) = v2
          ∧ r.2.mem (((0 : Dev Cert.ExchangeYReferenceIdeal.nD).tc : Thread Cert.ExchangeYReferenceIdeal.nD Cert.ExchangeYReferenceIdeal.τ).loc Cert.ExchangeYReferenceIdeal.main_v99) = v3
          ∧ r.2.mem (((0 : Dev Cert.ExchangeYReferenceIdeal.nD).tc : Thread Cert.ExchangeYReferenceIdeal.nD Cert.ExchangeYReferenceIdeal.τ).loc Cert.ExchangeYReferenceIdeal.main_arg0) = m' (((0 : Dev Cert.ExchangeYReferenceIdeal.nD).tc : Thread Cert.ExchangeYReferenceIdeal.nD Cert.ExchangeYReferenceIdeal.τ).loc Cert.ExchangeYReferenceIdeal.main_arg0)
          ∧ r.2.mem (((0 : Dev Cert.ExchangeYReferenceIdeal.nD).tc : Thread Cert.ExchangeYReferenceIdeal.nD Cert.ExchangeYReferenceIdeal.τ).loc Cert.ExchangeYReferenceIdeal.main_arg1) = m' (((0 : Dev Cert.ExchangeYReferenceIdeal.nD).tc : Thread Cert.ExchangeYReferenceIdeal.nD Cert.ExchangeYReferenceIdeal.τ).loc Cert.ExchangeYReferenceIdeal.main_arg1)
          ∧ r.2.mem (((0 : Dev Cert.ExchangeYReferenceIdeal.nD).tc : Thread Cert.ExchangeYReferenceIdeal.nD Cert.ExchangeYReferenceIdeal.τ).loc Cert.ExchangeYReferenceIdeal.main_arg2) = m' (((0 : Dev Cert.ExchangeYReferenceIdeal.nD).tc : Thread Cert.ExchangeYReferenceIdeal.nD Cert.ExchangeYReferenceIdeal.τ).loc Cert.ExchangeYReferenceIdeal.main_arg2)
          ∧ r.2.mem (((0 : Dev Cert.ExchangeYReferenceIdeal.nD).tc : Thread Cert.ExchangeYReferenceIdeal.nD Cert.ExchangeYReferenceIdeal.τ).loc Cert.ExchangeYReferenceIdeal.main_arg3) = m' (((0 : Dev Cert.ExchangeYReferenceIdeal.nD).tc : Thread Cert.ExchangeYReferenceIdeal.nD Cert.ExchangeYReferenceIdeal.τ).loc Cert.ExchangeYReferenceIdeal.main_arg3))

def bitexact_ExchangeY_ExchangeYReference [hExchangeY : Cert.ExchangeY.Facts] [hExchangeYReference : Cert.ExchangeYReference.Facts] : Prop :=
  ∀ (m : (ℓ : Loc Cert.ExchangeY.nD Cert.ExchangeY.τ Cert.ExchangeY.sig) → Buf (Elt Bits) ℓ) (g : Dev Cert.ExchangeY.nD → PrngReg)
    (m' : (ℓ : Loc Cert.ExchangeYReference.nD Cert.ExchangeYReference.τ Cert.ExchangeYReference.sig) → Buf (Elt Bits) ℓ) (g' : Dev Cert.ExchangeYReference.nD → PrngReg), Pre_ExchangeY m →
    (∀ c : Dev Cert.ExchangeY.nD,
      m ((c.tc : Thread Cert.ExchangeY.nD Cert.ExchangeY.τ).loc Cert.ExchangeY.main_arg0) = Layout.block ⟨6, ![1, 1, 2, 1, 256, 1024]⟩ ⟨6, ![1, 8, 2, 1, 256, 1024]⟩ 1 8 c (m' (((0 : Dev Cert.ExchangeYReference.nD).tc : Thread Cert.ExchangeYReference.nD Cert.ExchangeYReference.τ).loc Cert.ExchangeYReference.main_arg0))
      ∧ m ((c.tc : Thread Cert.ExchangeY.nD Cert.ExchangeY.τ).loc Cert.ExchangeY.main_arg1) = Layout.block ⟨6, ![1, 1, 2, 1, 128, 1024]⟩ ⟨6, ![1, 8, 2, 1, 128, 1024]⟩ 1 8 c (m' (((0 : Dev Cert.ExchangeYReference.nD).tc : Thread Cert.ExchangeYReference.nD Cert.ExchangeYReference.τ).loc Cert.ExchangeYReference.main_arg1))
      ∧ m ((c.tc : Thread Cert.ExchangeY.nD Cert.ExchangeY.τ).loc Cert.ExchangeY.main_arg2) = Layout.block ⟨6, ![2, 1, 2, 1, 352, 1024]⟩ ⟨6, ![2, 8, 2, 1, 352, 1024]⟩ 1 8 c (m' (((0 : Dev Cert.ExchangeYReference.nD).tc : Thread Cert.ExchangeYReference.nD Cert.ExchangeYReference.τ).loc Cert.ExchangeYReference.main_arg2))
      ∧ m ((c.tc : Thread Cert.ExchangeY.nD Cert.ExchangeY.τ).loc Cert.ExchangeY.main_arg3) = Layout.block ⟨6, ![1, 1, 2, 1, 352, 1024]⟩ ⟨6, ![1, 8, 2, 1, 352, 1024]⟩ 1 8 c (m' (((0 : Dev Cert.ExchangeYReference.nD).tc : Thread Cert.ExchangeYReference.nD Cert.ExchangeYReference.τ).loc Cert.ExchangeYReference.main_arg3))) →
    ∃ (v0 : Buf (Elt Bits) (((0 : Dev Cert.ExchangeYReference.nD).tc : Thread Cert.ExchangeYReference.nD Cert.ExchangeYReference.τ).loc Cert.ExchangeYReference.main_v24)) (v1 : Buf (Elt Bits) (((0 : Dev Cert.ExchangeYReference.nD).tc : Thread Cert.ExchangeYReference.nD Cert.ExchangeYReference.τ).loc Cert.ExchangeYReference.main_v49)) (v2 : Buf (Elt Bits) (((0 : Dev Cert.ExchangeYReference.nD).tc : Thread Cert.ExchangeYReference.nD Cert.ExchangeYReference.τ).loc Cert.ExchangeYReference.main_v74)) (v3 : Buf (Elt Bits) (((0 : Dev Cert.ExchangeYReference.nD).tc : Thread Cert.ExchangeYReference.nD Cert.ExchangeYReference.τ).loc Cert.ExchangeYReference.main_v99)),
      θ_run (Cert.ExchangeY.defs (F := Bits)) (onTc (τ := Cert.ExchangeY.τ) (Cert.ExchangeY.main (F := Bits))) ⟨m, fun _ => 0, g⟩ (fun r => ∀ c : Dev Cert.ExchangeY.nD,
          r.2.mem ((c.tc : Thread Cert.ExchangeY.nD Cert.ExchangeY.τ).loc Cert.ExchangeY.main_v1_0) = Layout.block ⟨5, ![1, 1, 1, 256, 1024]⟩ ⟨5, ![1, 8, 1, 256, 1024]⟩ 1 8 c v0
          ∧ r.2.mem ((c.tc : Thread Cert.ExchangeY.nD Cert.ExchangeY.τ).loc Cert.ExchangeY.main_v1_1) = Layout.block ⟨5, ![1, 1, 1, 128, 1024]⟩ ⟨5, ![1, 8, 1, 128, 1024]⟩ 1 8 c v1
          ∧ r.2.mem ((c.tc : Thread Cert.ExchangeY.nD Cert.ExchangeY.τ).loc Cert.ExchangeY.main_v1_2) = Layout.block ⟨5, ![2, 1, 1, 352, 1024]⟩ ⟨5, ![2, 8, 1, 352, 1024]⟩ 1 8 c v2
          ∧ r.2.mem ((c.tc : Thread Cert.ExchangeY.nD Cert.ExchangeY.τ).loc Cert.ExchangeY.main_v1_3) = Layout.block ⟨5, ![1, 1, 1, 352, 1024]⟩ ⟨5, ![1, 8, 1, 352, 1024]⟩ 1 8 c v3
          ∧ r.2.mem ((c.tc : Thread Cert.ExchangeY.nD Cert.ExchangeY.τ).loc Cert.ExchangeY.main_arg0) = m ((c.tc : Thread Cert.ExchangeY.nD Cert.ExchangeY.τ).loc Cert.ExchangeY.main_arg0)
          ∧ r.2.mem ((c.tc : Thread Cert.ExchangeY.nD Cert.ExchangeY.τ).loc Cert.ExchangeY.main_arg1) = m ((c.tc : Thread Cert.ExchangeY.nD Cert.ExchangeY.τ).loc Cert.ExchangeY.main_arg1)
          ∧ r.2.mem ((c.tc : Thread Cert.ExchangeY.nD Cert.ExchangeY.τ).loc Cert.ExchangeY.main_arg2) = m ((c.tc : Thread Cert.ExchangeY.nD Cert.ExchangeY.τ).loc Cert.ExchangeY.main_arg2)
          ∧ r.2.mem ((c.tc : Thread Cert.ExchangeY.nD Cert.ExchangeY.τ).loc Cert.ExchangeY.main_arg3) = m ((c.tc : Thread Cert.ExchangeY.nD Cert.ExchangeY.τ).loc Cert.ExchangeY.main_arg3))
      ∧ θ_run (Cert.ExchangeYReference.defs (F := Bits)) (onTc (τ := Cert.ExchangeYReference.τ) (Cert.ExchangeYReference.main (F := Bits))) ⟨m', fun _ => 0, g'⟩ (fun r =>
          r.2.mem (((0 : Dev Cert.ExchangeYReference.nD).tc : Thread Cert.ExchangeYReference.nD Cert.ExchangeYReference.τ).loc Cert.ExchangeYReference.main_v24) = v0
          ∧ r.2.mem (((0 : Dev Cert.ExchangeYReference.nD).tc : Thread Cert.ExchangeYReference.nD Cert.ExchangeYReference.τ).loc Cert.ExchangeYReference.main_v49) = v1
          ∧ r.2.mem (((0 : Dev Cert.ExchangeYReference.nD).tc : Thread Cert.ExchangeYReference.nD Cert.ExchangeYReference.τ).loc Cert.ExchangeYReference.main_v74) = v2
          ∧ r.2.mem (((0 : Dev Cert.ExchangeYReference.nD).tc : Thread Cert.ExchangeYReference.nD Cert.ExchangeYReference.τ).loc Cert.ExchangeYReference.main_v99) = v3
          ∧ r.2.mem (((0 : Dev Cert.ExchangeYReference.nD).tc : Thread Cert.ExchangeYReference.nD Cert.ExchangeYReference.τ).loc Cert.ExchangeYReference.main_arg0) = m' (((0 : Dev Cert.ExchangeYReference.nD).tc : Thread Cert.ExchangeYReference.nD Cert.ExchangeYReference.τ).loc Cert.ExchangeYReference.main_arg0)
          ∧ r.2.mem (((0 : Dev Cert.ExchangeYReference.nD).tc : Thread Cert.ExchangeYReference.nD Cert.ExchangeYReference.τ).loc Cert.ExchangeYReference.main_arg1) = m' (((0 : Dev Cert.ExchangeYReference.nD).tc : Thread Cert.ExchangeYReference.nD Cert.ExchangeYReference.τ).loc Cert.ExchangeYReference.main_arg1)
          ∧ r.2.mem (((0 : Dev Cert.ExchangeYReference.nD).tc : Thread Cert.ExchangeYReference.nD Cert.ExchangeYReference.τ).loc Cert.ExchangeYReference.main_arg2) = m' (((0 : Dev Cert.ExchangeYReference.nD).tc : Thread Cert.ExchangeYReference.nD Cert.ExchangeYReference.τ).loc Cert.ExchangeYReference.main_arg2)
          ∧ r.2.mem (((0 : Dev Cert.ExchangeYReference.nD).tc : Thread Cert.ExchangeYReference.nD Cert.ExchangeYReference.τ).loc Cert.ExchangeYReference.main_arg3) = m' (((0 : Dev Cert.ExchangeYReference.nD).tc : Thread Cert.ExchangeYReference.nD Cert.ExchangeYReference.τ).loc Cert.ExchangeYReference.main_arg3))

def preserves_GatherMod_GatherModIdeal : Prop :=
  True

def algebraic_GatherModIdeal_GatherModReferenceIdeal [hGatherModIdeal : Cert.GatherModIdeal.Facts] [hGatherModReferenceIdeal : Cert.GatherModReferenceIdeal.Facts] : Prop :=
  ∀ (m : (ℓ : Loc Cert.GatherModIdeal.nD Cert.GatherModIdeal.τ Cert.GatherModIdeal.sig) → Buf (Elt Ideal) ℓ) (g : Dev Cert.GatherModIdeal.nD → PrngReg)
    (m' : (ℓ : Loc Cert.GatherModReferenceIdeal.nD Cert.GatherModReferenceIdeal.τ Cert.GatherModReferenceIdeal.sig) → Buf (Elt Ideal) ℓ) (g' : Dev Cert.GatherModReferenceIdeal.nD → PrngReg), Pre_GatherModIdeal m →
    (∀ c : Dev Cert.GatherModIdeal.nD,
      m ((c.tc : Thread Cert.GatherModIdeal.nD Cert.GatherModIdeal.τ).loc Cert.GatherModIdeal.main_arg0) = Layout.block ⟨2, ![16, 768]⟩ ⟨2, ![128, 768]⟩ 0 8 c (m' (((0 : Dev Cert.GatherModReferenceIdeal.nD).tc : Thread Cert.GatherModReferenceIdeal.nD Cert.GatherModReferenceIdeal.τ).loc Cert.GatherModReferenceIdeal.main_arg0))) →
    ∃ (v0 : Buf (Elt Ideal) (((0 : Dev Cert.GatherModReferenceIdeal.nD).tc : Thread Cert.GatherModReferenceIdeal.nD Cert.GatherModReferenceIdeal.τ).loc Cert.GatherModReferenceIdeal.main_v0)),
      θ_run (Cert.GatherModIdeal.defs (F := Ideal)) (onTc (τ := Cert.GatherModIdeal.τ) (Cert.GatherModIdeal.main (F := Ideal))) ⟨m, fun _ => 0, g⟩ (fun r => ∀ c : Dev Cert.GatherModIdeal.nD,
          r.2.mem ((c.tc : Thread Cert.GatherModIdeal.nD Cert.GatherModIdeal.τ).loc Cert.GatherModIdeal.main_v1) = v0
          ∧ r.2.mem ((c.tc : Thread Cert.GatherModIdeal.nD Cert.GatherModIdeal.τ).loc Cert.GatherModIdeal.main_arg0) = m ((c.tc : Thread Cert.GatherModIdeal.nD Cert.GatherModIdeal.τ).loc Cert.GatherModIdeal.main_arg0))
      ∧ θ_run (Cert.GatherModReferenceIdeal.defs (F := Ideal)) (onTc (τ := Cert.GatherModReferenceIdeal.τ) (Cert.GatherModReferenceIdeal.main (F := Ideal))) ⟨m', fun _ => 0, g'⟩ (fun r =>
          r.2.mem (((0 : Dev Cert.GatherModReferenceIdeal.nD).tc : Thread Cert.GatherModReferenceIdeal.nD Cert.GatherModReferenceIdeal.τ).loc Cert.GatherModReferenceIdeal.main_v0) = v0
          ∧ r.2.mem (((0 : Dev Cert.GatherModReferenceIdeal.nD).tc : Thread Cert.GatherModReferenceIdeal.nD Cert.GatherModReferenceIdeal.τ).loc Cert.GatherModReferenceIdeal.main_arg0) = m' (((0 : Dev Cert.GatherModReferenceIdeal.nD).tc : Thread Cert.GatherModReferenceIdeal.nD Cert.GatherModReferenceIdeal.τ).loc Cert.GatherModReferenceIdeal.main_arg0))

def bitexact_GatherMod_GatherModReference [hGatherMod : Cert.GatherMod.Facts] [hGatherModReference : Cert.GatherModReference.Facts] : Prop :=
  ∀ (m : (ℓ : Loc Cert.GatherMod.nD Cert.GatherMod.τ Cert.GatherMod.sig) → Buf (Elt Bits) ℓ) (g : Dev Cert.GatherMod.nD → PrngReg)
    (m' : (ℓ : Loc Cert.GatherModReference.nD Cert.GatherModReference.τ Cert.GatherModReference.sig) → Buf (Elt Bits) ℓ) (g' : Dev Cert.GatherModReference.nD → PrngReg), Pre_GatherMod m →
    (∀ c : Dev Cert.GatherMod.nD,
      m ((c.tc : Thread Cert.GatherMod.nD Cert.GatherMod.τ).loc Cert.GatherMod.main_arg0) = Layout.block ⟨2, ![16, 768]⟩ ⟨2, ![128, 768]⟩ 0 8 c (m' (((0 : Dev Cert.GatherModReference.nD).tc : Thread Cert.GatherModReference.nD Cert.GatherModReference.τ).loc Cert.GatherModReference.main_arg0))) →
    ∃ (v0 : Buf (Elt Bits) (((0 : Dev Cert.GatherModReference.nD).tc : Thread Cert.GatherModReference.nD Cert.GatherModReference.τ).loc Cert.GatherModReference.main_v0)),
      θ_run (Cert.GatherMod.defs (F := Bits)) (onTc (τ := Cert.GatherMod.τ) (Cert.GatherMod.main (F := Bits))) ⟨m, fun _ => 0, g⟩ (fun r => ∀ c : Dev Cert.GatherMod.nD,
          r.2.mem ((c.tc : Thread Cert.GatherMod.nD Cert.GatherMod.τ).loc Cert.GatherMod.main_v1) = v0
          ∧ r.2.mem ((c.tc : Thread Cert.GatherMod.nD Cert.GatherMod.τ).loc Cert.GatherMod.main_arg0) = m ((c.tc : Thread Cert.GatherMod.nD Cert.GatherMod.τ).loc Cert.GatherMod.main_arg0))
      ∧ θ_run (Cert.GatherModReference.defs (F := Bits)) (onTc (τ := Cert.GatherModReference.τ) (Cert.GatherModReference.main (F := Bits))) ⟨m', fun _ => 0, g'⟩ (fun r =>
          r.2.mem (((0 : Dev Cert.GatherModReference.nD).tc : Thread Cert.GatherModReference.nD Cert.GatherModReference.τ).loc Cert.GatherModReference.main_v0) = v0
          ∧ r.2.mem (((0 : Dev Cert.GatherModReference.nD).tc : Thread Cert.GatherModReference.nD Cert.GatherModReference.τ).loc Cert.GatherModReference.main_arg0) = m' (((0 : Dev Cert.GatherModReference.nD).tc : Thread Cert.GatherModReference.nD Cert.GatherModReference.τ).loc Cert.GatherModReference.main_arg0))

def preserves_GatherSmall_GatherSmallIdeal : Prop :=
  True

def algebraic_GatherSmallIdeal_GatherSmallReferenceIdeal [hGatherSmallIdeal : Cert.GatherSmallIdeal.Facts] [hGatherSmallReferenceIdeal : Cert.GatherSmallReferenceIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallReferenceIdeal.nD Cert.GatherSmallReferenceIdeal.τ Cert.GatherSmallReferenceIdeal.sig) → Buf (Elt Ideal) ℓ) (g' : Dev Cert.GatherSmallReferenceIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![84, 1024]⟩ ⟨2, ![672, 1024]⟩ 0 8 c (m' (((0 : Dev Cert.GatherSmallReferenceIdeal.nD).tc : Thread Cert.GatherSmallReferenceIdeal.nD Cert.GatherSmallReferenceIdeal.τ).loc Cert.GatherSmallReferenceIdeal.main_arg0))) →
    ∃ (v0 : Buf (Elt Ideal) (((0 : Dev Cert.GatherSmallReferenceIdeal.nD).tc : Thread Cert.GatherSmallReferenceIdeal.nD Cert.GatherSmallReferenceIdeal.τ).loc Cert.GatherSmallReferenceIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallReferenceIdeal.defs (F := Ideal)) (onTc (τ := Cert.GatherSmallReferenceIdeal.τ) (Cert.GatherSmallReferenceIdeal.main (F := Ideal))) ⟨m', fun _ => 0, g'⟩ (fun r =>
          r.2.mem (((0 : Dev Cert.GatherSmallReferenceIdeal.nD).tc : Thread Cert.GatherSmallReferenceIdeal.nD Cert.GatherSmallReferenceIdeal.τ).loc Cert.GatherSmallReferenceIdeal.main_v0) = v0
          ∧ r.2.mem (((0 : Dev Cert.GatherSmallReferenceIdeal.nD).tc : Thread Cert.GatherSmallReferenceIdeal.nD Cert.GatherSmallReferenceIdeal.τ).loc Cert.GatherSmallReferenceIdeal.main_arg0) = m' (((0 : Dev Cert.GatherSmallReferenceIdeal.nD).tc : Thread Cert.GatherSmallReferenceIdeal.nD Cert.GatherSmallReferenceIdeal.τ).loc Cert.GatherSmallReferenceIdeal.main_arg0))

def bitexact_GatherSmall_GatherSmallReference [hGatherSmall : Cert.GatherSmall.Facts] [hGatherSmallReference : Cert.GatherSmallReference.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallReference.nD Cert.GatherSmallReference.τ Cert.GatherSmallReference.sig) → Buf (Elt Bits) ℓ) (g' : Dev Cert.GatherSmallReference.nD → PrngReg), Pre_GatherSmall m →
    (∀ c : Dev Cert.GatherSmall.nD,
      m ((c.tc : Thread Cert.GatherSmall.nD Cert.GatherSmall.τ).loc Cert.GatherSmall.main_arg0) = Layout.block ⟨2, ![84, 1024]⟩ ⟨2, ![672, 1024]⟩ 0 8 c (m' (((0 : Dev Cert.GatherSmallReference.nD).tc : Thread Cert.GatherSmallReference.nD Cert.GatherSmallReference.τ).loc Cert.GatherSmallReference.main_arg0))) →
    ∃ (v0 : Buf (Elt Bits) (((0 : Dev Cert.GatherSmallReference.nD).tc : Thread Cert.GatherSmallReference.nD Cert.GatherSmallReference.τ).loc Cert.GatherSmallReference.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallReference.defs (F := Bits)) (onTc (τ := Cert.GatherSmallReference.τ) (Cert.GatherSmallReference.main (F := Bits))) ⟨m', fun _ => 0, g'⟩ (fun r =>
          r.2.mem (((0 : Dev Cert.GatherSmallReference.nD).tc : Thread Cert.GatherSmallReference.nD Cert.GatherSmallReference.τ).loc Cert.GatherSmallReference.main_v0) = v0
          ∧ r.2.mem (((0 : Dev Cert.GatherSmallReference.nD).tc : Thread Cert.GatherSmallReference.nD Cert.GatherSmallReference.τ).loc Cert.GatherSmallReference.main_arg0) = m' (((0 : Dev Cert.GatherSmallReference.nD).tc : Thread Cert.GatherSmallReference.nD Cert.GatherSmallReference.τ).loc Cert.GatherSmallReference.main_arg0))

def preserves_AdamCond_AdamCondIdeal : Prop :=
  True

def algebraic_AdamCondIdeal_AdamCondReferenceIdeal [hAdamCondIdeal : Cert.AdamCondIdeal.Facts] [hAdamCondReferenceIdeal : Cert.AdamCondReferenceIdeal.Facts] : Prop :=
  ∀ (m : (ℓ : Loc Cert.AdamCondIdeal.nD Cert.AdamCondIdeal.τ Cert.AdamCondIdeal.sig) → Buf (Elt Ideal) ℓ) (g : Dev Cert.AdamCondIdeal.nD → PrngReg)
    (m' : (ℓ : Loc Cert.AdamCondReferenceIdeal.nD Cert.AdamCondReferenceIdeal.τ Cert.AdamCondReferenceIdeal.sig) → Buf (Elt Ideal) ℓ) (g' : Dev Cert.AdamCondReferenceIdeal.nD → PrngReg), Pre_AdamCondIdeal m →
    (∀ c : Dev Cert.AdamCondIdeal.nD,
      m' ((c.tc : Thread Cert.AdamCondReferenceIdeal.nD Cert.AdamCondReferenceIdeal.τ).loc Cert.AdamCondReferenceIdeal.main_arg0) = m ((c.tc : Thread Cert.AdamCondIdeal.nD Cert.AdamCondIdeal.τ).loc Cert.AdamCondIdeal.main_arg0)
      ∧ m' ((c.tc : Thread Cert.AdamCondReferenceIdeal.nD Cert.AdamCondReferenceIdeal.τ).loc Cert.AdamCondReferenceIdeal.main_arg1) = m ((c.tc : Thread Cert.AdamCondIdeal.nD Cert.AdamCondIdeal.τ).loc Cert.AdamCondIdeal.main_arg1)
      ∧ m' ((c.tc : Thread Cert.AdamCondReferenceIdeal.nD Cert.AdamCondReferenceIdeal.τ).loc Cert.AdamCondReferenceIdeal.main_arg2) = m ((c.tc : Thread Cert.AdamCondIdeal.nD Cert.AdamCondIdeal.τ).loc Cert.AdamCondIdeal.main_arg2)
      ∧ m' ((c.tc : Thread Cert.AdamCondReferenceIdeal.nD Cert.AdamCondReferenceIdeal.τ).loc Cert.AdamCondReferenceIdeal.main_arg3) = m ((c.tc : Thread Cert.AdamCondIdeal.nD Cert.AdamCondIdeal.τ).loc Cert.AdamCondIdeal.main_arg3)) →
    ∃ (v0 : (c : Dev Cert.AdamCondIdeal.nD) → Buf (Elt Ideal) ((c.tc : Thread Cert.AdamCondIdeal.nD Cert.AdamCondIdeal.τ).loc Cert.AdamCondIdeal.main_v0_0)) (v1 : (c : Dev Cert.AdamCondIdeal.nD) → Buf (Elt Ideal) ((c.tc : Thread Cert.AdamCondIdeal.nD Cert.AdamCondIdeal.τ).loc Cert.AdamCondIdeal.main_v0_1)) (v2 : (c : Dev Cert.AdamCondIdeal.nD) → Buf (Elt Ideal) ((c.tc : Thread Cert.AdamCondIdeal.nD Cert.AdamCondIdeal.τ).loc Cert.AdamCondIdeal.main_v0_2)),
      θ_run (Cert.AdamCondIdeal.defs (F := Ideal)) (onTc (τ := Cert.AdamCondIdeal.τ) (Cert.AdamCondIdeal.main (F := Ideal))) ⟨m, fun _ => 0, g⟩ (fun r => ∀ c : Dev Cert.AdamCondIdeal.nD,
          r.2.mem ((c.tc : Thread Cert.AdamCondIdeal.nD Cert.AdamCondIdeal.τ).loc Cert.AdamCondIdeal.main_v0_0) = v0 c
          ∧ r.2.mem ((c.tc : Thread Cert.AdamCondIdeal.nD Cert.AdamCondIdeal.τ).loc Cert.AdamCondIdeal.main_v0_1) = v1 c
          ∧ r.2.mem ((c.tc : Thread Cert.AdamCondIdeal.nD Cert.AdamCondIdeal.τ).loc Cert.AdamCondIdeal.main_v0_2) = v2 c
          ∧ r.2.mem ((c.tc : Thread Cert.AdamCondIdeal.nD Cert.AdamCondIdeal.τ).loc Cert.AdamCondIdeal.main_arg0) = m ((c.tc : Thread Cert.AdamCondIdeal.nD Cert.AdamCondIdeal.τ).loc Cert.AdamCondIdeal.main_arg0)
          ∧ r.2.mem ((c.tc : Thread Cert.AdamCondIdeal.nD Cert.AdamCondIdeal.τ).loc Cert.AdamCondIdeal.main_arg1) = m ((c.tc : Thread Cert.AdamCondIdeal.nD Cert.AdamCondIdeal.τ).loc Cert.AdamCondIdeal.main_arg1)
          ∧ r.2.mem ((c.tc : Thread Cert.AdamCondIdeal.nD Cert.AdamCondIdeal.τ).loc Cert.AdamCondIdeal.main_arg2) = m ((c.tc : Thread Cert.AdamCondIdeal.nD Cert.AdamCondIdeal.τ).loc Cert.AdamCondIdeal.main_arg2)
          ∧ r.2.mem ((c.tc : Thread Cert.AdamCondIdeal.nD Cert.AdamCondIdeal.τ).loc Cert.AdamCondIdeal.main_arg3) = m ((c.tc : Thread Cert.AdamCondIdeal.nD Cert.AdamCondIdeal.τ).loc Cert.AdamCondIdeal.main_arg3))
      ∧ θ_run (Cert.AdamCondReferenceIdeal.defs (F := Ideal)) (onTc (τ := Cert.AdamCondReferenceIdeal.τ) (Cert.AdamCondReferenceIdeal.main (F := Ideal))) ⟨m', fun _ => 0, g'⟩ (fun r => ∀ c : Dev Cert.AdamCondReferenceIdeal.nD,
          r.2.mem ((c.tc : Thread Cert.AdamCondReferenceIdeal.nD Cert.AdamCondReferenceIdeal.τ).loc Cert.AdamCondReferenceIdeal.main_v23) = v0 c
          ∧ r.2.mem ((c.tc : Thread Cert.AdamCondReferenceIdeal.nD Cert.AdamCondReferenceIdeal.τ).loc Cert.AdamCondReferenceIdeal.main_v4) = v1 c
          ∧ r.2.mem ((c.tc : Thread Cert.AdamCondReferenceIdeal.nD Cert.AdamCondReferenceIdeal.τ).loc Cert.AdamCondReferenceIdeal.main_v10) = v2 c
          ∧ r.2.mem ((c.tc : Thread Cert.AdamCondReferenceIdeal.nD Cert.AdamCondReferenceIdeal.τ).loc Cert.AdamCondReferenceIdeal.main_arg0) = m' ((c.tc : Thread Cert.AdamCondReferenceIdeal.nD Cert.AdamCondReferenceIdeal.τ).loc Cert.AdamCondReferenceIdeal.main_arg0)
          ∧ r.2.mem ((c.tc : Thread Cert.AdamCondReferenceIdeal.nD Cert.AdamCondReferenceIdeal.τ).loc Cert.AdamCondReferenceIdeal.main_arg1) = m' ((c.tc : Thread Cert.AdamCondReferenceIdeal.nD Cert.AdamCondReferenceIdeal.τ).loc Cert.AdamCondReferenceIdeal.main_arg1)
          ∧ r.2.mem ((c.tc : Thread Cert.AdamCondReferenceIdeal.nD Cert.AdamCondReferenceIdeal.τ).loc Cert.AdamCondReferenceIdeal.main_arg2) = m' ((c.tc : Thread Cert.AdamCondReferenceIdeal.nD Cert.AdamCondReferenceIdeal.τ).loc Cert.AdamCondReferenceIdeal.main_arg2)
          ∧ r.2.mem ((c.tc : Thread Cert.AdamCondReferenceIdeal.nD Cert.AdamCondReferenceIdeal.τ).loc Cert.AdamCondReferenceIdeal.main_arg3) = m' ((c.tc : Thread Cert.AdamCondReferenceIdeal.nD Cert.AdamCondReferenceIdeal.τ).loc Cert.AdamCondReferenceIdeal.main_arg3))

def preserves_AdamBias_AdamBiasIdeal : Prop :=
  True

def algebraic_AdamBiasIdeal_AdamBiasReferenceIdeal [hAdamBiasIdeal : Cert.AdamBiasIdeal.Facts] [hAdamBiasReferenceIdeal : Cert.AdamBiasReferenceIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasReferenceIdeal.nD Cert.AdamBiasReferenceIdeal.τ Cert.AdamBiasReferenceIdeal.sig) → Buf (Elt Ideal) ℓ) (g' : Dev Cert.AdamBiasReferenceIdeal.nD → PrngReg), Pre_AdamBiasIdeal m →
    (∀ c : Dev Cert.AdamBiasIdeal.nD,
      m' ((c.tc : Thread Cert.AdamBiasReferenceIdeal.nD Cert.AdamBiasReferenceIdeal.τ).loc Cert.AdamBiasReferenceIdeal.main_arg0) = m ((c.tc : Thread Cert.AdamBiasIdeal.nD Cert.AdamBiasIdeal.τ).loc Cert.AdamBiasIdeal.main_arg0)
      ∧ m' ((c.tc : Thread Cert.AdamBiasReferenceIdeal.nD Cert.AdamBiasReferenceIdeal.τ).loc Cert.AdamBiasReferenceIdeal.main_arg1) = m ((c.tc : Thread Cert.AdamBiasIdeal.nD Cert.AdamBiasIdeal.τ).loc Cert.AdamBiasIdeal.main_arg1)
      ∧ m' ((c.tc : Thread Cert.AdamBiasReferenceIdeal.nD Cert.AdamBiasReferenceIdeal.τ).loc Cert.AdamBiasReferenceIdeal.main_arg2) = m ((c.tc : Thread Cert.AdamBiasIdeal.nD Cert.AdamBiasIdeal.τ).loc Cert.AdamBiasIdeal.main_arg2)
      ∧ m' ((c.tc : Thread Cert.AdamBiasReferenceIdeal.nD Cert.AdamBiasReferenceIdeal.τ).loc Cert.AdamBiasReferenceIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasReferenceIdeal.defs (F := Ideal)) (onTc (τ := Cert.AdamBiasReferenceIdeal.τ) (Cert.AdamBiasReferenceIdeal.main (F := Ideal))) ⟨m', fun _ => 0, g'⟩ (fun r => ∀ c : Dev Cert.AdamBiasReferenceIdeal.nD,
          r.2.mem ((c.tc : Thread Cert.AdamBiasReferenceIdeal.nD Cert.AdamBiasReferenceIdeal.τ).loc Cert.AdamBiasReferenceIdeal.main_v23) = v0 c
          ∧ r.2.mem ((c.tc : Thread Cert.AdamBiasReferenceIdeal.nD Cert.AdamBiasReferenceIdeal.τ).loc Cert.AdamBiasReferenceIdeal.main_v4) = v1 c
          ∧ r.2.mem ((c.tc : Thread Cert.AdamBiasReferenceIdeal.nD Cert.AdamBiasReferenceIdeal.τ).loc Cert.AdamBiasReferenceIdeal.main_v10) = v2 c
          ∧ r.2.mem ((c.tc : Thread Cert.AdamBiasReferenceIdeal.nD Cert.AdamBiasReferenceIdeal.τ).loc Cert.AdamBiasReferenceIdeal.main_arg0) = m' ((c.tc : Thread Cert.AdamBiasReferenceIdeal.nD Cert.AdamBiasReferenceIdeal.τ).loc Cert.AdamBiasReferenceIdeal.main_arg0)
          ∧ r.2.mem ((c.tc : Thread Cert.AdamBiasReferenceIdeal.nD Cert.AdamBiasReferenceIdeal.τ).loc Cert.AdamBiasReferenceIdeal.main_arg1) = m' ((c.tc : Thread Cert.AdamBiasReferenceIdeal.nD Cert.AdamBiasReferenceIdeal.τ).loc Cert.AdamBiasReferenceIdeal.main_arg1)
          ∧ r.2.mem ((c.tc : Thread Cert.AdamBiasReferenceIdeal.nD Cert.AdamBiasReferenceIdeal.τ).loc Cert.AdamBiasReferenceIdeal.main_arg2) = m' ((c.tc : Thread Cert.AdamBiasReferenceIdeal.nD Cert.AdamBiasReferenceIdeal.τ).loc Cert.AdamBiasReferenceIdeal.main_arg2)
          ∧ r.2.mem ((c.tc : Thread Cert.AdamBiasReferenceIdeal.nD Cert.AdamBiasReferenceIdeal.τ).loc Cert.AdamBiasReferenceIdeal.main_arg3) = m' ((c.tc : Thread Cert.AdamBiasReferenceIdeal.nD Cert.AdamBiasReferenceIdeal.τ).loc Cert.AdamBiasReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamGate_AdamGateIdeal : Prop :=
  True

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v23) = v0 c
          ∧ r.2.mem ((c.tc : Thread Cert.AdamGateReferenceIdeal.nD Cert.AdamGateReferenceIdeal.τ).loc Cert.AdamGateReferenceIdeal.main_v4) = v1 c
          ∧ r.2.mem ((c.tc : Thread Cert.AdamGateReferenceIdeal.nD Cert.AdamGateReferenceIdeal.τ).loc Cert.AdamGateReferenceIdeal.main_v10) = v2 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)
      ∧ m' ((c.tc : Thread Cert.AdamSmallReferenceIdeal.nD Cert.AdamSmallReferenceIdeal.τ).loc Cert.AdamSmallReferenceIdeal.main_arg13) = m ((c.tc : Thread Cert.AdamSmallIdeal.nD Cert.AdamSmallIdeal.τ).loc Cert.AdamSmallIdeal.main_arg13)
      ∧ m' ((c.tc : Thread Cert.AdamSmallReferenceIdeal.nD Cert.AdamSmallReferenceIdeal.τ).loc Cert.AdamSmallReferenceIdeal.main_arg14) = m ((c.tc : Thread Cert.AdamSmallIdeal.nD Cert.AdamSmallIdeal.τ).loc Cert.AdamSmallIdeal.main_arg14)
      ∧ m' ((c.tc : Thread Cert.AdamSmallReferenceIdeal.nD Cert.AdamSmallReferenceIdeal.τ).loc Cert.AdamSmallReferenceIdeal.main_arg15) = m ((c.tc : Thread Cert.AdamSmallIdeal.nD Cert.AdamSmallIdeal.τ).loc Cert.AdamSmallIdeal.main_arg15)
      ∧ m' ((c.tc : Thread Cert.AdamSmallReferenceIdeal.nD Cert.AdamSmallReferenceIdeal.τ).loc Cert.AdamSmallReferenceIdeal.main_arg16) = m ((c.tc : Thread Cert.AdamSmallIdeal.nD Cert.AdamSmallIdeal.τ).loc Cert.AdamSmallIdeal.main_arg16)
      ∧ m' ((c.tc : Thread Cert.AdamSmallReferenceIdeal.nD Cert.AdamSmallReferenceIdeal.τ).loc Cert.AdamSmallReferenceIdeal.main_arg17) = m ((c.tc : Thread Cert.AdamSmallIdeal.nD Cert.AdamSmallIdeal.τ).loc Cert.AdamSmallIdeal.main_arg17)
      ∧ m' ((c.tc : Thread Cert.AdamSmallReferenceIdeal.nD Cert.AdamSmallReferenceIdeal.τ).loc Cert.AdamSmallReferenceIdeal.main_arg18) = m ((c.tc : Thread Cert.AdamSmallIdeal.nD Cert.AdamSmallIdeal.τ).loc Cert.AdamSmallIdeal.main_arg18)
      ∧ m' ((c.tc : Thread Cert.AdamSmallReferenceIdeal.nD Cert.AdamSmallReferenceIdeal.τ).loc Cert.AdamSmallReferenceIdeal.main_arg19) = m ((c.tc : Thread Cert.AdamSmallIdeal.nD Cert.AdamSmallIdeal.τ).loc Cert.AdamSmallIdeal.main_arg19)
      ∧ m' ((c.tc : Thread Cert.AdamSmallReferenceIdeal.nD Cert.AdamSmallReferenceIdeal.τ).loc Cert.AdamSmallReferenceIdeal.main_arg20) = m ((c.tc : Thread Cert.AdamSmallIdeal.nD Cert.AdamSmallIdeal.τ).loc Cert.AdamSmallIdeal.main_arg20)
      ∧ m' ((c.tc : Thread Cert.AdamSmallReferenceIdeal.nD Cert.AdamSmallReferenceIdeal.τ).loc Cert.AdamSmallReferenceIdeal.main_arg21) = m ((c.tc : Thread Cert.AdamSmallIdeal.nD Cert.AdamSmallIdeal.τ).loc Cert.AdamSmallIdeal.main_arg21)
      ∧ m' ((c.tc : Thread Cert.AdamSmallReferenceIdeal.nD Cert.AdamSmallReferenceIdeal.τ).loc Cert.AdamSmallReferenceIdeal.main_arg22) = m ((c.tc : Thread Cert.AdamSmallIdeal.nD Cert.AdamSmallIdeal.τ).loc Cert.AdamSmallIdeal.main_arg22)
      ∧ m' ((c.tc : Thread Cert.AdamSmallReferenceIdeal.nD Cert.AdamSmallReferenceIdeal.τ).loc Cert.AdamSmallReferenceIdeal.main_arg23) = m ((c.tc : Thread Cert.AdamSmallIdeal.nD Cert.AdamSmallIdeal.τ).loc Cert.AdamSmallIdeal.main_arg23)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v1) = v1 c
          ∧ r.2.mem ((c.tc : Thread Cert.AdamSmallReferenceIdeal.nD Cert.AdamSmallReferenceIdeal.τ).loc Cert.AdamSmallReferenceIdeal.main_v2) = v2 c
          ∧ r.2.mem ((c.tc : Thread Cert.AdamSmallReferenceIdeal.nD Cert.AdamSmallReferenceIdeal.τ).loc Cert.AdamSmallReferenceIdeal.main_v3) = v3 c
          ∧ r.2.mem ((c.tc : Thread Cert.AdamSmallReferenceIdeal.nD Cert.AdamSmallReferenceIdeal.τ).loc Cert.AdamSmallReferenceIdeal.main_v4) = v4 c
          ∧ r.2.mem ((c.tc : Thread Cert.AdamSmallReferenceIdeal.nD Cert.AdamSmallReferenceIdeal.τ).loc Cert.AdamSmallReferenceIdeal.main_v5) = v5 c
          ∧ r.2.mem ((c.tc : Thread Cert.AdamSmallReferenceIdeal.nD Cert.AdamSmallReferenceIdeal.τ).loc Cert.AdamSmallReferenceIdeal.main_v29) = v6 c
          ∧ r.2.mem ((c.tc : Thread Cert.AdamSmallReferenceIdeal.nD Cert.AdamSmallReferenceIdeal.τ).loc Cert.AdamSmallReferenceIdeal.main_v53) = v7 c
          ∧ r.2.mem ((c.tc : Thread Cert.AdamSmallReferenceIdeal.nD Cert.AdamSmallReferenceIdeal.τ).loc Cert.AdamSmallReferenceIdeal.main_v77) = v8 c
          ∧ r.2.mem ((c.tc : Thread Cert.AdamSmallReferenceIdeal.nD Cert.AdamSmallReferenceIdeal.τ).loc Cert.AdamSmallReferenceIdeal.main_v101) = v9 c
          ∧ r.2.mem ((c.tc : Thread Cert.AdamSmallReferenceIdeal.nD Cert.AdamSmallReferenceIdeal.τ).loc Cert.AdamSmallReferenceIdeal.main_v125) = v10 c
          ∧ r.2.mem ((c.tc : Thread Cert.AdamSmallReferenceIdeal.nD Cert.AdamSmallReferenceIdeal.τ).loc Cert.AdamSmallReferenceIdeal.main_v149) = v11 c
          ∧ r.2.mem ((c.tc : Thread Cert.AdamSmallReferenceIdeal.nD Cert.AdamSmallReferenceIdeal.τ).loc Cert.AdamSmallReferenceIdeal.main_v10) = v12 c
          ∧ r.2.mem ((c.tc : Thread Cert.AdamSmallReferenceIdeal.nD Cert.AdamSmallReferenceIdeal.τ).loc Cert.AdamSmallReferenceIdeal.main_v34) = v13 c
          ∧ r.2.mem ((c.tc : Thread Cert.AdamSmallReferenceIdeal.nD Cert.AdamSmallReferenceIdeal.τ).loc Cert.AdamSmallReferenceIdeal.main_v58) = v14 c
          ∧ r.2.mem ((c.tc : Thread Cert.AdamSmallReferenceIdeal.nD Cert.AdamSmallReferenceIdeal.τ).loc Cert.AdamSmallReferenceIdeal.main_v82) = v15 c
          ∧ r.2.mem ((c.tc : Thread Cert.AdamSmallReferenceIdeal.nD Cert.AdamSmallReferenceIdeal.τ).loc Cert.AdamSmallReferenceIdeal.main_v106) = v16 c
          ∧ r.2.mem ((c.tc : Thread Cert.AdamSmallReferenceIdeal.nD Cert.AdamSmallReferenceIdeal.τ).loc Cert.AdamSmallReferenceIdeal.main_v130) = v17 c
          ∧ r.2.mem ((c.tc : Thread Cert.AdamSmallReferenceIdeal.nD Cert.AdamSmallReferenceIdeal.τ).loc Cert.AdamSmallReferenceIdeal.main_v16) = v18 c
          ∧ r.2.mem ((c.tc : Thread Cert.AdamSmallReferenceIdeal.nD Cert.AdamSmallReferenceIdeal.τ).loc Cert.AdamSmallReferenceIdeal.main_v40) = v19 c
          ∧ r.2.mem ((c.tc : Thread Cert.AdamSmallReferenceIdeal.nD Cert.AdamSmallReferenceIdeal.τ).loc Cert.AdamSmallReferenceIdeal.main_v64) = v20 c
          ∧ r.2.mem ((c.tc : Thread Cert.AdamSmallReferenceIdeal.nD Cert.AdamSmallReferenceIdeal.τ).loc Cert.AdamSmallReferenceIdeal.main_v88) = v21 c
          ∧ r.2.mem ((c.tc : Thread Cert.AdamSmallReferenceIdeal.nD Cert.AdamSmallReferenceIdeal.τ).loc Cert.AdamSmallReferenceIdeal.main_v112) = v22 c
          ∧ r.2.mem ((c.tc : Thread Cert.AdamSmallReferenceIdeal.nD Cert.AdamSmallReferenceIdeal.τ).loc Cert.AdamSmallReferenceIdeal.main_v136) = v23 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23))

def preserves_CondForward_CondForwardIdeal : Prop :=
  True

def algebraic_CondForwardIdeal_CondForwardReferenceIdeal [hCondForwardIdeal : Cert.CondForwardIdeal.Facts] [hCondForwardReferenceIdeal : Cert.CondForwardReferenceIdeal.Facts] : Prop :=
  ∀ (m : (ℓ : Loc Cert.CondForwardIdeal.nD Cert.CondForwardIdeal.τ Cert.CondForwardIdeal.sig) → Buf (Elt Ideal) ℓ) (g : Dev Cert.CondForwardIdeal.nD → PrngReg)
    (m' : (ℓ : Loc Cert.CondForwardReferenceIdeal.nD Cert.CondForwardReferenceIdeal.τ Cert.CondForwardReferenceIdeal.sig) → Buf (Elt Ideal) ℓ) (g' : Dev Cert.CondForwardReferenceIdeal.nD → PrngReg), Pre_CondForwardIdeal m →
    (∀ c : Dev Cert.CondForwardIdeal.nD,
      m' ((c.tc : Thread Cert.CondForwardReferenceIdeal.nD Cert.CondForwardReferenceIdeal.τ).loc Cert.CondForwardReferenceIdeal.main_arg0) = m ((c.tc : Thread Cert.CondForwardIdeal.nD Cert.CondForwardIdeal.τ).loc Cert.CondForwardIdeal.main_arg0)
      ∧ m' ((c.tc : Thread Cert.CondForwardReferenceIdeal.nD Cert.CondForwardReferenceIdeal.τ).loc Cert.CondForwardReferenceIdeal.main_arg1) = m ((c.tc : Thread Cert.CondForwardIdeal.nD Cert.CondForwardIdeal.τ).loc Cert.CondForwardIdeal.main_arg1)
      ∧ m' ((c.tc : Thread Cert.CondForwardReferenceIdeal.nD Cert.CondForwardReferenceIdeal.τ).loc Cert.CondForwardReferenceIdeal.main_arg2) = m ((c.tc : Thread Cert.CondForwardIdeal.nD Cert.CondForwardIdeal.τ).loc Cert.CondForwardIdeal.main_arg2)) →
    ∃ (v0 : (c : Dev Cert.CondForwardIdeal.nD) → Buf (Elt Ideal) ((c.tc : Thread Cert.CondForwardIdeal.nD Cert.CondForwardIdeal.τ).loc Cert.CondForwardIdeal.main_v0)),
      θ_run (Cert.CondForwardIdeal.defs (F := Ideal)) (onTc (τ := Cert.CondForwardIdeal.τ) (Cert.CondForwardIdeal.main (F := Ideal))) ⟨m, fun _ => 0, g⟩ (fun r => ∀ c : Dev Cert.CondForwardIdeal.nD,
          r.2.mem ((c.tc : Thread Cert.CondForwardIdeal.nD Cert.CondForwardIdeal.τ).loc Cert.CondForwardIdeal.main_v0) = v0 c
          ∧ r.2.mem ((c.tc : Thread Cert.CondForwardIdeal.nD Cert.CondForwardIdeal.τ).loc Cert.CondForwardIdeal.main_arg0) = m ((c.tc : Thread Cert.CondForwardIdeal.nD Cert.CondForwardIdeal.τ).loc Cert.CondForwardIdeal.main_arg0)
          ∧ r.2.mem ((c.tc : Thread Cert.CondForwardIdeal.nD Cert.CondForwardIdeal.τ).loc Cert.CondForwardIdeal.main_arg1) = m ((c.tc : Thread Cert.CondForwardIdeal.nD Cert.CondForwardIdeal.τ).loc Cert.CondForwardIdeal.main_arg1)
          ∧ r.2.mem ((c.tc : Thread Cert.CondForwardIdeal.nD Cert.CondForwardIdeal.τ).loc Cert.CondForwardIdeal.main_arg2) = m ((c.tc : Thread Cert.CondForwardIdeal.nD Cert.CondForwardIdeal.τ).loc Cert.CondForwardIdeal.main_arg2))
      ∧ θ_run (Cert.CondForwardReferenceIdeal.defs (F := Ideal)) (onTc (τ := Cert.CondForwardReferenceIdeal.τ) (Cert.CondForwardReferenceIdeal.main (F := Ideal))) ⟨m', fun _ => 0, g'⟩ (fun r => ∀ c : Dev Cert.CondForwardReferenceIdeal.nD,
          r.2.mem ((c.tc : Thread Cert.CondForwardReferenceIdeal.nD Cert.CondForwardReferenceIdeal.τ).loc Cert.CondForwardReferenceIdeal.main_v3) = v0 c
          ∧ r.2.mem ((c.tc : Thread Cert.CondForwardReferenceIdeal.nD Cert.CondForwardReferenceIdeal.τ).loc Cert.CondForwardReferenceIdeal.main_arg0) = m' ((c.tc : Thread Cert.CondForwardReferenceIdeal.nD Cert.CondForwardReferenceIdeal.τ).loc Cert.CondForwardReferenceIdeal.main_arg0)
          ∧ r.2.mem ((c.tc : Thread Cert.CondForwardReferenceIdeal.nD Cert.CondForwardReferenceIdeal.τ).loc Cert.CondForwardReferenceIdeal.main_arg1) = m' ((c.tc : Thread Cert.CondForwardReferenceIdeal.nD Cert.CondForwardReferenceIdeal.τ).loc Cert.CondForwardReferenceIdeal.main_arg1)
          ∧ r.2.mem ((c.tc : Thread Cert.CondForwardReferenceIdeal.nD Cert.CondForwardReferenceIdeal.τ).loc Cert.CondForwardReferenceIdeal.main_arg2) = m' ((c.tc : Thread Cert.CondForwardReferenceIdeal.nD Cert.CondForwardReferenceIdeal.τ).loc Cert.CondForwardReferenceIdeal.main_arg2))

def preserves_CondBackward_CondBackwardIdeal : Prop :=
  True

def algebraic_CondBackwardIdeal_CondBackwardReferenceIdeal [hCondBackwardIdeal : Cert.CondBackwardIdeal.Facts] [hCondBackwardReferenceIdeal : Cert.CondBackwardReferenceIdeal.Facts] : Prop :=
  ∀ (m : (ℓ : Loc Cert.CondBackwardIdeal.nD Cert.CondBackwardIdeal.τ Cert.CondBackwardIdeal.sig) → Buf (Elt Ideal) ℓ) (g : Dev Cert.CondBackwardIdeal.nD → PrngReg)
    (m' : (ℓ : Loc Cert.CondBackwardReferenceIdeal.nD Cert.CondBackwardReferenceIdeal.τ Cert.CondBackwardReferenceIdeal.sig) → Buf (Elt Ideal) ℓ) (g' : Dev Cert.CondBackwardReferenceIdeal.nD → PrngReg), Pre_CondBackwardIdeal m →
    (∀ c : Dev Cert.CondBackwardIdeal.nD,
      m' ((c.tc : Thread Cert.CondBackwardReferenceIdeal.nD Cert.CondBackwardReferenceIdeal.τ).loc Cert.CondBackwardReferenceIdeal.main_arg0) = m ((c.tc : Thread Cert.CondBackwardIdeal.nD Cert.CondBackwardIdeal.τ).loc Cert.CondBackwardIdeal.main_arg0)
      ∧ m' ((c.tc : Thread Cert.CondBackwardReferenceIdeal.nD Cert.CondBackwardReferenceIdeal.τ).loc Cert.CondBackwardReferenceIdeal.main_arg1) = m ((c.tc : Thread Cert.CondBackwardIdeal.nD Cert.CondBackwardIdeal.τ).loc Cert.CondBackwardIdeal.main_arg1)
      ∧ m' ((c.tc : Thread Cert.CondBackwardReferenceIdeal.nD Cert.CondBackwardReferenceIdeal.τ).loc Cert.CondBackwardReferenceIdeal.main_arg2) = m ((c.tc : Thread Cert.CondBackwardIdeal.nD Cert.CondBackwardIdeal.τ).loc Cert.CondBackwardIdeal.main_arg2)) →
    ∃ (v0 : (c : Dev Cert.CondBackwardIdeal.nD) → Buf (Elt Ideal) ((c.tc : Thread Cert.CondBackwardIdeal.nD Cert.CondBackwardIdeal.τ).loc Cert.CondBackwardIdeal.main_v0_0)) (v1 : (c : Dev Cert.CondBackwardIdeal.nD) → Buf (Elt Ideal) ((c.tc : Thread Cert.CondBackwardIdeal.nD Cert.CondBackwardIdeal.τ).loc Cert.CondBackwardIdeal.main_v0_1)),
      θ_run (Cert.CondBackwardIdeal.defs (F := Ideal)) (onTc (τ := Cert.CondBackwardIdeal.τ) (Cert.CondBackwardIdeal.main (F := Ideal))) ⟨m, fun _ => 0, g⟩ (fun r => ∀ c : Dev Cert.CondBackwardIdeal.nD,
          r.2.mem ((c.tc : Thread Cert.CondBackwardIdeal.nD Cert.CondBackwardIdeal.τ).loc Cert.CondBackwardIdeal.main_v0_0) = v0 c
          ∧ r.2.mem ((c.tc : Thread Cert.CondBackwardIdeal.nD Cert.CondBackwardIdeal.τ).loc Cert.CondBackwardIdeal.main_v0_1) = v1 c
          ∧ r.2.mem ((c.tc : Thread Cert.CondBackwardIdeal.nD Cert.CondBackwardIdeal.τ).loc Cert.CondBackwardIdeal.main_arg0) = m ((c.tc : Thread Cert.CondBackwardIdeal.nD Cert.CondBackwardIdeal.τ).loc Cert.CondBackwardIdeal.main_arg0)
          ∧ r.2.mem ((c.tc : Thread Cert.CondBackwardIdeal.nD Cert.CondBackwardIdeal.τ).loc Cert.CondBackwardIdeal.main_arg1) = m ((c.tc : Thread Cert.CondBackwardIdeal.nD Cert.CondBackwardIdeal.τ).loc Cert.CondBackwardIdeal.main_arg1)
          ∧ r.2.mem ((c.tc : Thread Cert.CondBackwardIdeal.nD Cert.CondBackwardIdeal.τ).loc Cert.CondBackwardIdeal.main_arg2) = m ((c.tc : Thread Cert.CondBackwardIdeal.nD Cert.CondBackwardIdeal.τ).loc Cert.CondBackwardIdeal.main_arg2))
      ∧ θ_run (Cert.CondBackwardReferenceIdeal.defs (F := Ideal)) (onTc (τ := Cert.CondBackwardReferenceIdeal.τ) (Cert.CondBackwardReferenceIdeal.main (F := Ideal))) ⟨m', fun _ => 0, g'⟩ (fun r => ∀ c : Dev Cert.CondBackwardReferenceIdeal.nD,
          r.2.mem ((c.tc : Thread Cert.CondBackwardReferenceIdeal.nD Cert.CondBackwardReferenceIdeal.τ).loc Cert.CondBackwardReferenceIdeal.main_v2) = v0 c
          ∧ r.2.mem ((c.tc : Thread Cert.CondBackwardReferenceIdeal.nD Cert.CondBackwardReferenceIdeal.τ).loc Cert.CondBackwardReferenceIdeal.main_v4) = v1 c
          ∧ r.2.mem ((c.tc : Thread Cert.CondBackwardReferenceIdeal.nD Cert.CondBackwardReferenceIdeal.τ).loc Cert.CondBackwardReferenceIdeal.main_arg0) = m' ((c.tc : Thread Cert.CondBackwardReferenceIdeal.nD Cert.CondBackwardReferenceIdeal.τ).loc Cert.CondBackwardReferenceIdeal.main_arg0)
          ∧ r.2.mem ((c.tc : Thread Cert.CondBackwardReferenceIdeal.nD Cert.CondBackwardReferenceIdeal.τ).loc Cert.CondBackwardReferenceIdeal.main_arg1) = m' ((c.tc : Thread Cert.CondBackwardReferenceIdeal.nD Cert.CondBackwardReferenceIdeal.τ).loc Cert.CondBackwardReferenceIdeal.main_arg1)
          ∧ r.2.mem ((c.tc : Thread Cert.CondBackwardReferenceIdeal.nD Cert.CondBackwardReferenceIdeal.τ).loc Cert.CondBackwardReferenceIdeal.main_arg2) = m' ((c.tc : Thread Cert.CondBackwardReferenceIdeal.nD Cert.CondBackwardReferenceIdeal.τ).loc Cert.CondBackwardReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v0) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v0) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v1) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_GradGateUp_GradGateUpIdeal : Prop :=
  True

def algebraic_GradGateUpIdeal_GradGateUpReferenceIdeal [hGradGateUpIdeal : Cert.GradGateUpIdeal.Facts] [hGradGateUpReferenceIdeal : Cert.GradGateUpReferenceIdeal.Facts] : Prop :=
  ∀ (m : (ℓ : Loc Cert.GradGateUpIdeal.nD Cert.GradGateUpIdeal.τ Cert.GradGateUpIdeal.sig) → Buf (Elt Ideal) ℓ) (g : Dev Cert.GradGateUpIdeal.nD → PrngReg)
    (m' : (ℓ : Loc Cert.GradGateUpReferenceIdeal.nD Cert.GradGateUpReferenceIdeal.τ Cert.GradGateUpReferenceIdeal.sig) → Buf (Elt Ideal) ℓ) (g' : Dev Cert.GradGateUpReferenceIdeal.nD → PrngReg), Pre_GradGateUpIdeal m →
    (∀ c : Dev Cert.GradGateUpIdeal.nD,
      m' ((c.tc : Thread Cert.GradGateUpReferenceIdeal.nD Cert.GradGateUpReferenceIdeal.τ).loc Cert.GradGateUpReferenceIdeal.main_arg0) = m ((c.tc : Thread Cert.GradGateUpIdeal.nD Cert.GradGateUpIdeal.τ).loc Cert.GradGateUpIdeal.main_arg0)
      ∧ m' ((c.tc : Thread Cert.GradGateUpReferenceIdeal.nD Cert.GradGateUpReferenceIdeal.τ).loc Cert.GradGateUpReferenceIdeal.main_arg1) = m ((c.tc : Thread Cert.GradGateUpIdeal.nD Cert.GradGateUpIdeal.τ).loc Cert.GradGateUpIdeal.main_arg1)) →
    ∃ (v0 : (c : Dev Cert.GradGateUpIdeal.nD) → Buf (Elt Ideal) ((c.tc : Thread Cert.GradGateUpIdeal.nD Cert.GradGateUpIdeal.τ).loc Cert.GradGateUpIdeal.main_v0)),
      θ_run (Cert.GradGateUpIdeal.defs (F := Ideal)) (onTc (τ := Cert.GradGateUpIdeal.τ) (Cert.GradGateUpIdeal.main (F := Ideal))) ⟨m, fun _ => 0, g⟩ (fun r => ∀ c : Dev Cert.GradGateUpIdeal.nD,
          r.2.mem ((c.tc : Thread Cert.GradGateUpIdeal.nD Cert.GradGateUpIdeal.τ).loc Cert.GradGateUpIdeal.main_v0) = v0 c
          ∧ r.2.mem ((c.tc : Thread Cert.GradGateUpIdeal.nD Cert.GradGateUpIdeal.τ).loc Cert.GradGateUpIdeal.main_arg0) = m ((c.tc : Thread Cert.GradGateUpIdeal.nD Cert.GradGateUpIdeal.τ).loc Cert.GradGateUpIdeal.main_arg0)
          ∧ r.2.mem ((c.tc : Thread Cert.GradGateUpIdeal.nD Cert.GradGateUpIdeal.τ).loc Cert.GradGateUpIdeal.main_arg1) = m ((c.tc : Thread Cert.GradGateUpIdeal.nD Cert.GradGateUpIdeal.τ).loc Cert.GradGateUpIdeal.main_arg1))
      ∧ θ_run (Cert.GradGateUpReferenceIdeal.defs (F := Ideal)) (onTc (τ := Cert.GradGateUpReferenceIdeal.τ) (Cert.GradGateUpReferenceIdeal.main (F := Ideal))) ⟨m', fun _ => 0, g'⟩ (fun r => ∀ c : Dev Cert.GradGateUpReferenceIdeal.nD,
          r.2.mem ((c.tc : Thread Cert.GradGateUpReferenceIdeal.nD Cert.GradGateUpReferenceIdeal.τ).loc Cert.GradGateUpReferenceIdeal.main_v0) = v0 c
          ∧ r.2.mem ((c.tc : Thread Cert.GradGateUpReferenceIdeal.nD Cert.GradGateUpReferenceIdeal.τ).loc Cert.GradGateUpReferenceIdeal.main_arg0) = m' ((c.tc : Thread Cert.GradGateUpReferenceIdeal.nD Cert.GradGateUpReferenceIdeal.τ).loc Cert.GradGateUpReferenceIdeal.main_arg0)
          ∧ r.2.mem ((c.tc : Thread Cert.GradGateUpReferenceIdeal.nD Cert.GradGateUpReferenceIdeal.τ).loc Cert.GradGateUpReferenceIdeal.main_arg1) = m' ((c.tc : Thread Cert.GradGateUpReferenceIdeal.nD Cert.GradGateUpReferenceIdeal.τ).loc Cert.GradGateUpReferenceIdeal.main_arg1))

def preserves_BackFfn_BackFfnIdeal : Prop :=
  True

def algebraic_BackFfnIdeal_BackFfnReferenceIdeal [hBackFfnIdeal : Cert.BackFfnIdeal.Facts] [hBackFfnReferenceIdeal : Cert.BackFfnReferenceIdeal.Facts] : Prop :=
  ∀ (m : (ℓ : Loc Cert.BackFfnIdeal.nD Cert.BackFfnIdeal.τ Cert.BackFfnIdeal.sig) → Buf (Elt Ideal) ℓ) (g : Dev Cert.BackFfnIdeal.nD → PrngReg)
    (m' : (ℓ : Loc Cert.BackFfnReferenceIdeal.nD Cert.BackFfnReferenceIdeal.τ Cert.BackFfnReferenceIdeal.sig) → Buf (Elt Ideal) ℓ) (g' : Dev Cert.BackFfnReferenceIdeal.nD → PrngReg), Pre_BackFfnIdeal m →
    (∀ c : Dev Cert.BackFfnIdeal.nD,
      m' ((c.tc : Thread Cert.BackFfnReferenceIdeal.nD Cert.BackFfnReferenceIdeal.τ).loc Cert.BackFfnReferenceIdeal.main_arg0) = m ((c.tc : Thread Cert.BackFfnIdeal.nD Cert.BackFfnIdeal.τ).loc Cert.BackFfnIdeal.main_arg0)
      ∧ m' ((c.tc : Thread Cert.BackFfnReferenceIdeal.nD Cert.BackFfnReferenceIdeal.τ).loc Cert.BackFfnReferenceIdeal.main_arg1) = m ((c.tc : Thread Cert.BackFfnIdeal.nD Cert.BackFfnIdeal.τ).loc Cert.BackFfnIdeal.main_arg1)) →
    ∃ (v0 : (c : Dev Cert.BackFfnIdeal.nD) → Buf (Elt Ideal) ((c.tc : Thread Cert.BackFfnIdeal.nD Cert.BackFfnIdeal.τ).loc Cert.BackFfnIdeal.main_v0)),
      θ_run (Cert.BackFfnIdeal.defs (F := Ideal)) (onTc (τ := Cert.BackFfnIdeal.τ) (Cert.BackFfnIdeal.main (F := Ideal))) ⟨m, fun _ => 0, g⟩ (fun r => ∀ c : Dev Cert.BackFfnIdeal.nD,
          r.2.mem ((c.tc : Thread Cert.BackFfnIdeal.nD Cert.BackFfnIdeal.τ).loc Cert.BackFfnIdeal.main_v0) = v0 c
          ∧ r.2.mem ((c.tc : Thread Cert.BackFfnIdeal.nD Cert.BackFfnIdeal.τ).loc Cert.BackFfnIdeal.main_arg0) = m ((c.tc : Thread Cert.BackFfnIdeal.nD Cert.BackFfnIdeal.τ).loc Cert.BackFfnIdeal.main_arg0)
          ∧ r.2.mem ((c.tc : Thread Cert.BackFfnIdeal.nD Cert.BackFfnIdeal.τ).loc Cert.BackFfnIdeal.main_arg1) = m ((c.tc : Thread Cert.BackFfnIdeal.nD Cert.BackFfnIdeal.τ).loc Cert.BackFfnIdeal.main_arg1))
      ∧ θ_run (Cert.BackFfnReferenceIdeal.defs (F := Ideal)) (onTc (τ := Cert.BackFfnReferenceIdeal.τ) (Cert.BackFfnReferenceIdeal.main (F := Ideal))) ⟨m', fun _ => 0, g'⟩ (fun r => ∀ c : Dev Cert.BackFfnReferenceIdeal.nD,
          r.2.mem ((c.tc : Thread Cert.BackFfnReferenceIdeal.nD Cert.BackFfnReferenceIdeal.τ).loc Cert.BackFfnReferenceIdeal.main_v0) = v0 c
          ∧ r.2.mem ((c.tc : Thread Cert.BackFfnReferenceIdeal.nD Cert.BackFfnReferenceIdeal.τ).loc Cert.BackFfnReferenceIdeal.main_arg0) = m' ((c.tc : Thread Cert.BackFfnReferenceIdeal.nD Cert.BackFfnReferenceIdeal.τ).loc Cert.BackFfnReferenceIdeal.main_arg0)
          ∧ r.2.mem ((c.tc : Thread Cert.BackFfnReferenceIdeal.nD Cert.BackFfnReferenceIdeal.τ).loc Cert.BackFfnReferenceIdeal.main_arg1) = m' ((c.tc : Thread Cert.BackFfnReferenceIdeal.nD Cert.BackFfnReferenceIdeal.τ).loc Cert.BackFfnReferenceIdeal.main_arg1))

def preserves_BackOut_BackOutIdeal : Prop :=
  True

def algebraic_BackOutIdeal_BackOutReferenceIdeal [hBackOutIdeal : Cert.BackOutIdeal.Facts] [hBackOutReferenceIdeal : Cert.BackOutReferenceIdeal.Facts] : Prop :=
  ∀ (m : (ℓ : Loc Cert.BackOutIdeal.nD Cert.BackOutIdeal.τ Cert.BackOutIdeal.sig) → Buf (Elt Ideal) ℓ) (g : Dev Cert.BackOutIdeal.nD → PrngReg)
    (m' : (ℓ : Loc Cert.BackOutReferenceIdeal.nD Cert.BackOutReferenceIdeal.τ Cert.BackOutReferenceIdeal.sig) → Buf (Elt Ideal) ℓ) (g' : Dev Cert.BackOutReferenceIdeal.nD → PrngReg), Pre_BackOutIdeal m →
    (∀ c : Dev Cert.BackOutIdeal.nD,
      m' ((c.tc : Thread Cert.BackOutReferenceIdeal.nD Cert.BackOutReferenceIdeal.τ).loc Cert.BackOutReferenceIdeal.main_arg0) = m ((c.tc : Thread Cert.BackOutIdeal.nD Cert.BackOutIdeal.τ).loc Cert.BackOutIdeal.main_arg0)
      ∧ m' ((c.tc : Thread Cert.BackOutReferenceIdeal.nD Cert.BackOutReferenceIdeal.τ).loc Cert.BackOutReferenceIdeal.main_arg1) = m ((c.tc : Thread Cert.BackOutIdeal.nD Cert.BackOutIdeal.τ).loc Cert.BackOutIdeal.main_arg1)) →
    ∃ (v0 : (c : Dev Cert.BackOutIdeal.nD) → Buf (Elt Ideal) ((c.tc : Thread Cert.BackOutIdeal.nD Cert.BackOutIdeal.τ).loc Cert.BackOutIdeal.main_v0)),
      θ_run (Cert.BackOutIdeal.defs (F := Ideal)) (onTc (τ := Cert.BackOutIdeal.τ) (Cert.BackOutIdeal.main (F := Ideal))) ⟨m, fun _ => 0, g⟩ (fun r => ∀ c : Dev Cert.BackOutIdeal.nD,
          r.2.mem ((c.tc : Thread Cert.BackOutIdeal.nD Cert.BackOutIdeal.τ).loc Cert.BackOutIdeal.main_v0) = v0 c
          ∧ r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0)
          ∧ r.2.mem ((c.tc : Thread Cert.BackOutIdeal.nD Cert.BackOutIdeal.τ).loc Cert.BackOutIdeal.main_arg1) = m ((c.tc : Thread Cert.BackOutIdeal.nD Cert.BackOutIdeal.τ).loc Cert.BackOutIdeal.main_arg1))
      ∧ θ_run (Cert.BackOutReferenceIdeal.defs (F := Ideal)) (onTc (τ := Cert.BackOutReferenceIdeal.τ) (Cert.BackOutReferenceIdeal.main (F := Ideal))) ⟨m', fun _ => 0, g'⟩ (fun r => ∀ c : Dev Cert.BackOutReferenceIdeal.nD,
          r.2.mem ((c.tc : Thread Cert.BackOutReferenceIdeal.nD Cert.BackOutReferenceIdeal.τ).loc Cert.BackOutReferenceIdeal.main_v2) = v0 c
          ∧ r.2.mem ((c.tc : Thread Cert.BackOutReferenceIdeal.nD Cert.BackOutReferenceIdeal.τ).loc Cert.BackOutReferenceIdeal.main_arg0) = m' ((c.tc : Thread Cert.BackOutReferenceIdeal.nD Cert.BackOutReferenceIdeal.τ).loc Cert.BackOutReferenceIdeal.main_arg0)
          ∧ r.2.mem ((c.tc : Thread Cert.BackOutReferenceIdeal.nD Cert.BackOutReferenceIdeal.τ).loc Cert.BackOutReferenceIdeal.main_arg1) = m' ((c.tc : Thread Cert.BackOutReferenceIdeal.nD Cert.BackOutReferenceIdeal.τ).loc Cert.BackOutReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v0) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v0) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_BackIn_BackInIdeal : Prop :=
  True

def algebraic_BackInIdeal_BackInReferenceIdeal [hBackInIdeal : Cert.BackInIdeal.Facts] [hBackInReferenceIdeal : Cert.BackInReferenceIdeal.Facts] : Prop :=
  ∀ (m : (ℓ : Loc Cert.BackInIdeal.nD Cert.BackInIdeal.τ Cert.BackInIdeal.sig) → Buf (Elt Ideal) ℓ) (g : Dev Cert.BackInIdeal.nD → PrngReg)
    (m' : (ℓ : Loc Cert.BackInReferenceIdeal.nD Cert.BackInReferenceIdeal.τ Cert.BackInReferenceIdeal.sig) → Buf (Elt Ideal) ℓ) (g' : Dev Cert.BackInReferenceIdeal.nD → PrngReg), Pre_BackInIdeal m →
    (∀ c : Dev Cert.BackInIdeal.nD,
      m' ((c.tc : Thread Cert.BackInReferenceIdeal.nD Cert.BackInReferenceIdeal.τ).loc Cert.BackInReferenceIdeal.main_arg0) = m ((c.tc : Thread Cert.BackInIdeal.nD Cert.BackInIdeal.τ).loc Cert.BackInIdeal.main_arg0)
      ∧ m' ((c.tc : Thread Cert.BackInReferenceIdeal.nD Cert.BackInReferenceIdeal.τ).loc Cert.BackInReferenceIdeal.main_arg1) = m ((c.tc : Thread Cert.BackInIdeal.nD Cert.BackInIdeal.τ).loc Cert.BackInIdeal.main_arg1)) →
    ∃ (v0 : (c : Dev Cert.BackInIdeal.nD) → Buf (Elt Ideal) ((c.tc : Thread Cert.BackInIdeal.nD Cert.BackInIdeal.τ).loc Cert.BackInIdeal.main_v0)),
      θ_run (Cert.BackInIdeal.defs (F := Ideal)) (onTc (τ := Cert.BackInIdeal.τ) (Cert.BackInIdeal.main (F := Ideal))) ⟨m, fun _ => 0, g⟩ (fun r => ∀ c : Dev Cert.BackInIdeal.nD,
          r.2.mem ((c.tc : Thread Cert.BackInIdeal.nD Cert.BackInIdeal.τ).loc Cert.BackInIdeal.main_v0) = v0 c
          ∧ r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
          ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1))
      ∧ θ_run (Cert.BackInReferenceIdeal.defs (F := Ideal)) (onTc (τ := Cert.BackInReferenceIdeal.τ) (Cert.BackInReferenceIdeal.main (F := Ideal))) ⟨m', fun _ => 0, g'⟩ (fun r => ∀ c : Dev Cert.BackInReferenceIdeal.nD,
          r.2.mem ((c.tc : Thread Cert.BackInReferenceIdeal.nD Cert.BackInReferenceIdeal.τ).loc Cert.BackInReferenceIdeal.main_v0) = v0 c
          ∧ r.2.mem ((c.tc : Thread Cert.BackInReferenceIdeal.nD Cert.BackInReferenceIdeal.τ).loc Cert.BackInReferenceIdeal.main_arg0) = m' ((c.tc : Thread Cert.BackInReferenceIdeal.nD Cert.BackInReferenceIdeal.τ).loc Cert.BackInReferenceIdeal.main_arg0)
          ∧ r.2.mem ((c.tc : Thread Cert.BackInReferenceIdeal.nD Cert.BackInReferenceIdeal.τ).loc Cert.BackInReferenceIdeal.main_arg1) = m' ((c.tc : Thread Cert.BackInReferenceIdeal.nD Cert.BackInReferenceIdeal.τ).loc Cert.BackInReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v11) = v0 c
          ∧ r.2.mem ((c.tc : Thread Cert.FfnUpReferenceIdeal.nD Cert.FfnUpReferenceIdeal.τ).loc Cert.FfnUpReferenceIdeal.main_v14) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnBack_FfnBackIdeal : Prop :=
  True

def algebraic_FfnBackIdeal_FfnBackReferenceIdeal [hFfnBackIdeal : Cert.FfnBackIdeal.Facts] [hFfnBackReferenceIdeal : Cert.FfnBackReferenceIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackReferenceIdeal.nD Cert.FfnBackReferenceIdeal.τ Cert.FfnBackReferenceIdeal.sig) → Buf (Elt Ideal) ℓ) (g' : Dev Cert.FfnBackReferenceIdeal.nD → PrngReg), Pre_FfnBackIdeal m →
    (∀ c : Dev Cert.FfnBackIdeal.nD,
      m' ((c.tc : Thread Cert.FfnBackReferenceIdeal.nD Cert.FfnBackReferenceIdeal.τ).loc Cert.FfnBackReferenceIdeal.main_arg0) = m ((c.tc : Thread Cert.FfnBackIdeal.nD Cert.FfnBackIdeal.τ).loc Cert.FfnBackIdeal.main_arg0)
      ∧ m' ((c.tc : Thread Cert.FfnBackReferenceIdeal.nD Cert.FfnBackReferenceIdeal.τ).loc Cert.FfnBackReferenceIdeal.main_arg1) = m ((c.tc : Thread Cert.FfnBackIdeal.nD Cert.FfnBackIdeal.τ).loc Cert.FfnBackIdeal.main_arg1)
      ∧ m' ((c.tc : Thread Cert.FfnBackReferenceIdeal.nD Cert.FfnBackReferenceIdeal.τ).loc Cert.FfnBackReferenceIdeal.main_arg2) = m ((c.tc : Thread Cert.FfnBackIdeal.nD Cert.FfnBackIdeal.τ).loc Cert.FfnBackIdeal.main_arg2)) →
    ∃ (v0 : (c : Dev Cert.FfnBackIdeal.nD) → Buf (Elt Ideal) ((c.tc : Thread Cert.FfnBackIdeal.nD Cert.FfnBackIdeal.τ).loc Cert.FfnBackIdeal.main_v0)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v0) = v0 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2))
      ∧ θ_run (Cert.FfnBackReferenceIdeal.defs (F := Ideal)) (onTc (τ := Cert.FfnBackReferenceIdeal.τ) (Cert.FfnBackReferenceIdeal.main (F := Ideal))) ⟨m', fun _ => 0, g'⟩ (fun r => ∀ c : Dev Cert.FfnBackReferenceIdeal.nD,
          r.2.mem ((c.tc : Thread Cert.FfnBackReferenceIdeal.nD Cert.FfnBackReferenceIdeal.τ).loc Cert.FfnBackReferenceIdeal.main_v26) = v0 c
          ∧ r.2.mem ((c.tc : Thread Cert.FfnBackReferenceIdeal.nD Cert.FfnBackReferenceIdeal.τ).loc Cert.FfnBackReferenceIdeal.main_arg0) = m' ((c.tc : Thread Cert.FfnBackReferenceIdeal.nD Cert.FfnBackReferenceIdeal.τ).loc Cert.FfnBackReferenceIdeal.main_arg0)
          ∧ r.2.mem ((c.tc : Thread Cert.FfnBackReferenceIdeal.nD Cert.FfnBackReferenceIdeal.τ).loc Cert.FfnBackReferenceIdeal.main_arg1) = m' ((c.tc : Thread Cert.FfnBackReferenceIdeal.nD Cert.FfnBackReferenceIdeal.τ).loc Cert.FfnBackReferenceIdeal.main_arg1)
          ∧ r.2.mem ((c.tc : Thread Cert.FfnBackReferenceIdeal.nD Cert.FfnBackReferenceIdeal.τ).loc Cert.FfnBackReferenceIdeal.main_arg2) = m' ((c.tc : Thread Cert.FfnBackReferenceIdeal.nD Cert.FfnBackReferenceIdeal.τ).loc Cert.FfnBackReferenceIdeal.main_arg2))

def preserves_PreMix_PreMixIdeal : Prop :=
  True

def algebraic_PreMixIdeal_PreMixReferenceIdeal [hPreMixIdeal : Cert.PreMixIdeal.Facts] [hPreMixReferenceIdeal : Cert.PreMixReferenceIdeal.Facts] : Prop :=
  ∀ (m : (ℓ : Loc Cert.PreMixIdeal.nD Cert.PreMixIdeal.τ Cert.PreMixIdeal.sig) → Buf (Elt Ideal) ℓ) (g : Dev Cert.PreMixIdeal.nD → PrngReg)
    (m' : (ℓ : Loc Cert.PreMixReferenceIdeal.nD Cert.PreMixReferenceIdeal.τ Cert.PreMixReferenceIdeal.sig) → Buf (Elt Ideal) ℓ) (g' : Dev Cert.PreMixReferenceIdeal.nD → PrngReg), Pre_PreMixIdeal m →
    (∀ c : Dev Cert.PreMixIdeal.nD,
      m' ((c.tc : Thread Cert.PreMixReferenceIdeal.nD Cert.PreMixReferenceIdeal.τ).loc Cert.PreMixReferenceIdeal.main_arg0) = m ((c.tc : Thread Cert.PreMixIdeal.nD Cert.PreMixIdeal.τ).loc Cert.PreMixIdeal.main_arg0)
      ∧ m' ((c.tc : Thread Cert.PreMixReferenceIdeal.nD Cert.PreMixReferenceIdeal.τ).loc Cert.PreMixReferenceIdeal.main_arg1) = m ((c.tc : Thread Cert.PreMixIdeal.nD Cert.PreMixIdeal.τ).loc Cert.PreMixIdeal.main_arg1)
      ∧ m' ((c.tc : Thread Cert.PreMixReferenceIdeal.nD Cert.PreMixReferenceIdeal.τ).loc Cert.PreMixReferenceIdeal.main_arg2) = m ((c.tc : Thread Cert.PreMixIdeal.nD Cert.PreMixIdeal.τ).loc Cert.PreMixIdeal.main_arg2)) →
    ∃ (v0 : (c : Dev Cert.PreMixIdeal.nD) → Buf (Elt Ideal) ((c.tc : Thread Cert.PreMixIdeal.nD Cert.PreMixIdeal.τ).loc Cert.PreMixIdeal.main_v0)),
      θ_run (Cert.PreMixIdeal.defs (F := Ideal)) (onTc (τ := Cert.PreMixIdeal.τ) (Cert.PreMixIdeal.main (F := Ideal))) ⟨m, fun _ => 0, g⟩ (fun r => ∀ c : Dev Cert.PreMixIdeal.nD,
          r.2.mem ((c.tc : Thread Cert.PreMixIdeal.nD Cert.PreMixIdeal.τ).loc Cert.PreMixIdeal.main_v0) = v0 c
          ∧ r.2.mem ((c.tc : Thread Cert.PreMixIdeal.nD Cert.PreMixIdeal.τ).loc Cert.PreMixIdeal.main_arg0) = m ((c.tc : Thread Cert.PreMixIdeal.nD Cert.PreMixIdeal.τ).loc Cert.PreMixIdeal.main_arg0)
          ∧ r.2.mem ((c.tc : Thread Cert.PreMixIdeal.nD Cert.PreMixIdeal.τ).loc Cert.PreMixIdeal.main_arg1) = m ((c.tc : Thread Cert.PreMixIdeal.nD Cert.PreMixIdeal.τ).loc Cert.PreMixIdeal.main_arg1)
          ∧ r.2.mem ((c.tc : Thread Cert.PreMixIdeal.nD Cert.PreMixIdeal.τ).loc Cert.PreMixIdeal.main_arg2) = m ((c.tc : Thread Cert.PreMixIdeal.nD Cert.PreMixIdeal.τ).loc Cert.PreMixIdeal.main_arg2))
      ∧ θ_run (Cert.PreMixReferenceIdeal.defs (F := Ideal)) (onTc (τ := Cert.PreMixReferenceIdeal.τ) (Cert.PreMixReferenceIdeal.main (F := Ideal))) ⟨m', fun _ => 0, g'⟩ (fun r => ∀ c : Dev Cert.PreMixReferenceIdeal.nD,
          r.2.mem ((c.tc : Thread Cert.PreMixReferenceIdeal.nD Cert.PreMixReferenceIdeal.τ).loc Cert.PreMixReferenceIdeal.main_v27) = v0 c
          ∧ r.2.mem ((c.tc : Thread Cert.PreMixReferenceIdeal.nD Cert.PreMixReferenceIdeal.τ).loc Cert.PreMixReferenceIdeal.main_arg0) = m' ((c.tc : Thread Cert.PreMixReferenceIdeal.nD Cert.PreMixReferenceIdeal.τ).loc Cert.PreMixReferenceIdeal.main_arg0)
          ∧ r.2.mem ((c.tc : Thread Cert.PreMixReferenceIdeal.nD Cert.PreMixReferenceIdeal.τ).loc Cert.PreMixReferenceIdeal.main_arg1) = m' ((c.tc : Thread Cert.PreMixReferenceIdeal.nD Cert.PreMixReferenceIdeal.τ).loc Cert.PreMixReferenceIdeal.main_arg1)
          ∧ r.2.mem ((c.tc : Thread Cert.PreMixReferenceIdeal.nD Cert.PreMixReferenceIdeal.τ).loc Cert.PreMixReferenceIdeal.main_arg2) = m' ((c.tc : Thread Cert.PreMixReferenceIdeal.nD Cert.PreMixReferenceIdeal.τ).loc Cert.PreMixReferenceIdeal.main_arg2))

def preserves_Mid_MidIdeal : Prop :=
  True

def algebraic_MidIdeal_MidReferenceIdeal [hMidIdeal : Cert.MidIdeal.Facts] [hMidReferenceIdeal : Cert.MidReferenceIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidReferenceIdeal.nD Cert.MidReferenceIdeal.τ Cert.MidReferenceIdeal.sig) → Buf (Elt Ideal) ℓ) (g' : Dev Cert.MidReferenceIdeal.nD → PrngReg), Pre_MidIdeal m →
    (∀ c : Dev Cert.MidIdeal.nD,
      m' ((c.tc : Thread Cert.MidReferenceIdeal.nD Cert.MidReferenceIdeal.τ).loc Cert.MidReferenceIdeal.main_arg0) = m ((c.tc : Thread Cert.MidIdeal.nD Cert.MidIdeal.τ).loc Cert.MidIdeal.main_arg0)
      ∧ m' ((c.tc : Thread Cert.MidReferenceIdeal.nD Cert.MidReferenceIdeal.τ).loc Cert.MidReferenceIdeal.main_arg1) = m ((c.tc : Thread Cert.MidIdeal.nD Cert.MidIdeal.τ).loc Cert.MidIdeal.main_arg1)
      ∧ m' ((c.tc : Thread Cert.MidReferenceIdeal.nD Cert.MidReferenceIdeal.τ).loc Cert.MidReferenceIdeal.main_arg2) = m ((c.tc : Thread Cert.MidIdeal.nD Cert.MidIdeal.τ).loc Cert.MidIdeal.main_arg2)
      ∧ m' ((c.tc : Thread Cert.MidReferenceIdeal.nD Cert.MidReferenceIdeal.τ).loc Cert.MidReferenceIdeal.main_arg3) = m ((c.tc : Thread Cert.MidIdeal.nD Cert.MidIdeal.τ).loc Cert.MidIdeal.main_arg3)
      ∧ m' ((c.tc : Thread Cert.MidReferenceIdeal.nD Cert.MidReferenceIdeal.τ).loc Cert.MidReferenceIdeal.main_arg4) = m ((c.tc : Thread Cert.MidIdeal.nD Cert.MidIdeal.τ).loc Cert.MidIdeal.main_arg4)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4))
      ∧ θ_run (Cert.MidReferenceIdeal.defs (F := Ideal)) (onTc (τ := Cert.MidReferenceIdeal.τ) (Cert.MidReferenceIdeal.main (F := Ideal))) ⟨m', fun _ => 0, g'⟩ (fun r => ∀ c : Dev Cert.MidReferenceIdeal.nD,
          r.2.mem ((c.tc : Thread Cert.MidReferenceIdeal.nD Cert.MidReferenceIdeal.τ).loc Cert.MidReferenceIdeal.main_v43) = v0 c
          ∧ r.2.mem ((c.tc : Thread Cert.MidReferenceIdeal.nD Cert.MidReferenceIdeal.τ).loc Cert.MidReferenceIdeal.main_v45) = v1 c
          ∧ r.2.mem ((c.tc : Thread Cert.MidReferenceIdeal.nD Cert.MidReferenceIdeal.τ).loc Cert.MidReferenceIdeal.main_arg0) = m' ((c.tc : Thread Cert.MidReferenceIdeal.nD Cert.MidReferenceIdeal.τ).loc Cert.MidReferenceIdeal.main_arg0)
          ∧ r.2.mem ((c.tc : Thread Cert.MidReferenceIdeal.nD Cert.MidReferenceIdeal.τ).loc Cert.MidReferenceIdeal.main_arg1) = m' ((c.tc : Thread Cert.MidReferenceIdeal.nD Cert.MidReferenceIdeal.τ).loc Cert.MidReferenceIdeal.main_arg1)
          ∧ r.2.mem ((c.tc : Thread Cert.MidReferenceIdeal.nD Cert.MidReferenceIdeal.τ).loc Cert.MidReferenceIdeal.main_arg2) = m' ((c.tc : Thread Cert.MidReferenceIdeal.nD Cert.MidReferenceIdeal.τ).loc Cert.MidReferenceIdeal.main_arg2)
          ∧ r.2.mem ((c.tc : Thread Cert.MidReferenceIdeal.nD Cert.MidReferenceIdeal.τ).loc Cert.MidReferenceIdeal.main_arg3) = m' ((c.tc : Thread Cert.MidReferenceIdeal.nD Cert.MidReferenceIdeal.τ).loc Cert.MidReferenceIdeal.main_arg3)
          ∧ r.2.mem ((c.tc : Thread Cert.MidReferenceIdeal.nD Cert.MidReferenceIdeal.τ).loc Cert.MidReferenceIdeal.main_arg4) = m' ((c.tc : Thread Cert.MidReferenceIdeal.nD Cert.MidReferenceIdeal.τ).loc Cert.MidReferenceIdeal.main_arg4))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)) (v3 : (c : Dev Cert.PostIdeal.nD) → Buf (Elt Ideal) ((c.tc : Thread Cert.PostIdeal.nD Cert.PostIdeal.τ).loc Cert.PostIdeal.main_v0_3)) (v4 : (c : Dev Cert.PostIdeal.nD) → Buf (Elt Ideal) ((c.tc : Thread Cert.PostIdeal.nD Cert.PostIdeal.τ).loc Cert.PostIdeal.main_v0_4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_v0_3) = v3 c
          ∧ r.2.mem ((c.tc : Thread Cert.PostIdeal.nD Cert.PostIdeal.τ).loc Cert.PostIdeal.main_v0_4) = v4 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v28) = v0 c
          ∧ r.2.mem ((c.tc : Thread Cert.PostReferenceIdeal.nD Cert.PostReferenceIdeal.τ).loc Cert.PostReferenceIdeal.main_v33) = v1 c
          ∧ r.2.mem ((c.tc : Thread Cert.PostReferenceIdeal.nD Cert.PostReferenceIdeal.τ).loc Cert.PostReferenceIdeal.main_v48) = v2 c
          ∧ r.2.mem ((c.tc : Thread Cert.PostReferenceIdeal.nD Cert.PostReferenceIdeal.τ).loc Cert.PostReferenceIdeal.main_v54) = v3 c
          ∧ r.2.mem ((c.tc : Thread Cert.PostReferenceIdeal.nD Cert.PostReferenceIdeal.τ).loc Cert.PostReferenceIdeal.main_v57) = v4 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4))

def preserves_BwdMid_BwdMidIdeal : Prop :=
  True

def algebraic_BwdMidIdeal_BwdMidReferenceIdeal [hBwdMidIdeal : Cert.BwdMidIdeal.Facts] [hBwdMidReferenceIdeal : Cert.BwdMidReferenceIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg)
    (m' : (ℓ : Loc Cert.BwdMidReferenceIdeal.nD Cert.BwdMidReferenceIdeal.τ Cert.BwdMidReferenceIdeal.sig) → Buf (Elt Ideal) ℓ) (g' : Dev Cert.BwdMidReferenceIdeal.nD → PrngReg), Pre_BwdMidIdeal m →
    (∀ c : Dev Cert.BwdMidIdeal.nD,
      m' ((c.tc : Thread Cert.BwdMidReferenceIdeal.nD Cert.BwdMidReferenceIdeal.τ).loc Cert.BwdMidReferenceIdeal.main_arg0) = m ((c.tc : Thread Cert.BwdMidIdeal.nD Cert.BwdMidIdeal.τ).loc Cert.BwdMidIdeal.main_arg0)
      ∧ m' ((c.tc : Thread Cert.BwdMidReferenceIdeal.nD Cert.BwdMidReferenceIdeal.τ).loc Cert.BwdMidReferenceIdeal.main_arg1) = m ((c.tc : Thread Cert.BwdMidIdeal.nD Cert.BwdMidIdeal.τ).loc Cert.BwdMidIdeal.main_arg1)
      ∧ m' ((c.tc : Thread Cert.BwdMidReferenceIdeal.nD Cert.BwdMidReferenceIdeal.τ).loc Cert.BwdMidReferenceIdeal.main_arg2) = m ((c.tc : Thread Cert.BwdMidIdeal.nD Cert.BwdMidIdeal.τ).loc Cert.BwdMidIdeal.main_arg2)
      ∧ m' ((c.tc : Thread Cert.BwdMidReferenceIdeal.nD Cert.BwdMidReferenceIdeal.τ).loc Cert.BwdMidReferenceIdeal.main_arg3) = m ((c.tc : Thread Cert.BwdMidIdeal.nD Cert.BwdMidIdeal.τ).loc Cert.BwdMidIdeal.main_arg3)
      ∧ m' ((c.tc : Thread Cert.BwdMidReferenceIdeal.nD Cert.BwdMidReferenceIdeal.τ).loc Cert.BwdMidReferenceIdeal.main_arg4) = m ((c.tc : Thread Cert.BwdMidIdeal.nD Cert.BwdMidIdeal.τ).loc Cert.BwdMidIdeal.main_arg4)
      ∧ m' ((c.tc : Thread Cert.BwdMidReferenceIdeal.nD Cert.BwdMidReferenceIdeal.τ).loc Cert.BwdMidReferenceIdeal.main_arg5) = m ((c.tc : Thread Cert.BwdMidIdeal.nD Cert.BwdMidIdeal.τ).loc Cert.BwdMidIdeal.main_arg5)
      ∧ m' ((c.tc : Thread Cert.BwdMidReferenceIdeal.nD Cert.BwdMidReferenceIdeal.τ).loc Cert.BwdMidReferenceIdeal.main_arg6) = m ((c.tc : Thread Cert.BwdMidIdeal.nD Cert.BwdMidIdeal.τ).loc Cert.BwdMidIdeal.main_arg6)) →
    ∃ (v0 : (c : Dev Cert.BwdMidIdeal.nD) → Buf (Elt Ideal) ((c.tc : Thread Cert.BwdMidIdeal.nD Cert.BwdMidIdeal.τ).loc Cert.BwdMidIdeal.main_v0_0)) (v1 : (c : Dev Cert.BwdMidIdeal.nD) → Buf (Elt Ideal) ((c.tc : Thread Cert.BwdMidIdeal.nD Cert.BwdMidIdeal.τ).loc Cert.BwdMidIdeal.main_v0_1)) (v2 : (c : Dev Cert.BwdMidIdeal.nD) → Buf (Elt Ideal) ((c.tc : Thread Cert.BwdMidIdeal.nD Cert.BwdMidIdeal.τ).loc Cert.BwdMidIdeal.main_v0_2)) (v3 : (c : Dev Cert.BwdMidIdeal.nD) → Buf (Elt Ideal) ((c.tc : Thread Cert.BwdMidIdeal.nD Cert.BwdMidIdeal.τ).loc Cert.BwdMidIdeal.main_v0_3)) (v4 : (c : Dev Cert.BwdMidIdeal.nD) → Buf (Elt Ideal) ((c.tc : Thread Cert.BwdMidIdeal.nD Cert.BwdMidIdeal.τ).loc Cert.BwdMidIdeal.main_v0_4)) (v5 : (c : Dev Cert.BwdMidIdeal.nD) → Buf (Elt Ideal) ((c.tc : Thread Cert.BwdMidIdeal.nD Cert.BwdMidIdeal.τ).loc Cert.BwdMidIdeal.main_v0_5)) (v6 : (c : Dev Cert.BwdMidIdeal.nD) → Buf (Elt Ideal) ((c.tc : Thread Cert.BwdMidIdeal.nD Cert.BwdMidIdeal.τ).loc Cert.BwdMidIdeal.main_v0_6)),
      θ_run (Cert.BwdMidIdeal.defs (F := Ideal)) (onTc (τ := Cert.BwdMidIdeal.τ) (Cert.BwdMidIdeal.main (F := Ideal))) ⟨m, fun _ => 0, g⟩ (fun r => ∀ c : Dev Cert.BwdMidIdeal.nD,
          r.2.mem ((c.tc : Thread Cert.BwdMidIdeal.nD Cert.BwdMidIdeal.τ).loc Cert.BwdMidIdeal.main_v0_0) = v0 c
          ∧ r.2.mem ((c.tc : Thread Cert.BwdMidIdeal.nD Cert.BwdMidIdeal.τ).loc Cert.BwdMidIdeal.main_v0_1) = v1 c
          ∧ r.2.mem ((c.tc : Thread Cert.BwdMidIdeal.nD Cert.BwdMidIdeal.τ).loc Cert.BwdMidIdeal.main_v0_2) = v2 c
          ∧ r.2.mem ((c.tc : Thread Cert.BwdMidIdeal.nD Cert.BwdMidIdeal.τ).loc Cert.BwdMidIdeal.main_v0_3) = v3 c
          ∧ r.2.mem ((c.tc : Thread Cert.BwdMidIdeal.nD Cert.BwdMidIdeal.τ).loc Cert.BwdMidIdeal.main_v0_4) = v4 c
          ∧ r.2.mem ((c.tc : Thread Cert.BwdMidIdeal.nD Cert.BwdMidIdeal.τ).loc Cert.BwdMidIdeal.main_v0_5) = v5 c
          ∧ r.2.mem ((c.tc : Thread Cert.BwdMidIdeal.nD Cert.BwdMidIdeal.τ).loc Cert.BwdMidIdeal.main_v0_6) = v6 c
          ∧ r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
          ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
          ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
          ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
          ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
          ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5)
          ∧ r.2.mem ((c.tc : Thread Cert.BwdMidIdeal.nD Cert.BwdMidIdeal.τ).loc Cert.BwdMidIdeal.main_arg6) = m ((c.tc : Thread Cert.BwdMidIdeal.nD Cert.BwdMidIdeal.τ).loc Cert.BwdMidIdeal.main_arg6))
      ∧ θ_run (Cert.BwdMidReferenceIdeal.defs (F := Ideal)) (onTc (τ := Cert.BwdMidReferenceIdeal.τ) (Cert.BwdMidReferenceIdeal.main (F := Ideal))) ⟨m', fun _ => 0, g'⟩ (fun r => ∀ c : Dev Cert.BwdMidReferenceIdeal.nD,
          r.2.mem ((c.tc : Thread Cert.BwdMidReferenceIdeal.nD Cert.BwdMidReferenceIdeal.τ).loc Cert.BwdMidReferenceIdeal.main_v50) = v0 c
          ∧ r.2.mem ((c.tc : Thread Cert.BwdMidReferenceIdeal.nD Cert.BwdMidReferenceIdeal.τ).loc Cert.BwdMidReferenceIdeal.main_v65) = v1 c
          ∧ r.2.mem ((c.tc : Thread Cert.BwdMidReferenceIdeal.nD Cert.BwdMidReferenceIdeal.τ).loc Cert.BwdMidReferenceIdeal.main_v67) = v2 c
          ∧ r.2.mem ((c.tc : Thread Cert.BwdMidReferenceIdeal.nD Cert.BwdMidReferenceIdeal.τ).loc Cert.BwdMidReferenceIdeal.main_v73) = v3 c
          ∧ r.2.mem ((c.tc : Thread Cert.BwdMidReferenceIdeal.nD Cert.BwdMidReferenceIdeal.τ).loc Cert.BwdMidReferenceIdeal.main_v79) = v4 c
          ∧ r.2.mem ((c.tc : Thread Cert.BwdMidReferenceIdeal.nD Cert.BwdMidReferenceIdeal.τ).loc Cert.BwdMidReferenceIdeal.main_v82) = v5 c
          ∧ r.2.mem ((c.tc : Thread Cert.BwdMidReferenceIdeal.nD Cert.BwdMidReferenceIdeal.τ).loc Cert.BwdMidReferenceIdeal.main_v85) = v6 c
          ∧ r.2.mem ((c.tc : Thread Cert.BwdMidReferenceIdeal.nD Cert.BwdMidReferenceIdeal.τ).loc Cert.BwdMidReferenceIdeal.main_arg0) = m' ((c.tc : Thread Cert.BwdMidReferenceIdeal.nD Cert.BwdMidReferenceIdeal.τ).loc Cert.BwdMidReferenceIdeal.main_arg0)
          ∧ r.2.mem ((c.tc : Thread Cert.BwdMidReferenceIdeal.nD Cert.BwdMidReferenceIdeal.τ).loc Cert.BwdMidReferenceIdeal.main_arg1) = m' ((c.tc : Thread Cert.BwdMidReferenceIdeal.nD Cert.BwdMidReferenceIdeal.τ).loc Cert.BwdMidReferenceIdeal.main_arg1)
          ∧ r.2.mem ((c.tc : Thread Cert.BwdMidReferenceIdeal.nD Cert.BwdMidReferenceIdeal.τ).loc Cert.BwdMidReferenceIdeal.main_arg2) = m' ((c.tc : Thread Cert.BwdMidReferenceIdeal.nD Cert.BwdMidReferenceIdeal.τ).loc Cert.BwdMidReferenceIdeal.main_arg2)
          ∧ r.2.mem ((c.tc : Thread Cert.BwdMidReferenceIdeal.nD Cert.BwdMidReferenceIdeal.τ).loc Cert.BwdMidReferenceIdeal.main_arg3) = m' ((c.tc : Thread Cert.BwdMidReferenceIdeal.nD Cert.BwdMidReferenceIdeal.τ).loc Cert.BwdMidReferenceIdeal.main_arg3)
          ∧ r.2.mem ((c.tc : Thread Cert.BwdMidReferenceIdeal.nD Cert.BwdMidReferenceIdeal.τ).loc Cert.BwdMidReferenceIdeal.main_arg4) = m' ((c.tc : Thread Cert.BwdMidReferenceIdeal.nD Cert.BwdMidReferenceIdeal.τ).loc Cert.BwdMidReferenceIdeal.main_arg4)
          ∧ r.2.mem ((c.tc : Thread Cert.BwdMidReferenceIdeal.nD Cert.BwdMidReferenceIdeal.τ).loc Cert.BwdMidReferenceIdeal.main_arg5) = m' ((c.tc : Thread Cert.BwdMidReferenceIdeal.nD Cert.BwdMidReferenceIdeal.τ).loc Cert.BwdMidReferenceIdeal.main_arg5)
          ∧ r.2.mem ((c.tc : Thread Cert.BwdMidReferenceIdeal.nD Cert.BwdMidReferenceIdeal.τ).loc Cert.BwdMidReferenceIdeal.main_arg6) = m' ((c.tc : Thread Cert.BwdMidReferenceIdeal.nD Cert.BwdMidReferenceIdeal.τ).loc Cert.BwdMidReferenceIdeal.main_arg6))

def preserves_BwdPre_BwdPreIdeal : Prop :=
  True

def algebraic_BwdPreIdeal_BwdPreReferenceIdeal [hBwdPreIdeal : Cert.BwdPreIdeal.Facts] [hBwdPreReferenceIdeal : Cert.BwdPreReferenceIdeal.Facts] : Prop :=
  ∀ (m : (ℓ : Loc Cert.BwdPreIdeal.nD Cert.BwdPreIdeal.τ Cert.BwdPreIdeal.sig) → Buf (Elt Ideal) ℓ) (g : Dev Cert.BwdPreIdeal.nD → PrngReg)
    (m' : (ℓ : Loc Cert.BwdPreReferenceIdeal.nD Cert.BwdPreReferenceIdeal.τ Cert.BwdPreReferenceIdeal.sig) → Buf (Elt Ideal) ℓ) (g' : Dev Cert.BwdPreReferenceIdeal.nD → PrngReg), Pre_BwdPreIdeal m →
    (∀ c : Dev Cert.BwdPreIdeal.nD,
      m' ((c.tc : Thread Cert.BwdPreReferenceIdeal.nD Cert.BwdPreReferenceIdeal.τ).loc Cert.BwdPreReferenceIdeal.main_arg0) = m ((c.tc : Thread Cert.BwdPreIdeal.nD Cert.BwdPreIdeal.τ).loc Cert.BwdPreIdeal.main_arg0)
      ∧ m' ((c.tc : Thread Cert.BwdPreReferenceIdeal.nD Cert.BwdPreReferenceIdeal.τ).loc Cert.BwdPreReferenceIdeal.main_arg1) = m ((c.tc : Thread Cert.BwdPreIdeal.nD Cert.BwdPreIdeal.τ).loc Cert.BwdPreIdeal.main_arg1)
      ∧ m' ((c.tc : Thread Cert.BwdPreReferenceIdeal.nD Cert.BwdPreReferenceIdeal.τ).loc Cert.BwdPreReferenceIdeal.main_arg2) = m ((c.tc : Thread Cert.BwdPreIdeal.nD Cert.BwdPreIdeal.τ).loc Cert.BwdPreIdeal.main_arg2)
      ∧ m' ((c.tc : Thread Cert.BwdPreReferenceIdeal.nD Cert.BwdPreReferenceIdeal.τ).loc Cert.BwdPreReferenceIdeal.main_arg3) = m ((c.tc : Thread Cert.BwdPreIdeal.nD Cert.BwdPreIdeal.τ).loc Cert.BwdPreIdeal.main_arg3)
      ∧ m' ((c.tc : Thread Cert.BwdPreReferenceIdeal.nD Cert.BwdPreReferenceIdeal.τ).loc Cert.BwdPreReferenceIdeal.main_arg4) = m ((c.tc : Thread Cert.BwdPreIdeal.nD Cert.BwdPreIdeal.τ).loc Cert.BwdPreIdeal.main_arg4)) →
    ∃ (v0 : (c : Dev Cert.BwdPreIdeal.nD) → Buf (Elt Ideal) ((c.tc : Thread Cert.BwdPreIdeal.nD Cert.BwdPreIdeal.τ).loc Cert.BwdPreIdeal.main_v0_0)) (v1 : (c : Dev Cert.BwdPreIdeal.nD) → Buf (Elt Ideal) ((c.tc : Thread Cert.BwdPreIdeal.nD Cert.BwdPreIdeal.τ).loc Cert.BwdPreIdeal.main_v0_1)) (v2 : (c : Dev Cert.BwdPreIdeal.nD) → Buf (Elt Ideal) ((c.tc : Thread Cert.BwdPreIdeal.nD Cert.BwdPreIdeal.τ).loc Cert.BwdPreIdeal.main_v0_2)) (v3 : (c : Dev Cert.BwdPreIdeal.nD) → Buf (Elt Ideal) ((c.tc : Thread Cert.BwdPreIdeal.nD Cert.BwdPreIdeal.τ).loc Cert.BwdPreIdeal.main_v0_3)),
      θ_run (Cert.BwdPreIdeal.defs (F := Ideal)) (onTc (τ := Cert.BwdPreIdeal.τ) (Cert.BwdPreIdeal.main (F := Ideal))) ⟨m, fun _ => 0, g⟩ (fun r => ∀ c : Dev Cert.BwdPreIdeal.nD,
          r.2.mem ((c.tc : Thread Cert.BwdPreIdeal.nD Cert.BwdPreIdeal.τ).loc Cert.BwdPreIdeal.main_v0_0) = v0 c
          ∧ r.2.mem ((c.tc : Thread Cert.BwdPreIdeal.nD Cert.BwdPreIdeal.τ).loc Cert.BwdPreIdeal.main_v0_1) = v1 c
          ∧ r.2.mem ((c.tc : Thread Cert.BwdPreIdeal.nD Cert.BwdPreIdeal.τ).loc Cert.BwdPreIdeal.main_v0_2) = v2 c
          ∧ r.2.mem ((c.tc : Thread Cert.BwdPreIdeal.nD Cert.BwdPreIdeal.τ).loc Cert.BwdPreIdeal.main_v0_3) = v3 c
          ∧ r.2.mem ((c.tc : Thread Cert.BwdPreIdeal.nD Cert.BwdPreIdeal.τ).loc Cert.BwdPreIdeal.main_arg0) = m ((c.tc : Thread Cert.BwdPreIdeal.nD Cert.BwdPreIdeal.τ).loc Cert.BwdPreIdeal.main_arg0)
          ∧ r.2.mem ((c.tc : Thread Cert.BwdPreIdeal.nD Cert.BwdPreIdeal.τ).loc Cert.BwdPreIdeal.main_arg1) = m ((c.tc : Thread Cert.BwdPreIdeal.nD Cert.BwdPreIdeal.τ).loc Cert.BwdPreIdeal.main_arg1)
          ∧ r.2.mem ((c.tc : Thread Cert.BwdPreIdeal.nD Cert.BwdPreIdeal.τ).loc Cert.BwdPreIdeal.main_arg2) = m ((c.tc : Thread Cert.BwdPreIdeal.nD Cert.BwdPreIdeal.τ).loc Cert.BwdPreIdeal.main_arg2)
          ∧ r.2.mem ((c.tc : Thread Cert.BwdPreIdeal.nD Cert.BwdPreIdeal.τ).loc Cert.BwdPreIdeal.main_arg3) = m ((c.tc : Thread Cert.BwdPreIdeal.nD Cert.BwdPreIdeal.τ).loc Cert.BwdPreIdeal.main_arg3)
          ∧ r.2.mem ((c.tc : Thread Cert.BwdPreIdeal.nD Cert.BwdPreIdeal.τ).loc Cert.BwdPreIdeal.main_arg4) = m ((c.tc : Thread Cert.BwdPreIdeal.nD Cert.BwdPreIdeal.τ).loc Cert.BwdPreIdeal.main_arg4))
      ∧ θ_run (Cert.BwdPreReferenceIdeal.defs (F := Ideal)) (onTc (τ := Cert.BwdPreReferenceIdeal.τ) (Cert.BwdPreReferenceIdeal.main (F := Ideal))) ⟨m', fun _ => 0, g'⟩ (fun r => ∀ c : Dev Cert.BwdPreReferenceIdeal.nD,
          r.2.mem ((c.tc : Thread Cert.BwdPreReferenceIdeal.nD Cert.BwdPreReferenceIdeal.τ).loc Cert.BwdPreReferenceIdeal.main_v37) = v0 c
          ∧ r.2.mem ((c.tc : Thread Cert.BwdPreReferenceIdeal.nD Cert.BwdPreReferenceIdeal.τ).loc Cert.BwdPreReferenceIdeal.main_v39) = v1 c
          ∧ r.2.mem ((c.tc : Thread Cert.BwdPreReferenceIdeal.nD Cert.BwdPreReferenceIdeal.τ).loc Cert.BwdPreReferenceIdeal.main_v45) = v2 c
          ∧ r.2.mem ((c.tc : Thread Cert.BwdPreReferenceIdeal.nD Cert.BwdPreReferenceIdeal.τ).loc Cert.BwdPreReferenceIdeal.main_v48) = v3 c
          ∧ r.2.mem ((c.tc : Thread Cert.BwdPreReferenceIdeal.nD Cert.BwdPreReferenceIdeal.τ).loc Cert.BwdPreReferenceIdeal.main_arg0) = m' ((c.tc : Thread Cert.BwdPreReferenceIdeal.nD Cert.BwdPreReferenceIdeal.τ).loc Cert.BwdPreReferenceIdeal.main_arg0)
          ∧ r.2.mem ((c.tc : Thread Cert.BwdPreReferenceIdeal.nD Cert.BwdPreReferenceIdeal.τ).loc Cert.BwdPreReferenceIdeal.main_arg1) = m' ((c.tc : Thread Cert.BwdPreReferenceIdeal.nD Cert.BwdPreReferenceIdeal.τ).loc Cert.BwdPreReferenceIdeal.main_arg1)
          ∧ r.2.mem ((c.tc : Thread Cert.BwdPreReferenceIdeal.nD Cert.BwdPreReferenceIdeal.τ).loc Cert.BwdPreReferenceIdeal.main_arg2) = m' ((c.tc : Thread Cert.BwdPreReferenceIdeal.nD Cert.BwdPreReferenceIdeal.τ).loc Cert.BwdPreReferenceIdeal.main_arg2)
          ∧ r.2.mem ((c.tc : Thread Cert.BwdPreReferenceIdeal.nD Cert.BwdPreReferenceIdeal.τ).loc Cert.BwdPreReferenceIdeal.main_arg3) = m' ((c.tc : Thread Cert.BwdPreReferenceIdeal.nD Cert.BwdPreReferenceIdeal.τ).loc Cert.BwdPreReferenceIdeal.main_arg3)
          ∧ r.2.mem ((c.tc : Thread Cert.BwdPreReferenceIdeal.nD Cert.BwdPreReferenceIdeal.τ).loc Cert.BwdPreReferenceIdeal.main_arg4) = m' ((c.tc : Thread Cert.BwdPreReferenceIdeal.nD Cert.BwdPreReferenceIdeal.τ).loc Cert.BwdPreReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hExchangeC : Cert.ExchangeC.Facts) (hExchangeCIdeal : Cert.ExchangeCIdeal.Facts) (hExchangeCReferenceIdeal : Cert.ExchangeCReferenceIdeal.Facts) (hExchangeCReference : Cert.ExchangeCReference.Facts) (hExchangeX : Cert.ExchangeX.Facts) (hExchangeXIdeal : Cert.ExchangeXIdeal.Facts) (hExchangeXReferenceIdeal : Cert.ExchangeXReferenceIdeal.Facts) (hExchangeXReference : Cert.ExchangeXReference.Facts) (hExchangeY : Cert.ExchangeY.Facts) (hExchangeYIdeal : Cert.ExchangeYIdeal.Facts) (hExchangeYReferenceIdeal : Cert.ExchangeYReferenceIdeal.Facts) (hExchangeYReference : Cert.ExchangeYReference.Facts) (hGatherMod : Cert.GatherMod.Facts) (hGatherModIdeal : Cert.GatherModIdeal.Facts) (hGatherModReferenceIdeal : Cert.GatherModReferenceIdeal.Facts) (hGatherModReference : Cert.GatherModReference.Facts) (hGatherSmall : Cert.GatherSmall.Facts) (hGatherSmallIdeal : Cert.GatherSmallIdeal.Facts) (hGatherSmallReferenceIdeal : Cert.GatherSmallReferenceIdeal.Facts) (hGatherSmallReference : Cert.GatherSmallReference.Facts) (hAdamCond : Cert.AdamCond.Facts) (hAdamCondIdeal : Cert.AdamCondIdeal.Facts) (hAdamCondReferenceIdeal : Cert.AdamCondReferenceIdeal.Facts) (hAdamBias : Cert.AdamBias.Facts) (hAdamBiasIdeal : Cert.AdamBiasIdeal.Facts) (hAdamBiasReferenceIdeal : Cert.AdamBiasReferenceIdeal.Facts) (hAdamIn : Cert.AdamIn.Facts) (hAdamInIdeal : Cert.AdamInIdeal.Facts) (hAdamInReferenceIdeal : Cert.AdamInReferenceIdeal.Facts) (hAdamOut : Cert.AdamOut.Facts) (hAdamOutIdeal : Cert.AdamOutIdeal.Facts) (hAdamOutReferenceIdeal : Cert.AdamOutReferenceIdeal.Facts) (hAdamGate : Cert.AdamGate.Facts) (hAdamGateIdeal : Cert.AdamGateIdeal.Facts) (hAdamGateReferenceIdeal : Cert.AdamGateReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamSmall : Cert.AdamSmall.Facts) (hAdamSmallIdeal : Cert.AdamSmallIdeal.Facts) (hAdamSmallReferenceIdeal : Cert.AdamSmallReferenceIdeal.Facts) (hCondForward : Cert.CondForward.Facts) (hCondForwardIdeal : Cert.CondForwardIdeal.Facts) (hCondForwardReferenceIdeal : Cert.CondForwardReferenceIdeal.Facts) (hCondBackward : Cert.CondBackward.Facts) (hCondBackwardIdeal : Cert.CondBackwardIdeal.Facts) (hCondBackwardReferenceIdeal : Cert.CondBackwardReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hFfnDown : Cert.FfnDown.Facts) (hFfnDownIdeal : Cert.FfnDownIdeal.Facts) (hFfnDownReferenceIdeal : Cert.FfnDownReferenceIdeal.Facts) (hGradDown : Cert.GradDown.Facts) (hGradDownIdeal : Cert.GradDownIdeal.Facts) (hGradDownReferenceIdeal : Cert.GradDownReferenceIdeal.Facts) (hGradGateUp : Cert.GradGateUp.Facts) (hGradGateUpIdeal : Cert.GradGateUpIdeal.Facts) (hGradGateUpReferenceIdeal : Cert.GradGateUpReferenceIdeal.Facts) (hBackFfn : Cert.BackFfn.Facts) (hBackFfnIdeal : Cert.BackFfnIdeal.Facts) (hBackFfnReferenceIdeal : Cert.BackFfnReferenceIdeal.Facts) (hBackOut : Cert.BackOut.Facts) (hBackOutIdeal : Cert.BackOutIdeal.Facts) (hBackOutReferenceIdeal : Cert.BackOutReferenceIdeal.Facts) (hGradOut : Cert.GradOut.Facts) (hGradOutIdeal : Cert.GradOutIdeal.Facts) (hGradOutReferenceIdeal : Cert.GradOutReferenceIdeal.Facts) (hGradIn : Cert.GradIn.Facts) (hGradInIdeal : Cert.GradInIdeal.Facts) (hGradInReferenceIdeal : Cert.GradInReferenceIdeal.Facts) (hBackIn : Cert.BackIn.Facts) (hBackInIdeal : Cert.BackInIdeal.Facts) (hBackInReferenceIdeal : Cert.BackInReferenceIdeal.Facts) (hFfnUp : Cert.FfnUp.Facts) (hFfnUpIdeal : Cert.FfnUpIdeal.Facts) (hFfnUpReferenceIdeal : Cert.FfnUpReferenceIdeal.Facts) (hFfnBack : Cert.FfnBack.Facts) (hFfnBackIdeal : Cert.FfnBackIdeal.Facts) (hFfnBackReferenceIdeal : Cert.FfnBackReferenceIdeal.Facts) (hPreMix : Cert.PreMix.Facts) (hPreMixIdeal : Cert.PreMixIdeal.Facts) (hPreMixReferenceIdeal : Cert.PreMixReferenceIdeal.Facts) (hMid : Cert.Mid.Facts) (hMidIdeal : Cert.MidIdeal.Facts) (hMidReferenceIdeal : Cert.MidReferenceIdeal.Facts) (hPost : Cert.Post.Facts) (hPostIdeal : Cert.PostIdeal.Facts) (hPostReferenceIdeal : Cert.PostReferenceIdeal.Facts) (hBwdMid : Cert.BwdMid.Facts) (hBwdMidIdeal : Cert.BwdMidIdeal.Facts) (hBwdMidReferenceIdeal : Cert.BwdMidReferenceIdeal.Facts) (hBwdPre : Cert.BwdPre.Facts) (hBwdPreIdeal : Cert.BwdPreIdeal.Facts) (hBwdPreReferenceIdeal : Cert.BwdPreReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_ExchangeC (hExchangeC := hExchangeC)
    ∧ quiescent_ExchangeCIdeal (hExchangeCIdeal := hExchangeCIdeal)
    ∧ quiescent_ExchangeCReferenceIdeal (hExchangeCReferenceIdeal := hExchangeCReferenceIdeal)
    ∧ quiescent_ExchangeCReference (hExchangeCReference := hExchangeCReference)
    ∧ quiescent_ExchangeX (hExchangeX := hExchangeX)
    ∧ quiescent_ExchangeXIdeal (hExchangeXIdeal := hExchangeXIdeal)
    ∧ quiescent_ExchangeXReferenceIdeal (hExchangeXReferenceIdeal := hExchangeXReferenceIdeal)
    ∧ quiescent_ExchangeXReference (hExchangeXReference := hExchangeXReference)
    ∧ quiescent_ExchangeY (hExchangeY := hExchangeY)
    ∧ quiescent_ExchangeYIdeal (hExchangeYIdeal := hExchangeYIdeal)
    ∧ quiescent_ExchangeYReferenceIdeal (hExchangeYReferenceIdeal := hExchangeYReferenceIdeal)
    ∧ quiescent_ExchangeYReference (hExchangeYReference := hExchangeYReference)
    ∧ quiescent_GatherMod (hGatherMod := hGatherMod)
    ∧ quiescent_GatherModIdeal (hGatherModIdeal := hGatherModIdeal)
    ∧ quiescent_GatherModReferenceIdeal (hGatherModReferenceIdeal := hGatherModReferenceIdeal)
    ∧ quiescent_GatherModReference (hGatherModReference := hGatherModReference)
    ∧ quiescent_GatherSmall (hGatherSmall := hGatherSmall)
    ∧ quiescent_GatherSmallIdeal (hGatherSmallIdeal := hGatherSmallIdeal)
    ∧ quiescent_GatherSmallReferenceIdeal (hGatherSmallReferenceIdeal := hGatherSmallReferenceIdeal)
    ∧ quiescent_GatherSmallReference (hGatherSmallReference := hGatherSmallReference)
    ∧ quiescent_AdamCond (hAdamCond := hAdamCond)
    ∧ quiescent_AdamCondIdeal (hAdamCondIdeal := hAdamCondIdeal)
    ∧ quiescent_AdamCondReferenceIdeal (hAdamCondReferenceIdeal := hAdamCondReferenceIdeal)
    ∧ quiescent_AdamBias (hAdamBias := hAdamBias)
    ∧ quiescent_AdamBiasIdeal (hAdamBiasIdeal := hAdamBiasIdeal)
    ∧ quiescent_AdamBiasReferenceIdeal (hAdamBiasReferenceIdeal := hAdamBiasReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_CondForward (hCondForward := hCondForward)
    ∧ quiescent_CondForwardIdeal (hCondForwardIdeal := hCondForwardIdeal)
    ∧ quiescent_CondForwardReferenceIdeal (hCondForwardReferenceIdeal := hCondForwardReferenceIdeal)
    ∧ quiescent_CondBackward (hCondBackward := hCondBackward)
    ∧ quiescent_CondBackwardIdeal (hCondBackwardIdeal := hCondBackwardIdeal)
    ∧ quiescent_CondBackwardReferenceIdeal (hCondBackwardReferenceIdeal := hCondBackwardReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_GradDown (hGradDown := hGradDown)
    ∧ quiescent_GradDownIdeal (hGradDownIdeal := hGradDownIdeal)
    ∧ quiescent_GradDownReferenceIdeal (hGradDownReferenceIdeal := hGradDownReferenceIdeal)
    ∧ quiescent_GradGateUp (hGradGateUp := hGradGateUp)
    ∧ quiescent_GradGateUpIdeal (hGradGateUpIdeal := hGradGateUpIdeal)
    ∧ quiescent_GradGateUpReferenceIdeal (hGradGateUpReferenceIdeal := hGradGateUpReferenceIdeal)
    ∧ quiescent_BackFfn (hBackFfn := hBackFfn)
    ∧ quiescent_BackFfnIdeal (hBackFfnIdeal := hBackFfnIdeal)
    ∧ quiescent_BackFfnReferenceIdeal (hBackFfnReferenceIdeal := hBackFfnReferenceIdeal)
    ∧ quiescent_BackOut (hBackOut := hBackOut)
    ∧ quiescent_BackOutIdeal (hBackOutIdeal := hBackOutIdeal)
    ∧ quiescent_BackOutReferenceIdeal (hBackOutReferenceIdeal := hBackOutReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_BackIn (hBackIn := hBackIn)
    ∧ quiescent_BackInIdeal (hBackInIdeal := hBackInIdeal)
    ∧ quiescent_BackInReferenceIdeal (hBackInReferenceIdeal := hBackInReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnBack (hFfnBack := hFfnBack)
    ∧ quiescent_FfnBackIdeal (hFfnBackIdeal := hFfnBackIdeal)
    ∧ quiescent_FfnBackReferenceIdeal (hFfnBackReferenceIdeal := hFfnBackReferenceIdeal)
    ∧ quiescent_PreMix (hPreMix := hPreMix)
    ∧ quiescent_PreMixIdeal (hPreMixIdeal := hPreMixIdeal)
    ∧ quiescent_PreMixReferenceIdeal (hPreMixReferenceIdeal := hPreMixReferenceIdeal)
    ∧ quiescent_Mid (hMid := hMid)
    ∧ quiescent_MidIdeal (hMidIdeal := hMidIdeal)
    ∧ quiescent_MidReferenceIdeal (hMidReferenceIdeal := hMidReferenceIdeal)
    ∧ quiescent_Post (hPost := hPost)
    ∧ quiescent_PostIdeal (hPostIdeal := hPostIdeal)
    ∧ quiescent_PostReferenceIdeal (hPostReferenceIdeal := hPostReferenceIdeal)
    ∧ quiescent_BwdMid (hBwdMid := hBwdMid)
    ∧ quiescent_BwdMidIdeal (hBwdMidIdeal := hBwdMidIdeal)
    ∧ quiescent_BwdMidReferenceIdeal (hBwdMidReferenceIdeal := hBwdMidReferenceIdeal)
    ∧ quiescent_BwdPre (hBwdPre := hBwdPre)
    ∧ quiescent_BwdPreIdeal (hBwdPreIdeal := hBwdPreIdeal)
    ∧ quiescent_BwdPreReferenceIdeal (hBwdPreReferenceIdeal := hBwdPreReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_ExchangeC_ExchangeCIdeal
    ∧ algebraic_ExchangeCIdeal_ExchangeCReferenceIdeal (hExchangeCIdeal := hExchangeCIdeal) (hExchangeCReferenceIdeal := hExchangeCReferenceIdeal)
    ∧ bitexact_ExchangeC_ExchangeCReference (hExchangeC := hExchangeC) (hExchangeCReference := hExchangeCReference)
    ∧ preserves_ExchangeX_ExchangeXIdeal
    ∧ algebraic_ExchangeXIdeal_ExchangeXReferenceIdeal (hExchangeXIdeal := hExchangeXIdeal) (hExchangeXReferenceIdeal := hExchangeXReferenceIdeal)
    ∧ bitexact_ExchangeX_ExchangeXReference (hExchangeX := hExchangeX) (hExchangeXReference := hExchangeXReference)
    ∧ preserves_ExchangeY_ExchangeYIdeal
    ∧ algebraic_ExchangeYIdeal_ExchangeYReferenceIdeal (hExchangeYIdeal := hExchangeYIdeal) (hExchangeYReferenceIdeal := hExchangeYReferenceIdeal)
    ∧ bitexact_ExchangeY_ExchangeYReference (hExchangeY := hExchangeY) (hExchangeYReference := hExchangeYReference)
    ∧ preserves_GatherMod_GatherModIdeal
    ∧ algebraic_GatherModIdeal_GatherModReferenceIdeal (hGatherModIdeal := hGatherModIdeal) (hGatherModReferenceIdeal := hGatherModReferenceIdeal)
    ∧ bitexact_GatherMod_GatherModReference (hGatherMod := hGatherMod) (hGatherModReference := hGatherModReference)
    ∧ preserves_GatherSmall_GatherSmallIdeal
    ∧ algebraic_GatherSmallIdeal_GatherSmallReferenceIdeal (hGatherSmallIdeal := hGatherSmallIdeal) (hGatherSmallReferenceIdeal := hGatherSmallReferenceIdeal)
    ∧ bitexact_GatherSmall_GatherSmallReference (hGatherSmall := hGatherSmall) (hGatherSmallReference := hGatherSmallReference)
    ∧ preserves_AdamCond_AdamCondIdeal
    ∧ algebraic_AdamCondIdeal_AdamCondReferenceIdeal (hAdamCondIdeal := hAdamCondIdeal) (hAdamCondReferenceIdeal := hAdamCondReferenceIdeal)
    ∧ preserves_AdamBias_AdamBiasIdeal
    ∧ algebraic_AdamBiasIdeal_AdamBiasReferenceIdeal (hAdamBiasIdeal := hAdamBiasIdeal) (hAdamBiasReferenceIdeal := hAdamBiasReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamGate_AdamGateIdeal
    ∧ algebraic_AdamGateIdeal_AdamGateReferenceIdeal (hAdamGateIdeal := hAdamGateIdeal) (hAdamGateReferenceIdeal := hAdamGateReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_CondForward_CondForwardIdeal
    ∧ algebraic_CondForwardIdeal_CondForwardReferenceIdeal (hCondForwardIdeal := hCondForwardIdeal) (hCondForwardReferenceIdeal := hCondForwardReferenceIdeal)
    ∧ preserves_CondBackward_CondBackwardIdeal
    ∧ algebraic_CondBackwardIdeal_CondBackwardReferenceIdeal (hCondBackwardIdeal := hCondBackwardIdeal) (hCondBackwardReferenceIdeal := hCondBackwardReferenceIdeal)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_GradDown_GradDownIdeal
    ∧ algebraic_GradDownIdeal_GradDownReferenceIdeal (hGradDownIdeal := hGradDownIdeal) (hGradDownReferenceIdeal := hGradDownReferenceIdeal)
    ∧ preserves_GradGateUp_GradGateUpIdeal
    ∧ algebraic_GradGateUpIdeal_GradGateUpReferenceIdeal (hGradGateUpIdeal := hGradGateUpIdeal) (hGradGateUpReferenceIdeal := hGradGateUpReferenceIdeal)
    ∧ preserves_BackFfn_BackFfnIdeal
    ∧ algebraic_BackFfnIdeal_BackFfnReferenceIdeal (hBackFfnIdeal := hBackFfnIdeal) (hBackFfnReferenceIdeal := hBackFfnReferenceIdeal)
    ∧ preserves_BackOut_BackOutIdeal
    ∧ algebraic_BackOutIdeal_BackOutReferenceIdeal (hBackOutIdeal := hBackOutIdeal) (hBackOutReferenceIdeal := hBackOutReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradIn_GradInIdeal
    ∧ algebraic_GradInIdeal_GradInReferenceIdeal (hGradInIdeal := hGradInIdeal) (hGradInReferenceIdeal := hGradInReferenceIdeal)
    ∧ preserves_BackIn_BackInIdeal
    ∧ algebraic_BackInIdeal_BackInReferenceIdeal (hBackInIdeal := hBackInIdeal) (hBackInReferenceIdeal := hBackInReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnBack_FfnBackIdeal
    ∧ algebraic_FfnBackIdeal_FfnBackReferenceIdeal (hFfnBackIdeal := hFfnBackIdeal) (hFfnBackReferenceIdeal := hFfnBackReferenceIdeal)
    ∧ preserves_PreMix_PreMixIdeal
    ∧ algebraic_PreMixIdeal_PreMixReferenceIdeal (hPreMixIdeal := hPreMixIdeal) (hPreMixReferenceIdeal := hPreMixReferenceIdeal)
    ∧ preserves_Mid_MidIdeal
    ∧ algebraic_MidIdeal_MidReferenceIdeal (hMidIdeal := hMidIdeal) (hMidReferenceIdeal := hMidReferenceIdeal)
    ∧ preserves_Post_PostIdeal
    ∧ algebraic_PostIdeal_PostReferenceIdeal (hPostIdeal := hPostIdeal) (hPostReferenceIdeal := hPostReferenceIdeal)
    ∧ preserves_BwdMid_BwdMidIdeal
    ∧ algebraic_BwdMidIdeal_BwdMidReferenceIdeal (hBwdMidIdeal := hBwdMidIdeal) (hBwdMidReferenceIdeal := hBwdMidReferenceIdeal)
    ∧ preserves_BwdPre_BwdPreIdeal
    ∧ algebraic_BwdPreIdeal_BwdPreReferenceIdeal (hBwdPreIdeal := hBwdPreIdeal) (hBwdPreReferenceIdeal := hBwdPreReferenceIdeal)
-- ==== Kernel.lean ====
abbrev S2x1024 : Shape := ⟨2, ![2, 1024]⟩
abbrev S256x1024 : Shape := ⟨2, ![256, 1024]⟩
abbrev S128x1024 : Shape := ⟨2, ![128, 1024]⟩
abbrev S352x1024 : Shape := ⟨2, ![352, 1024]⟩
abbrev S8x2x1024 : Shape := ⟨3, ![8, 2, 1024]⟩
abbrev S8x256x1024 : Shape := ⟨3, ![8, 256, 1024]⟩
abbrev S8x128x1024 : Shape := ⟨3, ![8, 128, 1024]⟩
abbrev S2x8x352x1024 : Shape := ⟨4, ![2, 8, 352, 1024]⟩
abbrev S8x352x1024 : Shape := ⟨3, ![8, 352, 1024]⟩
abbrev S6x7 : Shape := ⟨2, ![6, 7]⟩
abbrev S6 : Shape := ⟨1, ![6]⟩
abbrev S1 : Shape := ⟨1, ![1]⟩
abbrev S_ : Shape := ⟨0, ![]⟩
abbrev S1x2x1024 : Shape := ⟨3, ![1, 2, 1024]⟩
abbrev S1x256x1024 : Shape := ⟨3, ![1, 256, 1024]⟩
abbrev S1x128x1024 : Shape := ⟨3, ![1, 128, 1024]⟩
abbrev S1x1x352x1024 : Shape := ⟨4, ![1, 1, 352, 1024]⟩
abbrev S1x352x1024 : Shape := ⟨3, ![1, 352, 1024]⟩
abbrev S1x1 : Shape := ⟨2, ![1, 1]⟩

abbrev nBuf : Space → Nat
  | .hbm => 11
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S256x1024, .bf16⟩
  | .hbm, ⟨2, _⟩ => ⟨S128x1024, .bf16⟩
  | .hbm, ⟨3, _⟩ => ⟨S352x1024, .bf16⟩
  | .hbm, ⟨4, _⟩ => ⟨S352x1024, .bf16⟩
  | .hbm, ⟨5, _⟩ => ⟨S352x1024, .bf16⟩
  | .hbm, ⟨6, _⟩ => ⟨S8x2x1024, .f32⟩
  | .hbm, ⟨7, _⟩ => ⟨S8x256x1024, .bf16⟩
  | .hbm, ⟨8, _⟩ => ⟨S8x128x1024, .bf16⟩
  | .hbm, ⟨9, _⟩ => ⟨S2x8x352x1024, .bf16⟩
  | .hbm, ⟨10, _⟩ => ⟨S8x352x1024, .bf16⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_20 : BitVec 32 := 0#32
  let c0_i32_21 : BitVec 32 := 0#32
  ![v17.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.muli c2_i32_11 v5
  let v20 : BitVec 32 := Scalar.addi v18 v19
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.addi v20 v8
  let c0_i32_23 : BitVec 32 := 0#32
  let c0_i32_24 : BitVec 32 := 0#32
  ![v21.toNat, 0, 0]
def k0_off3 (d0 : Dev nD) : Fin 3 → Nat :=
  let c4_i32_12 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c4_i32_12 v2
  let c2_i32_13 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.muli c2_i32_13 v5
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.addi v24 v8
  let c0_i32_26 : BitVec 32 := 0#32
  let c0_i32_27 : BitVec 32 := 0#32
  ![v25.toNat, 0, 0]
def k0_off4 (d0 : Dev nD) : Fin 4 → Nat :=
  let c0_i32_28 : BitVec 32 := 0#32
  let c4_i32_14 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v26 : BitVec 32 := Scalar.muli c4_i32_14 v2
  let c2_i32_15 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v27 : BitVec 32 := Scalar.muli c2_i32_15 v5
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.addi v28 v8
  let c0_i32_29 : BitVec 32 := 0#32
  let c0_i32_30 : BitVec 32 := 0#32
  ![0, v29.toNat, 0, 0]
def k0_off5 (d0 : Dev nD) : Fin 4 → Nat :=
  let c1_i32_31 : BitVec 32 := 1#32
  let c4_i32_16 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v30 : BitVec 32 := Scalar.muli c4_i32_16 v2
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_33 : BitVec 32 := 0#32
  let c0_i32_34 : BitVec 32 := 0#32
  ![1, v33.toNat, 0, 0]
def k0_off6 (d0 : Dev nD) : Fin 3 → Nat :=
  let c4_i32_18 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c4_i32_18 v2
  let c2_i32_19 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.muli c2_i32_19 v5
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.addi v36 v8
  let c0_i32_35 : BitVec 32 := 0#32
  let c0_i32_36 : BitVec 32 := 0#32
  ![v37.toNat, 0, 0]
def k0_dev1 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v158 : BitVec 32 := Scalar.muli v2 c4_i32_89
  let v159 : BitVec 32 := Scalar.addi c0_i32_90 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v160 : BitVec 32 := Scalar.muli v5 c2_i32_91
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v162 : BitVec 32 := Scalar.muli v9 c1_i32_92
  let v163 : BitVec 32 := Scalar.addi v161 v162
  v163.toNat
def k0_dev2 (d0 : Dev nD) : Nat :=
  let c0_i32_100 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_99 : BitVec 32 := 4#32
  let v170 : BitVec 32 := Scalar.muli v10 c4_i32_99
  let v171 : BitVec 32 := Scalar.addi c0_i32_100 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v172 : BitVec 32 := Scalar.muli v5 c2_i32_101
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v174 : BitVec 32 := Scalar.muli v8 c1_i32_102
  let v175 : BitVec 32 := Scalar.addi v173 v174
  v175.toNat
def k0_dev3 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v182 : BitVec 32 := Scalar.muli v2 c4_i32_109
  let v183 : BitVec 32 := Scalar.addi c0_i32_110 v182
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_111 : BitVec 32 := 2#32
  let v184 : BitVec 32 := Scalar.muli v11 c2_i32_111
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v186 : BitVec 32 := Scalar.muli v8 c1_i32_112
  let v187 : BitVec 32 := Scalar.addi v185 v186
  v187.toNat
def k0_dev4 (d0 : Dev nD) : Nat :=
  let c0_i32_120 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_119 : BitVec 32 := 4#32
  let v194 : BitVec 32 := Scalar.muli v12 c4_i32_119
  let v195 : BitVec 32 := Scalar.addi c0_i32_120 v194
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_121 : BitVec 32 := 2#32
  let v196 : BitVec 32 := Scalar.muli v13 c2_i32_121
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v198 : BitVec 32 := Scalar.muli v8 c1_i32_122
  let v199 : BitVec 32 := Scalar.addi v197 v198
  v199.toNat
def k0_dev5 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v206 : BitVec 32 := Scalar.muli v2 c4_i32_129
  let v207 : BitVec 32 := Scalar.addi c0_i32_130 v206
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v208 : BitVec 32 := Scalar.muli v5 c2_i32_131
  let v209 : BitVec 32 := Scalar.addi v207 v208
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_132 : BitVec 32 := 1#32
  let v210 : BitVec 32 := Scalar.muli v9 c1_i32_132
  let v211 : BitVec 32 := Scalar.addi v209 v210
  v211.toNat
def k0_dev6 (d0 : Dev nD) : Nat :=
  let c0_i32_140 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_139 : BitVec 32 := 4#32
  let v218 : BitVec 32 := Scalar.muli v10 c4_i32_139
  let v219 : BitVec 32 := Scalar.addi c0_i32_140 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v220 : BitVec 32 := Scalar.muli v5 c2_i32_141
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v222 : BitVec 32 := Scalar.muli v8 c1_i32_142
  let v223 : BitVec 32 := Scalar.addi v221 v222
  v223.toNat
def k0_dev7 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v230 : BitVec 32 := Scalar.muli v2 c4_i32_149
  let v231 : BitVec 32 := Scalar.addi c0_i32_150 v230
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_151 : BitVec 32 := 2#32
  let v232 : BitVec 32 := Scalar.muli v11 c2_i32_151
  let v233 : BitVec 32 := Scalar.addi v231 v232
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v234 : BitVec 32 := Scalar.muli v8 c1_i32_152
  let v235 : BitVec 32 := Scalar.addi v233 v234
  v235.toNat
def k0_dev8 (d0 : Dev nD) : Nat :=
  let c0_i32_160 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_159 : BitVec 32 := 4#32
  let v242 : BitVec 32 := Scalar.muli v12 c4_i32_159
  let v243 : BitVec 32 := Scalar.addi c0_i32_160 v242
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_161 : BitVec 32 := 2#32
  let v244 : BitVec 32 := Scalar.muli v13 c2_i32_161
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v246 : BitVec 32 := Scalar.muli v8 c1_i32_162
  let v247 : BitVec 32 := Scalar.addi v245 v246
  v247.toNat
def k0_dev9 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v254 : BitVec 32 := Scalar.muli v2 c4_i32_169
  let v255 : BitVec 32 := Scalar.addi c0_i32_170 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v256 : BitVec 32 := Scalar.muli v5 c2_i32_171
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_172 : BitVec 32 := 1#32
  let v258 : BitVec 32 := Scalar.muli v9 c1_i32_172
  let v259 : BitVec 32 := Scalar.addi v257 v258
  v259.toNat
def k0_dev10 (d0 : Dev nD) : Nat :=
  let c0_i32_180 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_179 : BitVec 32 := 4#32
  let v266 : BitVec 32 := Scalar.muli v10 c4_i32_179
  let v267 : BitVec 32 := Scalar.addi c0_i32_180 v266
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v268 : BitVec 32 := Scalar.muli v5 c2_i32_181
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v270 : BitVec 32 := Scalar.muli v8 c1_i32_182
  let v271 : BitVec 32 := Scalar.addi v269 v270
  v271.toNat
def k0_dev11 (d0 : Dev nD) : Nat :=
  let c0_i32_190 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_189 : BitVec 32 := 4#32
  let v278 : BitVec 32 := Scalar.muli v2 c4_i32_189
  let v279 : BitVec 32 := Scalar.addi c0_i32_190 v278
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_191 : BitVec 32 := 2#32
  let v280 : BitVec 32 := Scalar.muli v11 c2_i32_191
  let v281 : BitVec 32 := Scalar.addi v279 v280
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_192 : BitVec 32 := 1#32
  let v282 : BitVec 32 := Scalar.muli v8 c1_i32_192
  let v283 : BitVec 32 := Scalar.addi v281 v282
  v283.toNat
def k0_dev12 (d0 : Dev nD) : Nat :=
  let c0_i32_200 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_199 : BitVec 32 := 4#32
  let v290 : BitVec 32 := Scalar.muli v12 c4_i32_199
  let v291 : BitVec 32 := Scalar.addi c0_i32_200 v290
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_201 : BitVec 32 := 2#32
  let v292 : BitVec 32 := Scalar.muli v13 c2_i32_201
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_202 : BitVec 32 := 1#32
  let v294 : BitVec 32 := Scalar.muli v8 c1_i32_202
  let v295 : BitVec 32 := Scalar.addi v293 v294
  v295.toNat
def k0_dev13 (d0 : Dev nD) : Nat :=
  let c0_i32_211 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_210 : BitVec 32 := 4#32
  let v302 : BitVec 32 := Scalar.muli v2 c4_i32_210
  let v303 : BitVec 32 := Scalar.addi c0_i32_211 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_212 : BitVec 32 := 2#32
  let v304 : BitVec 32 := Scalar.muli v5 c2_i32_212
  let v305 : BitVec 32 := Scalar.addi v303 v304
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_213 : BitVec 32 := 1#32
  let v306 : BitVec 32 := Scalar.muli v9 c1_i32_213
  let v307 : BitVec 32 := Scalar.addi v305 v306
  v307.toNat
def k0_dev14 (d0 : Dev nD) : Nat :=
  let c0_i32_222 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_221 : BitVec 32 := 4#32
  let v314 : BitVec 32 := Scalar.muli v10 c4_i32_221
  let v315 : BitVec 32 := Scalar.addi c0_i32_222 v314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v316 : BitVec 32 := Scalar.muli v5 c2_i32_223
  let v317 : BitVec 32 := Scalar.addi v315 v316
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v318 : BitVec 32 := Scalar.muli v8 c1_i32_224
  let v319 : BitVec 32 := Scalar.addi v317 v318
  v319.toNat
def k0_dev15 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_232 : BitVec 32 := 4#32
  let v326 : BitVec 32 := Scalar.muli v2 c4_i32_232
  let v327 : BitVec 32 := Scalar.addi c0_i32_233 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_234 : BitVec 32 := 2#32
  let v328 : BitVec 32 := Scalar.muli v11 c2_i32_234
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_235 : BitVec 32 := 1#32
  let v330 : BitVec 32 := Scalar.muli v8 c1_i32_235
  let v331 : BitVec 32 := Scalar.addi v329 v330
  v331.toNat
def k0_dev16 (d0 : Dev nD) : Nat :=
  let c0_i32_244 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_243 : BitVec 32 := 4#32
  let v338 : BitVec 32 := Scalar.muli v12 c4_i32_243
  let v339 : BitVec 32 := Scalar.addi c0_i32_244 v338
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_245 : BitVec 32 := 2#32
  let v340 : BitVec 32 := Scalar.muli v13 c2_i32_245
  let v341 : BitVec 32 := Scalar.addi v339 v340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v342 : BitVec 32 := Scalar.muli v8 c1_i32_246
  let v343 : BitVec 32 := Scalar.addi v341 v342
  v343.toNat
def k0_dev17 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v350 : BitVec 32 := Scalar.muli v2 c4_i32_254
  let v351 : BitVec 32 := Scalar.addi c0_i32_255 v350
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_256 : BitVec 32 := 2#32
  let v352 : BitVec 32 := Scalar.muli v5 c2_i32_256
  let v353 : BitVec 32 := Scalar.addi v351 v352
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_257 : BitVec 32 := 1#32
  let v354 : BitVec 32 := Scalar.muli v9 c1_i32_257
  let v355 : BitVec 32 := Scalar.addi v353 v354
  v355.toNat
def k0_dev18 (d0 : Dev nD) : Nat :=
  let c0_i32_266 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_265 : BitVec 32 := 4#32
  let v362 : BitVec 32 := Scalar.muli v10 c4_i32_265
  let v363 : BitVec 32 := Scalar.addi c0_i32_266 v362
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_267 : BitVec 32 := 2#32
  let v364 : BitVec 32 := Scalar.muli v5 c2_i32_267
  let v365 : BitVec 32 := Scalar.addi v363 v364
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_268 : BitVec 32 := 1#32
  let v366 : BitVec 32 := Scalar.muli v8 c1_i32_268
  let v367 : BitVec 32 := Scalar.addi v365 v366
  v367.toNat
def k0_dev19 (d0 : Dev nD) : Nat :=
  let c0_i32_277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_276 : BitVec 32 := 4#32
  let v374 : BitVec 32 := Scalar.muli v2 c4_i32_276
  let v375 : BitVec 32 := Scalar.addi c0_i32_277 v374
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_278 : BitVec 32 := 2#32
  let v376 : BitVec 32 := Scalar.muli v11 c2_i32_278
  let v377 : BitVec 32 := Scalar.addi v375 v376
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_279 : BitVec 32 := 1#32
  let v378 : BitVec 32 := Scalar.muli v8 c1_i32_279
  let v379 : BitVec 32 := Scalar.addi v377 v378
  v379.toNat
def k0_dev20 (d0 : Dev nD) : Nat :=
  let c0_i32_288 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_287 : BitVec 32 := 4#32
  let v386 : BitVec 32 := Scalar.muli v12 c4_i32_287
  let v387 : BitVec 32 := Scalar.addi c0_i32_288 v386
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_289 : BitVec 32 := 2#32
  let v388 : BitVec 32 := Scalar.muli v13 c2_i32_289
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_290 : BitVec 32 := 1#32
  let v390 : BitVec 32 := Scalar.muli v8 c1_i32_290
  let v391 : BitVec 32 := Scalar.addi v389 v390
  v391.toNat
def k0_dev21 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v398 : BitVec 32 := Scalar.muli v2 c4_i32_297
  let v399 : BitVec 32 := Scalar.addi c0_i32_298 v398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v400 : BitVec 32 := Scalar.muli v5 c2_i32_299
  let v401 : BitVec 32 := Scalar.addi v399 v400
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_300 : BitVec 32 := 1#32
  let v402 : BitVec 32 := Scalar.muli v9 c1_i32_300
  let v403 : BitVec 32 := Scalar.addi v401 v402
  v403.toNat
def k0_dev22 (d0 : Dev nD) : Nat :=
  let c0_i32_308 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_307 : BitVec 32 := 4#32
  let v410 : BitVec 32 := Scalar.muli v10 c4_i32_307
  let v411 : BitVec 32 := Scalar.addi c0_i32_308 v410
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_309 : BitVec 32 := 2#32
  let v412 : BitVec 32 := Scalar.muli v5 c2_i32_309
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v414 : BitVec 32 := Scalar.muli v8 c1_i32_310
  let v415 : BitVec 32 := Scalar.addi v413 v414
  v415.toNat
def k0_dev23 (d0 : Dev nD) : Nat :=
  let c0_i32_318 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_317 : BitVec 32 := 4#32
  let v422 : BitVec 32 := Scalar.muli v2 c4_i32_317
  let v423 : BitVec 32 := Scalar.addi c0_i32_318 v422
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_319 : BitVec 32 := 2#32
  let v424 : BitVec 32 := Scalar.muli v11 c2_i32_319
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v426 : BitVec 32 := Scalar.muli v8 c1_i32_320
  let v427 : BitVec 32 := Scalar.addi v425 v426
  v427.toNat
def k0_dev24 (d0 : Dev nD) : Nat :=
  let c0_i32_328 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_327 : BitVec 32 := 4#32
  let v434 : BitVec 32 := Scalar.muli v12 c4_i32_327
  let v435 : BitVec 32 := Scalar.addi c0_i32_328 v434
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_329 : BitVec 32 := 2#32
  let v436 : BitVec 32 := Scalar.muli v13 c2_i32_329
  let v437 : BitVec 32 := Scalar.addi v435 v436
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v438 : BitVec 32 := Scalar.muli v8 c1_i32_330
  let v439 : BitVec 32 := Scalar.addi v437 v438
  v439.toNat
def k0_off7 (d0 : Dev nD) : Fin 3 → Nat :=
  let c4_i32_335 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v450 : BitVec 32 := Scalar.muli c4_i32_335 v10
  let c2_i32_336 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v451 : BitVec 32 := Scalar.muli c2_i32_336 v5
  let v452 : BitVec 32 := Scalar.addi v450 v451
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v453 : BitVec 32 := Scalar.addi v452 v8
  let c0_i32_345 : BitVec 32 := 0#32
  let c0_i32_346 : BitVec 32 := 0#32
  ![v453.toNat, 0, 0]
def k0_dev25 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v474 : BitVec 32 := Scalar.muli v2 c4_i32_357
  let v475 : BitVec 32 := Scalar.addi c0_i32_358 v474
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v476 : BitVec 32 := Scalar.muli v5 c2_i32_359
  let v477 : BitVec 32 := Scalar.addi v475 v476
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_360 : BitVec 32 := 1#32
  let v478 : BitVec 32 := Scalar.muli v9 c1_i32_360
  let v479 : BitVec 32 := Scalar.addi v477 v478
  v479.toNat
def k0_off8 (d0 : Dev nD) : Fin 3 → Nat :=
  let c4_i32_367 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v492 : BitVec 32 := Scalar.muli c4_i32_367 v10
  let c2_i32_368 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v493 : BitVec 32 := Scalar.muli c2_i32_368 v5
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v495 : BitVec 32 := Scalar.addi v494 v8
  let c0_i32_377 : BitVec 32 := 0#32
  let c0_i32_378 : BitVec 32 := 0#32
  ![v495.toNat, 0, 0]
def k0_dev26 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v516 : BitVec 32 := Scalar.muli v2 c4_i32_389
  let v517 : BitVec 32 := Scalar.addi c0_i32_390 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_391 : BitVec 32 := 2#32
  let v518 : BitVec 32 := Scalar.muli v5 c2_i32_391
  let v519 : BitVec 32 := Scalar.addi v517 v518
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_392 : BitVec 32 := 1#32
  let v520 : BitVec 32 := Scalar.muli v9 c1_i32_392
  let v521 : BitVec 32 := Scalar.addi v519 v520
  v521.toNat
def k0_off9 (d0 : Dev nD) : Fin 3 → Nat :=
  let c4_i32_399 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v534 : BitVec 32 := Scalar.muli c4_i32_399 v10
  let c2_i32_400 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v535 : BitVec 32 := Scalar.muli c2_i32_400 v5
  let v536 : BitVec 32 := Scalar.addi v534 v535
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v537 : BitVec 32 := Scalar.addi v536 v8
  let c0_i32_409 : BitVec 32 := 0#32
  let c0_i32_410 : BitVec 32 := 0#32
  ![v537.toNat, 0, 0]
def k0_dev27 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_421 : BitVec 32 := 4#32
  let v558 : BitVec 32 := Scalar.muli v2 c4_i32_421
  let v559 : BitVec 32 := Scalar.addi c0_i32_422 v558
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_423 : BitVec 32 := 2#32
  let v560 : BitVec 32 := Scalar.muli v5 c2_i32_423
  let v561 : BitVec 32 := Scalar.addi v559 v560
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_424 : BitVec 32 := 1#32
  let v562 : BitVec 32 := Scalar.muli v9 c1_i32_424
  let v563 : BitVec 32 := Scalar.addi v561 v562
  v563.toNat
def k0_off10 (d0 : Dev nD) : Fin 4 → Nat :=
  let c0_i32_434 : BitVec 32 := 0#32
  let c4_i32_431 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v576 : BitVec 32 := Scalar.muli c4_i32_431 v10
  let c2_i32_432 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v577 : BitVec 32 := Scalar.muli c2_i32_432 v5
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v579 : BitVec 32 := Scalar.addi v578 v8
  let c0_i32_443 : BitVec 32 := 0#32
  let c0_i32_444 : BitVec 32 := 0#32
  ![0, v579.toNat, 0, 0]
def k0_dev28 (d0 : Dev nD) : Nat :=
  let c0_i32_458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_457 : BitVec 32 := 4#32
  let v600 : BitVec 32 := Scalar.muli v2 c4_i32_457
  let v601 : BitVec 32 := Scalar.addi c0_i32_458 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_459 : BitVec 32 := 2#32
  let v602 : BitVec 32 := Scalar.muli v5 c2_i32_459
  let v603 : BitVec 32 := Scalar.addi v601 v602
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_460 : BitVec 32 := 1#32
  let v604 : BitVec 32 := Scalar.muli v9 c1_i32_460
  let v605 : BitVec 32 := Scalar.addi v603 v604
  v605.toNat
def k0_off11 (d0 : Dev nD) : Fin 4 → Nat :=
  let c1_i32_470 : BitVec 32 := 1#32
  let c4_i32_467 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v618 : BitVec 32 := Scalar.muli c4_i32_467 v10
  let c2_i32_468 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v619 : BitVec 32 := Scalar.muli c2_i32_468 v5
  let v620 : BitVec 32 := Scalar.addi v618 v619
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v621 : BitVec 32 := Scalar.addi v620 v8
  let c0_i32_479 : BitVec 32 := 0#32
  let c0_i32_480 : BitVec 32 := 0#32
  ![1, v621.toNat, 0, 0]
def k0_dev29 (d0 : Dev nD) : Nat :=
  let c0_i32_494 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_493 : BitVec 32 := 4#32
  let v642 : BitVec 32 := Scalar.muli v2 c4_i32_493
  let v643 : BitVec 32 := Scalar.addi c0_i32_494 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_495 : BitVec 32 := 2#32
  let v644 : BitVec 32 := Scalar.muli v5 c2_i32_495
  let v645 : BitVec 32 := Scalar.addi v643 v644
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_496 : BitVec 32 := 1#32
  let v646 : BitVec 32 := Scalar.muli v9 c1_i32_496
  let v647 : BitVec 32 := Scalar.addi v645 v646
  v647.toNat
def k0_off12 (d0 : Dev nD) : Fin 3 → Nat :=
  let c4_i32_503 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v660 : BitVec 32 := Scalar.muli c4_i32_503 v10
  let c2_i32_504 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v661 : BitVec 32 := Scalar.muli c2_i32_504 v5
  let v662 : BitVec 32 := Scalar.addi v660 v661
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v663 : BitVec 32 := Scalar.addi v662 v8
  let c0_i32_513 : BitVec 32 := 0#32
  let c0_i32_514 : BitVec 32 := 0#32
  ![v663.toNat, 0, 0]
def k0_dev30 (d0 : Dev nD) : Nat :=
  let c0_i32_526 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_525 : BitVec 32 := 4#32
  let v684 : BitVec 32 := Scalar.muli v2 c4_i32_525
  let v685 : BitVec 32 := Scalar.addi c0_i32_526 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_527 : BitVec 32 := 2#32
  let v686 : BitVec 32 := Scalar.muli v5 c2_i32_527
  let v687 : BitVec 32 := Scalar.addi v685 v686
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_528 : BitVec 32 := 1#32
  let v688 : BitVec 32 := Scalar.muli v9 c1_i32_528
  let v689 : BitVec 32 := Scalar.addi v687 v688
  v689.toNat
def k0_off13 (d0 : Dev nD) : Fin 3 → Nat :=
  let c4_i32_535 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v702 : BitVec 32 := Scalar.muli c4_i32_535 v2
  let c2_i32_536 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v703 : BitVec 32 := Scalar.muli c2_i32_536 v11
  let v704 : BitVec 32 := Scalar.addi v702 v703
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v705 : BitVec 32 := Scalar.addi v704 v8
  let c0_i32_545 : BitVec 32 := 0#32
  let c0_i32_546 : BitVec 32 := 0#32
  ![v705.toNat, 0, 0]
def k0_dev31 (d0 : Dev nD) : Nat :=
  let c0_i32_558 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_557 : BitVec 32 := 4#32
  let v726 : BitVec 32 := Scalar.muli v2 c4_i32_557
  let v727 : BitVec 32 := Scalar.addi c0_i32_558 v726
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_559 : BitVec 32 := 2#32
  let v728 : BitVec 32 := Scalar.muli v5 c2_i32_559
  let v729 : BitVec 32 := Scalar.addi v727 v728
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_560 : BitVec 32 := 1#32
  let v730 : BitVec 32 := Scalar.muli v9 c1_i32_560
  let v731 : BitVec 32 := Scalar.addi v729 v730
  v731.toNat
def k0_off14 (d0 : Dev nD) : Fin 3 → Nat :=
  let c4_i32_567 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v744 : BitVec 32 := Scalar.muli c4_i32_567 v2
  let c2_i32_568 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v745 : BitVec 32 := Scalar.muli c2_i32_568 v11
  let v746 : BitVec 32 := Scalar.addi v744 v745
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v747 : BitVec 32 := Scalar.addi v746 v8
  let c0_i32_577 : BitVec 32 := 0#32
  let c0_i32_578 : BitVec 32 := 0#32
  ![v747.toNat, 0, 0]
def k0_dev32 (d0 : Dev nD) : Nat :=
  let c0_i32_590 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_589 : BitVec 32 := 4#32
  let v768 : BitVec 32 := Scalar.muli v2 c4_i32_589
  let v769 : BitVec 32 := Scalar.addi c0_i32_590 v768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_591 : BitVec 32 := 2#32
  let v770 : BitVec 32 := Scalar.muli v5 c2_i32_591
  let v771 : BitVec 32 := Scalar.addi v769 v770
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_592 : BitVec 32 := 1#32
  let v772 : BitVec 32 := Scalar.muli v9 c1_i32_592
  let v773 : BitVec 32 := Scalar.addi v771 v772
  v773.toNat
def k0_off15 (d0 : Dev nD) : Fin 3 → Nat :=
  let c4_i32_599 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v786 : BitVec 32 := Scalar.muli c4_i32_599 v2
  let c2_i32_600 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v787 : BitVec 32 := Scalar.muli c2_i32_600 v11
  let v788 : BitVec 32 := Scalar.addi v786 v787
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v789 : BitVec 32 := Scalar.addi v788 v8
  let c0_i32_609 : BitVec 32 := 0#32
  let c0_i32_610 : BitVec 32 := 0#32
  ![v789.toNat, 0, 0]
def k0_dev33 (d0 : Dev nD) : Nat :=
  let c0_i32_622 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_621 : BitVec 32 := 4#32
  let v810 : BitVec 32 := Scalar.muli v2 c4_i32_621
  let v811 : BitVec 32 := Scalar.addi c0_i32_622 v810
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_623 : BitVec 32 := 2#32
  let v812 : BitVec 32 := Scalar.muli v5 c2_i32_623
  let v813 : BitVec 32 := Scalar.addi v811 v812
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_624 : BitVec 32 := 1#32
  let v814 : BitVec 32 := Scalar.muli v9 c1_i32_624
  let v815 : BitVec 32 := Scalar.addi v813 v814
  v815.toNat
def k0_off16 (d0 : Dev nD) : Fin 4 → Nat :=
  let c0_i32_634 : BitVec 32 := 0#32
  let c4_i32_631 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v828 : BitVec 32 := Scalar.muli c4_i32_631 v2
  let c2_i32_632 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v829 : BitVec 32 := Scalar.muli c2_i32_632 v11
  let v830 : BitVec 32 := Scalar.addi v828 v829
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v831 : BitVec 32 := Scalar.addi v830 v8
  let c0_i32_643 : BitVec 32 := 0#32
  let c0_i32_644 : BitVec 32 := 0#32
  ![0, v831.toNat, 0, 0]
def k0_dev34 (d0 : Dev nD) : Nat :=
  let c0_i32_658 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_657 : BitVec 32 := 4#32
  let v852 : BitVec 32 := Scalar.muli v2 c4_i32_657
  let v853 : BitVec 32 := Scalar.addi c0_i32_658 v852
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_659 : BitVec 32 := 2#32
  let v854 : BitVec 32 := Scalar.muli v5 c2_i32_659
  let v855 : BitVec 32 := Scalar.addi v853 v854
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_660 : BitVec 32 := 1#32
  let v856 : BitVec 32 := Scalar.muli v9 c1_i32_660
  let v857 : BitVec 32 := Scalar.addi v855 v856
  v857.toNat
def k0_off17 (d0 : Dev nD) : Fin 4 → Nat :=
  let c1_i32_670 : BitVec 32 := 1#32
  let c4_i32_667 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v870 : BitVec 32 := Scalar.muli c4_i32_667 v2
  let c2_i32_668 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v871 : BitVec 32 := Scalar.muli c2_i32_668 v11
  let v872 : BitVec 32 := Scalar.addi v870 v871
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v873 : BitVec 32 := Scalar.addi v872 v8
  let c0_i32_679 : BitVec 32 := 0#32
  let c0_i32_680 : BitVec 32 := 0#32
  ![1, v873.toNat, 0, 0]
def k0_dev35 (d0 : Dev nD) : Nat :=
  let c0_i32_694 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_693 : BitVec 32 := 4#32
  let v894 : BitVec 32 := Scalar.muli v2 c4_i32_693
  let v895 : BitVec 32 := Scalar.addi c0_i32_694 v894
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_695 : BitVec 32 := 2#32
  let v896 : BitVec 32 := Scalar.muli v5 c2_i32_695
  let v897 : BitVec 32 := Scalar.addi v895 v896
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_696 : BitVec 32 := 1#32
  let v898 : BitVec 32 := Scalar.muli v9 c1_i32_696
  let v899 : BitVec 32 := Scalar.addi v897 v898
  v899.toNat
def k0_off18 (d0 : Dev nD) : Fin 3 → Nat :=
  let c4_i32_703 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v912 : BitVec 32 := Scalar.muli c4_i32_703 v2
  let c2_i32_704 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v913 : BitVec 32 := Scalar.muli c2_i32_704 v11
  let v914 : BitVec 32 := Scalar.addi v912 v913
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v915 : BitVec 32 := Scalar.addi v914 v8
  let c0_i32_713 : BitVec 32 := 0#32
  let c0_i32_714 : BitVec 32 := 0#32
  ![v915.toNat, 0, 0]
def k0_dev36 (d0 : Dev nD) : Nat :=
  let c0_i32_726 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_725 : BitVec 32 := 4#32
  let v936 : BitVec 32 := Scalar.muli v2 c4_i32_725
  let v937 : BitVec 32 := Scalar.addi c0_i32_726 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_727 : BitVec 32 := 2#32
  let v938 : BitVec 32 := Scalar.muli v5 c2_i32_727
  let v939 : BitVec 32 := Scalar.addi v937 v938
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_728 : BitVec 32 := 1#32
  let v940 : BitVec 32 := Scalar.muli v9 c1_i32_728
  let v941 : BitVec 32 := Scalar.addi v939 v940
  v941.toNat
def k0_off19 (d0 : Dev nD) : Fin 3 → Nat :=
  let c4_i32_735 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v954 : BitVec 32 := Scalar.muli c4_i32_735 v12
  let c2_i32_736 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v955 : BitVec 32 := Scalar.muli c2_i32_736 v13
  let v956 : BitVec 32 := Scalar.addi v954 v955
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v957 : BitVec 32 := Scalar.addi v956 v8
  let c0_i32_745 : BitVec 32 := 0#32
  let c0_i32_746 : BitVec 32 := 0#32
  ![v957.toNat, 0, 0]
def k0_dev37 (d0 : Dev nD) : Nat :=
  let c0_i32_757 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_756 : BitVec 32 := 4#32
  let v978 : BitVec 32 := Scalar.muli v2 c4_i32_756
  let v979 : BitVec 32 := Scalar.addi c0_i32_757 v978
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_758 : BitVec 32 := 2#32
  let v980 : BitVec 32 := Scalar.muli v5 c2_i32_758
  let v981 : BitVec 32 := Scalar.addi v979 v980
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_759 : BitVec 32 := 1#32
  let v982 : BitVec 32 := Scalar.muli v9 c1_i32_759
  let v983 : BitVec 32 := Scalar.addi v981 v982
  v983.toNat
def k0_off20 (d0 : Dev nD) : Fin 3 → Nat :=
  let c4_i32_766 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v996 : BitVec 32 := Scalar.muli c4_i32_766 v12
  let c2_i32_767 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v997 : BitVec 32 := Scalar.muli c2_i32_767 v13
  let v998 : BitVec 32 := Scalar.addi v996 v997
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v999 : BitVec 32 := Scalar.addi v998 v8
  let c0_i32_776 : BitVec 32 := 0#32
  let c0_i32_777 : BitVec 32 := 0#32
  ![v999.toNat, 0, 0]
def k0_dev38 (d0 : Dev nD) : Nat :=
  let c0_i32_789 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_788 : BitVec 32 := 4#32
  let v1020 : BitVec 32 := Scalar.muli v2 c4_i32_788
  let v1021 : BitVec 32 := Scalar.addi c0_i32_789 v1020
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_790 : BitVec 32 := 2#32
  let v1022 : BitVec 32 := Scalar.muli v5 c2_i32_790
  let v1023 : BitVec 32 := Scalar.addi v1021 v1022
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_791 : BitVec 32 := 1#32
  let v1024 : BitVec 32 := Scalar.muli v9 c1_i32_791
  let v1025 : BitVec 32 := Scalar.addi v1023 v1024
  v1025.toNat
def k0_off21 (d0 : Dev nD) : Fin 3 → Nat :=
  let c4_i32_798 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1038 : BitVec 32 := Scalar.muli c4_i32_798 v12
  let c2_i32_799 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1039 : BitVec 32 := Scalar.muli c2_i32_799 v13
  let v1040 : BitVec 32 := Scalar.addi v1038 v1039
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1041 : BitVec 32 := Scalar.addi v1040 v8
  let c0_i32_808 : BitVec 32 := 0#32
  let c0_i32_809 : BitVec 32 := 0#32
  ![v1041.toNat, 0, 0]
def k0_dev39 (d0 : Dev nD) : Nat :=
  let c0_i32_821 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_820 : BitVec 32 := 4#32
  let v1062 : BitVec 32 := Scalar.muli v2 c4_i32_820
  let v1063 : BitVec 32 := Scalar.addi c0_i32_821 v1062
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_822 : BitVec 32 := 2#32
  let v1064 : BitVec 32 := Scalar.muli v5 c2_i32_822
  let v1065 : BitVec 32 := Scalar.addi v1063 v1064
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_823 : BitVec 32 := 1#32
  let v1066 : BitVec 32 := Scalar.muli v9 c1_i32_823
  let v1067 : BitVec 32 := Scalar.addi v1065 v1066
  v1067.toNat
def k0_off22 (d0 : Dev nD) : Fin 4 → Nat :=
  let c0_i32_833 : BitVec 32 := 0#32
  let c4_i32_830 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1080 : BitVec 32 := Scalar.muli c4_i32_830 v12
  let c2_i32_831 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1081 : BitVec 32 := Scalar.muli c2_i32_831 v13
  let v1082 : BitVec 32 := Scalar.addi v1080 v1081
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1083 : BitVec 32 := Scalar.addi v1082 v8
  let c0_i32_842 : BitVec 32 := 0#32
  let c0_i32_843 : BitVec 32 := 0#32
  ![0, v1083.toNat, 0, 0]
def k0_dev40 (d0 : Dev nD) : Nat :=
  let c0_i32_857 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_856 : BitVec 32 := 4#32
  let v1104 : BitVec 32 := Scalar.muli v2 c4_i32_856
  let v1105 : BitVec 32 := Scalar.addi c0_i32_857 v1104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_858 : BitVec 32 := 2#32
  let v1106 : BitVec 32 := Scalar.muli v5 c2_i32_858
  let v1107 : BitVec 32 := Scalar.addi v1105 v1106
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_859 : BitVec 32 := 1#32
  let v1108 : BitVec 32 := Scalar.muli v9 c1_i32_859
  let v1109 : BitVec 32 := Scalar.addi v1107 v1108
  v1109.toNat
def k0_off23 (d0 : Dev nD) : Fin 4 → Nat :=
  let c1_i32_869 : BitVec 32 := 1#32
  let c4_i32_866 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1122 : BitVec 32 := Scalar.muli c4_i32_866 v12
  let c2_i32_867 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1123 : BitVec 32 := Scalar.muli c2_i32_867 v13
  let v1124 : BitVec 32 := Scalar.addi v1122 v1123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1125 : BitVec 32 := Scalar.addi v1124 v8
  let c0_i32_878 : BitVec 32 := 0#32
  let c0_i32_879 : BitVec 32 := 0#32
  ![1, v1125.toNat, 0, 0]
def k0_dev41 (d0 : Dev nD) : Nat :=
  let c0_i32_893 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_892 : BitVec 32 := 4#32
  let v1146 : BitVec 32 := Scalar.muli v2 c4_i32_892
  let v1147 : BitVec 32 := Scalar.addi c0_i32_893 v1146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_894 : BitVec 32 := 2#32
  let v1148 : BitVec 32 := Scalar.muli v5 c2_i32_894
  let v1149 : BitVec 32 := Scalar.addi v1147 v1148
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_895 : BitVec 32 := 1#32
  let v1150 : BitVec 32 := Scalar.muli v9 c1_i32_895
  let v1151 : BitVec 32 := Scalar.addi v1149 v1150
  v1151.toNat
def k0_off24 (d0 : Dev nD) : Fin 3 → Nat :=
  let c4_i32_902 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1164 : BitVec 32 := Scalar.muli c4_i32_902 v12
  let c2_i32_903 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1165 : BitVec 32 := Scalar.muli c2_i32_903 v13
  let v1166 : BitVec 32 := Scalar.addi v1164 v1165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1167 : BitVec 32 := Scalar.addi v1166 v8
  let c0_i32_912 : BitVec 32 := 0#32
  let c0_i32_913 : BitVec 32 := 0#32
  ![v1167.toNat, 0, 0]
def k0_dev42 (d0 : Dev nD) : Nat :=
  let c0_i32_925 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_924 : BitVec 32 := 4#32
  let v1188 : BitVec 32 := Scalar.muli v2 c4_i32_924
  let v1189 : BitVec 32 := Scalar.addi c0_i32_925 v1188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_926 : BitVec 32 := 2#32
  let v1190 : BitVec 32 := Scalar.muli v5 c2_i32_926
  let v1191 : BitVec 32 := Scalar.addi v1189 v1190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_927 : BitVec 32 := 1#32
  let v1192 : BitVec 32 := Scalar.muli v9 c1_i32_927
  let v1193 : BitVec 32 := Scalar.addi v1191 v1192
  v1193.toNat
def k0_off25 (d0 : Dev nD) : Fin 3 → Nat :=
  let c4_i32_934 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1206 : BitVec 32 := Scalar.muli c4_i32_934 v2
  let c2_i32_935 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1207 : BitVec 32 := Scalar.muli c2_i32_935 v5
  let v1208 : BitVec 32 := Scalar.addi v1206 v1207
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1209 : BitVec 32 := Scalar.addi v1208 v9
  let c0_i32_944 : BitVec 32 := 0#32
  let c0_i32_945 : BitVec 32 := 0#32
  ![v1209.toNat, 0, 0]
def k0_off26 (d0 : Dev nD) : Fin 3 → Nat :=
  let c4_i32_951 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1227 : BitVec 32 := Scalar.muli c4_i32_951 v10
  let c2_i32_952 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1228 : BitVec 32 := Scalar.muli c2_i32_952 v5
  let v1229 : BitVec 32 := Scalar.addi v1227 v1228
  let c1_i32_948 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1222 : BitVec 32 := Scalar.subi c1_i32_948 v8
  let v1230 : BitVec 32 := Scalar.addi v1229 v1222
  let c0_i32_961 : BitVec 32 := 0#32
  let c0_i32_962 : BitVec 32 := 0#32
  ![v1230.toNat, 0, 0]
def k0_off27 (d0 : Dev nD) : Fin 3 → Nat :=
  let c4_i32_968 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1248 : BitVec 32 := Scalar.muli c4_i32_968 v2
  let c2_i32_969 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1249 : BitVec 32 := Scalar.muli c2_i32_969 v11
  let v1250 : BitVec 32 := Scalar.addi v1248 v1249
  let c1_i32_965 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1243 : BitVec 32 := Scalar.subi c1_i32_965 v8
  let v1251 : BitVec 32 := Scalar.addi v1250 v1243
  let c0_i32_978 : BitVec 32 := 0#32
  let c0_i32_979 : BitVec 32 := 0#32
  ![v1251.toNat, 0, 0]
def k0_off28 (d0 : Dev nD) : Fin 3 → Nat :=
  let c4_i32_985 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1269 : BitVec 32 := Scalar.muli c4_i32_985 v12
  let c2_i32_986 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1270 : BitVec 32 := Scalar.muli c2_i32_986 v13
  let v1271 : BitVec 32 := Scalar.addi v1269 v1270
  let c1_i32_982 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1264 : BitVec 32 := Scalar.subi c1_i32_982 v8
  let v1272 : BitVec 32 := Scalar.addi v1271 v1264
  let c0_i32_995 : BitVec 32 := 0#32
  let c0_i32_996 : BitVec 32 := 0#32
  ![v1272.toNat, 0, 0]
def k0_off29 (d0 : Dev nD) : Fin 3 → Nat :=
  let c4_i32_1001 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1289 : BitVec 32 := Scalar.muli c4_i32_1001 v2
  let c2_i32_1002 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1290 : BitVec 32 := Scalar.muli c2_i32_1002 v5
  let v1291 : BitVec 32 := Scalar.addi v1289 v1290
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1292 : BitVec 32 := Scalar.addi v1291 v9
  let c0_i32_1011 : BitVec 32 := 0#32
  let c0_i32_1012 : BitVec 32 := 0#32
  ![v1292.toNat, 0, 0]
def k0_off30 (d0 : Dev nD) : Fin 3 → Nat :=
  let c4_i32_1018 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1310 : BitVec 32 := Scalar.muli c4_i32_1018 v10
  let c2_i32_1019 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1311 : BitVec 32 := Scalar.muli c2_i32_1019 v5
  let v1312 : BitVec 32 := Scalar.addi v1310 v1311
  let c1_i32_1015 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1305 : BitVec 32 := Scalar.subi c1_i32_1015 v8
  let v1313 : BitVec 32 := Scalar.addi v1312 v1305
  let c0_i32_1028 : BitVec 32 := 0#32
  let c0_i32_1029 : BitVec 32 := 0#32
  ![v1313.toNat, 0, 0]
def k0_off31 (d0 : Dev nD) : Fin 3 → Nat :=
  let c4_i32_1035 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1331 : BitVec 32 := Scalar.muli c4_i32_1035 v2
  let c2_i32_1036 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1332 : BitVec 32 := Scalar.muli c2_i32_1036 v11
  let v1333 : BitVec 32 := Scalar.addi v1331 v1332
  let c1_i32_1032 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1326 : BitVec 32 := Scalar.subi c1_i32_1032 v8
  let v1334 : BitVec 32 := Scalar.addi v1333 v1326
  let c0_i32_1045 : BitVec 32 := 0#32
  let c0_i32_1046 : BitVec 32 := 0#32
  ![v1334.toNat, 0, 0]
def k0_off32 (d0 : Dev nD) : Fin 3 → Nat :=
  let c4_i32_1052 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1352 : BitVec 32 := Scalar.muli c4_i32_1052 v12
  let c2_i32_1053 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1353 : BitVec 32 := Scalar.muli c2_i32_1053 v13
  let v1354 : BitVec 32 := Scalar.addi v1352 v1353
  let c1_i32_1049 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1347 : BitVec 32 := Scalar.subi c1_i32_1049 v8
  let v1355 : BitVec 32 := Scalar.addi v1354 v1347
  let c0_i32_1062 : BitVec 32 := 0#32
  let c0_i32_1063 : BitVec 32 := 0#32
  ![v1355.toNat, 0, 0]
def k0_off33 (d0 : Dev nD) : Fin 3 → Nat :=
  let c4_i32_1068 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1372 : BitVec 32 := Scalar.muli c4_i32_1068 v2
  let c2_i32_1069 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1373 : BitVec 32 := Scalar.muli c2_i32_1069 v5
  let v1374 : BitVec 32 := Scalar.addi v1372 v1373
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1375 : BitVec 32 := Scalar.addi v1374 v9
  let c0_i32_1078 : BitVec 32 := 0#32
  let c0_i32_1079 : BitVec 32 := 0#32
  ![v1375.toNat, 0, 0]
def k0_off34 (d0 : Dev nD) : Fin 3 → Nat :=
  let c4_i32_1085 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1393 : BitVec 32 := Scalar.muli c4_i32_1085 v10
  let c2_i32_1086 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1394 : BitVec 32 := Scalar.muli c2_i32_1086 v5
  let v1395 : BitVec 32 := Scalar.addi v1393 v1394
  let c1_i32_1082 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1388 : BitVec 32 := Scalar.subi c1_i32_1082 v8
  let v1396 : BitVec 32 := Scalar.addi v1395 v1388
  let c0_i32_1095 : BitVec 32 := 0#32
  let c0_i32_1096 : BitVec 32 := 0#32
  ![v1396.toNat, 0, 0]
def k0_off35 (d0 : Dev nD) : Fin 3 → Nat :=
  let c4_i32_1102 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1414 : BitVec 32 := Scalar.muli c4_i32_1102 v2
  let c2_i32_1103 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1415 : BitVec 32 := Scalar.muli c2_i32_1103 v11
  let v1416 : BitVec 32 := Scalar.addi v1414 v1415
  let c1_i32_1099 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1409 : BitVec 32 := Scalar.subi c1_i32_1099 v8
  let v1417 : BitVec 32 := Scalar.addi v1416 v1409
  let c0_i32_1112 : BitVec 32 := 0#32
  let c0_i32_1113 : BitVec 32 := 0#32
  ![v1417.toNat, 0, 0]
def k0_off36 (d0 : Dev nD) : Fin 3 → Nat :=
  let c4_i32_1119 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1435 : BitVec 32 := Scalar.muli c4_i32_1119 v12
  let c2_i32_1120 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1436 : BitVec 32 := Scalar.muli c2_i32_1120 v13
  let v1437 : BitVec 32 := Scalar.addi v1435 v1436
  let c1_i32_1116 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1430 : BitVec 32 := Scalar.subi c1_i32_1116 v8
  let v1438 : BitVec 32 := Scalar.addi v1437 v1430
  let c0_i32_1129 : BitVec 32 := 0#32
  let c0_i32_1130 : BitVec 32 := 0#32
  ![v1438.toNat, 0, 0]
def k0_off37 (d0 : Dev nD) : Fin 4 → Nat :=
  let c0_i32_1138 : BitVec 32 := 0#32
  let c4_i32_1135 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1455 : BitVec 32 := Scalar.muli c4_i32_1135 v2
  let c2_i32_1136 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1456 : BitVec 32 := Scalar.muli c2_i32_1136 v5
  let v1457 : BitVec 32 := Scalar.addi v1455 v1456
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1458 : BitVec 32 := Scalar.addi v1457 v9
  let c0_i32_1147 : BitVec 32 := 0#32
  let c0_i32_1148 : BitVec 32 := 0#32
  ![0, v1458.toNat, 0, 0]
def k0_off38 (d0 : Dev nD) : Fin 4 → Nat :=
  let c0_i32_1157 : BitVec 32 := 0#32
  let c4_i32_1154 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1476 : BitVec 32 := Scalar.muli c4_i32_1154 v10
  let c2_i32_1155 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1477 : BitVec 32 := Scalar.muli c2_i32_1155 v5
  let v1478 : BitVec 32 := Scalar.addi v1476 v1477
  let c1_i32_1151 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1471 : BitVec 32 := Scalar.subi c1_i32_1151 v8
  let v1479 : BitVec 32 := Scalar.addi v1478 v1471
  let c0_i32_1166 : BitVec 32 := 0#32
  let c0_i32_1167 : BitVec 32 := 0#32
  ![0, v1479.toNat, 0, 0]
def k0_off39 (d0 : Dev nD) : Fin 4 → Nat :=
  let c0_i32_1176 : BitVec 32 := 0#32
  let c4_i32_1173 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1497 : BitVec 32 := Scalar.muli c4_i32_1173 v2
  let c2_i32_1174 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1498 : BitVec 32 := Scalar.muli c2_i32_1174 v11
  let v1499 : BitVec 32 := Scalar.addi v1497 v1498
  let c1_i32_1170 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1492 : BitVec 32 := Scalar.subi c1_i32_1170 v8
  let v1500 : BitVec 32 := Scalar.addi v1499 v1492
  let c0_i32_1185 : BitVec 32 := 0#32
  let c0_i32_1186 : BitVec 32 := 0#32
  ![0, v1500.toNat, 0, 0]
def k0_off40 (d0 : Dev nD) : Fin 4 → Nat :=
  let c0_i32_1195 : BitVec 32 := 0#32
  let c4_i32_1192 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1518 : BitVec 32 := Scalar.muli c4_i32_1192 v12
  let c2_i32_1193 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1519 : BitVec 32 := Scalar.muli c2_i32_1193 v13
  let v1520 : BitVec 32 := Scalar.addi v1518 v1519
  let c1_i32_1189 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1513 : BitVec 32 := Scalar.subi c1_i32_1189 v8
  let v1521 : BitVec 32 := Scalar.addi v1520 v1513
  let c0_i32_1204 : BitVec 32 := 0#32
  let c0_i32_1205 : BitVec 32 := 0#32
  ![0, v1521.toNat, 0, 0]
def k0_off41 (d0 : Dev nD) : Fin 4 → Nat :=
  let c1_i32_1213 : BitVec 32 := 1#32
  let c4_i32_1210 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1538 : BitVec 32 := Scalar.muli c4_i32_1210 v2
  let c2_i32_1211 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1539 : BitVec 32 := Scalar.muli c2_i32_1211 v5
  let v1540 : BitVec 32 := Scalar.addi v1538 v1539
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1541 : BitVec 32 := Scalar.addi v1540 v9
  let c0_i32_1222 : BitVec 32 := 0#32
  let c0_i32_1223 : BitVec 32 := 0#32
  ![1, v1541.toNat, 0, 0]
def k0_off42 (d0 : Dev nD) : Fin 4 → Nat :=
  let c1_i32_1232 : BitVec 32 := 1#32
  let c4_i32_1229 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1559 : BitVec 32 := Scalar.muli c4_i32_1229 v10
  let c2_i32_1230 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1560 : BitVec 32 := Scalar.muli c2_i32_1230 v5
  let v1561 : BitVec 32 := Scalar.addi v1559 v1560
  let c1_i32_1226 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1554 : BitVec 32 := Scalar.subi c1_i32_1226 v8
  let v1562 : BitVec 32 := Scalar.addi v1561 v1554
  let c0_i32_1241 : BitVec 32 := 0#32
  let c0_i32_1242 : BitVec 32 := 0#32
  ![1, v1562.toNat, 0, 0]
def k0_off43 (d0 : Dev nD) : Fin 4 → Nat :=
  let c1_i32_1251 : BitVec 32 := 1#32
  let c4_i32_1248 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1580 : BitVec 32 := Scalar.muli c4_i32_1248 v2
  let c2_i32_1249 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1581 : BitVec 32 := Scalar.muli c2_i32_1249 v11
  let v1582 : BitVec 32 := Scalar.addi v1580 v1581
  let c1_i32_1245 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1575 : BitVec 32 := Scalar.subi c1_i32_1245 v8
  let v1583 : BitVec 32 := Scalar.addi v1582 v1575
  let c0_i32_1260 : BitVec 32 := 0#32
  let c0_i32_1261 : BitVec 32 := 0#32
  ![1, v1583.toNat, 0, 0]
def k0_off44 (d0 : Dev nD) : Fin 4 → Nat :=
  let c1_i32_1270 : BitVec 32 := 1#32
  let c4_i32_1267 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1601 : BitVec 32 := Scalar.muli c4_i32_1267 v12
  let c2_i32_1268 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1602 : BitVec 32 := Scalar.muli c2_i32_1268 v13
  let v1603 : BitVec 32 := Scalar.addi v1601 v1602
  let c1_i32_1264 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1596 : BitVec 32 := Scalar.subi c1_i32_1264 v8
  let v1604 : BitVec 32 := Scalar.addi v1603 v1596
  let c0_i32_1279 : BitVec 32 := 0#32
  let c0_i32_1280 : BitVec 32 := 0#32
  ![1, v1604.toNat, 0, 0]
def k0_off45 (d0 : Dev nD) : Fin 3 → Nat :=
  let c4_i32_1285 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1621 : BitVec 32 := Scalar.muli c4_i32_1285 v2
  let c2_i32_1286 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1622 : BitVec 32 := Scalar.muli c2_i32_1286 v5
  let v1623 : BitVec 32 := Scalar.addi v1621 v1622
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v1624 : BitVec 32 := Scalar.addi v1623 v9
  let c0_i32_1295 : BitVec 32 := 0#32
  let c0_i32_1296 : BitVec 32 := 0#32
  ![v1624.toNat, 0, 0]
def k0_off46 (d0 : Dev nD) : Fin 3 → Nat :=
  let c4_i32_1302 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v1642 : BitVec 32 := Scalar.muli c4_i32_1302 v10
  let c2_i32_1303 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1643 : BitVec 32 := Scalar.muli c2_i32_1303 v5
  let v1644 : BitVec 32 := Scalar.addi v1642 v1643
  let c1_i32_1299 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1637 : BitVec 32 := Scalar.subi c1_i32_1299 v8
  let v1645 : BitVec 32 := Scalar.addi v1644 v1637
  let c0_i32_1312 : BitVec 32 := 0#32
  let c0_i32_1313 : BitVec 32 := 0#32
  ![v1645.toNat, 0, 0]
def k0_off47 (d0 : Dev nD) : Fin 3 → Nat :=
  let c4_i32_1319 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1663 : BitVec 32 := Scalar.muli c4_i32_1319 v2
  let c2_i32_1320 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v1664 : BitVec 32 := Scalar.muli c2_i32_1320 v11
  let v1665 : BitVec 32 := Scalar.addi v1663 v1664
  let c1_i32_1316 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1658 : BitVec 32 := Scalar.subi c1_i32_1316 v8
  let v1666 : BitVec 32 := Scalar.addi v1665 v1658
  let c0_i32_1329 : BitVec 32 := 0#32
  let c0_i32_1330 : BitVec 32 := 0#32
  ![v1666.toNat, 0, 0]
def k0_off48 (d0 : Dev nD) : Fin 3 → Nat :=
  let c4_i32_1336 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v1684 : BitVec 32 := Scalar.muli c4_i32_1336 v12
  let c2_i32_1337 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v1685 : BitVec 32 := Scalar.muli c2_i32_1337 v13
  let v1686 : BitVec 32 := Scalar.addi v1684 v1685
  let c1_i32_1333 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1679 : BitVec 32 := Scalar.subi c1_i32_1333 v8
  let v1687 : BitVec 32 := Scalar.addi v1686 v1679
  let c0_i32_1346 : BitVec 32 := 0#32
  let c0_i32_1347 : BitVec 32 := 0#32
  ![v1687.toNat, 0, 0]
-- ==== Reference.lean ====
abbrev S16x1024 : Shape := ⟨2, ![16, 1024]⟩
abbrev S2048x1024 : Shape := ⟨2, ![2048, 1024]⟩
abbrev S1024x1024 : Shape := ⟨2, ![1024, 1024]⟩
abbrev S2816x1024 : Shape := ⟨2, ![2816, 1024]⟩
abbrev S8x2x1024 : Shape := ⟨3, ![8, 2, 1024]⟩
abbrev S8x256x1024 : Shape := ⟨3, ![8, 256, 1024]⟩
abbrev S8x128x1024 : Shape := ⟨3, ![8, 128, 1024]⟩
abbrev S8x352x1024 : Shape := ⟨3, ![8, 352, 1024]⟩
abbrev S1x8x352x1024 : Shape := ⟨4, ![1, 8, 352, 1024]⟩
abbrev S2x8x352x1024 : Shape := ⟨4, ![2, 8, 352, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2048x1024, .bf16⟩
  | .hbm, ⟨2, _⟩ => ⟨S1024x1024, .bf16⟩
  | .hbm, ⟨3, _⟩ => ⟨S2816x1024, .bf16⟩
  | .hbm, ⟨4, _⟩ => ⟨S2816x1024, .bf16⟩
  | .hbm, ⟨5, _⟩ => ⟨S2816x1024, .bf16⟩
  | .hbm, ⟨6, _⟩ => ⟨S8x2x1024, .f32⟩
  | .hbm, ⟨7, _⟩ => ⟨S8x256x1024, .bf16⟩
  | .hbm, ⟨8, _⟩ => ⟨S8x128x1024, .bf16⟩
  | .hbm, ⟨9, _⟩ => ⟨S8x352x1024, .bf16⟩
  | .hbm, ⟨10, _⟩ => ⟨S8x352x1024, .bf16⟩
  | .hbm, ⟨11, _⟩ => ⟨S1x8x352x1024, .bf16⟩
  | .hbm, ⟨12, _⟩ => ⟨S1x8x352x1024, .bf16⟩
  | .hbm, ⟨13, _⟩ => ⟨S2x8x352x1024, .bf16⟩
  | .hbm, ⟨14, _⟩ => ⟨S8x352x1024, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== ExchangeC.lean ====
abbrev S1x4x2x1x256x1024 : Shape := ⟨6, ![1, 4, 2, 1, 256, 1024]⟩
abbrev S1x4x2x1x128x1024 : Shape := ⟨6, ![1, 4, 2, 1, 128, 1024]⟩
abbrev S2x4x2x1x352x1024 : Shape := ⟨6, ![2, 4, 2, 1, 352, 1024]⟩
abbrev S1x4x2x1x352x1024 : Shape := ⟨6, ![1, 4, 2, 1, 352, 1024]⟩
abbrev S1x4x1x256x1024 : Shape := ⟨5, ![1, 4, 1, 256, 1024]⟩
abbrev S1x4x1x128x1024 : Shape := ⟨5, ![1, 4, 1, 128, 1024]⟩
abbrev S2x4x1x352x1024 : Shape := ⟨5, ![2, 4, 1, 352, 1024]⟩
abbrev S1x4x1x352x1024 : Shape := ⟨5, ![1, 4, 1, 352, 1024]⟩
abbrev S20 : Shape := ⟨1, ![20]⟩
abbrev S1 : Shape := ⟨1, ![1]⟩
abbrev S_ : Shape := ⟨0, ![]⟩
abbrev S1x1x1x256x1024 : Shape := ⟨5, ![1, 1, 1, 256, 1024]⟩
abbrev S256x1024 : Shape := ⟨2, ![256, 1024]⟩
abbrev S1x1x1x1x256x1024 : Shape := ⟨6, ![1, 1, 1, 1, 256, 1024]⟩
abbrev S1x1x1x128x1024 : Shape := ⟨5, ![1, 1, 1, 128, 1024]⟩
abbrev S128x1024 : Shape := ⟨2, ![128, 1024]⟩
abbrev S1x1x1x1x128x1024 : Shape := ⟨6, ![1, 1, 1, 1, 128, 1024]⟩
abbrev S1x1x1x352x1024 : Shape := ⟨5, ![1, 1, 1, 352, 1024]⟩
abbrev S352x1024 : Shape := ⟨2, ![352, 1024]⟩
abbrev S1x1x1x1x352x1024 : Shape := ⟨6, ![1, 1, 1, 1, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4x2x1x256x1024, .f32⟩
  | .hbm, ⟨1, _⟩ => ⟨S1x4x2x1x128x1024, .f32⟩
  | .hbm, ⟨2, _⟩ => ⟨S2x4x2x1x352x1024, .f32⟩
  | .hbm, ⟨3, _⟩ => ⟨S1x4x2x1x352x1024, .f32⟩
  | .hbm, ⟨4, _⟩ => ⟨S1x4x1x256x1024, .f32⟩
  | .hbm, ⟨5, _⟩ => ⟨S1x4x1x128x1024, .f32⟩
  | .hbm, ⟨6, _⟩ => ⟨S2x4x1x352x1024, .f32⟩
  | .hbm, ⟨7, _⟩ => ⟨S1x4x1x352x1024, .f32⟩
  | _, _ => ⟨S1x4x2x1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 6 → Nat :=
  let c0_i32 : BitVec 32 := 0#32
  let c0_i32_24 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c0_i32_25 : BitVec 32 := 0#32
  let c0_i32_37 : BitVec 32 := 0#32
  let c0_i32_38 : BitVec 32 := 0#32
  ![0, 0, v10.toNat, 0, 0, 0]
def k0_dev1 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v30 : BitVec 32 := Scalar.muli v2 c4_i32_31
  let v31 : BitVec 32 := Scalar.addi c0_i32_32 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v32 : BitVec 32 := Scalar.muli v5 c2_i32_33
  let v33 : BitVec 32 := Scalar.addi v31 v32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v34 : BitVec 32 := Scalar.muli v9 c1_i32_34
  let v35 : BitVec 32 := Scalar.addi v33 v34
  v35.toNat
def k0_off2 (d0 : Dev nD) : Fin 6 → Nat :=
  let c0_i32_39 : BitVec 32 := 0#32
  let c1_i32_40 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_41 : BitVec 32 := 0#32
  let c0_i32_53 : BitVec 32 := 0#32
  let c0_i32_54 : BitVec 32 := 0#32
  ![0, 1, v11.toNat, 0, 0, 0]
def k0_dev2 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v44 : BitVec 32 := Scalar.muli v2 c4_i32_47
  let v45 : BitVec 32 := Scalar.addi c0_i32_48 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v46 : BitVec 32 := Scalar.muli v5 c2_i32_49
  let v47 : BitVec 32 := Scalar.addi v45 v46
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_50 : BitVec 32 := 1#32
  let v48 : BitVec 32 := Scalar.muli v9 c1_i32_50
  let v49 : BitVec 32 := Scalar.addi v47 v48
  v49.toNat
def k0_off3 (d0 : Dev nD) : Fin 6 → Nat :=
  let c0_i32_55 : BitVec 32 := 0#32
  let c2_i32_56 : BitVec 32 := 2#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c0_i32_57 : BitVec 32 := 0#32
  let c0_i32_69 : BitVec 32 := 0#32
  let c0_i32_70 : BitVec 32 := 0#32
  ![0, 2, v12.toNat, 0, 0, 0]
def k0_dev3 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v58 : BitVec 32 := Scalar.muli v2 c4_i32_63
  let v59 : BitVec 32 := Scalar.addi c0_i32_64 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v60 : BitVec 32 := Scalar.muli v5 c2_i32_65
  let v61 : BitVec 32 := Scalar.addi v59 v60
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_66 : BitVec 32 := 1#32
  let v62 : BitVec 32 := Scalar.muli v9 c1_i32_66
  let v63 : BitVec 32 := Scalar.addi v61 v62
  v63.toNat
def k0_off4 (d0 : Dev nD) : Fin 6 → Nat :=
  let c0_i32_71 : BitVec 32 := 0#32
  let c3_i32 : BitVec 32 := 3#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_72 : BitVec 32 := 0#32
  let c0_i32_84 : BitVec 32 := 0#32
  let c0_i32_85 : BitVec 32 := 0#32
  ![0, 3, v13.toNat, 0, 0, 0]
def k0_dev4 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v72 : BitVec 32 := Scalar.muli v2 c4_i32_78
  let v73 : BitVec 32 := Scalar.addi c0_i32_79 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v74 : BitVec 32 := Scalar.muli v5 c2_i32_80
  let v75 : BitVec 32 := Scalar.addi v73 v74
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_81 : BitVec 32 := 1#32
  let v76 : BitVec 32 := Scalar.muli v9 c1_i32_81
  let v77 : BitVec 32 := Scalar.addi v75 v76
  v77.toNat
def k0_off5 (d0 : Dev nD) : Fin 6 → Nat :=
  let c0_i32_86 : BitVec 32 := 0#32
  let c0_i32_87 : BitVec 32 := 0#32
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c0_i32_88 : BitVec 32 := 0#32
  let c0_i32_100 : BitVec 32 := 0#32
  let c0_i32_101 : BitVec 32 := 0#32
  ![0, 0, v14.toNat, 0, 0, 0]
def k0_dev5 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v86 : BitVec 32 := Scalar.muli v2 c4_i32_94
  let v87 : BitVec 32 := Scalar.addi c0_i32_95 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v88 : BitVec 32 := Scalar.muli v5 c2_i32_96
  let v89 : BitVec 32 := Scalar.addi v87 v88
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_97 : BitVec 32 := 1#32
  let v90 : BitVec 32 := Scalar.muli v9 c1_i32_97
  let v91 : BitVec 32 := Scalar.addi v89 v90
  v91.toNat
def k0_off6 (d0 : Dev nD) : Fin 6 → Nat :=
  let c0_i32_102 : BitVec 32 := 0#32
  let c1_i32_103 : BitVec 32 := 1#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_104 : BitVec 32 := 0#32
  let c0_i32_115 : BitVec 32 := 0#32
  let c0_i32_116 : BitVec 32 := 0#32
  ![0, 1, v15.toNat, 0, 0, 0]
def k0_dev6 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v100 : BitVec 32 := Scalar.muli v2 c4_i32_109
  let v101 : BitVec 32 := Scalar.addi c0_i32_110 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v102 : BitVec 32 := Scalar.muli v5 c2_i32_111
  let v103 : BitVec 32 := Scalar.addi v101 v102
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_112 : BitVec 32 := 1#32
  let v104 : BitVec 32 := Scalar.muli v9 c1_i32_112
  let v105 : BitVec 32 := Scalar.addi v103 v104
  v105.toNat
def k0_off7 (d0 : Dev nD) : Fin 6 → Nat :=
  let c0_i32_117 : BitVec 32 := 0#32
  let c2_i32_118 : BitVec 32 := 2#32
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c0_i32_119 : BitVec 32 := 0#32
  let c0_i32_130 : BitVec 32 := 0#32
  let c0_i32_131 : BitVec 32 := 0#32
  ![0, 2, v16.toNat, 0, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v114 : BitVec 32 := Scalar.muli v2 c4_i32_124
  let v115 : BitVec 32 := Scalar.addi c0_i32_125 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v116 : BitVec 32 := Scalar.muli v5 c2_i32_126
  let v117 : BitVec 32 := Scalar.addi v115 v116
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_127 : BitVec 32 := 1#32
  let v118 : BitVec 32 := Scalar.muli v9 c1_i32_127
  let v119 : BitVec 32 := Scalar.addi v117 v118
  v119.toNat
def k0_off8 (d0 : Dev nD) : Fin 6 → Nat :=
  let c0_i32_132 : BitVec 32 := 0#32
  let c3_i32_133 : BitVec 32 := 3#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_11 v8
  let c0_i32_134 : BitVec 32 := 0#32
  let c0_i32_145 : BitVec 32 := 0#32
  let c0_i32_146 : BitVec 32 := 0#32
  ![0, 3, v17.toNat, 0, 0, 0]
def k0_dev8 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v128 : BitVec 32 := Scalar.muli v2 c4_i32_139
  let v129 : BitVec 32 := Scalar.addi c0_i32_140 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v130 : BitVec 32 := Scalar.muli v5 c2_i32_141
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_142 : BitVec 32 := 1#32
  let v132 : BitVec 32 := Scalar.muli v9 c1_i32_142
  let v133 : BitVec 32 := Scalar.addi v131 v132
  v133.toNat
def k0_off9 (d0 : Dev nD) : Fin 6 → Nat :=
  let c0_i32_147 : BitVec 32 := 0#32
  let c0_i32_148 : BitVec 32 := 0#32
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_12 v8
  let c0_i32_149 : BitVec 32 := 0#32
  let c0_i32_160 : BitVec 32 := 0#32
  let c0_i32_161 : BitVec 32 := 0#32
  ![0, 0, v18.toNat, 0, 0, 0]
def k0_dev9 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v142 : BitVec 32 := Scalar.muli v2 c4_i32_154
  let v143 : BitVec 32 := Scalar.addi c0_i32_155 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v144 : BitVec 32 := Scalar.muli v5 c2_i32_156
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_157 : BitVec 32 := 1#32
  let v146 : BitVec 32 := Scalar.muli v9 c1_i32_157
  let v147 : BitVec 32 := Scalar.addi v145 v146
  v147.toNat
def k0_off10 (d0 : Dev nD) : Fin 6 → Nat :=
  let c0_i32_162 : BitVec 32 := 0#32
  let c1_i32_163 : BitVec 32 := 1#32
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_13 v8
  let c0_i32_164 : BitVec 32 := 0#32
  let c0_i32_175 : BitVec 32 := 0#32
  let c0_i32_176 : BitVec 32 := 0#32
  ![0, 1, v19.toNat, 0, 0, 0]
def k0_dev10 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v156 : BitVec 32 := Scalar.muli v2 c4_i32_169
  let v157 : BitVec 32 := Scalar.addi c0_i32_170 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v158 : BitVec 32 := Scalar.muli v5 c2_i32_171
  let v159 : BitVec 32 := Scalar.addi v157 v158
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_172 : BitVec 32 := 1#32
  let v160 : BitVec 32 := Scalar.muli v9 c1_i32_172
  let v161 : BitVec 32 := Scalar.addi v159 v160
  v161.toNat
def k0_off11 (d0 : Dev nD) : Fin 6 → Nat :=
  let c0_i32_177 : BitVec 32 := 0#32
  let c2_i32_178 : BitVec 32 := 2#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_14 v8
  let c0_i32_179 : BitVec 32 := 0#32
  let c0_i32_190 : BitVec 32 := 0#32
  let c0_i32_191 : BitVec 32 := 0#32
  ![0, 2, v20.toNat, 0, 0, 0]
def k0_dev11 (d0 : Dev nD) : Nat :=
  let c0_i32_185 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_184 : BitVec 32 := 4#32
  let v170 : BitVec 32 := Scalar.muli v2 c4_i32_184
  let v171 : BitVec 32 := Scalar.addi c0_i32_185 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_186 : BitVec 32 := 2#32
  let v172 : BitVec 32 := Scalar.muli v5 c2_i32_186
  let v173 : BitVec 32 := Scalar.addi v171 v172
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_187 : BitVec 32 := 1#32
  let v174 : BitVec 32 := Scalar.muli v9 c1_i32_187
  let v175 : BitVec 32 := Scalar.addi v173 v174
  v175.toNat
def k0_off12 (d0 : Dev nD) : Fin 6 → Nat :=
  let c0_i32_192 : BitVec 32 := 0#32
  let c3_i32_193 : BitVec 32 := 3#32
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v21 : BitVec 32 := Scalar.subi c1_i32_15 v8
  let c0_i32_194 : BitVec 32 := 0#32
  let c0_i32_205 : BitVec 32 := 0#32
  let c0_i32_206 : BitVec 32 := 0#32
  ![0, 3, v21.toNat, 0, 0, 0]
def k0_dev12 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_199 : BitVec 32 := 4#32
  let v184 : BitVec 32 := Scalar.muli v2 c4_i32_199
  let v185 : BitVec 32 := Scalar.addi c0_i32_200 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_201 : BitVec 32 := 2#32
  let v186 : BitVec 32 := Scalar.muli v5 c2_i32_201
  let v187 : BitVec 32 := Scalar.addi v185 v186
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_202 : BitVec 32 := 1#32
  let v188 : BitVec 32 := Scalar.muli v9 c1_i32_202
  let v189 : BitVec 32 := Scalar.addi v187 v188
  v189.toNat
def k0_off13 (d0 : Dev nD) : Fin 6 → Nat :=
  let c1_i32_207 : BitVec 32 := 1#32
  let c0_i32_208 : BitVec 32 := 0#32
  let c1_i32_16 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_16 v8
  let c0_i32_209 : BitVec 32 := 0#32
  let c0_i32_220 : BitVec 32 := 0#32
  let c0_i32_221 : BitVec 32 := 0#32
  ![1, 0, v22.toNat, 0, 0, 0]
def k0_dev13 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_214 : BitVec 32 := 4#32
  let v198 : BitVec 32 := Scalar.muli v2 c4_i32_214
  let v199 : BitVec 32 := Scalar.addi c0_i32_215 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v200 : BitVec 32 := Scalar.muli v5 c2_i32_216
  let v201 : BitVec 32 := Scalar.addi v199 v200
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_217 : BitVec 32 := 1#32
  let v202 : BitVec 32 := Scalar.muli v9 c1_i32_217
  let v203 : BitVec 32 := Scalar.addi v201 v202
  v203.toNat
def k0_off14 (d0 : Dev nD) : Fin 6 → Nat :=
  let c1_i32_222 : BitVec 32 := 1#32
  let c1_i32_223 : BitVec 32 := 1#32
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_17 v8
  let c0_i32_224 : BitVec 32 := 0#32
  let c0_i32_235 : BitVec 32 := 0#32
  let c0_i32_236 : BitVec 32 := 0#32
  ![1, 1, v23.toNat, 0, 0, 0]
def k0_dev14 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v212 : BitVec 32 := Scalar.muli v2 c4_i32_229
  let v213 : BitVec 32 := Scalar.addi c0_i32_230 v212
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v214 : BitVec 32 := Scalar.muli v5 c2_i32_231
  let v215 : BitVec 32 := Scalar.addi v213 v214
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_232 : BitVec 32 := 1#32
  let v216 : BitVec 32 := Scalar.muli v9 c1_i32_232
  let v217 : BitVec 32 := Scalar.addi v215 v216
  v217.toNat
def k0_off15 (d0 : Dev nD) : Fin 6 → Nat :=
  let c1_i32_237 : BitVec 32 := 1#32
  let c2_i32_238 : BitVec 32 := 2#32
  let c1_i32_18 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_18 v8
  let c0_i32_239 : BitVec 32 := 0#32
  let c0_i32_250 : BitVec 32 := 0#32
  let c0_i32_251 : BitVec 32 := 0#32
  ![1, 2, v24.toNat, 0, 0, 0]
def k0_dev15 (d0 : Dev nD) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v226 : BitVec 32 := Scalar.muli v2 c4_i32_244
  let v227 : BitVec 32 := Scalar.addi c0_i32_245 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v228 : BitVec 32 := Scalar.muli v5 c2_i32_246
  let v229 : BitVec 32 := Scalar.addi v227 v228
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_247 : BitVec 32 := 1#32
  let v230 : BitVec 32 := Scalar.muli v9 c1_i32_247
  let v231 : BitVec 32 := Scalar.addi v229 v230
  v231.toNat
def k0_off16 (d0 : Dev nD) : Fin 6 → Nat :=
  let c1_i32_252 : BitVec 32 := 1#32
  let c3_i32_253 : BitVec 32 := 3#32
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_19 v8
  let c0_i32_254 : BitVec 32 := 0#32
  let c0_i32_265 : BitVec 32 := 0#32
  let c0_i32_266 : BitVec 32 := 0#32
  ![1, 3, v25.toNat, 0, 0, 0]
def k0_dev16 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v240 : BitVec 32 := Scalar.muli v2 c4_i32_259
  let v241 : BitVec 32 := Scalar.addi c0_i32_260 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_261 : BitVec 32 := 2#32
  let v242 : BitVec 32 := Scalar.muli v5 c2_i32_261
  let v243 : BitVec 32 := Scalar.addi v241 v242
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_262 : BitVec 32 := 1#32
  let v244 : BitVec 32 := Scalar.muli v9 c1_i32_262
  let v245 : BitVec 32 := Scalar.addi v243 v244
  v245.toNat
def k0_off17 (d0 : Dev nD) : Fin 6 → Nat :=
  let c0_i32_267 : BitVec 32 := 0#32
  let c0_i32_268 : BitVec 32 := 0#32
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v26 : BitVec 32 := Scalar.subi c1_i32_20 v8
  let c0_i32_269 : BitVec 32 := 0#32
  let c0_i32_280 : BitVec 32 := 0#32
  let c0_i32_281 : BitVec 32 := 0#32
  ![0, 0, v26.toNat, 0, 0, 0]
def k0_dev17 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v254 : BitVec 32 := Scalar.muli v2 c4_i32_274
  let v255 : BitVec 32 := Scalar.addi c0_i32_275 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v256 : BitVec 32 := Scalar.muli v5 c2_i32_276
  let v257 : BitVec 32 := Scalar.addi v255 v256
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_277 : BitVec 32 := 1#32
  let v258 : BitVec 32 := Scalar.muli v9 c1_i32_277
  let v259 : BitVec 32 := Scalar.addi v257 v258
  v259.toNat
def k0_off18 (d0 : Dev nD) : Fin 6 → Nat :=
  let c0_i32_282 : BitVec 32 := 0#32
  let c1_i32_283 : BitVec 32 := 1#32
  let c1_i32_21 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v27 : BitVec 32 := Scalar.subi c1_i32_21 v8
  let c0_i32_284 : BitVec 32 := 0#32
  let c0_i32_295 : BitVec 32 := 0#32
  let c0_i32_296 : BitVec 32 := 0#32
  ![0, 1, v27.toNat, 0, 0, 0]
def k0_dev18 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v268 : BitVec 32 := Scalar.muli v2 c4_i32_289
  let v269 : BitVec 32 := Scalar.addi c0_i32_290 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v270 : BitVec 32 := Scalar.muli v5 c2_i32_291
  let v271 : BitVec 32 := Scalar.addi v269 v270
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_292 : BitVec 32 := 1#32
  let v272 : BitVec 32 := Scalar.muli v9 c1_i32_292
  let v273 : BitVec 32 := Scalar.addi v271 v272
  v273.toNat
def k0_off19 (d0 : Dev nD) : Fin 6 → Nat :=
  let c0_i32_297 : BitVec 32 := 0#32
  let c2_i32_298 : BitVec 32 := 2#32
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v28 : BitVec 32 := Scalar.subi c1_i32_22 v8
  let c0_i32_299 : BitVec 32 := 0#32
  let c0_i32_310 : BitVec 32 := 0#32
  let c0_i32_311 : BitVec 32 := 0#32
  ![0, 2, v28.toNat, 0, 0, 0]
def k0_dev19 (d0 : Dev nD) : Nat :=
  let c0_i32_305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_304 : BitVec 32 := 4#32
  let v282 : BitVec 32 := Scalar.muli v2 c4_i32_304
  let v283 : BitVec 32 := Scalar.addi c0_i32_305 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_306 : BitVec 32 := 2#32
  let v284 : BitVec 32 := Scalar.muli v5 c2_i32_306
  let v285 : BitVec 32 := Scalar.addi v283 v284
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_307 : BitVec 32 := 1#32
  let v286 : BitVec 32 := Scalar.muli v9 c1_i32_307
  let v287 : BitVec 32 := Scalar.addi v285 v286
  v287.toNat
def k0_off20 (d0 : Dev nD) : Fin 6 → Nat :=
  let c0_i32_312 : BitVec 32 := 0#32
  let c3_i32_313 : BitVec 32 := 3#32
  let c1_i32_23 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_23 v8
  let c0_i32_314 : BitVec 32 := 0#32
  let c0_i32_325 : BitVec 32 := 0#32
  let c0_i32_326 : BitVec 32 := 0#32
  ![0, 3, v29.toNat, 0, 0, 0]
def k0_dev20 (d0 : Dev nD) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_319 : BitVec 32 := 4#32
  let v296 : BitVec 32 := Scalar.muli v2 c4_i32_319
  let v297 : BitVec 32 := Scalar.addi c0_i32_320 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_321 : BitVec 32 := 2#32
  let v298 : BitVec 32 := Scalar.muli v5 c2_i32_321
  let v299 : BitVec 32 := Scalar.addi v297 v298
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_322 : BitVec 32 := 1#32
  let v300 : BitVec 32 := Scalar.muli v9 c1_i32_322
  let v301 : BitVec 32 := Scalar.addi v299 v300
  v301.toNat
-- ==== ExchangeCReference.lean ====
abbrev S1x4x2x8x256x1024 : Shape := ⟨6, ![1, 4, 2, 8, 256, 1024]⟩
abbrev S1x4x2x8x128x1024 : Shape := ⟨6, ![1, 4, 2, 8, 128, 1024]⟩
abbrev S2x4x2x8x352x1024 : Shape := ⟨6, ![2, 4, 2, 8, 352, 1024]⟩
abbrev S1x4x2x8x352x1024 : Shape := ⟨6, ![1, 4, 2, 8, 352, 1024]⟩
abbrev S1x4x1x1x256x1024 : Shape := ⟨6, ![1, 4, 1, 1, 256, 1024]⟩
abbrev S1x4x256x1024 : Shape := ⟨4, ![1, 4, 256, 1024]⟩
abbrev S1x4x1x256x1024 : Shape := ⟨5, ![1, 4, 1, 256, 1024]⟩
abbrev S1x4x8x256x1024 : Shape := ⟨5, ![1, 4, 8, 256, 1024]⟩
abbrev S1x4x1x1x128x1024 : Shape := ⟨6, ![1, 4, 1, 1, 128, 1024]⟩
abbrev S1x4x128x1024 : Shape := ⟨4, ![1, 4, 128, 1024]⟩
abbrev S1x4x1x128x1024 : Shape := ⟨5, ![1, 4, 1, 128, 1024]⟩
abbrev S1x4x8x128x1024 : Shape := ⟨5, ![1, 4, 8, 128, 1024]⟩
abbrev S2x4x1x1x352x1024 : Shape := ⟨6, ![2, 4, 1, 1, 352, 1024]⟩
abbrev S2x4x352x1024 : Shape := ⟨4, ![2, 4, 352, 1024]⟩
abbrev S2x4x1x352x1024 : Shape := ⟨5, ![2, 4, 1, 352, 1024]⟩
abbrev S2x4x8x352x1024 : Shape := ⟨5, ![2, 4, 8, 352, 1024]⟩
abbrev S1x4x1x1x352x1024 : Shape := ⟨6, ![1, 4, 1, 1, 352, 1024]⟩
abbrev S1x4x352x1024 : Shape := ⟨4, ![1, 4, 352, 1024]⟩
abbrev S1x4x1x352x1024 : Shape := ⟨5, ![1, 4, 1, 352, 1024]⟩
abbrev S1x4x8x352x1024 : Shape := ⟨5, ![1, 4, 8, 352, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x4x2x8x256x1024, .f32⟩
  | .hbm, ⟨1, _⟩ => ⟨S1x4x2x8x128x1024, .f32⟩
  | .hbm, ⟨2, _⟩ => ⟨S2x4x2x8x352x1024, .f32⟩
  | .hbm, ⟨3, _⟩ => ⟨S1x4x2x8x352x1024, .f32⟩
  | .hbm, ⟨4, _⟩ => ⟨S1x4x1x1x256x1024, .f32⟩
  | .hbm, ⟨5, _⟩ => ⟨S1x4x256x1024, .f32⟩
  | .hbm, ⟨6, _⟩ => ⟨S1x4x1x1x256x1024, .f32⟩
  | .hbm, ⟨7, _⟩ => ⟨S1x4x256x1024, .f32⟩
  | .hbm, ⟨8, _⟩ => ⟨S1x4x1x1x256x1024, .f32⟩
  | .hbm, ⟨9, _⟩ => ⟨S1x4x256x1024, .f32⟩
  | .hbm, ⟨10, _⟩ => ⟨S1x4x1x1x256x1024, .f32⟩
  | .hbm, ⟨11, _⟩ => ⟨S1x4x256x1024, .f32⟩
  | .hbm, ⟨12, _⟩ => ⟨S1x4x1x1x256x1024, .f32⟩
  | .hbm, ⟨13, _⟩ => ⟨S1x4x256x1024, .f32⟩
  | .hbm, ⟨14, _⟩ => ⟨S1x4x1x1x256x1024, .f32⟩
  | .hbm, ⟨15, _⟩ => ⟨S1x4x256x1024, .f32⟩
  | .hbm, ⟨16, _⟩ => ⟨S1x4x1x1x256x1024, .f32⟩
  | .hbm, ⟨17, _⟩ => ⟨S1x4x256x1024, .f32⟩
  | .hbm, ⟨18, _⟩ => ⟨S1x4x1x1x256x1024, .f32⟩
  | .hbm, ⟨19, _⟩ => ⟨S1x4x256x1024, .f32⟩
  | .hbm, ⟨20, _⟩ => ⟨S1x4x1x256x1024, .f32⟩
  | .hbm, ⟨21, _⟩ => ⟨S1x4x1x256x1024, .f32⟩
  | .hbm, ⟨22, _⟩ => ⟨S1x4x1x256x1024, .f32⟩
  | .hbm, ⟨23, _⟩ => ⟨S1x4x1x256x1024, .f32⟩
  | .hbm, ⟨24, _⟩ => ⟨S1x4x1x256x1024, .f32⟩
  | .hbm, ⟨25, _⟩ => ⟨S1x4x1x256x1024, .f32⟩
  | .hbm, ⟨26, _⟩ => ⟨S1x4x1x256x1024, .f32⟩
  | .hbm, ⟨27, _⟩ => ⟨S1x4x1x256x1024, .f32⟩
  | .hbm, ⟨28, _⟩ => ⟨S1x4x8x256x1024, .f32⟩
  | .hbm, ⟨29, _⟩ => ⟨S1x4x1x1x128x1024, .f32⟩
  | .hbm, ⟨30, _⟩ => ⟨S1x4x128x1024, .f32⟩
  | .hbm, ⟨31, _⟩ => ⟨S1x4x1x1x128x1024, .f32⟩
  | .hbm, ⟨32, _⟩ => ⟨S1x4x128x1024, .f32⟩
  | .hbm, ⟨33, _⟩ => ⟨S1x4x1x1x128x1024, .f32⟩
  | .hbm, ⟨34, _⟩ => ⟨S1x4x128x1024, .f32⟩
  | .hbm, ⟨35, _⟩ => ⟨S1x4x1x1x128x1024, .f32⟩
  | .hbm, ⟨36, _⟩ => ⟨S1x4x128x1024, .f32⟩
  | .hbm, ⟨37, _⟩ => ⟨S1x4x1x1x128x1024, .f32⟩
  | .hbm, ⟨38, _⟩ => ⟨S1x4x128x1024, .f32⟩
  | .hbm, ⟨39, _⟩ => ⟨S1x4x1x1x128x1024, .f32⟩
  | .hbm, ⟨40, _⟩ => ⟨S1x4x128x1024, .f32⟩
  | .hbm, ⟨41, _⟩ => ⟨S1x4x1x1x128x1024, .f32⟩
  | .hbm, ⟨42, _⟩ => ⟨S1x4x128x1024, .f32⟩
  | .hbm, ⟨43, _⟩ => ⟨S1x4x1x1x128x1024, .f32⟩
  | .hbm, ⟨44, _⟩ => ⟨S1x4x128x1024, .f32⟩
  | .hbm, ⟨45, _⟩ => ⟨S1x4x1x128x1024, .f32⟩
  | .hbm, ⟨46, _⟩ => ⟨S1x4x1x128x1024, .f32⟩
  | .hbm, ⟨47, _⟩ => ⟨S1x4x1x128x1024, .f32⟩
  | .hbm, ⟨48, _⟩ => ⟨S1x4x1x128x1024, .f32⟩
  | .hbm, ⟨49, _⟩ => ⟨S1x4x1x128x1024, .f32⟩
  | .hbm, ⟨50, _⟩ => ⟨S1x4x1x128x1024, .f32⟩
  | .hbm, ⟨51, _⟩ => ⟨S1x4x1x128x1024, .f32⟩
  | .hbm, ⟨52, _⟩ => ⟨S1x4x1x128x1024, .f32⟩
  | .hbm, ⟨53, _⟩ => ⟨S1x4x8x128x1024, .f32⟩
  | .hbm, ⟨54, _⟩ => ⟨S2x4x1x1x352x1024, .f32⟩
  | .hbm, ⟨55, _⟩ => ⟨S2x4x352x1024, .f32⟩
  | .hbm, ⟨56, _⟩ => ⟨S2x4x1x1x352x1024, .f32⟩
  | .hbm, ⟨57, _⟩ => ⟨S2x4x352x1024, .f32⟩
  | .hbm, ⟨58, _⟩ => ⟨S2x4x1x1x352x1024, .f32⟩
  | .hbm, ⟨59, _⟩ => ⟨S2x4x352x1024, .f32⟩
  | .hbm, ⟨60, _⟩ => ⟨S2x4x1x1x352x1024, .f32⟩
  | .hbm, ⟨61, _⟩ => ⟨S2x4x352x1024, .f32⟩
  | .hbm, ⟨62, _⟩ => ⟨S2x4x1x1x352x1024, .f32⟩
  | .hbm, ⟨63, _⟩ => ⟨S2x4x352x1024, .f32⟩
  | .hbm, ⟨64, _⟩ => ⟨S2x4x1x1x352x1024, .f32⟩
  | .hbm, ⟨65, _⟩ => ⟨S2x4x352x1024, .f32⟩
  | .hbm, ⟨66, _⟩ => ⟨S2x4x1x1x352x1024, .f32⟩
  | .hbm, ⟨67, _⟩ => ⟨S2x4x352x1024, .f32⟩
  | .hbm, ⟨68, _⟩ => ⟨S2x4x1x1x352x1024, .f32⟩
  | .hbm, ⟨69, _⟩ => ⟨S2x4x352x1024, .f32⟩
  | .hbm, ⟨70, _⟩ => ⟨S2x4x1x352x1024, .f32⟩
  | .hbm, ⟨71, _⟩ => ⟨S2x4x1x352x1024, .f32⟩
  | .hbm, ⟨72, _⟩ => ⟨S2x4x1x352x1024, .f32⟩
  | .hbm, ⟨73, _⟩ => ⟨S2x4x1x352x1024, .f32⟩
  | .hbm, ⟨74, _⟩ => ⟨S2x4x1x352x1024, .f32⟩
  | .hbm, ⟨75, _⟩ => ⟨S2x4x1x352x1024, .f32⟩
  | .hbm, ⟨76, _⟩ => ⟨S2x4x1x352x1024, .f32⟩
  | .hbm, ⟨77, _⟩ => ⟨S2x4x1x352x1024, .f32⟩
  | .hbm, ⟨78, _⟩ => ⟨S2x4x8x352x1024, .f32⟩
  | .hbm, ⟨79, _⟩ => ⟨S1x4x1x1x352x1024, .f32⟩
  | .hbm, ⟨80, _⟩ => ⟨S1x4x352x1024, .f32⟩
  | .hbm, ⟨81, _⟩ => ⟨S1x4x1x1x352x1024, .f32⟩
  | .hbm, ⟨82, _⟩ => ⟨S1x4x352x1024, .f32⟩
  | .hbm, ⟨83, _⟩ => ⟨S1x4x1x1x352x1024, .f32⟩
  | .hbm, ⟨84, _⟩ => ⟨S1x4x352x1024, .f32⟩
  | .hbm, ⟨85, _⟩ => ⟨S1x4x1x1x352x1024, .f32⟩
  | .hbm, ⟨86, _⟩ => ⟨S1x4x352x1024, .f32⟩
  | .hbm, ⟨87, _⟩ => ⟨S1x4x1x1x352x1024, .f32⟩
  | .hbm, ⟨88, _⟩ => ⟨S1x4x352x1024, .f32⟩
  | .hbm, ⟨89, _⟩ => ⟨S1x4x1x1x352x1024, .f32⟩
  | .hbm, ⟨90, _⟩ => ⟨S1x4x352x1024, .f32⟩
  | .hbm, ⟨91, _⟩ => ⟨S1x4x1x1x352x1024, .f32⟩
  | .hbm, ⟨92, _⟩ => ⟨S1x4x352x1024, .f32⟩
  | .hbm, ⟨93, _⟩ => ⟨S1x4x1x1x352x1024, .f32⟩
  | .hbm, ⟨94, _⟩ => ⟨S1x4x352x1024, .f32⟩
  | .hbm, ⟨95, _⟩ => ⟨S1x4x1x352x1024, .f32⟩
  | .hbm, ⟨96, _⟩ => ⟨S1x4x1x352x1024, .f32⟩
  | .hbm, ⟨97, _⟩ => ⟨S1x4x1x352x1024, .f32⟩
  | .hbm, ⟨98, _⟩ => ⟨S1x4x1x352x1024, .f32⟩
  | .hbm, ⟨99, _⟩ => ⟨S1x4x1x352x1024, .f32⟩
  | .hbm, ⟨100, _⟩ => ⟨S1x4x1x352x1024, .f32⟩
  | .hbm, ⟨101, _⟩ => ⟨S1x4x1x352x1024, .f32⟩
  | .hbm, ⟨102, _⟩ => ⟨S1x4x1x352x1024, .f32⟩
  | .hbm, ⟨103, _⟩ => ⟨S1x4x8x352x1024, .f32⟩
  | _, _ => ⟨S1x4x2x8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩

abbrev nD : Nat := 1
abbrev τ : Topo := Topo.v7x

variable {F : FTy → Type} [FloatOps F]
-- ==== ExchangeX.lean ====
abbrev S1x1x2x2x256x1024 : Shape := ⟨6, ![1, 1, 2, 2, 256, 1024]⟩
abbrev S1x1x2x2x128x1024 : Shape := ⟨6, ![1, 1, 2, 2, 128, 1024]⟩
abbrev S2x1x2x2x352x1024 : Shape := ⟨6, ![2, 1, 2, 2, 352, 1024]⟩
abbrev S1x1x2x2x352x1024 : Shape := ⟨6, ![1, 1, 2, 2, 352, 1024]⟩
abbrev S1x1x2x256x1024 : Shape := ⟨5, ![1, 1, 2, 256, 1024]⟩
abbrev S1x1x2x128x1024 : Shape := ⟨5, ![1, 1, 2, 128, 1024]⟩
abbrev S2x1x2x352x1024 : Shape := ⟨5, ![2, 1, 2, 352, 1024]⟩
abbrev S1x1x2x352x1024 : Shape := ⟨5, ![1, 1, 2, 352, 1024]⟩
abbrev S10 : Shape := ⟨1, ![10]⟩
abbrev S1 : Shape := ⟨1, ![1]⟩
abbrev S_ : Shape := ⟨0, ![]⟩
abbrev S1x1x1x256x1024 : Shape := ⟨5, ![1, 1, 1, 256, 1024]⟩
abbrev S256x1024 : Shape := ⟨2, ![256, 1024]⟩
abbrev S1x1x1x1x256x1024 : Shape := ⟨6, ![1, 1, 1, 1, 256, 1024]⟩
abbrev S1x1x1x128x1024 : Shape := ⟨5, ![1, 1, 1, 128, 1024]⟩
abbrev S128x1024 : Shape := ⟨2, ![128, 1024]⟩
abbrev S1x1x1x1x128x1024 : Shape := ⟨6, ![1, 1, 1, 1, 128, 1024]⟩
abbrev S1x1x1x352x1024 : Shape := ⟨5, ![1, 1, 1, 352, 1024]⟩
abbrev S352x1024 : Shape := ⟨2, ![352, 1024]⟩
abbrev S1x1x1x1x352x1024 : Shape := ⟨6, ![1, 1, 1, 1, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1x2x2x256x1024, .bf16⟩
  | .hbm, ⟨1, _⟩ => ⟨S1x1x2x2x128x1024, .bf16⟩
  | .hbm, ⟨2, _⟩ => ⟨S2x1x2x2x352x1024, .bf16⟩
  | .hbm, ⟨3, _⟩ => ⟨S1x1x2x2x352x1024, .bf16⟩
  | .hbm, ⟨4, _⟩ => ⟨S1x1x2x256x1024, .bf16⟩
  | .hbm, ⟨5, _⟩ => ⟨S1x1x2x128x1024, .bf16⟩
  | .hbm, ⟨6, _⟩ => ⟨S2x1x2x352x1024, .bf16⟩
  | .hbm, ⟨7, _⟩ => ⟨S1x1x2x352x1024, .bf16⟩
  | _, _ => ⟨S1x1x2x2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 6 → Nat :=
  let c0_i32 : BitVec 32 := 0#32
  let c0_i32_14 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c0_i32_15 : BitVec 32 := 0#32
  let c0_i32_27 : BitVec 32 := 0#32
  let c0_i32_28 : BitVec 32 := 0#32
  ![0, 0, v10.toNat, 0, 0, 0]
def k0_dev1 (d0 : Dev nD) : Nat :=
  let c0_i32_22 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_21 : BitVec 32 := 4#32
  let v20 : BitVec 32 := Scalar.muli v9 c4_i32_21
  let v21 : BitVec 32 := Scalar.addi c0_i32_22 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v22 : BitVec 32 := Scalar.muli v5 c2_i32_23
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v24 : BitVec 32 := Scalar.muli v8 c1_i32_24
  let v25 : BitVec 32 := Scalar.addi v23 v24
  v25.toNat
def k0_off2 (d0 : Dev nD) : Fin 6 → Nat :=
  let c0_i32_29 : BitVec 32 := 0#32
  let c0_i32_30 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c1_i32_31 : BitVec 32 := 1#32
  let c0_i32_43 : BitVec 32 := 0#32
  let c0_i32_44 : BitVec 32 := 0#32
  ![0, 0, v11.toNat, 1, 0, 0]
def k0_dev2 (d0 : Dev nD) : Nat :=
  let c0_i32_38 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_37 : BitVec 32 := 4#32
  let v34 : BitVec 32 := Scalar.muli v9 c4_i32_37
  let v35 : BitVec 32 := Scalar.addi c0_i32_38 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v36 : BitVec 32 := Scalar.muli v5 c2_i32_39
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v38 : BitVec 32 := Scalar.muli v8 c1_i32_40
  let v39 : BitVec 32 := Scalar.addi v37 v38
  v39.toNat
def k0_off3 (d0 : Dev nD) : Fin 6 → Nat :=
  let c0_i32_45 : BitVec 32 := 0#32
  let c0_i32_46 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c0_i32_47 : BitVec 32 := 0#32
  let c0_i32_59 : BitVec 32 := 0#32
  let c0_i32_60 : BitVec 32 := 0#32
  ![0, 0, v12.toNat, 0, 0, 0]
def k0_dev3 (d0 : Dev nD) : Nat :=
  let c0_i32_54 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_53 : BitVec 32 := 4#32
  let v48 : BitVec 32 := Scalar.muli v9 c4_i32_53
  let v49 : BitVec 32 := Scalar.addi c0_i32_54 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v50 : BitVec 32 := Scalar.muli v5 c2_i32_55
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v52 : BitVec 32 := Scalar.muli v8 c1_i32_56
  let v53 : BitVec 32 := Scalar.addi v51 v52
  v53.toNat
def k0_off4 (d0 : Dev nD) : Fin 6 → Nat :=
  let c0_i32_61 : BitVec 32 := 0#32
  let c0_i32_62 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_7 v2
  let c1_i32_63 : BitVec 32 := 1#32
  let c0_i32_74 : BitVec 32 := 0#32
  let c0_i32_75 : BitVec 32 := 0#32
  ![0, 0, v13.toNat, 1, 0, 0]
def k0_dev4 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v62 : BitVec 32 := Scalar.muli v9 c4_i32_68
  let v63 : BitVec 32 := Scalar.addi c0_i32_69 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v64 : BitVec 32 := Scalar.muli v5 c2_i32_70
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v66 : BitVec 32 := Scalar.muli v8 c1_i32_71
  let v67 : BitVec 32 := Scalar.addi v65 v66
  v67.toNat
def k0_off5 (d0 : Dev nD) : Fin 6 → Nat :=
  let c0_i32_76 : BitVec 32 := 0#32
  let c0_i32_77 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_8 v2
  let c0_i32_78 : BitVec 32 := 0#32
  let c0_i32_90 : BitVec 32 := 0#32
  let c0_i32_91 : BitVec 32 := 0#32
  ![0, 0, v14.toNat, 0, 0, 0]
def k0_dev5 (d0 : Dev nD) : Nat :=
  let c0_i32_85 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_84 : BitVec 32 := 4#32
  let v76 : BitVec 32 := Scalar.muli v9 c4_i32_84
  let v77 : BitVec 32 := Scalar.addi c0_i32_85 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v78 : BitVec 32 := Scalar.muli v5 c2_i32_86
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v80 : BitVec 32 := Scalar.muli v8 c1_i32_87
  let v81 : BitVec 32 := Scalar.addi v79 v80
  v81.toNat
def k0_off6 (d0 : Dev nD) : Fin 6 → Nat :=
  let c0_i32_92 : BitVec 32 := 0#32
  let c0_i32_93 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_9 v2
  let c1_i32_94 : BitVec 32 := 1#32
  let c0_i32_105 : BitVec 32 := 0#32
  let c0_i32_106 : BitVec 32 := 0#32
  ![0, 0, v15.toNat, 1, 0, 0]
def k0_dev6 (d0 : Dev nD) : Nat :=
  let c0_i32_100 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_99 : BitVec 32 := 4#32
  let v90 : BitVec 32 := Scalar.muli v9 c4_i32_99
  let v91 : BitVec 32 := Scalar.addi c0_i32_100 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v92 : BitVec 32 := Scalar.muli v5 c2_i32_101
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v94 : BitVec 32 := Scalar.muli v8 c1_i32_102
  let v95 : BitVec 32 := Scalar.addi v93 v94
  v95.toNat
def k0_off7 (d0 : Dev nD) : Fin 6 → Nat :=
  let c1_i32_107 : BitVec 32 := 1#32
  let c0_i32_108 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v16 : BitVec 32 := Scalar.subi c1_i32_10 v2
  let c0_i32_109 : BitVec 32 := 0#32
  let c0_i32_120 : BitVec 32 := 0#32
  let c0_i32_121 : BitVec 32 := 0#32
  ![1, 0, v16.toNat, 0, 0, 0]
def k0_dev7 (d0 : Dev nD) : Nat :=
  let c0_i32_115 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_114 : BitVec 32 := 4#32
  let v104 : BitVec 32 := Scalar.muli v9 c4_i32_114
  let v105 : BitVec 32 := Scalar.addi c0_i32_115 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v106 : BitVec 32 := Scalar.muli v5 c2_i32_116
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v108 : BitVec 32 := Scalar.muli v8 c1_i32_117
  let v109 : BitVec 32 := Scalar.addi v107 v108
  v109.toNat
def k0_off8 (d0 : Dev nD) : Fin 6 → Nat :=
  let c1_i32_122 : BitVec 32 := 1#32
  let c0_i32_123 : BitVec 32 := 0#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_11 v2
  let c1_i32_124 : BitVec 32 := 1#32
  let c0_i32_135 : BitVec 32 := 0#32
  let c0_i32_136 : BitVec 32 := 0#32
  ![1, 0, v17.toNat, 1, 0, 0]
def k0_dev8 (d0 : Dev nD) : Nat :=
  let c0_i32_130 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_129 : BitVec 32 := 4#32
  let v118 : BitVec 32 := Scalar.muli v9 c4_i32_129
  let v119 : BitVec 32 := Scalar.addi c0_i32_130 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v120 : BitVec 32 := Scalar.muli v5 c2_i32_131
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_132 : BitVec 32 := 1#32
  let v122 : BitVec 32 := Scalar.muli v8 c1_i32_132
  let v123 : BitVec 32 := Scalar.addi v121 v122
  v123.toNat
def k0_off9 (d0 : Dev nD) : Fin 6 → Nat :=
  let c0_i32_137 : BitVec 32 := 0#32
  let c0_i32_138 : BitVec 32 := 0#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_12 v2
  let c0_i32_139 : BitVec 32 := 0#32
  let c0_i32_150 : BitVec 32 := 0#32
  let c0_i32_151 : BitVec 32 := 0#32
  ![0, 0, v18.toNat, 0, 0, 0]
def k0_dev9 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v132 : BitVec 32 := Scalar.muli v9 c4_i32_144
  let v133 : BitVec 32 := Scalar.addi c0_i32_145 v132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v134 : BitVec 32 := Scalar.muli v5 c2_i32_146
  let v135 : BitVec 32 := Scalar.addi v133 v134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v136 : BitVec 32 := Scalar.muli v8 c1_i32_147
  let v137 : BitVec 32 := Scalar.addi v135 v136
  v137.toNat
def k0_off10 (d0 : Dev nD) : Fin 6 → Nat :=
  let c0_i32_152 : BitVec 32 := 0#32
  let c0_i32_153 : BitVec 32 := 0#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_13 v2
  let c1_i32_154 : BitVec 32 := 1#32
  let c0_i32_165 : BitVec 32 := 0#32
  let c0_i32_166 : BitVec 32 := 0#32
  ![0, 0, v19.toNat, 1, 0, 0]
def k0_dev10 (d0 : Dev nD) : Nat :=
  let c0_i32_160 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_159 : BitVec 32 := 4#32
  let v146 : BitVec 32 := Scalar.muli v9 c4_i32_159
  let v147 : BitVec 32 := Scalar.addi c0_i32_160 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v148 : BitVec 32 := Scalar.muli v5 c2_i32_161
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v150 : BitVec 32 := Scalar.muli v8 c1_i32_162
  let v151 : BitVec 32 := Scalar.addi v149 v150
  v151.toNat
-- ==== ExchangeXReference.lean ====
abbrev S1x8x2x2x256x1024 : Shape := ⟨6, ![1, 8, 2, 2, 256, 1024]⟩
abbrev S1x8x2x2x128x1024 : Shape := ⟨6, ![1, 8, 2, 2, 128, 1024]⟩
abbrev S2x8x2x2x352x1024 : Shape := ⟨6, ![2, 8, 2, 2, 352, 1024]⟩
abbrev S1x8x2x2x352x1024 : Shape := ⟨6, ![1, 8, 2, 2, 352, 1024]⟩
abbrev S1x1x1x2x256x1024 : Shape := ⟨6, ![1, 1, 1, 2, 256, 1024]⟩
abbrev S1x2x256x1024 : Shape := ⟨4, ![1, 2, 256, 1024]⟩
abbrev S1x1x2x256x1024 : Shape := ⟨5, ![1, 1, 2, 256, 1024]⟩
abbrev S1x8x2x256x1024 : Shape := ⟨5, ![1, 8, 2, 256, 1024]⟩
abbrev S1x1x1x2x128x1024 : Shape := ⟨6, ![1, 1, 1, 2, 128, 1024]⟩
abbrev S1x2x128x1024 : Shape := ⟨4, ![1, 2, 128, 1024]⟩
abbrev S1x1x2x128x1024 : Shape := ⟨5, ![1, 1, 2, 128, 1024]⟩
abbrev S1x8x2x128x1024 : Shape := ⟨5, ![1, 8, 2, 128, 1024]⟩
abbrev S2x1x1x2x352x1024 : Shape := ⟨6, ![2, 1, 1, 2, 352, 1024]⟩
abbrev S2x2x352x1024 : Shape := ⟨4, ![2, 2, 352, 1024]⟩
abbrev S2x1x2x352x1024 : Shape := ⟨5, ![2, 1, 2, 352, 1024]⟩
abbrev S2x8x2x352x1024 : Shape := ⟨5, ![2, 8, 2, 352, 1024]⟩
abbrev S1x1x1x2x352x1024 : Shape := ⟨6, ![1, 1, 1, 2, 352, 1024]⟩
abbrev S1x2x352x1024 : Shape := ⟨4, ![1, 2, 352, 1024]⟩
abbrev S1x1x2x352x1024 : Shape := ⟨5, ![1, 1, 2, 352, 1024]⟩
abbrev S1x8x2x352x1024 : Shape := ⟨5, ![1, 8, 2, 352, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x8x2x2x256x1024, .bf16⟩
  | .hbm, ⟨1, _⟩ => ⟨S1x8x2x2x128x1024, .bf16⟩
  | .hbm, ⟨2, _⟩ => ⟨S2x8x2x2x352x1024, .bf16⟩
  | .hbm, ⟨3, _⟩ => ⟨S1x8x2x2x352x1024, .bf16⟩
  | .hbm, ⟨4, _⟩ => ⟨S1x1x1x2x256x1024, .bf16⟩
  | .hbm, ⟨5, _⟩ => ⟨S1x2x256x1024, .bf16⟩
  | .hbm, ⟨6, _⟩ => ⟨S1x1x1x2x256x1024, .bf16⟩
  | .hbm, ⟨7, _⟩ => ⟨S1x2x256x1024, .bf16⟩
  | .hbm, ⟨8, _⟩ => ⟨S1x1x1x2x256x1024, .bf16⟩
  | .hbm, ⟨9, _⟩ => ⟨S1x2x256x1024, .bf16⟩
  | .hbm, ⟨10, _⟩ => ⟨S1x1x1x2x256x1024, .bf16⟩
  | .hbm, ⟨11, _⟩ => ⟨S1x2x256x1024, .bf16⟩
  | .hbm, ⟨12, _⟩ => ⟨S1x1x1x2x256x1024, .bf16⟩
  | .hbm, ⟨13, _⟩ => ⟨S1x2x256x1024, .bf16⟩
  | .hbm, ⟨14, _⟩ => ⟨S1x1x1x2x256x1024, .bf16⟩
  | .hbm, ⟨15, _⟩ => ⟨S1x2x256x1024, .bf16⟩
  | .hbm, ⟨16, _⟩ => ⟨S1x1x1x2x256x1024, .bf16⟩
  | .hbm, ⟨17, _⟩ => ⟨S1x2x256x1024, .bf16⟩
  | .hbm, ⟨18, _⟩ => ⟨S1x1x1x2x256x1024, .bf16⟩
  | .hbm, ⟨19, _⟩ => ⟨S1x2x256x1024, .bf16⟩
  | .hbm, ⟨20, _⟩ => ⟨S1x1x2x256x1024, .bf16⟩
  | .hbm, ⟨21, _⟩ => ⟨S1x1x2x256x1024, .bf16⟩
  | .hbm, ⟨22, _⟩ => ⟨S1x1x2x256x1024, .bf16⟩
  | .hbm, ⟨23, _⟩ => ⟨S1x1x2x256x1024, .bf16⟩
  | .hbm, ⟨24, _⟩ => ⟨S1x1x2x256x1024, .bf16⟩
  | .hbm, ⟨25, _⟩ => ⟨S1x1x2x256x1024, .bf16⟩
  | .hbm, ⟨26, _⟩ => ⟨S1x1x2x256x1024, .bf16⟩
  | .hbm, ⟨27, _⟩ => ⟨S1x1x2x256x1024, .bf16⟩
  | .hbm, ⟨28, _⟩ => ⟨S1x8x2x256x1024, .bf16⟩
  | .hbm, ⟨29, _⟩ => ⟨S1x1x1x2x128x1024, .bf16⟩
  | .hbm, ⟨30, _⟩ => ⟨S1x2x128x1024, .bf16⟩
  | .hbm, ⟨31, _⟩ => ⟨S1x1x1x2x128x1024, .bf16⟩
  | .hbm, ⟨32, _⟩ => ⟨S1x2x128x1024, .bf16⟩
  | .hbm, ⟨33, _⟩ => ⟨S1x1x1x2x128x1024, .bf16⟩
  | .hbm, ⟨34, _⟩ => ⟨S1x2x128x1024, .bf16⟩
  | .hbm, ⟨35, _⟩ => ⟨S1x1x1x2x128x1024, .bf16⟩
  | .hbm, ⟨36, _⟩ => ⟨S1x2x128x1024, .bf16⟩
  | .hbm, ⟨37, _⟩ => ⟨S1x1x1x2x128x1024, .bf16⟩
  | .hbm, ⟨38, _⟩ => ⟨S1x2x128x1024, .bf16⟩
  | .hbm, ⟨39, _⟩ => ⟨S1x1x1x2x128x1024, .bf16⟩
  | .hbm, ⟨40, _⟩ => ⟨S1x2x128x1024, .bf16⟩
  | .hbm, ⟨41, _⟩ => ⟨S1x1x1x2x128x1024, .bf16⟩
  | .hbm, ⟨42, _⟩ => ⟨S1x2x128x1024, .bf16⟩
  | .hbm, ⟨43, _⟩ => ⟨S1x1x1x2x128x1024, .bf16⟩
  | .hbm, ⟨44, _⟩ => ⟨S1x2x128x1024, .bf16⟩
  | .hbm, ⟨45, _⟩ => ⟨S1x1x2x128x1024, .bf16⟩
  | .hbm, ⟨46, _⟩ => ⟨S1x1x2x128x1024, .bf16⟩
  | .hbm, ⟨47, _⟩ => ⟨S1x1x2x128x1024, .bf16⟩
  | .hbm, ⟨48, _⟩ => ⟨S1x1x2x128x1024, .bf16⟩
  | .hbm, ⟨49, _⟩ => ⟨S1x1x2x128x1024, .bf16⟩
  | .hbm, ⟨50, _⟩ => ⟨S1x1x2x128x1024, .bf16⟩
  | .hbm, ⟨51, _⟩ => ⟨S1x1x2x128x1024, .bf16⟩
  | .hbm, ⟨52, _⟩ => ⟨S1x1x2x128x1024, .bf16⟩
  | .hbm, ⟨53, _⟩ => ⟨S1x8x2x128x1024, .bf16⟩
  | .hbm, ⟨54, _⟩ => ⟨S2x1x1x2x352x1024, .bf16⟩
  | .hbm, ⟨55, _⟩ => ⟨S2x2x352x1024, .bf16⟩
  | .hbm, ⟨56, _⟩ => ⟨S2x1x1x2x352x1024, .bf16⟩
  | .hbm, ⟨57, _⟩ => ⟨S2x2x352x1024, .bf16⟩
  | .hbm, ⟨58, _⟩ => ⟨S2x1x1x2x352x1024, .bf16⟩
  | .hbm, ⟨59, _⟩ => ⟨S2x2x352x1024, .bf16⟩
  | .hbm, ⟨60, _⟩ => ⟨S2x1x1x2x352x1024, .bf16⟩
  | .hbm, ⟨61, _⟩ => ⟨S2x2x352x1024, .bf16⟩
  | .hbm, ⟨62, _⟩ => ⟨S2x1x1x2x352x1024, .bf16⟩
  | .hbm, ⟨63, _⟩ => ⟨S2x2x352x1024, .bf16⟩
  | .hbm, ⟨64, _⟩ => ⟨S2x1x1x2x352x1024, .bf16⟩
  | .hbm, ⟨65, _⟩ => ⟨S2x2x352x1024, .bf16⟩
  | .hbm, ⟨66, _⟩ => ⟨S2x1x1x2x352x1024, .bf16⟩
  | .hbm, ⟨67, _⟩ => ⟨S2x2x352x1024, .bf16⟩
  | .hbm, ⟨68, _⟩ => ⟨S2x1x1x2x352x1024, .bf16⟩
  | .hbm, ⟨69, _⟩ => ⟨S2x2x352x1024, .bf16⟩
  | .hbm, ⟨70, _⟩ => ⟨S2x1x2x352x1024, .bf16⟩
  | .hbm, ⟨71, _⟩ => ⟨S2x1x2x352x1024, .bf16⟩
  | .hbm, ⟨72, _⟩ => ⟨S2x1x2x352x1024, .bf16⟩
  | .hbm, ⟨73, _⟩ => ⟨S2x1x2x352x1024, .bf16⟩
  | .hbm, ⟨74, _⟩ => ⟨S2x1x2x352x1024, .bf16⟩
  | .hbm, ⟨75, _⟩ => ⟨S2x1x2x352x1024, .bf16⟩
  | .hbm, ⟨76, _⟩ => ⟨S2x1x2x352x1024, .bf16⟩
  | .hbm, ⟨77, _⟩ => ⟨S2x1x2x352x1024, .bf16⟩
  | .hbm, ⟨78, _⟩ => ⟨S2x8x2x352x1024, .bf16⟩
  | .hbm, ⟨79, _⟩ => ⟨S1x1x1x2x352x1024, .bf16⟩
  | .hbm, ⟨80, _⟩ => ⟨S1x2x352x1024, .bf16⟩
  | .hbm, ⟨81, _⟩ => ⟨S1x1x1x2x352x1024, .bf16⟩
  | .hbm, ⟨82, _⟩ => ⟨S1x2x352x1024, .bf16⟩
  | .hbm, ⟨83, _⟩ => ⟨S1x1x1x2x352x1024, .bf16⟩
  | .hbm, ⟨84, _⟩ => ⟨S1x2x352x1024, .bf16⟩
  | .hbm, ⟨85, _⟩ => ⟨S1x1x1x2x352x1024, .bf16⟩
  | .hbm, ⟨86, _⟩ => ⟨S1x2x352x1024, .bf16⟩
  | .hbm, ⟨87, _⟩ => ⟨S1x1x1x2x352x1024, .bf16⟩
  | .hbm, ⟨88, _⟩ => ⟨S1x2x352x1024, .bf16⟩
  | .hbm, ⟨89, _⟩ => ⟨S1x1x1x2x352x1024, .bf16⟩
  | .hbm, ⟨90, _⟩ => ⟨S1x2x352x1024, .bf16⟩
  | .hbm, ⟨91, _⟩ => ⟨S1x1x1x2x352x1024, .bf16⟩
  | .hbm, ⟨92, _⟩ => ⟨S1x2x352x1024, .bf16⟩
  | .hbm, ⟨93, _⟩ => ⟨S1x1x1x2x352x1024, .bf16⟩
  | .hbm, ⟨94, _⟩ => ⟨S1x2x352x1024, .bf16⟩
  | .hbm, ⟨95, _⟩ => ⟨S1x1x2x352x1024, .bf16⟩
  | .hbm, ⟨96, _⟩ => ⟨S1x1x2x352x1024, .bf16⟩
  | .hbm, ⟨97, _⟩ => ⟨S1x1x2x352x1024, .bf16⟩
  | .hbm, ⟨98, _⟩ => ⟨S1x1x2x352x1024, .bf16⟩
  | .hbm, ⟨99, _⟩ => ⟨S1x1x2x352x1024, .bf16⟩
  | .hbm, ⟨100, _⟩ => ⟨S1x1x2x352x1024, .bf16⟩
  | .hbm, ⟨101, _⟩ => ⟨S1x1x2x352x1024, .bf16⟩
  | .hbm, ⟨102, _⟩ => ⟨S1x1x2x352x1024, .bf16⟩
  | .hbm, ⟨103, _⟩ => ⟨S1x8x2x352x1024, .bf16⟩
  | _, _ => ⟨S1x8x2x2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩

abbrev nD : Nat := 1
abbrev τ : Topo := Topo.v7x

variable {F : FTy → Type} [FloatOps F]
-- ==== ExchangeY.lean ====
abbrev S1x1x2x1x256x1024 : Shape := ⟨6, ![1, 1, 2, 1, 256, 1024]⟩
abbrev S1x1x2x1x128x1024 : Shape := ⟨6, ![1, 1, 2, 1, 128, 1024]⟩
abbrev S2x1x2x1x352x1024 : Shape := ⟨6, ![2, 1, 2, 1, 352, 1024]⟩
abbrev S1x1x2x1x352x1024 : Shape := ⟨6, ![1, 1, 2, 1, 352, 1024]⟩
abbrev S1x1x1x256x1024 : Shape := ⟨5, ![1, 1, 1, 256, 1024]⟩
abbrev S1x1x1x128x1024 : Shape := ⟨5, ![1, 1, 1, 128, 1024]⟩
abbrev S2x1x1x352x1024 : Shape := ⟨5, ![2, 1, 1, 352, 1024]⟩
abbrev S1x1x1x352x1024 : Shape := ⟨5, ![1, 1, 1, 352, 1024]⟩
abbrev S5 : Shape := ⟨1, ![5]⟩
abbrev S1 : Shape := ⟨1, ![1]⟩
abbrev S_ : Shape := ⟨0, ![]⟩
abbrev S256x1024 : Shape := ⟨2, ![256, 1024]⟩
abbrev S1x1x1x1x256x1024 : Shape := ⟨6, ![1, 1, 1, 1, 256, 1024]⟩
abbrev S128x1024 : Shape := ⟨2, ![128, 1024]⟩
abbrev S1x1x1x1x128x1024 : Shape := ⟨6, ![1, 1, 1, 1, 128, 1024]⟩
abbrev S352x1024 : Shape := ⟨2, ![352, 1024]⟩
abbrev S1x1x1x1x352x1024 : Shape := ⟨6, ![1, 1, 1, 1, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x1x2x1x256x1024, .bf16⟩
  | .hbm, ⟨1, _⟩ => ⟨S1x1x2x1x128x1024, .bf16⟩
  | .hbm, ⟨2, _⟩ => ⟨S2x1x2x1x352x1024, .bf16⟩
  | .hbm, ⟨3, _⟩ => ⟨S1x1x2x1x352x1024, .bf16⟩
  | .hbm, ⟨4, _⟩ => ⟨S1x1x1x256x1024, .bf16⟩
  | .hbm, ⟨5, _⟩ => ⟨S1x1x1x128x1024, .bf16⟩
  | .hbm, ⟨6, _⟩ => ⟨S2x1x1x352x1024, .bf16⟩
  | .hbm, ⟨7, _⟩ => ⟨S1x1x1x352x1024, .bf16⟩
  | _, _ => ⟨S1x1x2x1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 6 → Nat :=
  let c0_i32 : BitVec 32 := 0#32
  let c0_i32_9 : BitVec 32 := 0#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c0_i32_10 : BitVec 32 := 0#32
  let c0_i32_22 : BitVec 32 := 0#32
  let c0_i32_23 : BitVec 32 := 0#32
  ![0, 0, v10.toNat, 0, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v15 : BitVec 32 := Scalar.muli v2 c4_i32_16
  let v16 : BitVec 32 := Scalar.addi c0_i32_17 v15
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_18 : BitVec 32 := 2#32
  let v17 : BitVec 32 := Scalar.muli v9 c2_i32_18
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v19 : BitVec 32 := Scalar.muli v8 c1_i32_19
  let v20 : BitVec 32 := Scalar.addi v18 v19
  v20.toNat
def k0_off2 (d0 : Dev nD) : Fin 6 → Nat :=
  let c0_i32_24 : BitVec 32 := 0#32
  let c0_i32_25 : BitVec 32 := 0#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c0_i32_26 : BitVec 32 := 0#32
  let c0_i32_38 : BitVec 32 := 0#32
  let c0_i32_39 : BitVec 32 := 0#32
  ![0, 0, v11.toNat, 0, 0, 0]
def k0_dev2 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v29 : BitVec 32 := Scalar.muli v2 c4_i32_32
  let v30 : BitVec 32 := Scalar.addi c0_i32_33 v29
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_34 : BitVec 32 := 2#32
  let v31 : BitVec 32 := Scalar.muli v9 c2_i32_34
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v33 : BitVec 32 := Scalar.muli v8 c1_i32_35
  let v34 : BitVec 32 := Scalar.addi v32 v33
  v34.toNat
def k0_off3 (d0 : Dev nD) : Fin 6 → Nat :=
  let c0_i32_40 : BitVec 32 := 0#32
  let c0_i32_41 : BitVec 32 := 0#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c0_i32_42 : BitVec 32 := 0#32
  let c0_i32_54 : BitVec 32 := 0#32
  let c0_i32_55 : BitVec 32 := 0#32
  ![0, 0, v12.toNat, 0, 0, 0]
def k0_dev3 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v43 : BitVec 32 := Scalar.muli v2 c4_i32_48
  let v44 : BitVec 32 := Scalar.addi c0_i32_49 v43
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_50 : BitVec 32 := 2#32
  let v45 : BitVec 32 := Scalar.muli v9 c2_i32_50
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_51 : BitVec 32 := 1#32
  let v47 : BitVec 32 := Scalar.muli v8 c1_i32_51
  let v48 : BitVec 32 := Scalar.addi v46 v47
  v48.toNat
def k0_off4 (d0 : Dev nD) : Fin 6 → Nat :=
  let c1_i32_56 : BitVec 32 := 1#32
  let c0_i32_57 : BitVec 32 := 0#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c0_i32_58 : BitVec 32 := 0#32
  let c0_i32_69 : BitVec 32 := 0#32
  let c0_i32_70 : BitVec 32 := 0#32
  ![1, 0, v13.toNat, 0, 0, 0]
def k0_dev4 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v57 : BitVec 32 := Scalar.muli v2 c4_i32_63
  let v58 : BitVec 32 := Scalar.addi c0_i32_64 v57
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_65 : BitVec 32 := 2#32
  let v59 : BitVec 32 := Scalar.muli v9 c2_i32_65
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v61 : BitVec 32 := Scalar.muli v8 c1_i32_66
  let v62 : BitVec 32 := Scalar.addi v60 v61
  v62.toNat
def k0_off5 (d0 : Dev nD) : Fin 6 → Nat :=
  let c0_i32_71 : BitVec 32 := 0#32
  let c0_i32_72 : BitVec 32 := 0#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_8 v5
  let c0_i32_73 : BitVec 32 := 0#32
  let c0_i32_85 : BitVec 32 := 0#32
  let c0_i32_86 : BitVec 32 := 0#32
  ![0, 0, v14.toNat, 0, 0, 0]
def k0_dev5 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v71 : BitVec 32 := Scalar.muli v2 c4_i32_79
  let v72 : BitVec 32 := Scalar.addi c0_i32_80 v71
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_81 : BitVec 32 := 2#32
  let v73 : BitVec 32 := Scalar.muli v9 c2_i32_81
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v75 : BitVec 32 := Scalar.muli v8 c1_i32_82
  let v76 : BitVec 32 := Scalar.addi v74 v75
  v76.toNat
-- ==== ExchangeYReference.lean ====
abbrev S1x8x2x1x256x1024 : Shape := ⟨6, ![1, 8, 2, 1, 256, 1024]⟩
abbrev S1x8x2x1x128x1024 : Shape := ⟨6, ![1, 8, 2, 1, 128, 1024]⟩
abbrev S2x8x2x1x352x1024 : Shape := ⟨6, ![2, 8, 2, 1, 352, 1024]⟩
abbrev S1x8x2x1x352x1024 : Shape := ⟨6, ![1, 8, 2, 1, 352, 1024]⟩
abbrev S1x1x1x1x256x1024 : Shape := ⟨6, ![1, 1, 1, 1, 256, 1024]⟩
abbrev S1x1x256x1024 : Shape := ⟨4, ![1, 1, 256, 1024]⟩
abbrev S1x1x1x256x1024 : Shape := ⟨5, ![1, 1, 1, 256, 1024]⟩
abbrev S1x8x1x256x1024 : Shape := ⟨5, ![1, 8, 1, 256, 1024]⟩
abbrev S1x1x1x1x128x1024 : Shape := ⟨6, ![1, 1, 1, 1, 128, 1024]⟩
abbrev S1x1x128x1024 : Shape := ⟨4, ![1, 1, 128, 1024]⟩
abbrev S1x1x1x128x1024 : Shape := ⟨5, ![1, 1, 1, 128, 1024]⟩
abbrev S1x8x1x128x1024 : Shape := ⟨5, ![1, 8, 1, 128, 1024]⟩
abbrev S2x1x1x1x352x1024 : Shape := ⟨6, ![2, 1, 1, 1, 352, 1024]⟩
abbrev S2x1x352x1024 : Shape := ⟨4, ![2, 1, 352, 1024]⟩
abbrev S2x1x1x352x1024 : Shape := ⟨5, ![2, 1, 1, 352, 1024]⟩
abbrev S2x8x1x352x1024 : Shape := ⟨5, ![2, 8, 1, 352, 1024]⟩
abbrev S1x1x1x1x352x1024 : Shape := ⟨6, ![1, 1, 1, 1, 352, 1024]⟩
abbrev S1x1x352x1024 : Shape := ⟨4, ![1, 1, 352, 1024]⟩
abbrev S1x1x1x352x1024 : Shape := ⟨5, ![1, 1, 1, 352, 1024]⟩
abbrev S1x8x1x352x1024 : Shape := ⟨5, ![1, 8, 1, 352, 1024]⟩

abbrev nBuf : Space → Nat
  | .hbm => 104
  | .vmem => 0
  | .smem => 0
  | _ => 0

abbrev bufTy : (tb : Table) → Fin (tcTables nBuf tb) → BufTy
  | .hbm, ⟨0, _⟩ => ⟨S1x8x2x1x256x1024, .bf16⟩
  | .hbm, ⟨1, _⟩ => ⟨S1x8x2x1x128x1024, .bf16⟩
  | .hbm, ⟨2, _⟩ => ⟨S2x8x2x1x352x1024, .bf16⟩
  | .hbm, ⟨3, _⟩ => ⟨S1x8x2x1x352x1024, .bf16⟩
  | .hbm, ⟨4, _⟩ => ⟨S1x1x1x1x256x1024, .bf16⟩
  | .hbm, ⟨5, _⟩ => ⟨S1x1x256x1024, .bf16⟩
  | .hbm, ⟨6, _⟩ => ⟨S1x1x1x1x256x1024, .bf16⟩
  | .hbm, ⟨7, _⟩ => ⟨S1x1x256x1024, .bf16⟩
  | .hbm, ⟨8, _⟩ => ⟨S1x1x1x1x256x1024, .bf16⟩
  | .hbm, ⟨9, _⟩ => ⟨S1x1x256x1024, .bf16⟩
  | .hbm, ⟨10, _⟩ => ⟨S1x1x1x1x256x1024, .bf16⟩
  | .hbm, ⟨11, _⟩ => ⟨S1x1x256x1024, .bf16⟩
  | .hbm, ⟨12, _⟩ => ⟨S1x1x1x1x256x1024, .bf16⟩
  | .hbm, ⟨13, _⟩ => ⟨S1x1x256x1024, .bf16⟩
  | .hbm, ⟨14, _⟩ => ⟨S1x1x1x1x256x1024, .bf16⟩
  | .hbm, ⟨15, _⟩ => ⟨S1x1x256x1024, .bf16⟩
  | .hbm, ⟨16, _⟩ => ⟨S1x1x1x1x256x1024, .bf16⟩
  | .hbm, ⟨17, _⟩ => ⟨S1x1x256x1024, .bf16⟩
  | .hbm, ⟨18, _⟩ => ⟨S1x1x1x1x256x1024, .bf16⟩
  | .hbm, ⟨19, _⟩ => ⟨S1x1x256x1024, .bf16⟩
  | .hbm, ⟨20, _⟩ => ⟨S1x1x1x256x1024, .bf16⟩
  | .hbm, ⟨21, _⟩ => ⟨S1x1x1x256x1024, .bf16⟩
  | .hbm, ⟨22, _⟩ => ⟨S1x1x1x256x1024, .bf16⟩
  | .hbm, ⟨23, _⟩ => ⟨S1x1x1x256x1024, .bf16⟩
  | .hbm, ⟨24, _⟩ => ⟨S1x1x1x256x1024, .bf16⟩
  | .hbm, ⟨25, _⟩ => ⟨S1x1x1x256x1024, .bf16⟩
  | .hbm, ⟨26, _⟩ => ⟨S1x1x1x256x1024, .bf16⟩
  | .hbm, ⟨27, _⟩ => ⟨S1x1x1x256x1024, .bf16⟩
  | .hbm, ⟨28, _⟩ => ⟨S1x8x1x256x1024, .bf16⟩
  | .hbm, ⟨29, _⟩ => ⟨S1x1x1x1x128x1024, .bf16⟩
  | .hbm, ⟨30, _⟩ => ⟨S1x1x128x1024, .bf16⟩
  | .hbm, ⟨31, _⟩ => ⟨S1x1x1x1x128x1024, .bf16⟩
  | .hbm, ⟨32, _⟩ => ⟨S1x1x128x1024, .bf16⟩
  | .hbm, ⟨33, _⟩ => ⟨S1x1x1x1x128x1024, .bf16⟩
  | .hbm, ⟨34, _⟩ => ⟨S1x1x128x1024, .bf16⟩
  | .hbm, ⟨35, _⟩ => ⟨S1x1x1x1x128x1024, .bf16⟩
  | .hbm, ⟨36, _⟩ => ⟨S1x1x128x1024, .bf16⟩
  | .hbm, ⟨37, _⟩ => ⟨S1x1x1x1x128x1024, .bf16⟩
  | .hbm, ⟨38, _⟩ => ⟨S1x1x128x1024, .bf16⟩
  | .hbm, ⟨39, _⟩ => ⟨S1x1x1x1x128x1024, .bf16⟩
  | .hbm, ⟨40, _⟩ => ⟨S1x1x128x1024, .bf16⟩
  | .hbm, ⟨41, _⟩ => ⟨S1x1x1x1x128x1024, .bf16⟩
  | .hbm, ⟨42, _⟩ => ⟨S1x1x128x1024, .bf16⟩
  | .hbm, ⟨43, _⟩ => ⟨S1x1x1x1x128x1024, .bf16⟩
  | .hbm, ⟨44, _⟩ => ⟨S1x1x128x1024, .bf16⟩
  | .hbm, ⟨45, _⟩ => ⟨S1x1x1x128x1024, .bf16⟩
  | .hbm, ⟨46, _⟩ => ⟨S1x1x1x128x1024, .bf16⟩
  | .hbm, ⟨47, _⟩ => ⟨S1x1x1x128x1024, .bf16⟩
  | .hbm, ⟨48, _⟩ => ⟨S1x1x1x128x1024, .bf16⟩
  | .hbm, ⟨49, _⟩ => ⟨S1x1x1x128x1024, .bf16⟩
  | .hbm, ⟨50, _⟩ => ⟨S1x1x1x128x1024, .bf16⟩
  | .hbm, ⟨51, _⟩ => ⟨S1x1x1x128x1024, .bf16⟩
  | .hbm, ⟨52, _⟩ => ⟨S1x1x1x128x1024, .bf16⟩
  | .hbm, ⟨53, _⟩ => ⟨S1x8x1x128x1024, .bf16⟩
  | .hbm, ⟨54, _⟩ => ⟨S2x1x1x1x352x1024, .bf16⟩
  | .hbm, ⟨55, _⟩ => ⟨S2x1x352x1024, .bf16⟩
  | .hbm, ⟨56, _⟩ => ⟨S2x1x1x1x352x1024, .bf16⟩
  | .hbm, ⟨57, _⟩ => ⟨S2x1x352x1024, .bf16⟩
  | .hbm, ⟨58, _⟩ => ⟨S2x1x1x1x352x1024, .bf16⟩
  | .hbm, ⟨59, _⟩ => ⟨S2x1x352x1024, .bf16⟩
  | .hbm, ⟨60, _⟩ => ⟨S2x1x1x1x352x1024, .bf16⟩
  | .hbm, ⟨61, _⟩ => ⟨S2x1x352x1024, .bf16⟩
  | .hbm, ⟨62, _⟩ => ⟨S2x1x1x1x352x1024, .bf16⟩
  | .hbm, ⟨63, _⟩ => ⟨S2x1x352x1024, .bf16⟩
  | .hbm, ⟨64, _⟩ => ⟨S2x1x1x1x352x1024, .bf16⟩
  | .hbm, ⟨65, _⟩ => ⟨S2x1x352x1024, .bf16⟩
  | .hbm, ⟨66, _⟩ => ⟨S2x1x1x1x352x1024, .bf16⟩
  | .hbm, ⟨67, _⟩ => ⟨S2x1x352x1024, .bf16⟩
  | .hbm, ⟨68, _⟩ => ⟨S2x1x1x1x352x1024, .bf16⟩
  | .hbm, ⟨69, _⟩ => ⟨S2x1x352x1024, .bf16⟩
  | .hbm, ⟨70, _⟩ => ⟨S2x1x1x352x1024, .bf16⟩
  | .hbm, ⟨71, _⟩ => ⟨S2x1x1x352x1024, .bf16⟩
  | .hbm, ⟨72, _⟩ => ⟨S2x1x1x352x1024, .bf16⟩
  | .hbm, ⟨73, _⟩ => ⟨S2x1x1x352x1024, .bf16⟩
  | .hbm, ⟨74, _⟩ => ⟨S2x1x1x352x1024, .bf16⟩
  | .hbm, ⟨75, _⟩ => ⟨S2x1x1x352x1024, .bf16⟩
  | .hbm, ⟨76, _⟩ => ⟨S2x1x1x352x1024, .bf16⟩
  | .hbm, ⟨77, _⟩ => ⟨S2x1x1x352x1024, .bf16⟩
  | .hbm, ⟨78, _⟩ => ⟨S2x8x1x352x1024, .bf16⟩
  | .hbm, ⟨79, _⟩ => ⟨S1x1x1x1x352x1024, .bf16⟩
  | .hbm, ⟨80, _⟩ => ⟨S1x1x352x1024, .bf16⟩
  | .hbm, ⟨81, _⟩ => ⟨S1x1x1x1x352x1024, .bf16⟩
  | .hbm, ⟨82, _⟩ => ⟨S1x1x352x1024, .bf16⟩
  | .hbm, ⟨83, _⟩ => ⟨S1x1x1x1x352x1024, .bf16⟩
  | .hbm, ⟨84, _⟩ => ⟨S1x1x352x1024, .bf16⟩
  | .hbm, ⟨85, _⟩ => ⟨S1x1x1x1x352x1024, .bf16⟩
  | .hbm, ⟨86, _⟩ => ⟨S1x1x352x1024, .bf16⟩
  | .hbm, ⟨87, _⟩ => ⟨S1x1x1x1x352x1024, .bf16⟩
  | .hbm, ⟨88, _⟩ => ⟨S1x1x352x1024, .bf16⟩
  | .hbm, ⟨89, _⟩ => ⟨S1x1x1x1x352x1024, .bf16⟩
  | .hbm, ⟨90, _⟩ => ⟨S1x1x352x1024, .bf16⟩
  | .hbm, ⟨91, _⟩ => ⟨S1x1x1x1x352x1024, .bf16⟩
  | .hbm, ⟨92, _⟩ => ⟨S1x1x352x1024, .bf16⟩
  | .hbm, ⟨93, _⟩ => ⟨S1x1x1x1x352x1024, .bf16⟩
  | .hbm, ⟨94, _⟩ => ⟨S1x1x352x1024, .bf16⟩
  | .hbm, ⟨95, _⟩ => ⟨S1x1x1x352x1024, .bf16⟩
  | .hbm, ⟨96, _⟩ => ⟨S1x1x1x352x1024, .bf16⟩
  | .hbm, ⟨97, _⟩ => ⟨S1x1x1x352x1024, .bf16⟩
  | .hbm, ⟨98, _⟩ => ⟨S1x1x1x352x1024, .bf16⟩
  | .hbm, ⟨99, _⟩ => ⟨S1x1x1x352x1024, .bf16⟩
  | .hbm, ⟨100, _⟩ => ⟨S1x1x1x352x1024, .bf16⟩
  | .hbm, ⟨101, _⟩ => ⟨S1x1x1x352x1024, .bf16⟩
  | .hbm, ⟨102, _⟩ => ⟨S1x1x1x352x1024, .bf16⟩
  | .hbm, ⟨103, _⟩ => ⟨S1x8x1x352x1024, .bf16⟩
  | _, _ => ⟨S1x8x2x1x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩
abbrev main_v92 : Ref sig .tc := ⟨.hbm, 96, rfl⟩
abbrev main_v93 : Ref sig .tc := ⟨.hbm, 97, rfl⟩
abbrev main_v94 : Ref sig .tc := ⟨.hbm, 98, rfl⟩
abbrev main_v95 : Ref sig .tc := ⟨.hbm, 99, rfl⟩
abbrev main_v96 : Ref sig .tc := ⟨.hbm, 100, rfl⟩
abbrev main_v97 : Ref sig .tc := ⟨.hbm, 101, rfl⟩
abbrev main_v98 : Ref sig .tc := ⟨.hbm, 102, rfl⟩
abbrev main_v99 : Ref sig .tc := ⟨.hbm, 103, rfl⟩

abbrev nD : Nat := 1
abbrev τ : Topo := Topo.v7x

variable {F : FTy → Type} [FloatOps F]
-- ==== GatherMod.lean ====
abbrev S16x768 : Shape := ⟨2, ![16, 768]⟩
abbrev S8x16x768 : Shape := ⟨3, ![8, 16, 768]⟩
abbrev S1x7 : Shape := ⟨2, ![1, 7]⟩
abbrev S1 : Shape := ⟨1, ![1]⟩
abbrev S_ : Shape := ⟨0, ![]⟩
abbrev S1x16x768 : Shape := ⟨3, ![1, 16, 768]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S16x768, .f32⟩
  | .hbm, ⟨1, _⟩ => ⟨S8x16x768, .f32⟩
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_61 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v90 : BitVec 32 := Scalar.muli c4_i32_61 v10
  let c2_i32_62 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.muli c2_i32_62 v5
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v93 : BitVec 32 := Scalar.addi v92 v8
  let c0_i32_71 : BitVec 32 := 0#32
  let c0_i32_72 : BitVec 32 := 0#32
  ![v93.toNat, 0, 0]
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v114 : BitVec 32 := Scalar.muli v2 c4_i32_83
  let v115 : BitVec 32 := Scalar.addi c0_i32_84 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v116 : BitVec 32 := Scalar.muli v5 c2_i32_85
  let v117 : BitVec 32 := Scalar.addi v115 v116
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v118 : BitVec 32 := Scalar.muli v9 c1_i32_86
  let v119 : BitVec 32 := Scalar.addi v117 v118
  v119.toNat
def k0_off3 (d0 : Dev nD) : Fin 3 → Nat :=
  let c4_i32_93 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v132 : BitVec 32 := Scalar.muli c4_i32_93 v2
  let c2_i32_94 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v133 : BitVec 32 := Scalar.muli c2_i32_94 v11
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v135 : BitVec 32 := Scalar.addi v134 v8
  let c0_i32_103 : BitVec 32 := 0#32
  let c0_i32_104 : BitVec 32 := 0#32
  ![v135.toNat, 0, 0]
def k0_dev6 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v156 : BitVec 32 := Scalar.muli v2 c4_i32_114
  let v157 : BitVec 32 := Scalar.addi c0_i32_115 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v158 : BitVec 32 := Scalar.muli v5 c2_i32_116
  let v159 : BitVec 32 := Scalar.addi v157 v158
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_117 : BitVec 32 := 1#32
  let v160 : BitVec 32 := Scalar.muli v9 c1_i32_117
  let v161 : BitVec 32 := Scalar.addi v159 v160
  v161.toNat
def k0_off4 (d0 : Dev nD) : Fin 3 → Nat :=
  let c4_i32_124 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v174 : BitVec 32 := Scalar.muli c4_i32_124 v12
  let c2_i32_125 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v175 : BitVec 32 := Scalar.muli c2_i32_125 v13
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v177 : BitVec 32 := Scalar.addi v176 v8
  let c0_i32_134 : BitVec 32 := 0#32
  let c0_i32_135 : BitVec 32 := 0#32
  ![v177.toNat, 0, 0]
def k0_dev7 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v198 : BitVec 32 := Scalar.muli v2 c4_i32_145
  let v199 : BitVec 32 := Scalar.addi c0_i32_146 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v200 : BitVec 32 := Scalar.muli v5 c2_i32_147
  let v201 : BitVec 32 := Scalar.addi v199 v200
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_148 : BitVec 32 := 1#32
  let v202 : BitVec 32 := Scalar.muli v9 c1_i32_148
  let v203 : BitVec 32 := Scalar.addi v201 v202
  v203.toNat
def k0_off5 (d0 : Dev nD) : Fin 3 → Nat :=
  let c4_i32_155 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v216 : BitVec 32 := Scalar.muli c4_i32_155 v2
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.muli c2_i32_156 v5
  let v218 : BitVec 32 := Scalar.addi v216 v217
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v219 : BitVec 32 := Scalar.addi v218 v9
  let c0_i32_165 : BitVec 32 := 0#32
  let c0_i32_166 : BitVec 32 := 0#32
  ![v219.toNat, 0, 0]
def k0_off6 (d0 : Dev nD) : Fin 3 → Nat :=
  let c4_i32_172 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v237 : BitVec 32 := Scalar.muli c4_i32_172 v10
  let c2_i32_173 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v238 : BitVec 32 := Scalar.muli c2_i32_173 v5
  let v239 : BitVec 32 := Scalar.addi v237 v238
  let c1_i32_169 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v232 : BitVec 32 := Scalar.subi c1_i32_169 v8
  let v240 : BitVec 32 := Scalar.addi v239 v232
  let c0_i32_182 : BitVec 32 := 0#32
  let c0_i32_183 : BitVec 32 := 0#32
  ![v240.toNat, 0, 0]
def k0_off7 (d0 : Dev nD) : Fin 3 → Nat :=
  let c4_i32_189 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.muli c4_i32_189 v2
  let c2_i32_190 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v259 : BitVec 32 := Scalar.muli c2_i32_190 v11
  let v260 : BitVec 32 := Scalar.addi v258 v259
  let c1_i32_186 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v253 : BitVec 32 := Scalar.subi c1_i32_186 v8
  let v261 : BitVec 32 := Scalar.addi v260 v253
  let c0_i32_199 : BitVec 32 := 0#32
  let c0_i32_200 : BitVec 32 := 0#32
  ![v261.toNat, 0, 0]
def k0_off8 (d0 : Dev nD) : Fin 3 → Nat :=
  let c4_i32_206 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v279 : BitVec 32 := Scalar.muli c4_i32_206 v12
  let c2_i32_207 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v280 : BitVec 32 := Scalar.muli c2_i32_207 v13
  let v281 : BitVec 32 := Scalar.addi v279 v280
  let c1_i32_203 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v274 : BitVec 32 := Scalar.subi c1_i32_203 v8
  let v282 : BitVec 32 := Scalar.addi v281 v274
  let c0_i32_216 : BitVec 32 := 0#32
  let c0_i32_217 : BitVec 32 := 0#32
  ![v282.toNat, 0, 0]
-- ==== GatherModReference.lean ====
abbrev S128x768 : Shape := ⟨2, ![128, 768]⟩
abbrev S8x16x768 : Shape := ⟨3, ![8, 16, 768]⟩

abbrev nBuf : Space → Nat
  | .hbm => 2
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S8x16x768, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherSmall.lean ====
abbrev S84x1024 : Shape := ⟨2, ![84, 1024]⟩
abbrev S8x84x1024 : Shape := ⟨3, ![8, 84, 1024]⟩
abbrev S1x7 : Shape := ⟨2, ![1, 7]⟩
abbrev S1 : Shape := ⟨1, ![1]⟩
abbrev S_ : Shape := ⟨0, ![]⟩
abbrev S1x84x1024 : Shape := ⟨3, ![1, 84, 1024]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S84x1024, .f32⟩
  | .hbm, ⟨1, _⟩ => ⟨S8x84x1024, .f32⟩
  | _, _ => ⟨S84x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32_10 : BitVec 32 := 0#32
  let c0_i32_11 : BitVec 32 := 0#32
  ![v17.toNat, 0, 0]
def k0_dev1 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v42 : BitVec 32 := Scalar.muli v9 c1_i32_27
  let v43 : BitVec 32 := Scalar.addi v41 v42
  v43.toNat
def k0_dev2 (d0 : Dev nD) : Nat :=
  let c0_i32_35 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_34 : BitVec 32 := 4#32
  let v50 : BitVec 32 := Scalar.muli v10 c4_i32_34
  let v51 : BitVec 32 := Scalar.addi c0_i32_35 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v52 : BitVec 32 := Scalar.muli v5 c2_i32_36
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v54 : BitVec 32 := Scalar.muli v8 c1_i32_37
  let v55 : BitVec 32 := Scalar.addi v53 v54
  v55.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v62 : BitVec 32 := Scalar.muli v2 c4_i32_44
  let v63 : BitVec 32 := Scalar.addi c0_i32_45 v62
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_46 : BitVec 32 := 2#32
  let v64 : BitVec 32 := Scalar.muli v11 c2_i32_46
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v66 : BitVec 32 := Scalar.muli v8 c1_i32_47
  let v67 : BitVec 32 := Scalar.addi v65 v66
  v67.toNat
def k0_dev4 (d0 : Dev nD) : Nat :=
  let c0_i32_54 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_53 : BitVec 32 := 4#32
  let v74 : BitVec 32 := Scalar.muli v12 c4_i32_53
  let v75 : BitVec 32 := Scalar.addi c0_i32_54 v74
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_55 : BitVec 32 := 2#32
  let v76 : BitVec 32 := Scalar.muli v13 c2_i32_55
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v78 : BitVec 32 := Scalar.muli v8 c1_i32_56
  let v79 : BitVec 32 := Scalar.addi v77 v78
  v79.toNat
def k0_off2 (d0 : Dev nD) : Fin 3 → Nat :=
  let c4_i32_61 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v90 : BitVec 32 := Scalar.muli c4_i32_61 v10
  let c2_i32_62 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v91 : BitVec 32 := Scalar.muli c2_i32_62 v5
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v93 : BitVec 32 := Scalar.addi v92 v8
  let c0_i32_71 : BitVec 32 := 0#32
  let c0_i32_72 : BitVec 32 := 0#32
  ![v93.toNat, 0, 0]
def k0_dev5 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v114 : BitVec 32 := Scalar.muli v2 c4_i32_83
  let v115 : BitVec 32 := Scalar.addi c0_i32_84 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v116 : BitVec 32 := Scalar.muli v5 c2_i32_85
  let v117 : BitVec 32 := Scalar.addi v115 v116
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_86 : BitVec 32 := 1#32
  let v118 : BitVec 32 := Scalar.muli v9 c1_i32_86
  let v119 : BitVec 32 := Scalar.addi v117 v118
  v119.toNat
def k0_off3 (d0 : Dev nD) : Fin 3 → Nat :=
  let c4_i32_93 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v132 : BitVec 32 := Scalar.muli c4_i32_93 v2
  let c2_i32_94 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v133 : BitVec 32 := Scalar.muli c2_i32_94 v11
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v135 : BitVec 32 := Scalar.addi v134 v8
  let c0_i32_103 : BitVec 32 := 0#32
  let c0_i32_104 : BitVec 32 := 0#32
  ![v135.toNat, 0, 0]
def k0_dev6 (d0 : Dev nD) : Nat :=
  let c0_i32_115 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_114 : BitVec 32 := 4#32
  let v156 : BitVec 32 := Scalar.muli v2 c4_i32_114
  let v157 : BitVec 32 := Scalar.addi c0_i32_115 v156
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v158 : BitVec 32 := Scalar.muli v5 c2_i32_116
  let v159 : BitVec 32 := Scalar.addi v157 v158
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_117 : BitVec 32 := 1#32
  let v160 : BitVec 32 := Scalar.muli v9 c1_i32_117
  let v161 : BitVec 32 := Scalar.addi v159 v160
  v161.toNat
def k0_off4 (d0 : Dev nD) : Fin 3 → Nat :=
  let c4_i32_124 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v174 : BitVec 32 := Scalar.muli c4_i32_124 v12
  let c2_i32_125 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v175 : BitVec 32 := Scalar.muli c2_i32_125 v13
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v177 : BitVec 32 := Scalar.addi v176 v8
  let c0_i32_134 : BitVec 32 := 0#32
  let c0_i32_135 : BitVec 32 := 0#32
  ![v177.toNat, 0, 0]
def k0_dev7 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v198 : BitVec 32 := Scalar.muli v2 c4_i32_145
  let v199 : BitVec 32 := Scalar.addi c0_i32_146 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v200 : BitVec 32 := Scalar.muli v5 c2_i32_147
  let v201 : BitVec 32 := Scalar.addi v199 v200
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_148 : BitVec 32 := 1#32
  let v202 : BitVec 32 := Scalar.muli v9 c1_i32_148
  let v203 : BitVec 32 := Scalar.addi v201 v202
  v203.toNat
def k0_off5 (d0 : Dev nD) : Fin 3 → Nat :=
  let c4_i32_155 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v216 : BitVec 32 := Scalar.muli c4_i32_155 v2
  let c2_i32_156 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.muli c2_i32_156 v5
  let v218 : BitVec 32 := Scalar.addi v216 v217
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v219 : BitVec 32 := Scalar.addi v218 v9
  let c0_i32_165 : BitVec 32 := 0#32
  let c0_i32_166 : BitVec 32 := 0#32
  ![v219.toNat, 0, 0]
def k0_off6 (d0 : Dev nD) : Fin 3 → Nat :=
  let c4_i32_172 : BitVec 32 := 4#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v237 : BitVec 32 := Scalar.muli c4_i32_172 v10
  let c2_i32_173 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v238 : BitVec 32 := Scalar.muli c2_i32_173 v5
  let v239 : BitVec 32 := Scalar.addi v237 v238
  let c1_i32_169 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v232 : BitVec 32 := Scalar.subi c1_i32_169 v8
  let v240 : BitVec 32 := Scalar.addi v239 v232
  let c0_i32_182 : BitVec 32 := 0#32
  let c0_i32_183 : BitVec 32 := 0#32
  ![v240.toNat, 0, 0]
def k0_off7 (d0 : Dev nD) : Fin 3 → Nat :=
  let c4_i32_189 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v258 : BitVec 32 := Scalar.muli c4_i32_189 v2
  let c2_i32_190 : BitVec 32 := 2#32
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v259 : BitVec 32 := Scalar.muli c2_i32_190 v11
  let v260 : BitVec 32 := Scalar.addi v258 v259
  let c1_i32_186 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v253 : BitVec 32 := Scalar.subi c1_i32_186 v8
  let v261 : BitVec 32 := Scalar.addi v260 v253
  let c0_i32_199 : BitVec 32 := 0#32
  let c0_i32_200 : BitVec 32 := 0#32
  ![v261.toNat, 0, 0]
def k0_off8 (d0 : Dev nD) : Fin 3 → Nat :=
  let c4_i32_206 : BitVec 32 := 4#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v279 : BitVec 32 := Scalar.muli c4_i32_206 v12
  let c2_i32_207 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v280 : BitVec 32 := Scalar.muli c2_i32_207 v13
  let v281 : BitVec 32 := Scalar.addi v279 v280
  let c1_i32_203 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v274 : BitVec 32 := Scalar.subi c1_i32_203 v8
  let v282 : BitVec 32 := Scalar.addi v281 v274
  let c0_i32_216 : BitVec 32 := 0#32
  let c0_i32_217 : BitVec 32 := 0#32
  ![v282.toNat, 0, 0]
-- ==== GatherSmallReference.lean ====
abbrev S672x1024 : Shape := ⟨2, ![672, 1024]⟩
abbrev S8x84x1024 : Shape := ⟨3, ![8, 84, 1024]⟩

abbrev nBuf : Space → Nat
  | .hbm => 2
  | .vmem => 0
  | .smem => 0
  | _ => 0

abbrev bufTy : (tb : Table) → Fin (tcTables nBuf tb) → BufTy
  | .hbm, ⟨0, _⟩ => ⟨S672x1024, .f32⟩
  | .hbm, ⟨1, _⟩ => ⟨S8x84x1024, .f32⟩
  | _, _ => ⟨S672x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamCond.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCondIdeal.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamCondReferenceIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S1x6144 : Shape := ⟨2, ![1, 6144]⟩

abbrev nBuf : Space → Nat
  | .hbm => 7
  | .vmem => 7
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S1x6144 : Shape := ⟨2, ![1, 6144]⟩

abbrev nBuf : Space → Nat
  | .hbm => 7
  | .vmem => 7
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x6144, .f32⟩
  | .local _ .vmem, ⟨0, _⟩ => ⟨S1x6144, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | _, _ => ⟨S1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasReferenceIdeal.lean ====
abbrev S1x6144 : Shape := ⟨2, ![1, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x6144, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S_, .f32⟩
  | .hbm, ⟨5, _⟩ => ⟨S1x6144, .f32⟩
  | .hbm, ⟨6, _⟩ => ⟨S1x6144, .f32⟩
  | .hbm, ⟨7, _⟩ => ⟨S_, .f32⟩
  | .hbm, ⟨8, _⟩ => ⟨S1x6144, .f32⟩
  | .hbm, ⟨9, _⟩ => ⟨S1x6144, .f32⟩
  | .hbm, ⟨10, _⟩ => ⟨S1x6144, .f32⟩
  | .hbm, ⟨11, _⟩ => ⟨S_, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S_, .f32⟩
  | .hbm, ⟨16, _⟩ => ⟨S1x6144, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S_, .f32⟩
  | .hbm, ⟨23, _⟩ => ⟨S1x6144, .f32⟩
  | .hbm, ⟨24, _⟩ => ⟨S1x6144, .f32⟩
  | .hbm, ⟨25, _⟩ => ⟨S1x6144, .f32⟩
  | .hbm, ⟨26, _⟩ => ⟨S_, .f32⟩
  | .hbm, ⟨27, _⟩ => ⟨S1x6144, .f32⟩
  | .hbm, ⟨28, _⟩ => ⟨S1x6144, .f32⟩
  | .hbm, ⟨29, _⟩ => ⟨S1x6144, .f32⟩
  | .hbm, ⟨30, _⟩ => ⟨S_, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | _, _ => ⟨S1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutReferenceIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateReferenceIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDownIdeal.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamDownReferenceIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x1024 : Shape := ⟨2, ![1, 1024]⟩
abbrev S1x512 : Shape := ⟨2, ![1, 512]⟩
abbrev S512x128 : Shape := ⟨2, ![512, 128]⟩
abbrev S8x1x1024 : Shape := ⟨3, ![8, 1, 1024]⟩
abbrev S8x1x512 : Shape := ⟨3, ![8, 1, 512]⟩
abbrev S8x512x128 : Shape := ⟨3, ![8, 512, 128]⟩
abbrev S1x1x1024 : Shape := ⟨3, ![1, 1, 1024]⟩
abbrev S1x1x512 : Shape := ⟨3, ![1, 1, 512]⟩
abbrev S1x512x128 : Shape := ⟨3, ![1, 512, 128]⟩

abbrev nBuf : Space → Nat
  | .hbm => 48
  | .vmem => 48
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x512, .f32⟩
  | .hbm, ⟨5, _⟩ => ⟨S512x128, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x512, .f32⟩
  | .hbm, ⟨11, _⟩ => ⟨S8x512x128, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x512, .f32⟩
  | .hbm, ⟨17, _⟩ => ⟨S512x128, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x512, .f32⟩
  | .hbm, ⟨23, _⟩ => ⟨S512x128, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x512, .f32⟩
  | .hbm, ⟨29, _⟩ => ⟨S512x128, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x512, .f32⟩
  | .hbm, ⟨35, _⟩ => ⟨S512x128, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x512, .f32⟩
  | .hbm, ⟨41, _⟩ => ⟨S512x128, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x512, .f32⟩
  | .hbm, ⟨47, _⟩ => ⟨S512x128, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x512, .f32⟩
  | .local _ .vmem, ⟨5, _⟩ => ⟨S512x128, .f32⟩
  | .local _ .vmem, ⟨6, _⟩ => ⟨S8x1x1024, .f32⟩
  | .local _ .vmem, ⟨7, _⟩ => ⟨S8x1x1024, .f32⟩
  | .local _ .vmem, ⟨8, _⟩ => ⟨S8x1x1024, .f32⟩
  | .local _ .vmem, ⟨9, _⟩ => ⟨S8x1x1024, .f32⟩
  | .local _ .vmem, ⟨10, _⟩ => ⟨S8x1x512, .f32⟩
  | .local _ .vmem, ⟨11, _⟩ => ⟨S8x512x128, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x512, .f32⟩
  | .local _ .vmem, ⟨17, _⟩ => ⟨S512x128, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x512, .f32⟩
  | .local _ .vmem, ⟨23, _⟩ => ⟨S512x128, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x512, .f32⟩
  | .local _ .vmem, ⟨29, _⟩ => ⟨S512x128, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x512, .f32⟩
  | .local _ .vmem, ⟨35, _⟩ => ⟨S512x128, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x512, .f32⟩
  | .local _ .vmem, ⟨41, _⟩ => ⟨S512x128, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x512, .f32⟩
  | .local _ .vmem, ⟨47, _⟩ => ⟨S512x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v0_9 : Ref sig .tc := ⟨.hbm, 33, rfl⟩
abbrev main_v0_10 : Ref sig .tc := ⟨.hbm, 34, rfl⟩
abbrev main_v0_11 : Ref sig .tc := ⟨.hbm, 35, rfl⟩
abbrev main_v0_12 : Ref sig .tc := ⟨.hbm, 36, rfl⟩
abbrev main_v0_13 : Ref sig .tc := ⟨.hbm, 37, rfl⟩
abbrev main_v0_14 : Ref sig .tc := ⟨.hbm, 38, rfl⟩
abbrev main_v0_15 : Ref sig .tc := ⟨.hbm, 39, rfl⟩
abbrev main_v0_16 : Ref sig .tc := ⟨.hbm, 40, rfl⟩
abbrev main_v0_17 : Ref sig .tc := ⟨.hbm, 41, rfl⟩
abbrev main_v0_18 : Ref sig .tc := ⟨.hbm, 42, rfl⟩
abbrev main_v0_19 : Ref sig .tc := ⟨.hbm, 43, rfl⟩
abbrev main_v0_20 : Ref sig .tc := ⟨.hbm, 44, rfl⟩
abbrev main_v0_21 : Ref sig .tc := ⟨.hbm, 45, rfl⟩
abbrev main_v0_22 : Ref sig .tc := ⟨.hbm, 46, rfl⟩
abbrev main_v0_23 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S512x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S512x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S512x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S512x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S512x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))
-- ==== AdamSmallReferenceIdeal.lean ====
abbrev S1x1024 : Shape := ⟨2, ![1, 1024]⟩
abbrev S1x512 : Shape := ⟨2, ![1, 512]⟩
abbrev S512x128 : Shape := ⟨2, ![512, 128]⟩
abbrev S8x1x1024 : Shape := ⟨3, ![8, 1, 1024]⟩
abbrev S8x1x512 : Shape := ⟨3, ![8, 1, 512]⟩
abbrev S8x512x128 : Shape := ⟨3, ![8, 512, 128]⟩
abbrev S_ : Shape := ⟨0, ![]⟩

abbrev nBuf : Space → Nat
  | .hbm => 234
  | .vmem => 0
  | .smem => 0
  | _ => 0

abbrev hbmTy0_0 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x512, .f32⟩
  | 5 => ⟨S512x128, .f32⟩
  | 6 => ⟨S8x1x1024, .f32⟩
  | 7 => ⟨S8x1x1024, .f32⟩
  | 8 => ⟨S8x1x1024, .f32⟩
  | 9 => ⟨S8x1x1024, .f32⟩
  | 10 => ⟨S8x1x512, .f32⟩
  | 11 => ⟨S8x512x128, .f32⟩
  | 12 => ⟨S1x1024, .f32⟩
  | 13 => ⟨S1x1024, .f32⟩
  | 14 => ⟨S1x1024, .f32⟩
  | 15 => ⟨S1x1024, .f32⟩
  | 16 => ⟨S1x512, .f32⟩
  | 17 => ⟨S512x128, .f32⟩
  | 18 => ⟨S1x1024, .f32⟩
  | 19 => ⟨S1x1024, .f32⟩
  | 20 => ⟨S1x1024, .f32⟩
  | 21 => ⟨S1x1024, .f32⟩
  | 22 => ⟨S1x512, .f32⟩
  | 23 => ⟨S512x128, .f32⟩
  | 24 => ⟨S_, .f32⟩
  | 25 => ⟨S1x1024, .f32⟩
  | 26 => ⟨S_, .f32⟩
  | 27 => ⟨S1x1024, .f32⟩
  | 28 => ⟨S_, .f32⟩
  | 29 => ⟨S1x1024, .f32⟩
  | 30 => ⟨S_, .f32⟩
  | 31 => ⟨S1x1024, .f32⟩
  | 32 => ⟨S_, .f32⟩
  | 33 => ⟨S1x512, .f32⟩
  | 34 => ⟨S_, .f32⟩
  | 35 => ⟨S512x128, .f32⟩
  | 36 => ⟨S_, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S1x1024, .f32⟩

abbrev hbmTy0_1 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S_, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S_, .f32⟩
  | 74 => ⟨S512x128, .f32⟩
  | 75 => ⟨S512x128, .f32⟩
  | 76 => ⟨S_, .f32⟩
  | 77 => ⟨S512x128, .f32⟩
  | 78 => ⟨S512x128, .f32⟩
  | 79 => ⟨S512x128, .f32⟩
  | 80 => ⟨S_, .f32⟩
  | 81 => ⟨S512x128, .f32⟩
  | 82 => ⟨S512x128, .f32⟩
  | 83 => ⟨S512x128, .f32⟩
  | 84 => ⟨S_, .f32⟩
  | 85 => ⟨S512x128, .f32⟩
  | 86 => ⟨S512x128, .f32⟩
  | 87 => ⟨S512x128, .f32⟩
  | 88 => ⟨S_, .f32⟩
  | 89 => ⟨S512x128, .f32⟩
  | 90 => ⟨S512x128, .f32⟩
  | 91 => ⟨S_, .f32⟩
  | 92 => ⟨S512x128, .f32⟩
  | 93 => ⟨S512x128, .f32⟩
  | 94 => ⟨S512x128, .f32⟩
  | 95 => ⟨S_, .f32⟩
  | 96 => ⟨S512x128, .f32⟩
  | 97 => ⟨S512x128, .f32⟩
  | 98 => ⟨S512x128, .f32⟩
  | 99 => ⟨S_, .f32⟩
  | 100 => ⟨S512x128, .f32⟩
  | 101 => ⟨S512x128, .f32⟩
  | 102 => ⟨S512x128, .f32⟩
  | 103 => ⟨S_, .f32⟩
  | 104 => ⟨S512x128, .f32⟩
  | 105 => ⟨S512x128, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_cst_0 : Ref sig .tc := ⟨.hbm, 26, rfl⟩
abbrev main_v1 : Ref sig .tc := ⟨.hbm, 27, rfl⟩
abbrev main_cst_1 : Ref sig .tc := ⟨.hbm, 28, rfl⟩
abbrev main_v2 : Ref sig .tc := ⟨.hbm, 29, rfl⟩
abbrev main_cst_2 : Ref sig .tc := ⟨.hbm, 30, rfl⟩
abbrev main_v3 : Ref sig .tc := ⟨.hbm, 31, rfl⟩
abbrev main_cst_3 : Ref sig .tc := ⟨.hbm, 32, rfl⟩
abbrev main_v4 : Ref sig .tc := ⟨.hbm, 33, rfl⟩
abbrev main_cst_4 : Ref sig .tc := ⟨.hbm, 34, rfl⟩
abbrev main_v5 : Ref sig .tc := ⟨.hbm, 35, rfl⟩
abbrev main_cst_5 : Ref sig .tc := ⟨.hbm, 36, rfl⟩
abbrev main_v6 : Ref sig .tc := ⟨.hbm, 37, rfl⟩
abbrev main_v7 : Ref sig .tc := ⟨.hbm, 38, rfl⟩
abbrev main_cst_6 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_7 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_8 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_9 : Ref sig .tc := ⟨.hbm, 51, rfl⟩
abbrev main_v17 : Ref sig .tc := ⟨.hbm, 52, rfl⟩
abbrev main_v18 : Ref sig .tc := ⟨.hbm, 53, rfl⟩
abbrev main_cst_10 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_11 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_12 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_13 : Ref sig .tc := ⟨.hbm, 66, rfl⟩
abbrev main_v28 : Ref sig .tc := ⟨.hbm, 67, rfl⟩
abbrev main_v29 : Ref sig .tc := ⟨.hbm, 68, rfl⟩
abbrev main_cst_14 : Ref sig .tc := ⟨.hbm, 69, rfl⟩
abbrev main_v30 : Ref sig .tc := ⟨.hbm, 70, rfl⟩
abbrev main_v31 : Ref sig .tc := ⟨.hbm, 71, rfl⟩
abbrev main_cst_15 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_16 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_17 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_18 : Ref sig .tc := ⟨.hbm, 84, rfl⟩
abbrev main_v41 : Ref sig .tc := ⟨.hbm, 85, rfl⟩
abbrev main_v42 : Ref sig .tc := ⟨.hbm, 86, rfl⟩
abbrev main_cst_19 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_20 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_21 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_22 : Ref sig .tc := ⟨.hbm, 99, rfl⟩
abbrev main_v52 : Ref sig .tc := ⟨.hbm, 100, rfl⟩
abbrev main_v53 : Ref sig .tc := ⟨.hbm, 101, rfl⟩
abbrev main_cst_23 : Ref sig .tc := ⟨.hbm, 102, rfl⟩
abbrev main_v54 : Ref sig .tc := ⟨.hbm, 103, rfl⟩
abbrev main_v55 : Ref sig .tc := ⟨.hbm, 104, rfl⟩
abbrev main_cst_24 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_25 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_26 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_27 : Ref sig .tc := ⟨.hbm, 117, rfl⟩
abbrev main_v65 : Ref sig .tc := ⟨.hbm, 118, rfl⟩
abbrev main_v66 : Ref sig .tc := ⟨.hbm, 119, rfl⟩
abbrev main_cst_28 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_29 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_30 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_31 : Ref sig .tc := ⟨.hbm, 132, rfl⟩
abbrev main_v76 : Ref sig .tc := ⟨.hbm, 133, rfl⟩
abbrev main_v77 : Ref sig .tc := ⟨.hbm, 134, rfl⟩
abbrev main_cst_32 : Ref sig .tc := ⟨.hbm, 135, rfl⟩
abbrev main_v78 : Ref sig .tc := ⟨.hbm, 136, rfl⟩
abbrev main_v79 : Ref sig .tc := ⟨.hbm, 137, rfl⟩
abbrev main_cst_33 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_34 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_35 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_36 : Ref sig .tc := ⟨.hbm, 150, rfl⟩
abbrev main_v89 : Ref sig .tc := ⟨.hbm, 151, rfl⟩
abbrev main_v90 : Ref sig .tc := ⟨.hbm, 152, rfl⟩
abbrev main_cst_37 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_38 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_39 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_cst_40 : Ref sig .tc := ⟨.hbm, 165, rfl⟩
abbrev main_v100 : Ref sig .tc := ⟨.hbm, 166, rfl⟩
abbrev main_v101 : Ref sig .tc := ⟨.hbm, 167, rfl⟩
abbrev main_cst_41 : Ref sig .tc := ⟨.hbm, 168, rfl⟩
abbrev main_v102 : Ref sig .tc := ⟨.hbm, 169, rfl⟩
abbrev main_v103 : Ref sig .tc := ⟨.hbm, 170, rfl⟩
abbrev main_cst_42 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_43 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_44 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_45 : Ref sig .tc := ⟨.hbm, 183, rfl⟩
abbrev main_v113 : Ref sig .tc := ⟨.hbm, 184, rfl⟩
abbrev main_v114 : Ref sig .tc := ⟨.hbm, 185, rfl⟩
abbrev main_cst_46 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_47 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_48 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_cst_49 : Ref sig .tc := ⟨.hbm, 198, rfl⟩
abbrev main_v124 : Ref sig .tc := ⟨.hbm, 199, rfl⟩
abbrev main_v125 : Ref sig .tc := ⟨.hbm, 200, rfl⟩
abbrev main_cst_50 : Ref sig .tc := ⟨.hbm, 201, rfl⟩
abbrev main_v126 : Ref sig .tc := ⟨.hbm, 202, rfl⟩
abbrev main_v127 : Ref sig .tc := ⟨.hbm, 203, rfl⟩
abbrev main_cst_51 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_52 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_53 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_cst_54 : Ref sig .tc := ⟨.hbm, 216, rfl⟩
abbrev main_v137 : Ref sig .tc := ⟨.hbm, 217, rfl⟩
abbrev main_v138 : Ref sig .tc := ⟨.hbm, 218, rfl⟩
abbrev main_cst_55 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_56 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_cst_57 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_58 : Ref sig .tc := ⟨.hbm, 231, rfl⟩
abbrev main_v148 : Ref sig .tc := ⟨.hbm, 232, rfl⟩
abbrev main_v149 : Ref sig .tc := ⟨.hbm, 233, rfl⟩

abbrev nD : Nat := 1
abbrev τ : Topo := Topo.v7x

variable {F : FTy → Type} [FloatOps F]
-- ==== CondForward.lean ====
abbrev S16x1024 : Shape := ⟨2, ![16, 1024]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x768, .f32⟩
  | .local _ .vmem, ⟨0, _⟩ => ⟨S16x1024, .f32⟩
  | .local _ .vmem, ⟨1, _⟩ => ⟨S1024x768, .f32⟩
  | .local _ .vmem, ⟨2, _⟩ => ⟨S1x768, .f32⟩
  | .local _ .vmem, ⟨3, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== CondForwardReferenceIdeal.lean ====
abbrev S16x1024 : Shape := ⟨2, ![16, 1024]⟩
abbrev S1024x768 : Shape := ⟨2, ![1024, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== CondBackward.lean ====
abbrev S16x1024 : Shape := ⟨2, ![16, 1024]⟩
abbrev S16x6144 : Shape := ⟨2, ![16, 6144]⟩
abbrev S16x768 : Shape := ⟨2, ![16, 768]⟩
abbrev S1024x768 : Shape := ⟨2, ![1024, 768]⟩
abbrev S1x6144 : Shape := ⟨2, ![1, 6144]⟩
abbrev S6144 : Shape := ⟨1, ![6144]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S1024x768, .f32⟩
  | .hbm, ⟨4, _⟩ => ⟨S1x6144, .f32⟩
  | .local _ .vmem, ⟨0, _⟩ => ⟨S16x1024, .f32⟩
  | .local _ .vmem, ⟨1, _⟩ => ⟨S16x6144, .f32⟩
  | .local _ .vmem, ⟨2, _⟩ => ⟨S16x768, .f32⟩
  | .local _ .vmem, ⟨3, _⟩ => ⟨S1024x768, .f32⟩
  | .local _ .vmem, ⟨4, _⟩ => ⟨S1x6144, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== CondBackwardReferenceIdeal.lean ====
abbrev S16x1024 : Shape := ⟨2, ![16, 1024]⟩
abbrev S16x6144 : Shape := ⟨2, ![16, 6144]⟩
abbrev S16x768 : Shape := ⟨2, ![16, 768]⟩
abbrev S_ : Shape := ⟨0, ![]⟩
abbrev S1024x16 : Shape := ⟨2, ![1024, 16]⟩
abbrev S1024x768 : Shape := ⟨2, ![1024, 768]⟩
abbrev S6144 : Shape := ⟨1, ![6144]⟩
abbrev S1x6144 : Shape := ⟨2, ![1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x6144, .f32⟩
  | .hbm, ⟨2, _⟩ => ⟨S16x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x16, .f32⟩
  | .hbm, ⟨13, _⟩ => ⟨S1024x768, .f32⟩
  | .hbm, ⟨14, _⟩ => ⟨S_, .f32⟩
  | .hbm, ⟨15, _⟩ => ⟨S6144, .f32⟩
  | .hbm, ⟨16, _⟩ => ⟨S1x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]
-- ==== Proj.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== ProjIdeal.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== ProjReferenceIdeal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S1024x2048, .bf16⟩
  | .hbm, ⟨3, _⟩ => ⟨S4096x2048, .f32⟩
  | .hbm, ⟨4, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mix.lean ====
abbrev S2x4096x512 : Shape := ⟨3, ![2, 4096, 512]⟩
abbrev S2x512x1024 : Shape := ⟨3, ![2, 512, 1024]⟩
abbrev S4096x1024 : Shape := ⟨2, ![4096, 1024]⟩
abbrev S1x512x512 : Shape := ⟨3, ![1, 512, 512]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x512, .bf16⟩
  | .hbm, ⟨1, _⟩ => ⟨S2x512x1024, .bf16⟩
  | .hbm, ⟨2, _⟩ => ⟨S4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 1], ![false, false, false, false]⟩

def k0_cond1 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32 : BitVec 32 := 0#32
  let v7 : BitVec 1 := Scalar.cmpi .eq v6 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32_6 : BitVec 32 := 0#32
  let v10 : BitVec 1 := Scalar.cmpi .sgt v6 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== MixIdeal.lean ====
abbrev S2x4096x512 : Shape := ⟨3, ![2, 4096, 512]⟩
abbrev S2x512x1024 : Shape := ⟨3, ![2, 512, 1024]⟩
abbrev S4096x1024 : Shape := ⟨2, ![4096, 1024]⟩
abbrev S1x512x512 : Shape := ⟨3, ![1, 512, 512]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x512, .bf16⟩
  | .hbm, ⟨1, _⟩ => ⟨S2x512x1024, .bf16⟩
  | .hbm, ⟨2, _⟩ => ⟨S4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 1], ![false, false, false, false]⟩

def k0_cond1 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32 : BitVec 32 := 0#32
  let v7 : BitVec 1 := Scalar.cmpi .eq v6 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32_6 : BitVec 32 := 0#32
  let v10 : BitVec 1 := Scalar.cmpi .sgt v6 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== MixReferenceIdeal.lean ====
abbrev S2x4096x512 : Shape := ⟨3, ![2, 4096, 512]⟩
abbrev S2x512x1024 : Shape := ⟨3, ![2, 512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S2x512x1024, .bf16⟩
  | .hbm, ⟨2, _⟩ => ⟨S4096x1024, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== FfnDownIdeal.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== FfnDownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 4], ![false, false, false, false]⟩

def k0_cond1 (i : grid0.Coords) : BitVec 1 :=
  let arg2 : BitVec 32 := BitVec.ofNat 32 (i 2).val
  let c4_i32 : BitVec 32 := 4#32
  let v3 : BitVec 32 := Scalar.muli arg2 c4_i32
  let arg3 : BitVec 32 := BitVec.ofNat 32 (i 3).val
  let v4 : BitVec 32 := Scalar.addi v3 arg3
  let c0_i32 : BitVec 32 := 0#32
  let v5 : BitVec 1 := Scalar.cmpi .eq v4 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c4_i32 : BitVec 32 := 4#32
  let v3 : BitVec 32 := Scalar.muli arg2 c4_i32
  let arg3 : BitVec 32 := BitVec.ofNat 32 (i 3).val
  let v4 : BitVec 32 := Scalar.addi v3 arg3
  let c0_i32_4 : BitVec 32 := 0#32
  let v8 : BitVec 1 := Scalar.cmpi .sgt v4 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== GradDownIdeal.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 4], ![false, false, false, false]⟩

def k0_cond1 (i : grid0.Coords) : BitVec 1 :=
  let arg2 : BitVec 32 := BitVec.ofNat 32 (i 2).val
  let c4_i32 : BitVec 32 := 4#32
  let v3 : BitVec 32 := Scalar.muli arg2 c4_i32
  let arg3 : BitVec 32 := BitVec.ofNat 32 (i 3).val
  let v4 : BitVec 32 := Scalar.addi v3 arg3
  let c0_i32 : BitVec 32 := 0#32
  let v5 : BitVec 1 := Scalar.cmpi .eq v4 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c4_i32 : BitVec 32 := 4#32
  let v3 : BitVec 32 := Scalar.muli arg2 c4_i32
  let arg3 : BitVec 32 := BitVec.ofNat 32 (i 3).val
  let v4 : BitVec 32 := Scalar.addi v3 arg3
  let c0_i32_4 : BitVec 32 := 0#32
  let v8 : BitVec 1 := Scalar.cmpi .sgt v4 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== GradDownReferenceIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x4096, .bf16⟩
  | .hbm, ⟨3, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradGateUp.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S1x1024x1408 : Shape := ⟨3, ![1, 1024, 1408]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 4], ![false, false, false, false]⟩

def k0_cond1 (i : grid0.Coords) : BitVec 1 :=
  let arg3 : BitVec 32 := BitVec.ofNat 32 (i 3).val
  let c0_i32 : BitVec 32 := 0#32
  let v4 : BitVec 1 := Scalar.cmpi .eq arg3 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg3 : BitVec 32 := BitVec.ofNat 32 (i 3).val
  let c0_i32_5 : BitVec 32 := 0#32
  let v7 : BitVec 1 := Scalar.cmpi .sgt arg3 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradGateUpIdeal.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S1x1024x1408 : Shape := ⟨3, ![1, 1024, 1408]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .f32⟩
  | .local _ .vmem, ⟨5, _⟩ => ⟨S1x1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 4], ![false, false, false, false]⟩

def k0_cond1 (i : grid0.Coords) : BitVec 1 :=
  let arg3 : BitVec 32 := BitVec.ofNat 32 (i 3).val
  let c0_i32 : BitVec 32 := 0#32
  let v4 : BitVec 1 := Scalar.cmpi .eq arg3 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg3 : BitVec 32 := BitVec.ofNat 32 (i 3).val
  let c0_i32_5 : BitVec 32 := 0#32
  let v7 : BitVec 1 := Scalar.cmpi .sgt arg3 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradGateUpReferenceIdeal.lean ====
abbrev S2x4096x2816 : Shape := ⟨3, ![2, 4096, 2816]⟩
abbrev S4096x1024 : Shape := ⟨2, ![4096, 1024]⟩
abbrev S2x2816x1024 : Shape := ⟨3, ![2, 2816, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BackFfn.lean ====
abbrev S2x4096x2816 : Shape := ⟨3, ![2, 4096, 2816]⟩
abbrev S2x2816x1024 : Shape := ⟨3, ![2, 2816, 1024]⟩
abbrev S4096x1024 : Shape := ⟨2, ![4096, 1024]⟩
abbrev S1x512x2816 : Shape := ⟨3, ![1, 512, 2816]⟩
abbrev S1x2816x1024 : Shape := ⟨3, ![1, 2816, 1024]⟩
abbrev S512x1024 : Shape := ⟨2, ![512, 1024]⟩
abbrev S512x2816 : Shape := ⟨2, ![512, 2816]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S2x2816x1024, .bf16⟩
  | .hbm, ⟨2, _⟩ => ⟨S4096x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x1024, .f32⟩
  | .local _ .vmem, ⟨5, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 1], ![false, false, false, false]⟩

def k0_cond1 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32 : BitVec 32 := 0#32
  let v7 : BitVec 1 := Scalar.cmpi .eq v6 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32_6 : BitVec 32 := 0#32
  let v10 : BitVec 1 := Scalar.cmpi .sgt v6 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== BackFfnIdeal.lean ====
abbrev S2x4096x2816 : Shape := ⟨3, ![2, 4096, 2816]⟩
abbrev S2x2816x1024 : Shape := ⟨3, ![2, 2816, 1024]⟩
abbrev S4096x1024 : Shape := ⟨2, ![4096, 1024]⟩
abbrev S1x512x2816 : Shape := ⟨3, ![1, 512, 2816]⟩
abbrev S1x2816x1024 : Shape := ⟨3, ![1, 2816, 1024]⟩
abbrev S512x1024 : Shape := ⟨2, ![512, 1024]⟩
abbrev S512x2816 : Shape := ⟨2, ![512, 2816]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x2816, .bf16⟩
  | .hbm, ⟨1, _⟩ => ⟨S2x2816x1024, .bf16⟩
  | .hbm, ⟨2, _⟩ => ⟨S4096x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x1024, .f32⟩
  | .local _ .vmem, ⟨5, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 1], ![false, false, false, false]⟩

def k0_cond1 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32 : BitVec 32 := 0#32
  let v7 : BitVec 1 := Scalar.cmpi .eq v6 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32_6 : BitVec 32 := 0#32
  let v10 : BitVec 1 := Scalar.cmpi .sgt v6 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== BackFfnReferenceIdeal.lean ====
abbrev S2x4096x2816 : Shape := ⟨3, ![2, 4096, 2816]⟩
abbrev S2x2816x1024 : Shape := ⟨3, ![2, 2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S2x2816x1024, .bf16⟩
  | .hbm, ⟨2, _⟩ => ⟨S4096x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BackOut.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== BackOutIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== BackOutReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .bf16⟩
  | .hbm, ⟨3, _⟩ => ⟨S4096x1024, .f32⟩
  | .hbm, ⟨4, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S2x4096x512 : Shape := ⟨3, ![2, 4096, 512]⟩
abbrev S4096x1024 : Shape := ⟨2, ![4096, 1024]⟩
abbrev S2x512x1024 : Shape := ⟨3, ![2, 512, 1024]⟩
abbrev S1x1024x512 : Shape := ⟨3, ![1, 1024, 512]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x512, .bf16⟩
  | .hbm, ⟨1, _⟩ => ⟨S4096x1024, .bf16⟩
  | .hbm, ⟨2, _⟩ => ⟨S2x512x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 4], ![false, false, false, false]⟩

def k0_cond1 (i : grid0.Coords) : BitVec 1 :=
  let arg3 : BitVec 32 := BitVec.ofNat 32 (i 3).val
  let c0_i32 : BitVec 32 := 0#32
  let v4 : BitVec 1 := Scalar.cmpi .eq arg3 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg3 : BitVec 32 := BitVec.ofNat 32 (i 3).val
  let c0_i32_5 : BitVec 32 := 0#32
  let v7 : BitVec 1 := Scalar.cmpi .sgt arg3 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradOutIdeal.lean ====
abbrev S2x4096x512 : Shape := ⟨3, ![2, 4096, 512]⟩
abbrev S4096x1024 : Shape := ⟨2, ![4096, 1024]⟩
abbrev S2x512x1024 : Shape := ⟨3, ![2, 512, 1024]⟩
abbrev S1x1024x512 : Shape := ⟨3, ![1, 1024, 512]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x512, .bf16⟩
  | .hbm, ⟨1, _⟩ => ⟨S4096x1024, .bf16⟩
  | .hbm, ⟨2, _⟩ => ⟨S2x512x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | _, _ => ⟨S2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 1, 1, 4], ![false, false, false, false]⟩

def k0_cond1 (i : grid0.Coords) : BitVec 1 :=
  let arg3 : BitVec 32 := BitVec.ofNat 32 (i 3).val
  let c0_i32 : BitVec 32 := 0#32
  let v4 : BitVec 1 := Scalar.cmpi .eq arg3 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg3 : BitVec 32 := BitVec.ofNat 32 (i 3).val
  let c0_i32_5 : BitVec 32 := 0#32
  let v7 : BitVec 1 := Scalar.cmpi .sgt arg3 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradOutReferenceIdeal.lean ====
abbrev S2x4096x512 : Shape := ⟨3, ![2, 4096, 512]⟩
abbrev S4096x1024 : Shape := ⟨2, ![4096, 1024]⟩
abbrev S2x512x1024 : Shape := ⟨3, ![2, 512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S4096x1024, .bf16⟩
  | .hbm, ⟨2, _⟩ => ⟨S2x512x1024, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradIn.lean ====
abbrev S4x4096x512 : Shape := ⟨3, ![4, 4096, 512]⟩
abbrev S4096x1024 : Shape := ⟨2, ![4096, 1024]⟩
abbrev S4x512x1024 : Shape := ⟨3, ![4, 512, 1024]⟩
abbrev S1x1024x512 : Shape := ⟨3, ![1, 1024, 512]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x512, .bf16⟩
  | .hbm, ⟨1, _⟩ => ⟨S4096x1024, .bf16⟩
  | .hbm, ⟨2, _⟩ => ⟨S4x512x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 4], ![false, false, false, false]⟩

def k0_cond1 (i : grid0.Coords) : BitVec 1 :=
  let arg3 : BitVec 32 := BitVec.ofNat 32 (i 3).val
  let c0_i32 : BitVec 32 := 0#32
  let v4 : BitVec 1 := Scalar.cmpi .eq arg3 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg3 : BitVec 32 := BitVec.ofNat 32 (i 3).val
  let c0_i32_5 : BitVec 32 := 0#32
  let v7 : BitVec 1 := Scalar.cmpi .sgt arg3 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradInIdeal.lean ====
abbrev S4x4096x512 : Shape := ⟨3, ![4, 4096, 512]⟩
abbrev S4096x1024 : Shape := ⟨2, ![4096, 1024]⟩
abbrev S4x512x1024 : Shape := ⟨3, ![4, 512, 1024]⟩
abbrev S1x1024x512 : Shape := ⟨3, ![1, 1024, 512]⟩
abbrev S1024x1024 : Shape := ⟨2, ![1024, 1024]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x512, .bf16⟩
  | .hbm, ⟨1, _⟩ => ⟨S4096x1024, .bf16⟩
  | .hbm, ⟨2, _⟩ => ⟨S4x512x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .f32⟩
  | .local _ .vmem, ⟨5, _⟩ => ⟨S1x512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 1, 4], ![false, false, false, false]⟩

def k0_cond1 (i : grid0.Coords) : BitVec 1 :=
  let arg3 : BitVec 32 := BitVec.ofNat 32 (i 3).val
  let c0_i32 : BitVec 32 := 0#32
  let v4 : BitVec 1 := Scalar.cmpi .eq arg3 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg3 : BitVec 32 := BitVec.ofNat 32 (i 3).val
  let c0_i32_5 : BitVec 32 := 0#32
  let v7 : BitVec 1 := Scalar.cmpi .sgt arg3 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== GradInReferenceIdeal.lean ====
abbrev S4x4096x512 : Shape := ⟨3, ![4, 4096, 512]⟩
abbrev S4096x1024 : Shape := ⟨2, ![4096, 1024]⟩
abbrev S4x512x1024 : Shape := ⟨3, ![4, 512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4096x1024, .bf16⟩
  | .hbm, ⟨2, _⟩ => ⟨S4x512x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BackIn.lean ====
abbrev S4x4096x512 : Shape := ⟨3, ![4, 4096, 512]⟩
abbrev S4x512x1024 : Shape := ⟨3, ![4, 512, 1024]⟩
abbrev S4096x1024 : Shape := ⟨2, ![4096, 1024]⟩
abbrev S1x512x512 : Shape := ⟨3, ![1, 512, 512]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x512, .bf16⟩
  | .hbm, ⟨1, _⟩ => ⟨S4x512x1024, .bf16⟩
  | .hbm, ⟨2, _⟩ => ⟨S4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 4, 1], ![false, false, false, false]⟩

def k0_cond1 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32 : BitVec 32 := 0#32
  let v7 : BitVec 1 := Scalar.cmpi .eq v6 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32_6 : BitVec 32 := 0#32
  let v10 : BitVec 1 := Scalar.cmpi .sgt v6 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== BackInIdeal.lean ====
abbrev S4x4096x512 : Shape := ⟨3, ![4, 4096, 512]⟩
abbrev S4x512x1024 : Shape := ⟨3, ![4, 512, 1024]⟩
abbrev S4096x1024 : Shape := ⟨2, ![4096, 1024]⟩
abbrev S1x512x512 : Shape := ⟨3, ![1, 512, 512]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x512, .bf16⟩
  | .hbm, ⟨1, _⟩ => ⟨S4x512x1024, .bf16⟩
  | .hbm, ⟨2, _⟩ => ⟨S4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .f32⟩
  | .local _ .vmem, ⟨5, _⟩ => ⟨S512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 4, 1], ![false, false, false, false]⟩

def k0_cond1 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32 : BitVec 32 := 0#32
  let v7 : BitVec 1 := Scalar.cmpi .eq v6 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg2 : BitVec 32 := BitVec.ofNat 32 (i 2).val
  let c1_i32 : BitVec 32 := 1#32
  let v5 : BitVec 32 := Scalar.muli arg2 c1_i32
  let arg3 : BitVec 32 := BitVec.ofNat 32 (i 3).val
  let v6 : BitVec 32 := Scalar.addi v5 arg3
  let c0_i32_6 : BitVec 32 := 0#32
  let v10 : BitVec 1 := Scalar.cmpi .sgt v6 c0_i32_6
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== BackInReferenceIdeal.lean ====
abbrev S4x4096x512 : Shape := ⟨3, ![4, 4096, 512]⟩
abbrev S4x512x1024 : Shape := ⟨3, ![4, 512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x512x1024, .bf16⟩
  | .hbm, ⟨2, _⟩ => ⟨S4096x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnUp.lean ====
abbrev S4096x1024 : Shape := ⟨2, ![4096, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S512x1024 : Shape := ⟨2, ![512, 1024]⟩
abbrev S2x1408x1024 : Shape := ⟨3, ![2, 1408, 1024]⟩
abbrev S2x512x1408 : Shape := ⟨3, ![2, 512, 1408]⟩
abbrev S512x1408 : Shape := ⟨2, ![512, 1408]⟩
abbrev S1x1408x1024 : Shape := ⟨3, ![1, 1408, 1024]⟩
abbrev S1408x1024 : Shape := ⟨2, ![1408, 1024]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S2x4096x2816, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x1408, .bf16⟩
  | .local _ .vmem, ⟨7, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpIdeal.lean ====
abbrev S4096x1024 : Shape := ⟨2, ![4096, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S512x1024 : Shape := ⟨2, ![512, 1024]⟩
abbrev S2x1408x1024 : Shape := ⟨3, ![2, 1408, 1024]⟩
abbrev S2x512x1408 : Shape := ⟨3, ![2, 512, 1408]⟩
abbrev S512x1408 : Shape := ⟨2, ![512, 1408]⟩
abbrev S1x1408x1024 : Shape := ⟨3, ![1, 1408, 1024]⟩
abbrev S1408x1024 : Shape := ⟨2, ![1408, 1024]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S2x4096x2816, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1408x1024, .bf16⟩
  | .local _ .vmem, ⟨3, _⟩ => ⟨S2x1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S512x1408, .bf16⟩
  | .local _ .vmem, ⟨7, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpReferenceIdeal.lean ====
abbrev S4096x1024 : Shape := ⟨2, ![4096, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x2816x1024, .bf16⟩
  | .hbm, ⟨2, _⟩ => ⟨S1x2816x1024, .bf16⟩
  | .hbm, ⟨3, _⟩ => ⟨S2816x1024, .bf16⟩
  | .hbm, ⟨4, _⟩ => ⟨S1024x2816, .bf16⟩
  | .hbm, ⟨5, _⟩ => ⟨S4096x2816, .f32⟩
  | .hbm, ⟨6, _⟩ => ⟨S1x2816x1024, .bf16⟩
  | .hbm, ⟨7, _⟩ => ⟨S2816x1024, .bf16⟩
  | .hbm, ⟨8, _⟩ => ⟨S1024x2816, .bf16⟩
  | .hbm, ⟨9, _⟩ => ⟨S4096x2816, .f32⟩
  | .hbm, ⟨10, _⟩ => ⟨S1x4096x2816, .f32⟩
  | .hbm, ⟨11, _⟩ => ⟨S1x4096x2816, .f32⟩
  | .hbm, ⟨12, _⟩ => ⟨S2x4096x2816, .f32⟩
  | .hbm, ⟨13, _⟩ => ⟨S2x4096x2816, .bf16⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== FfnBack.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnBackIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S1408x1024 : Shape := ⟨2, ![1408, 1024]⟩
abbrev S2x512x1408 : Shape := ⟨3, ![2, 512, 1408]⟩
abbrev S512x1408 : Shape := ⟨2, ![512, 1408]⟩
abbrev S1x512x1408 : Shape := ⟨3, ![1, 512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnBackReferenceIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S1024x2816 : Shape := ⟨2, ![1024, 2816]⟩
abbrev S4096x2816 : Shape := ⟨2, ![4096, 2816]⟩
abbrev S1x4096x2816 : Shape := ⟨3, ![1, 4096, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S1024x2816, .bf16⟩
  | .hbm, ⟨4, _⟩ => ⟨S4096x2816, .f32⟩
  | .hbm, ⟨5, _⟩ => ⟨S1x4096x2816, .bf16⟩
  | .hbm, ⟨6, _⟩ => ⟨S4096x2816, .bf16⟩
  | .hbm, ⟨7, _⟩ => ⟨S4096x2816, .f32⟩
  | .hbm, ⟨8, _⟩ => ⟨S1x4096x2816, .bf16⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S1x4096x2816, .f32⟩
  | .hbm, ⟨30, _⟩ => ⟨S1x4096x2816, .f32⟩
  | .hbm, ⟨31, _⟩ => ⟨S2x4096x2816, .f32⟩
  | .hbm, ⟨32, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== PreMix.lean ====
abbrev S4096x1024 : Shape := ⟨2, ![4096, 1024]⟩
abbrev S1x1024 : Shape := ⟨2, ![1, 1024]⟩
abbrev S2x6x1024 : Shape := ⟨3, ![2, 6, 1024]⟩
abbrev S256x1024 : Shape := ⟨2, ![256, 1024]⟩
abbrev S1x6x1024 : Shape := ⟨3, ![1, 6, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x6x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PreMixIdeal.lean ====
abbrev S4096x1024 : Shape := ⟨2, ![4096, 1024]⟩
abbrev S1x1024 : Shape := ⟨2, ![1, 1024]⟩
abbrev S2x6x1024 : Shape := ⟨3, ![2, 6, 1024]⟩
abbrev S256x1024 : Shape := ⟨2, ![256, 1024]⟩
abbrev S1x6x1024 : Shape := ⟨3, ![1, 6, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x6x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PreMixReferenceIdeal.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2x6x1024, .f32⟩
  | .hbm, ⟨3, _⟩ => ⟨S2x1x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x2048x1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Mid.lean ====
abbrev S4096x1024 : Shape := ⟨2, ![4096, 1024]⟩
abbrev S1x1024 : Shape := ⟨2, ![1, 1024]⟩
abbrev S2x6x1024 : Shape := ⟨3, ![2, 6, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MidIdeal.lean ====
abbrev S4096x1024 : Shape := ⟨2, ![4096, 1024]⟩
abbrev S1x1024 : Shape := ⟨2, ![1, 1024]⟩
abbrev S2x6x1024 : Shape := ⟨3, ![2, 6, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MidReferenceIdeal.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2x6x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x1024, .f32⟩
  | .hbm, ⟨44, _⟩ => ⟨S2x2048x1024, .f32⟩
  | .hbm, ⟨45, _⟩ => ⟨S1x1x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x1x1024, .f32⟩
  | .hbm, ⟨50, _⟩ => ⟨S2x1x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Post.lean ====
abbrev S4096x1024 : Shape := ⟨2, ![4096, 1024]⟩
abbrev S1x1024 : Shape := ⟨2, ![1, 1024]⟩
abbrev S2x6x1024 : Shape := ⟨3, ![2, 6, 1024]⟩
abbrev S1x128 : Shape := ⟨2, ![1, 128]⟩
abbrev S2x1x1024 : Shape := ⟨3, ![2, 1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S2x6x1024, .f32⟩
  | .hbm, ⟨5, _⟩ => ⟨S1x128, .f32⟩
  | .hbm, ⟨6, _⟩ => ⟨S4096x1024, .f32⟩
  | .hbm, ⟨7, _⟩ => ⟨S4096x1024, .bf16⟩
  | .hbm, ⟨8, _⟩ => ⟨S2x1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_14 : BitVec 32 := 0#32
  let v32 : BitVec 1 := Scalar.cmpi .ne v31 c0_i32_14
  v32

def k0_cond2 (i : grid0.Coords) : BitVec 1 :=
  let arg0 : BitVec 32 := BitVec.ofNat 32 (i 0).val
  let c0_i32 : BitVec 32 := 0#32
  let v30 : BitVec 1 := Scalar.cmpi .eq arg0 c0_i32
  let v_true : BitVec 1 := 1#1
  let v33 : BitVec 1 := Scalar.xori v30 v_true
  let v34 : BitVec 32 := Scalar.extui v33
  let c0_i32_15 : BitVec 32 := 0#32
  let v35 : BitVec 1 := Scalar.cmpi .ne v34 c0_i32_15
  v35

def k0_cond3 (i : grid0.Coords) : BitVec 1 :=
  let arg0 : BitVec 32 := BitVec.ofNat 32 (i 0).val
  let c8_i32 : BitVec 32 := 8#32
  let c0_i32_20 : BitVec 32 := 0#32
  let v42 : BitVec 1 := Scalar.cmpi .eq c8_i32 c0_i32_20
  let c1_i32 : BitVec 32 := 1#32
  let v43 : BitVec 32 := Scalar.select v42 c1_i32 c8_i32
  let v44 : BitVec 32 := Scalar.remsi arg0 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_24 : BitVec 32 := 0#32
  let v52 : BitVec 1 := Scalar.cmpi .eq v51 c0_i32_24
  let v53 : BitVec 32 := Scalar.extui v52
  let c0_i32_25 : BitVec 32 := 0#32
  let v54 : BitVec 1 := Scalar.cmpi .ne v53 c0_i32_25
  v54

def k0_cond4 (i : grid0.Coords) : BitVec 1 :=
  let arg0 : BitVec 32 := BitVec.ofNat 32 (i 0).val
  let c8_i32 : BitVec 32 := 8#32
  let c0_i32_20 : BitVec 32 := 0#32
  let v42 : BitVec 1 := Scalar.cmpi .eq c8_i32 c0_i32_20
  let c1_i32 : BitVec 32 := 1#32
  let v43 : BitVec 32 := Scalar.select v42 c1_i32 c8_i32
  let v44 : BitVec 32 := Scalar.remsi arg0 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_24 : BitVec 32 := 0#32
  let v52 : BitVec 1 := Scalar.cmpi .eq v51 c0_i32_24
  let true_26 : BitVec 1 := 1#1
  let v55 : BitVec 1 := Scalar.xori v52 true_26
  let v56 : BitVec 32 := Scalar.extui v55
  let c0_i32_27 : BitVec 32 := 0#32
  let v57 : BitVec 1 := Scalar.cmpi .ne v56 c0_i32_27
  v57

def k0_cond5 (i : grid0.Coords) : BitVec 1 :=
  let arg0 : BitVec 32 := BitVec.ofNat 32 (i 0).val
  let c0_i32_29 : BitVec 32 := 0#32
  let v63 : BitVec 1 := Scalar.cmpi .eq arg0 c0_i32_29
  let v64 : BitVec 32 := Scalar.extui v63
  let c0_i32_30 : BitVec 32 := 0#32
  let v65 : BitVec 1 := Scalar.cmpi .ne v64 c0_i32_30
  v65

def k0_cond6 (i : grid0.Coords) : BitVec 1 :=
  let arg0 : BitVec 32 := BitVec.ofNat 32 (i 0).val
  let c0_i32_29 : BitVec 32 := 0#32
  let v63 : BitVec 1 := Scalar.cmpi .eq arg0 c0_i32_29
  let true_31 : BitVec 1 := 1#1
  let v66 : BitVec 1 := Scalar.xori v63 true_31
  let v67 : BitVec 32 := Scalar.extui v66
  let c0_i32_32 : BitVec 32 := 0#32
  let v68 : BitVec 1 := Scalar.cmpi .ne v67 c0_i32_32
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PostIdeal.lean ====
abbrev S4096x1024 : Shape := ⟨2, ![4096, 1024]⟩
abbrev S1x1024 : Shape := ⟨2, ![1, 1024]⟩
abbrev S2x6x1024 : Shape := ⟨3, ![2, 6, 1024]⟩
abbrev S1x128 : Shape := ⟨2, ![1, 128]⟩
abbrev S2x1x1024 : Shape := ⟨3, ![2, 1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S2x6x1024, .f32⟩
  | .hbm, ⟨5, _⟩ => ⟨S1x128, .f32⟩
  | .hbm, ⟨6, _⟩ => ⟨S4096x1024, .f32⟩
  | .hbm, ⟨7, _⟩ => ⟨S4096x1024, .bf16⟩
  | .hbm, ⟨8, _⟩ => ⟨S2x1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_14 : BitVec 32 := 0#32
  let v32 : BitVec 1 := Scalar.cmpi .ne v31 c0_i32_14
  v32

def k0_cond2 (i : grid0.Coords) : BitVec 1 :=
  let arg0 : BitVec 32 := BitVec.ofNat 32 (i 0).val
  let c0_i32 : BitVec 32 := 0#32
  let v30 : BitVec 1 := Scalar.cmpi .eq arg0 c0_i32
  let v_true : BitVec 1 := 1#1
  let v33 : BitVec 1 := Scalar.xori v30 v_true
  let v34 : BitVec 32 := Scalar.extui v33
  let c0_i32_15 : BitVec 32 := 0#32
  let v35 : BitVec 1 := Scalar.cmpi .ne v34 c0_i32_15
  v35

def k0_cond3 (i : grid0.Coords) : BitVec 1 :=
  let arg0 : BitVec 32 := BitVec.ofNat 32 (i 0).val
  let c8_i32 : BitVec 32 := 8#32
  let c0_i32_20 : BitVec 32 := 0#32
  let v42 : BitVec 1 := Scalar.cmpi .eq c8_i32 c0_i32_20
  let c1_i32 : BitVec 32 := 1#32
  let v43 : BitVec 32 := Scalar.select v42 c1_i32 c8_i32
  let v44 : BitVec 32 := Scalar.remsi arg0 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_24 : BitVec 32 := 0#32
  let v52 : BitVec 1 := Scalar.cmpi .eq v51 c0_i32_24
  let v53 : BitVec 32 := Scalar.extui v52
  let c0_i32_25 : BitVec 32 := 0#32
  let v54 : BitVec 1 := Scalar.cmpi .ne v53 c0_i32_25
  v54

def k0_cond4 (i : grid0.Coords) : BitVec 1 :=
  let arg0 : BitVec 32 := BitVec.ofNat 32 (i 0).val
  let c8_i32 : BitVec 32 := 8#32
  let c0_i32_20 : BitVec 32 := 0#32
  let v42 : BitVec 1 := Scalar.cmpi .eq c8_i32 c0_i32_20
  let c1_i32 : BitVec 32 := 1#32
  let v43 : BitVec 32 := Scalar.select v42 c1_i32 c8_i32
  let v44 : BitVec 32 := Scalar.remsi arg0 v43
  let c0_i32_22 : BitVec 32 := 0#32
  let v46 : BitVec 1 := Scalar.cmpi .slt v44 c0_i32_22
  let c0_i32_23 : BitVec 32 := 0#32
  let v47 : BitVec 1 := Scalar.cmpi .slt v43 c0_i32_23
  let v48 : BitVec 1 := Scalar.xori v46 v47
  let c0_i32_21 : BitVec 32 := 0#32
  let v45 : BitVec 1 := Scalar.cmpi .ne v44 c0_i32_21
  let v49 : BitVec 1 := Scalar.andi v48 v45
  let v50 : BitVec 32 := Scalar.addi v44 v43
  let v51 : BitVec 32 := Scalar.select v49 v50 v44
  let c0_i32_24 : BitVec 32 := 0#32
  let v52 : BitVec 1 := Scalar.cmpi .eq v51 c0_i32_24
  let true_26 : BitVec 1 := 1#1
  let v55 : BitVec 1 := Scalar.xori v52 true_26
  let v56 : BitVec 32 := Scalar.extui v55
  let c0_i32_27 : BitVec 32 := 0#32
  let v57 : BitVec 1 := Scalar.cmpi .ne v56 c0_i32_27
  v57

def k0_cond5 (i : grid0.Coords) : BitVec 1 :=
  let arg0 : BitVec 32 := BitVec.ofNat 32 (i 0).val
  let c0_i32_29 : BitVec 32 := 0#32
  let v63 : BitVec 1 := Scalar.cmpi .eq arg0 c0_i32_29
  let v64 : BitVec 32 := Scalar.extui v63
  let c0_i32_30 : BitVec 32 := 0#32
  let v65 : BitVec 1 := Scalar.cmpi .ne v64 c0_i32_30
  v65

def k0_cond6 (i : grid0.Coords) : BitVec 1 :=
  let arg0 : BitVec 32 := BitVec.ofNat 32 (i 0).val
  let c0_i32_29 : BitVec 32 := 0#32
  let v63 : BitVec 1 := Scalar.cmpi .eq arg0 c0_i32_29
  let true_31 : BitVec 1 := 1#1
  let v66 : BitVec 1 := Scalar.xori v63 true_31
  let v67 : BitVec 32 := Scalar.extui v66
  let c0_i32_32 : BitVec 32 := 0#32
  let v68 : BitVec 1 := Scalar.cmpi .ne v67 c0_i32_32
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PostReferenceIdeal.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x128 : Shape := ⟨2, ![1, 128]⟩
abbrev S2x1024 : Shape := ⟨2, ![2, 1024]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S2x6x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S_, .f32⟩
  | .hbm, ⟨37, _⟩ => ⟨S1x128, .f32⟩
  | .hbm, ⟨38, _⟩ => ⟨S_, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S4096x1024, .f32⟩
  | .hbm, ⟨44, _⟩ => ⟨S1x1x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S_, .f32⟩
  | .hbm, ⟨49, _⟩ => ⟨S2x2048, .f32⟩
  | .hbm, ⟨50, _⟩ => ⟨S2x2048x1, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S4096x1024, .f32⟩
  | .hbm, ⟨60, _⟩ => ⟨S4096x1024, .bf16⟩
  | .hbm, ⟨61, _⟩ => ⟨S1x1x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S_, .f32⟩
  | .hbm, ⟨66, _⟩ => ⟨S2x1024, .f32⟩
  | .hbm, ⟨67, _⟩ => ⟨S2x1x1024, .f32⟩
  | .hbm, ⟨68, _⟩ => ⟨S2x2048x1024, .f32⟩
  | .hbm, ⟨69, _⟩ => ⟨S_, .f32⟩
  | .hbm, ⟨70, _⟩ => ⟨S1024, .f32⟩
  | .hbm, ⟨71, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== BwdMid.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S2x6x1024, .f32⟩
  | .hbm, ⟨7, _⟩ => ⟨S4096x1024, .f32⟩
  | .hbm, ⟨8, _⟩ => ⟨S4096x1024, .bf16⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x6x1024, .f32⟩
  | .local _ .vmem, ⟨11, _⟩ => ⟨S1x6x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v26 : BitVec 32 := Scalar.extui v10
  let c0_i32_12 : BitVec 32 := 0#32
  let v27 : BitVec 1 := Scalar.cmpi .ne v26 c0_i32_12
  v27

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v28 : BitVec 1 := Scalar.xori v10 v_true
  let v29 : BitVec 32 := Scalar.extui v28
  let c0_i32_13 : BitVec 32 := 0#32
  let v30 : BitVec 1 := Scalar.cmpi .ne v29 c0_i32_13
  v30

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v36 : BitVec 32 := Scalar.extui v10
  let c0_i32_15 : BitVec 32 := 0#32
  let v37 : BitVec 1 := Scalar.cmpi .ne v36 c0_i32_15
  v37

def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_16 : BitVec 1 := 1#1
  let v38 : BitVec 1 := Scalar.xori v10 true_16
  let v39 : BitVec 32 := Scalar.extui v38
  let c0_i32_17 : BitVec 32 := 0#32
  let v40 : BitVec 1 := Scalar.cmpi .ne v39 c0_i32_17
  v40

def k0_cond7 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v88 : BitVec 32 := Scalar.extui v10
  let c0_i32_40 : BitVec 32 := 0#32
  let v89 : BitVec 1 := Scalar.cmpi .ne v88 c0_i32_40
  v89

def k0_cond8 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_41 : BitVec 1 := 1#1
  let v90 : BitVec 1 := Scalar.xori v10 true_41
  let v91 : BitVec 32 := Scalar.extui v90
  let c0_i32_42 : BitVec 32 := 0#32
  let v92 : BitVec 1 := Scalar.cmpi .ne v91 c0_i32_42
  v92

def k0_cond5 (i : grid0.Coords) : BitVec 1 :=
  let arg0 : BitVec 32 := BitVec.ofNat 32 (i 0).val
  let c0_i32_22 : BitVec 32 := 0#32
  let v50 : BitVec 1 := Scalar.cmpi .eq arg0 c0_i32_22
  let v51 : BitVec 32 := Scalar.extui v50
  let c0_i32_23 : BitVec 32 := 0#32
  let v52 : BitVec 1 := Scalar.cmpi .ne v51 c0_i32_23
  v52

def k0_cond6 (i : grid0.Coords) : BitVec 1 :=
  let arg0 : BitVec 32 := BitVec.ofNat 32 (i 0).val
  let c0_i32_22 : BitVec 32 := 0#32
  let v50 : BitVec 1 := Scalar.cmpi .eq arg0 c0_i32_22
  let true_24 : BitVec 1 := 1#1
  let v53 : BitVec 1 := Scalar.xori v50 true_24
  let v54 : BitVec 32 := Scalar.extui v53
  let c0_i32_25 : BitVec 32 := 0#32
  let v55 : BitVec 1 := Scalar.cmpi .ne v54 c0_i32_25
  v55

def k0_cond9 (i : grid0.Coords) : BitVec 1 :=
  let arg0 : BitVec 32 := BitVec.ofNat 32 (i 0).val
  let c0_i32_46 : BitVec 32 := 0#32
  let v100 : BitVec 1 := Scalar.cmpi .eq arg0 c0_i32_46
  let v101 : BitVec 32 := Scalar.extui v100
  let c0_i32_47 : BitVec 32 := 0#32
  let v102 : BitVec 1 := Scalar.cmpi .ne v101 c0_i32_47
  v102

def k0_cond10 (i : grid0.Coords) : BitVec 1 :=
  let arg0 : BitVec 32 := BitVec.ofNat 32 (i 0).val
  let c0_i32_46 : BitVec 32 := 0#32
  let v100 : BitVec 1 := Scalar.cmpi .eq arg0 c0_i32_46
  let true_48 : BitVec 1 := 1#1
  let v103 : BitVec 1 := Scalar.xori v100 true_48
  let v104 : BitVec 32 := Scalar.extui v103
  let c0_i32_49 : BitVec 32 := 0#32
  let v105 : BitVec 1 := Scalar.cmpi .ne v104 c0_i32_49
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== BwdMidIdeal.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S2x6x1024, .f32⟩
  | .hbm, ⟨7, _⟩ => ⟨S4096x1024, .f32⟩
  | .hbm, ⟨8, _⟩ => ⟨S4096x1024, .bf16⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x6x1024, .f32⟩
  | .local _ .vmem, ⟨11, _⟩ => ⟨S1x6x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v26 : BitVec 32 := Scalar.extui v10
  let c0_i32_12 : BitVec 32 := 0#32
  let v27 : BitVec 1 := Scalar.cmpi .ne v26 c0_i32_12
  v27

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v28 : BitVec 1 := Scalar.xori v10 v_true
  let v29 : BitVec 32 := Scalar.extui v28
  let c0_i32_13 : BitVec 32 := 0#32
  let v30 : BitVec 1 := Scalar.cmpi .ne v29 c0_i32_13
  v30

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v36 : BitVec 32 := Scalar.extui v10
  let c0_i32_15 : BitVec 32 := 0#32
  let v37 : BitVec 1 := Scalar.cmpi .ne v36 c0_i32_15
  v37

def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_16 : BitVec 1 := 1#1
  let v38 : BitVec 1 := Scalar.xori v10 true_16
  let v39 : BitVec 32 := Scalar.extui v38
  let c0_i32_17 : BitVec 32 := 0#32
  let v40 : BitVec 1 := Scalar.cmpi .ne v39 c0_i32_17
  v40

def k0_cond7 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v88 : BitVec 32 := Scalar.extui v10
  let c0_i32_40 : BitVec 32 := 0#32
  let v89 : BitVec 1 := Scalar.cmpi .ne v88 c0_i32_40
  v89

def k0_cond8 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_41 : BitVec 1 := 1#1
  let v90 : BitVec 1 := Scalar.xori v10 true_41
  let v91 : BitVec 32 := Scalar.extui v90
  let c0_i32_42 : BitVec 32 := 0#32
  let v92 : BitVec 1 := Scalar.cmpi .ne v91 c0_i32_42
  v92

def k0_cond5 (i : grid0.Coords) : BitVec 1 :=
  let arg0 : BitVec 32 := BitVec.ofNat 32 (i 0).val
  let c0_i32_22 : BitVec 32 := 0#32
  let v50 : BitVec 1 := Scalar.cmpi .eq arg0 c0_i32_22
  let v51 : BitVec 32 := Scalar.extui v50
  let c0_i32_23 : BitVec 32 := 0#32
  let v52 : BitVec 1 := Scalar.cmpi .ne v51 c0_i32_23
  v52

def k0_cond6 (i : grid0.Coords) : BitVec 1 :=
  let arg0 : BitVec 32 := BitVec.ofNat 32 (i 0).val
  let c0_i32_22 : BitVec 32 := 0#32
  let v50 : BitVec 1 := Scalar.cmpi .eq arg0 c0_i32_22
  let true_24 : BitVec 1 := 1#1
  let v53 : BitVec 1 := Scalar.xori v50 true_24
  let v54 : BitVec 32 := Scalar.extui v53
  let c0_i32_25 : BitVec 32 := 0#32
  let v55 : BitVec 1 := Scalar.cmpi .ne v54 c0_i32_25
  v55

def k0_cond9 (i : grid0.Coords) : BitVec 1 :=
  let arg0 : BitVec 32 := BitVec.ofNat 32 (i 0).val
  let c0_i32_46 : BitVec 32 := 0#32
  let v100 : BitVec 1 := Scalar.cmpi .eq arg0 c0_i32_46
  let v101 : BitVec 32 := Scalar.extui v100
  let c0_i32_47 : BitVec 32 := 0#32
  let v102 : BitVec 1 := Scalar.cmpi .ne v101 c0_i32_47
  v102

def k0_cond10 (i : grid0.Coords) : BitVec 1 :=
  let arg0 : BitVec 32 := BitVec.ofNat 32 (i 0).val
  let c0_i32_46 : BitVec 32 := 0#32
  let v100 : BitVec 1 := Scalar.cmpi .eq arg0 c0_i32_46
  let true_48 : BitVec 1 := 1#1
  let v103 : BitVec 1 := Scalar.xori v100 true_48
  let v104 : BitVec 32 := Scalar.extui v103
  let c0_i32_49 : BitVec 32 := 0#32
  let v105 : BitVec 1 := Scalar.cmpi .ne v104 c0_i32_49
  v105

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== BwdMidReferenceIdeal.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S2x6x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x2048, .f32⟩
  | .hbm, ⟨54, _⟩ => ⟨S2x2048x1, .f32⟩
  | .hbm, ⟨55, _⟩ => ⟨S_, .f32⟩
  | .hbm, ⟨56, _⟩ => ⟨S2x2048x1, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S4096x1024, .f32⟩
  | .hbm, ⟨67, _⟩ => ⟨S1x1x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S_, .f32⟩
  | .hbm, ⟨72, _⟩ => ⟨S2x2048, .f32⟩
  | .hbm, ⟨73, _⟩ => ⟨S2x2048x1, .f32⟩
  | .hbm, ⟨74, _⟩ => ⟨S_, .f32⟩
  | .hbm, ⟨75, _⟩ => ⟨S2x2048x1, .f32⟩
  | .hbm, ⟨76, _⟩ => ⟨S2x2048x1, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S4096x1024, .f32⟩
  | .hbm, ⟨83, _⟩ => ⟨S4096x1024, .bf16⟩
  | .hbm, ⟨84, _⟩ => ⟨S_, .f32⟩
  | .hbm, ⟨85, _⟩ => ⟨S2x1024, .f32⟩
  | .hbm, ⟨86, _⟩ => ⟨S2x1x1024, .f32⟩
  | .hbm, ⟨87, _⟩ => ⟨S2x2048x1024, .f32⟩
  | .hbm, ⟨88, _⟩ => ⟨S1x1x1024, .f32⟩
  | .hbm, ⟨89, _⟩ => ⟨S2x2048x1024, .f32⟩
  | .hbm, ⟨90, _⟩ => ⟨S2x2048x1024, .f32⟩
  | .hbm, ⟨91, _⟩ => ⟨S_, .f32⟩
  | .hbm, ⟨92, _⟩ => ⟨S2x1024, .f32⟩
  | .hbm, ⟨93, _⟩ => ⟨S2x1x1024, .f32⟩
  | .hbm, ⟨94, _⟩ => ⟨S2x2048x1024, .f32⟩
  | .hbm, ⟨95, _⟩ => ⟨S1x1x1024, .f32⟩
  | .hbm, ⟨96, _⟩ => ⟨S2x2048x1024, .f32⟩
  | .hbm, ⟨97, _⟩ => ⟨S2x2048x1024, .f32⟩
  | .hbm, ⟨98, _⟩ => ⟨S_, .f32⟩
  | .hbm, ⟨99, _⟩ => ⟨S2x1024, .f32⟩
  | .hbm, ⟨100, _⟩ => ⟨S2x1x1024, .f32⟩
  | .hbm, ⟨101, _⟩ => ⟨S2x2048x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S2x2048x1024, .f32⟩
  | .hbm, ⟨106, _⟩ => ⟨S_, .f32⟩
  | .hbm, ⟨107, _⟩ => ⟨S1024, .f32⟩
  | .hbm, ⟨108, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_14 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== BwdPre.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S256x1024 : Shape := ⟨2, ![256, 1024]⟩
abbrev S1x6x1024 : Shape := ⟨3, ![1, 6, 1024]⟩
abbrev S1x1x1024 : Shape := ⟨3, ![1, 1, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S2x6x1024, .f32⟩
  | .hbm, ⟨5, _⟩ => ⟨S4096x1024, .f32⟩
  | .hbm, ⟨6, _⟩ => ⟨S2x1x1024, .f32⟩
  | .hbm, ⟨7, _⟩ => ⟨S2x1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x6x1024, .f32⟩
  | .local _ .vmem, ⟨8, _⟩ => ⟨S1x6x1024, .f32⟩
  | .local _ .vmem, ⟨9, _⟩ => ⟨S256x1024, .f32⟩
  | .local _ .vmem, ⟨10, _⟩ => ⟨S256x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v26 : BitVec 32 := Scalar.extui v10
  let c0_i32_12 : BitVec 32 := 0#32
  let v27 : BitVec 1 := Scalar.cmpi .ne v26 c0_i32_12
  v27

def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v_true : BitVec 1 := 1#1
  let v28 : BitVec 1 := Scalar.xori v10 v_true
  let v29 : BitVec 32 := Scalar.extui v28
  let c0_i32_13 : BitVec 32 := 0#32
  let v30 : BitVec 1 := Scalar.cmpi .ne v29 c0_i32_13
  v30

def k0_cond3 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v36 : BitVec 32 := Scalar.extui v10
  let c0_i32_15 : BitVec 32 := 0#32
  let v37 : BitVec 1 := Scalar.cmpi .ne v36 c0_i32_15
  v37

def k0_cond4 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let true_16 : BitVec 1 := 1#1
  let v38 : BitVec 1 := Scalar.xori v10 true_16
  let v39 : BitVec 32 := Scalar.extui v38
  let c0_i32_17 : BitVec 32 := 0#32
  let v40 : BitVec 1 := Scalar.cmpi .ne v39 c0_i32_17
  v40

def k0_cond5 (i : grid0.Coords) : BitVec 1 :=
  let arg0 : BitVec 32 := BitVec.ofNat 32 (i 0).val
  let c0_i32_22 : BitVec 32 := 0#32
  let v50 : BitVec 1 := Scalar.cmpi .eq arg0 c0_i32_22
  let v51 : BitVec 32 := Scalar.extui v50
  let c0_i32_23 : BitVec 32 := 0#32
  let v52 : BitVec 1 := Scalar.cmpi .ne v51 c0_i32_23
  v52

def k0_cond6 (i : grid0.Coords) : BitVec 1 :=
  let arg0 : BitVec 32 := BitVec.ofNat 32 (i 0).val
  let c0_i32_22 : BitVec 32 := 0#32
  let v50 : BitVec 1 := Scalar.cmpi .eq arg0 c0_i32_22
  let true_24 : BitVec 1 := 1#1
  let v53 : BitVec 1 := Scalar.xori v50 true_24
  let v54 : BitVec 32 := Scalar.extui v53
  let c0_i32_25 : BitVec 32 := 0#32
  let v55 : BitVec 1 := Scalar.cmpi .ne v54 c0_i32_25
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BwdPreReferenceIdeal.lean ====
abbrev S4096x1024 : Shape := ⟨2, ![4096, 1024]⟩
abbrev S1x1024 : Shape := ⟨2, ![1, 1024]⟩
abbrev S2x6x1024 : Shape := ⟨3, ![2, 6, 1024]⟩
abbrev S2x1x1024 : Shape := ⟨3, ![2, 1, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S2x6x1024, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S4096x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S2x1024, .f32⟩
  | .hbm, ⟨58, _⟩ => ⟨S2x1x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.DealtLaunch.lean ====
/-
  The launch of a program whose @main is one kernel without windows, when the cores exchange data at once.

  A core of such a program writes into its peers' result arrays without asking them first, so the memory a core may
  write is not its own alone: the launch deals the places. Every core's unscoped buffers, its own semaphores, its launch
  credit and its ghost resources are handed TOGETHER to one step (`hdeal`), which returns for each core what its run
  starts from (`X`) and what is kept aside until the end (`Z`). The rest follows the launch of a single region.
-/
module

public import Idealize.ShloMosaic.Lib.Pipeline.Launch
public import Idealize.ShloMosaic.Lib.Pipeline.Kit

@[expose] public section

set_option Elab.async false

noncomputable section

namespace Cert.Exchange

open Idealize.ShloMosaic Idealize.ShloMosaic.TcCoe Idealize.ShloMosaic.Rounds Idealize.ShloMosaic.Pipeline
open Idealize.ShloMosaic.Pipeline.PerCore Idealize.ShloMosaic.Pipeline.PerCore.RDat
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem

variable {nD : Nat} {τ : Topo} {sig : RefSig} {Val : EltTy → Type}

/-- The ghost state: the pipeline's copy of the rounds library, and the transfers' copy. -/
abbrev UU (nD : Nat) (τ : Topo) (sig : RefSig) : Type := UR sig nD τ × UR sig nD τ

/-- The resources of the machine with that ghost state. -/
abbrev MM (nD : Nat) (τ : Topo) (sig : RefSig) (Val : EltTy → Type) : Type := MT nD τ sig Unit Val ℕ (UU nD τ sig) ℕ

/-- Assertions over those resources. -/
abbrev AA (nD : Nat) (τ : Topo) (sig : RefSig) (Val : EltTy → Type) : Type := sProp (MM nD τ sig Val)

/-- The pipeline's copy of the rounds library. -/
abbrev EP (nD : Nat) (τ : Topo) (sig : RefSig) (Val : EltTy → Type) : Emb (UR sig nD τ) (MM nD τ sig Val) := embL

/-- The transfers' copy. -/
abbrev ER (nD : Nat) (τ : Topo) (sig : RefSig) (Val : EltTy → Type) : Emb (UR sig nD τ) (MM nD τ sig Val) := embR

/-- The levels the launch assigns are assigned to the cells of every core. -/
theorem assign_levels (L : GSem nD τ sig → Finset Unit) (lv : GSem nD τ sig → Unit → ℕ) (hL : ∀ g : GSem nD τ sig, g.1.2 ≠ .tc → L g = ∅) :
    (bigSep Finset.univ fun c : Dev nD => levels0 (Ix := Unit) (Val := Val) (Name := ℕ) (U := UU nD τ sig) (Lvl := ℕ) (τ := τ) (sig := sig) c)
      ⊢ (|==> levAts L lv : AA nD τ sig Val) := by
  have noneElsewhere : (bigSep Finset.univ fun d : Dev nD => bigSep (Finset.univ.erase Proc.tc) fun p => (coreLevAts ((d, p) : Thread nD τ) L lv : AA nD τ sig Val))
      = BI.emp := by
    refine (bigSep_congr (Ψ := fun _ => BI.emp) fun d _ => ?_).trans (BI.bigSep_emp_const _)
    refine (bigSep_congr (Ψ := fun _ => BI.emp) fun p hp => ?_).trans (BI.bigSep_emp_const _)
    unfold coreLevAts
    refine (bigSep_congr (Ψ := fun _ => BI.emp) fun sm _ => ?_).trans (BI.bigSep_emp_const _)
    rw [hL (((d, p) : Thread nD τ), sm) (Finset.ne_of_mem_erase hp), BI.bigSep_empty]
  refine (bigSep_mono fun c _ => lev_assign_cells (c.tc : Thread nD τ) L lv).trans ((BI.bigSep_bupd _ _).trans (BI.bupd_mono ?_))
  rw [show (levAts L lv : AA nD τ sig Val) = bigSep Finset.univ fun c : Thread nD τ => coreLevAts c L lv
      from (bigSep_univ_prod fun g : GSem nD τ sig => bigSep (L g) fun ι => levAt g ι (lv g ι)),
    bigSep_threads (fun c : Thread nD τ => coreLevAts c L lv), noneElsewhere]
  have h : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => (coreLevAts (d.tc : Thread nD τ) L lv : AA nD τ sig Val)) ∗ BI.emp) := by
    rw [bigSep_sep']
    iintro ⟨-, H⟩
    isplitl [H]; · iexact H
    iempintro
  exact h

variable {Λ₀ : Idealize.SL.Sem.Labels} (cfgs : Fin 1 → Cfg sig Λ₀)

/-- The one configuration, on every core. -/
abbrev pcsOf (Val : EltTy → Type) : Fin 1 → PCfg sig Λ₀ Val := fun p => (cfgs p).toPCfg
/-- It prefetches no table. -/
abbrev admOf (Val : EltTy → Type) (nD : Nat) : Dev nD → (p : Fin 1) → (pcsOf cfgs Val p).Adm := fun _ p => (cfgs p).toPCfg_adm

variable [hW : ∀ p, IsEmpty (Fin (cfgs p).W)]

/-- The region's data: no window; the run starts from `X` and ends with `Y` and the own semaphores at zero. -/
def datOf {K : Type} [Fintype K] (osem : K → SemLoc sig) (X Y : Dev nD → AA nD τ sig Val) (O₀ : Dev nD → CellTallies nD τ sig Unit)
    (p : Fin 1) (c : Dev nD) : RDat τ Val Unit ℕ (UU nD τ sig) ℕ (cfgs p) c where
  A w := isEmptyElim w
  after _ _ _ _ := True
  Φ t := if t.val = 0 then iprop(X c ∗ scopedRest (cfgs p).spec c) else iprop(Y c ∗ ownSems0 osem c ∗ scopedRest (cfgs p).spec c)
  q _ := fullShare
  owed t := if t.val = 0 then O₀ c else 0

set_option maxHeartbeats 2000000 in
/-- The launch with the cores' resources dealt in one step. -/
theorem θ_run_dealt (hN : (cfgs 0).N = 1) (hinj : Function.Injective (cellOf (nD := nD) (τ := τ) cfgs))
    (hw : WinFacts₀ (cfgs 0).spec) {K : Type} [Fintype K] {osem : K → SemLoc sig} (ho : OwnSemFacts (cfgs 0).spec osem)
    [∀ e, Nonempty (Val e)]
    (defs₀ : Defs nD τ sig Val Λ₀) (𝒱₀ : Variants)
    (m : (ℓ : Loc nD τ sig) → Buf Val ℓ) (g : Dev nD → PrngReg)
    (main : Dev nD → Prog (TpuEff nD τ sig Val (Sig Λ₀ (Fin 1) fun p => (pcsOf cfgs Val p).Adm) .tc) PUnit)
    (hmain : ∀ c, main c = .op (.customCall (entry 0) ()) fun _ => .ret ⟨⟩)
    (X Y Z : Dev nD → AA nD τ sig Val) (O₀ : Dev nD → CellTallies nD τ sig Unit)
    (hbody : ∀ (c : Dev nD) (t : Fin (cfgs 0).N) (W : Waits sig Unit), iprop(X c ∗ owes (c.tc : Thread nD τ) (O₀ c) W)
      ⊢ wp frame (wpE defs₀ 𝒱₀ (c.tc : Thread nD τ) none) Set.univ (defs₀ .tc (cfgs 0).body ((cfgs 0).bodyArgs t ((cfgs 0).slots t)))
          fun _ => iprop(Y c ∗ ownSems0 osem c ∗ ∃ W, owes (c.tc : Thread nD τ) (0 : CellTallies nD τ sig Unit) W))
    (L : GSem nD τ sig → Finset Unit) (lv : GSem nD τ sig → Unit → ℕ) (hL : ∀ g : GSem nD τ sig, g.1.2 ≠ .tc → L g = ∅)
    (G : Dev nD → AA nD τ sig Val) (u : UR sig nD τ)
    (hu : BI.own (ER nD τ sig Val u) ⊢ |={Set.univ}=> bigSep Finset.univ G)
    (hdeal : (bigSep Finset.univ fun c => iprop(ownSems0 osem c ∗ unscopedRest (cfgs 0).spec c (fun b => m ((c.tc : Thread nD τ).loc b))
        ∗ launchCred O₀ c ∗ levAts L lv ∗ G c) : AA nD τ sig Val) ⊢ |={Set.univ}=> bigSep Finset.univ fun c => iprop(X c ∗ Z c))
    (QY : Dev nD → MemSt nD τ sig Val → Prop)
    (hY : ∀ c (s' : Phys nD τ sig Val), iprop(Y c ∗ Z c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (pcsOf cfgs Val) defs₀) (onTc main) ⟨m, fun _ => 0, g⟩ Q := by
  classical
  let dats := fun p => datOf cfgs osem X Y O₀ p
  have bodyOk (c : Dev nD) : (dats 0 c).BodyObligation defs₀ 𝒱₀ () Set.univ := by
    intro t V _
    have ht : t.val = 0 := by have := t.isLt; omega
    unfold RDat.owesAt owesWithin
    rw [Finset.univ_eq_empty, BI.bigSep_empty, BI.bigSep_empty]
    simp only [dats, datOf, Fin.val_castSucc, Fin.val_succ, ht, Nat.zero_add, Nat.one_ne_zero, if_true, if_false]
    iintro ⟨⟨HX, Hr⟩, ⟨%W, -, HW⟩, -⟩
    ihave Hwp := (hbody c t W) $$ [HX HW]
    · isplitl [HX] <;> iassumption
    iapply (wp_wand frame (wpE defs₀ 𝒱₀ (c.tc : Thread nD τ) none) Set.univ) $$ Hwp
    iintro %_ ⟨HY, Hos, %W', HW⟩
    isplitl [HY Hos Hr]
    · isplitl [HY]; · iexact HY
      isplitl [Hos] <;> iassumption
    isplitl [HW]
    · iexists W'; isplitr; · ipureintro; intro _ _; exact Or.inl (Set.mem_univ _)
      iexact HW
    iempintro
  let P := pinD (pcsOf cfgs Val) (admOf cfgs Val nD)
  have hss := fun c : Dev nD => scopedSems0_split P hinj 0 (fun _ => hw) (fun _ => ho) (Ix := Unit) (Val := Val) (Name := ℕ) (U := UU nD τ sig) (Lvl := ℕ) c
  have hsb := fun c : Dev nD => scopedBufs_split P 0 c hw.stage_scoped hw.stage_inj (fun w => isEmptyElim w) (nD := nD) (τ := τ) (Ix := Unit) (Val := Val) (Name := ℕ) (U := UU nD τ sig) (Lvl := ℕ)
  -- what each core holds when its @main starts, and when it has returned
  let pre : Dev nD → AA nD τ sig Val := fun c => iprop(scopedBufs (c.tc : Thread nD τ) ∗ cellsSems0 P 0 c ∗ idleSems0 P hinj 0 (fun _ => ho) c
    ∗ owes (c.tc : Thread nD τ) (O₀ c) ∅ ∗ cellsGhost P (EP nD τ sig Val) 0 c ∗ toksInit P (EP nD τ sig Val) 0 c ∗ X c ∗ Z c)
  let fin : Dev nD → AA nD τ sig Val := fun c => iprop(Y c ∗ Z c ∗ scopedSems0 (c.tc : Thread nD τ))
  refine (θ_run _ _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu _ _ _ _
    (reflect_intro_fupd_tc_sems (X := Unit) (Variants.lift 𝒱₀) (owing O₀) 0 (noBookings fun _ => le_rfl) (owing_of_ne O₀)
      ((initOf (cells P hinj) (launchToks P hinj), u) : UU nD τ sig) (fun _ => pre) (fun _ => fin)
      (fun _ => iprop(emp)) Set.univ ?_ (fun _ c => ?_) fun _ => ?_))
  · -- the launch
    have hbd (c : Dev nD) : (boundary (c.tc : Thread nD τ) : AA nD τ sig Val)
        ⊢ iprop((scopedBufs (c.tc : Thread nD τ) ∗ cellsSems0 P 0 c ∗ idleSems0 P hinj 0 (fun _ => ho) c) ∗ ownSems0 osem c) := by
      unfold boundary
      rw [hss c]
      iintro ⟨Hsc, ⟨⟨Hcells, Hos⟩, Hidle⟩, -⟩
      isplitr [Hos]
      · isplitl [Hsc]; · iexact Hsc
        isplitl [Hcells] <;> iassumption
      iexact Hos
    have hub (c : Dev nD) : unscopedBufs c (fun b => m ((c.tc : Thread nD τ).loc b))
        ⊢ (unscopedRest (cfgs 0).spec c (fun b => m ((c.tc : Thread nD τ).loc b)) : AA nD τ sig Val) := by
      refine (Entails.of_eq (unscopedBufs_split P 0 c hw.arr_unscoped (fun a => isEmptyElim a) (Ix := Unit) (Name := ℕ) (U := UU nD τ sig) (Lvl := ℕ)
        (fun b => m ((c.tc : Thread nD τ).loc b)))).trans ?_
      iintro ⟨-, H⟩
      iexact H
    have hcore (c : Dev nD) :
        coreInit (Ix := Unit) (Name := ℕ) (U := UU nD τ sig) (Lvl := ℕ) (owing O₀) 0 (⟨m, fun _ => 0, g⟩ : MemSt nD τ sig Val) (c.tc : Thread nD τ)
          ⊢ iprop((scopedBufs (c.tc : Thread nD τ) ∗ cellsSems0 P 0 c ∗ idleSems0 P hinj 0 (fun _ => ho) c ∗ owes (c.tc : Thread nD τ) (O₀ c) ∅)
              ∗ (ownSems0 osem c ∗ unscopedRest (cfgs 0).spec c (fun b => m ((c.tc : Thread nD τ).loc b)) ∗ launchCred O₀ c)
              ∗ levels0 c) :=
      (coreInit_boundary_owing O₀ m g c).trans (by
        iintro ⟨Hb, Hub, -, HL, Hlv, -, Hcr⟩
        ihave H := (hbd c) $$ Hb
        icases H with ⟨⟨H1, H2, H3⟩, Hos⟩
        isplitl [H1 H2 H3 HL]
        · isplitl [H1]; · iexact H1
          isplitl [H2]; · iexact H2
          isplitl [H3] <;> iassumption
        isplitl [Hos Hub Hcr]
        · isplitl [Hos]; · iexact Hos
          isplitl [Hub]; · iapply (hub c); iexact Hub
          iexact Hcr
        iexact Hlv)
    have hcores : (bigSep Finset.univ fun c : Dev nD =>
          coreInit (Ix := Unit) (Name := ℕ) (U := UU nD τ sig) (Lvl := ℕ) (owing O₀) 0 (⟨m, fun _ => 0, g⟩ : MemSt nD τ sig Val) (c.tc : Thread nD τ))
        ⊢ iprop((bigSep Finset.univ fun c : Dev nD => iprop(scopedBufs (c.tc : Thread nD τ) ∗ cellsSems0 P 0 c ∗ idleSems0 P hinj 0 (fun _ => ho) c
              ∗ owes (c.tc : Thread nD τ) (O₀ c) ∅))
            ∗ (bigSep Finset.univ fun c : Dev nD => iprop(ownSems0 osem c ∗ unscopedRest (cfgs 0).spec c (fun b => m ((c.tc : Thread nD τ).loc b)) ∗ launchCred O₀ c))
            ∗ (bigSep Finset.univ fun c : Dev nD => levels0 (Ix := Unit) (Val := Val) (Name := ℕ) (U := UU nD τ sig) (Lvl := ℕ) (τ := τ) (sig := sig) c) : AA nD τ sig Val) := by
      refine (bigSep_mono fun c _ => hcore c).trans ?_
      rw [bigSep_sep', bigSep_sep' (Ψ := fun c => levels0 c)]
      exact BI.Entails.refl _
    have hpick (Φ : Fin 1 → Dev nD → AA nD τ sig Val) :
        (bigSep Finset.univ fun c : Dev nD => bigSep Finset.univ fun p' => Φ p' c) ⊢ bigSep Finset.univ fun c : Dev nD => Φ 0 c :=
      bigSep_mono fun c _ => BI.bigSep_elim (Finset.mem_univ 0)
    iintro ⟨Hcores, Hu⟩
    ihave Hc := hcores $$ Hcores
    icases Hc with ⟨Hb, Hd, Hlv⟩
    imod (assign_levels L lv hL) $$ Hlv with Hla
    ihave Hu' := (ownU_pair (nD := nD) (τ := τ) (sig := sig) (Ix := Unit) (Val := Val) (Name := ℕ) (Lvl := ℕ) _ _) $$ Hu
    icases Hu' with ⟨HP, HR⟩
    imod (fund_ghost P (EP nD τ sig Val) hinj) $$ HP with ⟨Hg, Ht⟩
    imod hu $$ HR with HG
    imod hdeal $$ [Hd Hla HG] with HXZ
    · simp only [bigSep_sep']
      icases Hd with ⟨H1, H2, H3⟩
      isplitl [H1]; · iexact H1
      isplitl [H2]; · iexact H2
      isplitl [H3]; · iexact H3
      isplitl [Hla]; · iapply (BI.bigSep_intro_persistent (S := Finset.univ) fun (c : Dev nD) _ => (BI.Entails.refl (levAts L lv : AA nD τ sig Val))); iexact Hla
      iexact HG
    imodintro
    iexists ()
    isplitr []
    · simp only [pre, bigSep_sep']
      icases Hb with ⟨H1, H2, H3, H4⟩
      icases HXZ with ⟨HX, HZ⟩
      isplitl [H1]; · iexact H1
      isplitl [H2]; · iexact H2
      isplitl [H3]; · iexact H3
      isplitl [H4]; · iexact H4
      isplitl [Hg]; · iapply (hpick fun p' c => cellsGhost P (EP nD τ sig Val) p' c); iexact Hg
      isplitl [Ht]; · iapply (hpick fun p' c => toksInit P (EP nD τ sig Val) p' c); iexact Ht
      isplitl [HX] <;> iassumption
    · iempintro
  · -- a core's run: the region, then the return
    have hout : iprop((dats 0 c).Φ (Fin.last (P c 0).N) ∗ cellsSems0 P 0 c ∗ Dat.staging (P c 0) c ∗ idleSems0 P hinj 0 (fun _ => ho) c)
        ⊢ iprop(Y c ∗ scopedSems0 (c.tc : Thread nD τ) ∗ scopedBufs (c.tc : Thread nD τ)) := by
      have hl : (Fin.last (P c 0).N).val ≠ 0 := by show (cfgs 0).N ≠ 0; omega
      rw [hss c, hsb c]
      simp only [dats, datOf, hl, if_false]
      iintro ⟨⟨HY, Hos, Hrest⟩, Hcells, Hst, Hidle⟩
      isplitl [HY]; · iexact HY
      isplitl [Hcells Hos Hidle]
      · isplitl [Hcells Hos]; · isplitl [Hcells] <;> iassumption
        iexact Hidle
      isplitl [Hst] <;> iassumption
    have hin : iprop(X c ∗ prefHeld (pcsOf cfgs Val 0).pre c (fun _ => fullShare) (admOf cfgs Val nD c 0).1 ∗ scopedRest (P c 0).spec c) ⊢ (dats 0 c).Φ 0 := by
      simp only [dats, datOf, Fin.val_zero, if_true]
      iintro ⟨HX, -, Hr⟩
      isplitl [HX] <;> iassumption
    have hpost : PerCore.RDat.EntryPost P dats () 0 c ⊢ (iprop(∃ W, owes (c.tc : Thread nD τ) (0 : CellTallies nD τ sig Unit) W) : AA nD τ sig Val) := by
      have hl : (Fin.last (P c 0).N).val ≠ 0 := by show (cfgs 0).N ≠ 0; omega
      unfold PerCore.RDat.EntryPost RDat.owesAt owesWithin
      simp only [dats, datOf, hl, if_false]
      iintro ⟨-, ⟨%W, -, HW⟩⟩
      iexists W; iexact HW
    simp only [pre]
    rw [hmain c]
    iintro ⟨Hsc, Hcells, Hidle, HL, Hg, Ht, HX, HZ⟩
    iapply (fupd_wp frame (wpE (Pipeline.defs (pcsOf cfgs Val) defs₀) (Variants.lift 𝒱₀) (c.tc : Thread nD τ) none) Set.univ _ _)
    imod (cellsInit_alloc P dats (EP nD τ sig Val) hinj 0 c) $$ [Hcells Hg] with ⟨%κ, -, Hinit⟩
    · isplitl [Hcells] <;> iassumption
    imodintro
    iapply (wp_customCall_entry_frame (pcsOf cfgs Val) (admOf cfgs Val nD) dats () (EP nD τ sig Val) κ hinj 0 defs₀ 𝒱₀ (fun _ => fullShare) c Set.univ (fun _ _ => Set.mem_univ _)
        (bodyOk c) (fun w => isEmptyElim w) none (fun u h => nomatch h) (X := X c) (Y := Y c) (R := scopedRest (P c 0).spec c) (I := idleSems0 P hinj 0 (fun _ => ho) c)
        (Entails.of_eq (hsb c)) hin hout
        (k := fun _ => .ret ⟨⟩) (Q := fun _ => post (liftTc fin BI.emp) (c.tc : Thread nD τ))) $$ [HL Hinit Ht HX Hidle Hsc]
    · isplitl [HL Hinit Ht]
      · unfold PerCore.RDat.EntryPre RDat.arrays RDat.owesAt owesWithin
        simp only [dats, datOf, Fin.val_zero, if_true]
        isplitr; · rw [Finset.univ_eq_empty, BI.bigSep_empty]; iempintro
        isplitl [HL]
        · iexists ∅; isplitr; · ipureintro; rw [Finset.coe_empty]; exact Set.empty_subset _
          iexact HL
        isplitr; · unfold PerCore.RDat.cellsWaits; rw [Finset.univ_eq_empty, BI.bigSep_empty]; iempintro
        isplitl [Hinit] <;> iassumption
      isplitr
      · iapply (Entails.of_eq (show (BI.emp : AA nD τ sig Val) = prefHeld (pcsOf cfgs Val 0).pre c (fun _ => fullShare) (admOf cfgs Val nD c 0).1 from BI.bigSep_empty.symm)); iempintro
      isplitl [HX]; · iexact HX
      isplitl [Hidle]; · iexact Hidle
      iexact Hsc
    iintro ⟨Hpost, HY, Hss, -⟩
    rw [wp_ret]; imodintro
    unfold post; simp only [liftTc_tc, fin]
    ihave Hp := hpost $$ Hpost
    isplitr [Hp]
    · isplitl [HY]; · iexact HY
      isplitl [HZ] <;> iassumption
    iexact Hp
  · -- the posts, read against a final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, HZ, Hss⟩, HSI⟩
      ihave %hz := (tcScoped_read_pers c s') $$ [Hss HSI]
      · isplitl [Hss] <;> iassumption
      imod (hY c s') $$ [HY HZ HSI] with ⟨%hy, HSI⟩
      · isplitl [HY]; · iexact HY
        isplitl [HZ] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Exchange

end
-- ==== Proof.Transfers.lean ====
/-
  A kernel that only moves blocks, on every core of the mesh at once: what it transfers, and its run.

  The kernel of such a call has no arithmetic. Core `c` starts local copies (labels `I`) and sends to peers (labels `J`),
  and waits for them. `Talk` is the table of those transfers: for each label and each core the source and the destination,
  for a send the peer, and one semaphore for each local copy and two for each send (the sender's, `snd`, and the
  receiver's, `rcv`). A send's peer map is an involution, so the send `j` that lands on core `c` is the one its own peer
  `peer c j` issued.

  The protocol has one round at each semaphore. It pays out:
  * a local copy's: its destination, at the copied contents;
  * a send's own semaphore: the source share, back;
  * a receive semaphore: the destination on the receiving core, at the sender's contents.

  A core's run is a list of commands (`Cmd`); `step` says what a command needs of the labels the core holds (`Lab`) and
  what it returns, and `runs` is the run of a whole list, by induction. Which wait may come before which send still to be
  issued is settled by levels: a core only waits below the levels of the receive semaphores it has still to pay.
-/
module

public import proofs.«01_k».proof.Proof.DealtLaunch
public import Idealize.ShloMosaic.Lib.MemrefSat

@[expose] public section

set_option Elab.async false

noncomputable section

namespace Cert.Exchange

open Idealize.ShloMosaic Idealize.ShloMosaic.TcCoe Idealize.ShloMosaic.Rounds Idealize.ShloMosaic.Pipeline
open Idealize.SL Idealize.SL.RA
open Idealize.SL.BI (sProp bigSep bigSep_sep' bigSep_mono bigSep_congr bigSep_univ_prod bigSep_insert bigSep_erase bigSep_elim bigSep_subset bigSep_map
  bigSep_univ_sum bigSep_univ_equiv bigSep_singleton)
open scoped Idealize.SL.BI
open Idealize.SL.BI.BIBase Idealize.SL.BI.Laws Idealize.SL.ProofMode Idealize.SL.Sem

/-- A semaphore of the table: a local copy's, a send's own, a send's at the receiver. -/
inductive Key (I J : Type) : Type
  | loc (i : I)
  | snd (j : J)
  | rcv (j : J)
  deriving DecidableEq

/-- A transfer of the table: a local copy or a send. -/
inductive Xfer (I J : Type) : Type
  | loc (i : I)
  | rem (j : J)
  deriving DecidableEq

/-- Keys as a sum, for their finiteness. -/
def Key.equiv (I J : Type) : I ⊕ J ⊕ J ≃ Key I J where
  toFun | .inl i => .loc i | .inr (.inl j) => .snd j | .inr (.inr j) => .rcv j
  invFun | .loc i => .inl i | .snd j => .inr (.inl j) | .rcv j => .inr (.inr j)
  left_inv := by rintro (i | j | j) <;> rfl
  right_inv := by rintro (i | j | j) <;> rfl

instance {I J : Type} [Fintype I] [Fintype J] : Fintype (Key I J) := Fintype.ofEquiv _ (Key.equiv I J)

/-- Transfers as a sum, for their finiteness. -/
def Xfer.equiv (I J : Type) : I ⊕ J ≃ Xfer I J where
  toFun | .inl i => .loc i | .inr j => .rem j
  invFun | .loc i => .inl i | .rem j => .inr j
  left_inv := by rintro (i | j) <;> rfl
  right_inv := by rintro (i | j) <;> rfl

instance {I J : Type} [Fintype I] [Fintype J] : Fintype (Xfer I J) := Fintype.ofEquiv _ (Xfer.equiv I J)

/-- The transfer a semaphore belongs to. -/
def Key.of {I J : Type} : Key I J → Xfer I J
  | .loc i => .loc i
  | .snd j => .rem j
  | .rcv j => .rem j

variable {nD : Nat} {τ : Topo} {sig : RefSig} {Val : EltTy → Type}

/-- The transfers of a kernel. -/
structure Talk (nD : Nat) (τ : Topo) (sig : RefSig) (I J : Type) where
  sh : Xfer I J → Shape
  el : Xfer I J → EltTy
  src : Dev nD → (x : Xfer I J) → Memref sig .tc .hbm (sh x) (el x)
  dst : Dev nD → (x : Xfer I J) → Memref sig .tc .hbm (sh x) (el x)
  srcWhole : ∀ c x, (src c x).view.WordExact
  dstWhole : ∀ c x, (dst c x).view.WordExact
  dstHbm : ∀ c x, (dst c x).view.ref.isScScratch = false
  peer : Dev nD → J → Dev nD
  peer_peer : ∀ c j, peer (peer c j) j = c
  routes : ∀ c j, τ.routes (c.tc : Thread nD τ) ((peer c j).tc) = true
  sem : Key I J → DmaSem sig
  sem_inj : Function.Injective sem
  amt : Xfer I J → ℕ
  amt_pos : ∀ x, 0 < amt x
  amt_eq : ∀ c x, (dst c x).view.dmaCredit = amt x
  wref : Key I J → Ref sig .tc
  wsh : Key I J → Shape
  wel : Key I J → EltTy
  wamt : ∀ k, (wref k).dmaCredit (wsh k) (wel k) = amt k.of
  /-- The level of a receive semaphore. -/
  level : J → ℕ
  /-- The send whose landing is the source of this one, when it forwards. -/
  via : J → Option J

/-- What the transfers carry: the contents, and the share of the source each holds. -/
structure Load {I J : Type} (T : Talk nD τ sig I J) (Val : EltTy → Type) where
  X : Dev nD → (x : Xfer I J) → (T.sh x).Idx → Val (T.el x)
  q : Xfer I J → PosShare TreeShare

/-- A command of a core's run. -/
inductive Cmd (I J : Type) : Type
  | copy (i : I)
  | send (j : J)
  | wait (k : Key I J)

/-- A thing a core holds during its run. -/
inductive Lab (I J : Type) : Type
  | src (x : Xfer I J)
  | slot (x : Xfer I J)
  | ready (k : Key I J)
  | pay (k : Key I J)
  | zero (k : Key I J)
  deriving DecidableEq

section Talk

variable {I J : Type} [Fintype I] [Fintype J] [DecidableEq I] [DecidableEq J] (T : Talk nD τ sig I J)

/-- The program of a list of commands. -/
def Talk.prog (Val : EltTy → Type) (Λ : Labels) (d : Dev nD) : List (Cmd I J) → Prog (TpuEff nD τ sig Val Λ .tc) PUnit
  | [] => .ret ⟨⟩
  | .copy i :: l =>
      .op (.enqueueDma (T.src d (.loc i)) (.here (T.dst d (.loc i))) (.dma (T.sem (.loc i))) (T.srcWhole d (.loc i)) (T.dstWhole d (.loc i))
        ⟨Or.inl rfl, trivial⟩) fun _ => Talk.prog Val Λ d l
  | .send j :: l =>
      .op (.enqueueDma (T.src d (.rem j)) (.remote (Dev.tc (T.peer d j)) (T.dst d (.rem j)) (.dma (T.sem (.snd j))) (T.dstHbm d (.rem j)))
        (.dma (T.sem (.rcv j))) (T.srcWhole d (.rem j)) (T.dstWhole d (.rem j)) ⟨⟨rfl, Or.inl rfl⟩, trivial⟩) fun _ => Talk.prog Val Λ d l
  | .wait k :: l => .op (.waitDma (T.sem k) (T.wref k) (T.wsh k) (T.wel k) (Or.inl rfl)) fun _ => Talk.prog Val Λ d l

/-- The source of a send: its own, or what an earlier send landed. -/
def Talk.from (j : J) : Lab I J :=
  match T.via j with
  | none => .src (.rem j)
  | some j' => .pay (.rcv j')

/-- Whether a transfer's source is its own. -/
def Talk.first : Xfer I J → Bool
  | .loc _ => true
  | .rem j => (T.via j).isNone

/-- The level of a semaphore. -/
def Talk.klev : Key I J → ℕ
  | .rcv j => T.level j
  | _ => 0

/-- A command's effect on what a core holds and on the sends it has still to issue. -/
def Talk.step : Cmd I J → Finset (Lab I J) × Finset J → Option (Finset (Lab I J) × Finset J)
  | .copy i, (S, U) =>
      if .src (.loc i) ∈ S ∧ .slot (.loc i) ∈ S.erase (.src (.loc i)) then
        some (insert (.ready (.loc i)) ((S.erase (.src (.loc i))).erase (.slot (.loc i))), U) else none
  | .send j, (S, U) =>
      if T.from j ∈ S ∧ .slot (.rem j) ∈ S.erase (T.from j) ∧ j ∈ U then
        some (insert (.ready (.snd j)) ((S.erase (T.from j)).erase (.slot (.rem j))), U.erase j) else none
  | .wait k, (S, U) =>
      if .ready k ∈ S ∧ ∀ j ∈ U, T.klev k < T.level j then
        some (insert (.pay k) (insert (.zero k) (S.erase (.ready k))), U) else none

/-- The effect of a list of commands. -/
def Talk.steps : List (Cmd I J) → Finset (Lab I J) × Finset J → Option (Finset (Lab I J) × Finset J)
  | [], s => some s
  | a :: l, s => match T.step a s with
    | none => none
    | some s' => Talk.steps l s'

/-- What a core starts from: the sources that are not forwarded, the places it may write, the receives to wait for. -/
def Talk.start : Finset (Lab I J) :=
  (Finset.univ.filter fun x => T.first x = true).image Lab.src
    ∪ Finset.univ.image Lab.slot ∪ Finset.univ.image fun j => Lab.ready (.rcv j)

/-- The commands run from the start, issue every send, wait at every semaphore, and end with the payments of `F` held. -/
def Talk.ok (l : List (Cmd I J)) (F : Finset (Key I J)) : Bool :=
  match T.steps l (T.start, Finset.univ) with
  | none => false
  | some (S, U) => decide (U = ∅) && decide (∀ k, Lab.zero k ∈ S) && decide (∀ k ∈ F, Lab.pay k ∈ S)

/-! ## The protocol -/

/-- The cell of a core's semaphore. -/
abbrev Talk.cell (ck : Dev nD × Key I J) : GSem nD τ sig := ((ck.1.tc : Thread nD τ), .dma (T.sem ck.2))

open Classical in
/-- The label of a semaphore of the table. -/
def Talk.key (s : SemLoc sig) : Option (Key I J) := if h : ∃ k, s = .dma (T.sem k) then some h.choose else none

theorem Talk.key_sem (k : Key I J) : T.key (.dma (T.sem k)) = some k := by
  have h : ∃ k', (SemLoc.dma (T.sem k) : SemLoc sig) = .dma (T.sem k') := ⟨k, rfl⟩
  unfold Talk.key
  rw [dif_pos h]
  exact congrArg some (T.sem_inj (SemLoc.dma.inj h.choose_spec)).symm

variable (V : Load T Val)

/-- What the round at a semaphore pays. -/
def Talk.pay (c : Dev nD) : Key I J → AA nD τ sig Val
  | .loc i => owns (c.tc : Thread nD τ) (T.dst c (.loc i)) fullShare (V.X c (.loc i))
  | .snd j => owns (c.tc : Thread nD τ) (T.src c (.rem j)) (V.q (.rem j)) (V.X c (.rem j))
  | .rcv j => owns (c.tc : Thread nD τ) (T.dst (T.peer c j) (.rem j)) fullShare (V.X (T.peer c j) (.rem j))

/-- The schedule: one round at each semaphore of the table. -/
def Talk.rd : Schedule (GSem nD τ sig) Unit (MM nD τ sig Val) where
  duties g r := if r = 0 ∧ g.1.2 = .tc ∧ (T.key g.2).isSome then {()} else ∅
  amount g _ _ := match T.key g.2 with
    | some k => T.amt k.of
    | none => 1
  payload g _ _ := match T.key g.2 with
    | some k => T.pay V g.1.1 k
    | none => BI.emp
  amount_pos g r d _ := by
    cases h : T.key g.2 with
    | none => exact Nat.one_pos
    | some k => exact T.amt_pos _

instance pay_storable (c : Dev nD) (k : Key I J) : BI.Storable (upEmb : UEmb _ (MM nD τ sig Val)) (T.pay V c k) := by
  cases k with
  | loc i => exact ownsSat_storable (c.tc : Thread nD τ) (T.dst c (.loc i)) fullShare (· = V.X c (.loc i))
  | snd j => exact ownsSat_storable (c.tc : Thread nD τ) (T.src c (.rem j)) (V.q (.rem j)) (· = V.X c (.rem j))
  | rcv j => exact ownsSat_storable (c.tc : Thread nD τ) (T.dst (T.peer c j) (.rem j)) fullShare (· = V.X (T.peer c j) (.rem j))

instance rd_storable (g : GSem nD τ sig) (r : ℕ) (d : Unit) : BI.Storable (upEmb : UEmb _ (MM nD τ sig Val)) ((T.rd V).payload g r d) := by
  show BI.Storable upEmb (match T.key g.2 with | some k => T.pay V g.1.1 k | none => BI.emp)
  cases T.key g.2 with
  | none => exact BI.Storable.emp _
  | some k => exact pay_storable T V g.1.1 k

theorem rd_duties (ck : Dev nD × Key I J) : (T.rd V).duties (T.cell ck) 0 = {()} := by
  dsimp only [Talk.rd, Talk.cell]; rw [T.key_sem]; exact if_pos ⟨rfl, rfl, rfl⟩
theorem rd_later (g : GSem nD τ sig) : ∀ r, 1 ≤ r → (T.rd V).duties g r = ∅ :=
  fun r hr => by dsimp only [Talk.rd]; exact if_neg fun h => by omega
theorem rd_amount (ck : Dev nD × Key I J) (u : Unit) : (T.rd V).amount (T.cell ck) 0 u = T.amt ck.2.of := by
  dsimp only [Talk.rd, Talk.cell]; rw [T.key_sem]
theorem rd_payload (ck : Dev nD × Key I J) (u : Unit) : (T.rd V).payload (T.cell ck) 0 u = T.pay V ck.1 ck.2 := by
  dsimp only [Talk.rd, Talk.cell]; rw [T.key_sem]
theorem rd_expect (ck : Dev nD × Key I J) : (T.rd V).expect (T.cell ck) 0 = T.amt ck.2.of := by
  unfold Schedule.expect Schedule.amountOf
  rw [rd_duties, Finset.sum_singleton, rd_amount]
theorem rd_rest (ck : Dev nD × Key I J) :
    bigSep ((T.rd V).duties (T.cell ck) 0 \ ∅) (fun u => (T.rd V).payload (T.cell ck) 0 u) = T.pay V ck.1 ck.2 := by
  rw [rd_duties, Finset.sdiff_empty, bigSep_singleton, rd_payload]

/-! ## What a core holds -/

/-- The resource a label names. -/
def Talk.res (c : Dev nD) : Lab I J → AA nD τ sig Val
  | .src x => owns (c.tc : Thread nD τ) (T.src c x) (V.q x) (V.X c x)
  | .slot (.loc i) => iprop(ownsSat (c.tc : Thread nD τ) (T.dst c (.loc i)) fullShare (fun _ => True)
      ∗ dutyTok (ER nD τ sig Val) (T.cell (c, .loc i)) 0 () ∗ atPos (ER nD τ sig Val) (T.cell (c, .loc i)) 0 ∅ 0)
  | .slot (.rem j) => iprop(ownsSat ((T.peer c j).tc : Thread nD τ) (T.dst c (.rem j)) fullShare (fun _ => True)
      ∗ dutyTok (ER nD τ sig Val) (T.cell (c, .snd j)) 0 () ∗ dutyTok (ER nD τ sig Val) (T.cell (T.peer c j, .rcv j)) 0 ()
      ∗ atPos (ER nD τ sig Val) (T.cell (c, .snd j)) 0 ∅ 0)
  | .ready k => iprop(cred (tallyAt (T.cell (c, k)) () (T.amt k.of)) ∗ atPos (ER nD τ sig Val) (T.cell (c, k)) 0 ∅ 0)
  | .pay k => T.pay V c k
  | .zero k => semVal (T.cell (c, k)) 0

/-- What every core may use at any time: the cells' invariants, their rounds' starts, the levels. -/
def Talk.lset (g : GSem nD τ sig) : Finset Unit := if g.1.2 = .tc then {()} else ∅
def Talk.lv (g : GSem nD τ sig) (_ : Unit) : ℕ := match T.key g.2 with
  | some k => T.klev k
  | none => 0

def Talk.env (N : Dev nD × Key I J → ℕ) : AA nD τ sig Val :=
  iprop((bigSep Finset.univ fun ck => cellInv (ER nD τ sig Val) (T.rd V) (N ck) (T.cell ck))
    ∗ (bigSep Finset.univ fun ck => reached (ER nD τ sig Val) (T.cell ck) 0) ∗ levAts Talk.lset T.lv)

instance env_persistent (N : Dev nD × Key I J → ℕ) : BI.Persistent (T.env V N) := by unfold Talk.env; infer_instance

theorem env_inv (N : Dev nD × Key I J → ℕ) (ck : Dev nD × Key I J) : T.env V N ⊢ cellInv (ER nD τ sig Val) (T.rd V) (N ck) (T.cell ck) := by
  have h : (bigSep Finset.univ fun ck => cellInv (ER nD τ sig Val) (T.rd V) (N ck) (T.cell ck) : AA nD τ sig Val)
      ⊢ cellInv (ER nD τ sig Val) (T.rd V) (N ck) (T.cell ck) := bigSep_elim (Finset.mem_univ ck)
  unfold Talk.env
  iintro ⟨H, -, -⟩
  iapply h; iexact H

theorem env_reached (N : Dev nD × Key I J → ℕ) (ck : Dev nD × Key I J) : T.env V N ⊢ reached (ER nD τ sig Val) (T.cell ck) 0 := by
  have h : (bigSep Finset.univ fun ck => reached (ER nD τ sig Val) (T.cell ck) 0 : AA nD τ sig Val)
      ⊢ reached (ER nD τ sig Val) (T.cell ck) 0 := bigSep_elim (Finset.mem_univ ck)
  unfold Talk.env
  iintro ⟨-, H, -⟩
  iapply h; iexact H

theorem env_levels (N : Dev nD × Key I J → ℕ) : T.env V N ⊢ levAts Talk.lset T.lv := by
  unfold Talk.env
  iintro ⟨-, -, H⟩; iexact H

/-- What core `c` has still to pay: the receive semaphores of the sends `U` it has still to issue. -/
def Talk.dues (c : Dev nD) (U : Finset J) : CellTallies nD τ sig Unit :=
  ∑ j ∈ U, tallyAt (T.cell (T.peer c j, .rcv j)) () (T.amt (.rem j))

theorem dues_erase (c : Dev nD) {U : Finset J} {j : J} (hj : j ∈ U) :
    T.dues c U = T.dues c (U.erase j) + tallyAt (T.cell (T.peer c j, .rcv j)) () (T.amt (.rem j)) :=
  (Finset.sum_erase_add U _ hj).symm

/-- A wait below every level still to be paid may be made. -/
theorem may_wait (N : Dev nD × Key I J → ℕ) (c : Dev nD) (k : Key I J) (U : Finset J) (h : ∀ j ∈ U, T.klev k < T.level j) :
    T.env V N ⊢ MayWait (c.tc : Thread nD τ) (.dma (T.sem k)) () (T.dues c U) := by
  refine (env_levels T V N).trans (mayWait_of_levAts (L := Talk.lset) (lev := T.lv) (by simp [Talk.lset]) fun g i hg => ?_)
  unfold Talk.dues at hg
  obtain ⟨j, hj, hpos⟩ := sum_pos_exists hg
  obtain ⟨rfl, rfl⟩ := tallyAt_pos hpos
  refine ⟨by simp [Talk.lset], ?_⟩
  show T.lv ((c.tc : Thread nD τ), .dma (T.sem k)) () < T.lv (((T.peer c j).tc : Thread nD τ), .dma (T.sem (.rcv j))) ()
  unfold Talk.lv
  dsimp only
  rw [T.key_sem, T.key_sem]
  exact h j hj

/-! ## The run -/

/-- A resource joins those a core holds. -/
theorem put_in {L : Type} [DecidableEq L] (Φ : L → AA nD τ sig Val) (a : L) (S : Finset L) : iprop(Φ a ∗ bigSep S Φ) ⊢ bigSep (insert a S) Φ := by
  by_cases h : a ∈ S
  · rw [Finset.insert_eq_of_mem h]; iintro ⟨-, H⟩; iexact H
  · exact Entails.of_eq (bigSep_insert h).symm

/-- A held resource is taken out. -/
theorem take_out {L : Type} [DecidableEq L] (Φ : L → AA nD τ sig Val) {a : L} {S : Finset L} (h : a ∈ S) :
    bigSep S Φ ⊢ iprop(Φ a ∗ bigSep (S.erase a) Φ) := Entails.of_eq (bigSep_erase h)

/-- The forwarding sends read what their source's landing paid. -/
def Talk.Forwards : Prop :=
  ∀ c j j', T.via j = some j' → T.pay V c (.rcv j') ⊢ owns (c.tc : Thread nD τ) (T.src c (.rem j)) (V.q (.rem j)) (V.X c (.rem j))

theorem res_from (hvia : T.Forwards V) (c : Dev nD) (j : J) :
    T.res V c (T.from j) ⊢ owns (c.tc : Thread nD τ) (T.src c (.rem j)) (V.q (.rem j)) (V.X c (.rem j)) := by
  unfold Talk.from
  cases h : T.via j with
  | none => exact .rfl
  | some j' => exact hvia c j j' h

/-- The copied contents read back as the source's. -/
theorem owns_written {c : Thread nD τ} {sp : Space} {s : Shape} {e : EltTy} (m : Memref sig c.2.kind sp s e) (fd : Buf Val (m.view.loc c))
    (X : s.Idx → Val e) : (m.view.loc c ↦[m.view.set]{fullShare} (m.view.write Val fd X Finset.univ) : AA nD τ sig Val) ⊢ owns c m fullShare X := by
  unfold owns
  iintro H
  iexists (m.view.write Val fd X Finset.univ)
  isplitr
  · ipureintro; exact View.read_write_univ fd X
  iexact H

theorem copy_pays {c : Thread nD τ} {sp : Space} {s : Shape} {e : EltTy} (m : Memref sig c.2.kind sp s e) (fd : Buf Val (m.view.loc c))
    (X : s.Idx → Val e) (R : AA nD τ sig Val) :
    iprop((m.view.loc c ↦[m.view.set]{fullShare} (m.view.write Val fd X Finset.univ) : AA nD τ sig Val) ∗ R) ⊢ owns c m fullShare X := by
  iintro ⟨H, -⟩
  iapply (owns_written m fd X); iexact H

variable {Λ : Labels} (defs₀ : Defs nD τ sig Val Λ) (𝒱₀ : Variants)

theorem run_copy (N : Dev nD × Key I J → ℕ) (c : Dev nD) (i : I) (k : PUnit → Prog (TpuEff nD τ sig Val Λ .tc) PUnit)
    (Q : PUnit → AA nD τ sig Val) :
    iprop(T.env V N ∗ T.res V c (.src (.loc i)) ∗ T.res V c (.slot (.loc i)))
      ⊢ iprop((T.res V c (.ready (.loc i)) -∗ wp frame (wpE defs₀ 𝒱₀ (c.tc : Thread nD τ) none) Set.univ (k ⟨⟩) Q)
        -∗ wp frame (wpE defs₀ 𝒱₀ (c.tc : Thread nD τ) none) Set.univ
          (.op (.enqueueDma (T.src c (.loc i)) (.here (T.dst c (.loc i))) (.dma (T.sem (.loc i))) (T.srcWhole c (.loc i)) (T.dstWhole c (.loc i))
            ⟨Or.inl rfl, trivial⟩) k) Q) := by
  unfold Talk.res owns ownsSat
  dsimp only
  iintro ⟨#He, ⟨%fs, %hfs, Hs⟩, ⟨%fd, -, Hd⟩, Ht, Hat⟩ Hk
  iapply (Rounds.wp_copy_pointsTo 𝒱₀ (ER nD τ sig Val) (T.rd V) (c.tc : Thread nD τ) none
    (src := T.src c (.loc i)) (dst := T.dst c (.loc i)) (fs := fs) (fd := fd) (κ := N (c, .loc i)) (r := 0) (d := ())
    (by rw [show ((c.tc : Thread nD τ), SemLoc.dma (T.sem (.loc i))) = T.cell (c, .loc i) from rfl, rd_duties]; exact Finset.mem_singleton_self _) ()
    (T.amt (.loc i)) (by exact T.amt_eq c (.loc i)) (rd_amount T V (c, .loc i) ())
    (by
      rw [show ((c.tc : Thread nD τ), SemLoc.dma (T.sem (.loc i))) = T.cell (c, .loc i) from rfl, rd_payload, hfs]
      exact copy_pays (c := (c.tc : Thread nD τ)) (T.dst c (.loc i)) fd (V.X c (.loc i)) _)) $$ [Hs Hd Ht]
  · isplitr; · iapply (env_inv T V N (c, .loc i)); iexact He
    isplitl [Hs]; · iexact Hs
    isplitl [Hd]; · iexact Hd
    isplitl [Ht]; · iexact Ht
    iapply (env_reached T V N (c, .loc i)); iexact He
  iintro Hcr
  iapply Hk
  isplitl [Hcr]; · iexact Hcr
  iexact Hat

theorem run_send (hvia : T.Forwards V) (N : Dev nD × Key I J → ℕ) (c : Dev nD) (j : J) {U : Finset J} (hj : j ∈ U) (W : Waits sig Unit)
    (k : PUnit → Prog (TpuEff nD τ sig Val Λ .tc) PUnit) (Q : PUnit → AA nD τ sig Val) :
    iprop(T.env V N ∗ T.res V c (T.from j) ∗ T.res V c (.slot (.rem j)) ∗ owes (c.tc : Thread nD τ) (T.dues c U) W)
      ⊢ iprop(((T.res V c (.ready (.snd j)) ∗ owes (c.tc : Thread nD τ) (T.dues c (U.erase j)) W)
          -∗ wp frame (wpE defs₀ 𝒱₀ (c.tc : Thread nD τ) none) Set.univ (k ⟨⟩) Q)
        -∗ wp frame (wpE defs₀ 𝒱₀ (c.tc : Thread nD τ) none) Set.univ
          (.op (.enqueueDma (T.src c (.rem j)) (.remote (Dev.tc (T.peer c j)) (T.dst c (.rem j)) (.dma (T.sem (.snd j))) (T.dstHbm c (.rem j)))
            (.dma (T.sem (.rcv j))) (T.srcWhole c (.rem j)) (T.dstWhole c (.rem j)) ⟨⟨rfl, Or.inl rfl⟩, trivial⟩) k) Q) := by
  refine (sep_mono_right (sep_mono_left (res_from T V hvia c j))).trans ?_
  unfold Talk.res owns ownsSat
  dsimp only
  iintro ⟨#He, ⟨%fs, %hfs, Hs⟩, ⟨⟨%fd, -, Hd⟩, Ht₁, Ht₂, Hat⟩, Ho⟩ Hk
  iapply (Rounds.wp_send_pointsTo 𝒱₀ (ER nD τ sig Val) (T.rd V) (c.tc : Thread nD τ) none (κ₁ := N (c, .snd j)) (κ₂ := N (T.peer c j, .rcv j))
    (c' := ((T.peer c j).tc : Thread nD τ)) (src := T.src c (.rem j)) (dst := T.dst c (.rem j)) (fs := fs) (r₁ := 0) (r₂ := 0) (d₁ := ()) (d₂ := ()) (fd := fd)
    (by rw [show ((c.tc : Thread nD τ), SemLoc.dma (T.sem (.snd j))) = T.cell (c, .snd j) from rfl, rd_duties]; exact Finset.mem_singleton_self _)
    (by rw [show (((T.peer c j).tc : Thread nD τ), SemLoc.dma (T.sem (.rcv j))) = T.cell (T.peer c j, .rcv j) from rfl, rd_duties]
        exact Finset.mem_singleton_self _) () ()
    (T.amt (.rem j)) (by exact T.amt_eq c (.rem j)) (rd_amount T V (c, .snd j) ()) (rd_amount T V (T.peer c j, .rcv j) ())
    (T.dues c (U.erase j)) (dues_erase T c hj)
    (by
      rw [show ((c.tc : Thread nD τ), SemLoc.dma (T.sem (.snd j))) = T.cell (c, .snd j) from rfl, rd_payload]
      show _ ⊢ owns (c.tc : Thread nD τ) (T.src c (.rem j)) (V.q (.rem j)) (V.X c (.rem j))
      unfold owns
      iintro H; iexists fs; isplitr; · (ipureintro; exact hfs)
      iexact H)
    (by
      rw [show (((T.peer c j).tc : Thread nD τ), SemLoc.dma (T.sem (.rcv j))) = T.cell (T.peer c j, .rcv j) from rfl, rd_payload, hfs]
      show _ ⊢ owns ((T.peer c j).tc : Thread nD τ) (T.dst (T.peer (T.peer c j) j) (.rem j)) fullShare (V.X (T.peer (T.peer c j) j) (.rem j))
      rw [T.peer_peer]
      exact owns_written (c := ((T.peer c j).tc : Thread nD τ)) (T.dst c (.rem j)) fd (V.X c (.rem j)))
    (hr := T.routes c j)) $$ [Hs Hd Ho Ht₁ Ht₂]
  · isplitr; · iapply (env_inv T V N (c, .snd j)); iexact He
    isplitr; · iapply (env_inv T V N (T.peer c j, .rcv j)); iexact He
    isplitl [Hs]; · iexact Hs
    isplitl [Hd]; · iexact Hd
    isplitl [Ho]; · iexact Ho
    isplitl [Ht₁]; · iexact Ht₁
    isplitr; · iapply (env_reached T V N (c, .snd j)); iexact He
    isplitl [Ht₂]; · iexact Ht₂
    iapply (env_reached T V N (T.peer c j, .rcv j)); iexact He
  iintro ⟨Hcr, Ho⟩
  iapply Hk
  isplitl [Hcr Hat]
  · isplitl [Hcr]; · iexact Hcr
    iexact Hat
  iexact Ho

theorem run_wait (N : Dev nD × Key I J → ℕ) (c : Dev nD) (x : Key I J) {U : Finset J} (hU : ∀ j ∈ U, T.klev x < T.level j) (W : Waits sig Unit)
    (k : PUnit → Prog (TpuEff nD τ sig Val Λ .tc) PUnit) (Q : PUnit → AA nD τ sig Val) :
    iprop(T.env V N ∗ T.res V c (.ready x) ∗ owes (c.tc : Thread nD τ) (T.dues c U) W)
      ⊢ iprop(((T.res V c (.pay x) ∗ T.res V c (.zero x) ∗ ∃ W, owes (c.tc : Thread nD τ) (T.dues c U) W)
          -∗ wp frame (wpE defs₀ 𝒱₀ (c.tc : Thread nD τ) none) Set.univ (k ⟨⟩) Q)
        -∗ wp frame (wpE defs₀ 𝒱₀ (c.tc : Thread nD τ) none) Set.univ
          (.op (.waitDma (T.sem x) (T.wref x) (T.wsh x) (T.wel x) (Or.inl rfl)) k) Q) := by
  unfold Talk.res
  dsimp only
  iintro ⟨#He, ⟨Hcr, Hat⟩, Ho⟩ Hk
  iapply (Rounds.wp_wait_rest_token 𝒱₀ (ER nD τ sig Val) (T.rd V) (c.tc : Thread nD τ) none (κ := N (c, x))
    (k' := T.amt x.of)
    (fun K => (wpE_waitDma_eq 𝒱₀ (c.tc : Thread nD τ) none Set.univ K).trans (by rw [T.wamt]))
    (Set.mem_univ _) () (O := T.dues c U) (W := W) (R := 0) (m := 0) (T := ∅)
    (by rw [Nat.zero_add]; exact (rd_expect T V (c, x)).symm)) $$ [Hcr Ho Hat]
  · isplitr; · iapply (env_inv T V N (c, x)); iexact He
    isplitl [Hcr]; · iexact Hcr
    isplitl [Ho]; · iexact Ho
    isplitr; · iapply (may_wait T V N c x U hU); iexact He
    iexact Hat
  iintro ⟨Ho, Hat, -, Hp⟩
  ihave Hp' := (show bigSep ((T.rd V).duties ((c.tc : Thread nD τ), .dma (T.sem x)) 0 \ ∅) (fun u => (T.rd V).payload ((c.tc : Thread nD τ), .dma (T.sem x)) 0 u)
      ⊢ T.pay V c x from Entails.of_eq (rd_rest T V (c, x))) $$ Hp
  imod (Rounds.cell_close (ER nD τ sig Val) (T.rd V) (Set.mem_univ (N (c, x))) (fun h => h) (R := 0 + 1) (rd_later T V (T.cell (c, x)))) $$ [Hat] with Hz
  · isplitr; · iapply (env_inv T V N (c, x)); iexact He
    iexact Hat
  iapply Hk
  isplitl [Hp']; · iexact Hp'
  isplitl [Hz]; · iexact Hz
  iexists _; iexact Ho

/-- The run of a list of commands. -/
theorem runs (hvia : T.Forwards V) (N : Dev nD × Key I J → ℕ) (c : Dev nD) (S' : Finset (Lab I J)) (U' : Finset J) : ∀ (l : List (Cmd I J)) (S : Finset (Lab I J))
    (U : Finset J) (W : Waits sig Unit), T.steps l (S, U) = some (S', U') →
    iprop(T.env V N ∗ bigSep S (T.res V c) ∗ owes (c.tc : Thread nD τ) (T.dues c U) W)
      ⊢ wp frame (wpE defs₀ 𝒱₀ (c.tc : Thread nD τ) none) Set.univ (T.prog Val Λ c l)
        fun _ => iprop(bigSep S' (T.res V c) ∗ ∃ W, owes (c.tc : Thread nD τ) (T.dues c U') W)
  | [], S, U, W, h => by
    obtain ⟨rfl, rfl⟩ := Prod.mk.inj (Option.some.inj h)
    unfold Talk.prog
    rw [wp_ret]
    iintro ⟨-, HS, Ho⟩
    imodintro
    isplitl [HS]; · iexact HS
    iexists W; iexact Ho
  | .copy i :: l, S, U, W, h => by
    have ih := fun S U W => runs hvia N c S' U' l S U W
    unfold Talk.steps Talk.step at h
    dsimp only at h
    split at h
    · exact absurd h (by simp)
    rename_i s' hs
    split at hs
    swap
    · exact absurd hs (by simp)
    rename_i hm
    obtain rfl := Option.some.inj hs
    unfold Talk.prog
    iintro ⟨#He, HS, Ho⟩
    ihave H1 := (take_out (T.res V c) hm.1) $$ HS
    icases H1 with ⟨Ha, HS⟩
    ihave H2 := (take_out (T.res V c) hm.2) $$ HS
    icases H2 with ⟨Hb, HS⟩
    iapply (run_copy T V defs₀ 𝒱₀ N c i) $$ [Ha Hb]
    · isplitr; · iexact He
      isplitl [Ha]; · iexact Ha
      iexact Hb
    iintro Hr
    iapply (ih _ _ W h)
    isplitr; · iexact He
    isplitl [Hr HS]
    · iapply (put_in (T.res V c)); isplitl [Hr]; · iexact Hr
      iexact HS
    iexact Ho
  | .send j :: l, S, U, W, h => by
    have ih := fun S U W => runs hvia N c S' U' l S U W
    unfold Talk.steps Talk.step at h
    dsimp only at h
    split at h
    · exact absurd h (by simp)
    rename_i s' hs
    split at hs
    swap
    · exact absurd hs (by simp)
    rename_i hm
    obtain rfl := Option.some.inj hs
    unfold Talk.prog
    iintro ⟨#He, HS, Ho⟩
    ihave H1 := (take_out (T.res V c) hm.1) $$ HS
    icases H1 with ⟨Ha, HS⟩
    ihave H2 := (take_out (T.res V c) hm.2.1) $$ HS
    icases H2 with ⟨Hb, HS⟩
    iapply (run_send T V defs₀ 𝒱₀ hvia N c j hm.2.2 W) $$ [Ha Hb Ho]
    · isplitr; · iexact He
      isplitl [Ha]; · iexact Ha
      isplitl [Hb]; · iexact Hb
      iexact Ho
    iintro ⟨Hr, Ho⟩
    iapply (ih _ _ W h)
    isplitr; · iexact He
    isplitl [Hr HS]
    · iapply (put_in (T.res V c)); isplitl [Hr]; · iexact Hr
      iexact HS
    iexact Ho
  | .wait k :: l, S, U, W, h => by
    have ih := fun S U W => runs hvia N c S' U' l S U W
    unfold Talk.steps Talk.step at h
    dsimp only at h
    split at h
    · exact absurd h (by simp)
    rename_i s' hs
    split at hs
    swap
    · exact absurd hs (by simp)
    rename_i hm
    obtain rfl := Option.some.inj hs
    unfold Talk.prog
    iintro ⟨#He, HS, Ho⟩
    ihave H1 := (take_out (T.res V c) hm.1) $$ HS
    icases H1 with ⟨Ha, HS⟩
    iapply (run_wait T V defs₀ 𝒱₀ N c k hm.2 W) $$ [Ha Ho]
    · isplitr; · iexact He
      isplitl [Ha]; · iexact Ha
      iexact Ho
    iintro ⟨Hp, Hz, %W', Ho⟩
    iapply (ih _ _ W' h)
    isplitr; · iexact He
    isplitl [Hp Hz HS]
    · iapply (put_in (T.res V c)); isplitl [Hp]; · iexact Hp
      iapply (put_in (T.res V c)); isplitl [Hz]; · iexact Hz
      iexact HS
    iexact Ho

end Talk

end Cert.Exchange
-- ==== Proof.TalkLaunch.lean ====
/-
  The launch of a kernel that only moves blocks: every core's run, from the launch of the whole mesh.

  The launch gives every core its buffers, its semaphores at zero and a credit for what its peers will pay it. Here these
  are dealt: every semaphore of the table gets its invariant; the token of a receive semaphore, and the place the send
  will write, go from the core that has them to the core that sends there.
-/
module

public import proofs.«01_k».proof.Proof.Transfers

@[expose] public section

set_option Elab.async false

noncomputable section

namespace Cert.Exchange

open Idealize.ShloMosaic Idealize.ShloMosaic.TcCoe Idealize.ShloMosaic.Rounds Idealize.ShloMosaic.Pipeline
open Idealize.SL Idealize.SL.RA
open Idealize.SL.BI (sProp bigSep bigSep_sep' bigSep_mono bigSep_congr bigSep_univ_prod bigSep_insert bigSep_erase bigSep_elim bigSep_subset bigSep_map
  bigSep_univ_sum bigSep_univ_equiv bigSep_singleton bigSep_fupd)
open scoped Idealize.SL.BI
open Idealize.SL.BI.BIBase Idealize.SL.BI.Laws Idealize.SL.ProofMode Idealize.SL.Sem

variable {nD : Nat} {τ : Topo} {sig : RefSig} {Val : EltTy → Type}
variable {I J : Type} [Fintype I] [Fintype J] [DecidableEq I] [DecidableEq J] (T : Talk nD τ sig I J) (V : Load T Val)

/-- Resources over two disjoint sets of labels. -/
theorem bigSep_union' {L : Type} [DecidableEq L] {A B : Finset L} (h : Disjoint A B) (Φ : L → AA nD τ sig Val) :
    bigSep (A ∪ B) Φ = iprop(bigSep A Φ ∗ bigSep B Φ) := BI.bigSep_union h

/-- A resource for every semaphore, by kind. -/
theorem bigSep_keys (Φ : Key I J → AA nD τ sig Val) :
    bigSep Finset.univ Φ = iprop((bigSep Finset.univ fun i => Φ (.loc i)) ∗ (bigSep Finset.univ fun j => Φ (.snd j)) ∗ bigSep Finset.univ fun j => Φ (.rcv j)) := by
  rw [bigSep_univ_equiv (Key.equiv I J) Φ, bigSep_univ_sum, bigSep_univ_sum]; rfl

/-- A resource for every transfer, by kind. -/
theorem bigSep_xfers (Φ : Xfer I J → AA nD τ sig Val) :
    bigSep Finset.univ Φ = iprop((bigSep Finset.univ fun i => Φ (.loc i)) ∗ bigSep Finset.univ fun j => Φ (.rem j)) := by
  rw [bigSep_univ_equiv (Xfer.equiv I J) Φ, bigSep_univ_sum]; rfl

/-- What every core and every send of it holds may be handed to the send's peer. -/
theorem swap_peers (Φ : Dev nD → J → AA nD τ sig Val) :
    (bigSep Finset.univ fun c => bigSep Finset.univ fun j => Φ c j) = bigSep Finset.univ fun c => bigSep Finset.univ fun j => Φ (T.peer c j) j := by
  rw [← bigSep_univ_prod (fun cj : Dev nD × J => Φ cj.1 cj.2), ← bigSep_univ_prod (fun cj : Dev nD × J => Φ (T.peer cj.1 cj.2) cj.2)]
  exact bigSep_univ_equiv (β := Dev nD × J) ⟨fun cj => (T.peer cj.1 cj.2, cj.2), fun cj => (T.peer cj.1 cj.2, cj.2),
    fun cj => by simp only [T.peer_peer], fun cj => by simp only [T.peer_peer]⟩ fun cj => Φ cj.1 cj.2

theorem cell_injective : Function.Injective (T.cell : Dev nD × Key I J → GSem nD τ sig) := by
  rintro ⟨c, k⟩ ⟨c', k'⟩ h
  have h1 : c = c' := congrArg (fun g : GSem nD τ sig => g.1.1) h
  have h2 : (SemLoc.dma (T.sem k) : SemLoc sig) = .dma (T.sem k') := congrArg Prod.snd h
  rw [h1, T.sem_inj (SemLoc.dma.inj h2)]

/-- The table's cells, and a token for each. -/
def Talk.cells : Finset (GSem nD τ sig) := Finset.univ.map ⟨T.cell, cell_injective T⟩
def Talk.toks : Finset (GSem nD τ sig × ℕ × Unit) :=
  Finset.univ.map ⟨fun ck => (T.cell ck, 0, ()), fun _ _ h => cell_injective T (congrArg Prod.fst h)⟩

/-- What funding the rounds gives a core. -/
def Talk.fund (c : Dev nD) : AA nD τ sig Val :=
  bigSep Finset.univ fun k : Key I J => iprop(roundState (ER nD τ sig Val) (T.rd V) (T.cell (c, k)) 0 ∗ reached (ER nD τ sig Val) (T.cell (c, k)) 0
    ∗ atPos (ER nD τ sig Val) (T.cell (c, k)) 0 ∅ 0 ∗ dutyTok (ER nD τ sig Val) (T.cell (c, k)) 0 ())

theorem fund_all : BI.own (ER nD τ sig Val (initOf T.cells T.toks)) ⊢ (|={Set.univ}=> bigSep Finset.univ (T.fund V) : AA nD τ sig Val) := by
  have hX (Φ : GSem nD τ sig → AA nD τ sig Val) : bigSep T.cells Φ = bigSep Finset.univ fun ck => Φ (T.cell ck) := by
    unfold Talk.cells; rw [bigSep_map]; rfl
  have hT : (bigSep T.toks fun x => (dutyTok (ER nD τ sig Val) x.1 x.2.1 x.2.2 : AA nD τ sig Val))
      = bigSep Finset.univ fun ck => dutyTok (ER nD τ sig Val) (T.cell ck) 0 () := by
    unfold Talk.toks; rw [bigSep_map]; rfl
  have hF : bigSep Finset.univ (T.fund V) = iprop((bigSep Finset.univ fun ck => roundState (ER nD τ sig Val) (T.rd V) (T.cell ck) 0)
      ∗ (bigSep Finset.univ fun ck => reached (ER nD τ sig Val) (T.cell ck) 0)
      ∗ (bigSep Finset.univ fun ck => atPos (ER nD τ sig Val) (T.cell ck) 0 ∅ 0)
      ∗ (bigSep Finset.univ fun ck => dutyTok (ER nD τ sig Val) (T.cell ck) 0 ())) := by
    rw [← bigSep_sep', ← bigSep_sep', ← bigSep_sep', bigSep_univ_prod]; rfl
  rw [hF]
  iintro HX
  imod (Rounds.fund (ER nD τ sig Val) (T.rd V) T.cells T.toks) $$ HX with ⟨Hst, Hr, Hat, Htok⟩
  imodintro
  ihave Hst' := (Entails.of_eq (hX fun g => roundState (ER nD τ sig Val) (T.rd V) g 0)) $$ Hst
  ihave Hat' := (Entails.of_eq (hX fun g => atPos (ER nD τ sig Val) g 0 ∅ 0)) $$ Hat
  ihave Hr' := (Entails.of_eq (hX fun g => reached (ER nD τ sig Val) g 0)) $$ Hr
  ihave Htok' := (Entails.of_eq hT) $$ Htok
  isplitl [Hst']; · iexact Hst'
  isplitl [Hr']; · iexact Hr'
  isplitl [Hat']; · iexact Hat'
  iexact Htok'

/-- A kernel's own semaphores, of the table. -/
abbrev Talk.osem (k : Key I J) : SemLoc sig := .dma (T.sem k)

/-- Every cell's invariant is made from its counter at zero. -/
theorem alloc_all :
    iprop((bigSep Finset.univ fun c : Dev nD => (ownSems0 (Ix := Unit) (Name := ℕ) (U := UU nD τ sig) (Lvl := ℕ) (Val := Val) (τ := τ) T.osem c : AA nD τ sig Val))
        ∗ bigSep Finset.univ fun ck => roundState (ER nD τ sig Val) (T.rd V) (T.cell ck) 0)
      ⊢ |={Set.univ}=> iprop(∃ N : Dev nD × Key I J → ℕ, bigSep Finset.univ fun ck => cellInv (ER nD τ sig Val) (T.rd V) (N ck) (T.cell ck)) := by
  have h1 : (bigSep Finset.univ fun c : Dev nD => (ownSems0 (Ix := Unit) (Name := ℕ) (U := UU nD τ sig) (Lvl := ℕ) (Val := Val) (τ := τ) T.osem c : AA nD τ sig Val))
      = bigSep Finset.univ fun ck : Dev nD × Key I J => semVal (T.cell ck) 0 := by
    rw [bigSep_univ_prod]; rfl
  rw [h1, ← bigSep_sep']
  have h2 : (bigSep Finset.univ fun ck : Dev nD × Key I J => iprop(semVal (T.cell ck) 0 ∗ roundState (ER nD τ sig Val) (T.rd V) (T.cell ck) 0))
      ⊢ (|={Set.univ}=> bigSep Finset.univ fun ck => iprop(∃ κ : ℕ, cellInv (ER nD τ sig Val) (T.rd V) κ (T.cell ck)) : AA nD τ sig Val) :=
    (bigSep_mono fun ck _ => (Rounds.body_intro (ER nD τ sig Val) (T.rd V) (T.cell ck)).trans inv_alloc).trans (bigSep_fupd _ _)
  refine h2.trans (BI.fupd_mono ?_)
  exact BI.bigSep_exists_pi Finset.univ (fun (ck : Dev nD × Key I J) (κ : ℕ) => (cellInv (ER nD τ sig Val) (T.rd V) κ (T.cell ck) : AA nD τ sig Val))

/-- The memory a core's run starts from, of its own buffers: its sources and the places that are written on it. -/
def Talk.mem (c : Dev nD) : AA nD τ sig Val :=
  iprop((bigSep (Finset.univ.filter fun x => T.first x = true) fun x => owns (c.tc : Thread nD τ) (T.src c x) (V.q x) (V.X c x))
    ∗ (bigSep Finset.univ fun i : I => ownsSat (c.tc : Thread nD τ) (T.dst c (.loc i)) fullShare (fun _ => True))
    ∗ bigSep Finset.univ fun j : J => ownsSat (c.tc : Thread nD τ) (T.dst (T.peer c j) (.rem j)) fullShare (fun _ => True))

/-- What a core's run starts from. -/
def Talk.begin (c : Dev nD) : AA nD τ sig Val := iprop(∃ N : Dev nD × Key I J → ℕ, T.env V N ∗ bigSep T.start (T.res V c))

theorem start_intro (c : Dev nD) :
    iprop((bigSep (Finset.univ.filter fun x => T.first x = true) fun x => owns (c.tc : Thread nD τ) (T.src c x) (V.q x) (V.X c x))
        ∗ (bigSep Finset.univ fun x => T.res V c (.slot x)) ∗ (bigSep Finset.univ fun j => T.res V c (.ready (.rcv j))))
      ⊢ bigSep T.start (T.res V c) := by
  have hin {X : Type} [DecidableEq X] (S : Finset X) (f : X → Lab I J) (hf : Function.Injective f) (Φ : Lab I J → AA nD τ sig Val) :
      bigSep (S.image f) Φ = bigSep S fun x => Φ (f x) := by
    have h : S.image f = S.map ⟨f, hf⟩ := (Finset.map_eq_image ⟨f, hf⟩ S).symm
    rw [h, bigSep_map]; rfl
  unfold Talk.start
  rw [bigSep_union', bigSep_union', hin _ Lab.src (fun _ _ h => Lab.src.inj h), hin _ Lab.slot (fun _ _ h => Lab.slot.inj h),
    hin _ (fun j => Lab.ready (.rcv j)) (fun _ _ h => Key.rcv.inj (Lab.ready.inj h))]
  · iintro ⟨H1, H2, H3⟩
    isplitl [H1 H2]
    · isplitl [H1]; · iexact H1
      iexact H2
    iexact H3
  · rw [Finset.disjoint_left]; intro a ha hb
    obtain ⟨x, _, rfl⟩ := Finset.mem_image.mp ha
    obtain ⟨y, _, h⟩ := Finset.mem_image.mp hb
    exact absurd h (by simp)
  · rw [Finset.disjoint_left]; intro a ha hb
    obtain ⟨y, _, h⟩ := Finset.mem_image.mp hb
    rcases Finset.mem_union.mp ha with ha | ha
    · obtain ⟨x, _, rfl⟩ := Finset.mem_image.mp ha; exact absurd h (by simp)
    · obtain ⟨x, _, rfl⟩ := Finset.mem_image.mp ha; exact absurd h (by simp)

/-- The launch credit pays for the receives. -/
theorem credits (c : Dev nD) : (launchCred (fun d => T.dues d Finset.univ) c : AA nD τ sig Val)
    ⊢ bigSep Finset.univ fun j => cred (tallyAt (T.cell (c, .rcv j)) () (T.amt (.rem j))) := by
  unfold Talk.dues
  rw [launchCred_sum]
  exact bigSep_mono fun j _ => launchCred_tallyAt (.dma (T.sem (.rcv j))) (fun d => T.peer d j) (fun d => T.peer d j) (fun c => T.peer_peer c j)
    (fun c => T.peer_peer c j) () _ c

/-- A persistent resource serves every core. -/
theorem mono_with {L : Type} [DecidableEq L] {S : Finset L} {R : AA nD τ sig Val} [BI.Persistent R] {Φ Ψ : L → AA nD τ sig Val}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a core's run starts from, out of its share of what was dealt. -/
theorem deal_core (Z : Dev nD → AA nD τ sig Val) (N : Dev nD × Key I J → ℕ) :
    iprop(((bigSep Finset.univ fun ck => cellInv (ER nD τ sig Val) (T.rd V) (N ck) (T.cell ck))
        ∗ (bigSep Finset.univ fun ck => reached (ER nD τ sig Val) (T.cell ck) 0))
      ∗ bigSep Finset.univ fun c => iprop(levAts Talk.lset T.lv ∗ Z c ∗ launchCred (fun d => T.dues d Finset.univ) c
        ∗ (bigSep (Finset.univ.filter fun x => T.first x = true) fun x => owns (c.tc : Thread nD τ) (T.src c x) (V.q x) (V.X c x))
        ∗ (bigSep Finset.univ fun i : I => ownsSat (c.tc : Thread nD τ) (T.dst c (.loc i)) fullShare (fun _ => True))
        ∗ (bigSep Finset.univ fun i => dutyTok (ER nD τ sig Val) (T.cell (c, .loc i)) 0 ())
        ∗ (bigSep Finset.univ fun i => atPos (ER nD τ sig Val) (T.cell (c, .loc i)) 0 ∅ 0)
        ∗ (bigSep Finset.univ fun j : J => ownsSat ((T.peer c j).tc : Thread nD τ) (T.dst c (.rem j)) fullShare (fun _ => True))
        ∗ (bigSep Finset.univ fun j => dutyTok (ER nD τ sig Val) (T.cell (c, .snd j)) 0 ())
        ∗ (bigSep Finset.univ fun j => dutyTok (ER nD τ sig Val) (T.cell (T.peer c j, .rcv j)) 0 ())
        ∗ (bigSep Finset.univ fun j => atPos (ER nD τ sig Val) (T.cell (c, .snd j)) 0 ∅ 0)
        ∗ bigSep Finset.univ fun j => atPos (ER nD τ sig Val) (T.cell (c, .rcv j)) 0 ∅ 0))
      ⊢ bigSep Finset.univ fun c => iprop(T.begin V c ∗ Z c) := by
  refine mono_with fun c _ => ?_
  have h1 : iprop((bigSep Finset.univ fun i : I => ownsSat (c.tc : Thread nD τ) (T.dst c (.loc i)) fullShare (fun _ => True))
        ∗ (bigSep Finset.univ fun i => dutyTok (ER nD τ sig Val) (T.cell (c, .loc i)) 0 ())
        ∗ (bigSep Finset.univ fun i => atPos (ER nD τ sig Val) (T.cell (c, .loc i)) 0 ∅ 0))
      ⊢ (bigSep Finset.univ fun i => T.res V c (.slot (.loc i)) : AA nD τ sig Val) := by
    rw [← bigSep_sep', ← bigSep_sep']; exact .rfl
  have h2 : iprop((bigSep Finset.univ fun j : J => ownsSat ((T.peer c j).tc : Thread nD τ) (T.dst c (.rem j)) fullShare (fun _ => True))
        ∗ (bigSep Finset.univ fun j => dutyTok (ER nD τ sig Val) (T.cell (c, .snd j)) 0 ())
        ∗ (bigSep Finset.univ fun j => dutyTok (ER nD τ sig Val) (T.cell (T.peer c j, .rcv j)) 0 ())
        ∗ (bigSep Finset.univ fun j => atPos (ER nD τ sig Val) (T.cell (c, .snd j)) 0 ∅ 0))
      ⊢ (bigSep Finset.univ fun j => T.res V c (.slot (.rem j)) : AA nD τ sig Val) := by
    rw [← bigSep_sep', ← bigSep_sep', ← bigSep_sep']; exact .rfl
  have h3 : iprop((bigSep Finset.univ fun j => cred (tallyAt (T.cell (c, .rcv j)) () (T.amt (.rem j))))
        ∗ (bigSep Finset.univ fun j => atPos (ER nD τ sig Val) (T.cell (c, .rcv j)) 0 ∅ 0))
      ⊢ (bigSep Finset.univ fun j => T.res V c (.ready (.rcv j)) : AA nD τ sig Val) := by
    rw [← bigSep_sep']; exact .rfl
  have h4 := start_intro T V c
  rw [bigSep_xfers (fun x => T.res V c (.slot x))] at h4
  unfold Talk.begin Talk.env
  iintro ⟨⟨#HI, #HR⟩, Hlev, HZ, Hcr, Hsrc, Hs1, Ht1, Ha1, Hs2, Ht2, Ht3, Ha2, Ha3⟩
  ihave Hc := (credits T c) $$ Hcr
  isplitr [HZ]
  · iexists N
    isplitl [Hlev]
    · isplitr; · iexact HI
      isplitr; · iexact HR
      iexact Hlev
    iapply h4
    isplitl [Hsrc]; · iexact Hsrc
    isplitr [Hc Ha3]
    · isplitl [Hs1 Ht1 Ha1]
      · iapply h1
        isplitl [Hs1]; · iexact Hs1
        isplitl [Ht1]; · iexact Ht1
        iexact Ha1
      iapply h2
      isplitl [Hs2]; · iexact Hs2
      isplitl [Ht2]; · iexact Ht2
      isplitl [Ht3]; · iexact Ht3
      iexact Ha2
    iapply h3
    isplitl [Hc]; · iexact Hc
    iexact Ha3
  iexact HZ

/-- The places and the tokens of every core, dealt to the cores that use them. -/
theorem deal (Z : Dev nD → AA nD τ sig Val) (R : Dev nD → AA nD τ sig Val) (hmem : ∀ c, R c ⊢ iprop(Z c ∗ T.mem V c)) :
    (bigSep Finset.univ fun c => iprop(ownSems0 T.osem c ∗ R c ∗ launchCred (fun d => T.dues d Finset.univ) c ∗ levAts Talk.lset T.lv ∗ T.fund V c) : AA nD τ sig Val)
      ⊢ |={Set.univ}=> bigSep Finset.univ fun c => iprop(T.begin V c ∗ Z c) := by
  have hF : bigSep Finset.univ (T.fund V) = iprop((bigSep Finset.univ fun ck => roundState (ER nD τ sig Val) (T.rd V) (T.cell ck) 0)
      ∗ (bigSep Finset.univ fun ck => reached (ER nD τ sig Val) (T.cell ck) 0)
      ∗ (bigSep Finset.univ fun ck => atPos (ER nD τ sig Val) (T.cell ck) 0 ∅ 0)
      ∗ (bigSep Finset.univ fun ck => dutyTok (ER nD τ sig Val) (T.cell ck) 0 ())) := by
    rw [← bigSep_sep', ← bigSep_sep', ← bigSep_sep', bigSep_univ_prod]; rfl
  have hT : (bigSep Finset.univ fun ck => (dutyTok (ER nD τ sig Val) (T.cell ck) 0 () : AA nD τ sig Val))
      = iprop((bigSep Finset.univ fun c => bigSep Finset.univ fun i => dutyTok (ER nD τ sig Val) (T.cell (c, .loc i)) 0 ())
        ∗ (bigSep Finset.univ fun c => bigSep Finset.univ fun j => dutyTok (ER nD τ sig Val) (T.cell (c, .snd j)) 0 ())
        ∗ bigSep Finset.univ fun c => bigSep Finset.univ fun j => dutyTok (ER nD τ sig Val) (T.cell (T.peer c j, .rcv j)) 0 ()) := by
    rw [bigSep_univ_prod, bigSep_congr (fun c _ => bigSep_keys _), bigSep_sep', bigSep_sep',
      swap_peers T fun c j => dutyTok (ER nD τ sig Val) (T.cell (c, .rcv j)) 0 ()]
  have hA : (bigSep Finset.univ fun ck => (atPos (ER nD τ sig Val) (T.cell ck) 0 ∅ 0 : AA nD τ sig Val))
      = iprop((bigSep Finset.univ fun c => bigSep Finset.univ fun i => atPos (ER nD τ sig Val) (T.cell (c, .loc i)) 0 ∅ 0)
        ∗ (bigSep Finset.univ fun c => bigSep Finset.univ fun j => atPos (ER nD τ sig Val) (T.cell (c, .snd j)) 0 ∅ 0)
        ∗ bigSep Finset.univ fun c => bigSep Finset.univ fun j => atPos (ER nD τ sig Val) (T.cell (c, .rcv j)) 0 ∅ 0) := by
    rw [bigSep_univ_prod, bigSep_congr (fun c _ => bigSep_keys _), bigSep_sep', bigSep_sep']
  have hM : (bigSep Finset.univ fun c : Dev nD => R c) ⊢ iprop((bigSep Finset.univ Z)
      ∗ (bigSep Finset.univ fun c : Dev nD => bigSep (Finset.univ.filter fun x => T.first x = true) fun x => owns (c.tc : Thread nD τ) (T.src c x) (V.q x) (V.X c x))
      ∗ (bigSep Finset.univ fun c : Dev nD => bigSep Finset.univ fun i : I => ownsSat (c.tc : Thread nD τ) (T.dst c (.loc i)) fullShare (fun _ => True))
      ∗ bigSep Finset.univ fun c : Dev nD => bigSep Finset.univ fun j : J => ownsSat ((T.peer c j).tc : Thread nD τ) (T.dst c (.rem j)) fullShare (fun _ => True)) := by
    have hS := swap_peers T fun c j => (ownsSat (c.tc : Thread nD τ) (T.dst (T.peer c j) (.rem j)) fullShare (fun _ => True) : AA nD τ sig Val)
    simp only [T.peer_peer] at hS
    rw [← hS, ← bigSep_sep', ← bigSep_sep', ← bigSep_sep']
    exact bigSep_mono fun c _ => hmem c
  rw [bigSep_sep', bigSep_sep', bigSep_sep', bigSep_sep', hF, hT, hA]
  iintro ⟨Hsem, HR, Hcr, Hlev, Hst, #Hr, ⟨Ha1, Ha2, Ha3⟩, Ht1, Ht2, Ht3⟩
  ihave HM := hM $$ HR
  icases HM with ⟨HZ, Hsrc, Hs1, Hs2⟩
  imod (alloc_all T V) $$ [Hsem Hst] with ⟨%N, #Hinv⟩
  · isplitl [Hsem]; · iexact Hsem
    iexact Hst
  imodintro
  iapply (deal_core T V Z N)
  isplitr
  · isplitr; · iexact Hinv
    iexact Hr
  rw [bigSep_sep', bigSep_sep', bigSep_sep', bigSep_sep', bigSep_sep', bigSep_sep', bigSep_sep', bigSep_sep', bigSep_sep', bigSep_sep', bigSep_sep']
  isplitl [Hlev]; · iexact Hlev
  isplitl [HZ]; · iexact HZ
  isplitl [Hcr]; · iexact Hcr
  isplitl [Hsrc]; · iexact Hsrc
  isplitl [Hs1]; · iexact Hs1
  isplitl [Ht1]; · iexact Ht1
  isplitl [Ha1]; · iexact Ha1
  isplitl [Hs2]; · iexact Hs2
  isplitl [Ht2]; · iexact Ht2
  isplitl [Ht3]; · iexact Ht3
  isplitl [Ha2]; · iexact Ha2
  iexact Ha3

section Launch

variable {Λ₀ : Idealize.SL.Sem.Labels} (cfgs : Fin 1 → Cfg sig Λ₀) [hW : ∀ p, IsEmpty (Fin (cfgs p).W)]

/-- The run of the whole mesh: every execution of a kernel whose body is the commands `l` ends, with each core's payments
    of `F` and what was kept aside (`Z`) to read the final memory by. -/
theorem θ_run_talk (hN : (cfgs 0).N = 1) (hinj : Function.Injective (cellOf (nD := nD) (τ := τ) cfgs))
    (hw : WinFacts₀ (cfgs 0).spec) (ho : OwnSemFacts (cfgs 0).spec T.osem) [∀ e, Nonempty (Val e)]
    (defs₀ : Defs nD τ sig Val Λ₀) (𝒱₀ : Variants) (m : (ℓ : Loc nD τ sig) → Buf Val ℓ) (g : Dev nD → PrngReg)
    (main : Dev nD → Prog (TpuEff nD τ sig Val (Sig Λ₀ (Fin 1) fun p => (pcsOf cfgs Val p).Adm) .tc) PUnit)
    (hmain : ∀ c, main c = .op (.customCall (entry 0) ()) fun _ => .ret ⟨⟩)
    (l : List (Cmd I J)) (F : Finset (Key I J)) (hok : T.ok l F = true) (hvia : T.Forwards V)
    (hbody : ∀ (c : Dev nD) (t : Fin (cfgs 0).N) (Q : AA nD τ sig Val),
      wp frame (wpE defs₀ 𝒱₀ (c.tc : Thread nD τ) none) Set.univ (T.prog Val Λ₀ c l) (fun _ => Q)
        ⊢ wp frame (wpE defs₀ 𝒱₀ (c.tc : Thread nD τ) none) Set.univ (defs₀ .tc (cfgs 0).body ((cfgs 0).bodyArgs t ((cfgs 0).slots t))) fun _ => Q)
    (Z : Dev nD → AA nD τ sig Val)
    (hmem : ∀ c, unscopedRest (cfgs 0).spec c (fun b => m ((c.tc : Thread nD τ).loc b)) ⊢ iprop(Z c ∗ T.mem V c))
    (QY : Dev nD → MemSt nD τ sig Val → Prop)
    (hY : ∀ c (s' : Phys nD τ sig Val), iprop((bigSep F (T.pay V c)) ∗ Z c ∗ SI s') ⊢ |={Set.univ}=> iprop(⌜QY c s'.mem⌝ ∗ SI s'))
    {Q} (hQ : ∀ s : MemSt nD τ sig Val, (∀ c, QY c s) → (∀ g', (g'.1.2 ≠ .tc ∨ g'.2.isScoped .tc = true) → s.sem g' = 0) → Q (⟨⟩, s)) :
    θ_run (Pipeline.defs (pcsOf cfgs Val) defs₀) (onTc main) ⟨m, fun _ => 0, g⟩ Q := by
  refine θ_run_dealt cfgs hN hinj hw ho defs₀ 𝒱₀ m g main hmain (T.begin V) (fun c => bigSep F (T.pay V c)) Z (fun c => T.dues c Finset.univ)
    ?_ Talk.lset T.lv (fun g h => if_neg h) (T.fund V) (initOf T.cells T.toks) (fund_all T V) (deal T V Z _ hmem) QY hY hQ
  intro c t W
  refine Entails.trans ?_ (hbody c t _)
  unfold Talk.ok at hok
  generalize hs : T.steps l (T.start, Finset.univ) = s at hok
  rcases s with _ | ⟨S, U⟩
  · exact absurd hok (by simp)
  simp only [Bool.and_eq_true, decide_eq_true_eq] at hok
  obtain ⟨⟨rfl, hz⟩, hp⟩ := hok
  have hfin : bigSep S (T.res V c) ⊢ iprop((bigSep F (T.pay V c)) ∗ ownSems0 T.osem c) := by
    have hsub : F.map ⟨Lab.pay, fun _ _ h => Lab.pay.inj h⟩ ∪ Finset.univ.map ⟨Lab.zero, fun _ _ h => Lab.zero.inj h⟩ ⊆ S := by
      intro a ha
      rcases Finset.mem_union.mp ha with h | h
      · obtain ⟨k, hk, rfl⟩ := Finset.mem_map.mp h; exact hp k hk
      · obtain ⟨k, _, rfl⟩ := Finset.mem_map.mp h; exact hz k
    have hdis : Disjoint (F.map (⟨Lab.pay, fun _ _ h => Lab.pay.inj h⟩ : Key I J ↪ Lab I J)) (Finset.univ.map ⟨Lab.zero, fun _ _ h => Lab.zero.inj h⟩) := by
      rw [Finset.disjoint_left]; intro a ha hb
      obtain ⟨x, _, rfl⟩ := Finset.mem_map.mp ha
      obtain ⟨y, _, h⟩ := Finset.mem_map.mp hb
      exact absurd h (by simp)
    have h0 : bigSep S (T.res V c) ⊢ bigSep (F.map ⟨Lab.pay, fun _ _ h => Lab.pay.inj h⟩ ∪ Finset.univ.map ⟨Lab.zero, fun _ _ h => Lab.zero.inj h⟩) (T.res V c) :=
      bigSep_subset hsub
    refine h0.trans (Entails.of_eq ?_)
    rw [bigSep_union' hdis, bigSep_map, bigSep_map]
    rfl
  have hrun := fun N => runs T V defs₀ 𝒱₀ hvia N c S ∅ l T.start Finset.univ W hs
  unfold Talk.begin
  iintro ⟨⟨%N, #He, HS⟩, Ho⟩
  ihave Hwp := (hrun N) $$ [HS Ho]
  · isplitr; · iexact He
    isplitl [HS]; · iexact HS
    iexact Ho
  iapply (wp_wand frame (wpE defs₀ 𝒱₀ (c.tc : Thread nD τ) none) Set.univ) $$ Hwp
  iintro %u ⟨HS, %W', Ho⟩
  ihave Hf := hfin $$ HS
  icases Hf with ⟨H1, H2⟩
  isplitl [H1]; · iexact H1
  isplitl [H2]; · iexact H2
  iexists W'
  iexact Ho

end Launch

end Cert.Exchange
-- ==== Proof.Gather.lean ====
/-
  An all-gather of several arrays over eight devices, two cores on each of the four chips of a 2 × 2 grid.

  Every device holds one block of each array and ends with the eight blocks, in eight slots of an output. Device `c`
  copies its own block into its own slot, and sends it to its sibling on the same chip and to the device of the same
  parity on each of the three other chips. The three blocks it gets from other chips it passes on to its sibling. So each
  of its slots is written once: by itself, by the sibling, by three devices directly, and by the sibling passing on three.

  `Board` is what a kernel has to say to be such a gather; `Board.talk` is its table of transfers, and `gathers` what its
  run leaves: on every device and for every array, slot `b` reads as the block that device `b` had.
-/
module

public import proofs.«01_k».proof.Proof.TalkLaunch
public import Idealize.ShloMosaic.Lib.ReshapeSlab

@[expose] public section

set_option Elab.async false

noncomputable section

namespace Cert.Exchange

open Idealize.ShloMosaic Idealize.ShloMosaic.TcCoe Idealize.ShloMosaic.Rounds Idealize.ShloMosaic.Pipeline
open Idealize.SL Idealize.SL.RA
open Idealize.SL.BI (sProp bigSep bigSep_sep' bigSep_mono bigSep_congr bigSep_univ_prod bigSep_insert bigSep_erase bigSep_elim bigSep_subset bigSep_map
  bigSep_univ_sum bigSep_univ_equiv bigSep_singleton bigSep_filter)
open scoped Idealize.SL.BI
open Idealize.SL.BI.BIBase Idealize.SL.BI.Laws Idealize.SL.ProofMode Idealize.SL.Sem

/-- A way to another chip: across the first axis of the grid, the second, or both. -/
inductive Way : Type
  | x | y | xy
  deriving DecidableEq

instance : Fintype Way := ⟨{.x, .y, .xy}, by rintro (_ | _ | _) <;> decide⟩

/-- A send: to the sibling, to another chip, or to the sibling of what came from another chip. -/
inductive Hop : Type
  | sib
  | far (w : Way)
  | fwd (w : Way)
  deriving DecidableEq

/-- Sends as a sum, for their finiteness. -/
def Hop.equiv : Unit ⊕ Way ⊕ Way ≃ Hop where
  toFun | .inl _ => .sib | .inr (.inl w) => .far w | .inr (.inr w) => .fwd w
  invFun | .sib => .inl () | .far w => .inr (.inl w) | .fwd w => .inr (.inr w)
  left_inv := by rintro (_ | w | w) <;> rfl
  right_inv := by rintro (_ | w | w) <;> rfl

instance : Fintype Hop := Fintype.ofEquiv _ Hop.equiv

/-- The device with the coordinates in `n` flipped. -/
def flipBits (n : ℕ) (d : Fin 8) : Fin 8 := ⟨(d.val ^^^ n) % 8, Nat.mod_lt _ (by decide)⟩

/-- The device of the same parity on another chip. -/
def Way.go : Way → Fin 8 → Fin 8
  | .x => flipBits 4
  | .y => flipBits 2
  | .xy => flipBits 6

/-- The device a send goes to. -/
def Hop.go : Hop → Fin 8 → Fin 8
  | .sib => flipBits 1
  | .far w => w.go
  | .fwd _ => flipBits 1

/-- The block a send carries from device `d`: its own, or the one it got from another chip. -/
def Hop.block : Hop → Fin 8 → Fin 8
  | .sib, d => d
  | .far _, d => d
  | .fwd w, d => w.go d

theorem Hop.go_go : ∀ (h : Hop) (d : Fin 8), h.go (h.go d) = d := by
  decide

/-- The block that arrives on device `c` by a send, and its own. -/
def arrives (c : Fin 8) : Unit ⊕ Hop → Fin 8
  | .inl _ => c
  | .inr h => h.block (h.go c)

theorem arrives_bijective : ∀ c : Fin 8, Function.Bijective (arrives c) := by
  have h : ∀ c : Fin 8, Function.Injective (arrives c) := by unfold Function.Injective; decide +kernel
  exact fun c => (Fintype.bijective_iff_injective_and_card _).mpr ⟨h c, by decide⟩

variable {τ : Topo} {sig : RefSig} {Val : EltTy → Type}

/-- A kernel's all-gather of the arrays `A`. -/
structure Board (τ : Topo) (sig : RefSig) (A : Type) where
  sh : A → Shape
  el : A → EltTy
  /-- The block a device has. -/
  inp : (a : A) → Memref sig .tc .hbm (sh a) (el a)
  /-- The slots of the output. -/
  slot : (a : A) → Fin 8 → Memref sig .tc .hbm (sh a) (el a)
  inpExact : ∀ a, (inp a).view.WordExact
  slotExact : ∀ a b, (slot a b).view.WordExact
  slotHbm : ∀ a b, (slot a b).view.ref.isScScratch = false
  /-- The slots and the peers, as the kernel computes them. -/
  own : Fin 8 → Fin 8
  pass : Way → Fin 8 → Fin 8
  peer : Hop → Fin 8 → Fin 8
  own_eq : ∀ d, own d = d
  pass_eq : ∀ w d, pass w d = w.go d
  peer_eq : ∀ h d, peer h d = h.go d
  routes : ∀ (c c' : Dev 8), τ.routes (c.tc : Thread 8 τ) (c'.tc) = true
  sem : Key A (A × Hop) → DmaSem sig
  sem_inj : Function.Injective sem
  numel_pos : ∀ a, 0 < (sh a).numel
  slot_amt : ∀ a b, (slot a b).view.dmaCredit = (slot a 0).view.dmaCredit
  inp_amt : ∀ a, (inp a).view.ref.dmaCredit (sh a) (el a) = (slot a 0).view.dmaCredit
  own_amt : ∀ a, (slot a 0).view.ref.dmaCredit (sh a) (el a) = (slot a 0).view.dmaCredit

section Board

variable {A : Type} [Fintype A] [DecidableEq A] (B : Board τ sig A)

/-- The array of a transfer. -/
def arr : Xfer A (A × Hop) → A
  | .loc a => a
  | .rem (a, _) => a

/-- The block a transfer carries, as the kernel computes it. -/
def Board.blk (d : Fin 8) : Xfer A (A × Hop) → Fin 8
  | .loc _ => B.own d
  | .rem (_, .sib) => B.own d
  | .rem (_, .far _) => B.own d
  | .rem (_, .fwd w) => B.pass w d

/-- The table of transfers of a gather. -/
def Board.talk : Talk 8 τ sig A (A × Hop) where
  sh x := B.sh (arr x)
  el x := B.el (arr x)
  src d
    | .loc a => B.inp a
    | .rem (a, .sib) => B.inp a
    | .rem (a, .far _) => B.inp a
    | .rem (a, .fwd w) => B.slot a (B.pass w d)
  dst d x := B.slot (arr x) (B.blk d x)
  srcWhole := by
    rintro d (a | ⟨a, _ | w | w⟩)
    exacts [B.inpExact a, B.inpExact a, B.inpExact a, B.slotExact a _]
  dstWhole d x := B.slotExact _ _
  dstHbm d x := B.slotHbm _ _
  peer d j := B.peer j.2 d
  peer_peer c j := by rw [B.peer_eq, B.peer_eq, Hop.go_go]
  routes c j := B.routes _ _
  sem := B.sem
  sem_inj := B.sem_inj
  amt x := (B.slot (arr x) 0).view.dmaCredit
  amt_pos x := View.dmaCredit_pos _ (B.numel_pos _)
  amt_eq c x := B.slot_amt _ _
  wref
    | .loc a => (B.slot a 0).view.ref
    | .snd (a, .sib) => (B.inp a).view.ref
    | .snd (a, .far _) => (B.inp a).view.ref
    | .snd (a, .fwd _) => (B.slot a 0).view.ref
    | .rcv (a, _) => (B.slot a 0).view.ref
  wsh k := B.sh (arr k.of)
  wel k := B.el (arr k.of)
  wamt := by
    rintro (a | ⟨a, _ | w | w⟩ | ⟨a, h⟩)
    exacts [B.own_amt a, B.inp_amt a, B.inp_amt a, B.own_amt a, B.own_amt a]
  level
    | (_, .sib) => 1
    | (_, .far _) => 1
    | (_, .fwd _) => 2
  via
    | (_, .sib) => none
    | (_, .far _) => none
    | (a, .fwd w) => some (a, .far w)

/-- The commands: the local copies; the first sends; for each other chip and each array, the wait for its block and the
    send that passes it on; the waits for what the sibling sends; the waits for the own sends; the waits for the local
    copies. -/
def gatherCmds (xs : List A) : List (Cmd A (A × Hop)) :=
  (xs.map fun a => .copy a)
    ++ (xs.flatMap fun a => [.send (a, .sib), .send (a, .far .x), .send (a, .far .y), .send (a, .far .xy)])
    ++ ([Way.x, .y, .xy].flatMap fun w => xs.flatMap fun a => [.wait (.rcv (a, .far w)), .send (a, .fwd w)])
    ++ (xs.flatMap fun a => [.wait (.rcv (a, .sib)), .wait (.rcv (a, .fwd .x)), .wait (.rcv (a, .fwd .y)), .wait (.rcv (a, .fwd .xy))])
    ++ (xs.flatMap fun a => [.wait (.snd (a, .sib)), .wait (.snd (a, .far .x)), .wait (.snd (a, .far .y)), .wait (.snd (a, .far .xy))])
    ++ ([Way.x, .y, .xy].flatMap fun w => xs.map fun a => .wait (.snd (a, .fwd w)))
    ++ (xs.map fun a => .wait (.loc a))

/-- Whether a payment is kept to the end. -/
def lasts : Key A (A × Hop) → Bool
  | .loc _ => true
  | .snd (_, .sib) => false
  | .snd (_, .far _) => false
  | .snd (_, .fwd _) => true
  | .rcv (_, .sib) => true
  | .rcv (_, .far _) => false
  | .rcv (_, .fwd _) => true

/-- The payments that end in a device's slots: its own copy's, what the sibling sent, and the slots it passed on, back. -/
def gatherPays : Finset (Key A (A × Hop)) :=
  Finset.univ.filter fun k => lasts k = true

/-- The share of a block that a transfer reads it at. -/
def readShare : Xfer A (A × Hop) → PosShare TreeShare
  | .loc _ => fullShare.right.left
  | .rem (_, .sib) => fullShare.right.right.left
  | .rem (_, .far .x) => fullShare.right.right.right.left
  | .rem (_, .far .y) => fullShare.right.right.right.right.left
  | .rem (_, .far .xy) => fullShare.right.right.right.right.right
  | .rem (_, .fwd _) => fullShare

variable (W : (a : A) → Fin 8 → (B.sh a).Idx → Val (B.el a))

/-- What the transfers carry, when device `b`'s block of array `a` is `W a b`. -/
def Board.load : Load B.talk Val where
  X d x := W (arr x) (B.blk d x)
  q := readShare

theorem gather_forwards : B.talk.Forwards (B.load W) := by
  rintro c ⟨a, _ | w | w⟩ j' h
  · exact absurd h (by simp [Board.talk])
  · exact absurd h (by simp [Board.talk])
  · obtain rfl : (a, Hop.far w) = j' := Option.some.inj h
    have e : B.own (B.peer (.far w) c) = B.pass w c := by rw [B.own_eq, B.peer_eq, B.pass_eq]; rfl
    show owns (c.tc : Thread 8 τ) (B.slot a (B.own (B.peer (.far w) c))) fullShare (W a (B.own (B.peer (.far w) c)))
      ⊢ owns (c.tc : Thread 8 τ) (B.slot a (B.pass w c)) fullShare (W a (B.pass w c))
    rw [e]

/-- A resource for every send of an array. -/
theorem bigSep_hops (Φ : Hop → AA 8 τ sig Val) :
    bigSep Finset.univ Φ = iprop(Φ .sib ∗ (bigSep Finset.univ fun w => Φ (.far w)) ∗ bigSep Finset.univ fun w => Φ (.fwd w)) := by
  rw [bigSep_univ_equiv Hop.equiv Φ, bigSep_univ_sum, bigSep_univ_sum]
  exact congrArg (fun P : AA 8 τ sig Val => iprop(P ∗ _)) (bigSep_singleton (Φ := fun a : Unit => Φ (Hop.equiv (Sum.inl a))))

/-- A resource for every way to another chip. -/
theorem bigSep_ways (Φ : Way → AA 8 τ sig Val) :
    bigSep Finset.univ Φ = iprop(Φ .x ∗ Φ .y ∗ Φ .xy) := by
  rw [show (Finset.univ : Finset Way) = insert .x (insert .y {.xy}) from rfl, bigSep_insert (by decide), bigSep_insert (by decide), bigSep_singleton]
  rfl

/-- A resource for every block, by the way the block comes to device `c`. -/
theorem bigSep_blocks (c : Dev 8) (Φ : Fin 8 → AA 8 τ sig Val) :
    bigSep Finset.univ Φ = iprop(Φ c ∗ bigSep Finset.univ fun h : Hop => Φ (h.block (h.go c))) := by
  rw [bigSep_univ_equiv (Equiv.ofBijective _ (arrives_bijective c)) Φ, bigSep_univ_sum]
  exact congrArg (fun P : AA 8 τ sig Val => iprop(P ∗ _)) (bigSep_singleton (Φ := fun a : Unit => Φ (arrives c (Sum.inl a))))

/-- The block a send carries, when the kernel's own computation of it is right. -/
theorem Board.blk_rem (d : Fin 8) (a : A) (h : Hop) : B.blk d (.rem (a, h)) = h.block d := by
  rcases h with _ | w | w
  exacts [B.own_eq d, B.own_eq d, B.pass_eq w d]

/-- What a device starts from: its blocks, and its slots at any contents. -/
def Board.hands (c : Dev 8) : AA 8 τ sig Val :=
  iprop((bigSep Finset.univ fun a => owns (c.tc : Thread 8 τ) (B.inp a) fullShare (W a c))
    ∗ bigSep Finset.univ fun a => bigSep Finset.univ fun b => ownsSat (c.tc : Thread 8 τ) (B.slot a b) fullShare (fun _ => True))

/-- What a device keeps aside: half of each of its blocks. -/
def Board.keeps (c : Dev 8) : AA 8 τ sig Val :=
  bigSep Finset.univ fun a => owns (c.tc : Thread 8 τ) (B.inp a) fullShare.left (W a c)

/-- A block, split for its readers. -/
theorem owns_readers (c : Dev 8) {sh : Shape} {el : EltTy} (M : Memref sig .tc .hbm sh el) (X : sh.Idx → Val el) :
    (owns (c.tc : Thread 8 τ) M fullShare X : AA 8 τ sig Val) ⊢ iprop(owns (c.tc : Thread 8 τ) M fullShare.left X
      ∗ owns (c.tc : Thread 8 τ) M fullShare.right.left X ∗ owns (c.tc : Thread 8 τ) M fullShare.right.right.left X
      ∗ owns (c.tc : Thread 8 τ) M fullShare.right.right.right.left X
      ∗ owns (c.tc : Thread 8 τ) M fullShare.right.right.right.right.left X
      ∗ owns (c.tc : Thread 8 τ) M fullShare.right.right.right.right.right X) := by
  have h (q : PosShare TreeShare) : (owns (c.tc : Thread 8 τ) M q X : AA 8 τ sig Val)
      ⊢ iprop(owns (c.tc : Thread 8 τ) M q.left X ∗ owns (c.tc : Thread 8 τ) M q.right X) := (owns_halves (c.tc : Thread 8 τ) M q X).1
  iintro H
  ihave H := (h fullShare) $$ H
  icases H with ⟨H0, H⟩
  ihave H := (h fullShare.right) $$ H
  icases H with ⟨H1, H⟩
  ihave H := (h fullShare.right.right) $$ H
  icases H with ⟨H2, H⟩
  ihave H := (h fullShare.right.right.right) $$ H
  icases H with ⟨H3, H⟩
  ihave H := (h fullShare.right.right.right.right) $$ H
  icases H with ⟨H4, H5⟩
  isplitl [H0]; · iexact H0
  isplitl [H1]; · iexact H1
  isplitl [H2]; · iexact H2
  isplitl [H3]; · iexact H3
  isplitl [H4]; · iexact H4
  iexact H5

theorem hands_mem (c : Dev 8) : B.hands W c ⊢ iprop(B.keeps W c ∗ B.talk.mem (B.load W) c) := by
  have hsrc : (bigSep Finset.univ fun a => (owns (c.tc : Thread 8 τ) (B.inp a) fullShare (W a c) : AA 8 τ sig Val))
      ⊢ iprop(B.keeps W c ∗ bigSep (Finset.univ.filter fun x => B.talk.first x = true) fun x =>
          owns (c.tc : Thread 8 τ) (B.talk.src c x) ((B.load W).q x) ((B.load W).X c x)) := by
    rw [bigSep_filter, bigSep_xfers, bigSep_univ_prod, ← bigSep_sep']
    unfold Board.keeps
    rw [← bigSep_sep']
    refine bigSep_mono fun a _ => ?_
    rw [bigSep_hops, bigSep_ways, bigSep_ways]
    refine (owns_readers c (B.inp a) (W a c)).trans ?_
    have e : B.own c = c := B.own_eq c
    show _ ⊢ iprop(owns (c.tc : Thread 8 τ) (B.inp a) fullShare.left (W a c)
      ∗ owns (c.tc : Thread 8 τ) (B.inp a) fullShare.right.left (W a (B.own c))
      ∗ owns (c.tc : Thread 8 τ) (B.inp a) fullShare.right.right.left (W a (B.own c))
      ∗ (owns (c.tc : Thread 8 τ) (B.inp a) fullShare.right.right.right.left (W a (B.own c))
        ∗ owns (c.tc : Thread 8 τ) (B.inp a) fullShare.right.right.right.right.left (W a (B.own c))
        ∗ owns (c.tc : Thread 8 τ) (B.inp a) fullShare.right.right.right.right.right (W a (B.own c)))
      ∗ (emp ∗ emp ∗ emp))
    rw [e]
    iintro ⟨H0, H1, H2, H3, H4, H5⟩
    isplitl [H0]; · iexact H0
    isplitl [H1]; · iexact H1
    isplitl [H2]; · iexact H2
    isplitl
    · isplitl [H3]; · iexact H3
      isplitl [H4]; · iexact H4
      iexact H5
    · isplitr; · iempintro
      isplitr <;> iempintro
  have hslot : (bigSep Finset.univ fun a => bigSep Finset.univ fun b => (ownsSat (c.tc : Thread 8 τ) (B.slot a b) fullShare (fun _ => True) : AA 8 τ sig Val))
      ⊢ iprop((bigSep Finset.univ fun a : A => ownsSat (c.tc : Thread 8 τ) (B.talk.dst c (.loc a)) fullShare (fun _ => True))
          ∗ bigSep Finset.univ fun j : A × Hop => ownsSat (c.tc : Thread 8 τ) (B.talk.dst (B.talk.peer c j) (.rem j)) fullShare (fun _ => True)) := by
    refine Entails.of_eq ?_
    rw [bigSep_univ_prod, ← bigSep_sep']
    refine bigSep_congr fun a _ => ?_
    rw [bigSep_blocks c]
    have e0 : B.blk c (.loc a) = c := B.own_eq c
    have e1 : ∀ h, B.blk (B.peer h c) (.rem (a, h)) = h.block (h.go c) := fun h => by rw [B.blk_rem, B.peer_eq]
    show _ = iprop(ownsSat (c.tc : Thread 8 τ) (B.slot a (B.blk c (.loc a))) fullShare (fun _ => True)
      ∗ bigSep Finset.univ fun h => ownsSat (c.tc : Thread 8 τ) (B.slot a (B.blk (B.peer h c) (.rem (a, h)))) fullShare (fun _ => True))
    rw [e0]
    simp only [e1]
  unfold Board.hands Talk.mem
  iintro ⟨H1, H2⟩
  ihave H1 := hsrc $$ H1
  icases H1 with ⟨HZ, H1⟩
  ihave H2 := hslot $$ H2
  isplitl [HZ]; · iexact HZ
  isplitl [H1]; · iexact H1
  iexact H2

/-! ## What the run leaves -/

/-- A memref owned at contents `X` reads as `X` in the final memory. -/
theorem owns_reads (c : Dev 8) {sh : Shape} {el : EltTy} (M : Memref sig .tc .hbm sh el) (q : PosShare TreeShare) (X : sh.Idx → Val el)
    (s : Phys 8 τ sig Val) :
    iprop((owns (c.tc : Thread 8 τ) M q X : AA 8 τ sig Val) ∗ SI s) ⊢ ⌜M.view.read Val (s.mem.mem (M.view.loc (c.tc : Thread 8 τ))) = X⌝ := by
  unfold owns
  iintro ⟨⟨%f, %hf, H⟩, HSI⟩
  icombine HSI H gives %h
  ipureintro
  rw [← hf]
  funext i
  rw [View.read_apply, View.read_apply, h _ (M.view.emb_mem_set i)]

/-- The key whose payment is device `c`'s slot `b`. -/
theorem slot_paid (c : Dev 8) (b : Fin 8) (a : A) : ∃ k ∈ (gatherPays : Finset (Key A (A × Hop))),
    B.talk.pay (B.load W) c k = (owns (c.tc : Thread 8 τ) (B.slot a b) fullShare (W a b) : AA 8 τ sig Val) := by
  obtain ⟨u | h, rfl⟩ := (arrives_bijective c).2 b
  · refine ⟨.loc a, Finset.mem_filter.mpr ⟨Finset.mem_univ _, rfl⟩, ?_⟩
    show owns (c.tc : Thread 8 τ) (B.slot a (B.own c)) fullShare (W a (B.own c)) = _
    rw [B.own_eq]; rfl
  · have hr : B.talk.pay (B.load W) c (.rcv (a, h)) = (owns (c.tc : Thread 8 τ) (B.slot a (arrives c (.inr h))) fullShare (W a (arrives c (.inr h))) : AA 8 τ sig Val) := by
      show owns (c.tc : Thread 8 τ) (B.slot a (B.blk (B.peer h c) (.rem (a, h)))) fullShare (W a (B.blk (B.peer h c) (.rem (a, h)))) = _
      rw [B.blk_rem, B.peer_eq]; rfl
    rcases h with _ | w | w
    · exact ⟨.rcv (a, .sib), Finset.mem_filter.mpr ⟨Finset.mem_univ _, rfl⟩, hr⟩
    · refine ⟨.snd (a, .fwd w), Finset.mem_filter.mpr ⟨Finset.mem_univ _, rfl⟩, ?_⟩
      show owns (c.tc : Thread 8 τ) (B.slot a (B.pass w c)) fullShare (W a (B.pass w c)) = _
      rw [B.pass_eq]; rfl
    · exact ⟨.rcv (a, .fwd w), Finset.mem_filter.mpr ⟨Finset.mem_univ _, rfl⟩, hr⟩

/-- The final memory of a device: its blocks as they were, and every slot the block of its device. -/
def Board.Gathered (c : Dev 8) (s : MemSt 8 τ sig Val) : Prop :=
  (∀ a, (B.inp a).view.read Val (s.mem ((B.inp a).view.loc (c.tc : Thread 8 τ))) = W a c)
    ∧ ∀ a b, (B.slot a b).view.read Val (s.mem ((B.slot a b).view.loc (c.tc : Thread 8 τ))) = W a b

theorem gathered (c : Dev 8) (s : Phys 8 τ sig Val) :
    iprop((bigSep gatherPays (B.talk.pay (B.load W) c)) ∗ B.keeps W c ∗ SI s) ⊢ |={Set.univ}=> iprop(⌜B.Gathered W c s.mem⌝ ∗ SI s) := by
  have h1 : ∀ a, iprop((bigSep gatherPays (B.talk.pay (B.load W) c)) ∗ B.keeps W c ∗ SI s)
      ⊢ ⌜(B.inp a).view.read Val (s.mem.mem ((B.inp a).view.loc (c.tc : Thread 8 τ))) = W a c⌝ := by
    intro a
    have hk : B.keeps W c ⊢ owns (c.tc : Thread 8 τ) (B.inp a) fullShare.left (W a c) := bigSep_elim (Finset.mem_univ a)
    iintro ⟨-, HZ, HSI⟩
    ihave HZ := hk $$ HZ
    iapply (owns_reads c (B.inp a) fullShare.left (W a c) s)
    isplitl [HZ]; · iexact HZ
    iexact HSI
  have h2 : ∀ a b, iprop((bigSep gatherPays (B.talk.pay (B.load W) c)) ∗ B.keeps W c ∗ SI s)
      ⊢ ⌜(B.slot a b).view.read Val (s.mem.mem ((B.slot a b).view.loc (c.tc : Thread 8 τ))) = W a b⌝ := by
    intro a b
    obtain ⟨k, hk, e⟩ := slot_paid B W c b a
    have hp : bigSep gatherPays (B.talk.pay (B.load W) c) ⊢ owns (c.tc : Thread 8 τ) (B.slot a b) fullShare (W a b) := by
      rw [← e]; exact bigSep_elim hk
    iintro ⟨HP, -, HSI⟩
    ihave HP := hp $$ HP
    iapply (owns_reads c (B.slot a b) fullShare (W a b) s)
    isplitl [HP]; · iexact HP
    iexact HSI
  have h : iprop((bigSep gatherPays (B.talk.pay (B.load W) c)) ∗ B.keeps W c ∗ SI s) ⊢ ⌜B.Gathered W c s.mem⌝ := by
    exact fun w hw => ⟨fun a => h1 a w hw, fun a b => h2 a b w hw⟩
  suffices hs : B.Gathered W c s.mem → iprop((bigSep gatherPays (B.talk.pay (B.load W) c)) ∗ B.keeps W c ∗ SI s)
      ⊢ |={Set.univ}=> iprop(⌜B.Gathered W c s.mem⌝ ∗ SI s) from fun w hw => hs (h w hw) w hw
  intro hG
  iintro ⟨-, -, HSI⟩
  imodintro
  isplitr; · ipureintro; exact hG
  iexact HSI

/-- The run of a gather: from any memory, every execution ends, with every slot of every device the block its device had. -/
theorem θ_run_gather {Λ₀ : Labels} (cfgs : Fin 1 → Cfg sig Λ₀) [hW : ∀ p, IsEmpty (Fin (cfgs p).W)] (hN : (cfgs 0).N = 1)
    (hinj : Function.Injective (cellOf (nD := 8) (τ := τ) cfgs)) (hw : WinFacts₀ (cfgs 0).spec) (ho : OwnSemFacts (cfgs 0).spec B.talk.osem)
    [∀ e, Nonempty (Val e)] (defs₀ : Defs 8 τ sig Val Λ₀) (𝒱₀ : Variants) (m : (ℓ : Loc 8 τ sig) → Buf Val ℓ) (g : Dev 8 → PrngReg)
    (main : Dev 8 → Prog (TpuEff 8 τ sig Val (Sig Λ₀ (Fin 1) fun p => (pcsOf cfgs Val p).Adm) .tc) PUnit)
    (hmain : ∀ c, main c = .op (.customCall (entry 0) ()) fun _ => .ret ⟨⟩)
    (xs : List A) (hok : B.talk.ok (gatherCmds xs) gatherPays = true)
    (hbody : ∀ (c : Dev 8) (t : Fin (cfgs 0).N) (R : AA 8 τ sig Val),
      wp frame (wpE defs₀ 𝒱₀ (c.tc : Thread 8 τ) none) Set.univ (.op .deviceId fun d => B.talk.prog Val Λ₀ d (gatherCmds xs)) (fun _ => R)
        ⊢ wp frame (wpE defs₀ 𝒱₀ (c.tc : Thread 8 τ) none) Set.univ (defs₀ .tc (cfgs 0).body ((cfgs 0).bodyArgs t ((cfgs 0).slots t))) fun _ => R)
    (hmem : ∀ c, unscopedRest (cfgs 0).spec c (fun b => m ((c.tc : Thread 8 τ).loc b)) ⊢ B.hands W c)
    {Q} (hQ : ∀ s : MemSt 8 τ sig Val, (∀ c, B.Gathered W c s) → (∀ g', (g'.1.2 ≠ .tc ∨ g'.2.isScoped .tc = true) → s.sem g' = 0) → Q (⟨⟩, s)) :
    θ_run (Pipeline.defs (pcsOf cfgs Val) defs₀) (onTc main) ⟨m, fun _ => 0, g⟩ Q := by
  refine θ_run_talk B.talk (B.load W) cfgs hN hinj hw ho defs₀ 𝒱₀ m g main hmain (gatherCmds xs) gatherPays hok (gather_forwards B W) ?_
    (B.keeps W) (fun c => (hmem c).trans (hands_mem B W c)) (B.Gathered W) (gathered B W) hQ
  intro c t R
  refine Entails.trans ?_ (hbody c t R)
  rw [wp_deviceId]

end Board

/-- The parts of a buffer, any two apart. -/
theorem points_parts (q : PosShare TreeShare) {ℓ : Loc 8 τ sig} (f : Buf Val ℓ) {T : Type} [Fintype T] (K : T → Finset (Idx ℓ))
    (hd : ∀ t t', t ≠ t' → Disjoint (K t) (K t')) :
    (ℓ ↦{q} f : AA 8 τ sig Val) ⊢ bigSep Finset.univ fun t => (ℓ ↦[K t]{q} f) := by
  have h1 : (ℓ ↦[Finset.univ.biUnion K]{q} f : AA 8 τ sig Val) = bigSep Finset.univ fun t => (ℓ ↦[K t]{q} f) :=
    pointsTo_biUnion Finset.univ K fun t _ t' _ => hd t t'
  have h2 : (ℓ ↦{q} f : AA 8 τ sig Val) ⊢ iprop((ℓ ↦[Finset.univ.biUnion K]{q} f) ∗ ℓ ↦[Finset.univ \ Finset.univ.biUnion K]{q} f) :=
    (pointsTo_split_subset (Finset.subset_univ _)).1
  rw [← h1]
  refine h2.trans ?_
  iintro ⟨H, -⟩
  iexact H

/-- A part of a buffer, squeezed, is owned. -/
theorem owns_part (c : Dev 8) {s s' : Shape} {e : EltTy} (M : Memref sig .tc .hbm s e) (f : M.view.ty.Contents Val) (r : Rect s)
    (hr : ∀ a, r.stride a = 1) (hs : r.shape.Squeezes s') :
    (M.view.loc (c.tc : Thread 8 τ) ↦[(M.view.slice r).set]{fullShare} f : AA 8 τ sig Val)
      ⊢ ownsSat (c.tc : Thread 8 τ) ((M.slice r hr).squeeze s' hs) fullShare (fun _ => True) := by
  have h := ownsSat_of (Ix := Unit) (Name := ℕ) (U := UU 8 τ sig) (Lvl := ℕ) (c.tc : Thread 8 τ) ((M.slice r hr).squeeze s' hs) fullShare
    (Φ := fun _ => True) (f := f) trivial
  refine Entails.trans (Entails.of_eq ?_) h
  show _ = (M.view.loc (c.tc : Thread 8 τ) ↦[((M.view.slice r).reshape s' hs.numel_eq).set]{fullShare} f : AA 8 τ sig Val)
  rw [View.set_reshape]

/-- The parts of a buffer cut along unit rectangles, of which any two are apart along some axis. -/
theorem cut (c : Dev 8) {s s' : Shape} {e : EltTy} (M : Memref sig .tc .hbm s e) {T : Type} [Fintype T]
    (off : T → Fin s.rank → ℕ) (size : Fin s.rank → ℕ) (inb : ∀ t a, off t a + size a ≤ s.size a)
    (hs : (⟨s.rank, size⟩ : Shape).Squeezes s')
    (hsep : ∀ t t', t ≠ t' → ∃ a, off t a + size a ≤ off t' a ∨ off t' a + size a ≤ off t a) (f : M.view.ty.Contents Val) :
    (M.view.loc (c.tc : Thread 8 τ) ↦{fullShare} f : AA 8 τ sig Val)
      ⊢ bigSep Finset.univ fun t => ownsSat (c.tc : Thread 8 τ)
          ((M.slice (Rect.unit (s := s) (off t) size (inb t)) (fun _ => rfl)).squeeze s' hs) fullShare (fun _ => True) := by
  have h1 := points_parts (Val := Val) fullShare (ℓ := M.view.loc (c.tc : Thread 8 τ)) f
    (fun t => (M.view.slice (Rect.unit (s := s) (off t) size (inb t))).set) fun t t' hne => by
      obtain ⟨a, ha⟩ := hsep t t' hne
      exact View.disjoint_slice_of_sep M.view _ _ a rfl rfl ha
  exact h1.trans (bigSep_mono fun t _ => owns_part c M f (Rect.unit (s := s) (off t) size (inb t)) (fun _ => rfl) hs)

end Cert.Exchange

end
-- ==== Proof.Weights.lean ====
/-
  The all-gather of the weights, as a `Board`: six arrays, in the order the kernel takes them.
-/
module

public import proofs.«01_k».proof.Proof.Gather
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option Elab.async false

noncomputable section

namespace Cert.Weights

open Idealize.ShloMosaic Idealize.ShloMosaic.TcCoe
open Idealize.SL Idealize.SL.Sem
open Cert.Exchange Cert.KernelIdeal Cert.KernelIdeal.Facts₀ Cert.KernelIdeal.Facts

/-- The arrays that are gathered. -/
inductive Wt : Type
  | cond | win | wout | gate | up | down
  deriving DecidableEq

/-- An array's place in the kernel's list. -/
def Wt.num : Wt → Fin 6
  | .cond => 0 | .win => 1 | .wout => 2 | .gate => 3 | .up => 4 | .down => 5

/-- All arrays, in the kernel's order. -/
def weights : List Wt := [.cond, .win, .wout, .gate, .up, .down]

instance : Fintype Wt := ⟨{.cond, .win, .wout, .gate, .up, .down}, by rintro (_ | _ | _ | _ | _ | _) <;> decide⟩

/-- A send's place among an array's sends. -/
def place : Hop → Fin 7
  | .sib => 0 | .far .x => 1 | .far .y => 2 | .far .xy => 3 | .fwd .x => 4 | .fwd .y => 5 | .fwd .xy => 6

theorem in_sems (i : Fin 6) (k : Fin 7) : ∀ a, (![i.val, k.val] : Fin 2 → Nat) a + S1x1.size a ≤ S6x7.size a := by
  revert i k; decide
theorem in_locals (i : Fin 6) : ∀ a, (![i.val] : Fin 1 → Nat) a + S1.size a ≤ S6.size a := by
  revert i; decide
theorem in_cond (b : Fin 8) : ∀ a, (![b.val, 0, 0] : Fin 3 → Nat) a + S1x2x1024.size a ≤ S8x2x1024.size a := by
  revert b; decide
theorem in_win (b : Fin 8) : ∀ a, (![b.val, 0, 0] : Fin 3 → Nat) a + S1x256x1024.size a ≤ S8x256x1024.size a := by
  revert b; decide
theorem in_wout (b : Fin 8) : ∀ a, (![b.val, 0, 0] : Fin 3 → Nat) a + S1x128x1024.size a ≤ S8x128x1024.size a := by
  revert b; decide
theorem in_gu (i : Fin 2) (b : Fin 8) : ∀ a, (![i.val, b.val, 0, 0] : Fin 4 → Nat) a + S1x1x352x1024.size a ≤ S2x8x352x1024.size a := by
  revert i b; decide
theorem in_down (b : Fin 8) : ∀ a, (![b.val, 0, 0] : Fin 3 → Nat) a + S1x352x1024.size a ≤ S8x352x1024.size a := by
  revert b; decide

theorem words_win (b : Fin 8) : (Rect.unit (s := S8x256x1024) ![b.val, 0, 0] S1x256x1024.size (in_win b)).WholeWords (EltTy.packing .bf16) := by
  revert b; decide +kernel
theorem words_wout (b : Fin 8) : (Rect.unit (s := S8x128x1024) ![b.val, 0, 0] S1x128x1024.size (in_wout b)).WholeWords (EltTy.packing .bf16) := by
  revert b; decide +kernel
theorem words_gu (i : Fin 2) (b : Fin 8) :
    (Rect.unit (s := S2x8x352x1024) ![i.val, b.val, 0, 0] S1x1x352x1024.size (in_gu i b)).WholeWords (EltTy.packing .bf16) := by
  revert i b; decide +kernel
theorem words_down (b : Fin 8) : (Rect.unit (s := S8x352x1024) ![b.val, 0, 0] S1x352x1024.size (in_down b)).WholeWords (EltTy.packing .bf16) := by
  revert b; decide +kernel

section

variable [Cert.KernelIdeal.Facts]

def shapes : Wt → Shape
  | .cond => S2x1024 | .win => S256x1024 | .wout => S128x1024 | .gate => S352x1024 | .up => S352x1024 | .down => S352x1024
def elts : Wt → EltTy
  | .cond => .f32 | .win => .bf16 | .wout => .bf16 | .gate => .bf16 | .up => .bf16 | .down => .bf16
def input : (a : Wt) → Memref sig .tc .hbm (shapes a) (elts a)
  | .cond => Memref.whole main_arg0
  | .win => Memref.whole main_arg1
  | .wout => Memref.whole main_arg2
  | .gate => Memref.whole main_arg3
  | .up => Memref.whole main_arg4
  | .down => Memref.whole main_arg5
def slots : (a : Wt) → Fin 8 → Memref sig .tc .hbm (shapes a) (elts a)
  | .cond, b => ((Memref.whole main_v1_0).slice (Rect.unit (s := S8x2x1024) ![b.val, 0, 0] S1x2x1024.size (in_cond b)) (fun _ => rfl)).squeeze S2x1024 squeezes_S1x2x1024_S2x1024
  | .win, b => ((Memref.whole main_v1_1).slice (Rect.unit (s := S8x256x1024) ![b.val, 0, 0] S1x256x1024.size (in_win b)) (fun _ => rfl)).squeeze S256x1024 squeezes_S1x256x1024_S256x1024
  | .wout, b => ((Memref.whole main_v1_2).slice (Rect.unit (s := S8x128x1024) ![b.val, 0, 0] S1x128x1024.size (in_wout b)) (fun _ => rfl)).squeeze S128x1024 squeezes_S1x128x1024_S128x1024
  | .gate, b => ((Memref.whole main_v1_3).slice (Rect.unit (s := S2x8x352x1024) ![(0 : Fin 2).val, b.val, 0, 0] S1x1x352x1024.size (in_gu 0 b)) (fun _ => rfl)).squeeze S352x1024 squeezes_S1x1x352x1024_S352x1024
  | .up, b => ((Memref.whole main_v1_3).slice (Rect.unit (s := S2x8x352x1024) ![(1 : Fin 2).val, b.val, 0, 0] S1x1x352x1024.size (in_gu 1 b)) (fun _ => rfl)).squeeze S352x1024 squeezes_S1x1x352x1024_S352x1024
  | .down, b => ((Memref.whole main_v1_4).slice (Rect.unit (s := S8x352x1024) ![b.val, 0, 0] S1x352x1024.size (in_down b)) (fun _ => rfl)).squeeze S352x1024 squeezes_S1x352x1024_S352x1024

/-- The slots, as the kernel computes them. -/
def ownAt (d : Fin 8) : Fin 8 := ⟨k0_off1 d 0, by revert d; decide⟩
def passAt : Way → Fin 8 → Fin 8
  | .x, d => ⟨k0_off7 d 0, by revert d; decide⟩
  | .y, d => ⟨k0_off13 d 0, by revert d; decide⟩
  | .xy, d => ⟨k0_off19 d 0, by revert d; decide⟩
/-- The peers, as the kernel computes them. -/
def peerAt : Hop → Fin 8 → Fin 8
  | .sib, d => ⟨k0_dev1 d, k0_dev1_lt d⟩
  | .far .x, d => ⟨k0_dev2 d, k0_dev2_lt d⟩
  | .far .y, d => ⟨k0_dev3 d, k0_dev3_lt d⟩
  | .far .xy, d => ⟨k0_dev4 d, k0_dev4_lt d⟩
  | .fwd .x, d => ⟨k0_dev25 d, k0_dev25_lt d⟩
  | .fwd .y, d => ⟨k0_dev31 d, k0_dev31_lt d⟩
  | .fwd .xy, d => ⟨k0_dev37 d, k0_dev37_lt d⟩

/-- The semaphores: `0`–`41` a send's own, `42`–`83` its receiver's, `84`–`89` the local copies'. -/
def sems : Key Wt (Wt × Hop) → DmaSem sig
  | .loc a => ((cc0_scratch2.slice (Rect.unit (s := S6) ![a.num.val] S1.size (in_locals a.num))).squeeze S_ squeezes_S1_S_).sem
  | .snd (a, h) => ((cc0_scratch0.slice (Rect.unit (s := S6x7) ![a.num.val, (place h).val] S1x1.size (in_sems a.num (place h)))).squeeze S_ squeezes_S1x1_S_).sem
  | .rcv (a, h) => ((cc0_scratch1.slice (Rect.unit (s := S6x7) ![a.num.val, (place h).val] S1x1.size (in_sems a.num (place h)))).squeeze S_ squeezes_S1x1_S_).sem

def semNum : Key Wt (Wt × Hop) → ℕ
  | .loc a => 84 + a.num.val
  | .snd (a, h) => 7 * a.num.val + (place h).val
  | .rcv (a, h) => 42 + (7 * a.num.val + (place h).val)

theorem sems_val : ∀ k, (sems k).val = semNum k := by
  decide +kernel

theorem sems_inj : Function.Injective sems := by
  have h : ∀ k k', semNum k = semNum k' → k = k' := by decide +kernel
  intro k k' e
  exact h k k' (by rw [← sems_val, ← sems_val, e])

/-- The gather of the weights. -/
def board : Board τ sig Wt where
  sh := shapes
  el := elts
  inp := input
  slot := slots
  inpExact := by rintro (_ | _ | _ | _ | _ | _) <;> exact (Memref.isWhole_whole _).wordExact
  slotExact
    | .cond, _ => (View.wordExact_bits rfl).reshape _ _
    | .win, b => ((Memref.isWhole_whole _).wordExact_slice rfl _ (words_win b)).reshape _ _
    | .wout, b => ((Memref.isWhole_whole _).wordExact_slice rfl _ (words_wout b)).reshape _ _
    | .gate, b => ((Memref.isWhole_whole _).wordExact_slice rfl _ (words_gu 0 b)).reshape _ _
    | .up, b => ((Memref.isWhole_whole _).wordExact_slice rfl _ (words_gu 1 b)).reshape _ _
    | .down, b => ((Memref.isWhole_whole _).wordExact_slice rfl _ (words_down b)).reshape _ _
  slotHbm := by rintro (_ | _ | _ | _ | _ | _) b <;> rfl
  own := ownAt
  pass := passAt
  peer := peerAt
  own_eq := by decide
  pass_eq := by decide
  peer_eq := by decide
  routes c c' := by revert c c'; decide
  sem := sems
  sem_inj := sems_inj
  numel_pos := by rintro (_ | _ | _ | _ | _ | _) <;> decide
  slot_amt := by rintro (_ | _ | _ | _ | _ | _) b <;> rfl
  inp_amt := by rintro (_ | _ | _ | _ | _ | _) <;> rfl
  own_amt := by rintro (_ | _ | _ | _ | _ | _) <;> rfl

/-- The kernel's body is the gather's commands. -/
theorem body_eq {F : FTy → Type} [FloatOps F] (t : Fin cfg0.N) :
    Gen.bodyAt0 (F := F) t = .op .deviceId fun d => board.talk.prog (Elt F) Λ₀ d (gatherCmds weights) := by
  rfl

end

end Cert.Weights

end
-- ==== Proof.Blocks.lean ====
/-
  What an array is, given what its slots hold: if slot `b` of a stack of blocks holds rows `b·R …` of an array, the
  stack is that array reshaped.
-/
module

public import Idealize.ShloMosaic.Lib.Layout
public import Idealize.ShloMosaic.Lib.Pipeline.Value

@[expose] public section

namespace Cert.Exchange

open Idealize.ShloMosaic Idealize.ShloMosaic.Pipeline

variable {α : Type}

/-- An index of three coordinates. -/
def at3 {d : Fin 3 → ℕ} (i : Fin (d 0)) (j : Fin (d 1)) (k : Fin (d 2)) : (⟨3, d⟩ : Shape).Idx
  | ⟨0, _⟩ => i | ⟨1, _⟩ => j | ⟨2, _⟩ => k

/-- An index of four coordinates. -/
def at4 {d : Fin 4 → ℕ} (h : Fin (d 0)) (i : Fin (d 1)) (j : Fin (d 2)) (k : Fin (d 3)) : (⟨4, d⟩ : Shape).Idx
  | ⟨0, _⟩ => h | ⟨1, _⟩ => i | ⟨2, _⟩ => j | ⟨3, _⟩ => k

/-- Row `r`, column `k` of slot `b` of a stack. -/
theorem slot3_emb {n R C : ℕ} (b : Fin n) (r : Fin R) (k : Fin C) (inb : ∀ a, (![b.val, 0, 0] : Fin 3 → ℕ) a + (![1, R, C] : Fin 3 → ℕ) a ≤ (![n, R, C] : Fin 3 → ℕ) a)
    (h : (⟨2, ![R, C]⟩ : Shape).numel = (⟨3, ![1, R, C]⟩ : Shape).numel) :
    (Rect.unit (s := ⟨3, ![n, R, C]⟩) ![b.val, 0, 0] ![1, R, C] inb).emb (Shape.reshapeEquiv (s := ⟨3, ![1, R, C]⟩) h (Shape.pair (d := ![R, C]) r k))
      = at3 (d := ![n, R, C]) b r k := by
  have e : Shape.reshapeEquiv (s := ⟨3, ![1, R, C]⟩) h (Shape.pair (d := ![R, C]) r k) = at3 (d := ![1, R, C]) ⟨0, Nat.one_pos⟩ r k := by
    apply Shape.reshapeEquiv_eq_of_rowMajor
    refine (Shape.rowMajor_val_three _).trans (Eq.trans ?_ (Shape.rowMajor_val_two _).symm)
    show (0 * R + r.val) * C + k.val = r.val * C + k.val
    rw [Nat.zero_mul, Nat.zero_add]
  rw [e]
  funext a
  apply Fin.ext
  rw [Rect.emb_apply]
  match a with
  | ⟨0, _⟩ => show b.val + 1 * 0 = b.val; omega
  | ⟨1, _⟩ => show 0 + 1 * r.val = r.val; omega
  | ⟨2, _⟩ => show 0 + 1 * k.val = k.val; omega

/-- Row `r`, column `k` of slot `b` of stack `i` of several stacks. -/
theorem slot4_emb {N n R C : ℕ} (i : Fin N) (b : Fin n) (r : Fin R) (k : Fin C)
    (inb : ∀ a, (![i.val, b.val, 0, 0] : Fin 4 → ℕ) a + (![1, 1, R, C] : Fin 4 → ℕ) a ≤ (![N, n, R, C] : Fin 4 → ℕ) a)
    (h : (⟨2, ![R, C]⟩ : Shape).numel = (⟨4, ![1, 1, R, C]⟩ : Shape).numel) :
    (Rect.unit (s := ⟨4, ![N, n, R, C]⟩) ![i.val, b.val, 0, 0] ![1, 1, R, C] inb).emb (Shape.reshapeEquiv (s := ⟨4, ![1, 1, R, C]⟩) h (Shape.pair (d := ![R, C]) r k))
      = at4 (d := ![N, n, R, C]) i b r k := by
  have e : Shape.reshapeEquiv (s := ⟨4, ![1, 1, R, C]⟩) h (Shape.pair (d := ![R, C]) r k) = at4 (d := ![1, 1, R, C]) ⟨0, Nat.one_pos⟩ ⟨0, Nat.one_pos⟩ r k := by
    apply Shape.reshapeEquiv_eq_of_rowMajor
    refine (Shape.rowMajor_val_four _).trans (Eq.trans ?_ (Shape.rowMajor_val_two _).symm)
    show ((0 * 1 + 0) * R + r.val) * C + k.val = r.val * C + k.val
    simp
  rw [e]
  funext a
  apply Fin.ext
  rw [Rect.emb_apply]
  match a with
  | ⟨0, _⟩ => show i.val + 1 * 0 = i.val; omega
  | ⟨1, _⟩ => show b.val + 1 * 0 = b.val; omega
  | ⟨2, _⟩ => show 0 + 1 * r.val = r.val; omega
  | ⟨3, _⟩ => show 0 + 1 * k.val = k.val; omega

/-- The reshape of an array of rows into a stack of blocks, at row `r` of block `b`. -/
theorem stack_at {n R C T : ℕ} (A : (⟨2, ![T, C]⟩ : Shape).Idx → α) (hc : (⟨2, ![T, C]⟩ : Shape).ShapeCasts ⟨3, ![n, R, C]⟩)
    (ht : Layout.Tiles ⟨2, ![R, C]⟩ ⟨2, ![T, C]⟩ 0 n) (b : Fin n) (r : Fin R) (k : Fin C) :
    shapeCast ⟨3, ![n, R, C]⟩ A hc (at3 (d := ![n, R, C]) b r k) = Layout.block ⟨2, ![R, C]⟩ ⟨2, ![T, C]⟩ 0 n b A ht (Shape.pair (d := ![R, C]) r k) := by
  refine shapeCast_apply A hc _ _ ?_
  rw [Shape.rowMajor_val_two, Shape.rowMajor_val_three, (Layout.idx_rows_val ht b _).1, (Layout.idx_rows_val ht b _).2]
  rfl

/-- A stack whose slots hold the blocks of an array is the array reshaped. -/
theorem stack_of_slots {n R C T : ℕ} (f : (⟨3, ![n, R, C]⟩ : Shape).Idx → α) (A : (⟨2, ![T, C]⟩ : Shape).Idx → α)
    (hc : (⟨2, ![T, C]⟩ : Shape).ShapeCasts ⟨3, ![n, R, C]⟩) (ht : Layout.Tiles ⟨2, ![R, C]⟩ ⟨2, ![T, C]⟩ 0 n)
    (inb : ∀ (b : Fin n) a, (![b.val, 0, 0] : Fin 3 → ℕ) a + (![1, R, C] : Fin 3 → ℕ) a ≤ (![n, R, C] : Fin 3 → ℕ) a)
    (h : (⟨2, ![R, C]⟩ : Shape).numel = (⟨3, ![1, R, C]⟩ : Shape).numel)
    (hf : ∀ b : Fin n, (fun y => f ((Rect.unit (s := ⟨3, ![n, R, C]⟩) ![b.val, 0, 0] ![1, R, C] (inb b)).emb (Shape.reshapeEquiv (s := ⟨3, ![1, R, C]⟩) h y)))
      = Layout.block ⟨2, ![R, C]⟩ ⟨2, ![T, C]⟩ 0 n b A ht) :
    f = shapeCast ⟨3, ![n, R, C]⟩ A hc := by
  have each : ∀ (b : Fin n) (r : Fin R) (k : Fin C), f (at3 (d := ![n, R, C]) b r k) = shapeCast ⟨3, ![n, R, C]⟩ A hc (at3 (d := ![n, R, C]) b r k) := by
    intro b r k
    rw [stack_at A hc ht, ← hf]
    exact congrArg f (slot3_emb b r k (inb b) h).symm
  funext i
  have e : i = at3 (d := ![n, R, C]) (i 0) (i 1) (i 2) := by
    funext a; match a with | ⟨0, _⟩ => rfl | ⟨1, _⟩ => rfl | ⟨2, _⟩ => rfl
  rw [e]
  exact each (i 0) (i 1) (i 2)

/-- Two stacks whose slots hold the blocks of two arrays are the two arrays reshaped, one behind the other. -/
theorem stacks_of_slots {n R C T : ℕ} (f : (⟨4, ![2, n, R, C]⟩ : Shape).Idx → α) (A B : (⟨2, ![T, C]⟩ : Shape).Idx → α)
    (hc : (⟨2, ![T, C]⟩ : Shape).ShapeCasts ⟨3, ![n, R, C]⟩) (ht : Layout.Tiles ⟨2, ![R, C]⟩ ⟨2, ![T, C]⟩ 0 n)
    (hb : (⟨3, ![n, R, C]⟩ : Shape).BroadcastsInDim ⟨4, ![1, n, R, C]⟩ ![1, 2, 3])
    (hcat : Shape.Concatenates [⟨4, ![1, n, R, C]⟩, ⟨4, ![1, n, R, C]⟩] ⟨4, ![2, n, R, C]⟩ 0)
    (inb : ∀ (i : Fin 2) (b : Fin n) a, (![i.val, b.val, 0, 0] : Fin 4 → ℕ) a + (![1, 1, R, C] : Fin 4 → ℕ) a ≤ (![2, n, R, C] : Fin 4 → ℕ) a)
    (h : (⟨2, ![R, C]⟩ : Shape).numel = (⟨4, ![1, 1, R, C]⟩ : Shape).numel)
    (hA : ∀ b : Fin n, (fun y => f ((Rect.unit (s := ⟨4, ![2, n, R, C]⟩) ![(0 : Fin 2).val, b.val, 0, 0] ![1, 1, R, C] (inb 0 b)).emb (Shape.reshapeEquiv (s := ⟨4, ![1, 1, R, C]⟩) h y)))
      = Layout.block ⟨2, ![R, C]⟩ ⟨2, ![T, C]⟩ 0 n b A ht)
    (hB : ∀ b : Fin n, (fun y => f ((Rect.unit (s := ⟨4, ![2, n, R, C]⟩) ![(1 : Fin 2).val, b.val, 0, 0] ![1, 1, R, C] (inb 1 b)).emb (Shape.reshapeEquiv (s := ⟨4, ![1, 1, R, C]⟩) h y)))
      = Layout.block ⟨2, ![R, C]⟩ ⟨2, ![T, C]⟩ 0 n b B ht) :
    f = concatenate ⟨4, ![2, n, R, C]⟩ 0 [⟨⟨4, ![1, n, R, C]⟩, broadcastInDim ⟨4, ![1, n, R, C]⟩ ![1, 2, 3] hb (shapeCast ⟨3, ![n, R, C]⟩ A hc)⟩,
      ⟨⟨4, ![1, n, R, C]⟩, broadcastInDim ⟨4, ![1, n, R, C]⟩ ![1, 2, 3] hb (shapeCast ⟨3, ![n, R, C]⟩ B hc)⟩] hcat := by
  have bcast : ∀ (X : (⟨3, ![n, R, C]⟩ : Shape).Idx → α) (b : Fin n) (r : Fin R) (k : Fin C),
      broadcastInDim ⟨4, ![1, n, R, C]⟩ ![1, 2, 3] hb X (at4 (d := ![1, n, R, C]) ⟨0, Nat.one_pos⟩ b r k) = X (at3 (d := ![n, R, C]) b r k) := by
    intro X b r k
    refine broadcastInDim_apply _ hb X _ _ fun a => ?_
    match a with
    | ⟨0, _⟩ => show b.val = if n = 1 then 0 else b.val; split <;> omega
    | ⟨1, _⟩ => show r.val = if R = 1 then 0 else r.val; split <;> omega
    | ⟨2, _⟩ => show k.val = if C = 1 then 0 else k.val; split <;> omega
  have each : ∀ (i : Fin 2) (b : Fin n) (r : Fin R) (k : Fin C), f (at4 (d := ![2, n, R, C]) i b r k)
      = concatenate ⟨4, ![2, n, R, C]⟩ 0 [⟨⟨4, ![1, n, R, C]⟩, broadcastInDim ⟨4, ![1, n, R, C]⟩ ![1, 2, 3] hb (shapeCast ⟨3, ![n, R, C]⟩ A hc)⟩,
        ⟨⟨4, ![1, n, R, C]⟩, broadcastInDim ⟨4, ![1, n, R, C]⟩ ![1, 2, 3] hb (shapeCast ⟨3, ![n, R, C]⟩ B hc)⟩] hcat (at4 (d := ![2, n, R, C]) i b r k) := by
    intro i b r k
    match i with
    | ⟨0, _⟩ =>
      refine Eq.trans ?_ (concatenate_pair_apply_left 0 _ _ hcat _ rfl (at4 (d := ![1, n, R, C]) ⟨0, Nat.one_pos⟩ b r k) ?_).symm
      · rw [bcast, stack_at A hc ht, ← hA]
        exact congrArg f (slot4_emb (0 : Fin 2) b r k (inb 0 b) h).symm
      · intro a; match a with | ⟨0, _⟩ => rfl | ⟨1, _⟩ => rfl | ⟨2, _⟩ => rfl | ⟨3, _⟩ => rfl
    | ⟨1, _⟩ =>
      refine Eq.trans ?_ (concatenate_pair_apply_right 0 _ _ hcat _ rfl rfl (at4 (d := ![1, n, R, C]) ⟨0, Nat.one_pos⟩ b r k) ?_ ?_).symm
      · rw [bcast, stack_at B hc ht, ← hB]
        exact congrArg f (slot4_emb (1 : Fin 2) b r k (inb 1 b) h).symm
      · intro a ha
        match a with | ⟨0, _⟩ => exact absurd rfl ha | ⟨1, _⟩ => rfl | ⟨2, _⟩ => rfl | ⟨3, _⟩ => rfl
      · rfl
  funext j
  have e : j = at4 (d := ![2, n, R, C]) (j 0) (j 1) (j 2) (j 3) := by
    funext a; match a with | ⟨0, _⟩ => rfl | ⟨1, _⟩ => rfl | ⟨2, _⟩ => rfl | ⟨3, _⟩ => rfl
  rw [e]
  exact each (j 0) (j 1) (j 2) (j 3)

end Cert.Exchange

end
-- ==== Proof.GatherOne.lean ====
/-
  What the gathers of one array have in common: the array is of f32 and two axes, and its result the stack of the
  devices' blocks.
-/
module

public import proofs.«01_k».proof.Proof.Gather
public import proofs.«01_k».proof.Proof.Blocks

@[expose] public section

set_option Elab.async false

noncomputable section

namespace Cert.Exchange

open Idealize.ShloMosaic Idealize.ShloMosaic.TcCoe Idealize.ShloMosaic.Pipeline
open Idealize.SL Idealize.SL.RA
open Idealize.SL.BI (sProp bigSep bigSep_singleton)
open scoped Idealize.SL.BI
open Idealize.SL.BI.BIBase Idealize.SL.BI.Laws Idealize.SL.ProofMode Idealize.SL.Sem

/-- A send's place among the sends of the array. -/
def Hop.place : Hop → Fin 7
  | .sib => 0 | .far .x => 1 | .far .y => 2 | .far .xy => 3 | .fwd .x => 4 | .fwd .y => 5 | .fwd .xy => 6

/-- The number of a semaphore: `0`–`6` a send's own, `7`–`13` its receiver's, `14` the local copy's. -/
def oneNum : Key Unit (Unit × Hop) → ℕ
  | .loc _ => 14
  | .snd (_, h) => h.place.val
  | .rcv (_, h) => 7 + h.place.val

theorem oneNum_inj : ∀ k k', oneNum k = oneNum k' → k = k' := by decide +kernel

theorem in_sems (k : Fin 7) : ∀ a, (![0, k.val] : Fin 2 → Nat) a + (⟨2, ![1, 1]⟩ : Shape).size a ≤ (⟨2, ![1, 7]⟩ : Shape).size a := by
  revert k; decide
theorem in_locals : ∀ a, (![0] : Fin 1 → Nat) a + (⟨1, ![1]⟩ : Shape).size a ≤ (⟨1, ![1]⟩ : Shape).size a := by
  decide

theorem in_stack {R C : ℕ} (b : Fin 8) :
    ∀ a, (![b.val, 0, 0] : Fin 3 → ℕ) a + (⟨3, ![1, R, C]⟩ : Shape).size a ≤ (⟨3, ![8, R, C]⟩ : Shape).size a := fun a =>
  match a with
  | ⟨0, _⟩ => b.isLt | ⟨1, _⟩ => (Nat.zero_add _).le | ⟨2, _⟩ => (Nat.zero_add _).le

/-- Slots of a stack are apart. -/
theorem apart (size : Fin 3 → ℕ) (h : size 0 = 1) : ∀ b b' : Fin 8, b ≠ b' →
    ∃ a, (![b.val, 0, 0] : Fin 3 → ℕ) a + size a ≤ (![b'.val, 0, 0] : Fin 3 → ℕ) a ∨ (![b'.val, 0, 0] : Fin 3 → ℕ) a + size a ≤ (![b.val, 0, 0] : Fin 3 → ℕ) a := by
  intro b b' hne
  have : b.val ≠ b'.val := fun e => hne (Fin.ext e)
  refine ⟨0, ?_⟩
  rw [h]
  show b.val + 1 ≤ b'.val ∨ b'.val + 1 ≤ b.val
  omega

variable {τ : Topo} {sig : RefSig} {Val : EltTy → Type} {R C : ℕ}

/-- Slot `b` of a stack. -/
def slotAt (M : Memref sig .tc .hbm ⟨3, ![8, R, C]⟩ .f32) (hq : (⟨3, ![1, R, C]⟩ : Shape).Squeezes ⟨2, ![R, C]⟩) (b : Fin 8) :
    Memref sig .tc .hbm ⟨2, ![R, C]⟩ .f32 :=
  (M.slice (Rect.unit (s := ⟨3, ![8, R, C]⟩) ![b.val, 0, 0] (⟨3, ![1, R, C]⟩ : Shape).size (in_stack b)) (fun _ => rfl)).squeeze ⟨2, ![R, C]⟩ hq

/-- A device's block and its stack, cut into the slots, are its hands. -/
theorem hands_one (B : Board τ sig Unit) (W : (a : Unit) → Dev 8 → (B.sh a).Idx → Val (B.el a)) (c : Dev 8) {P V : AA 8 τ sig Val}
    (hP : P ⊢ owns (c.tc : Thread 8 τ) (B.inp ()) fullShare (W () c))
    (hV : V ⊢ bigSep Finset.univ fun b => ownsSat (c.tc : Thread 8 τ) (B.slot () b) fullShare (fun _ => True)) :
    iprop(P ∗ V) ⊢ B.hands W c := by
  unfold Board.hands
  rw [show (Finset.univ : Finset Unit) = {()} from rfl, bigSep_singleton, bigSep_singleton]
  iintro ⟨H, H'⟩
  isplitl [H]; · iapply hP; iexact H
  iapply hV; iexact H'

end Cert.Exchange

end
-- ==== Proof.WeightsRun.lean ====
/-
  The run of the all-gather of the weights: the device's buffers are its blocks and its slots, and the run leaves in
  slot `b` of every device the block of device `b`.
-/
module

public import proofs.«01_k».proof.Proof.Weights
public import proofs.«01_k».proof.Proof.GatherOne

@[expose] public section

set_option Elab.async false

noncomputable section

namespace Cert.Weights

open Idealize.ShloMosaic Idealize.ShloMosaic.TcCoe Idealize.ShloMosaic.Pipeline
open Idealize.SL Idealize.SL.RA
open Idealize.SL.BI (sProp bigSep bigSep_insert bigSep_singleton bigSep_univ_prod)
open scoped Idealize.SL.BI
open Idealize.SL.BI.BIBase Idealize.SL.BI.Laws Idealize.SL.ProofMode Idealize.SL.Sem
open Cert.Exchange Cert.KernelIdeal Cert.KernelIdeal.Facts₀ Cert.KernelIdeal.Facts

variable {Val : EltTy → Type}

/-- A resource for every array. -/
theorem bigSep_weights (Φ : Wt → AA 8 τ sig Val) :
    bigSep Finset.univ Φ = iprop(Φ .cond ∗ Φ .win ∗ Φ .wout ∗ Φ .gate ∗ Φ .up ∗ Φ .down) := by
  rw [show (Finset.univ : Finset Wt) = insert .cond (insert .win (insert .wout (insert .gate (insert .up {.down})))) from rfl,
    bigSep_insert (by decide), bigSep_insert (by decide), bigSep_insert (by decide), bigSep_insert (by decide), bigSep_insert (by decide), bigSep_singleton]
  rfl

theorem apart_gu : ∀ t t' : Fin 2 × Fin 8, t ≠ t' → ∃ a, (![t.1.val, t.2.val, 0, 0] : Fin 4 → ℕ) a + S1x1x352x1024.size a ≤ (![t'.1.val, t'.2.val, 0, 0] : Fin 4 → ℕ) a
    ∨ (![t'.1.val, t'.2.val, 0, 0] : Fin 4 → ℕ) a + S1x1x352x1024.size a ≤ (![t.1.val, t.2.val, 0, 0] : Fin 4 → ℕ) a := by
  decide +kernel

section

variable [Cert.KernelIdeal.Facts]

/-- The block that device `b` has of an array. -/
def blockOf (m : (ℓ : Loc 8 τ sig) → Buf Val ℓ) (a : Wt) (b : Dev 8) : (shapes a).Idx → Val (elts a) :=
  (input a).view.read Val (m ((input a).view.loc (b.tc : Thread 8 τ)))

/-- Eleven resources into the hands of a device, one array's at a time. -/
theorem eleven {P₀ P₁ P₂ P₃ P₄ P₅ Q₀ Q₁ Q₂ Q₃ Q₄ Q₅ V₀ V₁ V₂ V₃ V₄ S₀ S₁ S₂ S₃ S₄ S₅ : AA 8 τ sig Val}
    (p₀ : P₀ ⊢ Q₀) (p₁ : P₁ ⊢ Q₁) (p₂ : P₂ ⊢ Q₂) (p₃ : P₃ ⊢ Q₃) (p₄ : P₄ ⊢ Q₄) (p₅ : P₅ ⊢ Q₅)
    (v₀ : V₀ ⊢ S₀) (v₁ : V₁ ⊢ S₁) (v₂ : V₂ ⊢ S₂) (v₃ : V₃ ⊢ iprop(S₃ ∗ S₄)) (v₄ : V₄ ⊢ S₅) :
    iprop(P₀ ∗ P₁ ∗ P₂ ∗ P₃ ∗ P₄ ∗ P₅ ∗ V₀ ∗ V₁ ∗ V₂ ∗ V₃ ∗ V₄) ⊢ iprop((Q₀ ∗ Q₁ ∗ Q₂ ∗ Q₃ ∗ Q₄ ∗ Q₅) ∗ (S₀ ∗ S₁ ∗ S₂ ∗ S₃ ∗ S₄ ∗ S₅)) := by
  iintro ⟨A0, A1, A2, A3, A4, A5, V0, V1, V2, V3, V4⟩
  isplitl [A0 A1 A2 A3 A4 A5]
  · isplitl [A0]; · iapply p₀; iexact A0
    isplitl [A1]; · iapply p₁; iexact A1
    isplitl [A2]; · iapply p₂; iexact A2
    isplitl [A3]; · iapply p₃; iexact A3
    isplitl [A4]; · iapply p₄; iexact A4
    iapply p₅; iexact A5
  · ihave V3 := v₃ $$ V3
    icases V3 with ⟨V3, V3'⟩
    isplitl [V0]; · iapply v₀; iexact V0
    isplitl [V1]; · iapply v₁; iexact V1
    isplitl [V2]; · iapply v₂; iexact V2
    isplitl [V3]; · iexact V3
    isplitl [V3']; · iexact V3'
    iapply v₄; iexact V4

/-- A device's buffers are its blocks and its slots. -/
theorem hands (m : (ℓ : Loc 8 τ sig) → Buf Val ℓ) (c : Dev 8) :
    (unscopedRest cfg0.spec c (fun b => m ((c.tc : Thread 8 τ).loc b)) : AA 8 τ sig Val) ⊢ board.hands (blockOf m) c := by
  have e : (unscopedRest cfg0.spec c (fun b => m ((c.tc : Thread 8 τ).loc b)) : AA 8 τ sig Val) = _ := Gen.unscopedRest0_eq c _
  have i0 : ((c.tc : Thread 8 τ).loc main_arg0 ↦{fullShare} m ((c.tc : Thread 8 τ).loc main_arg0) : AA 8 τ sig Val)
      ⊢ owns (c.tc : Thread 8 τ) (board.inp .cond) fullShare (blockOf m .cond c) := Entails.of_eq (owns_whole (c.tc : Thread 8 τ) main_arg0 fullShare _).symm
  have i1 : ((c.tc : Thread 8 τ).loc main_arg1 ↦{fullShare} m ((c.tc : Thread 8 τ).loc main_arg1) : AA 8 τ sig Val)
      ⊢ owns (c.tc : Thread 8 τ) (board.inp .win) fullShare (blockOf m .win c) := Entails.of_eq (owns_whole (c.tc : Thread 8 τ) main_arg1 fullShare _).symm
  have i2 : ((c.tc : Thread 8 τ).loc main_arg2 ↦{fullShare} m ((c.tc : Thread 8 τ).loc main_arg2) : AA 8 τ sig Val)
      ⊢ owns (c.tc : Thread 8 τ) (board.inp .wout) fullShare (blockOf m .wout c) := Entails.of_eq (owns_whole (c.tc : Thread 8 τ) main_arg2 fullShare _).symm
  have i3 : ((c.tc : Thread 8 τ).loc main_arg3 ↦{fullShare} m ((c.tc : Thread 8 τ).loc main_arg3) : AA 8 τ sig Val)
      ⊢ owns (c.tc : Thread 8 τ) (board.inp .gate) fullShare (blockOf m .gate c) := Entails.of_eq (owns_whole (c.tc : Thread 8 τ) main_arg3 fullShare _).symm
  have i4 : ((c.tc : Thread 8 τ).loc main_arg4 ↦{fullShare} m ((c.tc : Thread 8 τ).loc main_arg4) : AA 8 τ sig Val)
      ⊢ owns (c.tc : Thread 8 τ) (board.inp .up) fullShare (blockOf m .up c) := Entails.of_eq (owns_whole (c.tc : Thread 8 τ) main_arg4 fullShare _).symm
  have i5 : ((c.tc : Thread 8 τ).loc main_arg5 ↦{fullShare} m ((c.tc : Thread 8 τ).loc main_arg5) : AA 8 τ sig Val)
      ⊢ owns (c.tc : Thread 8 τ) (board.inp .down) fullShare (blockOf m .down c) := Entails.of_eq (owns_whole (c.tc : Thread 8 τ) main_arg5 fullShare _).symm
  have h0 := cut (Val := Val) (τ := τ) c (Memref.whole main_v1_0) (fun b : Fin 8 => ![b.val, 0, 0]) S1x2x1024.size in_cond squeezes_S1x2x1024_S2x1024
    (apart _ rfl) (m ((c.tc : Thread 8 τ).loc main_v1_0))
  have h1 := cut (Val := Val) (τ := τ) c (Memref.whole main_v1_1) (fun b : Fin 8 => ![b.val, 0, 0]) S1x256x1024.size in_win squeezes_S1x256x1024_S256x1024
    (apart _ rfl) (m ((c.tc : Thread 8 τ).loc main_v1_1))
  have h2 := cut (Val := Val) (τ := τ) c (Memref.whole main_v1_2) (fun b : Fin 8 => ![b.val, 0, 0]) S1x128x1024.size in_wout squeezes_S1x128x1024_S128x1024
    (apart _ rfl) (m ((c.tc : Thread 8 τ).loc main_v1_2))
  have h3 := cut (Val := Val) (τ := τ) c (Memref.whole main_v1_3) (fun t : Fin 2 × Fin 8 => ![t.1.val, t.2.val, 0, 0]) S1x1x352x1024.size (fun t => in_gu t.1 t.2)
    squeezes_S1x1x352x1024_S352x1024 apart_gu (m ((c.tc : Thread 8 τ).loc main_v1_3))
  have h4 := cut (Val := Val) (τ := τ) c (Memref.whole main_v1_4) (fun b : Fin 8 => ![b.val, 0, 0]) S1x352x1024.size in_down squeezes_S1x352x1024_S352x1024
    (apart _ rfl) (m ((c.tc : Thread 8 τ).loc main_v1_4))
  have h3' : ((c.tc : Thread 8 τ).loc main_v1_3 ↦{fullShare} m ((c.tc : Thread 8 τ).loc main_v1_3) : AA 8 τ sig Val)
      ⊢ iprop((bigSep Finset.univ fun b => ownsSat (c.tc : Thread 8 τ) (board.slot .gate b) fullShare (fun _ => True))
        ∗ bigSep Finset.univ fun b => ownsSat (c.tc : Thread 8 τ) (board.slot .up b) fullShare (fun _ => True)) := by
    refine Entails.trans h3 ?_
    rw [bigSep_univ_prod, show (Finset.univ : Finset (Fin 2)) = insert 0 {1} from rfl, bigSep_insert (by decide), bigSep_singleton]
    exact Entails.rfl
  rw [e]
  unfold Board.hands
  rw [bigSep_weights, bigSep_weights]
  exact eleven i0 i1 i2 i3 i4 i5 h0 h1 h2 h3' h4

/-- The commands run: every wait comes after what it waits for can have been started, on every device. -/
theorem cmds_ok : board.talk.ok (gatherCmds weights) gatherPays = true := by
  have h : (@board Gen.facts).talk.ok (gatherCmds weights) gatherPays = true := by decide +kernel
  exact h

theorem own_sems : OwnSemFacts cfg0.spec board.talk.osem where
  isScoped := by
    have h : ∀ k, ((@board Gen.facts).talk.osem k).isScoped .tc = true := by decide +kernel
    exact h
  inj k k' h := sems_inj (SemLoc.dma.inj h)
  disj k w := w.elim0

/-- The weakest of the loop measures: the kernel has no loop. -/
abbrev 𝒱₀ : Variants := Variants.none

/-- Every semaphore of a TensorCore is scoped to the call. -/
theorem all_scoped (g' : GSem nD τ sig) : g'.1.2 ≠ .tc ∨ g'.2.isScoped .tc = true := by
  rcases g' with ⟨_, s | s⟩
  · exact s.elim0
  · exact Or.inr (show sig.isScopedDmaSem .tc s = true by revert s; decide +kernel)

attribute [local irreducible] cc0_ag_weights in
/-- What the call runs at a point is the kernel's body. -/
theorem body_at {F : FTy → Type} [FloatOps F] (t : Fin cfg0.N) :
    defs₀ (F := F) .tc (cfgs 0).body ((cfgs 0).bodyArgs t ((cfgs 0).slots t)) = Gen.bodyAt0 (F := F) t := rfl

/-- The run of the all-gather of the weights. -/
theorem run_main {F : FTy → Type} [FloatOps F] (m : (ℓ : Loc nD τ sig) → Buf (Elt F) ℓ) (g : Dev nD → PrngReg) :
    θ_run (defs (F := F)) (onTc (τ := τ) (main (F := F))) ⟨m, fun _ => 0, g⟩ fun r =>
      (∀ c, board.Gathered (blockOf m) c r.2) ∧ r.2.sem = fun _ => 0 := by
  refine θ_run_gather board (blockOf m) cfgs Gen.N_0 Gen.cellOf_inj Gen.winFacts0.to₀ own_sems defs₀ 𝒱₀ m g main (fun _ => rfl) weights cmds_ok
    (fun c t R => ?_) (hands m) fun s hs h0 => ⟨hs, ?_⟩
  · rw [body_at t, body_eq t]
  · funext g'
    exact h0 g' (all_scoped g')

end

end Cert.Weights

end
-- ==== Proof.WeightsValue.lean ====
/-
  The values the all-gather of the weights leaves: with every device holding its block of rows of the arrays, each
  result is the array reshaped into its blocks.
-/
module

public import proofs.«01_k».proof.Proof.WeightsRun
public import proofs.«01_k».proof.Proof.Blocks

@[expose] public section

set_option Elab.async false

noncomputable section

namespace Cert.Weights

open Idealize.ShloMosaic Idealize.ShloMosaic.TcCoe
open Cert.Exchange Cert.KernelIdeal Cert.KernelIdeal.Facts₀ Cert.KernelIdeal.Facts

variable {Val : EltTy → Type} [Cert.KernelIdeal.Facts]

/-- The arguments are as they were. -/
theorem args_kept {m : (ℓ : Loc 8 τ sig) → Buf Val ℓ} {c : Dev 8} {s : MemSt 8 τ sig Val} (hg : board.Gathered (blockOf m) c s) :
    s.mem ((c.tc : Thread 8 τ).loc main_arg0) = m ((c.tc : Thread 8 τ).loc main_arg0)
    ∧ s.mem ((c.tc : Thread 8 τ).loc main_arg1) = m ((c.tc : Thread 8 τ).loc main_arg1)
    ∧ s.mem ((c.tc : Thread 8 τ).loc main_arg2) = m ((c.tc : Thread 8 τ).loc main_arg2)
    ∧ s.mem ((c.tc : Thread 8 τ).loc main_arg3) = m ((c.tc : Thread 8 τ).loc main_arg3)
    ∧ s.mem ((c.tc : Thread 8 τ).loc main_arg4) = m ((c.tc : Thread 8 τ).loc main_arg4)
    ∧ s.mem ((c.tc : Thread 8 τ).loc main_arg5) = m ((c.tc : Thread 8 τ).loc main_arg5) :=
  ⟨hg.1 .cond, hg.1 .win, hg.1 .wout, hg.1 .gate, hg.1 .up, hg.1 .down⟩

/-- The results are the arrays reshaped into their blocks. -/
theorem results {m : (ℓ : Loc 8 τ sig) → Buf Val ℓ} {c : Dev 8} {s : MemSt 8 τ sig Val} (hg : board.Gathered (blockOf m) c s)
    (A0 : (⟨2, ![16, 1024]⟩ : Shape).Idx → Val .f32)
    (A1 : (⟨2, ![2048, 1024]⟩ : Shape).Idx → Val .bf16)
    (A2 : (⟨2, ![1024, 1024]⟩ : Shape).Idx → Val .bf16)
    (A3 : (⟨2, ![2816, 1024]⟩ : Shape).Idx → Val .bf16)
    (A4 : (⟨2, ![2816, 1024]⟩ : Shape).Idx → Val .bf16)
    (A5 : (⟨2, ![2816, 1024]⟩ : Shape).Idx → Val .bf16)
    (h : ∀ b : Dev 8, m ((b.tc : Thread 8 τ).loc main_arg0) = Layout.block ⟨2, ![2, 1024]⟩ ⟨2, ![16, 1024]⟩ 0 8 b A0
      ∧ m ((b.tc : Thread 8 τ).loc main_arg1) = Layout.block ⟨2, ![256, 1024]⟩ ⟨2, ![2048, 1024]⟩ 0 8 b A1
      ∧ m ((b.tc : Thread 8 τ).loc main_arg2) = Layout.block ⟨2, ![128, 1024]⟩ ⟨2, ![1024, 1024]⟩ 0 8 b A2
      ∧ m ((b.tc : Thread 8 τ).loc main_arg3) = Layout.block ⟨2, ![352, 1024]⟩ ⟨2, ![2816, 1024]⟩ 0 8 b A3
      ∧ m ((b.tc : Thread 8 τ).loc main_arg4) = Layout.block ⟨2, ![352, 1024]⟩ ⟨2, ![2816, 1024]⟩ 0 8 b A4
      ∧ m ((b.tc : Thread 8 τ).loc main_arg5) = Layout.block ⟨2, ![352, 1024]⟩ ⟨2, ![2816, 1024]⟩ 0 8 b A5)
    (c0 : (⟨2, ![16, 1024]⟩ : Shape).ShapeCasts ⟨3, ![8, 2, 1024]⟩)
    (c1 : (⟨2, ![2048, 1024]⟩ : Shape).ShapeCasts ⟨3, ![8, 256, 1024]⟩)
    (c2 : (⟨2, ![1024, 1024]⟩ : Shape).ShapeCasts ⟨3, ![8, 128, 1024]⟩)
    (c3 : (⟨2, ![2816, 1024]⟩ : Shape).ShapeCasts ⟨3, ![8, 352, 1024]⟩)
    (c5 : (⟨2, ![2816, 1024]⟩ : Shape).ShapeCasts ⟨3, ![8, 352, 1024]⟩)
    (hb : (⟨3, ![8, 352, 1024]⟩ : Shape).BroadcastsInDim ⟨4, ![1, 8, 352, 1024]⟩ ![1, 2, 3])
    (hcat : Shape.Concatenates [⟨4, ![1, 8, 352, 1024]⟩, ⟨4, ![1, 8, 352, 1024]⟩] ⟨4, ![2, 8, 352, 1024]⟩ 0) :
    s.mem ((c.tc : Thread 8 τ).loc main_v1_0) = shapeCast ⟨3, ![8, 2, 1024]⟩ A0 c0
    ∧ s.mem ((c.tc : Thread 8 τ).loc main_v1_1) = shapeCast ⟨3, ![8, 256, 1024]⟩ A1 c1
    ∧ s.mem ((c.tc : Thread 8 τ).loc main_v1_2) = shapeCast ⟨3, ![8, 128, 1024]⟩ A2 c2
    ∧ s.mem ((c.tc : Thread 8 τ).loc main_v1_3) = concatenate ⟨4, ![2, 8, 352, 1024]⟩ 0 [⟨⟨4, ![1, 8, 352, 1024]⟩, broadcastInDim ⟨4, ![1, 8, 352, 1024]⟩ ![1, 2, 3] hb (shapeCast ⟨3, ![8, 352, 1024]⟩ A3 c3)⟩, ⟨⟨4, ![1, 8, 352, 1024]⟩, broadcastInDim ⟨4, ![1, 8, 352, 1024]⟩ ![1, 2, 3] hb (shapeCast ⟨3, ![8, 352, 1024]⟩ A4 c3)⟩] hcat
    ∧ s.mem ((c.tc : Thread 8 τ).loc main_v1_4) = shapeCast ⟨3, ![8, 352, 1024]⟩ A5 c5 := by
  refine ⟨stack_of_slots _ A0 c0 (by decide) in_cond squeezes_S1x2x1024_S2x1024.numel_eq fun b => (hg.2 .cond b).trans ((h b).1),
    stack_of_slots _ A1 c1 (by decide) in_win squeezes_S1x256x1024_S256x1024.numel_eq fun b => (hg.2 .win b).trans ((h b).2.1),
    stack_of_slots _ A2 c2 (by decide) in_wout squeezes_S1x128x1024_S128x1024.numel_eq fun b => (hg.2 .wout b).trans ((h b).2.2.1),
    stacks_of_slots _ A3 A4 c3 (by decide) hb hcat in_gu squeezes_S1x1x352x1024_S352x1024.numel_eq (fun b => (hg.2 .gate b).trans ((h b).2.2.2.1)) fun b => (hg.2 .up b).trans ((h b).2.2.2.2.1),
    stack_of_slots _ A5 c5 (by decide) in_down squeezes_S1x352x1024_S352x1024.numel_eq fun b => (hg.2 .down b).trans ((h b).2.2.2.2.2)⟩

end Cert.Weights

end
-- ==== Proof.WeightsClaims.lean ====
/-
  The claims about the all-gather of the weights: each program's run, read at what the claim names.
-/
module

public import proofs.«01_k».proof.Defs
public import proofs.«01_k».proof.Proof.WeightsValue
public import proofs.«01_k».proof.Proof.Gen.Kernel
public import proofs.«01_k».proof.Proof.Gen.ReferenceIdeal.Run
public import proofs.«01_k».proof.Proof.Gen.Reference.Run

@[expose] public section

set_option Elab.async false

noncomputable section

namespace Cert.Weights

open Idealize.ShloMosaic Idealize.ShloMosaic.TcCoe Idealize.SL.Sem

theorem frame_ideal : Cert.quiescent_KernelIdeal := fun m ρ _ =>
  (θ_run Cert.KernelIdeal.defs _ _).mono (fun _ h => ⟨fun c => args_kept (h.1 c), h.2⟩) (run_main (F := Ideal) m ρ)

theorem frame_kernel : Cert.quiescent_Kernel := fun m ρ _ =>
  (θ_run Cert.KernelIdeal.defs _ _).mono (fun _ h => ⟨fun c => args_kept (h.1 c), h.2⟩) (run_main (F := Bits) m ρ)

theorem frame_reference_ideal : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2.2.2.2.2, sem_eq_zero_of_no_sems (by decide) r.2⟩)
    (Cert.Reference.Value.run (F := Bits) m ρ)

theorem algebraic : Cert.algebraic_KernelIdeal_ReferenceIdeal := fun m g m' g' _ h =>
  ⟨_, _, _, _, _,
    (θ_run Cert.KernelIdeal.defs _ _).mono (fun r hr c => by
      obtain ⟨r0, r1, r2, r3, r4⟩ := results (hr.1 c) _ _ _ _ _ _ h
        Cert.ReferenceIdeal.Gen.shapeCasts_S16x1024_S8x2x1024
        Cert.ReferenceIdeal.Gen.shapeCasts_S2048x1024_S8x256x1024
        Cert.ReferenceIdeal.Gen.shapeCasts_S1024x1024_S8x128x1024
        Cert.ReferenceIdeal.Gen.shapeCasts_S2816x1024_S8x352x1024
        Cert.ReferenceIdeal.Gen.shapeCasts_S2816x1024_S8x352x1024
        Cert.ReferenceIdeal.Gen.bcast_S8x352x1024_S1x8x352x1024_1_2_3
        Cert.ReferenceIdeal.Gen.concatenates_S1x8x352x1024_S1x8x352x1024_S2x8x352x1024_d0
      exact ⟨r0, r1, r2, r3, r4, args_kept (hr.1 c)⟩) (run_main (F := Ideal) m g),
    (θ_run Cert.ReferenceIdeal.defs _ _).mono (fun r hr => hr 0) (Cert.ReferenceIdeal.Value.run (F := Ideal) m' g')⟩

theorem bitexact : Cert.bitexact_Kernel_Reference := fun m g m' g' _ h =>
  ⟨_, _, _, _, _,
    (θ_run Cert.KernelIdeal.defs _ _).mono (fun r hr c => by
      obtain ⟨r0, r1, r2, r3, r4⟩ := results (hr.1 c) _ _ _ _ _ _ h
        Cert.Reference.Gen.shapeCasts_S16x1024_S8x2x1024
        Cert.Reference.Gen.shapeCasts_S2048x1024_S8x256x1024
        Cert.Reference.Gen.shapeCasts_S1024x1024_S8x128x1024
        Cert.Reference.Gen.shapeCasts_S2816x1024_S8x352x1024
        Cert.Reference.Gen.shapeCasts_S2816x1024_S8x352x1024
        Cert.Reference.Gen.bcast_S8x352x1024_S1x8x352x1024_1_2_3
        Cert.Reference.Gen.concatenates_S1x8x352x1024_S1x8x352x1024_S2x8x352x1024_d0
      exact ⟨r0, r1, r2, r3, r4, args_kept (hr.1 c)⟩) (run_main (F := Bits) m g),
    (θ_run Cert.Reference.defs _ _).mono (fun r hr => hr 0) (Cert.Reference.Value.run (F := Bits) m' g')⟩

end Cert.Weights

end
-- ==== Proof.Swap.lean ====
/-
  An exchange of halves between pairs of devices, two cores on each of the four chips of a 2 × 2 grid.

  Every device has four arrays of shape matrices × A × 2 × B × rows × 1024, so of two halves along the third axis. It sends,
  matrix by matrix, one half of each to its peer, and gets the peer's in an array of its own. All sends are started
  before any is waited for; nothing is passed on.

  `Swap` is what a kernel has to say to be such an exchange; `Swap.talk` is its table of transfers, and `θ_run_swap` what
  its run leaves: the arrays as they were, and in every result the half that the peer sent.
-/
module

public import proofs.«01_k».proof.Proof.Gather
public import Idealize.ShloMosaic.Lib.ValueIdxRank6

@[expose] public section

set_option Elab.async false

noncomputable section

namespace Cert.Exchange

open Idealize.ShloMosaic Idealize.ShloMosaic.TcCoe Idealize.ShloMosaic.Rounds Idealize.ShloMosaic.Pipeline
open Idealize.SL Idealize.SL.RA
open Idealize.SL.BI (sProp bigSep bigSep_sep' bigSep_mono bigSep_congr bigSep_univ_prod bigSep_insert bigSep_elim bigSep_univ_sum bigSep_univ_equiv
  bigSep_singleton bigSep_filter bigSep_empty)
open scoped Idealize.SL.BI
open Idealize.SL.BI.BIBase Idealize.SL.BI.Laws Idealize.SL.ProofMode Idealize.SL.Sem

/-- The arrays of gradients: of the mixer's two weights, of the gate's and up's together, of the down projection's. -/
inductive Grad : Type
  | win | wout | gu | down
  deriving DecidableEq

instance : Fintype Grad := ⟨{.win, .wout, .gu, .down}, by rintro (_ | _ | _ | _) <;> decide⟩

/-- The matrices of an array. -/
def Grad.mats : Grad → ℕ
  | .win => 1 | .wout => 1 | .gu => 2 | .down => 1
/-- The rows of a piece of an array. -/
def Grad.rows : Grad → ℕ
  | .win => 256 | .wout => 128 | .gu => 352 | .down => 352
/-- The matrices before an array's, in the kernel's order. -/
def Grad.before : Grad → ℕ
  | .win => 0 | .wout => 1 | .gu => 2 | .down => 4

/-- An array with its halves, and a half. -/
abbrev Grad.both (i : Grad) (A B : ℕ) : Shape := ⟨6, ![i.mats, A, 2, B, i.rows, 1024]⟩
abbrev Grad.half (i : Grad) (A B : ℕ) : Shape := ⟨5, ![i.mats, A, B, i.rows, 1024]⟩
/-- A piece, as a matrix, and as cut out of either. -/
abbrev Grad.piece (i : Grad) : Shape := ⟨2, ![i.rows, 1024]⟩
abbrev Grad.bothPiece (i : Grad) : Shape := ⟨6, ![1, 1, 1, 1, i.rows, 1024]⟩
abbrev Grad.halfPiece (i : Grad) : Shape := ⟨5, ![1, 1, 1, i.rows, 1024]⟩

/-- A piece's place in a half. -/
abbrev Grad.At (i : Grad) (A B : ℕ) : Type := Fin i.mats × Fin A × Fin B

/-- A piece: its array, and its place in a half. -/
abbrev Pc (A B : ℕ) : Type := (i : Grad) × i.At A B

/-- All pieces, in the kernel's order. -/
def pieces (A B : ℕ) : List (Pc A B) :=
  [Grad.win, .wout, .gu, .down].flatMap fun i => (List.finRange i.mats).flatMap fun m => (List.finRange A).flatMap fun a =>
    (List.finRange B).map fun b => ⟨i, m, a, b⟩

/-- A piece's place in the kernel's order. -/
def place {A B : ℕ} (j : Pc A B) : ℕ := ((j.1.before + j.2.1.val) * A + j.2.2.1.val) * B + j.2.2.2.val

theorem piece_pos : ∀ i : Grad, 0 < i.piece.numel := by
  rintro (_ | _ | _ | _) <;> decide
theorem piece_squeezes : ∀ i : Grad, i.bothPiece.Squeezes i.piece := by
  rintro (_ | _ | _ | _) <;> decide
theorem piece_squeezes' : ∀ i : Grad, i.halfPiece.Squeezes i.piece := by
  rintro (_ | _ | _ | _) <;> decide

theorem in_both {A B : ℕ} (i : Grad) (t : i.At A B) (h : Fin 2) :
    ∀ a, (![t.1.val, t.2.1.val, h.val, t.2.2.val, 0, 0] : Fin 6 → ℕ) a + i.bothPiece.size a ≤ (i.both A B).size a := fun a =>
  match a with
  | ⟨0, _⟩ => t.1.isLt | ⟨1, _⟩ => t.2.1.isLt | ⟨2, _⟩ => h.isLt | ⟨3, _⟩ => t.2.2.isLt
  | ⟨4, _⟩ => (Nat.zero_add _).le | ⟨5, _⟩ => (Nat.zero_add _).le
theorem in_half {A B : ℕ} (i : Grad) (t : i.At A B) :
    ∀ a, (![t.1.val, t.2.1.val, t.2.2.val, 0, 0] : Fin 5 → ℕ) a + i.halfPiece.size a ≤ (i.half A B).size a := fun a =>
  match a with
  | ⟨0, _⟩ => t.1.isLt | ⟨1, _⟩ => t.2.1.isLt | ⟨2, _⟩ => t.2.2.isLt
  | ⟨3, _⟩ => (Nat.zero_add _).le | ⟨4, _⟩ => (Nat.zero_add _).le

/-- Two places differ on one of three axes. -/
theorem At_apart {A B : ℕ} (i : Grad) {t t' : i.At A B} (h : t ≠ t') :
    t.1.val ≠ t'.1.val ∨ t.2.1.val ≠ t'.2.1.val ∨ t.2.2.val ≠ t'.2.2.val := by
  by_cases h0 : t.1.val = t'.1.val
  · by_cases h1 : t.2.1.val = t'.2.1.val
    · exact Or.inr (Or.inr fun h2 => h (Prod.ext (Fin.ext h0) (Prod.ext (Fin.ext h1) (Fin.ext h2))))
    · exact Or.inr (Or.inl h1)
  · exact Or.inl h0

theorem apart_of_ne {x y : ℕ} (h : x ≠ y) : x + 1 ≤ y ∨ y + 1 ≤ x := by omega

theorem both_apart {A B : ℕ} (i : Grad) (h : Fin 2) (t t' : i.At A B) (hne : t ≠ t') :
    ∃ a, (![t.1.val, t.2.1.val, h.val, t.2.2.val, 0, 0] : Fin 6 → ℕ) a + i.bothPiece.size a ≤ (![t'.1.val, t'.2.1.val, h.val, t'.2.2.val, 0, 0] : Fin 6 → ℕ) a
      ∨ (![t'.1.val, t'.2.1.val, h.val, t'.2.2.val, 0, 0] : Fin 6 → ℕ) a + i.bothPiece.size a ≤ (![t.1.val, t.2.1.val, h.val, t.2.2.val, 0, 0] : Fin 6 → ℕ) a := by
  rcases At_apart i hne with e | e | e
  exacts [⟨0, apart_of_ne e⟩, ⟨1, apart_of_ne e⟩, ⟨3, apart_of_ne e⟩]
theorem half_apart {A B : ℕ} (i : Grad) (t t' : i.At A B) (hne : t ≠ t') :
    ∃ a, (![t.1.val, t.2.1.val, t.2.2.val, 0, 0] : Fin 5 → ℕ) a + i.halfPiece.size a ≤ (![t'.1.val, t'.2.1.val, t'.2.2.val, 0, 0] : Fin 5 → ℕ) a
      ∨ (![t'.1.val, t'.2.1.val, t'.2.2.val, 0, 0] : Fin 5 → ℕ) a + i.halfPiece.size a ≤ (![t.1.val, t.2.1.val, t.2.2.val, 0, 0] : Fin 5 → ℕ) a := by
  rcases At_apart i hne with e | e | e
  exacts [⟨0, apart_of_ne e⟩, ⟨1, apart_of_ne e⟩, ⟨2, apart_of_ne e⟩]

/-- The number of an exchange's semaphore: first the senders', then the receivers', in the kernel's order. -/
def semNum {A B : ℕ} : Key Empty (Pc A B) → ℕ
  | .snd j => place j
  | .rcv j => 5 * A * B + place j

theorem semNum_inj {A B : ℕ} (hlt : ∀ j : Pc A B, place j < 5 * A * B) (hinj : ∀ j j' : Pc A B, place j = place j' → j = j') :
    ∀ k k' : Key Empty (Pc A B), semNum k = semNum k' → k = k'
  | .snd j, .snd j', h => congrArg Key.snd (hinj j j' h)
  | .rcv j, .rcv j', h => congrArg Key.rcv (hinj j j' (Nat.add_left_cancel h))
  | .snd j, .rcv j', h => absurd h (by have := hlt j; show place j ≠ 5 * A * B + place j'; omega)
  | .rcv j, .snd j', h => absurd h (by have := hlt j'; show 5 * A * B + place j ≠ place j'; omega)

variable {τ : Topo} {sig : RefSig} {Val : EltTy → Type} {A B : ℕ}

/-- A piece of a half `h` of an array, and a piece of a result. -/
def bothAt {e : EltTy} {i : Grad} (M : Memref sig .tc .hbm (i.both A B) e) (h : Fin 2) (t : i.At A B) : Memref sig .tc .hbm i.piece e :=
  (M.slice (Rect.unit (s := i.both A B) ![t.1.val, t.2.1.val, h.val, t.2.2.val, 0, 0] i.bothPiece.size (in_both i t h)) (fun _ => rfl)).squeeze
    i.piece (piece_squeezes i)
def halfAt {e : EltTy} {i : Grad} (M : Memref sig .tc .hbm (i.half A B) e) (t : i.At A B) : Memref sig .tc .hbm i.piece e :=
  (M.slice (Rect.unit (s := i.half A B) ![t.1.val, t.2.1.val, t.2.2.val, 0, 0] i.halfPiece.size (in_half i t)) (fun _ => rfl)).squeeze
    i.piece (piece_squeezes' i)

/-- A kernel's exchange of halves. -/
structure Swap (τ : Topo) (sig : RefSig) (A B : ℕ) (e : EltTy) where
  inp : (i : Grad) → Memref sig .tc .hbm (i.both A B) e
  out : (i : Grad) → Memref sig .tc .hbm (i.half A B) e
  inpExact : ∀ i h t, (bothAt (inp i) h t).view.WordExact
  outExact : ∀ i t, (halfAt (out i) t).view.WordExact
  outHbm : ∀ i, (out i).view.ref.isScScratch = false
  /-- The half that a device sends, and its peer, as the kernel computes them. -/
  give : Fin 8 → Fin 2
  peer : Fin 8 → Fin 8
  peer_peer : ∀ d, peer (peer d) = d
  routes : ∀ (c c' : Dev 8), τ.routes (c.tc : Thread 8 τ) (c'.tc) = true
  sem : Key Empty (Pc A B) → DmaSem sig
  sem_inj : Function.Injective sem
  amt_eq : ∀ i, (inp i).view.ref.dmaCredit i.piece e = (out i).view.ref.dmaCredit i.piece e

section Swap

variable {e : EltTy} (S : Swap τ sig A B e)

/-- The table of transfers of an exchange. -/
def Swap.talk : Talk 8 τ sig Empty (Pc A B) where
  sh | .rem j => j.1.piece
  el _ := e
  src d | .rem j => bothAt (S.inp j.1) (S.give d) j.2
  dst _ | .rem j => halfAt (S.out j.1) j.2
  srcWhole | d, .rem j => S.inpExact _ _ _
  dstWhole | d, .rem j => S.outExact _ _
  dstHbm | d, .rem j => S.outHbm j.1
  peer d _ := S.peer d
  peer_peer c _ := S.peer_peer c
  routes c j := S.routes _ _
  sem := S.sem
  sem_inj := S.sem_inj
  amt | .rem j => (halfAt (S.out j.1) j.2).view.dmaCredit
  amt_pos | .rem j => View.dmaCredit_pos _ (piece_pos j.1)
  amt_eq | c, .rem j => rfl
  wref
    | .snd j => (S.inp j.1).view.ref
    | .rcv j => (S.out j.1).view.ref
  wsh
    | .snd j => j.1.piece
    | .rcv j => j.1.piece
  wel _ := e
  wamt
    | .snd j => S.amt_eq j.1
    | .rcv j => rfl
  level _ := 1
  via _ := none

/-- The commands: all sends; the waits for them; the waits for what the peer sends. -/
def swapCmds (xs : List (Pc A B)) : List (Cmd Empty (Pc A B)) :=
  (xs.map fun j => .send j) ++ (xs.map fun j => .wait (.snd j)) ++ xs.map fun j => .wait (.rcv j)

/-- The payments kept to the end: what the peer sent. -/
def swapPays : Finset (Key Empty (Pc A B)) := Finset.univ.image Key.rcv

/-- What device `d` has of array `i`. -/
abbrev Swap.Held (_S : Swap τ sig A B e) (Val : EltTy → Type) : Type := (i : Grad) → Fin 8 → (i.both A B).Idx → Val e

variable (W : S.Held Val)

/-- A piece of a half of contents. -/
def pieceOf {i : Grad} (X : (i.both A B).Idx → Val e) (h : Fin 2) (t : i.At A B) : i.piece.Idx → Val e := fun y =>
  X ((Rect.unit (s := i.both A B) ![t.1.val, t.2.1.val, h.val, t.2.2.val, 0, 0] i.bothPiece.size (in_both i t h)).emb
    (Shape.reshapeEquiv (s := i.bothPiece) (piece_squeezes i).numel_eq y))

/-- What the transfers carry. -/
def Swap.load : Load S.talk Val where
  X | d, .rem j => pieceOf (W j.1 d) (S.give d) j.2
  q _ := fullShare.right

/-- What a device starts from: half of each of its arrays whole, and half cut into the pieces it sends; and the pieces of
    its results at any contents. -/
def Swap.keeps (c : Dev 8) : AA 8 τ sig Val :=
  bigSep Finset.univ fun i => owns (c.tc : Thread 8 τ) (S.inp i) fullShare.left (W i c)

/-- The pieces it sends, and those it gets, of an array. -/
def Swap.sends (c : Dev 8) (i : Grad) : AA 8 τ sig Val :=
  bigSep Finset.univ fun t => owns (c.tc : Thread 8 τ) (bothAt (S.inp i) (S.give c) t) fullShare.right (pieceOf (W i c) (S.give c) t)
def Swap.gets (c : Dev 8) (i : Grad) : AA 8 τ sig Val :=
  bigSep Finset.univ fun t => ownsSat (c.tc : Thread 8 τ) (halfAt (S.out i) t) fullShare (fun _ => True)

/-- Pieces by their array, as a sum. -/
def pcEquiv (A B : ℕ) : Grad.win.At A B ⊕ Grad.wout.At A B ⊕ Grad.gu.At A B ⊕ Grad.down.At A B ≃ Pc A B where
  toFun | .inl t => ⟨.win, t⟩ | .inr (.inl t) => ⟨.wout, t⟩ | .inr (.inr (.inl t)) => ⟨.gu, t⟩ | .inr (.inr (.inr t)) => ⟨.down, t⟩
  invFun | ⟨.win, t⟩ => .inl t | ⟨.wout, t⟩ => .inr (.inl t) | ⟨.gu, t⟩ => .inr (.inr (.inl t)) | ⟨.down, t⟩ => .inr (.inr (.inr t))
  left_inv := by rintro (t | t | t | t) <;> rfl
  right_inv := by rintro ⟨_ | _ | _ | _, t⟩ <;> rfl

/-- A resource for every array. -/
theorem bigSep_grads (Φ : Grad → AA 8 τ sig Val) :
    bigSep Finset.univ Φ = iprop(Φ .win ∗ Φ .wout ∗ Φ .gu ∗ Φ .down) := by
  rw [show (Finset.univ : Finset Grad) = insert .win (insert .wout (insert .gu {.down})) from rfl,
    bigSep_insert (by decide), bigSep_insert (by decide), bigSep_insert (by decide), bigSep_singleton]
  rfl

/-- A resource for every piece, array by array. -/
theorem bigSep_pieces (Φ : Pc A B → AA 8 τ sig Val) :
    bigSep Finset.univ Φ = bigSep Finset.univ fun i => bigSep Finset.univ fun t => Φ ⟨i, t⟩ := by
  rw [bigSep_univ_equiv (pcEquiv A B) Φ, bigSep_univ_sum, bigSep_univ_sum, bigSep_univ_sum, bigSep_grads]
  rfl

theorem swap_mem (c : Dev 8) :
    iprop((bigSep Finset.univ fun i => S.sends W c i) ∗ bigSep Finset.univ fun i => S.gets c i) ⊢ S.talk.mem (S.load W) c := by
  have h0 (Φ : Empty → AA 8 τ sig Val) : bigSep Finset.univ Φ = iprop(emp) := bigSep_empty
  have h1 : (bigSep Finset.univ fun i => S.sends W c i) ⊢ bigSep (Finset.univ.filter fun x => S.talk.first x = true) fun x =>
      (owns (c.tc : Thread 8 τ) (S.talk.src c x) ((S.load W).q x) ((S.load W).X c x) : AA 8 τ sig Val) := by
    rw [bigSep_filter, bigSep_xfers, h0, bigSep_pieces]
    show (bigSep Finset.univ fun i => S.sends W c i) ⊢ iprop(emp ∗ bigSep Finset.univ fun i => S.sends W c i)
    iintro H
    isplitr; · iempintro
    iexact H
  have h2 : (bigSep Finset.univ fun i => S.gets (Val := Val) c i) ⊢ iprop((bigSep Finset.univ fun i : Empty =>
        (ownsSat (c.tc : Thread 8 τ) (S.talk.dst c (.loc i)) fullShare (fun _ => True) : AA 8 τ sig Val))
      ∗ bigSep Finset.univ fun j => ownsSat (c.tc : Thread 8 τ) (S.talk.dst (S.talk.peer c j) (.rem j)) fullShare (fun _ => True)) := by
    rw [h0, bigSep_pieces]
    show (bigSep Finset.univ fun i => S.gets (Val := Val) c i) ⊢ iprop(emp ∗ bigSep Finset.univ fun i => S.gets c i)
    iintro H
    isplitr; · iempintro
    iexact H
  unfold Talk.mem
  iintro ⟨H1, H2⟩
  ihave H1 := h1 $$ H1
  ihave H2 := h2 $$ H2
  isplitl [H1]; · iexact H1
  iexact H2

/-- What the devices have, in a memory. -/
def Swap.held (m : (ℓ : Loc 8 τ sig) → Buf Val ℓ) : S.Held Val := fun i d =>
  (S.inp i).view.read Val (m ((S.inp i).view.loc (Dev.tc (nD := 8) d : Thread 8 τ)))

/-- A part of a buffer, squeezed, is owned at what it reads. -/
theorem owns_part_at (c : Dev 8) (q : PosShare TreeShare) {s s' : Shape} {e : EltTy} (M : Memref sig .tc .hbm s e) (f : M.view.ty.Contents Val)
    (r : Rect s) (hr : ∀ a, r.stride a = 1) (hs : r.shape.Squeezes s') :
    (M.view.loc (c.tc : Thread 8 τ) ↦[(M.view.slice r).set]{q} f : AA 8 τ sig Val)
      ⊢ owns (c.tc : Thread 8 τ) ((M.slice r hr).squeeze s' hs) q (fun y => M.view.read Val f (r.emb (Shape.reshapeEquiv hs.numel_eq y))) := by
  have h := ownsSat_of (Ix := Unit) (Name := ℕ) (U := UU 8 τ sig) (Lvl := ℕ) (c.tc : Thread 8 τ) ((M.slice r hr).squeeze s' hs) q
    (Φ := (· = fun y => M.view.read Val f (r.emb (Shape.reshapeEquiv hs.numel_eq y)))) (f := f) rfl
  refine Entails.trans (Entails.of_eq ?_) h
  show _ = (M.view.loc (c.tc : Thread 8 τ) ↦[((M.view.slice r).reshape s' hs.numel_eq).set]{q} f : AA 8 τ sig Val)
  rw [View.set_reshape]

/-- The parts of a buffer cut along unit rectangles, of which any two are apart along some axis, are owned at what they read. -/
theorem cut_at (c : Dev 8) (q : PosShare TreeShare) {s s' : Shape} {e : EltTy} (M : Memref sig .tc .hbm s e) {T : Type} [Fintype T]
    (off : T → Fin s.rank → ℕ) (size : Fin s.rank → ℕ) (inb : ∀ t a, off t a + size a ≤ s.size a)
    (hs : (⟨s.rank, size⟩ : Shape).Squeezes s')
    (hsep : ∀ t t', t ≠ t' → ∃ a, off t a + size a ≤ off t' a ∨ off t' a + size a ≤ off t a) (f : M.view.ty.Contents Val) :
    (M.view.loc (c.tc : Thread 8 τ) ↦{q} f : AA 8 τ sig Val)
      ⊢ bigSep Finset.univ fun t => owns (c.tc : Thread 8 τ) ((M.slice (Rect.unit (s := s) (off t) size (inb t)) (fun _ => rfl)).squeeze s' hs) q
          (fun y => M.view.read Val f ((Rect.unit (s := s) (off t) size (inb t)).emb (Shape.reshapeEquiv hs.numel_eq y))) := by
  have h1 := points_parts (Val := Val) q (ℓ := M.view.loc (c.tc : Thread 8 τ)) f
    (fun t => (M.view.slice (Rect.unit (s := s) (off t) size (inb t))).set) fun t t' hne => by
      obtain ⟨a, ha⟩ := hsep t t' hne
      exact View.disjoint_slice_of_sep M.view _ _ a rfl rfl ha
  exact h1.trans (bigSep_mono fun t _ => owns_part_at c q M f (Rect.unit (s := s) (off t) size (inb t)) (fun _ => rfl) hs)

/-- A whole buffer is owned at what it reads. -/
theorem owns_all (c : Dev 8) (q : PosShare TreeShare) {s : Shape} {e : EltTy} (M : Memref sig .tc .hbm s e) (f : M.view.ty.Contents Val) :
    (M.view.loc (c.tc : Thread 8 τ) ↦{q} f : AA 8 τ sig Val) ⊢ owns (c.tc : Thread 8 τ) M q (M.view.read Val f) := by
  have h := ownsSat_of (Ix := Unit) (Name := ℕ) (U := UU 8 τ sig) (Lvl := ℕ) (c.tc : Thread 8 τ) M q (Φ := (· = M.view.read Val f)) (f := f) rfl
  have h2 : (M.view.loc (c.tc : Thread 8 τ) ↦{q} f : AA 8 τ sig Val)
      ⊢ iprop((M.view.loc (c.tc : Thread 8 τ) ↦[M.view.set]{q} f) ∗ M.view.loc (c.tc : Thread 8 τ) ↦[Finset.univ \ M.view.set]{q} f) :=
    (pointsTo_split_subset (Finset.subset_univ _)).1
  refine Entails.trans ?_ h
  refine h2.trans ?_
  iintro ⟨H, -⟩
  iexact H

/-- An array of a device, half kept whole and half cut into the pieces to send. -/
theorem inp_dealt (m : (ℓ : Loc 8 τ sig) → Buf Val ℓ) (c : Dev 8) (i : Grad) :
    ((S.inp i).view.loc (c.tc : Thread 8 τ) ↦{fullShare} m ((S.inp i).view.loc (c.tc : Thread 8 τ)) : AA 8 τ sig Val)
      ⊢ iprop(owns (c.tc : Thread 8 τ) (S.inp i) fullShare.left (S.held m i c) ∗ S.sends (S.held m) c i) := by
  have h0 : ((S.inp i).view.loc (c.tc : Thread 8 τ) ↦{fullShare} m ((S.inp i).view.loc (c.tc : Thread 8 τ)) : AA 8 τ sig Val)
      ⊢ iprop(((S.inp i).view.loc (c.tc : Thread 8 τ) ↦{fullShare.left} m ((S.inp i).view.loc (c.tc : Thread 8 τ)))
        ∗ (S.inp i).view.loc (c.tc : Thread 8 τ) ↦{fullShare.right} m ((S.inp i).view.loc (c.tc : Thread 8 τ))) :=
    (pointsTo_share (PosShare.mem_left_op_right fullShare)).1
  have h1 := owns_all (Val := Val) (τ := τ) c fullShare.left (S.inp i) (m ((S.inp i).view.loc (c.tc : Thread 8 τ)))
  have h2 : ((S.inp i).view.loc (c.tc : Thread 8 τ) ↦{fullShare.right} m ((S.inp i).view.loc (c.tc : Thread 8 τ)) : AA 8 τ sig Val)
      ⊢ S.sends (S.held m) c i :=
    cut_at (Val := Val) (τ := τ) c fullShare.right (S.inp i) (fun t : i.At A B => ![t.1.val, t.2.1.val, (S.give c).val, t.2.2.val, 0, 0]) i.bothPiece.size
      (fun t => in_both i t (S.give c)) (piece_squeezes i) (both_apart i (S.give c)) _
  iintro H
  ihave H := h0 $$ H
  icases H with ⟨H1, H2⟩
  ihave H1 := h1 $$ H1
  ihave H2 := h2 $$ H2
  isplitl [H1]; · iexact H1
  iexact H2

/-- What a device starts from: its arrays and its results. -/
def Swap.hands (m : (ℓ : Loc 8 τ sig) → Buf Val ℓ) (c : Dev 8) : AA 8 τ sig Val :=
  iprop((bigSep Finset.univ fun i => (S.inp i).view.loc (c.tc : Thread 8 τ) ↦{fullShare} m ((S.inp i).view.loc (c.tc : Thread 8 τ)))
    ∗ bigSep Finset.univ fun i => (S.out i).view.loc (c.tc : Thread 8 τ) ↦{fullShare} m ((S.out i).view.loc (c.tc : Thread 8 τ)))

/-- The hands of a device, one array at a time. -/
theorem hands_of (m : (ℓ : Loc 8 τ sig) → Buf Val ℓ) (c : Dev 8) :
    iprop(((S.inp .win).view.loc (c.tc : Thread 8 τ) ↦{fullShare} m ((S.inp .win).view.loc (c.tc : Thread 8 τ)))
      ∗ ((S.inp .wout).view.loc (c.tc : Thread 8 τ) ↦{fullShare} m ((S.inp .wout).view.loc (c.tc : Thread 8 τ)))
      ∗ ((S.inp .gu).view.loc (c.tc : Thread 8 τ) ↦{fullShare} m ((S.inp .gu).view.loc (c.tc : Thread 8 τ)))
      ∗ ((S.inp .down).view.loc (c.tc : Thread 8 τ) ↦{fullShare} m ((S.inp .down).view.loc (c.tc : Thread 8 τ)))
      ∗ ((S.out .win).view.loc (c.tc : Thread 8 τ) ↦{fullShare} m ((S.out .win).view.loc (c.tc : Thread 8 τ)))
      ∗ ((S.out .wout).view.loc (c.tc : Thread 8 τ) ↦{fullShare} m ((S.out .wout).view.loc (c.tc : Thread 8 τ)))
      ∗ ((S.out .gu).view.loc (c.tc : Thread 8 τ) ↦{fullShare} m ((S.out .gu).view.loc (c.tc : Thread 8 τ)))
      ∗ ((S.out .down).view.loc (c.tc : Thread 8 τ) ↦{fullShare} m ((S.out .down).view.loc (c.tc : Thread 8 τ)))) ⊢ S.hands (Val := Val) m c := by
  unfold Swap.hands
  rw [bigSep_grads, bigSep_grads]
  iintro ⟨H0, H1, H2, H3, H4, H5, H6, H7⟩
  isplitl [H0 H1 H2 H3]
  · isplitl [H0]; · iexact H0
    isplitl [H1]; · iexact H1
    isplitl [H2]; · iexact H2
    iexact H3
  · isplitl [H4]; · iexact H4
    isplitl [H5]; · iexact H5
    isplitl [H6]; · iexact H6
    iexact H7

theorem swap_hands (m : (ℓ : Loc 8 τ sig) → Buf Val ℓ) (c : Dev 8) :
    S.hands m c ⊢ iprop(S.keeps (S.held m) c ∗ S.talk.mem (S.load (S.held m)) c) := by
  have h1 : (bigSep Finset.univ fun i => ((S.inp i).view.loc (c.tc : Thread 8 τ) ↦{fullShare} m ((S.inp i).view.loc (c.tc : Thread 8 τ)) : AA 8 τ sig Val))
      ⊢ iprop(S.keeps (S.held m) c ∗ bigSep Finset.univ fun i => S.sends (S.held m) c i) := by
    unfold Swap.keeps
    rw [← bigSep_sep']
    exact bigSep_mono fun i _ => inp_dealt S m c i
  have h2 : (bigSep Finset.univ fun i => ((S.out i).view.loc (c.tc : Thread 8 τ) ↦{fullShare} m ((S.out i).view.loc (c.tc : Thread 8 τ)) : AA 8 τ sig Val))
      ⊢ bigSep Finset.univ fun i => S.gets c i :=
    bigSep_mono fun i _ => cut (Val := Val) c (S.out i) (fun t : i.At A B => ![t.1.val, t.2.1.val, t.2.2.val, 0, 0]) i.halfPiece.size (in_half i)
      (piece_squeezes' i) (half_apart i) _
  have h3 := swap_mem S (S.held m) c
  unfold Swap.hands
  iintro ⟨H1, H2⟩
  ihave H1 := h1 $$ H1
  icases H1 with ⟨HZ, H1⟩
  ihave H2 := h2 $$ H2
  isplitl [HZ]; · iexact HZ
  iapply h3
  isplitl [H1]; · iexact H1
  iexact H2

/-! ## What the run leaves -/

/-- The final memory of a device: its arrays as they were, and every piece of its results what its peer sent. -/
def Swap.Swapped (c : Dev 8) (s : MemSt 8 τ sig Val) : Prop :=
  (∀ i, (S.inp i).view.read Val (s.mem ((S.inp i).view.loc (c.tc : Thread 8 τ))) = W i c)
    ∧ ∀ i t, (halfAt (S.out i) t).view.read Val (s.mem ((halfAt (S.out i) t).view.loc (c.tc : Thread 8 τ)))
      = pieceOf (W i (S.peer c)) (S.give (S.peer c)) t

theorem swapped (c : Dev 8) (s : Phys 8 τ sig Val) :
    iprop((bigSep swapPays (S.talk.pay (S.load W) c)) ∗ S.keeps W c ∗ SI s) ⊢ |={Set.univ}=> iprop(⌜S.Swapped W c s.mem⌝ ∗ SI s) := by
  have h1 : ∀ i, iprop((bigSep swapPays (S.talk.pay (S.load W) c)) ∗ S.keeps W c ∗ SI s)
      ⊢ ⌜(S.inp i).view.read Val (s.mem.mem ((S.inp i).view.loc (c.tc : Thread 8 τ))) = W i c⌝ := by
    intro i
    have hk : S.keeps W c ⊢ owns (c.tc : Thread 8 τ) (S.inp i) fullShare.left (W i c) := bigSep_elim (Finset.mem_univ i)
    iintro ⟨-, HZ, HSI⟩
    ihave HZ := hk $$ HZ
    iapply (owns_reads c (S.inp i) fullShare.left (W i c) s)
    isplitl [HZ]; · iexact HZ
    iexact HSI
  have h2 : ∀ i t, iprop((bigSep swapPays (S.talk.pay (S.load W) c)) ∗ S.keeps W c ∗ SI s)
      ⊢ ⌜(halfAt (S.out i) t).view.read Val (s.mem.mem ((halfAt (S.out i) t).view.loc (c.tc : Thread 8 τ)))
        = pieceOf (W i (S.peer c)) (S.give (S.peer c)) t⌝ := by
    intro i t
    have hp : bigSep swapPays (S.talk.pay (S.load W) c)
        ⊢ owns (c.tc : Thread 8 τ) (halfAt (S.out i) t) fullShare (pieceOf (W i (S.peer c)) (S.give (S.peer c)) t) :=
      bigSep_elim (i := Key.rcv (⟨i, t⟩ : Pc A B)) (Finset.mem_image.mpr ⟨_, Finset.mem_univ _, rfl⟩)
    iintro ⟨HP, -, HSI⟩
    ihave HP := hp $$ HP
    iapply (owns_reads c (halfAt (S.out i) t) fullShare _ s)
    isplitl [HP]; · iexact HP
    iexact HSI
  have h : iprop((bigSep swapPays (S.talk.pay (S.load W) c)) ∗ S.keeps W c ∗ SI s) ⊢ ⌜S.Swapped W c s.mem⌝ :=
    fun w hw => ⟨fun i => h1 i w hw, fun i t => h2 i t w hw⟩
  suffices hs : S.Swapped W c s.mem → iprop((bigSep swapPays (S.talk.pay (S.load W) c)) ∗ S.keeps W c ∗ SI s)
      ⊢ |={Set.univ}=> iprop(⌜S.Swapped W c s.mem⌝ ∗ SI s) from fun w hw => hs (h w hw) w hw
  intro hG
  iintro ⟨-, -, HSI⟩
  imodintro
  isplitr; · ipureintro; exact hG
  iexact HSI

/-- The run of an exchange: from any memory, every execution ends, with the peer's halves in the results. -/
theorem θ_run_swap {Λ₀ : Labels} (cfgs : Fin 1 → Cfg sig Λ₀) [hW : ∀ p, IsEmpty (Fin (cfgs p).W)] (hN : (cfgs 0).N = 1)
    (hinj : Function.Injective (cellOf (nD := 8) (τ := τ) cfgs)) (hw : WinFacts₀ (cfgs 0).spec) (ho : OwnSemFacts (cfgs 0).spec S.talk.osem)
    [∀ e, Nonempty (Val e)] (defs₀ : Defs 8 τ sig Val Λ₀) (𝒱₀ : Variants) (m : (ℓ : Loc 8 τ sig) → Buf Val ℓ) (g : Dev 8 → PrngReg)
    (main : Dev 8 → Prog (TpuEff 8 τ sig Val (Sig Λ₀ (Fin 1) fun p => (pcsOf cfgs Val p).Adm) .tc) PUnit)
    (hmain : ∀ c, main c = .op (.customCall (entry 0) ()) fun _ => .ret ⟨⟩)
    (hok : S.talk.ok (swapCmds (pieces A B)) swapPays = true)
    (hbody : ∀ (c : Dev 8) (t : Fin (cfgs 0).N) (R : AA 8 τ sig Val),
      wp frame (wpE defs₀ 𝒱₀ (c.tc : Thread 8 τ) none) Set.univ (.op .deviceId fun d => S.talk.prog Val Λ₀ d (swapCmds (pieces A B))) (fun _ => R)
        ⊢ wp frame (wpE defs₀ 𝒱₀ (c.tc : Thread 8 τ) none) Set.univ (defs₀ .tc (cfgs 0).body ((cfgs 0).bodyArgs t ((cfgs 0).slots t))) fun _ => R)
    (hmem : ∀ c, unscopedRest (cfgs 0).spec c (fun b => m ((c.tc : Thread 8 τ).loc b)) ⊢ S.hands m c)
    {Q} (hQ : ∀ s : MemSt 8 τ sig Val, (∀ c, S.Swapped (S.held m) c s) →
      (∀ g', (g'.1.2 ≠ .tc ∨ g'.2.isScoped .tc = true) → s.sem g' = 0) → Q (⟨⟩, s)) :
    θ_run (Pipeline.defs (pcsOf cfgs Val) defs₀) (onTc main) ⟨m, fun _ => 0, g⟩ Q := by
  refine θ_run_talk S.talk (S.load (S.held m)) cfgs hN hinj hw ho defs₀ 𝒱₀ m g main hmain (swapCmds (pieces A B)) swapPays hok
    (fun c j j' h => by simp [Swap.talk] at h) ?_
    (S.keeps (S.held m)) (fun c => (hmem c).trans (swap_hands S m c)) (S.Swapped (S.held m)) (swapped S (S.held m)) hQ
  intro c t R
  refine Entails.trans ?_ (hbody c t R)
  rw [wp_deviceId]

end Swap

end Cert.Exchange

end
-- ==== Proof.ExchangeC.lean ====
/-
  The exchange between the two cores of a chip, as a `Swap`, and its run.
-/
module

public import proofs.«01_k».proof.Proof.Swap
public import proofs.«01_k».proof.Proof.Gen.ExchangeCIdeal
public import proofs.«01_k».proof.Proof.Gen.ExchangeCIdeal.Skeleton
public import proofs.«01_k».proof.Proof.Gen.ExchangeCIdeal.Launch
public import proofs.«01_k».proof.Proof.Gen.ExchangeCIdeal.Points

@[expose] public section

set_option Elab.async false

noncomputable section

namespace Cert.ExchangeC

open Idealize.ShloMosaic Idealize.ShloMosaic.TcCoe Idealize.ShloMosaic.Pipeline
open Idealize.SL Idealize.SL.Sem
open scoped Idealize.SL.BI
open Idealize.SL.BI.BIBase Idealize.SL.BI.Laws Idealize.SL.ProofMode
open Cert.Exchange Cert.ExchangeCIdeal Cert.ExchangeCIdeal.Facts₀ Cert.ExchangeCIdeal.Facts

theorem in_sems : ∀ j : Pc 4 1, ∀ a, (![place j] : Fin 1 → Nat) a + S1.size a ≤ S20.size a := by
  decide +kernel

section

variable [Cert.ExchangeCIdeal.Facts]

def input : (i : Grad) → Memref sig .tc .hbm (i.both 4 1) .f32
  | .win => Memref.whole main_arg0
  | .wout => Memref.whole main_arg1
  | .gu => Memref.whole main_arg2
  | .down => Memref.whole main_arg3
def output : (i : Grad) → Memref sig .tc .hbm (i.half 4 1) .f32
  | .win => Memref.whole main_v1_0
  | .wout => Memref.whole main_v1_1
  | .gu => Memref.whole main_v1_2
  | .down => Memref.whole main_v1_3

/-- The semaphores: `0`–`19` a send's own, `20`–`39` its receiver's. -/
def sems : Key Empty (Pc 4 1) → DmaSem sig
  | .snd j => ((cc0_scratch0.slice (Rect.unit (s := S20) ![place j] S1.size (in_sems j))).squeeze S_ squeezes_S1_S_).sem
  | .rcv j => ((cc0_scratch1.slice (Rect.unit (s := S20) ![place j] S1.size (in_sems j))).squeeze S_ squeezes_S1_S_).sem

theorem sems_val : ∀ k, (sems k).val = semNum k := by
  decide +kernel

theorem sems_inj : Function.Injective sems := by
  intro k k' e
  exact semNum_inj (by decide +kernel) (by decide +kernel) k k' (by rw [← sems_val, ← sems_val, e])

/-- The half sent, and the peer, as the kernel computes them. -/
def giveAt (d : Fin 8) : Fin 2 := ⟨k0_off1 d 2, by revert d; decide⟩
def peerAt (d : Fin 8) : Fin 8 := ⟨k0_dev1 d, k0_dev1_lt d⟩

/-- The exchange. -/
def swap : Swap τ sig 4 1 .f32 where
  inp := input
  out := output
  inpExact i h t := (View.wordExact_bits rfl).reshape _ _
  outExact i t := (View.wordExact_bits rfl).reshape _ _
  outHbm := by rintro (_ | _ | _ | _) <;> rfl
  give := giveAt
  peer := peerAt
  peer_peer := by decide
  routes c c' := by revert c c'; decide
  sem := sems
  sem_inj := sems_inj
  amt_eq := by rintro (_ | _ | _ | _) <;> rfl

/-- The kernel's body is the exchange's commands. -/
theorem body_eq {F : FTy → Type} [FloatOps F] (t : Fin cfg0.N) :
    Gen.bodyAt0 (F := F) t = .op .deviceId fun d => swap.talk.prog (Elt F) Λ₀ d (swapCmds (pieces 4 1)) := by
  rfl

/-- A device's buffers are its arrays and its results. -/
theorem hands {Val : EltTy → Type} (m : (ℓ : Loc 8 τ sig) → Buf Val ℓ) (c : Dev 8) :
    (unscopedRest cfg0.spec c (fun b => m ((c.tc : Thread 8 τ).loc b)) : AA 8 τ sig Val) ⊢ swap.hands m c := by
  have e : (unscopedRest cfg0.spec c (fun b => m ((c.tc : Thread 8 τ).loc b)) : AA 8 τ sig Val) = _ := Gen.unscopedRest0_eq c _
  rw [e]
  exact hands_of swap m c

/-- The commands run: every wait comes after what it waits for can have been started, on every device. -/
theorem cmds_ok : swap.talk.ok (swapCmds (pieces 4 1)) swapPays = true := by
  have h : (@swap Gen.facts).talk.ok (swapCmds (pieces 4 1)) swapPays = true := by decide +kernel
  exact h

theorem own_sems : OwnSemFacts cfg0.spec swap.talk.osem where
  isScoped := by
    have h : ∀ k, ((@swap Gen.facts).talk.osem k).isScoped .tc = true := by decide +kernel
    exact h
  inj k k' h := sems_inj (SemLoc.dma.inj h)
  disj k w := w.elim0

/-- Every semaphore of a TensorCore is scoped to the call. -/
theorem all_scoped (g' : GSem nD τ sig) : g'.1.2 ≠ .tc ∨ g'.2.isScoped .tc = true := by
  rcases g' with ⟨_, s | s⟩
  · exact s.elim0
  · exact Or.inr (show sig.isScopedDmaSem .tc s = true by revert s; decide +kernel)

attribute [local irreducible] cc0_rs_w_xchg_c in
/-- What the call runs at a point is the kernel's body. -/
theorem body_at {F : FTy → Type} [FloatOps F] (t : Fin cfg0.N) :
    defs₀ (F := F) .tc (cfgs 0).body ((cfgs 0).bodyArgs t ((cfgs 0).slots t)) = Gen.bodyAt0 (F := F) t := rfl

/-- The run of the exchange. -/
theorem run_main {F : FTy → Type} [FloatOps F] (m : (ℓ : Loc nD τ sig) → Buf (Elt F) ℓ) (g : Dev nD → PrngReg) :
    θ_run (defs (F := F)) (onTc (τ := τ) (main (F := F))) ⟨m, fun _ => 0, g⟩ fun r =>
      (∀ c, swap.Swapped (swap.held m) c r.2) ∧ r.2.sem = fun _ => 0 := by
  refine θ_run_swap swap cfgs Gen.N_0 Gen.cellOf_inj Gen.winFacts0.to₀ own_sems defs₀ Variants.none m g main (fun _ => rfl) cmds_ok
    (fun c t R => ?_) (hands m) fun s hs h0 => ⟨hs, ?_⟩
  · rw [body_at t, body_eq t]
  · funext g'
    exact h0 g' (all_scoped g')

end

end Cert.ExchangeC

end
-- ==== Proof.SwapValue.lean ====
/-
  The values an exchange of halves leaves: with every device holding its block of the arrays, device `c`'s result is
  block `c` of the array put together of what every device gets, its peer's half.

  The arrays are cut over the devices along the second axis, or along the fourth; the two are stated one by one.
-/
module

public import proofs.«01_k».proof.Proof.Swap
public import Idealize.ShloMosaic.Lib.Layout
public import Idealize.ShloMosaic.Lib.Pipeline.Value

@[expose] public section

set_option Elab.async false

noncomputable section

namespace Cert.Exchange

open Idealize.ShloMosaic Idealize.ShloMosaic.TcCoe Idealize.ShloMosaic.Pipeline Idealize.ShloMosaic.ValueIdx

variable {α : Type}

/-- The device whose number differs in the bits of `b`. -/
abbrev across (b : ℕ) (d : Fin 8) : Fin 8 := ⟨(d.val ^^^ b) % 8, Nat.mod_lt _ (by decide)⟩

/-- The bit of a device's number that counts `w`. -/
abbrev bitAt (w : ℕ) (d : Fin 8) : Fin 2 := ⟨d.val / w % 2, Nat.mod_lt _ (by decide)⟩

/-! ## A piece's index -/

theorem half_emb {M A B R : ℕ} (m : Fin M) (a : Fin A) (b : Fin B) (r : Fin R) (l : Fin 1024)
    (inb : ∀ x, (![m.val, a.val, b.val, 0, 0] : Fin 5 → ℕ) x + (![1, 1, 1, R, 1024] : Fin 5 → ℕ) x ≤ (![M, A, B, R, 1024] : Fin 5 → ℕ) x)
    (h : (⟨2, ![R, 1024]⟩ : Shape).numel = (⟨5, ![1, 1, 1, R, 1024]⟩ : Shape).numel) :
    (Rect.unit (s := ⟨5, ![M, A, B, R, 1024]⟩) ![m.val, a.val, b.val, 0, 0] ![1, 1, 1, R, 1024] inb).emb
      (Shape.reshapeEquiv (s := ⟨5, ![1, 1, 1, R, 1024]⟩) h (ix2 r l)) = ix5 m a b r l := by
  have e : Shape.reshapeEquiv (s := ⟨5, ![1, 1, 1, R, 1024]⟩) h (ix2 r l) = ix5 ⟨0, Nat.one_pos⟩ ⟨0, Nat.one_pos⟩ ⟨0, Nat.one_pos⟩ r l := by
    apply Shape.reshapeEquiv_eq_of_rowMajor
    refine (Shape.rowMajor_val_five _).trans (Eq.trans ?_ (Shape.rowMajor_val_two _).symm)
    show (((0 * 1 + 0) * 1 + 0) * R + r.val) * 1024 + l.val = r.val * 1024 + l.val
    simp
  rw [e]
  funext x
  apply Fin.ext
  rw [Rect.emb_apply]
  match x with
  | ⟨0, _⟩ => show m.val + 1 * 0 = m.val; omega
  | ⟨1, _⟩ => show a.val + 1 * 0 = a.val; omega
  | ⟨2, _⟩ => show b.val + 1 * 0 = b.val; omega
  | ⟨3, _⟩ => show 0 + 1 * r.val = r.val; omega
  | ⟨4, _⟩ => show 0 + 1 * l.val = l.val; omega

theorem both_emb {M A B R : ℕ} (m : Fin M) (a : Fin A) (h : Fin 2) (b : Fin B) (r : Fin R) (l : Fin 1024)
    (inb : ∀ x, (![m.val, a.val, h.val, b.val, 0, 0] : Fin 6 → ℕ) x + (![1, 1, 1, 1, R, 1024] : Fin 6 → ℕ) x ≤ (![M, A, 2, B, R, 1024] : Fin 6 → ℕ) x)
    (hn : (⟨2, ![R, 1024]⟩ : Shape).numel = (⟨6, ![1, 1, 1, 1, R, 1024]⟩ : Shape).numel) :
    (Rect.unit (s := ⟨6, ![M, A, 2, B, R, 1024]⟩) ![m.val, a.val, h.val, b.val, 0, 0] ![1, 1, 1, 1, R, 1024] inb).emb
      (Shape.reshapeEquiv (s := ⟨6, ![1, 1, 1, 1, R, 1024]⟩) hn (ix2 r l)) = ix6 m a h b r l := by
  have e : Shape.reshapeEquiv (s := ⟨6, ![1, 1, 1, 1, R, 1024]⟩) hn (ix2 r l)
      = ix6 ⟨0, Nat.one_pos⟩ ⟨0, Nat.one_pos⟩ ⟨0, Nat.one_pos⟩ ⟨0, Nat.one_pos⟩ r l := by
    apply Shape.reshapeEquiv_eq_of_rowMajor
    refine (Shape.rowMajor_val_six _).trans (Eq.trans ?_ (Shape.rowMajor_val_two _).symm)
    show ((((0 * 1 + 0) * 1 + 0) * 1 + 0) * R + r.val) * 1024 + l.val = r.val * 1024 + l.val
    simp
  rw [e]
  funext x
  apply Fin.ext
  rw [Rect.emb_apply]
  match x with
  | ⟨0, _⟩ => show m.val + 1 * 0 = m.val; omega
  | ⟨1, _⟩ => show a.val + 1 * 0 = a.val; omega
  | ⟨2, _⟩ => show h.val + 1 * 0 = h.val; omega
  | ⟨3, _⟩ => show b.val + 1 * 0 = b.val; omega
  | ⟨4, _⟩ => show 0 + 1 * r.val = r.val; omega
  | ⟨5, _⟩ => show 0 + 1 * l.val = l.val; omega

/-- An element of a result is the peer's, at its place in the half the peer sends. -/
theorem Swap.Swapped.at {τ : Topo} {sig : RefSig} {Val : EltTy → Type} {A B : ℕ} {e : EltTy} {S : Swap τ sig A B e} {W : S.Held Val} {c : Dev 8}
    {s : MemSt 8 τ sig Val} (hg : S.Swapped W c s) (i : Grad) (m : Fin i.mats) (a : Fin A) (b : Fin B) (r : Fin i.rows) (l : Fin 1024) :
    (S.out i).view.read Val (s.mem ((S.out i).view.loc (c.tc : Thread 8 τ))) (ix5 m a b r l)
      = W i (S.peer c) (ix6 m a (S.give (S.peer c)) b r l) := by
  have h := congrFun (hg.2 i (m, a, b)) (ix2 r l)
  refine Eq.trans ?_ (h.trans ?_)
  · exact congrArg ((S.out i).view.read Val (s.mem ((S.out i).view.loc (c.tc : Thread 8 τ)))) (half_emb m a b r l (in_half i (m, a, b)) (piece_squeezes' i).numel_eq).symm
  · exact congrArg (W i (S.peer c)) (both_emb m a (S.give (S.peer c)) b r l (in_both i (m, a, b) (S.give (S.peer c))) (piece_squeezes i).numel_eq)

/-! ## Arrays cut over the devices along the second axis -/

section Second

variable {M B R : ℕ}

/-- Device `d`'s part of the exchanged array: half `h` of device `p`'s part. -/
abbrev got2 (G : (⟨6, ![M, 8, 2, B, R, 1024]⟩ : Shape).Idx → α) (p h : ℕ)
    (hs : (⟨6, ![M, 8, 2, B, R, 1024]⟩ : Shape).Slices ![0, p, h, 0, 0, 0] ⟨6, ![M, 1, 1, B, R, 1024]⟩)
    (hc : (⟨6, ![M, 1, 1, B, R, 1024]⟩ : Shape).ShapeCasts ⟨4, ![M, B, R, 1024]⟩)
    (hb : (⟨4, ![M, B, R, 1024]⟩ : Shape).BroadcastsInDim ⟨5, ![M, 1, B, R, 1024]⟩ ![0, 2, 3, 4]) : (⟨5, ![M, 1, B, R, 1024]⟩ : Shape).Idx → α :=
  broadcastInDim ⟨5, ![M, 1, B, R, 1024]⟩ ![0, 2, 3, 4] hb
    (shapeCast ⟨4, ![M, B, R, 1024]⟩ (extractStridedSlice ⟨6, ![M, 1, 1, B, R, 1024]⟩ ![0, p, h, 0, 0, 0] G hs) hc)

theorem got2_at (G : (⟨6, ![M, 8, 2, B, R, 1024]⟩ : Shape).Idx → α) (p : Fin 8) (h : Fin 2)
    (hs : (⟨6, ![M, 8, 2, B, R, 1024]⟩ : Shape).Slices ![0, p.val, h.val, 0, 0, 0] ⟨6, ![M, 1, 1, B, R, 1024]⟩)
    (hc : (⟨6, ![M, 1, 1, B, R, 1024]⟩ : Shape).ShapeCasts ⟨4, ![M, B, R, 1024]⟩)
    (hb : (⟨4, ![M, B, R, 1024]⟩ : Shape).BroadcastsInDim ⟨5, ![M, 1, B, R, 1024]⟩ ![0, 2, 3, 4])
    (m : Fin M) (a : Fin 1) (b : Fin B) (r : Fin R) (l : Fin 1024) :
    got2 G p.val h.val hs hc hb (ix5 m a b r l) = G (ix6 m p h b r l) := by
  refine (broadcastInDim_apply _ hb _ (ix5 m a b r l) (ix4 m b r l) fun x => ?_).trans ?_
  · match x with
    | ⟨0, _⟩ => show m.val = if M = 1 then 0 else m.val; have := m.isLt; split <;> omega
    | ⟨1, _⟩ => show b.val = if B = 1 then 0 else b.val; have := b.isLt; split <;> omega
    | ⟨2, _⟩ => show r.val = if R = 1 then 0 else r.val; have := r.isLt; split <;> omega
    | ⟨3, _⟩ => rfl
  refine (shapeCast_apply _ hc (ix4 m b r l) (ix6 m 0 0 b r l) ?_).trans ?_
  · refine (Shape.rowMajor_val_six _).trans (Eq.trans ?_ (Shape.rowMajor_val_four _).symm)
    show ((((m.val * 1 + 0) * 1 + 0) * B + b.val) * R + r.val) * 1024 + l.val = ((m.val * B + b.val) * R + r.val) * 1024 + l.val
    simp
  refine extractStridedSlice_apply _ G hs (ix6 m 0 0 b r l) (ix6 m p h b r l) fun x => ?_
  match x with
  | ⟨0, _⟩ => exact (Nat.zero_add _).symm
  | ⟨1, _⟩ => rfl
  | ⟨2, _⟩ => rfl
  | ⟨3, _⟩ => exact (Nat.zero_add _).symm
  | ⟨4, _⟩ => exact (Nat.zero_add _).symm
  | ⟨5, _⟩ => exact (Nat.zero_add _).symm

theorem block2_at (G : (⟨6, ![M, 8, 2, B, R, 1024]⟩ : Shape).Idx → α)
    (ht : Layout.Tiles ⟨6, ![M, 1, 2, B, R, 1024]⟩ ⟨6, ![M, 8, 2, B, R, 1024]⟩ 1 8) (c : Fin 8)
    (m : Fin M) (a : Fin 1) (h : Fin 2) (b : Fin B) (r : Fin R) (l : Fin 1024) :
    Layout.block ⟨6, ![M, 1, 2, B, R, 1024]⟩ ⟨6, ![M, 8, 2, B, R, 1024]⟩ 1 8 c G ht (ix6 m a h b r l) = G (ix6 m c h b r l) := by
  rw [Layout.block_apply]
  refine congrArg G (funext fun x => Fin.ext ?_)
  rw [Layout.Tiles.idx_val]
  match x with
  | ⟨0, _⟩ => rfl
  | ⟨1, _⟩ => show c.val * 1 + a.val = c.val; have := a.isLt; omega
  | ⟨2, _⟩ => rfl
  | ⟨3, _⟩ => rfl
  | ⟨4, _⟩ => rfl
  | ⟨5, _⟩ => rfl

/-- What all devices get, put together: device `d` half `h d` of device `p d`'s part. -/
abbrev all2 (G : (⟨6, ![M, 8, 2, B, R, 1024]⟩ : Shape).Idx → α) (p : Fin 8 → Fin 8) (h : Fin 8 → Fin 2)
    (hs : ∀ d, (⟨6, ![M, 8, 2, B, R, 1024]⟩ : Shape).Slices ![0, (p d).val, (h d).val, 0, 0, 0] ⟨6, ![M, 1, 1, B, R, 1024]⟩)
    (hc : (⟨6, ![M, 1, 1, B, R, 1024]⟩ : Shape).ShapeCasts ⟨4, ![M, B, R, 1024]⟩)
    (hb : (⟨4, ![M, B, R, 1024]⟩ : Shape).BroadcastsInDim ⟨5, ![M, 1, B, R, 1024]⟩ ![0, 2, 3, 4])
    (hcat : Shape.Concatenates (List.replicate 8 ⟨5, ![M, 1, B, R, 1024]⟩) ⟨5, ![M, 8, B, R, 1024]⟩ 1) : (⟨5, ![M, 8, B, R, 1024]⟩ : Shape).Idx → α :=
  concatenate ⟨5, ![M, 8, B, R, 1024]⟩ 1 [⟨_, got2 G (p 0).val (h 0).val (hs 0) hc hb⟩, ⟨_, got2 G (p 1).val (h 1).val (hs 1) hc hb⟩,
   ⟨_, got2 G (p 2).val (h 2).val (hs 2) hc hb⟩, ⟨_, got2 G (p 3).val (h 3).val (hs 3) hc hb⟩,
   ⟨_, got2 G (p 4).val (h 4).val (hs 4) hc hb⟩, ⟨_, got2 G (p 5).val (h 5).val (hs 5) hc hb⟩,
   ⟨_, got2 G (p 6).val (h 6).val (hs 6) hc hb⟩, ⟨_, got2 G (p 7).val (h 7).val (hs 7) hc hb⟩] hcat

/-- What device `c` gets is block `c` of what all get. -/
theorem block_of_all2 (c : Fin 8) (f : (⟨5, ![M, 1, B, R, 1024]⟩ : Shape).Idx → α) (G : (⟨6, ![M, 8, 2, B, R, 1024]⟩ : Shape).Idx → α)
    (p : Fin 8 → Fin 8) (h : Fin 8 → Fin 2)
    (hf : ∀ m a b r l, f (ix5 m a b r l) = G (ix6 m (p c) (h c) b r l))
    (hs : ∀ d, (⟨6, ![M, 8, 2, B, R, 1024]⟩ : Shape).Slices ![0, (p d).val, (h d).val, 0, 0, 0] ⟨6, ![M, 1, 1, B, R, 1024]⟩)
    (hc : (⟨6, ![M, 1, 1, B, R, 1024]⟩ : Shape).ShapeCasts ⟨4, ![M, B, R, 1024]⟩)
    (hb : (⟨4, ![M, B, R, 1024]⟩ : Shape).BroadcastsInDim ⟨5, ![M, 1, B, R, 1024]⟩ ![0, 2, 3, 4])
    (hcat : Shape.Concatenates (List.replicate 8 ⟨5, ![M, 1, B, R, 1024]⟩) ⟨5, ![M, 8, B, R, 1024]⟩ 1)
    (ht : Layout.Tiles ⟨5, ![M, 1, B, R, 1024]⟩ ⟨5, ![M, 8, B, R, 1024]⟩ 1 8) :
    f = Layout.block ⟨5, ![M, 1, B, R, 1024]⟩ ⟨5, ![M, 8, B, R, 1024]⟩ 1 8 c (all2 G p h hs hc hb hcat) ht := by
  refine Eq.trans ?_ (Layout.block_concatenate_ofFn (s₁ := ⟨5, ![M, 1, B, R, 1024]⟩) (t := ⟨5, ![M, 8, B, R, 1024]⟩) 1
    (fun d : Fin 8 => got2 G (p d).val (h d).val (hs d) hc hb) hcat ht c).symm
  funext x
  rw [eq_ix5 x]
  exact (hf _ _ _ _ _).trans (got2_at G (p c) (h c) (hs c) hc hb _ _ _ _ _).symm

variable {τ : Topo} {sig : RefSig} {Val : EltTy → Type} {e : EltTy}

/-- So, of an exchange of arrays cut along this axis. -/
theorem Swap.Swapped.block2 {S : Swap τ sig 1 B e} {W : S.Held Val} {c : Dev 8} {s : MemSt 8 τ sig Val} (hg : S.Swapped W c s) (i : Grad)
    (G : (⟨6, ![i.mats, 8, 2, B, i.rows, 1024]⟩ : Shape).Idx → Val e) (p : Fin 8 → Fin 8) (h : Fin 8 → Fin 2)
    (hp : S.peer c = p c) (hh : S.give (S.peer c) = h c)
    (hT : Layout.Tiles (i.both 1 B) ⟨6, ![i.mats, 8, 2, B, i.rows, 1024]⟩ 1 8)
    (hW : ∀ d, W i d = Layout.block (i.both 1 B) ⟨6, ![i.mats, 8, 2, B, i.rows, 1024]⟩ 1 8 d G hT)
    (hs : ∀ d, (⟨6, ![i.mats, 8, 2, B, i.rows, 1024]⟩ : Shape).Slices ![0, (p d).val, (h d).val, 0, 0, 0] ⟨6, ![i.mats, 1, 1, B, i.rows, 1024]⟩)
    (hc : (⟨6, ![i.mats, 1, 1, B, i.rows, 1024]⟩ : Shape).ShapeCasts ⟨4, ![i.mats, B, i.rows, 1024]⟩)
    (hb : (⟨4, ![i.mats, B, i.rows, 1024]⟩ : Shape).BroadcastsInDim ⟨5, ![i.mats, 1, B, i.rows, 1024]⟩ ![0, 2, 3, 4])
    (hcat : Shape.Concatenates (List.replicate 8 (i.half 1 B)) ⟨5, ![i.mats, 8, B, i.rows, 1024]⟩ 1)
    (ht : Layout.Tiles (i.half 1 B) ⟨5, ![i.mats, 8, B, i.rows, 1024]⟩ 1 8) :
    (S.out i).view.read Val (s.mem ((S.out i).view.loc (c.tc : Thread 8 τ)))
      = Layout.block (i.half 1 B) ⟨5, ![i.mats, 8, B, i.rows, 1024]⟩ 1 8 c (all2 G p h hs hc hb hcat) ht :=
  block_of_all2 c _ G p h (fun m a b r l => by rw [hg.at, hp, hW, block2_at, ← hp, hh]) hs hc hb hcat ht

end Second

/-! ## Arrays cut over the devices along the fourth axis -/

section Fourth

variable {M A R : ℕ}

/-- Device `d`'s part of the exchanged array: half `h` of device `p`'s part. -/
abbrev got4 (G : (⟨6, ![M, A, 2, 8, R, 1024]⟩ : Shape).Idx → α) (p h : ℕ)
    (hs : (⟨6, ![M, A, 2, 8, R, 1024]⟩ : Shape).Slices ![0, 0, h, p, 0, 0] ⟨6, ![M, A, 1, 1, R, 1024]⟩)
    (hc : (⟨6, ![M, A, 1, 1, R, 1024]⟩ : Shape).ShapeCasts ⟨4, ![M, A, R, 1024]⟩)
    (hb : (⟨4, ![M, A, R, 1024]⟩ : Shape).BroadcastsInDim ⟨5, ![M, A, 1, R, 1024]⟩ ![0, 1, 3, 4]) : (⟨5, ![M, A, 1, R, 1024]⟩ : Shape).Idx → α :=
  broadcastInDim ⟨5, ![M, A, 1, R, 1024]⟩ ![0, 1, 3, 4] hb
    (shapeCast ⟨4, ![M, A, R, 1024]⟩ (extractStridedSlice ⟨6, ![M, A, 1, 1, R, 1024]⟩ ![0, 0, h, p, 0, 0] G hs) hc)

theorem got4_at (G : (⟨6, ![M, A, 2, 8, R, 1024]⟩ : Shape).Idx → α) (p : Fin 8) (h : Fin 2)
    (hs : (⟨6, ![M, A, 2, 8, R, 1024]⟩ : Shape).Slices ![0, 0, h.val, p.val, 0, 0] ⟨6, ![M, A, 1, 1, R, 1024]⟩)
    (hc : (⟨6, ![M, A, 1, 1, R, 1024]⟩ : Shape).ShapeCasts ⟨4, ![M, A, R, 1024]⟩)
    (hb : (⟨4, ![M, A, R, 1024]⟩ : Shape).BroadcastsInDim ⟨5, ![M, A, 1, R, 1024]⟩ ![0, 1, 3, 4])
    (m : Fin M) (a : Fin A) (b : Fin 1) (r : Fin R) (l : Fin 1024) :
    got4 G p.val h.val hs hc hb (ix5 m a b r l) = G (ix6 m a h p r l) := by
  refine (broadcastInDim_apply _ hb _ (ix5 m a b r l) (ix4 m a r l) fun x => ?_).trans ?_
  · match x with
    | ⟨0, _⟩ => show m.val = if M = 1 then 0 else m.val; have := m.isLt; split <;> omega
    | ⟨1, _⟩ => show a.val = if A = 1 then 0 else a.val; have := a.isLt; split <;> omega
    | ⟨2, _⟩ => show r.val = if R = 1 then 0 else r.val; have := r.isLt; split <;> omega
    | ⟨3, _⟩ => rfl
  refine (shapeCast_apply _ hc (ix4 m a r l) (ix6 m a 0 0 r l) ?_).trans ?_
  · refine (Shape.rowMajor_val_six _).trans (Eq.trans ?_ (Shape.rowMajor_val_four _).symm)
    show ((((m.val * A + a.val) * 1 + 0) * 1 + 0) * R + r.val) * 1024 + l.val = ((m.val * A + a.val) * R + r.val) * 1024 + l.val
    simp
  refine extractStridedSlice_apply _ G hs (ix6 m a 0 0 r l) (ix6 m a h p r l) fun x => ?_
  match x with
  | ⟨0, _⟩ => exact (Nat.zero_add _).symm
  | ⟨1, _⟩ => exact (Nat.zero_add _).symm
  | ⟨2, _⟩ => rfl
  | ⟨3, _⟩ => rfl
  | ⟨4, _⟩ => exact (Nat.zero_add _).symm
  | ⟨5, _⟩ => exact (Nat.zero_add _).symm

theorem block4_at (G : (⟨6, ![M, A, 2, 8, R, 1024]⟩ : Shape).Idx → α)
    (ht : Layout.Tiles ⟨6, ![M, A, 2, 1, R, 1024]⟩ ⟨6, ![M, A, 2, 8, R, 1024]⟩ 3 8) (c : Fin 8)
    (m : Fin M) (a : Fin A) (h : Fin 2) (b : Fin 1) (r : Fin R) (l : Fin 1024) :
    Layout.block ⟨6, ![M, A, 2, 1, R, 1024]⟩ ⟨6, ![M, A, 2, 8, R, 1024]⟩ 3 8 c G ht (ix6 m a h b r l) = G (ix6 m a h c r l) := by
  rw [Layout.block_apply]
  refine congrArg G (funext fun x => Fin.ext ?_)
  rw [Layout.Tiles.idx_val]
  match x with
  | ⟨0, _⟩ => rfl
  | ⟨1, _⟩ => rfl
  | ⟨2, _⟩ => rfl
  | ⟨3, _⟩ => show c.val * 1 + b.val = c.val; have := b.isLt; omega
  | ⟨4, _⟩ => rfl
  | ⟨5, _⟩ => rfl

/-- What all devices get, put together: device `d` half `h d` of device `p d`'s part. -/
abbrev all4 (G : (⟨6, ![M, A, 2, 8, R, 1024]⟩ : Shape).Idx → α) (p : Fin 8 → Fin 8) (h : Fin 8 → Fin 2)
    (hs : ∀ d, (⟨6, ![M, A, 2, 8, R, 1024]⟩ : Shape).Slices ![0, 0, (h d).val, (p d).val, 0, 0] ⟨6, ![M, A, 1, 1, R, 1024]⟩)
    (hc : (⟨6, ![M, A, 1, 1, R, 1024]⟩ : Shape).ShapeCasts ⟨4, ![M, A, R, 1024]⟩)
    (hb : (⟨4, ![M, A, R, 1024]⟩ : Shape).BroadcastsInDim ⟨5, ![M, A, 1, R, 1024]⟩ ![0, 1, 3, 4])
    (hcat : Shape.Concatenates (List.replicate 8 ⟨5, ![M, A, 1, R, 1024]⟩) ⟨5, ![M, A, 8, R, 1024]⟩ 2) : (⟨5, ![M, A, 8, R, 1024]⟩ : Shape).Idx → α :=
  concatenate ⟨5, ![M, A, 8, R, 1024]⟩ 2 [⟨_, got4 G (p 0).val (h 0).val (hs 0) hc hb⟩, ⟨_, got4 G (p 1).val (h 1).val (hs 1) hc hb⟩,
   ⟨_, got4 G (p 2).val (h 2).val (hs 2) hc hb⟩, ⟨_, got4 G (p 3).val (h 3).val (hs 3) hc hb⟩,
   ⟨_, got4 G (p 4).val (h 4).val (hs 4) hc hb⟩, ⟨_, got4 G (p 5).val (h 5).val (hs 5) hc hb⟩,
   ⟨_, got4 G (p 6).val (h 6).val (hs 6) hc hb⟩, ⟨_, got4 G (p 7).val (h 7).val (hs 7) hc hb⟩] hcat

/-- What device `c` gets is block `c` of what all get. -/
theorem block_of_all4 (c : Fin 8) (f : (⟨5, ![M, A, 1, R, 1024]⟩ : Shape).Idx → α) (G : (⟨6, ![M, A, 2, 8, R, 1024]⟩ : Shape).Idx → α)
    (p : Fin 8 → Fin 8) (h : Fin 8 → Fin 2)
    (hf : ∀ m a b r l, f (ix5 m a b r l) = G (ix6 m a (h c) (p c) r l))
    (hs : ∀ d, (⟨6, ![M, A, 2, 8, R, 1024]⟩ : Shape).Slices ![0, 0, (h d).val, (p d).val, 0, 0] ⟨6, ![M, A, 1, 1, R, 1024]⟩)
    (hc : (⟨6, ![M, A, 1, 1, R, 1024]⟩ : Shape).ShapeCasts ⟨4, ![M, A, R, 1024]⟩)
    (hb : (⟨4, ![M, A, R, 1024]⟩ : Shape).BroadcastsInDim ⟨5, ![M, A, 1, R, 1024]⟩ ![0, 1, 3, 4])
    (hcat : Shape.Concatenates (List.replicate 8 ⟨5, ![M, A, 1, R, 1024]⟩) ⟨5, ![M, A, 8, R, 1024]⟩ 2)
    (ht : Layout.Tiles ⟨5, ![M, A, 1, R, 1024]⟩ ⟨5, ![M, A, 8, R, 1024]⟩ 2 8) :
    f = Layout.block ⟨5, ![M, A, 1, R, 1024]⟩ ⟨5, ![M, A, 8, R, 1024]⟩ 2 8 c (all4 G p h hs hc hb hcat) ht := by
  refine Eq.trans ?_ (Layout.block_concatenate_ofFn (s₁ := ⟨5, ![M, A, 1, R, 1024]⟩) (t := ⟨5, ![M, A, 8, R, 1024]⟩) 2
    (fun d : Fin 8 => got4 G (p d).val (h d).val (hs d) hc hb) hcat ht c).symm
  funext x
  rw [eq_ix5 x]
  exact (hf _ _ _ _ _).trans (got4_at G (p c) (h c) (hs c) hc hb _ _ _ _ _).symm

variable {τ : Topo} {sig : RefSig} {Val : EltTy → Type} {e : EltTy}

/-- So, of an exchange of arrays cut along this axis. -/
theorem Swap.Swapped.block4 {S : Swap τ sig A 1 e} {W : S.Held Val} {c : Dev 8} {s : MemSt 8 τ sig Val} (hg : S.Swapped W c s) (i : Grad)
    (G : (⟨6, ![i.mats, A, 2, 8, i.rows, 1024]⟩ : Shape).Idx → Val e) (p : Fin 8 → Fin 8) (h : Fin 8 → Fin 2)
    (hp : S.peer c = p c) (hh : S.give (S.peer c) = h c)
    (hT : Layout.Tiles (i.both A 1) ⟨6, ![i.mats, A, 2, 8, i.rows, 1024]⟩ 3 8)
    (hW : ∀ d, W i d = Layout.block (i.both A 1) ⟨6, ![i.mats, A, 2, 8, i.rows, 1024]⟩ 3 8 d G hT)
    (hs : ∀ d, (⟨6, ![i.mats, A, 2, 8, i.rows, 1024]⟩ : Shape).Slices ![0, 0, (h d).val, (p d).val, 0, 0] ⟨6, ![i.mats, A, 1, 1, i.rows, 1024]⟩)
    (hc : (⟨6, ![i.mats, A, 1, 1, i.rows, 1024]⟩ : Shape).ShapeCasts ⟨4, ![i.mats, A, i.rows, 1024]⟩)
    (hb : (⟨4, ![i.mats, A, i.rows, 1024]⟩ : Shape).BroadcastsInDim ⟨5, ![i.mats, A, 1, i.rows, 1024]⟩ ![0, 1, 3, 4])
    (hcat : Shape.Concatenates (List.replicate 8 (i.half A 1)) ⟨5, ![i.mats, A, 8, i.rows, 1024]⟩ 2)
    (ht : Layout.Tiles (i.half A 1) ⟨5, ![i.mats, A, 8, i.rows, 1024]⟩ 2 8) :
    (S.out i).view.read Val (s.mem ((S.out i).view.loc (c.tc : Thread 8 τ)))
      = Layout.block (i.half A 1) ⟨5, ![i.mats, A, 8, i.rows, 1024]⟩ 2 8 c (all4 G p h hs hc hb hcat) ht :=
  block_of_all4 c _ G p h (fun m a b r l => by rw [hg.at, hp, hW, block4_at, ← hp, hh]) hs hc hb hcat ht

end Fourth

end Cert.Exchange

end
-- ==== Proof.ExchangeCClaims.lean ====
/-
  The claims about the exchange between the two cores of a chip: each program's run, read at what the claim names.
-/
module

public import proofs.«01_k».proof.Defs
public import proofs.«01_k».proof.Proof.ExchangeC
public import proofs.«01_k».proof.Proof.SwapValue
public import proofs.«01_k».proof.Proof.Gen.ExchangeC
public import proofs.«01_k».proof.Proof.Gen.ExchangeCReferenceIdeal.Run
public import proofs.«01_k».proof.Proof.Gen.ExchangeCReference.Run

@[expose] public section

set_option Elab.async false

noncomputable section

namespace Cert.ExchangeC

open Idealize.ShloMosaic Idealize.ShloMosaic.TcCoe Idealize.SL.Sem
open Cert.Exchange Cert.ExchangeCIdeal

section

variable {Val : EltTy → Type} [Cert.ExchangeCIdeal.Facts]

/-- The arguments are as they were. -/
theorem args_kept {m : (ℓ : Loc 8 τ sig) → Buf Val ℓ} {c : Dev 8} {s : MemSt 8 τ sig Val} (hg : swap.Swapped (swap.held m) c s) :
    s.mem ((c.tc : Thread 8 τ).loc main_arg0) = m ((c.tc : Thread 8 τ).loc main_arg0)
    ∧ s.mem ((c.tc : Thread 8 τ).loc main_arg1) = m ((c.tc : Thread 8 τ).loc main_arg1)
    ∧ s.mem ((c.tc : Thread 8 τ).loc main_arg2) = m ((c.tc : Thread 8 τ).loc main_arg2)
    ∧ s.mem ((c.tc : Thread 8 τ).loc main_arg3) = m ((c.tc : Thread 8 τ).loc main_arg3) :=
  ⟨hg.1 .win, hg.1 .wout, hg.1 .gu, hg.1 .down⟩

theorem peer_at : ∀ c : Fin 8, peerAt c = across 1 c := by decide
theorem give_at : ∀ c : Fin 8, giveAt (peerAt c) = bitAt 1 c := by decide

/-- The results are the blocks of the exchanged arrays: device `d` gets, of device `d ^ 1`, the half that its own place on
    the chip names. -/
theorem results {m : (ℓ : Loc 8 τ sig) → Buf Val ℓ} {c : Dev 8} {s : MemSt 8 τ sig Val} (hg : swap.Swapped (swap.held m) c s)
    (G0 : (⟨6, ![1, 4, 2, 8, 256, 1024]⟩ : Shape).Idx → Val .f32)
    (G1 : (⟨6, ![1, 4, 2, 8, 128, 1024]⟩ : Shape).Idx → Val .f32)
    (G2 : (⟨6, ![2, 4, 2, 8, 352, 1024]⟩ : Shape).Idx → Val .f32)
    (G3 : (⟨6, ![1, 4, 2, 8, 352, 1024]⟩ : Shape).Idx → Val .f32)
    (h : ∀ b : Dev 8, m ((b.tc : Thread 8 τ).loc main_arg0) = Layout.block ⟨6, ![1, 4, 2, 1, 256, 1024]⟩ ⟨6, ![1, 4, 2, 8, 256, 1024]⟩ 3 8 b G0
      ∧ m ((b.tc : Thread 8 τ).loc main_arg1) = Layout.block ⟨6, ![1, 4, 2, 1, 128, 1024]⟩ ⟨6, ![1, 4, 2, 8, 128, 1024]⟩ 3 8 b G1
      ∧ m ((b.tc : Thread 8 τ).loc main_arg2) = Layout.block ⟨6, ![2, 4, 2, 1, 352, 1024]⟩ ⟨6, ![2, 4, 2, 8, 352, 1024]⟩ 3 8 b G2
      ∧ m ((b.tc : Thread 8 τ).loc main_arg3) = Layout.block ⟨6, ![1, 4, 2, 1, 352, 1024]⟩ ⟨6, ![1, 4, 2, 8, 352, 1024]⟩ 3 8 b G3) :
    s.mem ((c.tc : Thread 8 τ).loc main_v1_0) = Layout.block ⟨5, ![1, 4, 1, 256, 1024]⟩ ⟨5, ![1, 4, 8, 256, 1024]⟩ 2 8 c
      (all4 G0 (across 1) (bitAt 1) (by decide) (by decide) (by decide) (by decide))
    ∧ s.mem ((c.tc : Thread 8 τ).loc main_v1_1) = Layout.block ⟨5, ![1, 4, 1, 128, 1024]⟩ ⟨5, ![1, 4, 8, 128, 1024]⟩ 2 8 c
      (all4 G1 (across 1) (bitAt 1) (by decide) (by decide) (by decide) (by decide))
    ∧ s.mem ((c.tc : Thread 8 τ).loc main_v1_2) = Layout.block ⟨5, ![2, 4, 1, 352, 1024]⟩ ⟨5, ![2, 4, 8, 352, 1024]⟩ 2 8 c
      (all4 G2 (across 1) (bitAt 1) (by decide) (by decide) (by decide) (by decide))
    ∧ s.mem ((c.tc : Thread 8 τ).loc main_v1_3) = Layout.block ⟨5, ![1, 4, 1, 352, 1024]⟩ ⟨5, ![1, 4, 8, 352, 1024]⟩ 2 8 c
      (all4 G3 (across 1) (bitAt 1) (by decide) (by decide) (by decide) (by decide)) :=
  ⟨hg.block4 .win G0 (across 1) (bitAt 1) (peer_at c) (give_at c) (by decide) (fun d => (h d).1) _ _ _ _ _,
    hg.block4 .wout G1 (across 1) (bitAt 1) (peer_at c) (give_at c) (by decide) (fun d => (h d).2.1) _ _ _ _ _,
    hg.block4 .gu G2 (across 1) (bitAt 1) (peer_at c) (give_at c) (by decide) (fun d => (h d).2.2.1) _ _ _ _ _,
    hg.block4 .down G3 (across 1) (bitAt 1) (peer_at c) (give_at c) (by decide) (fun d => (h d).2.2.2) _ _ _ _ _⟩

end

theorem frame_ideal : Cert.quiescent_ExchangeCIdeal := fun m ρ _ =>
  (θ_run Cert.ExchangeCIdeal.defs _ _).mono (fun _ h => ⟨fun c => args_kept (h.1 c), h.2⟩) (run_main (F := Ideal) m ρ)

theorem frame_kernel : Cert.quiescent_ExchangeC := fun m ρ _ =>
  (θ_run Cert.ExchangeCIdeal.defs _ _).mono (fun _ h => ⟨fun c => args_kept (h.1 c), h.2⟩) (run_main (F := Bits) m ρ)

theorem frame_reference_ideal : Cert.quiescent_ExchangeCReferenceIdeal := fun m ρ _ =>
  (θ_run Cert.ExchangeCReferenceIdeal.defs _ _).mono (fun r h => ⟨fun c => (h c).2.2.2.2, sem_eq_zero_of_no_sems (by decide) r.2⟩)
    (Cert.ExchangeCReferenceIdeal.Value.run (F := Ideal) m ρ)

theorem frame_reference : Cert.quiescent_ExchangeCReference := fun m ρ _ =>
  (θ_run Cert.ExchangeCReference.defs _ _).mono (fun r h => ⟨fun c => (h c).2.2.2.2, sem_eq_zero_of_no_sems (by decide) r.2⟩)
    (Cert.ExchangeCReference.Value.run (F := Bits) m ρ)

theorem algebraic : Cert.algebraic_ExchangeCIdeal_ExchangeCReferenceIdeal := fun m g m' g' _ h =>
  ⟨_, _, _, _,
    (θ_run Cert.ExchangeCIdeal.defs _ _).mono (fun r hr c => by
      obtain ⟨r0, r1, r2, r3⟩ := results (hr.1 c) _ _ _ _ h
      exact ⟨r0, r1, r2, r3, args_kept (hr.1 c)⟩) (run_main (F := Ideal) m g),
    (θ_run Cert.ExchangeCReferenceIdeal.defs _ _).mono (fun r hr => hr 0) (Cert.ExchangeCReferenceIdeal.Value.run (F := Ideal) m' g')⟩

theorem bitexact : Cert.bitexact_ExchangeC_ExchangeCReference := fun m g m' g' _ h =>
  ⟨_, _, _, _,
    (θ_run Cert.ExchangeCIdeal.defs _ _).mono (fun r hr c => by
      obtain ⟨r0, r1, r2, r3⟩ := results (hr.1 c) _ _ _ _ h
      exact ⟨r0, r1, r2, r3, args_kept (hr.1 c)⟩) (run_main (F := Bits) m g),
    (θ_run Cert.ExchangeCReference.defs _ _).mono (fun r hr => hr 0) (Cert.ExchangeCReference.Value.run (F := Bits) m' g')⟩

end Cert.ExchangeC

end
-- ==== Proof.ExchangeX.lean ====
/-
  The exchange across the first axis of the grid, as a `Swap`, and its run.
-/
module

public import proofs.«01_k».proof.Proof.Swap
public import proofs.«01_k».proof.Proof.Gen.ExchangeXIdeal
public import proofs.«01_k».proof.Proof.Gen.ExchangeXIdeal.Skeleton
public import proofs.«01_k».proof.Proof.Gen.ExchangeXIdeal.Launch
public import proofs.«01_k».proof.Proof.Gen.ExchangeXIdeal.Points

@[expose] public section

set_option Elab.async false

noncomputable section

namespace Cert.ExchangeX

open Idealize.ShloMosaic Idealize.ShloMosaic.TcCoe Idealize.ShloMosaic.Pipeline
open Idealize.SL Idealize.SL.Sem
open scoped Idealize.SL.BI
open Idealize.SL.BI.BIBase Idealize.SL.BI.Laws Idealize.SL.ProofMode
open Cert.Exchange Cert.ExchangeXIdeal Cert.ExchangeXIdeal.Facts₀ Cert.ExchangeXIdeal.Facts

theorem in_sems : ∀ j : Pc 1 2, ∀ a, (![place j] : Fin 1 → Nat) a + S1.size a ≤ S10.size a := by
  decide +kernel

theorem words_both : ∀ (i : Grad) (h : Fin 2) (t : i.At 1 2), (Rect.unit (s := i.both 1 2) ![t.1.val, t.2.1.val, h.val, t.2.2.val, 0, 0] i.bothPiece.size
    (in_both i t h)).WholeWords (EltTy.packing .bf16) := by
  rintro (_ | _ | _ | _) <;> decide +kernel
theorem words_half : ∀ (i : Grad) (t : i.At 1 2), (Rect.unit (s := i.half 1 2) ![t.1.val, t.2.1.val, t.2.2.val, 0, 0] i.halfPiece.size
    (in_half i t)).WholeWords (EltTy.packing .bf16) := by
  rintro (_ | _ | _ | _) <;> decide +kernel

section

variable [Cert.ExchangeXIdeal.Facts]

def input : (i : Grad) → Memref sig .tc .hbm (i.both 1 2) .bf16
  | .win => Memref.whole main_arg0
  | .wout => Memref.whole main_arg1
  | .gu => Memref.whole main_arg2
  | .down => Memref.whole main_arg3
def output : (i : Grad) → Memref sig .tc .hbm (i.half 1 2) .bf16
  | .win => Memref.whole main_v1_0
  | .wout => Memref.whole main_v1_1
  | .gu => Memref.whole main_v1_2
  | .down => Memref.whole main_v1_3

theorem input_whole : ∀ i, (input i).IsWhole := by
  rintro (_ | _ | _ | _) <;> exact Memref.isWhole_whole _
theorem output_whole : ∀ i, (output i).IsWhole := by
  rintro (_ | _ | _ | _) <;> exact Memref.isWhole_whole _

/-- The semaphores: `0`–`9` a send's own, `10`–`19` its receiver's. -/
def sems : Key Empty (Pc 1 2) → DmaSem sig
  | .snd j => ((cc0_scratch0.slice (Rect.unit (s := S10) ![place j] S1.size (in_sems j))).squeeze S_ squeezes_S1_S_).sem
  | .rcv j => ((cc0_scratch1.slice (Rect.unit (s := S10) ![place j] S1.size (in_sems j))).squeeze S_ squeezes_S1_S_).sem

theorem sems_val : ∀ k, (sems k).val = semNum k := by
  decide +kernel

theorem sems_inj : Function.Injective sems := by
  intro k k' e
  exact semNum_inj (by decide +kernel) (by decide +kernel) k k' (by rw [← sems_val, ← sems_val, e])

/-- The half sent, and the peer, as the kernel computes them. -/
def giveAt (d : Fin 8) : Fin 2 := ⟨k0_off1 d 2, by revert d; decide⟩
def peerAt (d : Fin 8) : Fin 8 := ⟨k0_dev1 d, k0_dev1_lt d⟩

/-- The exchange. -/
def swap : Swap τ sig 1 2 .bf16 where
  inp := input
  out := output
  inpExact i h t := ((input_whole i).wordExact_slice rfl _ (words_both i h t)).reshape _ _
  outExact i t := ((output_whole i).wordExact_slice rfl _ (words_half i t)).reshape _ _
  outHbm := by rintro (_ | _ | _ | _) <;> rfl
  give := giveAt
  peer := peerAt
  peer_peer := by decide
  routes c c' := by revert c c'; decide
  sem := sems
  sem_inj := sems_inj
  amt_eq := by rintro (_ | _ | _ | _) <;> rfl

/-- The kernel's body is the exchange's commands. -/
theorem body_eq {F : FTy → Type} [FloatOps F] (t : Fin cfg0.N) :
    Gen.bodyAt0 (F := F) t = .op .deviceId fun d => swap.talk.prog (Elt F) Λ₀ d (swapCmds (pieces 1 2)) := by
  rfl

/-- A device's buffers are its arrays and its results. -/
theorem hands {Val : EltTy → Type} (m : (ℓ : Loc 8 τ sig) → Buf Val ℓ) (c : Dev 8) :
    (unscopedRest cfg0.spec c (fun b => m ((c.tc : Thread 8 τ).loc b)) : AA 8 τ sig Val) ⊢ swap.hands m c := by
  have e : (unscopedRest cfg0.spec c (fun b => m ((c.tc : Thread 8 τ).loc b)) : AA 8 τ sig Val) = _ := Gen.unscopedRest0_eq c _
  rw [e]
  exact hands_of swap m c

/-- The commands run: every wait comes after what it waits for can have been started, on every device. -/
theorem cmds_ok : swap.talk.ok (swapCmds (pieces 1 2)) swapPays = true := by
  have h : (@swap Gen.facts).talk.ok (swapCmds (pieces 1 2)) swapPays = true := by decide +kernel
  exact h

theorem own_sems : OwnSemFacts cfg0.spec swap.talk.osem where
  isScoped := by
    have h : ∀ k, ((@swap Gen.facts).talk.osem k).isScoped .tc = true := by decide +kernel
    exact h
  inj k k' h := sems_inj (SemLoc.dma.inj h)
  disj k w := w.elim0

/-- Every semaphore of a TensorCore is scoped to the call. -/
theorem all_scoped (g' : GSem nD τ sig) : g'.1.2 ≠ .tc ∨ g'.2.isScoped .tc = true := by
  rcases g' with ⟨_, s | s⟩
  · exact s.elim0
  · exact Or.inr (show sig.isScopedDmaSem .tc s = true by revert s; decide +kernel)

attribute [local irreducible] cc0_rs_w_xchg_x in
/-- What the call runs at a point is the kernel's body. -/
theorem body_at {F : FTy → Type} [FloatOps F] (t : Fin cfg0.N) :
    defs₀ (F := F) .tc (cfgs 0).body ((cfgs 0).bodyArgs t ((cfgs 0).slots t)) = Gen.bodyAt0 (F := F) t := rfl

/-- The run of the exchange. -/
theorem run_main {F : FTy → Type} [FloatOps F] (m : (ℓ : Loc nD τ sig) → Buf (Elt F) ℓ) (g : Dev nD → PrngReg) :
    θ_run (defs (F := F)) (onTc (τ := τ) (main (F := F))) ⟨m, fun _ => 0, g⟩ fun r =>
      (∀ c, swap.Swapped (swap.held m) c r.2) ∧ r.2.sem = fun _ => 0 := by
  refine θ_run_swap swap cfgs Gen.N_0 Gen.cellOf_inj Gen.winFacts0.to₀ own_sems defs₀ Variants.none m g main (fun _ => rfl) cmds_ok
    (fun c t R => ?_) (hands m) fun s hs h0 => ⟨hs, ?_⟩
  · rw [body_at t, body_eq t]
  · funext g'
    exact h0 g' (all_scoped g')

end

end Cert.ExchangeX

end
-- ==== Proof.ExchangeXClaims.lean ====
/-
  The claims about the exchange across the first axis of the grid: each program's run, read at what the claim names.
-/
module

public import proofs.«01_k».proof.Defs
public import proofs.«01_k».proof.Proof.ExchangeX
public import proofs.«01_k».proof.Proof.SwapValue
public import proofs.«01_k».proof.Proof.Gen.ExchangeX
public import proofs.«01_k».proof.Proof.Gen.ExchangeXReferenceIdeal.Run
public import proofs.«01_k».proof.Proof.Gen.ExchangeXReference.Run

@[expose] public section

set_option Elab.async false

noncomputable section

namespace Cert.ExchangeX

open Idealize.ShloMosaic Idealize.ShloMosaic.TcCoe Idealize.SL.Sem
open Cert.Exchange Cert.ExchangeXIdeal

section

variable {Val : EltTy → Type} [Cert.ExchangeXIdeal.Facts]

/-- The arguments are as they were. -/
theorem args_kept {m : (ℓ : Loc 8 τ sig) → Buf Val ℓ} {c : Dev 8} {s : MemSt 8 τ sig Val} (hg : swap.Swapped (swap.held m) c s) :
    s.mem ((c.tc : Thread 8 τ).loc main_arg0) = m ((c.tc : Thread 8 τ).loc main_arg0)
    ∧ s.mem ((c.tc : Thread 8 τ).loc main_arg1) = m ((c.tc : Thread 8 τ).loc main_arg1)
    ∧ s.mem ((c.tc : Thread 8 τ).loc main_arg2) = m ((c.tc : Thread 8 τ).loc main_arg2)
    ∧ s.mem ((c.tc : Thread 8 τ).loc main_arg3) = m ((c.tc : Thread 8 τ).loc main_arg3) :=
  ⟨hg.1 .win, hg.1 .wout, hg.1 .gu, hg.1 .down⟩

theorem peer_at : ∀ c : Fin 8, peerAt c = across 4 c := by decide
theorem give_at : ∀ c : Fin 8, giveAt (peerAt c) = bitAt 4 c := by decide

/-- The results are the blocks of the exchanged arrays: device `d` gets, of device `d ^ 4`, the half that its own place along
    the axis names. -/
theorem results {m : (ℓ : Loc 8 τ sig) → Buf Val ℓ} {c : Dev 8} {s : MemSt 8 τ sig Val} (hg : swap.Swapped (swap.held m) c s)
    (G0 : (⟨6, ![1, 8, 2, 2, 256, 1024]⟩ : Shape).Idx → Val .bf16)
    (G1 : (⟨6, ![1, 8, 2, 2, 128, 1024]⟩ : Shape).Idx → Val .bf16)
    (G2 : (⟨6, ![2, 8, 2, 2, 352, 1024]⟩ : Shape).Idx → Val .bf16)
    (G3 : (⟨6, ![1, 8, 2, 2, 352, 1024]⟩ : Shape).Idx → Val .bf16)
    (h : ∀ b : Dev 8, m ((b.tc : Thread 8 τ).loc main_arg0) = Layout.block ⟨6, ![1, 1, 2, 2, 256, 1024]⟩ ⟨6, ![1, 8, 2, 2, 256, 1024]⟩ 1 8 b G0
      ∧ m ((b.tc : Thread 8 τ).loc main_arg1) = Layout.block ⟨6, ![1, 1, 2, 2, 128, 1024]⟩ ⟨6, ![1, 8, 2, 2, 128, 1024]⟩ 1 8 b G1
      ∧ m ((b.tc : Thread 8 τ).loc main_arg2) = Layout.block ⟨6, ![2, 1, 2, 2, 352, 1024]⟩ ⟨6, ![2, 8, 2, 2, 352, 1024]⟩ 1 8 b G2
      ∧ m ((b.tc : Thread 8 τ).loc main_arg3) = Layout.block ⟨6, ![1, 1, 2, 2, 352, 1024]⟩ ⟨6, ![1, 8, 2, 2, 352, 1024]⟩ 1 8 b G3) :
    s.mem ((c.tc : Thread 8 τ).loc main_v1_0) = Layout.block ⟨5, ![1, 1, 2, 256, 1024]⟩ ⟨5, ![1, 8, 2, 256, 1024]⟩ 1 8 c
      (all2 G0 (across 4) (bitAt 4) (by decide) (by decide) (by decide) (by decide))
    ∧ s.mem ((c.tc : Thread 8 τ).loc main_v1_1) = Layout.block ⟨5, ![1, 1, 2, 128, 1024]⟩ ⟨5, ![1, 8, 2, 128, 1024]⟩ 1 8 c
      (all2 G1 (across 4) (bitAt 4) (by decide) (by decide) (by decide) (by decide))
    ∧ s.mem ((c.tc : Thread 8 τ).loc main_v1_2) = Layout.block ⟨5, ![2, 1, 2, 352, 1024]⟩ ⟨5, ![2, 8, 2, 352, 1024]⟩ 1 8 c
      (all2 G2 (across 4) (bitAt 4) (by decide) (by decide) (by decide) (by decide))
    ∧ s.mem ((c.tc : Thread 8 τ).loc main_v1_3) = Layout.block ⟨5, ![1, 1, 2, 352, 1024]⟩ ⟨5, ![1, 8, 2, 352, 1024]⟩ 1 8 c
      (all2 G3 (across 4) (bitAt 4) (by decide) (by decide) (by decide) (by decide)) :=
  ⟨hg.block2 .win G0 (across 4) (bitAt 4) (peer_at c) (give_at c) (by decide) (fun d => (h d).1) _ _ _ _ _,
    hg.block2 .wout G1 (across 4) (bitAt 4) (peer_at c) (give_at c) (by decide) (fun d => (h d).2.1) _ _ _ _ _,
    hg.block2 .gu G2 (across 4) (bitAt 4) (peer_at c) (give_at c) (by decide) (fun d => (h d).2.2.1) _ _ _ _ _,
    hg.block2 .down G3 (across 4) (bitAt 4) (peer_at c) (give_at c) (by decide) (fun d => (h d).2.2.2) _ _ _ _ _⟩

end

theorem frame_ideal : Cert.quiescent_ExchangeXIdeal := fun m ρ _ =>
  (θ_run Cert.ExchangeXIdeal.defs _ _).mono (fun _ h => ⟨fun c => args_kept (h.1 c), h.2⟩) (run_main (F := Ideal) m ρ)

theorem frame_kernel : Cert.quiescent_ExchangeX := fun m ρ _ =>
  (θ_run Cert.ExchangeXIdeal.defs _ _).mono (fun _ h => ⟨fun c => args_kept (h.1 c), h.2⟩) (run_main (F := Bits) m ρ)

theorem frame_reference_ideal : Cert.quiescent_ExchangeXReferenceIdeal := fun m ρ _ =>
  (θ_run Cert.ExchangeXReferenceIdeal.defs _ _).mono (fun r h => ⟨fun c => (h c).2.2.2.2, sem_eq_zero_of_no_sems (by decide) r.2⟩)
    (Cert.ExchangeXReferenceIdeal.Value.run (F := Ideal) m ρ)

theorem frame_reference : Cert.quiescent_ExchangeXReference := fun m ρ _ =>
  (θ_run Cert.ExchangeXReference.defs _ _).mono (fun r h => ⟨fun c => (h c).2.2.2.2, sem_eq_zero_of_no_sems (by decide) r.2⟩)
    (Cert.ExchangeXReference.Value.run (F := Bits) m ρ)

theorem algebraic : Cert.algebraic_ExchangeXIdeal_ExchangeXReferenceIdeal := fun m g m' g' _ h =>
  ⟨_, _, _, _,
    (θ_run Cert.ExchangeXIdeal.defs _ _).mono (fun r hr c => by
      obtain ⟨r0, r1, r2, r3⟩ := results (hr.1 c) _ _ _ _ h
      exact ⟨r0, r1, r2, r3, args_kept (hr.1 c)⟩) (run_main (F := Ideal) m g),
    (θ_run Cert.ExchangeXReferenceIdeal.defs _ _).mono (fun r hr => hr 0) (Cert.ExchangeXReferenceIdeal.Value.run (F := Ideal) m' g')⟩

theorem bitexact : Cert.bitexact_ExchangeX_ExchangeXReference := fun m g m' g' _ h =>
  ⟨_, _, _, _,
    (θ_run Cert.ExchangeXIdeal.defs _ _).mono (fun r hr c => by
      obtain ⟨r0, r1, r2, r3⟩ := results (hr.1 c) _ _ _ _ h
      exact ⟨r0, r1, r2, r3, args_kept (hr.1 c)⟩) (run_main (F := Bits) m g),
    (θ_run Cert.ExchangeXReference.defs _ _).mono (fun r hr => hr 0) (Cert.ExchangeXReference.Value.run (F := Bits) m' g')⟩

end Cert.ExchangeX

end
-- ==== Proof.ExchangeY.lean ====
/-
  The exchange across the second axis of the grid, as a `Swap`, and its run.
-/
module

public import proofs.«01_k».proof.Proof.Swap
public import proofs.«01_k».proof.Proof.Gen.ExchangeYIdeal
public import proofs.«01_k».proof.Proof.Gen.ExchangeYIdeal.Skeleton
public import proofs.«01_k».proof.Proof.Gen.ExchangeYIdeal.Launch
public import proofs.«01_k».proof.Proof.Gen.ExchangeYIdeal.Points

@[expose] public section

set_option Elab.async false

noncomputable section

namespace Cert.ExchangeY

open Idealize.ShloMosaic Idealize.ShloMosaic.TcCoe Idealize.ShloMosaic.Pipeline
open Idealize.SL Idealize.SL.Sem
open scoped Idealize.SL.BI
open Idealize.SL.BI.BIBase Idealize.SL.BI.Laws Idealize.SL.ProofMode
open Cert.Exchange Cert.ExchangeYIdeal Cert.ExchangeYIdeal.Facts₀ Cert.ExchangeYIdeal.Facts

theorem in_sems : ∀ j : Pc 1 1, ∀ a, (![place j] : Fin 1 → Nat) a + S1.size a ≤ S5.size a := by
  decide +kernel

theorem words_both : ∀ (i : Grad) (h : Fin 2) (t : i.At 1 1), (Rect.unit (s := i.both 1 1) ![t.1.val, t.2.1.val, h.val, t.2.2.val, 0, 0] i.bothPiece.size
    (in_both i t h)).WholeWords (EltTy.packing .bf16) := by
  rintro (_ | _ | _ | _) <;> decide +kernel
theorem words_half : ∀ (i : Grad) (t : i.At 1 1), (Rect.unit (s := i.half 1 1) ![t.1.val, t.2.1.val, t.2.2.val, 0, 0] i.halfPiece.size
    (in_half i t)).WholeWords (EltTy.packing .bf16) := by
  rintro (_ | _ | _ | _) <;> decide +kernel

section

variable [Cert.ExchangeYIdeal.Facts]

def input : (i : Grad) → Memref sig .tc .hbm (i.both 1 1) .bf16
  | .win => Memref.whole main_arg0
  | .wout => Memref.whole main_arg1
  | .gu => Memref.whole main_arg2
  | .down => Memref.whole main_arg3
def output : (i : Grad) → Memref sig .tc .hbm (i.half 1 1) .bf16
  | .win => Memref.whole main_v1_0
  | .wout => Memref.whole main_v1_1
  | .gu => Memref.whole main_v1_2
  | .down => Memref.whole main_v1_3

theorem input_whole : ∀ i, (input i).IsWhole := by
  rintro (_ | _ | _ | _) <;> exact Memref.isWhole_whole _
theorem output_whole : ∀ i, (output i).IsWhole := by
  rintro (_ | _ | _ | _) <;> exact Memref.isWhole_whole _

/-- The semaphores: `0`–`4` a send's own, `5`–`9` its receiver's. -/
def sems : Key Empty (Pc 1 1) → DmaSem sig
  | .snd j => ((cc0_scratch0.slice (Rect.unit (s := S5) ![place j] S1.size (in_sems j))).squeeze S_ squeezes_S1_S_).sem
  | .rcv j => ((cc0_scratch1.slice (Rect.unit (s := S5) ![place j] S1.size (in_sems j))).squeeze S_ squeezes_S1_S_).sem

theorem sems_val : ∀ k, (sems k).val = semNum k := by
  decide +kernel

theorem sems_inj : Function.Injective sems := by
  intro k k' e
  exact semNum_inj (by decide +kernel) (by decide +kernel) k k' (by rw [← sems_val, ← sems_val, e])

/-- The half sent, and the peer, as the kernel computes them. -/
def giveAt (d : Fin 8) : Fin 2 := ⟨k0_off1 d 2, by revert d; decide⟩
def peerAt (d : Fin 8) : Fin 8 := ⟨k0_dev1 d, k0_dev1_lt d⟩

/-- The exchange. -/
def swap : Swap τ sig 1 1 .bf16 where
  inp := input
  out := output
  inpExact i h t := ((input_whole i).wordExact_slice rfl _ (words_both i h t)).reshape _ _
  outExact i t := ((output_whole i).wordExact_slice rfl _ (words_half i t)).reshape _ _
  outHbm := by rintro (_ | _ | _ | _) <;> rfl
  give := giveAt
  peer := peerAt
  peer_peer := by decide
  routes c c' := by revert c c'; decide
  sem := sems
  sem_inj := sems_inj
  amt_eq := by rintro (_ | _ | _ | _) <;> rfl

/-- The kernel's body is the exchange's commands. -/
theorem body_eq {F : FTy → Type} [FloatOps F] (t : Fin cfg0.N) :
    Gen.bodyAt0 (F := F) t = .op .deviceId fun d => swap.talk.prog (Elt F) Λ₀ d (swapCmds (pieces 1 1)) := by
  rfl

/-- A device's buffers are its arrays and its results. -/
theorem hands {Val : EltTy → Type} (m : (ℓ : Loc 8 τ sig) → Buf Val ℓ) (c : Dev 8) :
    (unscopedRest cfg0.spec c (fun b => m ((c.tc : Thread 8 τ).loc b)) : AA 8 τ sig Val) ⊢ swap.hands m c := by
  have e : (unscopedRest cfg0.spec c (fun b => m ((c.tc : Thread 8 τ).loc b)) : AA 8 τ sig Val) = _ := Gen.unscopedRest0_eq c _
  rw [e]
  exact hands_of swap m c

/-- The commands run: every wait comes after what it waits for can have been started, on every device. -/
theorem cmds_ok : swap.talk.ok (swapCmds (pieces 1 1)) swapPays = true := by
  have h : (@swap Gen.facts).talk.ok (swapCmds (pieces 1 1)) swapPays = true := by decide +kernel
  exact h

theorem own_sems : OwnSemFacts cfg0.spec swap.talk.osem where
  isScoped := by
    have h : ∀ k, ((@swap Gen.facts).talk.osem k).isScoped .tc = true := by decide +kernel
    exact h
  inj k k' h := sems_inj (SemLoc.dma.inj h)
  disj k w := w.elim0

/-- Every semaphore of a TensorCore is scoped to the call. -/
theorem all_scoped (g' : GSem nD τ sig) : g'.1.2 ≠ .tc ∨ g'.2.isScoped .tc = true := by
  rcases g' with ⟨_, s | s⟩
  · exact s.elim0
  · exact Or.inr (show sig.isScopedDmaSem .tc s = true by revert s; decide +kernel)

attribute [local irreducible] cc0_rs_w_xchg_y in
/-- What the call runs at a point is the kernel's body. -/
theorem body_at {F : FTy → Type} [FloatOps F] (t : Fin cfg0.N) :
    defs₀ (F := F) .tc (cfgs 0).body ((cfgs 0).bodyArgs t ((cfgs 0).slots t)) = Gen.bodyAt0 (F := F) t := rfl

/-- The run of the exchange. -/
theorem run_main {F : FTy → Type} [FloatOps F] (m : (ℓ : Loc nD τ sig) → Buf (Elt F) ℓ) (g : Dev nD → PrngReg) :
    θ_run (defs (F := F)) (onTc (τ := τ) (main (F := F))) ⟨m, fun _ => 0, g⟩ fun r =>
      (∀ c, swap.Swapped (swap.held m) c r.2) ∧ r.2.sem = fun _ => 0 := by
  refine θ_run_swap swap cfgs Gen.N_0 Gen.cellOf_inj Gen.winFacts0.to₀ own_sems defs₀ Variants.none m g main (fun _ => rfl) cmds_ok
    (fun c t R => ?_) (hands m) fun s hs h0 => ⟨hs, ?_⟩
  · rw [body_at t, body_eq t]
  · funext g'
    exact h0 g' (all_scoped g')

end

end Cert.ExchangeY

end
-- ==== Proof.ExchangeYClaims.lean ====
/-
  The claims about the exchange across the second axis of the grid: each program's run, read at what the claim names.
-/
module

public import proofs.«01_k».proof.Defs
public import proofs.«01_k».proof.Proof.ExchangeY
public import proofs.«01_k».proof.Proof.SwapValue
public import proofs.«01_k».proof.Proof.Gen.ExchangeY
public import proofs.«01_k».proof.Proof.Gen.ExchangeYReferenceIdeal.Run
public import proofs.«01_k».proof.Proof.Gen.ExchangeYReference.Run

@[expose] public section

set_option Elab.async false

noncomputable section

namespace Cert.ExchangeY

open Idealize.ShloMosaic Idealize.ShloMosaic.TcCoe Idealize.SL.Sem
open Cert.Exchange Cert.ExchangeYIdeal

section

variable {Val : EltTy → Type} [Cert.ExchangeYIdeal.Facts]

/-- The arguments are as they were. -/
theorem args_kept {m : (ℓ : Loc 8 τ sig) → Buf Val ℓ} {c : Dev 8} {s : MemSt 8 τ sig Val} (hg : swap.Swapped (swap.held m) c s) :
    s.mem ((c.tc : Thread 8 τ).loc main_arg0) = m ((c.tc : Thread 8 τ).loc main_arg0)
    ∧ s.mem ((c.tc : Thread 8 τ).loc main_arg1) = m ((c.tc : Thread 8 τ).loc main_arg1)
    ∧ s.mem ((c.tc : Thread 8 τ).loc main_arg2) = m ((c.tc : Thread 8 τ).loc main_arg2)
    ∧ s.mem ((c.tc : Thread 8 τ).loc main_arg3) = m ((c.tc : Thread 8 τ).loc main_arg3) :=
  ⟨hg.1 .win, hg.1 .wout, hg.1 .gu, hg.1 .down⟩

theorem peer_at : ∀ c : Fin 8, peerAt c = across 2 c := by decide
theorem give_at : ∀ c : Fin 8, giveAt (peerAt c) = bitAt 2 c := by decide

/-- The results are the blocks of the exchanged arrays: device `d` gets, of device `d ^ 2`, the half that its own place along
    the axis names. -/
theorem results {m : (ℓ : Loc 8 τ sig) → Buf Val ℓ} {c : Dev 8} {s : MemSt 8 τ sig Val} (hg : swap.Swapped (swap.held m) c s)
    (G0 : (⟨6, ![1, 8, 2, 1, 256, 1024]⟩ : Shape).Idx → Val .bf16)
    (G1 : (⟨6, ![1, 8, 2, 1, 128, 1024]⟩ : Shape).Idx → Val .bf16)
    (G2 : (⟨6, ![2, 8, 2, 1, 352, 1024]⟩ : Shape).Idx → Val .bf16)
    (G3 : (⟨6, ![1, 8, 2, 1, 352, 1024]⟩ : Shape).Idx → Val .bf16)
    (h : ∀ b : Dev 8, m ((b.tc : Thread 8 τ).loc main_arg0) = Layout.block ⟨6, ![1, 1, 2, 1, 256, 1024]⟩ ⟨6, ![1, 8, 2, 1, 256, 1024]⟩ 1 8 b G0
      ∧ m ((b.tc : Thread 8 τ).loc main_arg1) = Layout.block ⟨6, ![1, 1, 2, 1, 128, 1024]⟩ ⟨6, ![1, 8, 2, 1, 128, 1024]⟩ 1 8 b G1
      ∧ m ((b.tc : Thread 8 τ).loc main_arg2) = Layout.block ⟨6, ![2, 1, 2, 1, 352, 1024]⟩ ⟨6, ![2, 8, 2, 1, 352, 1024]⟩ 1 8 b G2
      ∧ m ((b.tc : Thread 8 τ).loc main_arg3) = Layout.block ⟨6, ![1, 1, 2, 1, 352, 1024]⟩ ⟨6, ![1, 8, 2, 1, 352, 1024]⟩ 1 8 b G3) :
    s.mem ((c.tc : Thread 8 τ).loc main_v1_0) = Layout.block ⟨5, ![1, 1, 1, 256, 1024]⟩ ⟨5, ![1, 8, 1, 256, 1024]⟩ 1 8 c
      (all2 G0 (across 2) (bitAt 2) (by decide) (by decide) (by decide) (by decide))
    ∧ s.mem ((c.tc : Thread 8 τ).loc main_v1_1) = Layout.block ⟨5, ![1, 1, 1, 128, 1024]⟩ ⟨5, ![1, 8, 1, 128, 1024]⟩ 1 8 c
      (all2 G1 (across 2) (bitAt 2) (by decide) (by decide) (by decide) (by decide))
    ∧ s.mem ((c.tc : Thread 8 τ).loc main_v1_2) = Layout.block ⟨5, ![2, 1, 1, 352, 1024]⟩ ⟨5, ![2, 8, 1, 352, 1024]⟩ 1 8 c
      (all2 G2 (across 2) (bitAt 2) (by decide) (by decide) (by decide) (by decide))
    ∧ s.mem ((c.tc : Thread 8 τ).loc main_v1_3) = Layout.block ⟨5, ![1, 1, 1, 352, 1024]⟩ ⟨5, ![1, 8, 1, 352, 1024]⟩ 1 8 c
      (all2 G3 (across 2) (bitAt 2) (by decide) (by decide) (by decide) (by decide)) :=
  ⟨hg.block2 .win G0 (across 2) (bitAt 2) (peer_at c) (give_at c) (by decide) (fun d => (h d).1) _ _ _ _ _,
    hg.block2 .wout G1 (across 2) (bitAt 2) (peer_at c) (give_at c) (by decide) (fun d => (h d).2.1) _ _ _ _ _,
    hg.block2 .gu G2 (across 2) (bitAt 2) (peer_at c) (give_at c) (by decide) (fun d => (h d).2.2.1) _ _ _ _ _,
    hg.block2 .down G3 (across 2) (bitAt 2) (peer_at c) (give_at c) (by decide) (fun d => (h d).2.2.2) _ _ _ _ _⟩

end

theorem frame_ideal : Cert.quiescent_ExchangeYIdeal := fun m ρ _ =>
  (θ_run Cert.ExchangeYIdeal.defs _ _).mono (fun _ h => ⟨fun c => args_kept (h.1 c), h.2⟩) (run_main (F := Ideal) m ρ)

theorem frame_kernel : Cert.quiescent_ExchangeY := fun m ρ _ =>
  (θ_run Cert.ExchangeYIdeal.defs _ _).mono (fun _ h => ⟨fun c => args_kept (h.1 c), h.2⟩) (run_main (F := Bits) m ρ)

theorem frame_reference_ideal : Cert.quiescent_ExchangeYReferenceIdeal := fun m ρ _ =>
  (θ_run Cert.ExchangeYReferenceIdeal.defs _ _).mono (fun r h => ⟨fun c => (h c).2.2.2.2, sem_eq_zero_of_no_sems (by decide) r.2⟩)
    (Cert.ExchangeYReferenceIdeal.Value.run (F := Ideal) m ρ)

theorem frame_reference : Cert.quiescent_ExchangeYReference := fun m ρ _ =>
  (θ_run Cert.ExchangeYReference.defs _ _).mono (fun r h => ⟨fun c => (h c).2.2.2.2, sem_eq_zero_of_no_sems (by decide) r.2⟩)
    (Cert.ExchangeYReference.Value.run (F := Bits) m ρ)

theorem algebraic : Cert.algebraic_ExchangeYIdeal_ExchangeYReferenceIdeal := fun m g m' g' _ h =>
  ⟨_, _, _, _,
    (θ_run Cert.ExchangeYIdeal.defs _ _).mono (fun r hr c => by
      obtain ⟨r0, r1, r2, r3⟩ := results (hr.1 c) _ _ _ _ h
      exact ⟨r0, r1, r2, r3, args_kept (hr.1 c)⟩) (run_main (F := Ideal) m g),
    (θ_run Cert.ExchangeYReferenceIdeal.defs _ _).mono (fun r hr => hr 0) (Cert.ExchangeYReferenceIdeal.Value.run (F := Ideal) m' g')⟩

theorem bitexact : Cert.bitexact_ExchangeY_ExchangeYReference := fun m g m' g' _ h =>
  ⟨_, _, _, _,
    (θ_run Cert.ExchangeYIdeal.defs _ _).mono (fun r hr c => by
      obtain ⟨r0, r1, r2, r3⟩ := results (hr.1 c) _ _ _ _ h
      exact ⟨r0, r1, r2, r3, args_kept (hr.1 c)⟩) (run_main (F := Bits) m g),
    (θ_run Cert.ExchangeYReference.defs _ _).mono (fun r hr => hr 0) (Cert.ExchangeYReference.Value.run (F := Bits) m' g')⟩

end Cert.ExchangeY

end
-- ==== Proof.GatherMod.lean ====
/-
  The gather of the modulation's gradients, as a `Board` of one array; its run; and the claims about it.
-/
module

public import proofs.«01_k».proof.Defs
public import proofs.«01_k».proof.Proof.GatherOne
public import proofs.«01_k».proof.Proof.Gen.GatherMod
public import proofs.«01_k».proof.Proof.Gen.GatherModIdeal
public import proofs.«01_k».proof.Proof.Gen.GatherModIdeal.Skeleton
public import proofs.«01_k».proof.Proof.Gen.GatherModIdeal.Launch
public import proofs.«01_k».proof.Proof.Gen.GatherModIdeal.Points
public import proofs.«01_k».proof.Proof.Gen.GatherModReferenceIdeal.Run
public import proofs.«01_k».proof.Proof.Gen.GatherModReference.Run

@[expose] public section

set_option Elab.async false

noncomputable section

namespace Cert.ModGather

open Idealize.ShloMosaic Idealize.ShloMosaic.TcCoe Idealize.ShloMosaic.Pipeline
open Idealize.SL Idealize.SL.RA Idealize.SL.Sem
open scoped Idealize.SL.BI
open Idealize.SL.BI.BIBase Idealize.SL.BI.Laws Idealize.SL.ProofMode
open Cert.Exchange Cert.GatherModIdeal Cert.GatherModIdeal.Facts₀ Cert.GatherModIdeal.Facts

section

variable [Cert.GatherModIdeal.Facts]

/-- The slots, as the kernel computes them. -/
def ownAt (d : Fin 8) : Fin 8 := ⟨k0_off1 d 0, by revert d; decide⟩
def passAt : Way → Fin 8 → Fin 8
  | .x, d => ⟨k0_off2 d 0, by revert d; decide⟩
  | .y, d => ⟨k0_off3 d 0, by revert d; decide⟩
  | .xy, d => ⟨k0_off4 d 0, by revert d; decide⟩
/-- The peers, as the kernel computes them. -/
def peerAt : Hop → Fin 8 → Fin 8
  | .sib, d => ⟨k0_dev1 d, k0_dev1_lt d⟩
  | .far .x, d => ⟨k0_dev2 d, k0_dev2_lt d⟩
  | .far .y, d => ⟨k0_dev3 d, k0_dev3_lt d⟩
  | .far .xy, d => ⟨k0_dev4 d, k0_dev4_lt d⟩
  | .fwd .x, d => ⟨k0_dev5 d, k0_dev5_lt d⟩
  | .fwd .y, d => ⟨k0_dev6 d, k0_dev6_lt d⟩
  | .fwd .xy, d => ⟨k0_dev7 d, k0_dev7_lt d⟩

def sems : Key Unit (Unit × Hop) → DmaSem sig
  | .loc _ => ((cc0_scratch2.slice (Rect.unit (s := S1) ![0] S1.size in_locals)).squeeze S_ squeezes_S1_S_).sem
  | .snd (_, h) => ((cc0_scratch0.slice (Rect.unit (s := S1x7) ![0, h.place.val] S1x1.size (in_sems h.place))).squeeze S_ squeezes_S1x1_S_).sem
  | .rcv (_, h) => ((cc0_scratch1.slice (Rect.unit (s := S1x7) ![0, h.place.val] S1x1.size (in_sems h.place))).squeeze S_ squeezes_S1x1_S_).sem

theorem sems_val : ∀ k, (sems k).val = oneNum k := by
  decide +kernel

theorem sems_inj : Function.Injective sems := by
  intro k k' e
  exact oneNum_inj k k' (by rw [← sems_val, ← sems_val, e])

/-- The gather. -/
def board : Board τ sig Unit where
  sh _ := S16x768
  el _ := .f32
  inp _ := Memref.whole main_arg0
  slot _ := slotAt (Memref.whole main_v1) squeezes_S1x16x768_S16x768
  inpExact _ := (Memref.isWhole_whole _).wordExact
  slotExact _ _ := (View.wordExact_bits rfl).reshape _ _
  slotHbm _ _ := rfl
  own := ownAt
  pass := passAt
  peer := peerAt
  own_eq := by decide
  pass_eq := by decide
  peer_eq := by decide
  routes c c' := by revert c c'; decide
  sem := sems
  sem_inj := sems_inj
  numel_pos _ := by decide
  slot_amt _ _ := rfl
  inp_amt _ := rfl
  own_amt _ := rfl

/-- The kernel's body is the gather's commands. -/
theorem body_eq {F : FTy → Type} [FloatOps F] (t : Fin cfg0.N) :
    Gen.bodyAt0 (F := F) t = .op .deviceId fun d => board.talk.prog (Elt F) Λ₀ d (gatherCmds [()]) := by
  rfl

/-- The block that device `b` has. -/
def blockOf {Val : EltTy → Type} (m : (ℓ : Loc 8 τ sig) → Buf Val ℓ) (_ : Unit) (b : Dev 8) : S16x768.Idx → Val .f32 :=
  m ((b.tc : Thread 8 τ).loc main_arg0)

/-- A device's buffers are its block and its slots. -/
theorem hands {Val : EltTy → Type} (m : (ℓ : Loc 8 τ sig) → Buf Val ℓ) (c : Dev 8) :
    (unscopedRest cfg0.spec c (fun b => m ((c.tc : Thread 8 τ).loc b)) : AA 8 τ sig Val) ⊢ board.hands (blockOf m) c := by
  have e : (unscopedRest cfg0.spec c (fun b => m ((c.tc : Thread 8 τ).loc b)) : AA 8 τ sig Val) = _ := Gen.unscopedRest0_eq c _
  rw [e]
  exact hands_one board (blockOf m) c (Entails.of_eq (owns_whole (c.tc : Thread 8 τ) main_arg0 fullShare _).symm)
    (cut (Val := Val) (τ := τ) c (Memref.whole main_v1) (fun b : Fin 8 => ![b.val, 0, 0]) S1x16x768.size in_stack squeezes_S1x16x768_S16x768
      (apart _ rfl) (m ((c.tc : Thread 8 τ).loc main_v1)))

/-- The commands run: every wait comes after what it waits for can have been started, on every device. -/
theorem cmds_ok : board.talk.ok (gatherCmds [()]) gatherPays = true := by
  have h : (@board Gen.facts).talk.ok (gatherCmds [()]) gatherPays = true := by decide +kernel
  exact h

theorem own_sems : OwnSemFacts cfg0.spec board.talk.osem where
  isScoped := by
    have h : ∀ k, ((@board Gen.facts).talk.osem k).isScoped .tc = true := by decide +kernel
    exact h
  inj k k' h := sems_inj (SemLoc.dma.inj h)
  disj k w := w.elim0

/-- Every semaphore of a TensorCore is scoped to the call. -/
theorem all_scoped (g' : GSem nD τ sig) : g'.1.2 ≠ .tc ∨ g'.2.isScoped .tc = true := by
  rcases g' with ⟨_, s | s⟩
  · exact s.elim0
  · exact Or.inr (show sig.isScopedDmaSem .tc s = true by revert s; decide +kernel)

attribute [local irreducible] cc0_ag_mod in
/-- What the call runs at a point is the kernel's body. -/
theorem body_at {F : FTy → Type} [FloatOps F] (t : Fin cfg0.N) :
    defs₀ (F := F) .tc (cfgs 0).body ((cfgs 0).bodyArgs t ((cfgs 0).slots t)) = Gen.bodyAt0 (F := F) t := rfl

/-- The run of the gather. -/
theorem run_main {F : FTy → Type} [FloatOps F] (m : (ℓ : Loc nD τ sig) → Buf (Elt F) ℓ) (g : Dev nD → PrngReg) :
    θ_run (defs (F := F)) (onTc (τ := τ) (main (F := F))) ⟨m, fun _ => 0, g⟩ fun r =>
      (∀ c, board.Gathered (blockOf m) c r.2) ∧ r.2.sem = fun _ => 0 := by
  refine θ_run_gather board (blockOf m) cfgs Gen.N_0 Gen.cellOf_inj Gen.winFacts0.to₀ own_sems defs₀ Variants.none m g main (fun _ => rfl) [()] cmds_ok
    (fun c t R => ?_) (hands m) fun s hs h0 => ⟨hs, ?_⟩
  · rw [body_at t, body_eq t]
  · funext g'
    exact h0 g' (all_scoped g')

/-- The result is the array reshaped into its blocks. -/
theorem result {Val : EltTy → Type} {m : (ℓ : Loc 8 τ sig) → Buf Val ℓ} {c : Dev 8} {s : MemSt 8 τ sig Val} (hg : board.Gathered (blockOf m) c s)
    (A : (⟨2, ![128, 768]⟩ : Shape).Idx → Val .f32)
    (h : ∀ b : Dev 8, m ((b.tc : Thread 8 τ).loc main_arg0) = Layout.block ⟨2, ![16, 768]⟩ ⟨2, ![128, 768]⟩ 0 8 b A)
    (hc : (⟨2, ![128, 768]⟩ : Shape).ShapeCasts ⟨3, ![8, 16, 768]⟩) :
    s.mem ((c.tc : Thread 8 τ).loc main_v1) = shapeCast ⟨3, ![8, 16, 768]⟩ A hc :=
  stack_of_slots _ A hc (by decide) in_stack squeezes_S1x16x768_S16x768.numel_eq fun b => (hg.2 () b).trans (h b)

end

theorem frame_ideal : Cert.quiescent_GatherModIdeal := fun m ρ _ =>
  (θ_run Cert.GatherModIdeal.defs _ _).mono (fun _ h => ⟨fun c => (h.1 c).1 (), h.2⟩) (run_main (F := Ideal) m ρ)

theorem frame_kernel : Cert.quiescent_GatherMod := fun m ρ _ =>
  (θ_run Cert.GatherModIdeal.defs _ _).mono (fun _ h => ⟨fun c => (h.1 c).1 (), h.2⟩) (run_main (F := Bits) m ρ)

theorem frame_reference_ideal : Cert.quiescent_GatherModReferenceIdeal := fun m ρ _ =>
  (θ_run Cert.GatherModReferenceIdeal.defs _ _).mono (fun r h => ⟨fun c => (h c).2, sem_eq_zero_of_no_sems (by decide) r.2⟩)
    (Cert.GatherModReferenceIdeal.Value.run (F := Ideal) m ρ)

theorem frame_reference : Cert.quiescent_GatherModReference := fun m ρ _ =>
  (θ_run Cert.GatherModReference.defs _ _).mono (fun r h => ⟨fun c => (h c).2, sem_eq_zero_of_no_sems (by decide) r.2⟩)
    (Cert.GatherModReference.Value.run (F := Bits) m ρ)

theorem algebraic : Cert.algebraic_GatherModIdeal_GatherModReferenceIdeal := fun m g m' g' _ h =>
  ⟨_, (θ_run Cert.GatherModIdeal.defs _ _).mono
      (fun r hr c => ⟨result (hr.1 c) _ h Cert.GatherModReferenceIdeal.Gen.shapeCasts_S128x768_S8x16x768, (hr.1 c).1 ()⟩) (run_main (F := Ideal) m g),
    (θ_run Cert.GatherModReferenceIdeal.defs _ _).mono (fun r hr => hr 0) (Cert.GatherModReferenceIdeal.Value.run (F := Ideal) m' g')⟩

theorem bitexact : Cert.bitexact_GatherMod_GatherModReference := fun m g m' g' _ h =>
  ⟨_, (θ_run Cert.GatherModIdeal.defs _ _).mono
      (fun r hr c => ⟨result (hr.1 c) _ h Cert.GatherModReference.Gen.shapeCasts_S128x768_S8x16x768, (hr.1 c).1 ()⟩) (run_main (F := Bits) m g),
    (θ_run Cert.GatherModReference.defs _ _).mono (fun r hr => hr 0) (Cert.GatherModReference.Value.run (F := Bits) m' g')⟩

end Cert.ModGather

end
-- ==== Proof.GatherSmall.lean ====
/-
  The gather of the small gradients, as a `Board` of one array; its run; and the claims about it.
-/
module

public import proofs.«01_k».proof.Defs
public import proofs.«01_k».proof.Proof.GatherOne
public import proofs.«01_k».proof.Proof.Gen.GatherSmall
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherSmallReferenceIdeal.Run
public import proofs.«01_k».proof.Proof.Gen.GatherSmallReference.Run

@[expose] public section

set_option Elab.async false

noncomputable section

namespace Cert.SmallGather

open Idealize.ShloMosaic Idealize.ShloMosaic.TcCoe Idealize.ShloMosaic.Pipeline
open Idealize.SL Idealize.SL.RA Idealize.SL.Sem
open scoped Idealize.SL.BI
open Idealize.SL.BI.BIBase Idealize.SL.BI.Laws Idealize.SL.ProofMode
open Cert.Exchange Cert.GatherSmallIdeal Cert.GatherSmallIdeal.Facts₀ Cert.GatherSmallIdeal.Facts

section

variable [Cert.GatherSmallIdeal.Facts]

/-- The slots, as the kernel computes them. -/
def ownAt (d : Fin 8) : Fin 8 := ⟨k0_off1 d 0, by revert d; decide⟩
def passAt : Way → Fin 8 → Fin 8
  | .x, d => ⟨k0_off2 d 0, by revert d; decide⟩
  | .y, d => ⟨k0_off3 d 0, by revert d; decide⟩
  | .xy, d => ⟨k0_off4 d 0, by revert d; decide⟩
/-- The peers, as the kernel computes them. -/
def peerAt : Hop → Fin 8 → Fin 8
  | .sib, d => ⟨k0_dev1 d, k0_dev1_lt d⟩
  | .far .x, d => ⟨k0_dev2 d, k0_dev2_lt d⟩
  | .far .y, d => ⟨k0_dev3 d, k0_dev3_lt d⟩
  | .far .xy, d => ⟨k0_dev4 d, k0_dev4_lt d⟩
  | .fwd .x, d => ⟨k0_dev5 d, k0_dev5_lt d⟩
  | .fwd .y, d => ⟨k0_dev6 d, k0_dev6_lt d⟩
  | .fwd .xy, d => ⟨k0_dev7 d, k0_dev7_lt d⟩

def sems : Key Unit (Unit × Hop) → DmaSem sig
  | .loc _ => ((cc0_scratch2.slice (Rect.unit (s := S1) ![0] S1.size in_locals)).squeeze S_ squeezes_S1_S_).sem
  | .snd (_, h) => ((cc0_scratch0.slice (Rect.unit (s := S1x7) ![0, h.place.val] S1x1.size (in_sems h.place))).squeeze S_ squeezes_S1x1_S_).sem
  | .rcv (_, h) => ((cc0_scratch1.slice (Rect.unit (s := S1x7) ![0, h.place.val] S1x1.size (in_sems h.place))).squeeze S_ squeezes_S1x1_S_).sem

theorem sems_val : ∀ k, (sems k).val = oneNum k := by
  decide +kernel

theorem sems_inj : Function.Injective sems := by
  intro k k' e
  exact oneNum_inj k k' (by rw [← sems_val, ← sems_val, e])

/-- The gather. -/
def board : Board τ sig Unit where
  sh _ := S84x1024
  el _ := .f32
  inp _ := Memref.whole main_arg0
  slot _ := slotAt (Memref.whole main_v1) squeezes_S1x84x1024_S84x1024
  inpExact _ := (Memref.isWhole_whole _).wordExact
  slotExact _ _ := (View.wordExact_bits rfl).reshape _ _
  slotHbm _ _ := rfl
  own := ownAt
  pass := passAt
  peer := peerAt
  own_eq := by decide
  pass_eq := by decide
  peer_eq := by decide
  routes c c' := by revert c c'; decide
  sem := sems
  sem_inj := sems_inj
  numel_pos _ := by decide
  slot_amt _ _ := rfl
  inp_amt _ := rfl
  own_amt _ := rfl

/-- The kernel's body is the gather's commands. -/
theorem body_eq {F : FTy → Type} [FloatOps F] (t : Fin cfg0.N) :
    Gen.bodyAt0 (F := F) t = .op .deviceId fun d => board.talk.prog (Elt F) Λ₀ d (gatherCmds [()]) := by
  rfl

/-- The block that device `b` has. -/
def blockOf {Val : EltTy → Type} (m : (ℓ : Loc 8 τ sig) → Buf Val ℓ) (_ : Unit) (b : Dev 8) : S84x1024.Idx → Val .f32 :=
  m ((b.tc : Thread 8 τ).loc main_arg0)

/-- A device's buffers are its block and its slots. -/
theorem hands {Val : EltTy → Type} (m : (ℓ : Loc 8 τ sig) → Buf Val ℓ) (c : Dev 8) :
    (unscopedRest cfg0.spec c (fun b => m ((c.tc : Thread 8 τ).loc b)) : AA 8 τ sig Val) ⊢ board.hands (blockOf m) c := by
  have e : (unscopedRest cfg0.spec c (fun b => m ((c.tc : Thread 8 τ).loc b)) : AA 8 τ sig Val) = _ := Gen.unscopedRest0_eq c _
  rw [e]
  exact hands_one board (blockOf m) c (Entails.of_eq (owns_whole (c.tc : Thread 8 τ) main_arg0 fullShare _).symm)
    (cut (Val := Val) (τ := τ) c (Memref.whole main_v1) (fun b : Fin 8 => ![b.val, 0, 0]) S1x84x1024.size in_stack squeezes_S1x84x1024_S84x1024
      (apart _ rfl) (m ((c.tc : Thread 8 τ).loc main_v1)))

/-- The commands run: every wait comes after what it waits for can have been started, on every device. -/
theorem cmds_ok : board.talk.ok (gatherCmds [()]) gatherPays = true := by
  have h : (@board Gen.facts).talk.ok (gatherCmds [()]) gatherPays = true := by decide +kernel
  exact h

theorem own_sems : OwnSemFacts cfg0.spec board.talk.osem where
  isScoped := by
    have h : ∀ k, ((@board Gen.facts).talk.osem k).isScoped .tc = true := by decide +kernel
    exact h
  inj k k' h := sems_inj (SemLoc.dma.inj h)
  disj k w := w.elim0

/-- Every semaphore of a TensorCore is scoped to the call. -/
theorem all_scoped (g' : GSem nD τ sig) : g'.1.2 ≠ .tc ∨ g'.2.isScoped .tc = true := by
  rcases g' with ⟨_, s | s⟩
  · exact s.elim0
  · exact Or.inr (show sig.isScopedDmaSem .tc s = true by revert s; decide +kernel)

attribute [local irreducible] cc0_ag_small in
/-- What the call runs at a point is the kernel's body. -/
theorem body_at {F : FTy → Type} [FloatOps F] (t : Fin cfg0.N) :
    defs₀ (F := F) .tc (cfgs 0).body ((cfgs 0).bodyArgs t ((cfgs 0).slots t)) = Gen.bodyAt0 (F := F) t := rfl

/-- The run of the gather. -/
theorem run_main {F : FTy → Type} [FloatOps F] (m : (ℓ : Loc nD τ sig) → Buf (Elt F) ℓ) (g : Dev nD → PrngReg) :
    θ_run (defs (F := F)) (onTc (τ := τ) (main (F := F))) ⟨m, fun _ => 0, g⟩ fun r =>
      (∀ c, board.Gathered (blockOf m) c r.2) ∧ r.2.sem = fun _ => 0 := by
  refine θ_run_gather board (blockOf m) cfgs Gen.N_0 Gen.cellOf_inj Gen.winFacts0.to₀ own_sems defs₀ Variants.none m g main (fun _ => rfl) [()] cmds_ok
    (fun c t R => ?_) (hands m) fun s hs h0 => ⟨hs, ?_⟩
  · rw [body_at t, body_eq t]
  · funext g'
    exact h0 g' (all_scoped g')

/-- The result is the array reshaped into its blocks. -/
theorem result {Val : EltTy → Type} {m : (ℓ : Loc 8 τ sig) → Buf Val ℓ} {c : Dev 8} {s : MemSt 8 τ sig Val} (hg : board.Gathered (blockOf m) c s)
    (A : (⟨2, ![672, 1024]⟩ : Shape).Idx → Val .f32)
    (h : ∀ b : Dev 8, m ((b.tc : Thread 8 τ).loc main_arg0) = Layout.block ⟨2, ![84, 1024]⟩ ⟨2, ![672, 1024]⟩ 0 8 b A)
    (hc : (⟨2, ![672, 1024]⟩ : Shape).ShapeCasts ⟨3, ![8, 84, 1024]⟩) :
    s.mem ((c.tc : Thread 8 τ).loc main_v1) = shapeCast ⟨3, ![8, 84, 1024]⟩ A hc :=
  stack_of_slots _ A hc (by decide) in_stack squeezes_S1x84x1024_S84x1024.numel_eq fun b => (hg.2 () b).trans (h b)

end

theorem frame_ideal : Cert.quiescent_GatherSmallIdeal := fun m ρ _ =>
  (θ_run Cert.GatherSmallIdeal.defs _ _).mono (fun _ h => ⟨fun c => (h.1 c).1 (), h.2⟩) (run_main (F := Ideal) m ρ)

theorem frame_kernel : Cert.quiescent_GatherSmall := fun m ρ _ =>
  (θ_run Cert.GatherSmallIdeal.defs _ _).mono (fun _ h => ⟨fun c => (h.1 c).1 (), h.2⟩) (run_main (F := Bits) m ρ)

theorem frame_reference_ideal : Cert.quiescent_GatherSmallReferenceIdeal := fun m ρ _ =>
  (θ_run Cert.GatherSmallReferenceIdeal.defs _ _).mono (fun r h => ⟨fun c => (h c).2, sem_eq_zero_of_no_sems (by decide) r.2⟩)
    (Cert.GatherSmallReferenceIdeal.Value.run (F := Ideal) m ρ)

theorem frame_reference : Cert.quiescent_GatherSmallReference := fun m ρ _ =>
  (θ_run Cert.GatherSmallReference.defs _ _).mono (fun r h => ⟨fun c => (h c).2, sem_eq_zero_of_no_sems (by decide) r.2⟩)
    (Cert.GatherSmallReference.Value.run (F := Bits) m ρ)

theorem algebraic : Cert.algebraic_GatherSmallIdeal_GatherSmallReferenceIdeal := fun m g m' g' _ h =>
  ⟨_, (θ_run Cert.GatherSmallIdeal.defs _ _).mono
      (fun r hr c => ⟨result (hr.1 c) _ h Cert.GatherSmallReferenceIdeal.Gen.shapeCasts_S672x1024_S8x84x1024, (hr.1 c).1 ()⟩) (run_main (F := Ideal) m g),
    (θ_run Cert.GatherSmallReferenceIdeal.defs _ _).mono (fun r hr => hr 0) (Cert.GatherSmallReferenceIdeal.Value.run (F := Ideal) m' g')⟩

theorem bitexact : Cert.bitexact_GatherSmall_GatherSmallReference := fun m g m' g' _ h =>
  ⟨_, (θ_run Cert.GatherSmallIdeal.defs _ _).mono
      (fun r hr c => ⟨result (hr.1 c) _ h Cert.GatherSmallReference.Gen.shapeCasts_S672x1024_S8x84x1024, (hr.1 c).1 ()⟩) (run_main (F := Bits) m g),
    (θ_run Cert.GatherSmallReference.defs _ _).mono (fun r hr => hr 0) (Cert.GatherSmallReference.Value.run (F := Bits) m' g')⟩

end Cert.SmallGather

end
-- ==== Proof.Adam.lean ====
module

public import proofs.«01_k».proof.Defs
public import proofs.«01_k».proof.Proof.Gen.AdamCond.Frame
public import proofs.«01_k».proof.Proof.Gen.AdamCondIdeal.Value
public import proofs.«01_k».proof.Proof.Gen.AdamCondReferenceIdeal.Run
public import proofs.«01_k».proof.Proof.Gen.AdamBias.Frame
public import proofs.«01_k».proof.Proof.Gen.AdamBiasIdeal.Value
public import proofs.«01_k».proof.Proof.Gen.AdamBiasReferenceIdeal.Run
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamOut.Frame
public import proofs.«01_k».proof.Proof.Gen.AdamOutIdeal.Value
public import proofs.«01_k».proof.Proof.Gen.AdamOutReferenceIdeal.Run
public import proofs.«01_k».proof.Proof.Gen.AdamGate.Frame
public import proofs.«01_k».proof.Proof.Gen.AdamGateIdeal.Value
public import proofs.«01_k».proof.Proof.Gen.AdamGateReferenceIdeal.Run
public import proofs.«01_k».proof.Proof.Gen.AdamUp.Frame
public import proofs.«01_k».proof.Proof.Gen.AdamUpIdeal.Value
public import proofs.«01_k».proof.Proof.Gen.AdamUpReferenceIdeal.Run
public import proofs.«01_k».proof.Proof.Gen.AdamDown.Frame
public import proofs.«01_k».proof.Proof.Gen.AdamDownIdeal.Value
public import proofs.«01_k».proof.Proof.Gen.AdamDownReferenceIdeal.Run
public import Idealize.ShloMosaic.Lib.Quiescent

/-!
The AdamW step, `_adamw`, on each of the seven large weights.

The kernel walks the weight in blocks of rows and makes the step on every block. The step treats each
element by itself, so the blocks put side by side are the step made on the whole slice, and at every
element that is the reference's arithmetic, operation for operation: the two arrays are the same by
unfolding. The results are the update and the two moments.
-/

@[expose] public section

noncomputable section

open Idealize.ShloMosaic Idealize.ShloMosaic.TcCoe Idealize.SL.Sem

namespace Cert.CondAdam

/-- The reference's step on `w_cond`'s slice leaves its arguments as they were. -/
theorem frame_reference_ideal : Cert.quiescent_AdamCondReferenceIdeal := fun m g _ =>
  (θ_run Cert.AdamCondReferenceIdeal.defs _ _).mono
    (fun r h => ⟨fun c => (h c).2.2.2, sem_eq_zero_of_no_sems (by decide) r.2⟩)
    (Cert.AdamCondReferenceIdeal.Value.run (F := Ideal) m g)

/-- The kernel's update and moments of `w_cond`'s slice are the reference's. -/
theorem algebraic : Cert.algebraic_AdamCondIdeal_AdamCondReferenceIdeal := fun m g m' g' _ h =>
  ⟨_, _, _, Cert.AdamCondIdeal.Value.run (F := Ideal) m g,
    (θ_run Cert.AdamCondReferenceIdeal.defs _ _).mono
      (fun r hr c => by
        obtain ⟨h0, h1, h2, h3⟩ := h c
        obtain ⟨r0, r1, r2, rs⟩ := hr c
        exact ⟨r0.trans (by rw [h0, h1, h2, h3]; rfl), r1.trans (by rw [h1, h2]; rfl), r2.trans (by rw [h1, h3]; rfl), rs⟩)
      (Cert.AdamCondReferenceIdeal.Value.run (F := Ideal) m' g')⟩

end Cert.CondAdam

namespace Cert.BiasAdam

/-- The reference's step on `b_cond`'s slice leaves its arguments as they were. -/
theorem frame_reference_ideal : Cert.quiescent_AdamBiasReferenceIdeal := fun m g _ =>
  (θ_run Cert.AdamBiasReferenceIdeal.defs _ _).mono
    (fun r h => ⟨fun c => (h c).2.2.2, sem_eq_zero_of_no_sems (by decide) r.2⟩)
    (Cert.AdamBiasReferenceIdeal.Value.run (F := Ideal) m g)

/-- The kernel's update and moments of `b_cond`'s slice are the reference's. -/
theorem algebraic : Cert.algebraic_AdamBiasIdeal_AdamBiasReferenceIdeal := fun m g m' g' _ h =>
  ⟨_, _, _, Cert.AdamBiasIdeal.Value.run (F := Ideal) m g,
    (θ_run Cert.AdamBiasReferenceIdeal.defs _ _).mono
      (fun r hr c => by
        obtain ⟨h0, h1, h2, h3⟩ := h c
        obtain ⟨r0, r1, r2, rs⟩ := hr c
        exact ⟨r0.trans (by rw [h0, h1, h2, h3]; rfl), r1.trans (by rw [h1, h2]; rfl), r2.trans (by rw [h1, h3]; rfl), rs⟩)
      (Cert.AdamBiasReferenceIdeal.Value.run (F := Ideal) m' g')⟩

end Cert.BiasAdam

namespace Cert.InAdam

/-- The reference's step on `w_in`'s slice leaves its arguments as they were. -/
theorem frame_reference_ideal : Cert.quiescent_AdamInReferenceIdeal := fun m g _ =>
  (θ_run Cert.AdamInReferenceIdeal.defs _ _).mono
    (fun r h => ⟨fun c => (h c).2.2.2, sem_eq_zero_of_no_sems (by decide) r.2⟩)
    (Cert.AdamInReferenceIdeal.Value.run (F := Ideal) m g)

/-- The kernel's update and moments of `w_in`'s slice are the reference's. -/
theorem algebraic : Cert.algebraic_AdamInIdeal_AdamInReferenceIdeal := fun m g m' g' _ h =>
  ⟨_, _, _, Cert.AdamInIdeal.Value.run (F := Ideal) m g,
    (θ_run Cert.AdamInReferenceIdeal.defs _ _).mono
      (fun r hr c => by
        obtain ⟨h0, h1, h2, h3⟩ := h c
        obtain ⟨r0, r1, r2, rs⟩ := hr c
        exact ⟨r0.trans (by rw [h0, h1, h2, h3]; rfl), r1.trans (by rw [h1, h2]; rfl), r2.trans (by rw [h1, h3]; rfl), rs⟩)
      (Cert.AdamInReferenceIdeal.Value.run (F := Ideal) m' g')⟩

end Cert.InAdam

namespace Cert.OutAdam

/-- The reference's step on `w_out`'s slice leaves its arguments as they were. -/
theorem frame_reference_ideal : Cert.quiescent_AdamOutReferenceIdeal := fun m g _ =>
  (θ_run Cert.AdamOutReferenceIdeal.defs _ _).mono
    (fun r h => ⟨fun c => (h c).2.2.2, sem_eq_zero_of_no_sems (by decide) r.2⟩)
    (Cert.AdamOutReferenceIdeal.Value.run (F := Ideal) m g)

/-- The kernel's update and moments of `w_out`'s slice are the reference's. -/
theorem algebraic : Cert.algebraic_AdamOutIdeal_AdamOutReferenceIdeal := fun m g m' g' _ h =>
  ⟨_, _, _, Cert.AdamOutIdeal.Value.run (F := Ideal) m g,
    (θ_run Cert.AdamOutReferenceIdeal.defs _ _).mono
      (fun r hr c => by
        obtain ⟨h0, h1, h2, h3⟩ := h c
        obtain ⟨r0, r1, r2, rs⟩ := hr c
        exact ⟨r0.trans (by rw [h0, h1, h2, h3]; rfl), r1.trans (by rw [h1, h2]; rfl), r2.trans (by rw [h1, h3]; rfl), rs⟩)
      (Cert.AdamOutReferenceIdeal.Value.run (F := Ideal) m' g')⟩

end Cert.OutAdam

namespace Cert.GateAdam

/-- The reference's step on `w_gate`'s slice leaves its arguments as they were. -/
theorem frame_reference_ideal : Cert.quiescent_AdamGateReferenceIdeal := fun m g _ =>
  (θ_run Cert.AdamGateReferenceIdeal.defs _ _).mono
    (fun r h => ⟨fun c => (h c).2.2.2, sem_eq_zero_of_no_sems (by decide) r.2⟩)
    (Cert.AdamGateReferenceIdeal.Value.run (F := Ideal) m g)

/-- The kernel's update and moments of `w_gate`'s slice are the reference's. -/
theorem algebraic : Cert.algebraic_AdamGateIdeal_AdamGateReferenceIdeal := fun m g m' g' _ h =>
  ⟨_, _, _, Cert.AdamGateIdeal.Value.run (F := Ideal) m g,
    (θ_run Cert.AdamGateReferenceIdeal.defs _ _).mono
      (fun r hr c => by
        obtain ⟨h0, h1, h2, h3⟩ := h c
        obtain ⟨r0, r1, r2, rs⟩ := hr c
        exact ⟨r0.trans (by rw [h0, h1, h2, h3]; rfl), r1.trans (by rw [h1, h2]; rfl), r2.trans (by rw [h1, h3]; rfl), rs⟩)
      (Cert.AdamGateReferenceIdeal.Value.run (F := Ideal) m' g')⟩

end Cert.GateAdam

namespace Cert.UpAdam

/-- The reference's step on `w_up`'s slice leaves its arguments as they were. -/
theorem frame_reference_ideal : Cert.quiescent_AdamUpReferenceIdeal := fun m g _ =>
  (θ_run Cert.AdamUpReferenceIdeal.defs _ _).mono
    (fun r h => ⟨fun c => (h c).2.2.2, sem_eq_zero_of_no_sems (by decide) r.2⟩)
    (Cert.AdamUpReferenceIdeal.Value.run (F := Ideal) m g)

/-- The kernel's update and moments of `w_up`'s slice are the reference's. -/
theorem algebraic : Cert.algebraic_AdamUpIdeal_AdamUpReferenceIdeal := fun m g m' g' _ h =>
  ⟨_, _, _, Cert.AdamUpIdeal.Value.run (F := Ideal) m g,
    (θ_run Cert.AdamUpReferenceIdeal.defs _ _).mono
      (fun r hr c => by
        obtain ⟨h0, h1, h2, h3⟩ := h c
        obtain ⟨r0, r1, r2, rs⟩ := hr c
        exact ⟨r0.trans (by rw [h0, h1, h2, h3]; rfl), r1.trans (by rw [h1, h2]; rfl), r2.trans (by rw [h1, h3]; rfl), rs⟩)
      (Cert.AdamUpReferenceIdeal.Value.run (F := Ideal) m' g')⟩

end Cert.UpAdam

namespace Cert.DownAdam

/-- The reference's step on `w_down`'s slice leaves its arguments as they were. -/
theorem frame_reference_ideal : Cert.quiescent_AdamDownReferenceIdeal := fun m g _ =>
  (θ_run Cert.AdamDownReferenceIdeal.defs _ _).mono
    (fun r h => ⟨fun c => (h c).2.2.2, sem_eq_zero_of_no_sems (by decide) r.2⟩)
    (Cert.AdamDownReferenceIdeal.Value.run (F := Ideal) m g)

/-- The kernel's update and moments of `w_down`'s slice are the reference's. -/
theorem algebraic : Cert.algebraic_AdamDownIdeal_AdamDownReferenceIdeal := fun m g m' g' _ h =>
  ⟨_, _, _, Cert.AdamDownIdeal.Value.run (F := Ideal) m g,
    (θ_run Cert.AdamDownReferenceIdeal.defs _ _).mono
      (fun r hr c => by
        obtain ⟨h0, h1, h2, h3⟩ := h c
        obtain ⟨r0, r1, r2, rs⟩ := hr c
        exact ⟨r0.trans (by rw [h0, h1, h2, h3]; rfl), r1.trans (by rw [h1, h2]; rfl), r2.trans (by rw [h1, h3]; rfl), rs⟩)
      (Cert.AdamDownReferenceIdeal.Value.run (F := Ideal) m' g')⟩

end Cert.DownAdam

end
-- ==== Proof.AdamSmall.lean ====
module

public import proofs.«01_k».proof.Defs
public import proofs.«01_k».proof.Proof.Gen.AdamSmall
public import proofs.«01_k».proof.Proof.Gen.AdamSmallIdeal.Launch
public import proofs.«01_k».proof.Proof.Gen.AdamSmallIdeal.Skeleton
public import proofs.«01_k».proof.Proof.Gen.AdamSmallIdeal.Points
public import proofs.«01_k».proof.Proof.Gen.AdamSmallReferenceIdeal.Run
public import Idealize.ShloMosaic.Lib.Pipeline.FrameBody
public import Idealize.ShloMosaic.Lib.Claim
public import Idealize.ShloMosaic.Lib.Tactic
public import Idealize.ShloMosaic.Lib.Quiescent
public import Idealize.ShloMosaic.Lib.Pointwise
public import Idealize.ShloMosaic.Lib.Pipeline.ValueKit

/-!
The AdamW step on the six small weights, `adamw_small`.

A device holds, of each small weight, the gradients the eight devices found, one part each. The call adds
the parts up and makes the step of `_adamw` with the sum. It walks no grid: every array is copied in whole
and every result is copied out whole. So the run is one body, and each result is a function of whole
arrays: the sum of the parts, the update, and the two moments.

The reference adds the parts by one sum over the first axis. Over exact numbers the eight additions of the
kernel are that sum, and after it both make the same operations.
-/

@[expose] public section

set_option maxRecDepth 16384

noncomputable section

namespace Cert.SmallAdam

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section arithmetic
variable {F : FTy → Type} [FloatOps F] {a b : ℕ}

/-- Part `k` of a stack lies inside it. -/
theorem layer_inb (k : ℕ) (hk : k < 8) : ∀ i, (![k, 0, 0] : Fin 3 → ℕ) i + (⟨3, ![1, a, b]⟩ : Shape).size i ≤ (⟨3, ![8, a, b]⟩ : Shape).size i := by
  intro i; fin_cases i
  · show k + 1 ≤ 8; omega
  · show 0 + a ≤ a; omega
  · show 0 + b ≤ b; omega

/-- The whole of an array lies inside it. -/
theorem whole_inb : ∀ i, (![0, 0] : Fin 2 → ℕ) i + (⟨2, ![a, b]⟩ : Shape).size i ≤ (⟨2, ![a, b]⟩ : Shape).size i := by
  intro i; fin_cases i
  · show 0 + a ≤ a; omega
  · show 0 + b ≤ b; omega

/-- The rectangle that is a whole array. -/
abbrev whole : Rect ⟨2, ![a, b]⟩ := Rect.unit (s := ⟨2, ![a, b]⟩) ![0, 0] (⟨2, ![a, b]⟩ : Shape).size whole_inb

theorem origin : (![0, 0] : Fin 2 → ℕ) = fun _ => 0 := by funext i; fin_cases i <;> rfl

/-- One layer of a stack holds as many elements as a sheet. -/
theorem layer_casts : (⟨3, ![1, a, b]⟩ : Shape).ShapeCasts ⟨2, ![a, b]⟩ := by
  show (⟨2, ![a, b]⟩ : Shape).numel = (⟨3, ![1, a, b]⟩ : Shape).numel
  simp [Shape.numel, Fin.prod_univ_succ]

/-- Device `k`'s part of a gradient. -/
def part (x : Vec F ⟨3, ![8, a, b]⟩ .f32) (k : ℕ) (hk : k < 8) : FVec F ⟨2, ![a, b]⟩ .f32 :=
  shapeCast ⟨2, ![a, b]⟩ (View.ld x (Rect.unit (s := ⟨3, ![8, a, b]⟩) ![k, 0, 0] (⟨3, ![1, a, b]⟩ : Shape).size (layer_inb k hk))) layer_casts

/-- The gradient: the eight parts added up. -/
def gradient (x : Vec F ⟨3, ![8, a, b]⟩ .f32) : FVec F ⟨2, ![a, b]⟩ .f32 :=
  addf (addf (addf (addf (addf (addf (addf (part x 0 (by decide)) (part x 1 (by decide))) (part x 2 (by decide))) (part x 3 (by decide)))
    (part x 4 (by decide))) (part x 5 (by decide))) (part x 6 (by decide))) (part x 7 (by decide))

/-- The new first moment. -/
def first (g m : FVec F ⟨2, ![a, b]⟩ .f32) : FVec F ⟨2, ![a, b]⟩ .f32 :=
  addf (mulf (broadcast _ (Scalar.ofBits .f32 0x3F666666#32)) m) (mulf (broadcast _ (Scalar.ofBits .f32 0x3DCCCCCD#32)) g)

/-- The new second moment. -/
def second (g v : FVec F ⟨2, ![a, b]⟩ .f32) : FVec F ⟨2, ![a, b]⟩ .f32 :=
  addf (mulf (broadcast _ (Scalar.ofBits .f32 0x3F7FBE77#32)) v) (mulf (broadcast _ (Scalar.ofBits .f32 0x3A83126F#32)) (mulf g g))

/-- The update of the weight. -/
def update (w g m v : FVec F ⟨2, ![a, b]⟩ .f32) : FVec F ⟨2, ![a, b]⟩ .f32 :=
  mulf (broadcast _ (Scalar.ofBits .f32 0xBA83126F#32))
    (addf (divf (divf (first g m) (broadcast _ (Scalar.ofBits .f32 0x3F26BD02#32)))
        (addf (sqrt (divf (second g v) (broadcast _ (Scalar.ofBits .f32 0x3C231ACC#32)))) (broadcast _ (Scalar.ofBits .f32 0x322BCC77#32))))
      (mulf (broadcast _ (Scalar.ofBits .f32 0x3C23D70A#32)) w))

/-! What a result's buffer holds after the body: one store over the whole of it, of arrays read whole. -/

def putGradient (x : Vec F ⟨3, ![8, a, b]⟩ .f32) : Vec F ⟨2, ![a, b]⟩ .f32 := View.canon [⟨whole, gradient x⟩]
def putFirst (x : Vec F ⟨3, ![8, a, b]⟩ .f32) (m : Vec F ⟨2, ![a, b]⟩ .f32) : Vec F ⟨2, ![a, b]⟩ .f32 :=
  View.canon [⟨whole, first (gradient x) (View.ld m whole)⟩]
def putSecond (x : Vec F ⟨3, ![8, a, b]⟩ .f32) (v : Vec F ⟨2, ![a, b]⟩ .f32) : Vec F ⟨2, ![a, b]⟩ .f32 :=
  View.canon [⟨whole, second (gradient x) (View.ld v whole)⟩]
def putUpdate (w : Vec F ⟨2, ![a, b]⟩ .f32) (x : Vec F ⟨3, ![8, a, b]⟩ .f32) (m v : Vec F ⟨2, ![a, b]⟩ .f32) : Vec F ⟨2, ![a, b]⟩ .f32 :=
  View.canon [⟨whole, update (View.ld w whole) (gradient x) (View.ld m whole) (View.ld v whole)⟩]

theorem putGradient_eq (x : Vec F ⟨3, ![8, a, b]⟩ .f32) : putGradient x = gradient x := View.canon_unit_zero origin _ _
theorem putFirst_eq (x : Vec F ⟨3, ![8, a, b]⟩ .f32) (m) : putFirst x m = first (gradient x) m :=
  (View.canon_unit_zero origin _ _).trans (by rw [View.ld_unit_zero origin])
theorem putSecond_eq (x : Vec F ⟨3, ![8, a, b]⟩ .f32) (v) : putSecond x v = second (gradient x) v :=
  (View.canon_unit_zero origin _ _).trans (by rw [View.ld_unit_zero origin])
theorem putUpdate_eq (w) (x : Vec F ⟨3, ![8, a, b]⟩ .f32) (m v) : putUpdate w x m v = update w (gradient x) m v :=
  (View.canon_unit_zero origin _ _).trans (by rw [View.ld_unit_zero origin, View.ld_unit_zero origin, View.ld_unit_zero origin])

/-- An entry of a device's part is the stack's entry in that layer. -/
theorem part_apply (x : FVec Ideal ⟨3, ![8, a, b]⟩ .f32) (k : ℕ) (hk : k < 8) (j : (⟨2, ![a, b]⟩ : Shape).Idx) :
    part (F := Ideal) x k hk j = x (ix3 ⟨k, hk⟩ (j 0) (j 1)) := by
  unfold part
  refine (shapeCast_apply _ layer_casts j (ix3 0 (j 0) (j 1)) ?_).trans (congrArg x (funext fun i => Fin.ext ?_))
  · rw [Shape.rowMajor_val_two, Shape.rowMajor_val_three]
    show (0 * a + (j 0).val) * b + (j 1).val = (j 0).val * b + (j 1).val
    rw [Nat.zero_mul, Nat.zero_add]
  · fin_cases i
    · show k + 0 = k; omega
    · show 0 + 1 * (j 0).val = (j 0).val; omega
    · show 0 + 1 * (j 1).val = (j 1).val; omega

/-- Over exact numbers the sum over the first axis is the eight additions. -/
theorem sum_eq {u : Shape} (x : FVec Ideal ⟨3, ![8, a, b]⟩ .f32) (hr : (⟨3, ![8, a, b]⟩ : Shape).ReducesTo [0] ⟨2, ![a, b]⟩) (hu : 0 < u.numel) :
    Host.reduceAdd (F := Ideal) x (constant u .f32 0x00000000#32) hr hu = gradient (F := Ideal) x := by
  funext j
  unfold gradient
  pointwise [part_apply, Fin.sum_univ_eight]

/-- A store over the whole of a buffer covers it. -/
theorem covered (p : Vec F ⟨2, ![a, b]⟩ .f32) (y : (⟨2, ![a, b]⟩ : Shape).Idx) :
    ∃ pc ∈ ([⟨whole, p⟩] : List (View.Piece (Elt F) ⟨2, ![a, b]⟩ .f32)), y ∈ pc.1.set :=
  ⟨_, List.mem_singleton_self _, View.mem_set_unit_zero origin whole_inb y⟩
end arithmetic

section run
open Cert.AdamSmallIdeal Cert.AdamSmallIdeal.Gen
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A device's buffers when the call is entered: as launched. -/
abbrev V (c : Dev nD) (b : Ref sig .tc) : Buf (Elt F) ((c : Thread nD τ).loc b) := m ((c : Thread nD τ).loc b)

set_option maxHeartbeats 2000000 in
/-- The program up to the call: the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block: the whole array, as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
/-- The body leaves the arrays it reads as they were, and in every result the sum of the parts, the update or a moment. -/
theorem sound_kernel (c : Dev nD) (E : Set ℕ) (arg0 : Memref sig .tc .vmem S1x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S8x1x1024 .f32) (harg6 : arg6.IsWhole) (arg7 : Memref sig .tc .vmem S8x1x1024 .f32) (harg7 : arg7.IsWhole) (arg8 : Memref sig .tc .vmem S8x1x1024 .f32) (harg8 : arg8.IsWhole) (arg9 : Memref sig .tc .vmem S8x1x1024 .f32) (harg9 : arg9.IsWhole) (arg10 : Memref sig .tc .vmem S8x1x512 .f32) (harg10 : arg10.IsWhole) (arg11 : Memref sig .tc .vmem S8x512x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x512 .f32) (harg16 : arg16.IsWhole) (arg17 : Memref sig .tc .vmem S512x128 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x512 .f32) (harg22 : arg22.IsWhole) (arg23 : Memref sig .tc .vmem S512x128 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x512 .f32) (harg28 : arg28.IsWhole) (arg29 : Memref sig .tc .vmem S512x128 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S1x1024 .f32) (harg33 : arg33.IsWhole) (arg34 : Memref sig .tc .vmem S1x512 .f32) (harg34 : arg34.IsWhole) (arg35 : Memref sig .tc .vmem S512x128 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S1x1024 .f32) (harg39 : arg39.IsWhole) (arg40 : Memref sig .tc .vmem S1x512 .f32) (harg40 : arg40.IsWhole) (arg41 : Memref sig .tc .vmem S512x128 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1024 .f32) (harg45 : arg45.IsWhole) (arg46 : Memref sig .tc .vmem S1x512 .f32) (harg46 : arg46.IsWhole) (arg47 : Memref sig .tc .vmem S512x128 .f32) (harg47 : arg47.IsWhole)
    (x0 : Vec F S1x1024 .f32) (x1 : Vec F S1x1024 .f32) (x2 : Vec F S1x1024 .f32) (x3 : Vec F S1x1024 .f32) (x4 : Vec F S1x512 .f32) (x5 : Vec F S512x128 .f32) (x6 : Vec F S8x1x1024 .f32) (x7 : Vec F S8x1x1024 .f32) (x8 : Vec F S8x1x1024 .f32) (x9 : Vec F S8x1x1024 .f32) (x10 : Vec F S8x1x512 .f32) (x11 : Vec F S8x512x128 .f32) (x12 : Vec F S1x1024 .f32) (x13 : Vec F S1x1024 .f32) (x14 : Vec F S1x1024 .f32) (x15 : Vec F S1x1024 .f32) (x16 : Vec F S1x512 .f32) (x17 : Vec F S512x128 .f32) (x18 : Vec F S1x1024 .f32) (x19 : Vec F S1x1024 .f32) (x20 : Vec F S1x1024 .f32) (x21 : Vec F S1x1024 .f32) (x22 : Vec F S1x512 .f32) (x23 : Vec F S512x128 .f32) (Q : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare (putGradient x6) ∗ owns (c : Thread nD τ) arg25 fullShare (putGradient x7) ∗ owns (c : Thread nD τ) arg26 fullShare (putGradient x8) ∗ owns (c : Thread nD τ) arg27 fullShare (putGradient x9) ∗ owns (c : Thread nD τ) arg28 fullShare (putGradient x10) ∗ owns (c : Thread nD τ) arg29 fullShare (putGradient x11) ∗ owns (c : Thread nD τ) arg30 fullShare (putUpdate x0 x6 x12 x18) ∗ owns (c : Thread nD τ) arg31 fullShare (putUpdate x1 x7 x13 x19) ∗ owns (c : Thread nD τ) arg32 fullShare (putUpdate x2 x8 x14 x20) ∗ owns (c : Thread nD τ) arg33 fullShare (putUpdate x3 x9 x15 x21) ∗ owns (c : Thread nD τ) arg34 fullShare (putUpdate x4 x10 x16 x22) ∗ owns (c : Thread nD τ) arg35 fullShare (putUpdate x5 x11 x17 x23) ∗ owns (c : Thread nD τ) arg36 fullShare (putFirst x6 x12) ∗ owns (c : Thread nD τ) arg37 fullShare (putFirst x7 x13) ∗ owns (c : Thread nD τ) arg38 fullShare (putFirst x8 x14) ∗ owns (c : Thread nD τ) arg39 fullShare (putFirst x9 x15) ∗ owns (c : Thread nD τ) arg40 fullShare (putFirst x10 x16) ∗ owns (c : Thread nD τ) arg41 fullShare (putFirst x11 x17) ∗ owns (c : Thread nD τ) arg42 fullShare (putSecond x6 x18) ∗ owns (c : Thread nD τ) arg43 fullShare (putSecond x7 x19) ∗ owns (c : Thread nD τ) arg44 fullShare (putSecond x8 x20) ∗ owns (c : Thread nD τ) arg45 fullShare (putSecond x9 x21) ∗ owns (c : Thread nD τ) arg46 fullShare (putSecond x10 x22) ∗ owns (c : Thread nD τ) arg47 fullShare (putSecond x11 x23)) -∗ Q ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47) Q := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩, ⟨%d33, %f33, %hf33, H33⟩, ⟨%d34, %f34, %hf34, H34⟩, ⟨%d35, %f35, %hf35, H35⟩, ⟨%d36, %f36, %hf36, H36⟩, ⟨%d37, %f37, %hf37, H37⟩, ⟨%d38, %f38, %hf38, H38⟩, ⟨%d39, %f39, %hf39, H39⟩, ⟨%d40, %f40, %hf40, H40⟩, ⟨%d41, %f41, %hf41, H41⟩, ⟨%d42, %f42, %hf42, H42⟩, ⟨%d43, %f43, %hf43, H43⟩, ⟨%d44, %f44, %hf44, H44⟩, ⟨%d45, %f45, %hf45, H45⟩, ⟨%d46, %f46, %hf46, H46⟩, ⟨%d47, %f47, %hf47, H47⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]; · iexists _; isplitr; swap; iassumption; ipureintro; rfl
  isplitl [H1]; · iexists _; isplitr; swap; iassumption; ipureintro; rfl
  isplitl [H2]; · iexists _; isplitr; swap; iassumption; ipureintro; rfl
  isplitl [H3]; · iexists _; isplitr; swap; iassumption; ipureintro; rfl
  isplitl [H4]; · iexists _; isplitr; swap; iassumption; ipureintro; rfl
  isplitl [H5]; · iexists _; isplitr; swap; iassumption; ipureintro; rfl
  isplitl [H6]; · iexists _; isplitr; swap; iassumption; ipureintro; rfl
  isplitl [H7]; · iexists _; isplitr; swap; iassumption; ipureintro; rfl
  isplitl [H8]; · iexists _; isplitr; swap; iassumption; ipureintro; rfl
  isplitl [H9]; · iexists _; isplitr; swap; iassumption; ipureintro; rfl
  isplitl [H10]; · iexists _; isplitr; swap; iassumption; ipureintro; rfl
  isplitl [H11]; · iexists _; isplitr; swap; iassumption; ipureintro; rfl
  isplitl [H12]; · iexists _; isplitr; swap; iassumption; ipureintro; rfl
  isplitl [H13]; · iexists _; isplitr; swap; iassumption; ipureintro; rfl
  isplitl [H14]; · iexists _; isplitr; swap; iassumption; ipureintro; rfl
  isplitl [H15]; · iexists _; isplitr; swap; iassumption; ipureintro; rfl
  isplitl [H16]; · iexists _; isplitr; swap; iassumption; ipureintro; rfl
  isplitl [H17]; · iexists _; isplitr; swap; iassumption; ipureintro; rfl
  isplitl [H18]; · iexists _; isplitr; swap; iassumption; ipureintro; rfl
  isplitl [H19]; · iexists _; isplitr; swap; iassumption; ipureintro; rfl
  isplitl [H20]; · iexists _; isplitr; swap; iassumption; ipureintro; rfl
  isplitl [H21]; · iexists _; isplitr; swap; iassumption; ipureintro; rfl
  isplitl [H22]; · iexists _; isplitr; swap; iassumption; ipureintro; rfl
  isplitl [H23]; · iexists _; isplitr; swap; iassumption; ipureintro; rfl
  isplitl [H24]; · iexists _; isplitr; swap; iassumption; ipureintro; exact (View.read_writes_eq_canon _ _ _ (covered _)).trans rfl
  isplitl [H25]; · iexists _; isplitr; swap; iassumption; ipureintro; exact (View.read_writes_eq_canon _ _ _ (covered _)).trans rfl
  isplitl [H26]; · iexists _; isplitr; swap; iassumption; ipureintro; exact (View.read_writes_eq_canon _ _ _ (covered _)).trans rfl
  isplitl [H27]; · iexists _; isplitr; swap; iassumption; ipureintro; exact (View.read_writes_eq_canon _ _ _ (covered _)).trans rfl
  isplitl [H28]; · iexists _; isplitr; swap; iassumption; ipureintro; exact (View.read_writes_eq_canon _ _ _ (covered _)).trans rfl
  isplitl [H29]; · iexists _; isplitr; swap; iassumption; ipureintro; exact (View.read_writes_eq_canon _ _ _ (covered _)).trans rfl
  isplitl [H30]; · iexists _; isplitr; swap; iassumption; ipureintro; exact (View.read_writes_eq_canon _ _ _ (covered _)).trans rfl
  isplitl [H31]; · iexists _; isplitr; swap; iassumption; ipureintro; exact (View.read_writes_eq_canon _ _ _ (covered _)).trans rfl
  isplitl [H32]; · iexists _; isplitr; swap; iassumption; ipureintro; exact (View.read_writes_eq_canon _ _ _ (covered _)).trans rfl
  isplitl [H33]; · iexists _; isplitr; swap; iassumption; ipureintro; exact (View.read_writes_eq_canon _ _ _ (covered _)).trans rfl
  isplitl [H34]; · iexists _; isplitr; swap; iassumption; ipureintro; exact (View.read_writes_eq_canon _ _ _ (covered _)).trans rfl
  isplitl [H35]; · iexists _; isplitr; swap; iassumption; ipureintro; exact (View.read_writes_eq_canon _ _ _ (covered _)).trans rfl
  isplitl [H36]; · iexists _; isplitr; swap; iassumption; ipureintro; exact (View.read_writes_eq_canon _ _ _ (covered _)).trans rfl
  isplitl [H37]; · iexists _; isplitr; swap; iassumption; ipureintro; exact (View.read_writes_eq_canon _ _ _ (covered _)).trans rfl
  isplitl [H38]; · iexists _; isplitr; swap; iassumption; ipureintro; exact (View.read_writes_eq_canon _ _ _ (covered _)).trans rfl
  isplitl [H39]; · iexists _; isplitr; swap; iassumption; ipureintro; exact (View.read_writes_eq_canon _ _ _ (covered _)).trans rfl
  isplitl [H40]; · iexists _; isplitr; swap; iassumption; ipureintro; exact (View.read_writes_eq_canon _ _ _ (covered _)).trans rfl
  isplitl [H41]; · iexists _; isplitr; swap; iassumption; ipureintro; exact (View.read_writes_eq_canon _ _ _ (covered _)).trans rfl
  isplitl [H42]; · iexists _; isplitr; swap; iassumption; ipureintro; exact (View.read_writes_eq_canon _ _ _ (covered _)).trans rfl
  isplitl [H43]; · iexists _; isplitr; swap; iassumption; ipureintro; exact (View.read_writes_eq_canon _ _ _ (covered _)).trans rfl
  isplitl [H44]; · iexists _; isplitr; swap; iassumption; ipureintro; exact (View.read_writes_eq_canon _ _ _ (covered _)).trans rfl
  isplitl [H45]; · iexists _; isplitr; swap; iassumption; ipureintro; exact (View.read_writes_eq_canon _ _ _ (covered _)).trans rfl
  isplitl [H46]; · iexists _; isplitr; swap; iassumption; ipureintro; exact (View.read_writes_eq_canon _ _ _ (covered _)).trans rfl
  iexists _; isplitr; swap; iassumption; ipureintro; exact (View.read_writes_eq_canon _ _ _ (covered _)).trans rfl

/-- The proof data: the arrays as the call finds them; after the body what it reads as it was, and every
    result as the body leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => putGradient (iblk m c 6 t)
    | ⟨25, _⟩ => putGradient (iblk m c 7 t)
    | ⟨26, _⟩ => putGradient (iblk m c 8 t)
    | ⟨27, _⟩ => putGradient (iblk m c 9 t)
    | ⟨28, _⟩ => putGradient (iblk m c 10 t)
    | ⟨29, _⟩ => putGradient (iblk m c 11 t)
    | ⟨30, _⟩ => putUpdate (iblk m c 0 t) (iblk m c 6 t) (iblk m c 12 t) (iblk m c 18 t)
    | ⟨31, _⟩ => putUpdate (iblk m c 1 t) (iblk m c 7 t) (iblk m c 13 t) (iblk m c 19 t)
    | ⟨32, _⟩ => putUpdate (iblk m c 2 t) (iblk m c 8 t) (iblk m c 14 t) (iblk m c 20 t)
    | ⟨33, _⟩ => putUpdate (iblk m c 3 t) (iblk m c 9 t) (iblk m c 15 t) (iblk m c 21 t)
    | ⟨34, _⟩ => putUpdate (iblk m c 4 t) (iblk m c 10 t) (iblk m c 16 t) (iblk m c 22 t)
    | ⟨35, _⟩ => putUpdate (iblk m c 5 t) (iblk m c 11 t) (iblk m c 17 t) (iblk m c 23 t)
    | ⟨36, _⟩ => putFirst (iblk m c 6 t) (iblk m c 12 t)
    | ⟨37, _⟩ => putFirst (iblk m c 7 t) (iblk m c 13 t)
    | ⟨38, _⟩ => putFirst (iblk m c 8 t) (iblk m c 14 t)
    | ⟨39, _⟩ => putFirst (iblk m c 9 t) (iblk m c 15 t)
    | ⟨40, _⟩ => putFirst (iblk m c 10 t) (iblk m c 16 t)
    | ⟨41, _⟩ => putFirst (iblk m c 11 t) (iblk m c 17 t)
    | ⟨42, _⟩ => putSecond (iblk m c 6 t) (iblk m c 18 t)
    | ⟨43, _⟩ => putSecond (iblk m c 7 t) (iblk m c 19 t)
    | ⟨44, _⟩ => putSecond (iblk m c 8 t) (iblk m c 20 t)
    | ⟨45, _⟩ => putSecond (iblk m c 9 t) (iblk m c 21 t)
    | ⟨46, _⟩ => putSecond (iblk m c 10 t) (iblk m c 22 t)
    | ⟨47, _⟩ => putSecond (iblk m c 11 t) (iblk m c 23 t)
    | ⟨_ + 48, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

set_option maxHeartbeats 2000000 in
/-- The facts of an array the body reads: it is no result, never idle, never cut, and the body leaves it as it was. -/
theorem input (c : Dev nD) (w : Fin cfg0.W) (hw : w.val < 24) : (cfg0.win w).isOut = false ∧ (∀ i, cfg0.idle w i = false)
    ∧ (∀ t t' : Fin cfg0.N, (cfg0.win w).index t = (cfg0.win w).index t' → (cfg0.win w).clip (cfg0.grid.coords t) = (cfg0.win w).clip (cfg0.grid.coords t'))
    ∧ ∀ t, (cfg0.win w).cut (cfg0.grid.coords t) ((dats m 0 c).after w t) = (dats m 0 c).blockOf w t := by
  fin_cases w
  all_goals first | exact absurd hw (by decide) | exact ⟨rfl, fun _ => rfl, fun _ _ _ => rfl, fun _ => by dsimp only [dats]; rfl⟩

/-- The body is called with each array it reads in place. -/
theorem before (c : Dev nD) (t : Fin cfg0.N) (w : Fin cfg0.W) (hw : w.val < 24) (d) : (dats m 0 c).before w t d = (dats m 0 c).fetched w t d :=
  (dats m 0 c).before_in_eq_fetched w (input m c w hw).1 (input m c w hw).2.1 (input m c w hw).2.2.1 (input m c w hw).2.2.2 t d

set_option maxHeartbeats 2000000 in
/-- Before the body, array by array, -/
theorem before_block (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t)
    ∧ (∀ d, (dats m 0 c).before 8 t d = iblk m c 8 t)
    ∧ (∀ d, (dats m 0 c).before 9 t d = iblk m c 9 t)
    ∧ (∀ d, (dats m 0 c).before 10 t d = iblk m c 10 t)
    ∧ (∀ d, (dats m 0 c).before 11 t d = iblk m c 11 t)
    ∧ (∀ d, (dats m 0 c).before 12 t d = iblk m c 12 t)
    ∧ (∀ d, (dats m 0 c).before 13 t d = iblk m c 13 t)
    ∧ (∀ d, (dats m 0 c).before 14 t d = iblk m c 14 t)
    ∧ (∀ d, (dats m 0 c).before 15 t d = iblk m c 15 t)
    ∧ (∀ d, (dats m 0 c).before 16 t d = iblk m c 16 t)
    ∧ (∀ d, (dats m 0 c).before 17 t d = iblk m c 17 t)
    ∧ (∀ d, (dats m 0 c).before 18 t d = iblk m c 18 t)
    ∧ (∀ d, (dats m 0 c).before 19 t d = iblk m c 19 t)
    ∧ (∀ d, (dats m 0 c).before 20 t d = iblk m c 20 t)
    ∧ (∀ d, (dats m 0 c).before 21 t d = iblk m c 21 t)
    ∧ (∀ d, (dats m 0 c).before 22 t d = iblk m c 22 t)
    ∧ (∀ d, (dats m 0 c).before 23 t d = iblk m c 23 t) := by
  and_intros <;> (intro d; rw [before m c t _ (by decide)]; unfold Dat.fetched Dat.blockOf iblk; rw [A_eq]; rfl)

set_option maxHeartbeats 2000000 in
/-- and after it. -/
theorem after_block (c : Dev nD) (t : Fin cfg0.N) :
    (dats m 0 c).after 0 t = iblk m c 0 t
    ∧ (dats m 0 c).after 1 t = iblk m c 1 t
    ∧ (dats m 0 c).after 2 t = iblk m c 2 t
    ∧ (dats m 0 c).after 3 t = iblk m c 3 t
    ∧ (dats m 0 c).after 4 t = iblk m c 4 t
    ∧ (dats m 0 c).after 5 t = iblk m c 5 t
    ∧ (dats m 0 c).after 6 t = iblk m c 6 t
    ∧ (dats m 0 c).after 7 t = iblk m c 7 t
    ∧ (dats m 0 c).after 8 t = iblk m c 8 t
    ∧ (dats m 0 c).after 9 t = iblk m c 9 t
    ∧ (dats m 0 c).after 10 t = iblk m c 10 t
    ∧ (dats m 0 c).after 11 t = iblk m c 11 t
    ∧ (dats m 0 c).after 12 t = iblk m c 12 t
    ∧ (dats m 0 c).after 13 t = iblk m c 13 t
    ∧ (dats m 0 c).after 14 t = iblk m c 14 t
    ∧ (dats m 0 c).after 15 t = iblk m c 15 t
    ∧ (dats m 0 c).after 16 t = iblk m c 16 t
    ∧ (dats m 0 c).after 17 t = iblk m c 17 t
    ∧ (dats m 0 c).after 18 t = iblk m c 18 t
    ∧ (dats m 0 c).after 19 t = iblk m c 19 t
    ∧ (dats m 0 c).after 20 t = iblk m c 20 t
    ∧ (dats m 0 c).after 21 t = iblk m c 21 t
    ∧ (dats m 0 c).after 22 t = iblk m c 22 t
    ∧ (dats m 0 c).after 23 t = iblk m c 23 t
    ∧ (dats m 0 c).after 24 t = putGradient (iblk m c 6 t)
    ∧ (dats m 0 c).after 25 t = putGradient (iblk m c 7 t)
    ∧ (dats m 0 c).after 26 t = putGradient (iblk m c 8 t)
    ∧ (dats m 0 c).after 27 t = putGradient (iblk m c 9 t)
    ∧ (dats m 0 c).after 28 t = putGradient (iblk m c 10 t)
    ∧ (dats m 0 c).after 29 t = putGradient (iblk m c 11 t)
    ∧ (dats m 0 c).after 30 t = putUpdate (iblk m c 0 t) (iblk m c 6 t) (iblk m c 12 t) (iblk m c 18 t)
    ∧ (dats m 0 c).after 31 t = putUpdate (iblk m c 1 t) (iblk m c 7 t) (iblk m c 13 t) (iblk m c 19 t)
    ∧ (dats m 0 c).after 32 t = putUpdate (iblk m c 2 t) (iblk m c 8 t) (iblk m c 14 t) (iblk m c 20 t)
    ∧ (dats m 0 c).after 33 t = putUpdate (iblk m c 3 t) (iblk m c 9 t) (iblk m c 15 t) (iblk m c 21 t)
    ∧ (dats m 0 c).after 34 t = putUpdate (iblk m c 4 t) (iblk m c 10 t) (iblk m c 16 t) (iblk m c 22 t)
    ∧ (dats m 0 c).after 35 t = putUpdate (iblk m c 5 t) (iblk m c 11 t) (iblk m c 17 t) (iblk m c 23 t)
    ∧ (dats m 0 c).after 36 t = putFirst (iblk m c 6 t) (iblk m c 12 t)
    ∧ (dats m 0 c).after 37 t = putFirst (iblk m c 7 t) (iblk m c 13 t)
    ∧ (dats m 0 c).after 38 t = putFirst (iblk m c 8 t) (iblk m c 14 t)
    ∧ (dats m 0 c).after 39 t = putFirst (iblk m c 9 t) (iblk m c 15 t)
    ∧ (dats m 0 c).after 40 t = putFirst (iblk m c 10 t) (iblk m c 16 t)
    ∧ (dats m 0 c).after 41 t = putFirst (iblk m c 11 t) (iblk m c 17 t)
    ∧ (dats m 0 c).after 42 t = putSecond (iblk m c 6 t) (iblk m c 18 t)
    ∧ (dats m 0 c).after 43 t = putSecond (iblk m c 7 t) (iblk m c 19 t)
    ∧ (dats m 0 c).after 44 t = putSecond (iblk m c 8 t) (iblk m c 20 t)
    ∧ (dats m 0 c).after 45 t = putSecond (iblk m c 9 t) (iblk m c 21 t)
    ∧ (dats m 0 c).after 46 t = putSecond (iblk m c 10 t) (iblk m c 22 t)
    ∧ (dats m 0 c).after 47 t = putSecond (iblk m c 11 t) (iblk m c 23 t) := by
  and_intros <;> dsimp only [dats]

/-- What the body is called with, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)) ∗ (∃ d, owns (c : Thread nD τ) (st0_21 t) fullShare ((dats m 0 c).before 21 t d)) ∗ (∃ d, owns (c : Thread nD τ) (st0_22 t) fullShare ((dats m 0 c).before 22 t d)) ∗ (∃ d, owns (c : Thread nD τ) (st0_23 t) fullShare ((dats m 0 c).before 23 t d)) ∗ (∃ d, owns (c : Thread nD τ) (st0_24 t) fullShare ((dats m 0 c).before 24 t d)) ∗ (∃ d, owns (c : Thread nD τ) (st0_25 t) fullShare ((dats m 0 c).before 25 t d)) ∗ (∃ d, owns (c : Thread nD τ) (st0_26 t) fullShare ((dats m 0 c).before 26 t d)) ∗ (∃ d, owns (c : Thread nD τ) (st0_27 t) fullShare ((dats m 0 c).before 27 t d)) ∗ (∃ d, owns (c : Thread nD τ) (st0_28 t) fullShare ((dats m 0 c).before 28 t d)) ∗ (∃ d, owns (c : Thread nD τ) (st0_29 t) fullShare ((dats m 0 c).before 29 t d)) ∗ (∃ d, owns (c : Thread nD τ) (st0_30 t) fullShare ((dats m 0 c).before 30 t d)) ∗ (∃ d, owns (c : Thread nD τ) (st0_31 t) fullShare ((dats m 0 c).before 31 t d)) ∗ (∃ d, owns (c : Thread nD τ) (st0_32 t) fullShare ((dats m 0 c).before 32 t d)) ∗ (∃ d, owns (c : Thread nD τ) (st0_33 t) fullShare ((dats m 0 c).before 33 t d)) ∗ (∃ d, owns (c : Thread nD τ) (st0_34 t) fullShare ((dats m 0 c).before 34 t d)) ∗ (∃ d, owns (c : Thread nD τ) (st0_35 t) fullShare ((dats m 0 c).before 35 t d)) ∗ (∃ d, owns (c : Thread nD τ) (st0_36 t) fullShare ((dats m 0 c).before 36 t d)) ∗ (∃ d, owns (c : Thread nD τ) (st0_37 t) fullShare ((dats m 0 c).before 37 t d)) ∗ (∃ d, owns (c : Thread nD τ) (st0_38 t) fullShare ((dats m 0 c).before 38 t d)) ∗ (∃ d, owns (c : Thread nD τ) (st0_39 t) fullShare ((dats m 0 c).before 39 t d)) ∗ (∃ d, owns (c : Thread nD τ) (st0_40 t) fullShare ((dats m 0 c).before 40 t d)) ∗ (∃ d, owns (c : Thread nD τ) (st0_41 t) fullShare ((dats m 0 c).before 41 t d)) ∗ (∃ d, owns (c : Thread nD τ) (st0_42 t) fullShare ((dats m 0 c).before 42 t d)) ∗ (∃ d, owns (c : Thread nD τ) (st0_43 t) fullShare ((dats m 0 c).before 43 t d)) ∗ (∃ d, owns (c : Thread nD τ) (st0_44 t) fullShare ((dats m 0 c).before 44 t d)) ∗ (∃ d, owns (c : Thread nD τ) (st0_45 t) fullShare ((dats m 0 c).before 45 t d)) ∗ (∃ d, owns (c : Thread nD τ) (st0_46 t) fullShare ((dats m 0 c).before 46 t d)) ∗ (∃ d, owns (c : Thread nD τ) (st0_47 t) fullShare ((dats m 0 c).before 47 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ owns (c : Thread nD τ) (st0_20 t) fullShare ((dats m 0 c).after 20 t) ∗ owns (c : Thread nD τ) (st0_21 t) fullShare ((dats m 0 c).after 21 t) ∗ owns (c : Thread nD τ) (st0_22 t) fullShare ((dats m 0 c).after 22 t) ∗ owns (c : Thread nD τ) (st0_23 t) fullShare ((dats m 0 c).after 23 t) ∗ owns (c : Thread nD τ) (st0_24 t) fullShare ((dats m 0 c).after 24 t) ∗ owns (c : Thread nD τ) (st0_25 t) fullShare ((dats m 0 c).after 25 t) ∗ owns (c : Thread nD τ) (st0_26 t) fullShare ((dats m 0 c).after 26 t) ∗ owns (c : Thread nD τ) (st0_27 t) fullShare ((dats m 0 c).after 27 t) ∗ owns (c : Thread nD τ) (st0_28 t) fullShare ((dats m 0 c).after 28 t) ∗ owns (c : Thread nD τ) (st0_29 t) fullShare ((dats m 0 c).after 29 t) ∗ owns (c : Thread nD τ) (st0_30 t) fullShare ((dats m 0 c).after 30 t) ∗ owns (c : Thread nD τ) (st0_31 t) fullShare ((dats m 0 c).after 31 t) ∗ owns (c : Thread nD τ) (st0_32 t) fullShare ((dats m 0 c).after 32 t) ∗ owns (c : Thread nD τ) (st0_33 t) fullShare ((dats m 0 c).after 33 t) ∗ owns (c : Thread nD τ) (st0_34 t) fullShare ((dats m 0 c).after 34 t) ∗ owns (c : Thread nD τ) (st0_35 t) fullShare ((dats m 0 c).after 35 t) ∗ owns (c : Thread nD τ) (st0_36 t) fullShare ((dats m 0 c).after 36 t) ∗ owns (c : Thread nD τ) (st0_37 t) fullShare ((dats m 0 c).after 37 t) ∗ owns (c : Thread nD τ) (st0_38 t) fullShare ((dats m 0 c).after 38 t) ∗ owns (c : Thread nD τ) (st0_39 t) fullShare ((dats m 0 c).after 39 t) ∗ owns (c : Thread nD τ) (st0_40 t) fullShare ((dats m 0 c).after 40 t) ∗ owns (c : Thread nD τ) (st0_41 t) fullShare ((dats m 0 c).after 41 t) ∗ owns (c : Thread nD τ) (st0_42 t) fullShare ((dats m 0 c).after 42 t) ∗ owns (c : Thread nD τ) (st0_43 t) fullShare ((dats m 0 c).after 43 t) ∗ owns (c : Thread nD τ) (st0_44 t) fullShare ((dats m 0 c).after 44 t) ∗ owns (c : Thread nD τ) (st0_45 t) fullShare ((dats m 0 c).after 45 t) ∗ owns (c : Thread nD τ) (st0_46 t) fullShare ((dats m 0 c).after 46 t) ∗ owns (c : Thread nD τ) (st0_47 t) fullShare ((dats m 0 c).after 47 t))

set_option maxHeartbeats 2000000 in
/-- The body does what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_block]
  rw [show (dats m 0 c).Φ t.succ = (dats m 0 c).Φ t.castSucc from rfl,
    show (dats m 0 c).owesAt () t.succ = (dats m 0 c).owesAt () t.castSucc from rfl]
  simp only [after_block]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro H
  iframe HΦ Ho
  iexact H

/-- The body table's row is the body. -/
theorem row (t : Fin cfg0.N) : defs₀ (F := F) .tc cfg0.body (cfg0.bodyArgs t (cfg0.slots t)) = bodyAt0 t := by
  unfold defs₀; rw [Defs.onTc_tc]

set_option maxHeartbeats 2000000 in
/-- The body does what the launch asks of it. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
set_option maxHeartbeats 2000000 in
/-- Every run ends, with every array as the proof data says and no signal pending. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An array the body reads ends as it was. -/
theorem kept {r} (h : Pipeline.FramePost cfgs (dats m) 0 (V m) r) (c : Dev nD) (w : Fin cfg0.W) (hw : (cfg0.win w).isOut = false) :
    r.2.mem ((c.tc : Thread nD τ).loc (Pipeline.arrRef spec0 w)) = V m c (Pipeline.arrRef spec0 w) :=
  ((h c).1 w).trans ((dats m 0 c).arrAt_in w hw _)

set_option maxHeartbeats 2000000 in
/-- A block is the whole array. -/
theorem blocks (c : Dev nD) (t : Fin cfg0.N) :
    (iblk m c 0 t : Vec F S1x1024 .f32) = m ((c.tc : Thread nD τ).loc main_arg0)
    ∧ (iblk m c 1 t : Vec F S1x1024 .f32) = m ((c.tc : Thread nD τ).loc main_arg1)
    ∧ (iblk m c 2 t : Vec F S1x1024 .f32) = m ((c.tc : Thread nD τ).loc main_arg2)
    ∧ (iblk m c 3 t : Vec F S1x1024 .f32) = m ((c.tc : Thread nD τ).loc main_arg3)
    ∧ (iblk m c 4 t : Vec F S1x512 .f32) = m ((c.tc : Thread nD τ).loc main_arg4)
    ∧ (iblk m c 5 t : Vec F S512x128 .f32) = m ((c.tc : Thread nD τ).loc main_arg5)
    ∧ (iblk m c 6 t : Vec F S8x1x1024 .f32) = m ((c.tc : Thread nD τ).loc main_arg6)
    ∧ (iblk m c 7 t : Vec F S8x1x1024 .f32) = m ((c.tc : Thread nD τ).loc main_arg7)
    ∧ (iblk m c 8 t : Vec F S8x1x1024 .f32) = m ((c.tc : Thread nD τ).loc main_arg8)
    ∧ (iblk m c 9 t : Vec F S8x1x1024 .f32) = m ((c.tc : Thread nD τ).loc main_arg9)
    ∧ (iblk m c 10 t : Vec F S8x1x512 .f32) = m ((c.tc : Thread nD τ).loc main_arg10)
    ∧ (iblk m c 11 t : Vec F S8x512x128 .f32) = m ((c.tc : Thread nD τ).loc main_arg11)
    ∧ (iblk m c 12 t : Vec F S1x1024 .f32) = m ((c.tc : Thread nD τ).loc main_arg12)
    ∧ (iblk m c 13 t : Vec F S1x1024 .f32) = m ((c.tc : Thread nD τ).loc main_arg13)
    ∧ (iblk m c 14 t : Vec F S1x1024 .f32) = m ((c.tc : Thread nD τ).loc main_arg14)
    ∧ (iblk m c 15 t : Vec F S1x1024 .f32) = m ((c.tc : Thread nD τ).loc main_arg15)
    ∧ (iblk m c 16 t : Vec F S1x512 .f32) = m ((c.tc : Thread nD τ).loc main_arg16)
    ∧ (iblk m c 17 t : Vec F S512x128 .f32) = m ((c.tc : Thread nD τ).loc main_arg17)
    ∧ (iblk m c 18 t : Vec F S1x1024 .f32) = m ((c.tc : Thread nD τ).loc main_arg18)
    ∧ (iblk m c 19 t : Vec F S1x1024 .f32) = m ((c.tc : Thread nD τ).loc main_arg19)
    ∧ (iblk m c 20 t : Vec F S1x1024 .f32) = m ((c.tc : Thread nD τ).loc main_arg20)
    ∧ (iblk m c 21 t : Vec F S1x1024 .f32) = m ((c.tc : Thread nD τ).loc main_arg21)
    ∧ (iblk m c 22 t : Vec F S1x512 .f32) = m ((c.tc : Thread nD τ).loc main_arg22)
    ∧ (iblk m c 23 t : Vec F S512x128 .f32) = m ((c.tc : Thread nD τ).loc main_arg23) := by
  and_intros <;> (funext _; blk_ext [iblk, V] <;> first | rfl | (show 0 * _ + _ = _; omega))

set_option maxHeartbeats 2000000 in
/-- The results: the gradients, the updates and the two moments, of the whole arrays. -/
theorem results (c : Dev nD) :
    ((dats m 0 c).arrAt 24 cfg0.N : Vec F S1x1024 .f32) = gradient (m ((c.tc : Thread nD τ).loc main_arg6))
    ∧ ((dats m 0 c).arrAt 25 cfg0.N : Vec F S1x1024 .f32) = gradient (m ((c.tc : Thread nD τ).loc main_arg7))
    ∧ ((dats m 0 c).arrAt 26 cfg0.N : Vec F S1x1024 .f32) = gradient (m ((c.tc : Thread nD τ).loc main_arg8))
    ∧ ((dats m 0 c).arrAt 27 cfg0.N : Vec F S1x1024 .f32) = gradient (m ((c.tc : Thread nD τ).loc main_arg9))
    ∧ ((dats m 0 c).arrAt 28 cfg0.N : Vec F S1x512 .f32) = gradient (m ((c.tc : Thread nD τ).loc main_arg10))
    ∧ ((dats m 0 c).arrAt 29 cfg0.N : Vec F S512x128 .f32) = gradient (m ((c.tc : Thread nD τ).loc main_arg11))
    ∧ ((dats m 0 c).arrAt 30 cfg0.N : Vec F S1x1024 .f32) = update (m ((c.tc : Thread nD τ).loc main_arg0)) (gradient (m ((c.tc : Thread nD τ).loc main_arg6))) (m ((c.tc : Thread nD τ).loc main_arg12)) (m ((c.tc : Thread nD τ).loc main_arg18))
    ∧ ((dats m 0 c).arrAt 31 cfg0.N : Vec F S1x1024 .f32) = update (m ((c.tc : Thread nD τ).loc main_arg1)) (gradient (m ((c.tc : Thread nD τ).loc main_arg7))) (m ((c.tc : Thread nD τ).loc main_arg13)) (m ((c.tc : Thread nD τ).loc main_arg19))
    ∧ ((dats m 0 c).arrAt 32 cfg0.N : Vec F S1x1024 .f32) = update (m ((c.tc : Thread nD τ).loc main_arg2)) (gradient (m ((c.tc : Thread nD τ).loc main_arg8))) (m ((c.tc : Thread nD τ).loc main_arg14)) (m ((c.tc : Thread nD τ).loc main_arg20))
    ∧ ((dats m 0 c).arrAt 33 cfg0.N : Vec F S1x1024 .f32) = update (m ((c.tc : Thread nD τ).loc main_arg3)) (gradient (m ((c.tc : Thread nD τ).loc main_arg9))) (m ((c.tc : Thread nD τ).loc main_arg15)) (m ((c.tc : Thread nD τ).loc main_arg21))
    ∧ ((dats m 0 c).arrAt 34 cfg0.N : Vec F S1x512 .f32) = update (m ((c.tc : Thread nD τ).loc main_arg4)) (gradient (m ((c.tc : Thread nD τ).loc main_arg10))) (m ((c.tc : Thread nD τ).loc main_arg16)) (m ((c.tc : Thread nD τ).loc main_arg22))
    ∧ ((dats m 0 c).arrAt 35 cfg0.N : Vec F S512x128 .f32) = update (m ((c.tc : Thread nD τ).loc main_arg5)) (gradient (m ((c.tc : Thread nD τ).loc main_arg11))) (m ((c.tc : Thread nD τ).loc main_arg17)) (m ((c.tc : Thread nD τ).loc main_arg23))
    ∧ ((dats m 0 c).arrAt 36 cfg0.N : Vec F S1x1024 .f32) = first (gradient (m ((c.tc : Thread nD τ).loc main_arg6))) (m ((c.tc : Thread nD τ).loc main_arg12))
    ∧ ((dats m 0 c).arrAt 37 cfg0.N : Vec F S1x1024 .f32) = first (gradient (m ((c.tc : Thread nD τ).loc main_arg7))) (m ((c.tc : Thread nD τ).loc main_arg13))
    ∧ ((dats m 0 c).arrAt 38 cfg0.N : Vec F S1x1024 .f32) = first (gradient (m ((c.tc : Thread nD τ).loc main_arg8))) (m ((c.tc : Thread nD τ).loc main_arg14))
    ∧ ((dats m 0 c).arrAt 39 cfg0.N : Vec F S1x1024 .f32) = first (gradient (m ((c.tc : Thread nD τ).loc main_arg9))) (m ((c.tc : Thread nD τ).loc main_arg15))
    ∧ ((dats m 0 c).arrAt 40 cfg0.N : Vec F S1x512 .f32) = first (gradient (m ((c.tc : Thread nD τ).loc main_arg10))) (m ((c.tc : Thread nD τ).loc main_arg16))
    ∧ ((dats m 0 c).arrAt 41 cfg0.N : Vec F S512x128 .f32) = first (gradient (m ((c.tc : Thread nD τ).loc main_arg11))) (m ((c.tc : Thread nD τ).loc main_arg17))
    ∧ ((dats m 0 c).arrAt 42 cfg0.N : Vec F S1x1024 .f32) = second (gradient (m ((c.tc : Thread nD τ).loc main_arg6))) (m ((c.tc : Thread nD τ).loc main_arg18))
    ∧ ((dats m 0 c).arrAt 43 cfg0.N : Vec F S1x1024 .f32) = second (gradient (m ((c.tc : Thread nD τ).loc main_arg7))) (m ((c.tc : Thread nD τ).loc main_arg19))
    ∧ ((dats m 0 c).arrAt 44 cfg0.N : Vec F S1x1024 .f32) = second (gradient (m ((c.tc : Thread nD τ).loc main_arg8))) (m ((c.tc : Thread nD τ).loc main_arg20))
    ∧ ((dats m 0 c).arrAt 45 cfg0.N : Vec F S1x1024 .f32) = second (gradient (m ((c.tc : Thread nD τ).loc main_arg9))) (m ((c.tc : Thread nD τ).loc main_arg21))
    ∧ ((dats m 0 c).arrAt 46 cfg0.N : Vec F S1x512 .f32) = second (gradient (m ((c.tc : Thread nD τ).loc main_arg10))) (m ((c.tc : Thread nD τ).loc main_arg22))
    ∧ ((dats m 0 c).arrAt 47 cfg0.N : Vec F S512x128 .f32) = second (gradient (m ((c.tc : Thread nD τ).loc main_arg11))) (m ((c.tc : Thread nD τ).loc main_arg23)) := by
  and_intros <;> (
    refine (dats m 0 c).arrAt_eq_of_covers _ _ (by decide +kernel) fun t _ y => ?_
    simp only [after_block, blocks, putGradient_eq, putFirst_eq, putSecond_eq, putUpdate_eq]
    refine congrArg _ ?_
    blk_ext <;> first | rfl | (show _ = 0 * _ + _; omega))

/-- The arguments end as they were. -/
theorem unchanged {r} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23) :=
  ⟨kept m h c 0 rfl, kept m h c 1 rfl, kept m h c 2 rfl, kept m h c 3 rfl, kept m h c 4 rfl, kept m h c 5 rfl, kept m h c 6 rfl, kept m h c 7 rfl, kept m h c 8 rfl, kept m h c 9 rfl, kept m h c 10 rfl, kept m h c 11 rfl, kept m h c 12 rfl, kept m h c 13 rfl, kept m h c 14 rfl, kept m h c 15 rfl, kept m h c 16 rfl, kept m h c 17 rfl, kept m h c 18 rfl, kept m h c 19 rfl, kept m h c 20 rfl, kept m h c 21 rfl, kept m h c 22 rfl, kept m h c 23 rfl⟩

set_option maxHeartbeats 2000000 in
/-- Every run ends with the results of the whole arrays, and the arguments as they were. -/
theorem run : θ_run defs (onTc (τ := τ) (main (F := F))) (s₀ m ρ) (fun r => ∀ c : Dev nD,
    (r.2.mem ((c.tc : Thread nD τ).loc main_v0_0) = gradient (m ((c.tc : Thread nD τ).loc main_arg6))
    ∧ r.2.mem ((c.tc : Thread nD τ).loc main_v0_1) = gradient (m ((c.tc : Thread nD τ).loc main_arg7))
    ∧ r.2.mem ((c.tc : Thread nD τ).loc main_v0_2) = gradient (m ((c.tc : Thread nD τ).loc main_arg8))
    ∧ r.2.mem ((c.tc : Thread nD τ).loc main_v0_3) = gradient (m ((c.tc : Thread nD τ).loc main_arg9))
    ∧ r.2.mem ((c.tc : Thread nD τ).loc main_v0_4) = gradient (m ((c.tc : Thread nD τ).loc main_arg10))
    ∧ r.2.mem ((c.tc : Thread nD τ).loc main_v0_5) = gradient (m ((c.tc : Thread nD τ).loc main_arg11))
    ∧ r.2.mem ((c.tc : Thread nD τ).loc main_v0_6) = update (m ((c.tc : Thread nD τ).loc main_arg0)) (gradient (m ((c.tc : Thread nD τ).loc main_arg6))) (m ((c.tc : Thread nD τ).loc main_arg12)) (m ((c.tc : Thread nD τ).loc main_arg18))
    ∧ r.2.mem ((c.tc : Thread nD τ).loc main_v0_7) = update (m ((c.tc : Thread nD τ).loc main_arg1)) (gradient (m ((c.tc : Thread nD τ).loc main_arg7))) (m ((c.tc : Thread nD τ).loc main_arg13)) (m ((c.tc : Thread nD τ).loc main_arg19))
    ∧ r.2.mem ((c.tc : Thread nD τ).loc main_v0_8) = update (m ((c.tc : Thread nD τ).loc main_arg2)) (gradient (m ((c.tc : Thread nD τ).loc main_arg8))) (m ((c.tc : Thread nD τ).loc main_arg14)) (m ((c.tc : Thread nD τ).loc main_arg20))
    ∧ r.2.mem ((c.tc : Thread nD τ).loc main_v0_9) = update (m ((c.tc : Thread nD τ).loc main_arg3)) (gradient (m ((c.tc : Thread nD τ).loc main_arg9))) (m ((c.tc : Thread nD τ).loc main_arg15)) (m ((c.tc : Thread nD τ).loc main_arg21))
    ∧ r.2.mem ((c.tc : Thread nD τ).loc main_v0_10) = update (m ((c.tc : Thread nD τ).loc main_arg4)) (gradient (m ((c.tc : Thread nD τ).loc main_arg10))) (m ((c.tc : Thread nD τ).loc main_arg16)) (m ((c.tc : Thread nD τ).loc main_arg22))
    ∧ r.2.mem ((c.tc : Thread nD τ).loc main_v0_11) = update (m ((c.tc : Thread nD τ).loc main_arg5)) (gradient (m ((c.tc : Thread nD τ).loc main_arg11))) (m ((c.tc : Thread nD τ).loc main_arg17)) (m ((c.tc : Thread nD τ).loc main_arg23))
    ∧ r.2.mem ((c.tc : Thread nD τ).loc main_v0_12) = first (gradient (m ((c.tc : Thread nD τ).loc main_arg6))) (m ((c.tc : Thread nD τ).loc main_arg12))
    ∧ r.2.mem ((c.tc : Thread nD τ).loc main_v0_13) = first (gradient (m ((c.tc : Thread nD τ).loc main_arg7))) (m ((c.tc : Thread nD τ).loc main_arg13))
    ∧ r.2.mem ((c.tc : Thread nD τ).loc main_v0_14) = first (gradient (m ((c.tc : Thread nD τ).loc main_arg8))) (m ((c.tc : Thread nD τ).loc main_arg14))
    ∧ r.2.mem ((c.tc : Thread nD τ).loc main_v0_15) = first (gradient (m ((c.tc : Thread nD τ).loc main_arg9))) (m ((c.tc : Thread nD τ).loc main_arg15))
    ∧ r.2.mem ((c.tc : Thread nD τ).loc main_v0_16) = first (gradient (m ((c.tc : Thread nD τ).loc main_arg10))) (m ((c.tc : Thread nD τ).loc main_arg16))
    ∧ r.2.mem ((c.tc : Thread nD τ).loc main_v0_17) = first (gradient (m ((c.tc : Thread nD τ).loc main_arg11))) (m ((c.tc : Thread nD τ).loc main_arg17))
    ∧ r.2.mem ((c.tc : Thread nD τ).loc main_v0_18) = second (gradient (m ((c.tc : Thread nD τ).loc main_arg6))) (m ((c.tc : Thread nD τ).loc main_arg18))
    ∧ r.2.mem ((c.tc : Thread nD τ).loc main_v0_19) = second (gradient (m ((c.tc : Thread nD τ).loc main_arg7))) (m ((c.tc : Thread nD τ).loc main_arg19))
    ∧ r.2.mem ((c.tc : Thread nD τ).loc main_v0_20) = second (gradient (m ((c.tc : Thread nD τ).loc main_arg8))) (m ((c.tc : Thread nD τ).loc main_arg20))
    ∧ r.2.mem ((c.tc : Thread nD τ).loc main_v0_21) = second (gradient (m ((c.tc : Thread nD τ).loc main_arg9))) (m ((c.tc : Thread nD τ).loc main_arg21))
    ∧ r.2.mem ((c.tc : Thread nD τ).loc main_v0_22) = second (gradient (m ((c.tc : Thread nD τ).loc main_arg10))) (m ((c.tc : Thread nD τ).loc main_arg22))
    ∧ r.2.mem ((c.tc : Thread nD τ).loc main_v0_23) = second (gradient (m ((c.tc : Thread nD τ).loc main_arg11))) (m ((c.tc : Thread nD τ).loc main_arg23)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)) :=
  (θ_run defs _ _).mono (fun r h c => by
    obtain ⟨e24, e25, e26, e27, e28, e29, e30, e31, e32, e33, e34, e35, e36, e37, e38, e39, e40, e41, e42, e43, e44, e45, e46, e47⟩ := results m c
    exact ⟨⟨((h.1 c).1 24).trans e24, ((h.1 c).1 25).trans e25, ((h.1 c).1 26).trans e26, ((h.1 c).1 27).trans e27, ((h.1 c).1 28).trans e28, ((h.1 c).1 29).trans e29, ((h.1 c).1 30).trans e30, ((h.1 c).1 31).trans e31, ((h.1 c).1 32).trans e32, ((h.1 c).1 33).trans e33, ((h.1 c).1 34).trans e34, ((h.1 c).1 35).trans e35, ((h.1 c).1 36).trans e36, ((h.1 c).1 37).trans e37, ((h.1 c).1 38).trans e38, ((h.1 c).1 39).trans e39, ((h.1 c).1 40).trans e40, ((h.1 c).1 41).trans e41, ((h.1 c).1 42).trans e42, ((h.1 c).1 43).trans e43, ((h.1 c).1 44).trans e44, ((h.1 c).1 45).trans e45, ((h.1 c).1 46).trans e46, ((h.1 c).1 47).trans e47⟩, unchanged m h.1 c⟩) (run_main m ρ)

end run

/-- A run under a table of bodies is a run under an equal table. -/
theorem moved {nD τ sig Val Λ} {d d' : Defs nD τ sig Val Λ} (e : d = d') {p s Q} (h : θ_run d' p s Q) : θ_run d p s Q := e ▸ h

set_option maxHeartbeats 2000000 in
/-- The printed kernel and the kernel over exact numbers are one text: their bodies are the same. -/
theorem bodies_eq : Cert.AdamSmall.defs₀ (F := Bits) = Cert.AdamSmallIdeal.defs₀ (F := Bits) := by
  unfold Cert.AdamSmall.defs₀ Cert.AdamSmallIdeal.defs₀
  refine congrArg Defs.onTc (funext fun l => funext fun a => ?_)
  match l, a with
  | 0, (t, s) => rfl

set_option maxHeartbeats 2000000 in
@[inherit_doc bodies_eq] theorem table_eq : Cert.AdamSmall.defs (F := Bits) = Cert.AdamSmallIdeal.defs (F := Bits) :=
  congrArg (Pipeline.defs Cert.AdamSmallIdeal.pcfgs) bodies_eq

set_option maxHeartbeats 2000000 in
/-- The kernel as printed: every run ends, leaves the arguments as they were and no signal pending. -/
theorem frame_kernel : Cert.quiescent_AdamSmall := fun m ρ _ =>
  moved table_eq ((θ_run Cert.AdamSmallIdeal.defs _ _).mono (fun r h => ⟨fun c => unchanged m h.1 c, h.2⟩) (run_main (F := Bits) m ρ))

set_option maxHeartbeats 2000000 in
/-- The same of the kernel over exact numbers. -/
theorem frame_kernel_ideal : Cert.quiescent_AdamSmallIdeal := fun m ρ _ =>
  (θ_run Cert.AdamSmallIdeal.defs _ _).mono (fun r h => ⟨fun c => unchanged m h.1 c, h.2⟩) (run_main (F := Ideal) m ρ)

set_option maxHeartbeats 2000000 in
/-- The reference leaves its arguments as they were. -/
theorem frame_reference_ideal : Cert.quiescent_AdamSmallReferenceIdeal := fun m g _ =>
  (θ_run Cert.AdamSmallReferenceIdeal.defs _ _).mono
    (fun r h => ⟨fun c => (h c).2.2.2.2.2.2.2.2.2.2.2.2.2.2.2.2.2.2.2.2.2.2.2.2, sem_eq_zero_of_no_sems (by decide) r.2⟩)
    (Cert.AdamSmallReferenceIdeal.Value.run (F := Ideal) m g)

set_option maxHeartbeats 2000000 in
/-- The kernel's gradients, updates and moments are the reference's. -/
theorem algebraic : Cert.algebraic_AdamSmallIdeal_AdamSmallReferenceIdeal := fun m g m' g' _ h =>
  ⟨_, _, _, _, _, _, _, _, _, _, _, _, _, _, _, _, _, _, _, _, _, _, _, _,
    (θ_run Cert.AdamSmallIdeal.defs _ _).mono (fun r h c => by
      obtain ⟨⟨e0, e1, e2, e3, e4, e5, e6, e7, e8, e9, e10, e11, e12, e13, e14, e15, e16, e17, e18, e19, e20, e21, e22, e23⟩, hk⟩ := h c
      exact ⟨e0, e1, e2, e3, e4, e5, e6, e7, e8, e9, e10, e11, e12, e13, e14, e15, e16, e17, e18, e19, e20, e21, e22, e23, hk⟩) (run (F := Ideal) m g),
    (θ_run Cert.AdamSmallReferenceIdeal.defs _ _).mono
      (fun r hr c => by
        obtain ⟨h0, h1, h2, h3, h4, h5, h6, h7, h8, h9, h10, h11, h12, h13, h14, h15, h16, h17, h18, h19, h20, h21, h22, h23⟩ := h c
        obtain ⟨r0, r1, r2, r3, r4, r5, r6, r7, r8, r9, r10, r11, r12, r13, r14, r15, r16, r17, r18, r19, r20, r21, r22, r23, rs⟩ := hr c
        have k0 : StableHlo.launchContents m' c (Proc.devRef .tc Cert.AdamSmallReferenceIdeal.main_arg0) = m ((c.tc : Thread Cert.AdamSmallIdeal.nD Cert.AdamSmallIdeal.τ).loc Cert.AdamSmallIdeal.main_arg0) := h0
        have k1 : StableHlo.launchContents m' c (Proc.devRef .tc Cert.AdamSmallReferenceIdeal.main_arg1) = m ((c.tc : Thread Cert.AdamSmallIdeal.nD Cert.AdamSmallIdeal.τ).loc Cert.AdamSmallIdeal.main_arg1) := h1
        have k2 : StableHlo.launchContents m' c (Proc.devRef .tc Cert.AdamSmallReferenceIdeal.main_arg2) = m ((c.tc : Thread Cert.AdamSmallIdeal.nD Cert.AdamSmallIdeal.τ).loc Cert.AdamSmallIdeal.main_arg2) := h2
        have k3 : StableHlo.launchContents m' c (Proc.devRef .tc Cert.AdamSmallReferenceIdeal.main_arg3) = m ((c.tc : Thread Cert.AdamSmallIdeal.nD Cert.AdamSmallIdeal.τ).loc Cert.AdamSmallIdeal.main_arg3) := h3
        have k4 : StableHlo.launchContents m' c (Proc.devRef .tc Cert.AdamSmallReferenceIdeal.main_arg4) = m ((c.tc : Thread Cert.AdamSmallIdeal.nD Cert.AdamSmallIdeal.τ).loc Cert.AdamSmallIdeal.main_arg4) := h4
        have k5 : StableHlo.launchContents m' c (Proc.devRef .tc Cert.AdamSmallReferenceIdeal.main_arg5) = m ((c.tc : Thread Cert.AdamSmallIdeal.nD Cert.AdamSmallIdeal.τ).loc Cert.AdamSmallIdeal.main_arg5) := h5
        have k6 : StableHlo.launchContents m' c (Proc.devRef .tc Cert.AdamSmallReferenceIdeal.main_arg6) = m ((c.tc : Thread Cert.AdamSmallIdeal.nD Cert.AdamSmallIdeal.τ).loc Cert.AdamSmallIdeal.main_arg6) := h6
        have k7 : StableHlo.launchContents m' c (Proc.devRef .tc Cert.AdamSmallReferenceIdeal.main_arg7) = m ((c.tc : Thread Cert.AdamSmallIdeal.nD Cert.AdamSmallIdeal.τ).loc Cert.AdamSmallIdeal.main_arg7) := h7
        have k8 : StableHlo.launchContents m' c (Proc.devRef .tc Cert.AdamSmallReferenceIdeal.main_arg8) = m ((c.tc : Thread Cert.AdamSmallIdeal.nD Cert.AdamSmallIdeal.τ).loc Cert.AdamSmallIdeal.main_arg8) := h8
        have k9 : StableHlo.launchContents m' c (Proc.devRef .tc Cert.AdamSmallReferenceIdeal.main_arg9) = m ((c.tc : Thread Cert.AdamSmallIdeal.nD Cert.AdamSmallIdeal.τ).loc Cert.AdamSmallIdeal.main_arg9) := h9
        have k10 : StableHlo.launchContents m' c (Proc.devRef .tc Cert.AdamSmallReferenceIdeal.main_arg10) = m ((c.tc : Thread Cert.AdamSmallIdeal.nD Cert.AdamSmallIdeal.τ).loc Cert.AdamSmallIdeal.main_arg10) := h10
        have k11 : StableHlo.launchContents m' c (Proc.devRef .tc Cert.AdamSmallReferenceIdeal.main_arg11) = m ((c.tc : Thread Cert.AdamSmallIdeal.nD Cert.AdamSmallIdeal.τ).loc Cert.AdamSmallIdeal.main_arg11) := h11
        have k12 : StableHlo.launchContents m' c (Proc.devRef .tc Cert.AdamSmallReferenceIdeal.main_arg12) = m ((c.tc : Thread Cert.AdamSmallIdeal.nD Cert.AdamSmallIdeal.τ).loc Cert.AdamSmallIdeal.main_arg12) := h12
        have k13 : StableHlo.launchContents m' c (Proc.devRef .tc Cert.AdamSmallReferenceIdeal.main_arg13) = m ((c.tc : Thread Cert.AdamSmallIdeal.nD Cert.AdamSmallIdeal.τ).loc Cert.AdamSmallIdeal.main_arg13) := h13
        have k14 : StableHlo.launchContents m' c (Proc.devRef .tc Cert.AdamSmallReferenceIdeal.main_arg14) = m ((c.tc : Thread Cert.AdamSmallIdeal.nD Cert.AdamSmallIdeal.τ).loc Cert.AdamSmallIdeal.main_arg14) := h14
        have k15 : StableHlo.launchContents m' c (Proc.devRef .tc Cert.AdamSmallReferenceIdeal.main_arg15) = m ((c.tc : Thread Cert.AdamSmallIdeal.nD Cert.AdamSmallIdeal.τ).loc Cert.AdamSmallIdeal.main_arg15) := h15
        have k16 : StableHlo.launchContents m' c (Proc.devRef .tc Cert.AdamSmallReferenceIdeal.main_arg16) = m ((c.tc : Thread Cert.AdamSmallIdeal.nD Cert.AdamSmallIdeal.τ).loc Cert.AdamSmallIdeal.main_arg16) := h16
        have k17 : StableHlo.launchContents m' c (Proc.devRef .tc Cert.AdamSmallReferenceIdeal.main_arg17) = m ((c.tc : Thread Cert.AdamSmallIdeal.nD Cert.AdamSmallIdeal.τ).loc Cert.AdamSmallIdeal.main_arg17) := h17
        have k18 : StableHlo.launchContents m' c (Proc.devRef .tc Cert.AdamSmallReferenceIdeal.main_arg18) = m ((c.tc : Thread Cert.AdamSmallIdeal.nD Cert.AdamSmallIdeal.τ).loc Cert.AdamSmallIdeal.main_arg18) := h18
        have k19 : StableHlo.launchContents m' c (Proc.devRef .tc Cert.AdamSmallReferenceIdeal.main_arg19) = m ((c.tc : Thread Cert.AdamSmallIdeal.nD Cert.AdamSmallIdeal.τ).loc Cert.AdamSmallIdeal.main_arg19) := h19
        have k20 : StableHlo.launchContents m' c (Proc.devRef .tc Cert.AdamSmallReferenceIdeal.main_arg20) = m ((c.tc : Thread Cert.AdamSmallIdeal.nD Cert.AdamSmallIdeal.τ).loc Cert.AdamSmallIdeal.main_arg20) := h20
        have k21 : StableHlo.launchContents m' c (Proc.devRef .tc Cert.AdamSmallReferenceIdeal.main_arg21) = m ((c.tc : Thread Cert.AdamSmallIdeal.nD Cert.AdamSmallIdeal.τ).loc Cert.AdamSmallIdeal.main_arg21) := h21
        have k22 : StableHlo.launchContents m' c (Proc.devRef .tc Cert.AdamSmallReferenceIdeal.main_arg22) = m ((c.tc : Thread Cert.AdamSmallIdeal.nD Cert.AdamSmallIdeal.τ).loc Cert.AdamSmallIdeal.main_arg22) := h22
        have k23 : StableHlo.launchContents m' c (Proc.devRef .tc Cert.AdamSmallReferenceIdeal.main_arg23) = m ((c.tc : Thread Cert.AdamSmallIdeal.nD Cert.AdamSmallIdeal.τ).loc Cert.AdamSmallIdeal.main_arg23) := h23
        have g0 : Cert.AdamSmallReferenceIdeal.Value.res_main_v0 (StableHlo.launchContents m' c) = gradient (F := Ideal) (m ((c.tc : Thread Cert.AdamSmallIdeal.nD Cert.AdamSmallIdeal.τ).loc Cert.AdamSmallIdeal.main_arg6)) :=
          (sum_eq _ Cert.AdamSmallReferenceIdeal.Gen.facts.reducesTo_S8x1x1024_S1x1024_d0 Cert.AdamSmallReferenceIdeal.Gen.facts.h_S_).trans (congrArg (gradient (F := Ideal)) h6)
        have g1 : Cert.AdamSmallReferenceIdeal.Value.res_main_v1 (StableHlo.launchContents m' c) = gradient (F := Ideal) (m ((c.tc : Thread Cert.AdamSmallIdeal.nD Cert.AdamSmallIdeal.τ).loc Cert.AdamSmallIdeal.main_arg7)) :=
          (sum_eq _ Cert.AdamSmallReferenceIdeal.Gen.facts.reducesTo_S8x1x1024_S1x1024_d0 Cert.AdamSmallReferenceIdeal.Gen.facts.h_S_).trans (congrArg (gradient (F := Ideal)) h7)
        have g2 : Cert.AdamSmallReferenceIdeal.Value.res_main_v2 (StableHlo.launchContents m' c) = gradient (F := Ideal) (m ((c.tc : Thread Cert.AdamSmallIdeal.nD Cert.AdamSmallIdeal.τ).loc Cert.AdamSmallIdeal.main_arg8)) :=
          (sum_eq _ Cert.AdamSmallReferenceIdeal.Gen.facts.reducesTo_S8x1x1024_S1x1024_d0 Cert.AdamSmallReferenceIdeal.Gen.facts.h_S_).trans (congrArg (gradient (F := Ideal)) h8)
        have g3 : Cert.AdamSmallReferenceIdeal.Value.res_main_v3 (StableHlo.launchContents m' c) = gradient (F := Ideal) (m ((c.tc : Thread Cert.AdamSmallIdeal.nD Cert.AdamSmallIdeal.τ).loc Cert.AdamSmallIdeal.main_arg9)) :=
          (sum_eq _ Cert.AdamSmallReferenceIdeal.Gen.facts.reducesTo_S8x1x1024_S1x1024_d0 Cert.AdamSmallReferenceIdeal.Gen.facts.h_S_).trans (congrArg (gradient (F := Ideal)) h9)
        have g4 : Cert.AdamSmallReferenceIdeal.Value.res_main_v4 (StableHlo.launchContents m' c) = gradient (F := Ideal) (m ((c.tc : Thread Cert.AdamSmallIdeal.nD Cert.AdamSmallIdeal.τ).loc Cert.AdamSmallIdeal.main_arg10)) :=
          (sum_eq _ Cert.AdamSmallReferenceIdeal.Gen.facts.reducesTo_S8x1x512_S1x512_d0 Cert.AdamSmallReferenceIdeal.Gen.facts.h_S_).trans (congrArg (gradient (F := Ideal)) h10)
        have g5 : Cert.AdamSmallReferenceIdeal.Value.res_main_v5 (StableHlo.launchContents m' c) = gradient (F := Ideal) (m ((c.tc : Thread Cert.AdamSmallIdeal.nD Cert.AdamSmallIdeal.τ).loc Cert.AdamSmallIdeal.main_arg11)) :=
          (sum_eq _ Cert.AdamSmallReferenceIdeal.Gen.facts.reducesTo_S8x512x128_S512x128_d0 Cert.AdamSmallReferenceIdeal.Gen.facts.h_S_).trans (congrArg (gradient (F := Ideal)) h11)
        refine ⟨r0.trans g0, r1.trans g1, r2.trans g2, r3.trans g3, r4.trans g4, r5.trans g5, r6.trans ?_, r7.trans ?_, r8.trans ?_, r9.trans ?_, r10.trans ?_, r11.trans ?_, r12.trans ?_, r13.trans ?_, r14.trans ?_, r15.trans ?_, r16.trans ?_, r17.trans ?_, r18.trans ?_, r19.trans ?_, r20.trans ?_, r21.trans ?_, r22.trans ?_, r23.trans ?_, rs⟩
        all_goals (clear hr; simp only [g0, g1, g2, g3, g4, g5, k0, k1, k2, k3, k4, k5, k12, k13, k14, k15, k16, k17, k18, k19, k20, k21, k22, k23]; rfl))
      (Cert.AdamSmallReferenceIdeal.Value.run (F := Ideal) m' g')⟩

end Cert.SmallAdam
end
-- ==== Proof.Cond.lean ====
module

public import proofs.«01_k».proof.Defs
public import proofs.«01_k».proof.Proof.Gen.CondForward.Frame
public import proofs.«01_k».proof.Proof.Gen.CondForwardIdeal.Value
public import proofs.«01_k».proof.Proof.Gen.CondForwardReferenceIdeal.Run
public import proofs.«01_k».proof.Proof.Gen.CondBackward.Frame
public import proofs.«01_k».proof.Proof.Gen.CondBackwardIdeal.Value
public import proofs.«01_k».proof.Proof.Gen.CondBackwardReferenceIdeal.Run
public import Idealize.ShloMosaic.Lib.Quiescent
public import Idealize.ShloMosaic.Lib.Pointwise

/-!
The two calls at the conditioning, `_cond_fwd` and `_cond_bwd`, each on one device.

Forward: the SiLU of the conditioning times the device's columns of the weight, plus the bias. Backward:
the transposed SiLU times the modulation gradient's columns, and the sum of that gradient over the rows.
The kernel takes its products with a zero accumulator and reads the transposed factor in place, so at
an index both sides are the same sum of the same products.
-/

@[expose] public section

noncomputable section

open Idealize.ShloMosaic Idealize.ShloMosaic.TcCoe Idealize.SL.Sem

namespace Cert.ForwardCond

/-- The reference leaves its arguments as they were. -/
theorem frame_reference_ideal : Cert.quiescent_CondForwardReferenceIdeal := fun m g _ =>
  (θ_run Cert.CondForwardReferenceIdeal.defs _ _).mono
    (fun r h => ⟨fun c => (h c).2, sem_eq_zero_of_no_sems (by decide) r.2⟩)
    (Cert.CondForwardReferenceIdeal.Value.run (F := Ideal) m g)

/-- The kernel's modulation is the reference's. -/
theorem algebraic : Cert.algebraic_CondForwardIdeal_CondForwardReferenceIdeal := fun m g m' g' _ h =>
  ⟨_, Cert.CondForwardIdeal.Value.run (F := Ideal) m g,
    (θ_run Cert.CondForwardReferenceIdeal.defs _ _).mono
      (fun r hr c => by
        obtain ⟨h0, h1, h2⟩ := h c
        obtain ⟨r0, rs⟩ := hr c
        refine ⟨r0.trans ?_, rs⟩
        rw [h0, h1, h2]
        funext i
        pointwise [Cert.CondForwardIdeal.Value.G3, Cert.CondForwardIdeal.Gen.k0_pay1]
        rfl)
      (Cert.CondForwardReferenceIdeal.Value.run (F := Ideal) m' g')⟩

end Cert.ForwardCond

namespace Cert.BackwardCond

/-- The reference leaves its arguments as they were. -/
theorem frame_reference_ideal : Cert.quiescent_CondBackwardReferenceIdeal := fun m g _ =>
  (θ_run Cert.CondBackwardReferenceIdeal.defs _ _).mono
    (fun r h => ⟨fun c => (h c).2.2, sem_eq_zero_of_no_sems (by decide) r.2⟩)
    (Cert.CondBackwardReferenceIdeal.Value.run (F := Ideal) m g)

/-- The kernel's gradients of the conditioning's weight and bias are the reference's. -/
theorem algebraic : Cert.algebraic_CondBackwardIdeal_CondBackwardReferenceIdeal := fun m g m' g' _ h =>
  ⟨_, _, Cert.CondBackwardIdeal.Value.run (F := Ideal) m g,
    (θ_run Cert.CondBackwardReferenceIdeal.defs _ _).mono
      (fun r hr c => by
        obtain ⟨h0, h1, h2⟩ := h c
        obtain ⟨r0, r1, rs⟩ := hr c
        refine ⟨r0.trans ?_, r1.trans ?_, rs⟩
        · rw [h0, h2]
          funext i
          pointwise [Cert.CondBackwardIdeal.Value.G3, Cert.CondBackwardIdeal.Gen.k0_pay1]
          rfl
        · rw [h1]
          funext i
          pointwise [Cert.CondBackwardIdeal.Value.G4, Cert.CondBackwardIdeal.Gen.k0_pay2])
      (Cert.CondBackwardReferenceIdeal.Value.run (F := Ideal) m' g')⟩

end Cert.BackwardCond

end
-- ==== Proof.Products.lean ====
module

public import proofs.«01_k».proof.Defs
public import proofs.«01_k».proof.Proof.Gen.Proj.Frame
public import proofs.«01_k».proof.Proof.Gen.ProjIdeal.Value
public import proofs.«01_k».proof.Proof.Gen.ProjReferenceIdeal.Run
public import proofs.«01_k».proof.Proof.Gen.Mix.Frame
public import proofs.«01_k».proof.Proof.Gen.MixIdeal.Value
public import proofs.«01_k».proof.Proof.Gen.MixReferenceIdeal.Run
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.GradDown.Frame
public import proofs.«01_k».proof.Proof.Gen.GradDownIdeal.Value
public import proofs.«01_k».proof.Proof.Gen.GradDownReferenceIdeal.Run
public import proofs.«01_k».proof.Proof.Gen.GradGateUp.Frame
public import proofs.«01_k».proof.Proof.Gen.GradGateUpIdeal.Value
public import proofs.«01_k».proof.Proof.Gen.GradGateUpReferenceIdeal.Run
public import proofs.«01_k».proof.Proof.Gen.BackFfn.Frame
public import proofs.«01_k».proof.Proof.Gen.BackFfnIdeal.Value
public import proofs.«01_k».proof.Proof.Gen.BackFfnReferenceIdeal.Run
public import proofs.«01_k».proof.Proof.Gen.BackOut.Frame
public import proofs.«01_k».proof.Proof.Gen.BackOutIdeal.Value
public import proofs.«01_k».proof.Proof.Gen.BackOutReferenceIdeal.Run
public import proofs.«01_k».proof.Proof.Gen.GradOut.Frame
public import proofs.«01_k».proof.Proof.Gen.GradOutIdeal.Value
public import proofs.«01_k».proof.Proof.Gen.GradOutReferenceIdeal.Run
public import proofs.«01_k».proof.Proof.Gen.GradIn.Frame
public import proofs.«01_k».proof.Proof.Gen.GradInIdeal.Value
public import proofs.«01_k».proof.Proof.Gen.GradInReferenceIdeal.Run
public import proofs.«01_k».proof.Proof.Gen.BackIn.Frame
public import proofs.«01_k».proof.Proof.Gen.BackInIdeal.Value
public import proofs.«01_k».proof.Proof.Gen.BackInReferenceIdeal.Run
public import Idealize.ShloMosaic.Lib.Quiescent
public import Idealize.ShloMosaic.Lib.Pointwise
public import Idealize.ShloMosaic.Lib.Pipeline.ValueKit

/-!
The matrix products of the step. Each tiles its result, and those with a long contraction add a run of grid points into one
tile. `first` and `next` say what one point does to its tile, so the tile holds the sum over its run, and that sum is the
reference's one contraction.
-/

@[expose] public section

set_option maxRecDepth 16384

noncomputable section

open Idealize.ShloMosaic Idealize.ShloMosaic.TcCoe Idealize.SL.Sem

namespace Cert.ProjProduct

open Cert.ProjIdeal Cert.ProjIdeal.Gen

/-- Running the reference leaves the arguments as they were and no signal pending. -/
theorem frame_reference_ideal : Cert.quiescent_ProjReferenceIdeal := fun m g _ =>
  (θ_run Cert.ProjReferenceIdeal.defs _ _).mono
    (fun r h => ⟨fun c => (h c).2, sem_eq_zero_of_no_sems (by decide) r.2⟩)
    (Cert.ProjReferenceIdeal.Value.run (F := Ideal) m g)

/-- The block each window is at, point by point. -/
theorem idx : ∀ t : Fin cfg0.N, win0_0.index t = ![t.val / 4, 0] ∧ win0_1.index t = ![t.val % 4, 0]
    ∧ win0_2.index t = ![t.val / 4, t.val % 4] := (by decide +kernel : ∀ t : Fin grid0.N, _)

/-- What the reference computes, over the two argument arrays. -/
abbrev product (x : FVec Ideal S4096x1024 .bf16) (w : FVec Ideal S2048x1024 .bf16) : FVec Ideal S4096x2048 .bf16 :=
  truncf .bf16 (Host.dotGeneral Cert.ProjReferenceIdeal.dot_S4096x1024_S1024x2048_S4096x2048_1_0_0_1_n_n none x
    (transpose Cert.ProjReferenceIdeal.S1024x2048 [1, 0] w Cert.ProjReferenceIdeal.Gen.transposes_S2048x1024_S1024x2048_1_0)) Cert.ProjReferenceIdeal.Gen.bitsLt_bf16_f32

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  pointwise [k0_pay1, product]
  blk_point [iblk, V, idx t]

/-- The kernel's result is the reference's. -/
theorem algebraic : Cert.algebraic_ProjIdeal_ProjReferenceIdeal := fun m g m' g' _ h =>
  ⟨_, Cert.ProjIdeal.Value.run_blocks (F := Ideal) m g,
    (θ_run Cert.ProjReferenceIdeal.defs _ _).mono
      (fun r hr c => by
        obtain ⟨h0, h1⟩ := h c
        obtain ⟨r0, rs⟩ := hr c
        refine ⟨r0.trans ?_, rs⟩
        rw [h0, h1]
        exact (final m c).symm)
      (Cert.ProjReferenceIdeal.Value.run (F := Ideal) m' g')⟩

end Cert.ProjProduct

namespace Cert.MixProduct

open Cert.MixIdeal Cert.MixIdeal.Gen

/-- Running the reference leaves the arguments as they were and no signal pending. -/
theorem frame_reference_ideal : Cert.quiescent_MixReferenceIdeal := fun m g _ =>
  (θ_run Cert.MixReferenceIdeal.defs _ _).mono
    (fun r h => ⟨fun c => (h c).2, sem_eq_zero_of_no_sems (by decide) r.2⟩)
    (Cert.MixReferenceIdeal.Value.run (F := Ideal) m g)

/-- The block each window is at, point by point. -/
theorem idx : ∀ t : Fin cfg0.N, win0_0.index t = ![t.val % 2, t.val / 2, 0] ∧ win0_1.index t = ![t.val % 2, 0, 0]
    ∧ win0_2.index t = ![t.val / 2, 0] := (by decide +kernel : ∀ t : Fin grid0.N, _)

/-- What the reference computes, over the two argument arrays. -/
abbrev product (x : FVec Ideal S2x4096x512 .bf16) (w : FVec Ideal S2x512x1024 .bf16) : FVec Ideal S4096x1024 .f32 :=
  Host.dotGeneral Cert.MixReferenceIdeal.dot_S2x4096x512_S2x512x1024_S4096x1024_02_01_1_2_n_n none x w

/-- The first point of a run stores its part of the sum. -/
theorem first (x : FVec Ideal S1x512x512 .bf16) (w : FVec Ideal S1x512x1024 .bf16) (j) :
    k0_pay1 (F := Ideal) x w j = (0 : EReal) + ∑ k : Fin 512, x (ix3 0 (j 0) k) * w (ix3 0 k (j 1)) := by
  pointwise [k0_pay1]

/-- Every later point adds its part to what is there. -/
theorem next (x : FVec Ideal S1x512x512 .bf16) (w : FVec Ideal S1x512x1024 .bf16) (acc : FVec Ideal S512x1024 .f32) (j) :
    k0_pay2 (F := Ideal) x w acc j = acc j + ∑ k : Fin 512, x (ix3 0 (j 0) k) * w (ix3 0 k (j 1)) := by
  pointwise [k0_pay2, k0_pay1]

/-- The reference's product at an index. -/
theorem product_apply (x w) (j) : product x w j = ∑ s : Fin 2, ∑ k : Fin 512, x (ix3 s (j 0) k) * w (ix3 s k (j 1)) := by
  pointwise [product]

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first])
    (fun t h j => by rw [outsAt0_B m c t h (by omega)]; frame_out; rw [next])
    t ((flush0_2 t).mp hf) _, zero_add, product_apply]
  refine Fin.sum_fin_congr fun s => ?_
  blk_point [iblk, V, idx t, idx ⟨_, Pipeline.run_point_lt_of_flush t ((flush0_2 t).mp hf) s⟩]

/-- The kernel's result is the reference's. -/
theorem algebraic : Cert.algebraic_MixIdeal_MixReferenceIdeal := fun m g m' g' _ h =>
  ⟨_, Cert.MixIdeal.Value.run_blocks (F := Ideal) m g,
    (θ_run Cert.MixReferenceIdeal.defs _ _).mono
      (fun r hr c => by
        obtain ⟨h0, h1⟩ := h c
        obtain ⟨r0, rs⟩ := hr c
        refine ⟨r0.trans ?_, rs⟩
        rw [h0, h1]
        exact (final m c).symm)
      (Cert.MixReferenceIdeal.Value.run (F := Ideal) m' g')⟩

end Cert.MixProduct

namespace Cert.FfnDownProduct

open Cert.FfnDownIdeal Cert.FfnDownIdeal.Gen

/-- Running the reference leaves the arguments as they were and no signal pending. -/
theorem frame_reference_ideal : Cert.quiescent_FfnDownReferenceIdeal := fun m g _ =>
  (θ_run Cert.FfnDownReferenceIdeal.defs _ _).mono
    (fun r h => ⟨fun c => (h c).2, sem_eq_zero_of_no_sems (by decide) r.2⟩)
    (Cert.FfnDownReferenceIdeal.Value.run (F := Ideal) m g)

/-- The block each window is at, point by point. -/
theorem idx : ∀ t : Fin cfg0.N, win0_0.index t = ![t.val, 0] ∧ win0_1.index t = ![0, 0]
    ∧ win0_2.index t = ![t.val, 0] := (by decide +kernel : ∀ t : Fin grid0.N, _)

/-- What the reference computes, over the two argument arrays. -/
abbrev product (x : FVec Ideal S4096x2816 .bf16) (w : FVec Ideal S2816x1024 .bf16) : FVec Ideal S4096x1024 .f32 :=
  Host.dotGeneral Cert.FfnDownReferenceIdeal.dot_S4096x2816_S2816x1024_S4096x1024_1_0_0_1_n_n none x w

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  pointwise [k0_pay1, product]
  blk_point [iblk, V, idx t]

/-- The kernel's result is the reference's. -/
theorem algebraic : Cert.algebraic_FfnDownIdeal_FfnDownReferenceIdeal := fun m g m' g' _ h =>
  ⟨_, Cert.FfnDownIdeal.Value.run_blocks (F := Ideal) m g,
    (θ_run Cert.FfnDownReferenceIdeal.defs _ _).mono
      (fun r hr c => by
        obtain ⟨h0, h1⟩ := h c
        obtain ⟨r0, rs⟩ := hr c
        refine ⟨r0.trans ?_, rs⟩
        rw [h0, h1]
        exact (final m c).symm)
      (Cert.FfnDownReferenceIdeal.Value.run (F := Ideal) m' g')⟩

end Cert.FfnDownProduct

namespace Cert.GradDownProduct

open Cert.GradDownIdeal Cert.GradDownIdeal.Gen

/-- Running the reference leaves the arguments as they were and no signal pending. -/
theorem frame_reference_ideal : Cert.quiescent_GradDownReferenceIdeal := fun m g _ =>
  (θ_run Cert.GradDownReferenceIdeal.defs _ _).mono
    (fun r h => ⟨fun c => (h c).2, sem_eq_zero_of_no_sems (by decide) r.2⟩)
    (Cert.GradDownReferenceIdeal.Value.run (F := Ideal) m g)

/-- The block each window is at, point by point. -/
theorem idx : ∀ t : Fin cfg0.N, win0_0.index t = ![t.val % 4, t.val / 4] ∧ win0_1.index t = ![t.val % 4, 0]
    ∧ win0_2.index t = ![t.val / 4, 0] := (by decide +kernel : ∀ t : Fin grid0.N, _)

/-- What the reference computes, over the two argument arrays. -/
abbrev product (x : FVec Ideal S4096x2816 .bf16) (w : FVec Ideal S4096x1024 .bf16) : FVec Ideal S2816x1024 .f32 :=
  Host.dotGeneral Cert.GradDownReferenceIdeal.dot_S2816x4096_S4096x1024_S2816x1024_1_0_0_1_n_n none
    (transpose Cert.GradDownReferenceIdeal.S2816x4096 [1, 0] x Cert.GradDownReferenceIdeal.Gen.transposes_S4096x2816_S2816x4096_1_0) w

/-- The first point of a run stores its part of the sum. -/
theorem first (x : FVec Ideal S1024x1408 .bf16) (w : FVec Ideal S1024x1024 .bf16) (j) :
    k0_pay1 (F := Ideal) x w j = (0 : EReal) + ∑ k : Fin 1024, x (ix2 k (j 0)) * w (ix2 k (j 1)) := by
  pointwise [k0_pay1]

/-- Every later point adds its part to what is there. -/
theorem next (x : FVec Ideal S1024x1408 .bf16) (w : FVec Ideal S1024x1024 .bf16) (acc : FVec Ideal S1408x1024 .f32) (j) :
    k0_pay2 (F := Ideal) x w acc j = acc j + ∑ k : Fin 1024, x (ix2 k (j 0)) * w (ix2 k (j 1)) := by
  pointwise [k0_pay2, k0_pay1]

/-- The reference's product at an index. -/
theorem product_apply (x w) (j) : product x w j = ∑ l : Fin 4096, x (ix2 l (j 0)) * w (ix2 l (j 1)) := by
  pointwise [product]

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first])
    (fun t h j => by rw [outsAt0_B m c t h (by omega)]; frame_out; rw [next])
    t ((flush0_2 t).mp hf) _, zero_add, product_apply]
  refine Fin.sum_mul_add_congr fun s k hl => ?_
  blk_point [iblk, V, idx t, idx ⟨_, Pipeline.run_point_lt_of_flush t ((flush0_2 t).mp hf) s⟩]

/-- The kernel's result is the reference's. -/
theorem algebraic : Cert.algebraic_GradDownIdeal_GradDownReferenceIdeal := fun m g m' g' _ h =>
  ⟨_, Cert.GradDownIdeal.Value.run_blocks (F := Ideal) m g,
    (θ_run Cert.GradDownReferenceIdeal.defs _ _).mono
      (fun r hr c => by
        obtain ⟨h0, h1⟩ := h c
        obtain ⟨r0, rs⟩ := hr c
        refine ⟨r0.trans ?_, rs⟩
        rw [h0, h1]
        exact (final m c).symm)
      (Cert.GradDownReferenceIdeal.Value.run (F := Ideal) m' g')⟩

end Cert.GradDownProduct

namespace Cert.GradGateUpProduct

open Cert.GradGateUpIdeal Cert.GradGateUpIdeal.Gen

/-- Running the reference leaves the arguments as they were and no signal pending. -/
theorem frame_reference_ideal : Cert.quiescent_GradGateUpReferenceIdeal := fun m g _ =>
  (θ_run Cert.GradGateUpReferenceIdeal.defs _ _).mono
    (fun r h => ⟨fun c => (h c).2, sem_eq_zero_of_no_sems (by decide) r.2⟩)
    (Cert.GradGateUpReferenceIdeal.Value.run (F := Ideal) m g)

/-- The block each window is at, point by point. -/
theorem idx : ∀ t : Fin cfg0.N, win0_0.index t = ![t.val / 8, t.val % 4, t.val / 4 % 2] ∧ win0_1.index t = ![t.val % 4, 0]
    ∧ win0_2.index t = ![t.val / 8, t.val / 4 % 2, 0] := (by decide +kernel : ∀ t : Fin grid0.N, _)

/-- What the reference computes, over the two argument arrays. -/
abbrev product (x : FVec Ideal S2x4096x2816 .bf16) (w : FVec Ideal S4096x1024 .bf16) : FVec Ideal S2x2816x1024 .f32 :=
  Host.dotGeneral Cert.GradGateUpReferenceIdeal.dot_S2x4096x2816_S4096x1024_S2x2816x1024_1_0_02_1_n_n none x w

/-- The first point of a run stores its part of the sum. -/
theorem first (x : FVec Ideal S1x1024x1408 .bf16) (w : FVec Ideal S1024x1024 .bf16) (j) :
    k0_pay2 (F := Ideal) x w j = (0 : EReal) + ∑ k : Fin 1024, x (ix3 0 k (j 1)) * w (ix2 k (j 2)) := by
  pointwise [k0_pay2, k0_pay1]

/-- Every later point adds its part to what is there. -/
theorem next (x : FVec Ideal S1x1024x1408 .bf16) (w : FVec Ideal S1024x1024 .bf16) (acc : FVec Ideal S1x1408x1024 .f32) (j) :
    k0_pay3 (F := Ideal) x w acc j = acc j + ∑ k : Fin 1024, x (ix3 0 k (j 1)) * w (ix2 k (j 2)) := by
  pointwise [k0_pay3, k0_pay1]

/-- The reference's product at an index. -/
theorem product_apply (x w) (j) : product x w j = ∑ l : Fin 4096, x (ix3 (j 0) l (j 1)) * w (ix2 l (j 2)) := by
  pointwise [product]

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first])
    (fun t h j => by rw [outsAt0_B m c t h (by omega)]; frame_out; rw [next])
    t ((flush0_2 t).mp hf) _, zero_add, product_apply]
  refine Fin.sum_mul_add_congr fun s k hl => ?_
  blk_point [iblk, V, idx t, idx ⟨_, Pipeline.run_point_lt_of_flush t ((flush0_2 t).mp hf) s⟩]

/-- The kernel's result is the reference's. -/
theorem algebraic : Cert.algebraic_GradGateUpIdeal_GradGateUpReferenceIdeal := fun m g m' g' _ h =>
  ⟨_, Cert.GradGateUpIdeal.Value.run_blocks (F := Ideal) m g,
    (θ_run Cert.GradGateUpReferenceIdeal.defs _ _).mono
      (fun r hr c => by
        obtain ⟨h0, h1⟩ := h c
        obtain ⟨r0, rs⟩ := hr c
        refine ⟨r0.trans ?_, rs⟩
        rw [h0, h1]
        exact (final m c).symm)
      (Cert.GradGateUpReferenceIdeal.Value.run (F := Ideal) m' g')⟩

end Cert.GradGateUpProduct

namespace Cert.BackFfnProduct

open Cert.BackFfnIdeal Cert.BackFfnIdeal.Gen

/-- Running the reference leaves the arguments as they were and no signal pending. -/
theorem frame_reference_ideal : Cert.quiescent_BackFfnReferenceIdeal := fun m g _ =>
  (θ_run Cert.BackFfnReferenceIdeal.defs _ _).mono
    (fun r h => ⟨fun c => (h c).2, sem_eq_zero_of_no_sems (by decide) r.2⟩)
    (Cert.BackFfnReferenceIdeal.Value.run (F := Ideal) m g)

/-- The block each window is at, point by point. -/
theorem idx : ∀ t : Fin cfg0.N, win0_0.index t = ![t.val % 2, t.val / 2, 0] ∧ win0_1.index t = ![t.val % 2, 0, 0]
    ∧ win0_2.index t = ![t.val / 2, 0] := (by decide +kernel : ∀ t : Fin grid0.N, _)

/-- What the reference computes, over the two argument arrays. -/
abbrev product (x : FVec Ideal S2x4096x2816 .bf16) (w : FVec Ideal S2x2816x1024 .bf16) : FVec Ideal S4096x1024 .f32 :=
  Host.dotGeneral Cert.BackFfnReferenceIdeal.dot_S2x4096x2816_S2x2816x1024_S4096x1024_02_01_1_2_n_n none x w

/-- The first point of a run stores its part of the sum. -/
theorem first (x : FVec Ideal S1x512x2816 .bf16) (w : FVec Ideal S1x2816x1024 .bf16) (j) :
    k0_pay1 (F := Ideal) x w j = (0 : EReal) + ∑ k : Fin 2816, x (ix3 0 (j 0) k) * w (ix3 0 k (j 1)) := by
  pointwise [k0_pay1]

/-- Every later point adds its part to what is there. -/
theorem next (x : FVec Ideal S1x512x2816 .bf16) (w : FVec Ideal S1x2816x1024 .bf16) (acc : FVec Ideal S512x1024 .f32) (j) :
    k0_pay2 (F := Ideal) x w acc j = acc j + ∑ k : Fin 2816, x (ix3 0 (j 0) k) * w (ix3 0 k (j 1)) := by
  pointwise [k0_pay2, k0_pay1]

/-- The reference's product at an index. -/
theorem product_apply (x w) (j) : product x w j = ∑ s : Fin 2, ∑ k : Fin 2816, x (ix3 s (j 0) k) * w (ix3 s k (j 1)) := by
  pointwise [product]

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [first])
    (fun t h j => by rw [outsAt0_B m c t h (by omega)]; frame_out; rw [next])
    t ((flush0_2 t).mp hf) _, zero_add, product_apply]
  refine Fin.sum_fin_congr fun s => ?_
  blk_point [iblk, V, idx t, idx ⟨_, Pipeline.run_point_lt_of_flush t ((flush0_2 t).mp hf) s⟩]

/-- The kernel's result is the reference's. -/
theorem algebraic : Cert.algebraic_BackFfnIdeal_BackFfnReferenceIdeal := fun m g m' g' _ h =>
  ⟨_, Cert.BackFfnIdeal.Value.run_blocks (F := Ideal) m g,
    (θ_run Cert.BackFfnReferenceIdeal.defs _ _).mono
      (fun r hr c => by
        obtain ⟨h0, h1⟩ := h c
        obtain ⟨r0, rs⟩ := hr c
        refine ⟨r0.trans ?_, rs⟩
        rw [h0, h1]
        exact (final m c).symm)
      (Cert.BackFfnReferenceIdeal.Value.run (F := Ideal) m' g')⟩

end Cert.BackFfnProduct

namespace Cert.BackOutProduct

open Cert.BackOutIdeal Cert.BackOutIdeal.Gen

/-- Running the reference leaves the arguments as they were and no signal pending. -/
theorem frame_reference_ideal : Cert.quiescent_BackOutReferenceIdeal := fun m g _ =>
  (θ_run Cert.BackOutReferenceIdeal.defs _ _).mono
    (fun r h => ⟨fun c => (h c).2, sem_eq_zero_of_no_sems (by decide) r.2⟩)
    (Cert.BackOutReferenceIdeal.Value.run (F := Ideal) m g)

/-- The block each window is at, point by point. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

/-- What the reference computes, over the two argument arrays. -/
abbrev product (x : FVec Ideal S4096x1024 .bf16) (w : FVec Ideal S1024x1024 .bf16) : FVec Ideal S4096x1024 .bf16 :=
  truncf .bf16 (Host.dotGeneral Cert.BackOutReferenceIdeal.dot_S4096x1024_S1024x1024_S4096x1024_1_0_0_1_n_n none x
    (transpose Cert.BackOutReferenceIdeal.S1024x1024 [1, 0] w Cert.BackOutReferenceIdeal.Gen.transposes_S1024x1024_S1024x1024_1_0)) Cert.BackOutReferenceIdeal.Gen.bitsLt_bf16_f32

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  pointwise [k0_pay1, product]
  blk_point [iblk, V, idx t]

/-- The kernel's result is the reference's. -/
theorem algebraic : Cert.algebraic_BackOutIdeal_BackOutReferenceIdeal := fun m g m' g' _ h =>
  ⟨_, Cert.BackOutIdeal.Value.run_blocks (F := Ideal) m g,
    (θ_run Cert.BackOutReferenceIdeal.defs _ _).mono
      (fun r hr c => by
        obtain ⟨h0, h1⟩ := h c
        obtain ⟨r0, rs⟩ := hr c
        refine ⟨r0.trans ?_, rs⟩
        rw [h0, h1]
        exact (final m c).symm)
      (Cert.BackOutReferenceIdeal.Value.run (F := Ideal) m' g')⟩

end Cert.BackOutProduct

namespace Cert.GradOutProduct

open Cert.GradOutIdeal Cert.GradOutIdeal.Gen

/-- Running the reference leaves the arguments as they were and no signal pending. -/
theorem frame_reference_ideal : Cert.quiescent_GradOutReferenceIdeal := fun m g _ =>
  (θ_run Cert.GradOutReferenceIdeal.defs _ _).mono
    (fun r h => ⟨fun c => (h c).2, sem_eq_zero_of_no_sems (by decide) r.2⟩)
    (Cert.GradOutReferenceIdeal.Value.run (F := Ideal) m g)

/-- The block each window is at, point by point. -/
theorem idx : ∀ t : Fin cfg0.N, win0_0.index t = ![t.val / 4, t.val % 4, 0] ∧ win0_1.index t = ![t.val % 4, 0]
    ∧ win0_2.index t = ![t.val / 4, 0, 0] := (by decide +kernel : ∀ t : Fin grid0.N, _)

/-- What the reference computes, over the two argument arrays. -/
abbrev product (x : FVec Ideal S2x4096x512 .bf16) (w : FVec Ideal S4096x1024 .bf16) : FVec Ideal S2x512x1024 .f32 :=
  Host.dotGeneral Cert.GradOutReferenceIdeal.dot_S2x4096x512_S4096x1024_S2x512x1024_1_0_02_1_n_n none x w

/-- The first point of a run stores its part of the sum. -/
theorem first (x : FVec Ideal S1x1024x512 .bf16) (w : FVec Ideal S1024x1024 .bf16) (j) :
    k0_pay2 (F := Ideal) x w j = (0 : EReal) + ∑ k : Fin 1024, x (ix3 0 k (j 1)) * w (ix2 k (j 2)) := by
  pointwise [k0_pay2, k0_pay1]

/-- Every later point adds its part to what is there. -/
theorem next (x : FVec Ideal S1x1024x512 .bf16) (w : FVec Ideal S1024x1024 .bf16) (acc : FVec Ideal S1x512x1024 .f32) (j) :
    k0_pay3 (F := Ideal) x w acc j = acc j + ∑ k : Fin 1024, x (ix3 0 k (j 1)) * w (ix2 k (j 2)) := by
  pointwise [k0_pay3, k0_pay1]

/-- The reference's product at an index. -/
theorem product_apply (x w) (j) : product x w j = ∑ l : Fin 4096, x (ix3 (j 0) l (j 1)) * w (ix2 l (j 2)) := by
  pointwise [product]

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first])
    (fun t h j => by rw [outsAt0_B m c t h (by omega)]; frame_out; rw [next])
    t ((flush0_2 t).mp hf) _, zero_add, product_apply]
  refine Fin.sum_mul_add_congr fun s k hl => ?_
  blk_point [iblk, V, idx t, idx ⟨_, Pipeline.run_point_lt_of_flush t ((flush0_2 t).mp hf) s⟩]

/-- The kernel's result is the reference's. -/
theorem algebraic : Cert.algebraic_GradOutIdeal_GradOutReferenceIdeal := fun m g m' g' _ h =>
  ⟨_, Cert.GradOutIdeal.Value.run_blocks (F := Ideal) m g,
    (θ_run Cert.GradOutReferenceIdeal.defs _ _).mono
      (fun r hr c => by
        obtain ⟨h0, h1⟩ := h c
        obtain ⟨r0, rs⟩ := hr c
        refine ⟨r0.trans ?_, rs⟩
        rw [h0, h1]
        exact (final m c).symm)
      (Cert.GradOutReferenceIdeal.Value.run (F := Ideal) m' g')⟩

end Cert.GradOutProduct

namespace Cert.GradInProduct

open Cert.GradInIdeal Cert.GradInIdeal.Gen

/-- Running the reference leaves the arguments as they were and no signal pending. -/
theorem frame_reference_ideal : Cert.quiescent_GradInReferenceIdeal := fun m g _ =>
  (θ_run Cert.GradInReferenceIdeal.defs _ _).mono
    (fun r h => ⟨fun c => (h c).2, sem_eq_zero_of_no_sems (by decide) r.2⟩)
    (Cert.GradInReferenceIdeal.Value.run (F := Ideal) m g)

/-- The block each window is at, point by point. -/
theorem idx : ∀ t : Fin cfg0.N, win0_0.index t = ![t.val / 4, t.val % 4, 0] ∧ win0_1.index t = ![t.val % 4, 0]
    ∧ win0_2.index t = ![t.val / 4, 0, 0] := (by decide +kernel : ∀ t : Fin grid0.N, _)

/-- What the reference computes, over the two argument arrays. -/
abbrev product (x : FVec Ideal S4x4096x512 .bf16) (w : FVec Ideal S4096x1024 .bf16) : FVec Ideal S4x512x1024 .f32 :=
  Host.dotGeneral Cert.GradInReferenceIdeal.dot_S4x4096x512_S4096x1024_S4x512x1024_1_0_02_1_n_n none x w

/-- The first point of a run stores its part of the sum. -/
theorem first (x : FVec Ideal S1x1024x512 .bf16) (w : FVec Ideal S1024x1024 .bf16) (j) :
    k0_pay2 (F := Ideal) x w j = (0 : EReal) + ∑ k : Fin 1024, x (ix3 0 k (j 1)) * w (ix2 k (j 2)) := by
  pointwise [k0_pay2, k0_pay1]

/-- Every later point adds its part to what is there. -/
theorem next (x : FVec Ideal S1x1024x512 .bf16) (w : FVec Ideal S1024x1024 .bf16) (acc : FVec Ideal S1x512x1024 .f32) (j) :
    k0_pay3 (F := Ideal) x w acc j = acc j + ∑ k : Fin 1024, x (ix3 0 k (j 1)) * w (ix2 k (j 2)) := by
  pointwise [k0_pay3, k0_pay1]

/-- The reference's product at an index. -/
theorem product_apply (x w) (j) : product x w j = ∑ l : Fin 4096, x (ix3 (j 0) l (j 1)) * w (ix2 l (j 2)) := by
  pointwise [product]

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first])
    (fun t h j => by rw [outsAt0_B m c t h (by omega)]; frame_out; rw [next])
    t ((flush0_2 t).mp hf) _, zero_add, product_apply]
  refine Fin.sum_mul_add_congr fun s k hl => ?_
  blk_point [iblk, V, idx t, idx ⟨_, Pipeline.run_point_lt_of_flush t ((flush0_2 t).mp hf) s⟩]

/-- The kernel's result is the reference's. -/
theorem algebraic : Cert.algebraic_GradInIdeal_GradInReferenceIdeal := fun m g m' g' _ h =>
  ⟨_, Cert.GradInIdeal.Value.run_blocks (F := Ideal) m g,
    (θ_run Cert.GradInReferenceIdeal.defs _ _).mono
      (fun r hr c => by
        obtain ⟨h0, h1⟩ := h c
        obtain ⟨r0, rs⟩ := hr c
        refine ⟨r0.trans ?_, rs⟩
        rw [h0, h1]
        exact (final m c).symm)
      (Cert.GradInReferenceIdeal.Value.run (F := Ideal) m' g')⟩

end Cert.GradInProduct

namespace Cert.BackInProduct

open Cert.BackInIdeal Cert.BackInIdeal.Gen

/-- Running the reference leaves the arguments as they were and no signal pending. -/
theorem frame_reference_ideal : Cert.quiescent_BackInReferenceIdeal := fun m g _ =>
  (θ_run Cert.BackInReferenceIdeal.defs _ _).mono
    (fun r h => ⟨fun c => (h c).2, sem_eq_zero_of_no_sems (by decide) r.2⟩)
    (Cert.BackInReferenceIdeal.Value.run (F := Ideal) m g)

/-- The block each window is at, point by point. -/
theorem idx : ∀ t : Fin cfg0.N, win0_0.index t = ![t.val % 4, t.val / 4, 0] ∧ win0_1.index t = ![t.val % 4, 0, 0]
    ∧ win0_2.index t = ![t.val / 4, 0] := (by decide +kernel : ∀ t : Fin grid0.N, _)

/-- What the reference computes, over the two argument arrays. -/
abbrev product (x : FVec Ideal S4x4096x512 .bf16) (w : FVec Ideal S4x512x1024 .bf16) : FVec Ideal S4096x1024 .f32 :=
  Host.dotGeneral Cert.BackInReferenceIdeal.dot_S4x4096x512_S4x512x1024_S4096x1024_02_01_1_2_n_n none x w

/-- The first point of a run stores its part of the sum. -/
theorem first (x : FVec Ideal S1x512x512 .bf16) (w : FVec Ideal S1x512x1024 .bf16) (j) :
    k0_pay1 (F := Ideal) x w j = (0 : EReal) + ∑ k : Fin 512, x (ix3 0 (j 0) k) * w (ix3 0 k (j 1)) := by
  pointwise [k0_pay1]

/-- Every later point adds its part to what is there. -/
theorem next (x : FVec Ideal S1x512x512 .bf16) (w : FVec Ideal S1x512x1024 .bf16) (acc : FVec Ideal S512x1024 .f32) (j) :
    k0_pay2 (F := Ideal) x w acc j = acc j + ∑ k : Fin 512, x (ix3 0 (j 0) k) * w (ix3 0 k (j 1)) := by
  pointwise [k0_pay2, k0_pay1]

/-- The reference's product at an index. -/
theorem product_apply (x w) (j) : product x w j = ∑ s : Fin 4, ∑ k : Fin 512, x (ix3 s (j 0) k) * w (ix3 s k (j 1)) := by
  pointwise [product]

/-- The result array after the run is the product of the argument arrays. -/
theorem final (m : (ℓ : Loc nD τ sig) → Buf (Elt Ideal) ℓ) (c : Dev nD) : (dats m 0 c).arrAt 2 cfg0.N
    = product (m ((c.tc : Thread nD τ).loc main_arg0)) (m ((c.tc : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [first])
    (fun t h j => by rw [outsAt0_B m c t h (by omega)]; frame_out; rw [next])
    t ((flush0_2 t).mp hf) _, zero_add, product_apply]
  refine Fin.sum_fin_congr fun s => ?_
  blk_point [iblk, V, idx t, idx ⟨_, Pipeline.run_point_lt_of_flush t ((flush0_2 t).mp hf) s⟩]

/-- The kernel's result is the reference's. -/
theorem algebraic : Cert.algebraic_BackInIdeal_BackInReferenceIdeal := fun m g m' g' _ h =>
  ⟨_, Cert.BackInIdeal.Value.run_blocks (F := Ideal) m g,
    (θ_run Cert.BackInReferenceIdeal.defs _ _).mono
      (fun r hr c => by
        obtain ⟨h0, h1⟩ := h c
        obtain ⟨r0, rs⟩ := hr c
        refine ⟨r0.trans ?_, rs⟩
        rw [h0, h1]
        exact (final m c).symm)
      (Cert.BackInReferenceIdeal.Value.run (F := Ideal) m' g')⟩

end Cert.BackInProduct

end
-- ==== Proof.Gates.lean ====
module

public import proofs.«01_k».proof.Defs
public import proofs.«01_k».proof.Proof.Gen.FfnUp.Frame
public import proofs.«01_k».proof.Proof.Gen.FfnUpIdeal.Value
public import proofs.«01_k».proof.Proof.Gen.FfnUpReferenceIdeal.Run
public import proofs.«01_k».proof.Proof.Gen.FfnBack.Frame
public import proofs.«01_k».proof.Proof.Gen.FfnBackIdeal.Value
public import proofs.«01_k».proof.Proof.Gen.FfnBackReferenceIdeal.Run
public import Idealize.ShloMosaic.Lib.Quiescent
public import Idealize.ShloMosaic.Lib.Pointwise
public import Idealize.ShloMosaic.Lib.Pipeline.ValueKit

/-!
The feed-forward's gate, forward and backward. Both stack two tiles, the gate's and the up projection's, in one block, so the
point is split by the row of that stack.
-/

@[expose] public section

set_option maxRecDepth 16384

noncomputable section

open Idealize.ShloMosaic Idealize.ShloMosaic.TcCoe Idealize.SL.Sem

namespace Cert.FfnUpGate

open Cert.FfnUpIdeal Cert.FfnUpIdeal.Gen

/-- Running the reference leaves the arguments as they were and no signal pending. -/
theorem frame_reference_ideal : Cert.quiescent_FfnUpReferenceIdeal := fun m g _ =>
  (θ_run Cert.FfnUpReferenceIdeal.defs _ _).mono
    (fun r h => ⟨fun c => (h c).2.2, sem_eq_zero_of_no_sems (by decide) r.2⟩)
    (Cert.FfnUpReferenceIdeal.Value.run (F := Ideal) m g)

/-- The block each window is at, point by point. -/
theorem idx : ∀ t : Fin cfg0.N, win0_0.index t = ![t.val / 2, 0] ∧ win0_1.index t = ![0, t.val % 2, 0]
    ∧ win0_2.index t = ![0, t.val / 2, t.val % 2] ∧ win0_3.index t = ![t.val / 2, t.val % 2] := (by decide +kernel : ∀ t : Fin grid0.N, _)

/-- The kernel's results are the reference's. -/
theorem algebraic : Cert.algebraic_FfnUpIdeal_FfnUpReferenceIdeal := fun m g m' g' _ h =>
  ⟨_, _, Cert.FfnUpIdeal.Value.run_blocks (F := Ideal) m g,
    (θ_run Cert.FfnUpReferenceIdeal.defs _ _).mono
      (fun r hr c => by
        obtain ⟨h0, h1⟩ := h c
        obtain ⟨r0, r1, rs⟩ := hr c
        refine ⟨r0.trans ?_, r1.trans ?_, rs⟩ <;> clear hr r0 r1 rs
        · rw [h0, h1]; symm
          refine (dats m 0 c).arrAt_eq_of_covers 2 _ (by decide +kernel) fun t _ y => ?_
          blk_simp
          rw [after0_2]
          have e : ((((View.whole main_v0_0).slice (win0_2.rect t)).emb y 0 : Fin _) : ℕ) = (y 0 : ℕ) := by
            blk_simp [idx t]
          canon_tiles x hx
          all_goals (open_payloads; pointwise; blk_point [iblk, V, idx t] <;> omega)
        · rw [h0, h1]; symm
          refine (dats m 0 c).arrAt_eq_of_covers 3 _ (by decide +kernel) fun t _ y => ?_
          blk_simp
          rw [after0_3]; frame_out
          pointwise [k0_pay5, k0_pay1, k0_pay2]
          unfold Ideal.logistic
          blk_point [iblk, V, idx t])
      (Cert.FfnUpReferenceIdeal.Value.run (F := Ideal) m' g')⟩

end Cert.FfnUpGate

namespace Cert.FfnBackGate

open Cert.FfnBackIdeal Cert.FfnBackIdeal.Gen

/-- Running the reference leaves the arguments as they were and no signal pending. -/
theorem frame_reference_ideal : Cert.quiescent_FfnBackReferenceIdeal := fun m g _ =>
  (θ_run Cert.FfnBackReferenceIdeal.defs _ _).mono
    (fun r h => ⟨fun c => (h c).2, sem_eq_zero_of_no_sems (by decide) r.2⟩)
    (Cert.FfnBackReferenceIdeal.Value.run (F := Ideal) m g)

/-- The block each window is at, point by point. -/
theorem idx : ∀ t : Fin cfg0.N, win0_0.index t = ![t.val / 2, 0] ∧ win0_1.index t = ![t.val % 2, 0]
    ∧ win0_2.index t = ![0, t.val / 2, t.val % 2] ∧ win0_3.index t = ![0, t.val / 2, t.val % 2] := (by decide +kernel : ∀ t : Fin grid0.N, _)

/-- The kernel's result is the reference's. -/
theorem algebraic : Cert.algebraic_FfnBackIdeal_FfnBackReferenceIdeal := fun m g m' g' _ h =>
  ⟨_, Cert.FfnBackIdeal.Value.run_blocks (F := Ideal) m g,
    (θ_run Cert.FfnBackReferenceIdeal.defs _ _).mono
      (fun r hr c => by
        obtain ⟨h0, h1, h2⟩ := h c
        obtain ⟨r0, rs⟩ := hr c
        refine ⟨r0.trans ?_, rs⟩
        clear hr r0 rs
        rw [h0, h1, h2]; symm
        refine (dats m 0 c).arrAt_eq_of_covers 3 _ (by decide +kernel) fun t _ y => ?_
        blk_simp
        rw [after0_3]
        have e : ((((View.whole main_v0).slice (win0_3.rect t)).emb y 0 : Fin _) : ℕ) = (y 0 : ℕ) := by
          blk_simp [idx t]
        canon_tiles x hx
        all_goals (open_payloads; pointwise; unfold Ideal.logistic; blk_point [iblk, V, idx t] <;> omega))
      (Cert.FfnBackReferenceIdeal.Value.run (F := Ideal) m' g')⟩

end Cert.FfnBackGate

end
-- ==== Proof.Rows.lean ====
module

public import Idealize.ShloMosaic.Lib.Pointwise
public import Idealize.ShloMosaic.Lib.Pipeline.ValueKit

/-!
The functions of one row of 1024 numbers that the normalisation calls are made of, over the ideal
numbers. The references read a row of the whole array and the kernels a row of the block they hold,
so both sides are stated as the same function of a row.
-/

@[expose] public section

noncomputable section

open Idealize.ShloMosaic

namespace Cert.Rows

/-- A row of numbers. -/
abbrev Row := Fin 1024 → EReal

/-- A row of a matrix. -/
def row {n : ℕ} (v : (⟨2, ![n, 1024]⟩ : Shape).Idx → EReal) (l : Fin n) : Row := fun k => v (ix2 l k)

/-- A row of a stack of matrices. -/
def slab {n p : ℕ} (v : (⟨3, ![n, p, 1024]⟩ : Shape).Idx → EReal) (a : Fin n) (i : Fin p) : Row := fun k => v (ix3 a i k)

/-- A row for every token, a gain, and the modulation of both sequences. -/
abbrev Tokens := (⟨2, ![4096, 1024]⟩ : Shape).Idx → EReal
@[inherit_doc Tokens] abbrev Gain := (⟨2, ![1, 1024]⟩ : Shape).Idx → EReal
@[inherit_doc Tokens] abbrev Modulation := (⟨3, ![2, 6, 1024]⟩ : Shape).Idx → EReal

/-- The sequence a token belongs to. -/
abbrev seqOf (l : Fin 4096) : Fin 2 := ⟨l.val / 2048, by omega⟩

/-- A sequence's token. -/
abbrev inSeq (a : Fin 2) (b : Fin 2048) : Fin 4096 := ⟨a.val * 2048 + b.val, by omega⟩

/-- Where a token stands in its sequence. -/
abbrev posOf (l : Fin 4096) : Fin 2048 := ⟨l.val % 2048, by omega⟩

theorem seqOf_inSeq (a b) : seqOf (inSeq a b) = a := Fin.ext (by show (a.val * 2048 + b.val) / 2048 = a.val; omega)
theorem inSeq_posOf (l) : inSeq (seqOf l) (posOf l) = l := Fin.ext (by show l.val / 2048 * 2048 + l.val % 2048 = l.val; omega)
theorem posOf_inSeq (a b) : posOf (inSeq a b) = b := Fin.ext (by show (a.val * 2048 + b.val) % 2048 = b.val; omega)

/-- The token that row `r` of point `t`'s block holds. -/
abbrev token {N : ℕ} (hN : N = 16) (t : Fin N) (r : Fin 256) : Fin 4096 :=
  ⟨t.val * 256 + r.val, by have := lt_of_lt_of_eq t.isLt hN; omega⟩

/-- The mean of a row. -/
def rowMean (v : Row) : EReal := Ideal.div (∑ k, v k) (Ideal.ofBits .f32 0x44800000#32)

/-- One over the root of the mean square of a row. -/
def rowInv (v : Row) : EReal := Ideal.rsqrt (rowMean (fun k => v k * v k) + Ideal.ofBits .f32 0x358637BD#32)

/-- A row normalised. -/
def normed (v : Row) : Row := fun k => v k * rowInv v

/-- The gradient at a row, from the gradient `d` at the normalised row. -/
def normedBack (d v : Row) : Row := fun k => rowInv v * (d k - normed v k * rowMean (fun l => d l * normed v l))

/-- The gradient at the normalised row times its gain, from the gradient at the modulated row. -/
def modBack (dh s : Row) : Row := fun k => dh k * (1 + s k)

/-- The gradient at a row of the residual stream: what comes past the branch, and what comes through its norm and modulation. -/
def streamBack (dh dx x g s : Row) : Row := fun k => dx k + normedBack (fun l => modBack dh s l * g l) x k

/-- What a row adds to the gradient of what multiplies the norm times its gain. -/
def gainedBack (d x g : Row) : Row := fun k => d k * normed x k * g k

/-- What a row adds to the gradient of the gain of a modulated norm. -/
def gainBack (dh x s : Row) : Row := fun k => modBack dh s k * normed x k

/-- The gradient at a branch's row, which enters the stream by its norm, a gain and a gate. -/
def gateBack (d x g gate : Row) : Row := normedBack (fun l => d l * gate l * g l) x

/-- What a row adds to the gradient of that gain. -/
def gateGainBack (d x gate : Row) : Row := fun k => d k * gate k * normed x k

/-- The host's sum, over whatever names the entries that are summed. -/
theorem sum_of_fiber {s t : Shape} {axes : List (Fin s.rank)} (h : s.ReducesTo axes t) (v : s.Idx → EReal) (init : EReal)
    (j : t.Idx) {κ : Type} [Fintype κ] (g : κ → s.Idx) (hg : Function.Injective g) (fiber : ∀ i, h.drop i = j ↔ ∃ k, g k = i) :
    Ideal.hostReduceAdd h v init j = init + ∑ k, v (g k) :=
  congrArg (init + ·) (Finset.sum_filter_eq_sum_of_fiber _ g hg fiber v)

/-- The host's sum over the tokens of both sequences. -/
theorem sum_tokens (h : (⟨3, ![2, 2048, 1024]⟩ : Shape).ReducesTo [0, 1] ⟨1, ![1024]⟩)
    (v : (⟨3, ![2, 2048, 1024]⟩ : Shape).Idx → EReal) (init : EReal) (j : (⟨1, ![1024]⟩ : Shape).Idx) :
    Ideal.hostReduceAdd h v init j = init + ∑ a : Fin 2, ∑ b : Fin 2048, v (ix3 a b (j 0)) := by
  have fiber : ∀ i, h.drop i = j ↔ ∃ p : Fin 2 × Fin 2048, ix3 p.1 p.2 (j 0) = i := fun i => by
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b; apply Fin.ext
      match b with
      | ⟨0, _⟩ => rfl
  rw [sum_of_fiber h v init j (fun p : Fin 2 × Fin 2048 => ix3 p.1 p.2 (j 0))
    (fun _ _ e => Prod.ext (congrFun e 0) (congrFun e 1)) fiber, Fintype.sum_prod_type]

/-- The host's sum over a whole array of tokens. -/
theorem sum_everything (h : (⟨3, ![2, 2048, 1024]⟩ : Shape).ReducesTo [0, 1, 2] ⟨0, ![]⟩)
    (v : (⟨3, ![2, 2048, 1024]⟩ : Shape).Idx → EReal) (init : EReal) (j : (⟨0, ![]⟩ : Shape).Idx) :
    Ideal.hostReduceAdd h v init j = init + ∑ a : Fin 2, ∑ b : Fin 2048, ∑ k : Fin 1024, v (ix3 a b k) := by
  rw [Ideal.hostReduceAdd_total h (fun b => b.elim0), sum_idx3]

/-- What a running block holds after a sequence's last point, when each point adds its 256 tokens and the
    sequence's first point starts anew: the sum over the sequence. -/
theorem over_sequence {N : ℕ} (hN : N = 16) (f : (n : ℕ) → n < N → (⟨3, ![1, 1, 1024]⟩ : Shape).Idx → EReal) (T : Fin 4096 → Row)
    (h0 : ∀ t : Fin N, t.val % 8 = 0 → ∀ j, f t.val t.isLt j = 0 + ∑ r : Fin 256, T (token hN t r) (j 2))
    (hs : ∀ t : Fin N, ¬t.val % 8 = 0 → ∀ j, f t.val t.isLt j
      = f (t.val - 1) (Nat.lt_of_le_of_lt (Nat.sub_le _ _) t.isLt) j + ∑ r : Fin 256, T (token hN t r) (j 2))
    (t : Fin N) (ht : t.val % 8 = 7) (a : Fin 2) (ha : a.val = t.val / 8) (j) :
    f t.val t.isLt j = ∑ b : Fin 2048, T (inSeq a b) (j 2) := by
  rw [Pipeline.eq_sum_fin_of_reset_step_apply_of_flush f 8 (fun _ => 0) (fun t j => ∑ r : Fin 256, T (token hN t r) (j 2)) h0 hs t ht j,
    zero_add]
  refine Fin.sum_mul_add_congr fun s r hl => congrFun (congrArg T (Fin.ext ?_)) _
  show (8 * (t.val / 8) + s.val) * 256 + r.val = a.val * 2048 + (s.val * 256 + r.val)
  omega

/-- What a running block holds after the last point of all, when each point adds its 256 tokens: the sum
    over all the tokens. -/
theorem over_tokens {N : ℕ} (hN : N = 16) {ι : Type} (f : (n : ℕ) → n < N → ι → EReal) (T : Fin 4096 → ι → EReal)
    (h0 : ∀ t : Fin N, t.val % 16 = 0 → ∀ j, f t.val t.isLt j = 0 + ∑ r : Fin 256, T (token hN t r) j)
    (hs : ∀ t : Fin N, ¬t.val % 16 = 0 → ∀ j, f t.val t.isLt j
      = f (t.val - 1) (Nat.lt_of_le_of_lt (Nat.sub_le _ _) t.isLt) j + ∑ r : Fin 256, T (token hN t r) j)
    (t : Fin N) (ht : t.val % 16 = 15) (j) :
    f t.val t.isLt j = ∑ l : Fin 4096, T l j := by
  rw [Pipeline.eq_sum_fin_of_reset_step_apply_of_flush f 16 (fun _ => 0) (fun t j => ∑ r : Fin 256, T (token hN t r) j) h0 hs t ht j,
    zero_add]
  refine Fin.sum_mul_add_congr fun s r hl => congrFun (congrArg T (Fin.ext ?_)) _
  have := lt_of_lt_of_eq t.isLt hN
  show (16 * (t.val / 16) + s.val) * 256 + r.val = s.val * 256 + r.val
  omega

end Cert.Rows
end
-- ==== Proof.Norms.lean ====
module

public import proofs.«01_k».proof.Defs
public import proofs.«01_k».proof.Proof.Gen.PreMix.Frame
public import proofs.«01_k».proof.Proof.Gen.PreMixIdeal.Value
public import proofs.«01_k».proof.Proof.Gen.PreMixReferenceIdeal.Run
public import proofs.«01_k».proof.Proof.Gen.Mid.Frame
public import proofs.«01_k».proof.Proof.Gen.MidIdeal.Value
public import proofs.«01_k».proof.Proof.Gen.MidReferenceIdeal.Run
public import proofs.«01_k».proof.Proof.Rows
public import Idealize.ShloMosaic.Lib.Quiescent
public import Idealize.ShloMosaic.Lib.Pointwise
public import Idealize.ShloMosaic.Lib.Pipeline.ValueKit

/-!
The norms of the forward pass: before the mixer, and between the mixer and the feed-forward layer. Each point of a grid holds
a block of tokens, and what it writes at a token reads that token's rows alone. For the first norm both sides are one formula in
the entries read; for the second, which feeds one norm into another, both are told as functions of rows.
-/

@[expose] public section

set_option maxRecDepth 16384

noncomputable section

open Idealize.ShloMosaic Idealize.ShloMosaic.TcCoe Idealize.SL.Sem

namespace Cert.PreMixNorm

section reference
open Cert.PreMixReferenceIdeal Cert.PreMixReferenceIdeal.Gen

/-- The reference's result. -/
abbrev ref (x : FVec Ideal S4096x1024 .f32) (g : FVec Ideal S1x1024 .f32) (cd : FVec Ideal S2x6x1024 .f32) : FVec Ideal S4096x1024 .bf16 :=
  truncf .bf16 (shapeCast _ (addf (mulf (mulf (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 g))) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 1, 0] cd slices_S2x6x1024_S2x1x1024_0_1_0)))) (broadcastInDim S2x2048x1024 ![0, 1, 2] bcast_S2x1x1024_S2x2048x1024_0_1_2 (extractStridedSlice S2x1x1024 ![0, 0, 0] cd slices_S2x6x1024_S2x1x1024_0_0_0))) shapeCasts_S2x2048x1024_S4096x1024) bitsLt_bf16_f32

/-- The reference's result, entry by entry. -/
theorem ref_apply (x g cd) (j) : ref x g cd j = x j * Ideal.rsqrt (Ideal.div (∑ k : Fin 1024, x (ix2 (j 0) k) * x (ix2 (j 0) k)) (Ideal.ofBits FTy.f32 1149239296#32) + Ideal.ofBits FTy.f32 897988541#32)
       * g (ix2 0 (j 1)) * (1 + cd (ix3 ⟨(j 0).val / 2048, by idx_bounds; omega⟩ 1 (j 1))) + cd (ix3 ⟨(j 0).val / 2048, by idx_bounds; omega⟩ 0 (j 1)) := by
  pointwise [ref]
end reference
open Cert.PreMixIdeal Cert.PreMixIdeal.Gen

/-- Running the reference leaves the arguments as they were and no signal pending. -/
theorem frame_reference_ideal : Cert.quiescent_PreMixReferenceIdeal := fun m g _ =>
  (θ_run Cert.PreMixReferenceIdeal.defs _ _).mono
    (fun r h => ⟨fun c => (h c).2, sem_eq_zero_of_no_sems (by decide) r.2⟩)
    (Cert.PreMixReferenceIdeal.Value.run (F := Ideal) m g)

/-- The block each window is at, point by point. -/
theorem idx : ∀ t : Fin cfg0.N, win0_0.index t = ![t.val, 0] ∧ win0_1.index t = ![0, 0]
    ∧ win0_2.index t = ![t.val / 8, 0, 0] ∧ win0_3.index t = ![t.val, 0] := (by decide +kernel : ∀ t : Fin grid0.N, _)

/-- What the kernel writes at a point, entry by entry of the blocks it holds. -/
theorem pay_apply (x : FVec Ideal S256x1024 .f32) (g : FVec Ideal S1x1024 .f32) (c1 c0 : FVec Ideal S1x1x1024 .f32) (j) : k0_pay1 (F := Ideal) x g c1 c0 j
    = x j * Ideal.rsqrt (Ideal.div (∑ k : Fin 1024, x (ix2 (j 0) k) * x (ix2 (j 0) k)) (Ideal.ofBits FTy.f32 1149239296#32) + Ideal.ofBits FTy.f32 897988541#32)
       * g (ix2 0 (j 1)) * (1 + c1 (ix3 0 0 (j 1))) + c0 (ix3 0 0 (j 1)) := by
  pointwise [k0_pay1]

/-- The kernel's result is the reference's. -/
theorem final (m : (ℓ : Loc nD τ sig) → Buf (Elt Ideal) ℓ) (c : Dev nD) : (dats m 0 c).arrAt 3 cfg0.N = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; frame_out
  refine (pay_apply _ _ _ _ _).trans (Eq.trans ?_ (ref_apply _ _ _ _).symm)
  obtain ⟨j, hj, e0, e1⟩ : ∃ j : S4096x1024.Idx, ((cfg0.win 3).blk t).view.emb y = j
      ∧ (j 0 : ℕ) = t.val * 256 + (y 0 : ℕ) ∧ (j 1 : ℕ) = (y 1 : ℕ) := ⟨_, rfl, by blk_simp [idx t], by blk_simp [idx t]⟩
  rw [hj]
  reads_congr
  · blk_ext [iblk, V, idx t]
  · blk_ext [iblk, V, idx t]
  · blk_ext [iblk, V, idx t]
  · pointwise; blk_ext [iblk, V, idx t]
  · pointwise; blk_ext [iblk, V, idx t]

/-- The kernel's result is the reference's. -/
theorem algebraic : Cert.algebraic_PreMixIdeal_PreMixReferenceIdeal := fun m g m' g' _ h =>
  ⟨_, Cert.PreMixIdeal.Value.run_blocks (F := Ideal) m g,
    (θ_run Cert.PreMixReferenceIdeal.defs _ _).mono
      (fun r hr c => by
        obtain ⟨h0, h1, h2⟩ := h c
        obtain ⟨r0, rs⟩ := hr c
        refine ⟨r0.trans ?_, rs⟩
        rw [h0, h1, h2]
        exact (final m c).symm)
      (Cert.PreMixReferenceIdeal.Value.run (F := Ideal) m' g')⟩

end Cert.PreMixNorm

namespace Cert.MidNorm
open Cert.Rows

/-- A row of the residual stream after the mixer's branch. -/
def stream (mx x g gate : Row) : Row := fun k => x k + gate k * (normed mx k * g k)

/-- A row of what the feed-forward branch reads. -/
def branch (x1 h scale shift : Row) : Row := fun k => normed x1 k * h k * (1 + scale k) + shift k

/-- The stream's row of a token. -/
abbrev stream_row (mx x : Tokens) (g : Gain) (cd : Modulation) (l : Fin 4096) : Row :=
  stream (row mx l) (row x l) (row g 0) (slab cd (seqOf l) 2)

section reference
open Cert.MidReferenceIdeal Cert.MidReferenceIdeal.Gen

/-- The reference's residual stream, by sequence. -/
abbrev stream_seq (mx x : FVec Ideal S4096x1024 .f32) (g : FVec Ideal S1x1024 .f32) (cd : FVec Ideal S2x6x1024 .f32) : FVec Ideal S2x2048x1024 .f32 :=
  addf (shapeCast _ x shapeCasts_S4096x1024_S2x2048x1024) (mulf (broadcastInDim S2x2048x1024 ![0, 1, 2] bcast_S2x1x1024_S2x2048x1024_0_1_2 (extractStridedSlice S2x1x1024 ![0, 2, 0] cd slices_S2x6x1024_S2x1x1024_0_2_0)) (mulf (mulf (shapeCast _ mx shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ mx shapeCasts_S4096x1024_S2x2048x1024) (shapeCast _ mx shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 g))))

/-- The reference's results. The second is told from the stream by sequence. -/
abbrev ref_stream (mx x : FVec Ideal S4096x1024 .f32) (g : FVec Ideal S1x1024 .f32) (cd : FVec Ideal S2x6x1024 .f32) : FVec Ideal S4096x1024 .f32 :=
  shapeCast _ (stream_seq mx x g cd) shapeCasts_S2x2048x1024_S4096x1024
@[inherit_doc ref_stream] abbrev ref_branch (x1 : FVec Ideal S2x2048x1024 .f32) (h : FVec Ideal S1x1024 .f32) (cd : FVec Ideal S2x6x1024 .f32) : FVec Ideal S4096x1024 .bf16 :=
  truncf .bf16 (shapeCast _ (addf (mulf (mulf (mulf x1 (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf x1 x1) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 h))) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 4, 0] cd slices_S2x6x1024_S2x1x1024_0_4_0)))) (broadcastInDim S2x2048x1024 ![0, 1, 2] bcast_S2x1x1024_S2x2048x1024_0_1_2 (extractStridedSlice S2x1x1024 ![0, 3, 0] cd slices_S2x6x1024_S2x1x1024_0_3_0))) shapeCasts_S2x2048x1024_S4096x1024) bitsLt_bf16_f32

/-- The reference's results, row by row. -/
theorem ref_stream_apply (mx x g cd) (j) : ref_stream mx x g cd j = stream_row mx x g cd (j 0) (j 1) := by
  pointwise [ref_stream, stream_seq, stream_row, stream, normed, rowInv, rowMean, row, slab, seqOf]
@[inherit_doc ref_stream_apply] theorem stream_slab (mx x g cd a b) : slab (stream_seq mx x g cd) a b = stream_row mx x g cd (inSeq a b) := by
  unfold stream_row
  rw [seqOf_inSeq]
  funext k
  pointwise [stream_seq, stream, normed, rowInv, rowMean, row, slab, inSeq]
@[inherit_doc ref_stream_apply] theorem ref_branch_apply (x1 h cd) (j) : ref_branch x1 h cd j
    = branch (slab x1 (seqOf (j 0)) (posOf (j 0))) (row h 0) (slab cd (seqOf (j 0)) 4) (slab cd (seqOf (j 0)) 3) (j 1) := by
  pointwise [ref_branch, branch, normed, rowInv, rowMean, row, slab, seqOf, posOf]
@[inherit_doc ref_stream_apply] theorem ref_branch_rows (mx x g h cd) (j) : ref_branch (stream_seq mx x g cd) h cd j
    = branch (stream_row mx x g cd (j 0)) (row h 0) (slab cd (seqOf (j 0)) 4) (slab cd (seqOf (j 0)) 3) (j 1) := by
  rw [ref_branch_apply]
  exact congrArg (branch · _ _ _ (j 1)) ((stream_slab ..).trans (congrArg (stream_row mx x g cd) (inSeq_posOf (j 0))))
end reference
open Cert.MidIdeal Cert.MidIdeal.Gen

/-- Running the reference leaves the arguments as they were and no signal pending. -/
theorem frame_reference_ideal : Cert.quiescent_MidReferenceIdeal := fun m g _ =>
  (θ_run Cert.MidReferenceIdeal.defs _ _).mono
    (fun r h => ⟨fun c => (h c).2.2, sem_eq_zero_of_no_sems (by decide) r.2⟩)
    (Cert.MidReferenceIdeal.Value.run (F := Ideal) m g)

/-- The block each window is at, point by point. -/
theorem idx : ∀ t : Fin cfg0.N, win0_0.index t = ![t.val, 0] ∧ win0_1.index t = ![t.val, 0] ∧ win0_2.index t = ![0, 0]
    ∧ win0_3.index t = ![0, 0] ∧ win0_4.index t = ![t.val / 8, 0, 0] ∧ win0_5.index t = ![t.val, 0] ∧ win0_6.index t = ![t.val, 0] :=
  (by decide +kernel : ∀ t : Fin grid0.N, _)

/-- What the kernel writes at a point, row by row of the blocks it holds. -/
theorem pay_stream (mx x : FVec Ideal S256x1024 .f32) (gate : FVec Ideal S1x1x1024 .f32) (g : FVec Ideal S1x1024 .f32) (i) : k0_pay2 (F := Ideal) mx x gate g i
    = stream (row mx (i 0)) (row x (i 0)) (row g 0) (slab gate 0 0) (i 1) := by
  pointwise [k0_pay2, stream, normed, rowInv, rowMean, row, slab]
@[inherit_doc pay_stream] theorem pay_branch (mx x : FVec Ideal S256x1024 .f32) (gate : FVec Ideal S1x1x1024 .f32) (g h : FVec Ideal S1x1024 .f32) (scale shift : FVec Ideal S1x1x1024 .f32) (i) :
    k0_pay1 (F := Ideal) (k0_pay3 mx x gate g h) (k0_pay4 scale) shift i
    = branch (row (k0_pay2 (F := Ideal) mx x gate g) (i 0)) (row h 0) (slab scale 0 0) (slab shift 0 0) (i 1) := by
  unfold k0_pay3
  generalize k0_pay2 (F := Ideal) mx x gate g = x1
  pointwise [k0_pay1, k0_pay4, branch, normed, rowInv, rowMean, row, slab]

section launch
variable (m : (ℓ : Loc nD τ sig) → Buf (Elt Ideal) ℓ) (c : Dev nD) (t : Fin cfg0.N)

/-- A row of a block is the token's row of the whole array. -/
theorem row0 (r) : row (iblk m c 0 t) r = row (m ((c.tc : Thread nD τ).loc main_arg0)) (token N_0 t r) := funext fun _ => by unfold row; blk_ext [iblk, V, idx t]
@[inherit_doc row0] theorem row1 (r) : row (iblk m c 1 t) r = row (m ((c.tc : Thread nD τ).loc main_arg1)) (token N_0 t r) := funext fun _ => by unfold row; blk_ext [iblk, V, idx t]
@[inherit_doc row0] theorem row2 : row (iblk m c 2 t) 0 = row (m ((c.tc : Thread nD τ).loc main_arg2)) 0 := funext fun _ => by unfold row; blk_ext [iblk, V, idx t]
@[inherit_doc row0] theorem row3 : row (iblk m c 3 t) 0 = row (m ((c.tc : Thread nD τ).loc main_arg3)) 0 := funext fun _ => by unfold row; blk_ext [iblk, V, idx t]

/-- The gate, scale and shift a block is given are those of its tokens' sequence. -/
theorem gate (r) : slab (View.ld (iblk m c 4 t) (Rect.unit ![0, 2, 0] ![1, 1, 1024] inb_S1x6x1024_S1x1x1024_0_2_0)) 0 0 = slab (m ((c.tc : Thread nD τ).loc main_arg4)) (seqOf (token N_0 t r)) 2 := funext fun _ => by
  pointwise [slab]
  blk_ext [iblk, V, idx t]
@[inherit_doc gate] theorem scale (r) : slab (View.ld (iblk m c 4 t) (Rect.unit ![0, 4, 0] ![1, 1, 1024] inb_S1x6x1024_S1x1x1024_0_4_0)) 0 0 = slab (m ((c.tc : Thread nD τ).loc main_arg4)) (seqOf (token N_0 t r)) 4 := funext fun _ => by
  pointwise [slab]
  blk_ext [iblk, V, idx t]
@[inherit_doc gate] theorem shift (r) : slab (View.ld (iblk m c 4 t) (Rect.unit ![0, 3, 0] ![1, 1, 1024] inb_S1x6x1024_S1x1x1024_0_3_0)) 0 0 = slab (m ((c.tc : Thread nD τ).loc main_arg4)) (seqOf (token N_0 t r)) 3 := funext fun _ => by
  pointwise [slab]
  blk_ext [iblk, V, idx t]

/-- A row of the stream a point leaves is the token's. -/
theorem stream_block (r) : row (k0_pay2 (F := Ideal) (iblk m c 0 t) (iblk m c 1 t) (View.ld (iblk m c 4 t) (Rect.unit ![0, 2, 0] ![1, 1, 1024] inb_S1x6x1024_S1x1x1024_0_2_0)) (iblk m c 2 t)) r = stream_row (m ((c.tc : Thread nD τ).loc main_arg0)) (m ((c.tc : Thread nD τ).loc main_arg1)) (m ((c.tc : Thread nD τ).loc main_arg2)) (m ((c.tc : Thread nD τ).loc main_arg4)) (token N_0 t r) :=
  funext fun k => (pay_stream _ _ _ _ (ix2 r k)).trans (by
    show stream (row (iblk m c 0 t) r) (row (iblk m c 1 t) r) (row (iblk m c 2 t) 0) _ k = _
    rw [row0, row1, row2]
    exact congrArg (stream _ _ _ · k) (gate m c t r))

/-- What the kernel leaves of the stream at a point. -/
theorem at_stream (i) : out0_5 (iblk m c 0 t) (iblk m c 1 t) (iblk m c 2 t) (iblk m c 3 t) (iblk m c 4 t) i
    = stream_row (m ((c.tc : Thread nD τ).loc main_arg0)) (m ((c.tc : Thread nD τ).loc main_arg1)) (m ((c.tc : Thread nD τ).loc main_arg2)) (m ((c.tc : Thread nD τ).loc main_arg4)) (token N_0 t (i 0)) (i 1) := by
  obtain ⟨r, k, rfl⟩ : ∃ (r : Fin 256) (k : Fin 1024), i = ix2 r k := ⟨i 0, i 1, (ix2_eta i).symm⟩
  frame_out
  exact congrFun (stream_block m c t r) k

/-- What the kernel leaves of the feed-forward branch's input at a point. -/
theorem at_branch (i) : out0_6 (iblk m c 0 t) (iblk m c 1 t) (iblk m c 2 t) (iblk m c 3 t) (iblk m c 4 t) i
    = branch (stream_row (m ((c.tc : Thread nD τ).loc main_arg0)) (m ((c.tc : Thread nD τ).loc main_arg1)) (m ((c.tc : Thread nD τ).loc main_arg2)) (m ((c.tc : Thread nD τ).loc main_arg4)) (token N_0 t (i 0))) (row (m ((c.tc : Thread nD τ).loc main_arg3)) 0)
      (slab (m ((c.tc : Thread nD τ).loc main_arg4)) (seqOf (token N_0 t (i 0))) 4) (slab (m ((c.tc : Thread nD τ).loc main_arg4)) (seqOf (token N_0 t (i 0))) 3) (i 1) := by
  obtain ⟨r, k, rfl⟩ : ∃ (r : Fin 256) (k : Fin 1024), i = ix2 r k := ⟨i 0, i 1, (ix2_eta i).symm⟩
  frame_out
  refine (pay_branch ..).trans ?_
  show branch (row (k0_pay2 (F := Ideal) (iblk m c 0 t) (iblk m c 1 t) (View.ld (iblk m c 4 t) (Rect.unit ![0, 2, 0] ![1, 1, 1024] inb_S1x6x1024_S1x1x1024_0_2_0)) (iblk m c 2 t)) r) (row (iblk m c 3 t) 0) _ _ k = _
  rw [stream_block, row3]
  exact congrArg₂ (branch _ _ · · k) (scale m c t r) (shift m c t r)

/-- The kernel's stream is the reference's. -/
theorem final_stream : (dats m 0 c).arrAt 5 cfg0.N = ref_stream (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 5 _ (by decide +kernel) fun t _ y => ?_
  blk_simp
  obtain ⟨j, hj, e0, e1⟩ : ∃ j : S4096x1024.Idx, ((cfg0.win 5).blk t).view.emb y = j
      ∧ j 0 = token N_0 t (y 0) ∧ j 1 = y 1 := ⟨_, rfl, Fin.ext (by blk_simp [idx t]), Fin.ext (by blk_simp [idx t])⟩
  rw [after0_5, hj, ref_stream_apply, e0, e1]
  exact at_stream m c t y

/-- The kernel's input of the feed-forward branch is the reference's. -/
theorem final_branch : (dats m 0 c).arrAt 6 cfg0.N
    = ref_branch (stream_seq (m ((c.tc : Thread nD τ).loc main_arg0)) (m ((c.tc : Thread nD τ).loc main_arg1)) (m ((c.tc : Thread nD τ).loc main_arg2)) (m ((c.tc : Thread nD τ).loc main_arg4))) (m ((c.tc : Thread nD τ).loc main_arg3)) (m ((c.tc : Thread nD τ).loc main_arg4)) := by
  refine (dats m 0 c).arrAt_eq_of_covers 6 _ (by decide +kernel) fun t _ y => ?_
  blk_simp
  obtain ⟨j, hj, e0, e1⟩ : ∃ j : S4096x1024.Idx, ((cfg0.win 6).blk t).view.emb y = j
      ∧ j 0 = token N_0 t (y 0) ∧ j 1 = y 1 := ⟨_, rfl, Fin.ext (by blk_simp [idx t]), Fin.ext (by blk_simp [idx t])⟩
  rw [after0_6, hj, ref_branch_rows, e0, e1]
  exact at_branch m c t y
end launch

/-- The kernel's results are the reference's. -/
theorem algebraic : Cert.algebraic_MidIdeal_MidReferenceIdeal := fun m g m' g' _ h =>
  ⟨_, _, Cert.MidIdeal.Value.run_blocks (F := Ideal) m g,
    (θ_run Cert.MidReferenceIdeal.defs _ _).mono
      (fun r hr c => by
        obtain ⟨h0, h1, h2, h3, h4⟩ := h c
        obtain ⟨r0, r1, rs⟩ := hr c
        refine ⟨r0.trans ?_, r1.trans ?_, rs⟩
        · rw [h0, h1, h2, h4]; exact (final_stream m c).symm
        · unfold Cert.MidReferenceIdeal.Value.res_main_v45; rw [h0, h1, h2, h3, h4]; exact (final_branch m c).symm)
      (Cert.MidReferenceIdeal.Value.run (F := Ideal) m' g')⟩

end Cert.MidNorm

end
-- ==== Proof.NormsBackward.lean ====
module

public import proofs.«01_k».proof.Defs
public import proofs.«01_k».proof.Proof.Gen.Post.Frame
public import proofs.«01_k».proof.Proof.Gen.PostIdeal.Value
public import proofs.«01_k».proof.Proof.Gen.PostReferenceIdeal.Run
public import proofs.«01_k».proof.Proof.Gen.BwdMid.Frame
public import proofs.«01_k».proof.Proof.Gen.BwdMidIdeal.Value
public import proofs.«01_k».proof.Proof.Gen.BwdMidReferenceIdeal.Run
public import proofs.«01_k».proof.Proof.Gen.BwdPre.Frame
public import proofs.«01_k».proof.Proof.Gen.BwdPreIdeal.Value
public import proofs.«01_k».proof.Proof.Gen.BwdPreReferenceIdeal.Run
public import proofs.«01_k».proof.Proof.Rows
public import Idealize.ShloMosaic.Lib.Quiescent
public import Idealize.ShloMosaic.Lib.Pointwise
public import Idealize.ShloMosaic.Lib.Pipeline.ValueKit

/-!
The loss and the norms of the backward pass. What a call writes at a token is told as a function of that token's rows, as in
the forward pass. The gradients of the gains and of the modulation are sums over tokens: a point starts a sum or adds the
rows of its block to it, and `over_sequence` and `over_tokens` say what is left after the last point.
-/

@[expose] public section

set_option maxRecDepth 16384

noncomputable section

open Idealize.ShloMosaic Idealize.ShloMosaic.TcCoe Idealize.SL.Sem

namespace Cert.PostNorm
open Cert.Rows

/-- A row of the error: the stream after the feed-forward branch, less the target. -/
def err (f x tg g gate : Row) : Row := fun k => x k + gate k * (normed f k * g k) - tg k

/-- A row of the gradient at the stream: the error over the length of a row. -/
def dy (e : Row) : Row := fun k => e k * Ideal.ofBits .f32 0x3A800000#32

/-- What a row adds to the gradient of the gate. -/
def dgate (e f g : Row) : Row := fun k => dy e k * (normed f k * g k)

/-- What a row adds to the loss. -/
def square (e : Row) : EReal := ∑ k, e k * e k

/-- A token's row of the error. -/
abbrev err_row (f x tg : Tokens) (g : Gain) (cd : Modulation) (l : Fin 4096) : Row :=
  err (row f l) (row x l) (row tg l) (row g 0) (slab cd (seqOf l) 5)

section reference
open Cert.PostReferenceIdeal Cert.PostReferenceIdeal.Gen

/-- The reference's error, by sequence. -/
abbrev err_seq (f x tg : FVec Ideal S4096x1024 .f32) (g : FVec Ideal S1x1024 .f32) (cd : FVec Ideal S2x6x1024 .f32) : FVec Ideal S2x2048x1024 .f32 :=
  subf (addf (shapeCast _ x shapeCasts_S4096x1024_S2x2048x1024) (mulf (broadcastInDim S2x2048x1024 ![0, 1, 2] bcast_S2x1x1024_S2x2048x1024_0_1_2 (extractStridedSlice S2x1x1024 ![0, 5, 0] cd slices_S2x6x1024_S2x1x1024_0_5_0)) (mulf (mulf (shapeCast _ f shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ f shapeCasts_S4096x1024_S2x2048x1024) (shapeCast _ f shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 g))))) (shapeCast _ tg shapeCasts_S4096x1024_S2x2048x1024)

/-- The reference's results, told from the error by sequence. -/
abbrev ref_loss (e : FVec Ideal S2x2048x1024 .f32) : FVec Ideal S1x128 .f32 :=
  broadcastInDim S1x128 ![] bcast_S_S1x128 (Host.reduceAdd (mulf e e) (constant S_ .f32 0x00000000#32) reducesTo_S2x2048x1024_S_d0_1_2 h_S_)
@[inherit_doc ref_loss] abbrev ref_dy (e : FVec Ideal S2x2048x1024 .f32) : FVec Ideal S4096x1024 .f32 :=
  shapeCast _ (mulf e (broadcastInDim S2x2048x1024 ![] bcast_S_S2x2048x1024 (constant S_ .f32 0x3A800000#32))) shapeCasts_S2x2048x1024_S4096x1024
@[inherit_doc ref_loss] abbrev ref_df (e : FVec Ideal S2x2048x1024 .f32) (f : FVec Ideal S4096x1024 .f32) (g : FVec Ideal S1x1024 .f32) (cd : FVec Ideal S2x6x1024 .f32) : FVec Ideal S4096x1024 .bf16 :=
  truncf .bf16 (shapeCast _ (mulf (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ f shapeCasts_S4096x1024_S2x2048x1024) (shapeCast _ f shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))) (subf (mulf (mulf (mulf e (broadcastInDim S2x2048x1024 ![] bcast_S_S2x2048x1024 (constant S_ .f32 0x3A800000#32))) (broadcastInDim S2x2048x1024 ![0, 1, 2] bcast_S2x1x1024_S2x2048x1024_0_1_2 (extractStridedSlice S2x1x1024 ![0, 5, 0] cd slices_S2x6x1024_S2x1x1024_0_5_0))) (broadcastInDim S2x2048x1024 ![0, 1, 2] bcast_S1x1x1024_S2x2048x1024_0_1_2 (broadcastInDim S1x1x1024 ![1, 2] bcast_S1x1024_S1x1x1024_1_2 g))) (mulf (mulf (shapeCast _ f shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ f shapeCasts_S4096x1024_S2x2048x1024) (shapeCast _ f shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S2x2048x1_S2x2048x1024_0_1_2 (Host.divf (broadcastInDim S2x2048x1 ![0, 1] bcast_S2x2048_S2x2048x1_0_1 (Host.reduceAdd (mulf (mulf (mulf (mulf e (broadcastInDim S2x2048x1024 ![] bcast_S_S2x2048x1024 (constant S_ .f32 0x3A800000#32))) (broadcastInDim S2x2048x1024 ![0, 1, 2] bcast_S2x1x1024_S2x2048x1024_0_1_2 (extractStridedSlice S2x1x1024 ![0, 5, 0] cd slices_S2x6x1024_S2x1x1024_0_5_0))) (broadcastInDim S2x2048x1024 ![0, 1, 2] bcast_S1x1x1024_S2x2048x1024_0_1_2 (broadcastInDim S1x1x1024 ![1, 2] bcast_S1x1024_S1x1x1024_1_2 g))) (mulf (shapeCast _ f shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ f shapeCasts_S4096x1024_S2x2048x1024) (shapeCast _ f shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S2x2048_d2 h_S_)) (broadcastInDim S2x2048x1 ![] bcast_S_S2x2048x1 (constant S_ .f32 0x44800000#32))))))) shapeCasts_S2x2048x1024_S4096x1024) bitsLt_bf16_f32
@[inherit_doc ref_loss] abbrev ref_gate (e : FVec Ideal S2x2048x1024 .f32) (f : FVec Ideal S4096x1024 .f32) (g : FVec Ideal S1x1024 .f32) : FVec Ideal S2x1x1024 .f32 :=
  broadcastInDim S2x1x1024 ![0, 2] bcast_S2x1024_S2x1x1024_0_2 (Host.reduceAdd (mulf (mulf e (broadcastInDim S2x2048x1024 ![] bcast_S_S2x2048x1024 (constant S_ .f32 0x3A800000#32))) (mulf (mulf (shapeCast _ f shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ f shapeCasts_S4096x1024_S2x2048x1024) (shapeCast _ f shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![1, 2] bcast_S1x1024_S1x1x1024_1_2 g)))) (constant S_ .f32 0x00000000#32) reducesTo_S2x2048x1024_S2x1024_d1 h_S_)
@[inherit_doc ref_loss] abbrev ref_gain (e : FVec Ideal S2x2048x1024 .f32) (f : FVec Ideal S4096x1024 .f32) (cd : FVec Ideal S2x6x1024 .f32) : FVec Ideal S1x1024 .f32 :=
  shapeCast _ (Host.reduceAdd (mulf (mulf (mulf e (broadcastInDim S2x2048x1024 ![] bcast_S_S2x2048x1024 (constant S_ .f32 0x3A800000#32))) (broadcastInDim S2x2048x1024 ![0, 1, 2] bcast_S2x1x1024_S2x2048x1024_0_1_2 (extractStridedSlice S2x1x1024 ![0, 5, 0] cd slices_S2x6x1024_S2x1x1024_0_5_0))) (mulf (shapeCast _ f shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ f shapeCasts_S4096x1024_S2x2048x1024) (shapeCast _ f shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S1024_d0_1 h_S_) shapeCasts_S1024_S1x1024

/-- A token's row of the reference's error. -/
theorem err_slab (f x tg g cd a b) : slab (err_seq f x tg g cd) a b = err_row f x tg g cd (inSeq a b) := by
  unfold err_row
  rw [seqOf_inSeq]
  funext k
  pointwise [err_seq, err, normed, rowInv, rowMean, row, slab, inSeq]
@[inherit_doc err_slab] theorem err_token (f x tg g cd l) : slab (err_seq f x tg g cd) (seqOf l) (posOf l) = err_row f x tg g cd l :=
  (err_slab ..).trans (congrArg (err_row f x tg g cd) (inSeq_posOf l))

/-- The reference's results, row by row of the error. -/
theorem ref_loss_apply (e) (j) : ref_loss e j = ∑ l, square (slab e (seqOf l) (posOf l)) := by
  pointwise [ref_loss, sum_everything]
  refine Fin.sum_mul_add_congr fun a b hl => ?_
  rw [seqOf_inSeq a b, posOf_inSeq a b]
  pointwise [square, slab]
@[inherit_doc ref_loss_apply] theorem ref_dy_apply (e) (j) : ref_dy e j = dy (slab e (seqOf (j 0)) (posOf (j 0))) (j 1) := by
  pointwise [ref_dy, dy, slab, seqOf, posOf]
@[inherit_doc ref_loss_apply] theorem ref_df_apply (e f g cd) (j) : ref_df e f g cd j
    = gateBack (dy (slab e (seqOf (j 0)) (posOf (j 0)))) (row f (j 0)) (row g 0) (slab cd (seqOf (j 0)) 5) (j 1) := by
  pointwise [ref_df, dy, gateBack, normedBack, normed, rowInv, rowMean, row, slab, seqOf, posOf]
@[inherit_doc ref_loss_apply] theorem ref_gate_apply (e f g) (j) : ref_gate e f g j
    = ∑ b, dgate (slab e (j 0) b) (row f (inSeq (j 0) b)) (row g 0) (j 2) := by
  pointwise [ref_gate, dgate, dy, normed, rowInv, rowMean, row, slab, inSeq]
@[inherit_doc ref_loss_apply] theorem ref_gain_apply (e f cd) (j) : ref_gain e f cd j
    = ∑ l, gateGainBack (dy (slab e (seqOf l) (posOf l))) (row f l) (slab cd (seqOf l) 5) (j 1) := by
  pointwise [ref_gain, sum_tokens]
  refine Fin.sum_mul_add_congr fun a b hl => ?_
  rw [seqOf_inSeq a b, posOf_inSeq a b]
  pointwise [gateGainBack, dy, normed, rowInv, rowMean, row, slab]

/-- The reference's results, row by row. -/
theorem ref_loss_rows (f x tg g cd) (j) : ref_loss (err_seq f x tg g cd) j = ∑ l, square (err_row f x tg g cd l) :=
  (ref_loss_apply ..).trans (Finset.sum_congr rfl fun l _ => congrArg square (err_token f x tg g cd l))
@[inherit_doc ref_loss_rows] theorem ref_dy_rows (f x tg g cd) (j) : ref_dy (err_seq f x tg g cd) j
    = dy (err_row f x tg g cd (j 0)) (j 1) := by
  rw [ref_dy_apply]
  exact congrArg (dy · (j 1)) (err_token f x tg g cd (j 0))
@[inherit_doc ref_loss_rows] theorem ref_df_rows (f x tg g cd) (j) : ref_df (err_seq f x tg g cd) f g cd j
    = gateBack (dy (err_row f x tg g cd (j 0))) (row f (j 0)) (row g 0) (slab cd (seqOf (j 0)) 5) (j 1) := by
  rw [ref_df_apply]
  exact congrArg (fun e => gateBack (dy e) (row f (j 0)) (row g 0) (slab cd (seqOf (j 0)) 5) (j 1)) (err_token f x tg g cd (j 0))
@[inherit_doc ref_loss_rows] theorem ref_gate_rows (f x tg g cd) (j) : ref_gate (err_seq f x tg g cd) f g j
    = ∑ b, dgate (err_row f x tg g cd (inSeq (j 0) b)) (row f (inSeq (j 0) b)) (row g 0) (j 2) := by
  rw [ref_gate_apply]
  refine Finset.sum_congr rfl fun b _ => ?_
  exact congrArg (dgate · _ _ (j 2)) (err_slab f x tg g cd (j 0) b)
@[inherit_doc ref_loss_rows] theorem ref_gain_rows (f x tg g cd) (j) : ref_gain (err_seq f x tg g cd) f cd j
    = ∑ l, gateGainBack (dy (err_row f x tg g cd l)) (row f l) (slab cd (seqOf l) 5) (j 1) := by
  rw [ref_gain_apply]
  refine Finset.sum_congr rfl fun l _ => ?_
  exact congrArg (fun e => gateGainBack (dy e) (row f l) (slab cd (seqOf l) 5) (j 1)) (err_token f x tg g cd l)
end reference
open Cert.PostIdeal Cert.PostIdeal.Gen

/-- Running the reference leaves the arguments as they were and no signal pending. -/
theorem frame_reference_ideal : Cert.quiescent_PostReferenceIdeal := fun m g _ =>
  (θ_run Cert.PostReferenceIdeal.defs _ _).mono
    (fun r h => ⟨fun c => (h c).2.2.2.2.2, sem_eq_zero_of_no_sems (by decide) r.2⟩)
    (Cert.PostReferenceIdeal.Value.run (F := Ideal) m g)

/-- The block each window is at, point by point. -/
theorem idx : ∀ t : Fin cfg0.N, win0_0.index t = ![t.val, 0] ∧ win0_1.index t = ![t.val, 0] ∧ win0_2.index t = ![t.val, 0]
    ∧ win0_3.index t = ![0, 0] ∧ win0_4.index t = ![t.val / 8, 0, 0] ∧ win0_5.index t = ![0, 0] ∧ win0_6.index t = ![t.val, 0]
    ∧ win0_7.index t = ![t.val, 0] ∧ win0_8.index t = ![t.val / 8, 0, 0] ∧ win0_9.index t = ![0, 0] :=
  (by decide +kernel : ∀ t : Fin grid0.N, _)

/-- A point is the first of all, the first of the second sequence, or neither. -/
theorem point (t : Fin cfg0.N) : t.val = 0 ∨ t.val = 8 ∨ (t.val < 16 ∧ ¬ t.val % 8 = 0) := by
  have := lt_of_lt_of_eq t.isLt N_0
  omega

/-- The error at a point, row by row of the blocks it holds. -/
theorem pay_err (f x tg : FVec Ideal S256x1024 .f32) (g : FVec Ideal S1x1024 .f32) (s : FVec Ideal S1x1x1024 .f32) (i) : k0_pay6 (F := Ideal) f g s x tg i
    = err (row f (i 0)) (row x (i 0)) (row tg (i 0)) (row g 0) (slab s 0 0) (i 1) := by
  pointwise [k0_pay6, k0_pay5, k0_pay4, k0_pay3, k0_pay2, err, normed, rowInv, rowMean, row, slab]

/-- What the kernel writes at a point, row by row of the error and of the blocks it holds. -/
theorem loss_first (f x tg : FVec Ideal S256x1024 .f32) (g : FVec Ideal S1x1024 .f32) (s : FVec Ideal S1x1x1024 .f32) (i) : k0_pay7 (F := Ideal) f g s x tg i
    = 0 + ∑ r, square (row (k0_pay6 (F := Ideal) f g s x tg) r) := by
  unfold k0_pay7
  generalize k0_pay6 (F := Ideal) f g s x tg = e
  pointwise [square, row]
  exact Finset.sum_comm
@[inherit_doc loss_first] theorem loss_next (f x tg : FVec Ideal S256x1024 .f32) (g : FVec Ideal S1x1024 .f32) (s : FVec Ideal S1x1x1024 .f32) (a : FVec Ideal S1x128 .f32) (i) : k0_pay8 (F := Ideal) f g s x tg a i
    = a i + ∑ r, square (row (k0_pay6 (F := Ideal) f g s x tg) r) := by
  rw [← zero_add (∑ r, _), ← loss_first f x tg g s i]
  pointwise [k0_pay8]
@[inherit_doc loss_first] theorem pay_dy (e : FVec Ideal S256x1024 .f32) (i) : k0_pay9 (F := Ideal) e i = dy (row e (i 0)) (i 1) := by
  pointwise [k0_pay9, dy, row]
@[inherit_doc loss_first] theorem pay_df (e f : FVec Ideal S256x1024 .f32) (g : FVec Ideal S1x1024 .f32) (s : FVec Ideal S1x1x1024 .f32) (i) :
    k0_pay1 (F := Ideal) (k0_pay2 f) (k0_pay3 f) (k0_pay13 (k0_pay5 s) e) g i
    = gateBack (dy (row e (i 0))) (row f (i 0)) (row g 0) (slab s 0 0) (i 1) := by
  pointwise [k0_pay1, k0_pay13, k0_pay9, k0_pay5, k0_pay3, k0_pay2, dy, gateBack, normedBack, normed, rowInv, rowMean, row, slab]
@[inherit_doc loss_first] theorem gate_first (e f : FVec Ideal S256x1024 .f32) (g : FVec Ideal S1x1024 .f32) (i) : k0_pay11 (F := Ideal) (k0_pay4 f g) e i
    = 0 + ∑ r, dgate (row e r) (row f r) (row g 0) (i 2) := by
  pointwise [k0_pay11, k0_pay10, k0_pay9, k0_pay4, k0_pay3, k0_pay2, dgate, dy, normed, rowInv, rowMean, row]
@[inherit_doc loss_first] theorem gate_next (e f : FVec Ideal S256x1024 .f32) (g : FVec Ideal S1x1024 .f32) (a : FVec Ideal S1x1x1024 .f32) (i) : k0_pay12 (F := Ideal) (k0_pay4 f g) e a i
    = a i + ∑ r, dgate (row e r) (row f r) (row g 0) (i 2) := by
  pointwise [k0_pay12, k0_pay10, k0_pay9, k0_pay4, k0_pay3, k0_pay2, dgate, dy, normed, rowInv, rowMean, row]
@[inherit_doc loss_first] theorem gain_first (e f : FVec Ideal S256x1024 .f32) (s : FVec Ideal S1x1x1024 .f32) (i) : k0_pay14 (F := Ideal) (k0_pay3 f) (k0_pay5 s) e i
    = 0 + ∑ r, gateGainBack (dy (row e r)) (row f r) (slab s 0 0) (i 1) := by
  pointwise [k0_pay14, k0_pay13, k0_pay9, k0_pay5, k0_pay3, k0_pay2, gateGainBack, dy, normed, rowInv, rowMean, row, slab]
@[inherit_doc loss_first] theorem gain_next (e f : FVec Ideal S256x1024 .f32) (s : FVec Ideal S1x1x1024 .f32) (a : FVec Ideal S1x1024 .f32) (i) : k0_pay15 (F := Ideal) (k0_pay3 f) (k0_pay5 s) e a i
    = a i + ∑ r, gateGainBack (dy (row e r)) (row f r) (slab s 0 0) (i 1) := by
  pointwise [k0_pay15, k0_pay14, k0_pay13, k0_pay9, k0_pay5, k0_pay3, k0_pay2, gateGainBack, dy, normed, rowInv, rowMean, row, slab]

section launch
variable (m : (ℓ : Loc nD τ sig) → Buf (Elt Ideal) ℓ) (c : Dev nD) (t : Fin cfg0.N)

/-- A row of a block is the token's row of the whole array. -/
theorem row0 (r) : row (iblk m c 0 t) r = row (m ((c.tc : Thread nD τ).loc main_arg0)) (token N_0 t r) := funext fun _ => by unfold row; blk_ext [iblk, V, idx t]
@[inherit_doc row0] theorem row1 (r) : row (iblk m c 1 t) r = row (m ((c.tc : Thread nD τ).loc main_arg1)) (token N_0 t r) := funext fun _ => by unfold row; blk_ext [iblk, V, idx t]
@[inherit_doc row0] theorem row2 (r) : row (iblk m c 2 t) r = row (m ((c.tc : Thread nD τ).loc main_arg2)) (token N_0 t r) := funext fun _ => by unfold row; blk_ext [iblk, V, idx t]
@[inherit_doc row0] theorem row3 : row (iblk m c 3 t) 0 = row (m ((c.tc : Thread nD τ).loc main_arg3)) 0 := funext fun _ => by unfold row; blk_ext [iblk, V, idx t]

/-- The gate a block is given is that of its tokens' sequence. -/
theorem gate (r) : slab (View.ld (iblk m c 4 t) (Rect.unit ![0, 5, 0] ![1, 1, 1024] inb_S1x6x1024_S1x1x1024_0_5_0)) 0 0 = slab (m ((c.tc : Thread nD τ).loc main_arg4)) (seqOf (token N_0 t r)) 5 := funext fun _ => by
  pointwise [slab]
  blk_ext [iblk, V, idx t]

/-- A row of the error at a point is the token's. -/
theorem err_block (r) : row (k0_pay6 (F := Ideal) (iblk m c 0 t) (iblk m c 3 t) (View.ld (iblk m c 4 t) (Rect.unit ![0, 5, 0] ![1, 1, 1024] inb_S1x6x1024_S1x1x1024_0_5_0)) (iblk m c 1 t) (iblk m c 2 t)) r = err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (token N_0 t r) :=
  funext fun k => (pay_err _ _ _ _ _ (ix2 r k)).trans (by
    show err (row (iblk m c 0 t) r) (row (iblk m c 1 t) r) (row (iblk m c 2 t) r) (row (iblk m c 3 t) 0) _ k = _
    rw [row0, row1, row2, row3]
    exact congrArg (err _ _ _ _ · k) (gate m c t r))

/-- What a row of a point's block adds to the gradients of the gate and of the gain that it multiplies. -/
theorem gate_block (r k) : dgate (row (k0_pay6 (F := Ideal) (iblk m c 0 t) (iblk m c 3 t) (View.ld (iblk m c 4 t) (Rect.unit ![0, 5, 0] ![1, 1, 1024] inb_S1x6x1024_S1x1x1024_0_5_0)) (iblk m c 1 t) (iblk m c 2 t)) r) (row (iblk m c 0 t) r) (row (iblk m c 3 t) 0) k
    = dgate (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (token N_0 t r)) (row (m ((c.tc : Thread nD τ).loc main_arg0)) (token N_0 t r)) (row (m ((c.tc : Thread nD τ).loc main_arg3)) 0) k := by
  rw [err_block, row0, row3]
@[inherit_doc gate_block] theorem gain_block (r k) : gateGainBack (dy (row (k0_pay6 (F := Ideal) (iblk m c 0 t) (iblk m c 3 t) (View.ld (iblk m c 4 t) (Rect.unit ![0, 5, 0] ![1, 1, 1024] inb_S1x6x1024_S1x1x1024_0_5_0)) (iblk m c 1 t) (iblk m c 2 t)) r)) (row (iblk m c 0 t) r) (slab (View.ld (iblk m c 4 t) (Rect.unit ![0, 5, 0] ![1, 1, 1024] inb_S1x6x1024_S1x1x1024_0_5_0)) 0 0) k
    = gateGainBack (dy (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (token N_0 t r))) (row (m ((c.tc : Thread nD τ).loc main_arg0)) (token N_0 t r)) (slab (m ((c.tc : Thread nD τ).loc main_arg4)) (seqOf (token N_0 t r)) 5) k := by
  rw [err_block, row0]
  exact congrArg (gateGainBack _ _ · k) (gate m c t r)

/-- What the kernel leaves of the stream's gradient at a point. -/
theorem at_dy (i) : (outsAt0 m c t.val t.isLt).2.1 i = dy (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (token N_0 t (i 0))) (i 1) := by
  obtain ⟨r, k, rfl⟩ : ∃ (r : Fin 256) (k : Fin 1024), i = ix2 r k := ⟨i 0, i 1, (ix2_eta i).symm⟩
  have e : dy (row (k0_pay6 (F := Ideal) (iblk m c 0 t) (iblk m c 3 t) (View.ld (iblk m c 4 t) (Rect.unit ![0, 5, 0] ![1, 1, 1024] inb_S1x6x1024_S1x1x1024_0_5_0)) (iblk m c 1 t) (iblk m c 2 t)) r) k = dy (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (token N_0 t r)) k := by
    rw [err_block]
  rcases point t with h | h | h
  · rw [outsAt0_A m c t (by omega) (by omega) (by omega) (by omega) (by omega) (by omega)]; frame_out; exact (pay_dy ..).trans e
  · rw [outsAt0_C m c t (by omega) (by omega) (by omega) (by omega) (by omega) (by omega)]; frame_out; exact (pay_dy ..).trans e
  · rw [outsAt0_B m c t (by omega) (by omega) (by omega) (by omega) (by omega) (by omega)]; frame_out; exact (pay_dy ..).trans e

/-- What the kernel leaves of the gradient of the feed-forward branch at a point. -/
theorem at_df (i) : (outsAt0 m c t.val t.isLt).2.2.1 i = gateBack (dy (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (token N_0 t (i 0))))
    (row (m ((c.tc : Thread nD τ).loc main_arg0)) (token N_0 t (i 0))) (row (m ((c.tc : Thread nD τ).loc main_arg3)) 0) (slab (m ((c.tc : Thread nD τ).loc main_arg4)) (seqOf (token N_0 t (i 0))) 5) (i 1) := by
  obtain ⟨r, k, rfl⟩ : ∃ (r : Fin 256) (k : Fin 1024), i = ix2 r k := ⟨i 0, i 1, (ix2_eta i).symm⟩
  have e : gateBack (dy (row (k0_pay6 (F := Ideal) (iblk m c 0 t) (iblk m c 3 t) (View.ld (iblk m c 4 t) (Rect.unit ![0, 5, 0] ![1, 1, 1024] inb_S1x6x1024_S1x1x1024_0_5_0)) (iblk m c 1 t) (iblk m c 2 t)) r)) (row (iblk m c 0 t) r) (row (iblk m c 3 t) 0) (slab (View.ld (iblk m c 4 t) (Rect.unit ![0, 5, 0] ![1, 1, 1024] inb_S1x6x1024_S1x1x1024_0_5_0)) 0 0) k
      = gateBack (dy (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (token N_0 t r))) (row (m ((c.tc : Thread nD τ).loc main_arg0)) (token N_0 t r)) (row (m ((c.tc : Thread nD τ).loc main_arg3)) 0) (slab (m ((c.tc : Thread nD τ).loc main_arg4)) (seqOf (token N_0 t r)) 5) k := by
    rw [err_block, row0, row3]; exact congrArg (gateBack _ _ _ · k) (gate m c t r)
  rcases point t with h | h | h
  · rw [outsAt0_A m c t (by omega) (by omega) (by omega) (by omega) (by omega) (by omega)]; frame_out; exact (pay_df ..).trans e
  · rw [outsAt0_C m c t (by omega) (by omega) (by omega) (by omega) (by omega) (by omega)]; frame_out; exact (pay_df ..).trans e
  · rw [outsAt0_B m c t (by omega) (by omega) (by omega) (by omega) (by omega) (by omega)]; frame_out; exact (pay_df ..).trans e

/-- The kernel's loss is the reference's. -/
theorem final_loss : (dats m 0 c).arrAt 5 cfg0.N = ref_loss (err_seq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 5 _ (by decide +kernel) fun t hf y => ?_
  blk_simp
  rw [after0_5, ref_loss_rows]
  refine over_tokens N_0 (fun n h => (outsAt0 m c n h).1) (fun l _ => square (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) l))
    (fun t h j => ?_) (fun t h j => ?_) t ((flush0_5 t).mp hf) y
  · rcases point t with h' | h' | h'
    · rw [outsAt0_A m c t (by omega) (by omega) (by omega) (by omega) (by omega) (by omega)]; frame_out; rw [loss_first]; exact congrArg (_ + ·) (Finset.sum_congr rfl fun r _ => congrArg square (err_block m c t r))
    · omega
    · omega
  · rcases point t with h' | h' | h'
    · omega
    · rw [outsAt0_C m c t (by omega) (by omega) (by omega) (by omega) (by omega) (by omega)]; frame_out; rw [loss_next]; exact congrArg (_ + ·) (Finset.sum_congr rfl fun r _ => congrArg square (err_block m c t r))
    · rw [outsAt0_B m c t (by omega) (by omega) (by omega) (by omega) (by omega) (by omega)]; frame_out; rw [loss_next]; exact congrArg (_ + ·) (Finset.sum_congr rfl fun r _ => congrArg square (err_block m c t r))

/-- The kernel's gradient of the stream is the reference's. -/
theorem final_dy : (dats m 0 c).arrAt 6 cfg0.N = ref_dy (err_seq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 6 _ (by decide +kernel) fun t _ y => ?_
  blk_simp
  obtain ⟨j, hj, e0, e1⟩ : ∃ j : S4096x1024.Idx, ((cfg0.win 6).blk t).view.emb y = j
      ∧ j 0 = token N_0 t (y 0) ∧ j 1 = y 1 := ⟨_, rfl, Fin.ext (by blk_simp [idx t]), Fin.ext (by blk_simp [idx t])⟩
  rw [after0_6, hj, ref_dy_rows, e0, e1]
  exact at_dy m c t y

/-- The kernel's gradient of the feed-forward branch is the reference's. -/
theorem final_df : (dats m 0 c).arrAt 7 cfg0.N = ref_df (err_seq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0)) (m ((c.tc : Thread nD τ).loc main_arg3)) (m ((c.tc : Thread nD τ).loc main_arg4)) := by
  refine (dats m 0 c).arrAt_eq_of_covers 7 _ (by decide +kernel) fun t _ y => ?_
  blk_simp
  obtain ⟨j, hj, e0, e1⟩ : ∃ j : S4096x1024.Idx, ((cfg0.win 7).blk t).view.emb y = j
      ∧ j 0 = token N_0 t (y 0) ∧ j 1 = y 1 := ⟨_, rfl, Fin.ext (by blk_simp [idx t]), Fin.ext (by blk_simp [idx t])⟩
  rw [after0_7, hj, ref_df_rows, e0, e1]
  exact at_df m c t y

/-- The kernel's gradient of the gate is the reference's. -/
theorem final_gate : (dats m 0 c).arrAt 8 cfg0.N = ref_gate (err_seq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0)) (m ((c.tc : Thread nD τ).loc main_arg3)) := by
  refine (dats m 0 c).arrAt_eq_of_covers 8 _ (by decide +kernel) fun t hf y => ?_
  blk_simp
  obtain ⟨j, hj, e0, e2⟩ : ∃ j : S2x1x1024.Idx, ((cfg0.win 8).blk t).view.emb y = j
      ∧ (j 0).val = t.val / 8 ∧ j 2 = y 2 := ⟨_, rfl, by blk_simp [idx t], Fin.ext (by blk_simp [idx t])⟩
  rw [after0_8, hj, ref_gate_rows, e2]
  refine over_sequence N_0 (fun n h => (outsAt0 m c n h).2.2.2.1) (fun l => dgate (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) l) (row (m ((c.tc : Thread nD τ).loc main_arg0)) l) (row (m ((c.tc : Thread nD τ).loc main_arg3)) 0))
    (fun t h j => ?_) (fun t h j => ?_) t ((flush0_8 t).mp hf) (j 0) e0 y
  · rcases point t with h' | h' | h'
    · rw [outsAt0_A m c t (by omega) (by omega) (by omega) (by omega) (by omega) (by omega)]; frame_out; rw [gate_first]; exact congrArg (_ + ·) (Finset.sum_congr rfl fun r _ => gate_block m c t r (j 2))
    · rw [outsAt0_C m c t (by omega) (by omega) (by omega) (by omega) (by omega) (by omega)]; frame_out; rw [gate_first]; exact congrArg (_ + ·) (Finset.sum_congr rfl fun r _ => gate_block m c t r (j 2))
    · omega
  · rcases point t with h' | h' | h'
    · omega
    · omega
    · rw [outsAt0_B m c t (by omega) (by omega) (by omega) (by omega) (by omega) (by omega)]; frame_out; rw [gate_next]; exact congrArg (_ + ·) (Finset.sum_congr rfl fun r _ => gate_block m c t r (j 2))

/-- The kernel's gradient of the gain is the reference's. -/
theorem final_gain : (dats m 0 c).arrAt 9 cfg0.N = ref_gain (err_seq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg0)) (m ((c.tc : Thread nD τ).loc main_arg4)) := by
  refine (dats m 0 c).arrAt_eq_of_covers 9 _ (by decide +kernel) fun t hf y => ?_
  blk_simp
  obtain ⟨j, hj, e1⟩ : ∃ j : S1x1024.Idx, ((cfg0.win 9).blk t).view.emb y = j
      ∧ j 1 = y 1 := ⟨_, rfl, Fin.ext (by blk_simp [idx t])⟩
  rw [after0_9, hj, ref_gain_rows, e1]
  refine over_tokens N_0 (fun n h => (outsAt0 m c n h).2.2.2.2)
    (fun l j => gateGainBack (dy (err_row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) l)) (row (m ((c.tc : Thread nD τ).loc main_arg0)) l) (slab (m ((c.tc : Thread nD τ).loc main_arg4)) (seqOf l) 5) (j 1))
    (fun t h j => ?_) (fun t h j => ?_) t ((flush0_9 t).mp hf) y
  · rcases point t with h' | h' | h'
    · rw [outsAt0_A m c t (by omega) (by omega) (by omega) (by omega) (by omega) (by omega)]; frame_out; rw [gain_first]; exact congrArg (_ + ·) (Finset.sum_congr rfl fun r _ => gain_block m c t r (j 1))
    · omega
    · omega
  · rcases point t with h' | h' | h'
    · omega
    · rw [outsAt0_C m c t (by omega) (by omega) (by omega) (by omega) (by omega) (by omega)]; frame_out; rw [gain_next]; exact congrArg (_ + ·) (Finset.sum_congr rfl fun r _ => gain_block m c t r (j 1))
    · rw [outsAt0_B m c t (by omega) (by omega) (by omega) (by omega) (by omega) (by omega)]; frame_out; rw [gain_next]; exact congrArg (_ + ·) (Finset.sum_congr rfl fun r _ => gain_block m c t r (j 1))
end launch

/-- The kernel's results are the reference's. -/
theorem algebraic : Cert.algebraic_PostIdeal_PostReferenceIdeal := fun m g m' g' _ h =>
  ⟨_, _, _, _, _, Cert.PostIdeal.Value.run_blocks (F := Ideal) m g,
    (θ_run Cert.PostReferenceIdeal.defs _ _).mono
      (fun r hr c => by
        obtain ⟨h0, h1, h2, h3, h4⟩ := h c
        obtain ⟨r0, r1, r2, r3, r4, rs⟩ := hr c
        refine ⟨r0.trans ?_, r1.trans ?_, r2.trans ?_, r3.trans ?_, r4.trans ?_, rs⟩
        · rw [h0, h1, h2, h3, h4]; exact (final_loss m c).symm
        · rw [h0, h1, h2, h3, h4]; exact (final_dy m c).symm
        · unfold Cert.PostReferenceIdeal.Value.res_main_v48; rw [h0, h1, h2, h3, h4]; exact (final_df m c).symm
        · rw [h0, h1, h2, h3, h4]; exact (final_gate m c).symm
        · rw [h0, h1, h2, h3, h4]; exact (final_gain m c).symm)
      (Cert.PostReferenceIdeal.Value.run (F := Ideal) m' g')⟩

end Cert.PostNorm

namespace Cert.BwdMidNorm
open Cert.Rows

/-- A token's row of the gradient of the stream. -/
abbrev dx_row (dh dy x : Tokens) (g : Gain) (cd : Modulation) (l : Fin 4096) : Row :=
  streamBack (row dh l) (row dy l) (row x l) (row g 0) (slab cd (seqOf l) 4)

section reference
open Cert.BwdMidReferenceIdeal Cert.BwdMidReferenceIdeal.Gen

/-- The reference's gradient of the stream, by sequence. -/
abbrev dx_seq (dh dy x : FVec Ideal S4096x1024 .f32) (g : FVec Ideal S1x1024 .f32) (cd : FVec Ideal S2x6x1024 .f32) : FVec Ideal S2x2048x1024 .f32 :=
  addf (shapeCast _ dy shapeCasts_S4096x1024_S2x2048x1024) (mulf (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))) (subf (mulf (mulf (shapeCast _ dh shapeCasts_S4096x1024_S2x2048x1024) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 4, 0] cd slices_S2x6x1024_S2x1x1024_0_4_0)))) (broadcastInDim S2x2048x1024 ![0, 1, 2] bcast_S1x1x1024_S2x2048x1024_0_1_2 (broadcastInDim S1x1x1024 ![1, 2] bcast_S1x1024_S1x1x1024_1_2 g))) (mulf (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S2x2048x1_S2x2048x1024_0_1_2 (Host.divf (broadcastInDim S2x2048x1 ![0, 1] bcast_S2x2048_S2x2048x1_0_1 (Host.reduceAdd (mulf (mulf (mulf (shapeCast _ dh shapeCasts_S4096x1024_S2x2048x1024) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 4, 0] cd slices_S2x6x1024_S2x1x1024_0_4_0)))) (broadcastInDim S2x2048x1024 ![0, 1, 2] bcast_S1x1x1024_S2x2048x1024_0_1_2 (broadcastInDim S1x1x1024 ![1, 2] bcast_S1x1024_S1x1x1024_1_2 g))) (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S2x2048_d2 h_S_)) (broadcastInDim S2x2048x1 ![] bcast_S_S2x2048x1 (constant S_ .f32 0x44800000#32)))))))

/-- The reference's results. Those that read the gradient of the stream are told from it by sequence. -/
abbrev ref_x (dh dy x : FVec Ideal S4096x1024 .f32) (g : FVec Ideal S1x1024 .f32) (cd : FVec Ideal S2x6x1024 .f32) : FVec Ideal S4096x1024 .f32 :=
  shapeCast _ (dx_seq dh dy x g cd) shapeCasts_S2x2048x1024_S4096x1024
@[inherit_doc ref_x] abbrev ref_mix (d : FVec Ideal S2x2048x1024 .f32) (mx : FVec Ideal S4096x1024 .f32) (h : FVec Ideal S1x1024 .f32) (cd : FVec Ideal S2x6x1024 .f32) : FVec Ideal S4096x1024 .bf16 :=
  truncf .bf16 (shapeCast _ (mulf (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ mx shapeCasts_S4096x1024_S2x2048x1024) (shapeCast _ mx shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))) (subf (mulf (mulf d (broadcastInDim S2x2048x1024 ![0, 1, 2] bcast_S2x1x1024_S2x2048x1024_0_1_2 (extractStridedSlice S2x1x1024 ![0, 2, 0] cd slices_S2x6x1024_S2x1x1024_0_2_0))) (broadcastInDim S2x2048x1024 ![0, 1, 2] bcast_S1x1x1024_S2x2048x1024_0_1_2 (broadcastInDim S1x1x1024 ![1, 2] bcast_S1x1024_S1x1x1024_1_2 h))) (mulf (mulf (shapeCast _ mx shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ mx shapeCasts_S4096x1024_S2x2048x1024) (shapeCast _ mx shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S2x2048x1_S2x2048x1024_0_1_2 (Host.divf (broadcastInDim S2x2048x1 ![0, 1] bcast_S2x2048_S2x2048x1_0_1 (Host.reduceAdd (mulf (mulf (mulf d (broadcastInDim S2x2048x1024 ![0, 1, 2] bcast_S2x1x1024_S2x2048x1024_0_1_2 (extractStridedSlice S2x1x1024 ![0, 2, 0] cd slices_S2x6x1024_S2x1x1024_0_2_0))) (broadcastInDim S2x2048x1024 ![0, 1, 2] bcast_S1x1x1024_S2x2048x1024_0_1_2 (broadcastInDim S1x1x1024 ![1, 2] bcast_S1x1024_S1x1x1024_1_2 h))) (mulf (shapeCast _ mx shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ mx shapeCasts_S4096x1024_S2x2048x1024) (shapeCast _ mx shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S2x2048_d2 h_S_)) (broadcastInDim S2x2048x1 ![] bcast_S_S2x2048x1 (constant S_ .f32 0x44800000#32))))))) shapeCasts_S2x2048x1024_S4096x1024) bitsLt_bf16_f32
@[inherit_doc ref_x] abbrev ref_shift (dh : FVec Ideal S4096x1024 .f32) : FVec Ideal S2x1x1024 .f32 :=
  broadcastInDim S2x1x1024 ![0, 2] bcast_S2x1024_S2x1x1024_0_2 (Host.reduceAdd (shapeCast _ dh shapeCasts_S4096x1024_S2x2048x1024) (constant S_ .f32 0x00000000#32) reducesTo_S2x2048x1024_S2x1024_d1 h_S_)
@[inherit_doc ref_x] abbrev ref_scale (dh x : FVec Ideal S4096x1024 .f32) (g : FVec Ideal S1x1024 .f32) : FVec Ideal S2x1x1024 .f32 :=
  broadcastInDim S2x1x1024 ![0, 2] bcast_S2x1024_S2x1x1024_0_2 (Host.reduceAdd (mulf (mulf (shapeCast _ dh shapeCasts_S4096x1024_S2x2048x1024) (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (broadcastInDim S2x2048x1024 ![0, 1, 2] bcast_S1x1x1024_S2x2048x1024_0_1_2 (broadcastInDim S1x1x1024 ![1, 2] bcast_S1x1024_S1x1x1024_1_2 g))) (constant S_ .f32 0x00000000#32) reducesTo_S2x2048x1024_S2x1024_d1 h_S_)
@[inherit_doc ref_x] abbrev ref_gate (d : FVec Ideal S2x2048x1024 .f32) (mx : FVec Ideal S4096x1024 .f32) (h : FVec Ideal S1x1024 .f32) : FVec Ideal S2x1x1024 .f32 :=
  broadcastInDim S2x1x1024 ![0, 2] bcast_S2x1024_S2x1x1024_0_2 (Host.reduceAdd (mulf (mulf d (mulf (shapeCast _ mx shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ mx shapeCasts_S4096x1024_S2x2048x1024) (shapeCast _ mx shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (broadcastInDim S2x2048x1024 ![0, 1, 2] bcast_S1x1x1024_S2x2048x1024_0_1_2 (broadcastInDim S1x1x1024 ![1, 2] bcast_S1x1024_S1x1x1024_1_2 h))) (constant S_ .f32 0x00000000#32) reducesTo_S2x2048x1024_S2x1024_d1 h_S_)
@[inherit_doc ref_x] abbrev ref_gain (dh x : FVec Ideal S4096x1024 .f32) (cd : FVec Ideal S2x6x1024 .f32) : FVec Ideal S1x1024 .f32 :=
  shapeCast _ (Host.reduceAdd (mulf (mulf (shapeCast _ dh shapeCasts_S4096x1024_S2x2048x1024) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 4, 0] cd slices_S2x6x1024_S2x1x1024_0_4_0)))) (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S1024_d0_1 h_S_) shapeCasts_S1024_S1x1024
@[inherit_doc ref_x] abbrev ref_gate_gain (d : FVec Ideal S2x2048x1024 .f32) (mx : FVec Ideal S4096x1024 .f32) (cd : FVec Ideal S2x6x1024 .f32) : FVec Ideal S1x1024 .f32 :=
  shapeCast _ (Host.reduceAdd (mulf (mulf d (broadcastInDim S2x2048x1024 ![0, 1, 2] bcast_S2x1x1024_S2x2048x1024_0_1_2 (extractStridedSlice S2x1x1024 ![0, 2, 0] cd slices_S2x6x1024_S2x1x1024_0_2_0))) (mulf (shapeCast _ mx shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ mx shapeCasts_S4096x1024_S2x2048x1024) (shapeCast _ mx shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S1024_d0_1 h_S_) shapeCasts_S1024_S1x1024

/-- The reference's results, row by row. -/
theorem ref_x_apply (dh dy x g cd) (j) : ref_x dh dy x g cd j = dx_row dh dy x g cd (j 0) (j 1) := by
  pointwise [ref_x, dx_seq, dx_row, streamBack, modBack, normedBack, normed, rowInv, rowMean, row, slab, seqOf]
@[inherit_doc ref_x_apply] theorem dx_slab (dh dy x g cd a b) : slab (dx_seq dh dy x g cd) a b = dx_row dh dy x g cd (inSeq a b) := by
  unfold dx_row
  rw [seqOf_inSeq]
  funext k
  pointwise [dx_seq, streamBack, modBack, normedBack, normed, rowInv, rowMean, row, slab, inSeq]
@[inherit_doc ref_x_apply] theorem ref_mix_apply (d mx h cd) (j) : ref_mix d mx h cd j
    = gateBack (slab d (seqOf (j 0)) (posOf (j 0))) (row mx (j 0)) (row h 0) (slab cd (seqOf (j 0)) 2) (j 1) := by
  pointwise [ref_mix, gateBack, normedBack, normed, rowInv, rowMean, row, slab, seqOf, posOf]
@[inherit_doc ref_x_apply] theorem ref_shift_apply (dh) (j) : ref_shift dh j = ∑ b, row dh (inSeq (j 0) b) (j 2) := by
  pointwise [ref_shift, row, inSeq]
@[inherit_doc ref_x_apply] theorem ref_scale_apply (dh x g) (j) : ref_scale dh x g j
    = ∑ b, gainedBack (row dh (inSeq (j 0) b)) (row x (inSeq (j 0) b)) (row g 0) (j 2) := by
  pointwise [ref_scale, gainedBack, normed, rowInv, rowMean, row, inSeq]
@[inherit_doc ref_x_apply] theorem ref_gate_apply (d mx h) (j) : ref_gate d mx h j
    = ∑ b, gainedBack (slab d (j 0) b) (row mx (inSeq (j 0) b)) (row h 0) (j 2) := by
  pointwise [ref_gate, gainedBack, normed, rowInv, rowMean, row, slab, inSeq]
@[inherit_doc ref_x_apply] theorem ref_gain_apply (dh x cd) (j) : ref_gain dh x cd j
    = ∑ l, gainBack (row dh l) (row x l) (slab cd (seqOf l) 4) (j 1) := by
  pointwise [ref_gain, sum_tokens]
  refine Fin.sum_mul_add_congr fun a b hl => ?_
  rw [seqOf_inSeq a b]
  pointwise [gainBack, modBack, normed, rowInv, rowMean, row, slab]
@[inherit_doc ref_x_apply] theorem ref_gate_gain_apply (d mx cd) (j) : ref_gate_gain d mx cd j
    = ∑ l, gateGainBack (slab d (seqOf l) (posOf l)) (row mx l) (slab cd (seqOf l) 2) (j 1) := by
  pointwise [ref_gate_gain, sum_tokens]
  refine Fin.sum_mul_add_congr fun a b hl => ?_
  rw [seqOf_inSeq a b, posOf_inSeq a b]
  pointwise [gateGainBack, normed, rowInv, rowMean, row, slab]

/-- A token's row of the reference's gradient of the stream. -/
theorem dx_token (dh dy x g cd l) : slab (dx_seq dh dy x g cd) (seqOf l) (posOf l) = dx_row dh dy x g cd l :=
  (dx_slab ..).trans (congrArg (dx_row dh dy x g cd) (inSeq_posOf l))

/-- The results that read the gradient of the stream, row by row. -/
theorem ref_mix_rows (dh dy x g mx h cd) (j) : ref_mix (dx_seq dh dy x g cd) mx h cd j
    = gateBack (dx_row dh dy x g cd (j 0)) (row mx (j 0)) (row h 0) (slab cd (seqOf (j 0)) 2) (j 1) := by
  rw [ref_mix_apply]
  exact congrArg (gateBack · _ _ _ (j 1)) (dx_token dh dy x g cd (j 0))
@[inherit_doc ref_mix_rows] theorem ref_gate_rows (dh dy x g cd mx h) (j) : ref_gate (dx_seq dh dy x g cd) mx h j
    = ∑ b, gainedBack (dx_row dh dy x g cd (inSeq (j 0) b)) (row mx (inSeq (j 0) b)) (row h 0) (j 2) := by
  rw [ref_gate_apply]
  refine Finset.sum_congr rfl fun b _ => ?_
  exact congrArg (gainedBack · _ _ (j 2)) (dx_slab dh dy x g cd (j 0) b)
@[inherit_doc ref_mix_rows] theorem ref_gate_gain_rows (dh dy x g mx cd) (j) : ref_gate_gain (dx_seq dh dy x g cd) mx cd j
    = ∑ l, gateGainBack (dx_row dh dy x g cd l) (row mx l) (slab cd (seqOf l) 2) (j 1) := by
  rw [ref_gate_gain_apply]
  refine Finset.sum_congr rfl fun l _ => ?_
  exact congrArg (gateGainBack · _ _ (j 1)) (dx_token dh dy x g cd l)
end reference
open Cert.BwdMidIdeal Cert.BwdMidIdeal.Gen

/-- Running the reference leaves the arguments as they were and no signal pending. -/
theorem frame_reference_ideal : Cert.quiescent_BwdMidReferenceIdeal := fun m g _ =>
  (θ_run Cert.BwdMidReferenceIdeal.defs _ _).mono
    (fun r h => ⟨fun c => (h c).2.2.2.2.2.2.2, sem_eq_zero_of_no_sems (by decide) r.2⟩)
    (Cert.BwdMidReferenceIdeal.Value.run (F := Ideal) m g)

/-- The block each window is at, point by point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val / 8, 0, 0]
    ∧ win0_7.index t = ![t.val, 0] ∧ win0_8.index t = ![t.val, 0] ∧ win0_9.index t = ![t.val / 8, 0, 0]
    ∧ win0_10.index t = ![t.val / 8, 0, 0] ∧ win0_11.index t = ![t.val / 8, 0, 0] ∧ win0_12.index t = ![0, 0] ∧ win0_13.index t = ![0, 0] :=
  (by decide +kernel : ∀ t : Fin grid0.N, _)

/-- A point is the first of all, the first of the second sequence, or neither. -/
theorem point (t : Fin cfg0.N) : t.val = 0 ∨ t.val = 8 ∨ (t.val < 16 ∧ ¬ t.val % 8 = 0) := by
  have := lt_of_lt_of_eq t.isLt N_0
  omega

/-- What the kernel writes at a point, row by row of the blocks it holds. -/
theorem pay_x (dh dy x : FVec Ideal S256x1024 .f32) (g : FVec Ideal S1x1024 .f32) (s : FVec Ideal S1x1x1024 .f32) (i) : k0_pay13 (F := Ideal) dh (k0_pay2 x) (k0_pay3 x) g s dy i
    = streamBack (row dh (i 0)) (row dy (i 0)) (row x (i 0)) (row g 0) (slab s 0 0) (i 1) := by
  pointwise [k0_pay13, k0_pay10, k0_pay2, k0_pay3, streamBack, modBack, normedBack, normed, rowInv, rowMean, row, slab]
@[inherit_doc pay_x] theorem pay_mix (d mx : FVec Ideal S256x1024 .f32) (h : FVec Ideal S1x1024 .f32) (s : FVec Ideal S1x1x1024 .f32) (i) :
    k0_pay1 (F := Ideal) (k0_pay14 mx) (k0_pay15 mx) (k0_pay22 d h s) (k0_pay23 d mx h s) i
    = gateBack (row d (i 0)) (row mx (i 0)) (row h 0) (slab s 0 0) (i 1) := by
  pointwise [k0_pay1, k0_pay23, k0_pay22, k0_pay19, k0_pay15, k0_pay14, gateBack, normedBack, normed, rowInv, rowMean, row, slab]
@[inherit_doc pay_x] theorem shift_first (dh : FVec Ideal S256x1024 .f32) (i) : k0_pay5 (F := Ideal) dh i = 0 + ∑ r, row dh r (i 2) := by
  pointwise [k0_pay5, k0_pay4, row]
@[inherit_doc pay_x] theorem shift_next (dh : FVec Ideal S256x1024 .f32) (a : FVec Ideal S1x1x1024 .f32) (i) : k0_pay6 (F := Ideal) dh a i = a i + ∑ r, row dh r (i 2) := by
  pointwise [k0_pay6, k0_pay4, row]
@[inherit_doc pay_x] theorem scale_first (dh x : FVec Ideal S256x1024 .f32) (g : FVec Ideal S1x1024 .f32) (i) : k0_pay8 (F := Ideal) (k0_pay7 dh x g) i
    = 0 + ∑ r, gainedBack (row dh r) (row x r) (row g 0) (i 2) := by
  pointwise [k0_pay8, k0_pay7, k0_pay3, k0_pay2, gainedBack, normed, rowInv, rowMean, row]
@[inherit_doc pay_x] theorem scale_next (dh x : FVec Ideal S256x1024 .f32) (g : FVec Ideal S1x1024 .f32) (a : FVec Ideal S1x1x1024 .f32) (i) : k0_pay9 (F := Ideal) (k0_pay7 dh x g) a i
    = a i + ∑ r, gainedBack (row dh r) (row x r) (row g 0) (i 2) := by
  pointwise [k0_pay9, k0_pay7, k0_pay3, k0_pay2, gainedBack, normed, rowInv, rowMean, row]
@[inherit_doc pay_x] theorem gate_first (d mx : FVec Ideal S256x1024 .f32) (h : FVec Ideal S1x1024 .f32) (i) : k0_pay17 (F := Ideal) d mx h i
    = 0 + ∑ r, gainedBack (row d r) (row mx r) (row h 0) (i 2) := by
  pointwise [k0_pay17, k0_pay16, k0_pay15, k0_pay14, gainedBack, normed, rowInv, rowMean, row]
@[inherit_doc pay_x] theorem gate_next (d mx : FVec Ideal S256x1024 .f32) (h : FVec Ideal S1x1024 .f32) (a : FVec Ideal S1x1x1024 .f32) (i) : k0_pay18 (F := Ideal) d mx h a i
    = a i + ∑ r, gainedBack (row d r) (row mx r) (row h 0) (i 2) := by
  pointwise [k0_pay18, k0_pay16, k0_pay15, k0_pay14, gainedBack, normed, rowInv, rowMean, row]
@[inherit_doc pay_x] theorem gain_first (dh x : FVec Ideal S256x1024 .f32) (s : FVec Ideal S1x1x1024 .f32) (i) : k0_pay11 (F := Ideal) dh (k0_pay3 x) s i
    = 0 + ∑ r, gainBack (row dh r) (row x r) (slab s 0 0) (i 1) := by
  pointwise [k0_pay11, k0_pay10, k0_pay3, k0_pay2, gainBack, modBack, normed, rowInv, rowMean, row, slab]
@[inherit_doc pay_x] theorem gain_next (dh x : FVec Ideal S256x1024 .f32) (s : FVec Ideal S1x1x1024 .f32) (a : FVec Ideal S1x1024 .f32) (i) : k0_pay12 (F := Ideal) dh (k0_pay3 x) s a i
    = a i + ∑ r, gainBack (row dh r) (row x r) (slab s 0 0) (i 1) := by
  pointwise [k0_pay12, k0_pay11, k0_pay10, k0_pay3, k0_pay2, gainBack, modBack, normed, rowInv, rowMean, row, slab]
@[inherit_doc pay_x] theorem gate_gain_first (d mx : FVec Ideal S256x1024 .f32) (s : FVec Ideal S1x1x1024 .f32) (i) : k0_pay20 (F := Ideal) d mx s i
    = 0 + ∑ r, gateGainBack (row d r) (row mx r) (slab s 0 0) (i 1) := by
  pointwise [k0_pay20, k0_pay19, k0_pay15, k0_pay14, gateGainBack, normed, rowInv, rowMean, row, slab]
@[inherit_doc pay_x] theorem gate_gain_next (d mx : FVec Ideal S256x1024 .f32) (s : FVec Ideal S1x1x1024 .f32) (a : FVec Ideal S1x1024 .f32) (i) : k0_pay21 (F := Ideal) d mx s a i
    = a i + ∑ r, gateGainBack (row d r) (row mx r) (slab s 0 0) (i 1) := by
  pointwise [k0_pay21, k0_pay20, k0_pay19, k0_pay15, k0_pay14, gateGainBack, normed, rowInv, rowMean, row, slab]

section launch
variable (m : (ℓ : Loc nD τ sig) → Buf (Elt Ideal) ℓ) (c : Dev nD) (t : Fin cfg0.N)

/-- A row of a block is the token's row of the whole array. -/
theorem row0 (r) : row (iblk m c 0 t) r = row (m ((c.tc : Thread nD τ).loc main_arg0)) (token N_0 t r) := funext fun _ => by unfold row; blk_ext [iblk, V, idx t]
@[inherit_doc row0] theorem row1 (r) : row (iblk m c 1 t) r = row (m ((c.tc : Thread nD τ).loc main_arg1)) (token N_0 t r) := funext fun _ => by unfold row; blk_ext [iblk, V, idx t]
@[inherit_doc row0] theorem row2 (r) : row (iblk m c 2 t) r = row (m ((c.tc : Thread nD τ).loc main_arg2)) (token N_0 t r) := funext fun _ => by unfold row; blk_ext [iblk, V, idx t]
@[inherit_doc row0] theorem row3 (r) : row (iblk m c 3 t) r = row (m ((c.tc : Thread nD τ).loc main_arg3)) (token N_0 t r) := funext fun _ => by unfold row; blk_ext [iblk, V, idx t]
@[inherit_doc row0] theorem row4 : row (iblk m c 4 t) 0 = row (m ((c.tc : Thread nD τ).loc main_arg4)) 0 := funext fun _ => by unfold row; blk_ext [iblk, V, idx t]
@[inherit_doc row0] theorem row5 : row (iblk m c 5 t) 0 = row (m ((c.tc : Thread nD τ).loc main_arg5)) 0 := funext fun _ => by unfold row; blk_ext [iblk, V, idx t]

/-- The scale and gate a block is given are those of its tokens' sequence. -/
theorem scale (r) : slab (View.ld (iblk m c 6 t) (Rect.unit ![0, 4, 0] ![1, 1, 1024] inb_S1x6x1024_S1x1x1024_0_4_0)) 0 0 = slab (m ((c.tc : Thread nD τ).loc main_arg6)) (seqOf (token N_0 t r)) 4 := funext fun _ => by
  pointwise [slab]
  blk_ext [iblk, V, idx t]
@[inherit_doc scale] theorem gate (r) : slab (View.ld (iblk m c 6 t) (Rect.unit ![0, 2, 0] ![1, 1, 1024] inb_S1x6x1024_S1x1x1024_0_2_0)) 0 0 = slab (m ((c.tc : Thread nD τ).loc main_arg6)) (seqOf (token N_0 t r)) 2 := funext fun _ => by
  pointwise [slab]
  blk_ext [iblk, V, idx t]

/-- A row of the stream's gradient at a point is the token's. -/
theorem dx_block (r) : row (k0_pay13 (F := Ideal) (iblk m c 0 t) (k0_pay2 (iblk m c 2 t)) (k0_pay3 (iblk m c 2 t)) (iblk m c 4 t) (View.ld (iblk m c 6 t) (Rect.unit ![0, 4, 0] ![1, 1, 1024] inb_S1x6x1024_S1x1x1024_0_4_0)) (iblk m c 1 t)) r = dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (token N_0 t r) :=
  funext fun k => (pay_x _ _ _ _ _ (ix2 r k)).trans (by
    show streamBack (row (iblk m c 0 t) r) (row (iblk m c 1 t) r) (row (iblk m c 2 t) r) (row (iblk m c 4 t) 0) _ k = _
    rw [row0, row1, row2, row4]
    exact congrArg (streamBack _ _ _ _ · k) (scale m c t r))

/-- What a row of a point's block adds to the gradients of the gate and of the gain that it multiplies. -/
theorem gate_block (r k) : gainedBack (row (k0_pay13 (F := Ideal) (iblk m c 0 t) (k0_pay2 (iblk m c 2 t)) (k0_pay3 (iblk m c 2 t)) (iblk m c 4 t) (View.ld (iblk m c 6 t) (Rect.unit ![0, 4, 0] ![1, 1, 1024] inb_S1x6x1024_S1x1x1024_0_4_0)) (iblk m c 1 t)) r) (row (iblk m c 3 t) r) (row (iblk m c 5 t) 0) k
    = gainedBack (dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (token N_0 t r)) (row (m ((c.tc : Thread nD τ).loc main_arg3)) (token N_0 t r)) (row (m ((c.tc : Thread nD τ).loc main_arg5)) 0) k := by
  rw [dx_block, row3, row5]
@[inherit_doc gate_block] theorem gate_gain_block (r k) : gateGainBack (row (k0_pay13 (F := Ideal) (iblk m c 0 t) (k0_pay2 (iblk m c 2 t)) (k0_pay3 (iblk m c 2 t)) (iblk m c 4 t) (View.ld (iblk m c 6 t) (Rect.unit ![0, 4, 0] ![1, 1, 1024] inb_S1x6x1024_S1x1x1024_0_4_0)) (iblk m c 1 t)) r) (row (iblk m c 3 t) r) (slab (View.ld (iblk m c 6 t) (Rect.unit ![0, 2, 0] ![1, 1, 1024] inb_S1x6x1024_S1x1x1024_0_2_0)) 0 0) k
    = gateGainBack (dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (token N_0 t r)) (row (m ((c.tc : Thread nD τ).loc main_arg3)) (token N_0 t r)) (slab (m ((c.tc : Thread nD τ).loc main_arg6)) (seqOf (token N_0 t r)) 2) k := by
  rw [dx_block, row3]
  exact congrArg (gateGainBack _ _ · k) (gate m c t r)

/-- What the kernel leaves of the stream's gradient at a point. -/
theorem at_x (i) : (outsAt0 m c t.val t.isLt).1 i = dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (token N_0 t (i 0)) (i 1) := by
  obtain ⟨r, k, rfl⟩ : ∃ (r : Fin 256) (k : Fin 1024), i = ix2 r k := ⟨i 0, i 1, (ix2_eta i).symm⟩
  show _ = dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (token N_0 t r) k
  rw [← dx_block]
  rcases point t with h | h | h
  · rw [outsAt0_A m c t (by omega) (by omega) (by omega) (by omega) (by omega) (by omega) (by omega) (by omega) (by omega) (by omega)]; frame_out; rfl
  · rw [outsAt0_C m c t (by omega) (by omega) (by omega) (by omega) (by omega) (by omega) (by omega) (by omega) (by omega) (by omega)]; frame_out; rfl
  · rw [outsAt0_B m c t (by omega) (by omega) (by omega) (by omega) (by omega) (by omega) (by omega) (by omega) (by omega) (by omega)]; frame_out; rfl

/-- What the kernel leaves of the gradient of the mixer's branch at a point. -/
theorem at_mix (i) : (outsAt0 m c t.val t.isLt).2.1 i = gateBack (dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (token N_0 t (i 0)))
    (row (m ((c.tc : Thread nD τ).loc main_arg3)) (token N_0 t (i 0))) (row (m ((c.tc : Thread nD τ).loc main_arg5)) 0) (slab (m ((c.tc : Thread nD τ).loc main_arg6)) (seqOf (token N_0 t (i 0))) 2) (i 1) := by
  obtain ⟨r, k, rfl⟩ : ∃ (r : Fin 256) (k : Fin 1024), i = ix2 r k := ⟨i 0, i 1, (ix2_eta i).symm⟩
  have e : gateBack (row (k0_pay13 (F := Ideal) (iblk m c 0 t) (k0_pay2 (iblk m c 2 t)) (k0_pay3 (iblk m c 2 t)) (iblk m c 4 t) (View.ld (iblk m c 6 t) (Rect.unit ![0, 4, 0] ![1, 1, 1024] inb_S1x6x1024_S1x1x1024_0_4_0)) (iblk m c 1 t)) r) (row (iblk m c 3 t) r) (row (iblk m c 5 t) 0) (slab (View.ld (iblk m c 6 t) (Rect.unit ![0, 2, 0] ![1, 1, 1024] inb_S1x6x1024_S1x1x1024_0_2_0)) 0 0) k
      = gateBack (dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (token N_0 t r)) (row (m ((c.tc : Thread nD τ).loc main_arg3)) (token N_0 t r)) (row (m ((c.tc : Thread nD τ).loc main_arg5)) 0) (slab (m ((c.tc : Thread nD τ).loc main_arg6)) (seqOf (token N_0 t r)) 2) k := by
    rw [dx_block, row3, row5]; exact congrArg (gateBack _ _ _ · k) (gate m c t r)
  rcases point t with h | h | h
  · rw [outsAt0_A m c t (by omega) (by omega) (by omega) (by omega) (by omega) (by omega) (by omega) (by omega) (by omega) (by omega)]; frame_out; exact (pay_mix ..).trans e
  · rw [outsAt0_C m c t (by omega) (by omega) (by omega) (by omega) (by omega) (by omega) (by omega) (by omega) (by omega) (by omega)]; frame_out; exact (pay_mix ..).trans e
  · rw [outsAt0_B m c t (by omega) (by omega) (by omega) (by omega) (by omega) (by omega) (by omega) (by omega) (by omega) (by omega)]; frame_out; exact (pay_mix ..).trans e

/-- The kernel's gradient of the stream is the reference's. -/
theorem final_x : (dats m 0 c).arrAt 7 cfg0.N = ref_x (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) := by
  refine (dats m 0 c).arrAt_eq_of_covers 7 _ (by decide +kernel) fun t _ y => ?_
  blk_simp
  obtain ⟨j, hj, e0, e1⟩ : ∃ j : S4096x1024.Idx, ((cfg0.win 7).blk t).view.emb y = j
      ∧ j 0 = token N_0 t (y 0) ∧ j 1 = y 1 := ⟨_, rfl, Fin.ext (by blk_simp [idx t]), Fin.ext (by blk_simp [idx t])⟩
  rw [after0_7, hj, ref_x_apply, e0, e1]
  exact at_x m c t y

/-- The kernel's gradient of the mixer's branch is the reference's. -/
theorem final_mix : (dats m 0 c).arrAt 8 cfg0.N = ref_mix (dx_seq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6))) (m ((c.tc : Thread nD τ).loc main_arg3)) (m ((c.tc : Thread nD τ).loc main_arg5)) (m ((c.tc : Thread nD τ).loc main_arg6)) := by
  refine (dats m 0 c).arrAt_eq_of_covers 8 _ (by decide +kernel) fun t _ y => ?_
  blk_simp
  obtain ⟨j, hj, e0, e1⟩ : ∃ j : S4096x1024.Idx, ((cfg0.win 8).blk t).view.emb y = j
      ∧ j 0 = token N_0 t (y 0) ∧ j 1 = y 1 := ⟨_, rfl, Fin.ext (by blk_simp [idx t]), Fin.ext (by blk_simp [idx t])⟩
  rw [after0_8, hj, ref_mix_rows, e0, e1]
  exact at_mix m c t y

/-- The kernel's gradient of the shift is the reference's. -/
theorem final_shift : (dats m 0 c).arrAt 9 cfg0.N = ref_shift (m ((c.tc : Thread nD τ).loc main_arg0)) := by
  refine (dats m 0 c).arrAt_eq_of_covers 9 _ (by decide +kernel) fun t hf y => ?_
  blk_simp
  obtain ⟨j, hj, e0, e2⟩ : ∃ j : S2x1x1024.Idx, ((cfg0.win 9).blk t).view.emb y = j
      ∧ (j 0).val = t.val / 8 ∧ j 2 = y 2 := ⟨_, rfl, by blk_simp [idx t], Fin.ext (by blk_simp [idx t])⟩
  rw [after0_9, hj, ref_shift_apply, e2]
  refine over_sequence N_0 (fun n h => (outsAt0 m c n h).2.2.1) (fun l => row (m ((c.tc : Thread nD τ).loc main_arg0)) l)
    (fun t h j => ?_) (fun t h j => ?_) t ((flush0_9 t).mp hf) (j 0) e0 y
  · rcases point t with h' | h' | h'
    · rw [outsAt0_A m c t (by omega) (by omega) (by omega) (by omega) (by omega) (by omega) (by omega) (by omega) (by omega) (by omega)]; frame_out; rw [shift_first]; simp only [row0]
    · rw [outsAt0_C m c t (by omega) (by omega) (by omega) (by omega) (by omega) (by omega) (by omega) (by omega) (by omega) (by omega)]; frame_out; rw [shift_first]; simp only [row0]
    · omega
  · rcases point t with h' | h' | h'
    · omega
    · omega
    · rw [outsAt0_B m c t (by omega) (by omega) (by omega) (by omega) (by omega) (by omega) (by omega) (by omega) (by omega) (by omega)]; frame_out; rw [shift_next]; simp only [row0]

/-- The kernel's gradient of the scale is the reference's. -/
theorem final_scale : (dats m 0 c).arrAt 10 cfg0.N = ref_scale (m ((c.tc : Thread nD τ).loc main_arg0)) (m ((c.tc : Thread nD τ).loc main_arg2)) (m ((c.tc : Thread nD τ).loc main_arg4)) := by
  refine (dats m 0 c).arrAt_eq_of_covers 10 _ (by decide +kernel) fun t hf y => ?_
  blk_simp
  obtain ⟨j, hj, e0, e2⟩ : ∃ j : S2x1x1024.Idx, ((cfg0.win 10).blk t).view.emb y = j
      ∧ (j 0).val = t.val / 8 ∧ j 2 = y 2 := ⟨_, rfl, by blk_simp [idx t], Fin.ext (by blk_simp [idx t])⟩
  rw [after0_10, hj, ref_scale_apply, e2]
  refine over_sequence N_0 (fun n h => (outsAt0 m c n h).2.2.2.1) (fun l => gainedBack (row (m ((c.tc : Thread nD τ).loc main_arg0)) l) (row (m ((c.tc : Thread nD τ).loc main_arg2)) l) (row (m ((c.tc : Thread nD τ).loc main_arg4)) 0))
    (fun t h j => ?_) (fun t h j => ?_) t ((flush0_10 t).mp hf) (j 0) e0 y
  · rcases point t with h' | h' | h'
    · rw [outsAt0_A m c t (by omega) (by omega) (by omega) (by omega) (by omega) (by omega) (by omega) (by omega) (by omega) (by omega)]; frame_out; rw [scale_first]; simp only [row0, row2, row4]
    · rw [outsAt0_C m c t (by omega) (by omega) (by omega) (by omega) (by omega) (by omega) (by omega) (by omega) (by omega) (by omega)]; frame_out; rw [scale_first]; simp only [row0, row2, row4]
    · omega
  · rcases point t with h' | h' | h'
    · omega
    · omega
    · rw [outsAt0_B m c t (by omega) (by omega) (by omega) (by omega) (by omega) (by omega) (by omega) (by omega) (by omega) (by omega)]; frame_out; rw [scale_next]; simp only [row0, row2, row4]

/-- The kernel's gradient of the gate is the reference's. -/
theorem final_gate : (dats m 0 c).arrAt 11 cfg0.N = ref_gate (dx_seq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6))) (m ((c.tc : Thread nD τ).loc main_arg3)) (m ((c.tc : Thread nD τ).loc main_arg5)) := by
  refine (dats m 0 c).arrAt_eq_of_covers 11 _ (by decide +kernel) fun t hf y => ?_
  blk_simp
  obtain ⟨j, hj, e0, e2⟩ : ∃ j : S2x1x1024.Idx, ((cfg0.win 11).blk t).view.emb y = j
      ∧ (j 0).val = t.val / 8 ∧ j 2 = y 2 := ⟨_, rfl, by blk_simp [idx t], Fin.ext (by blk_simp [idx t])⟩
  rw [after0_11, hj, ref_gate_rows, e2]
  refine over_sequence N_0 (fun n h => (outsAt0 m c n h).2.2.2.2.1) (fun l => gainedBack (dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) l) (row (m ((c.tc : Thread nD τ).loc main_arg3)) l) (row (m ((c.tc : Thread nD τ).loc main_arg5)) 0))
    (fun t h j => ?_) (fun t h j => ?_) t ((flush0_11 t).mp hf) (j 0) e0 y
  · rcases point t with h' | h' | h'
    · rw [outsAt0_A m c t (by omega) (by omega) (by omega) (by omega) (by omega) (by omega) (by omega) (by omega) (by omega) (by omega)]; frame_out; rw [gate_first]; exact congrArg (_ + ·) (Finset.sum_congr rfl fun r _ => gate_block m c t r (j 2))
    · rw [outsAt0_C m c t (by omega) (by omega) (by omega) (by omega) (by omega) (by omega) (by omega) (by omega) (by omega) (by omega)]; frame_out; rw [gate_first]; exact congrArg (_ + ·) (Finset.sum_congr rfl fun r _ => gate_block m c t r (j 2))
    · omega
  · rcases point t with h' | h' | h'
    · omega
    · omega
    · rw [outsAt0_B m c t (by omega) (by omega) (by omega) (by omega) (by omega) (by omega) (by omega) (by omega) (by omega) (by omega)]; frame_out; rw [gate_next]; exact congrArg (_ + ·) (Finset.sum_congr rfl fun r _ => gate_block m c t r (j 2))

/-- The kernel's gradient of the gain before the feed-forward branch is the reference's. -/
theorem final_gain : (dats m 0 c).arrAt 12 cfg0.N = ref_gain (m ((c.tc : Thread nD τ).loc main_arg0)) (m ((c.tc : Thread nD τ).loc main_arg2)) (m ((c.tc : Thread nD τ).loc main_arg6)) := by
  refine (dats m 0 c).arrAt_eq_of_covers 12 _ (by decide +kernel) fun t hf y => ?_
  blk_simp
  obtain ⟨j, hj, e1⟩ : ∃ j : S1x1024.Idx, ((cfg0.win 12).blk t).view.emb y = j
      ∧ j 1 = y 1 := ⟨_, rfl, Fin.ext (by blk_simp [idx t])⟩
  rw [after0_12, hj, ref_gain_apply, e1]
  refine over_tokens N_0 (fun n h => (outsAt0 m c n h).2.2.2.2.2.1)
    (fun l j => gainBack (row (m ((c.tc : Thread nD τ).loc main_arg0)) l) (row (m ((c.tc : Thread nD τ).loc main_arg2)) l) (slab (m ((c.tc : Thread nD τ).loc main_arg6)) (seqOf l) 4) (j 1))
    (fun t h j => ?_) (fun t h j => ?_) t ((flush0_12 t).mp hf) y
  · rcases point t with h' | h' | h'
    · rw [outsAt0_A m c t (by omega) (by omega) (by omega) (by omega) (by omega) (by omega) (by omega) (by omega) (by omega) (by omega)]; frame_out; rw [gain_first]; simp only [row0, row2]; exact congrArg (_ + ·) (Finset.sum_congr rfl fun r _ => congrArg (gainBack _ _ · (j 1)) (scale m c t r))
    · omega
    · omega
  · rcases point t with h' | h' | h'
    · omega
    · rw [outsAt0_C m c t (by omega) (by omega) (by omega) (by omega) (by omega) (by omega) (by omega) (by omega) (by omega) (by omega)]; frame_out; rw [gain_next]; simp only [row0, row2]; exact congrArg (_ + ·) (Finset.sum_congr rfl fun r _ => congrArg (gainBack _ _ · (j 1)) (scale m c t r))
    · rw [outsAt0_B m c t (by omega) (by omega) (by omega) (by omega) (by omega) (by omega) (by omega) (by omega) (by omega) (by omega)]; frame_out; rw [gain_next]; simp only [row0, row2]; exact congrArg (_ + ·) (Finset.sum_congr rfl fun r _ => congrArg (gainBack _ _ · (j 1)) (scale m c t r))

/-- The kernel's gradient of the gain after the mixer's branch is the reference's. -/
theorem final_gate_gain : (dats m 0 c).arrAt 13 cfg0.N = ref_gate_gain (dx_seq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6))) (m ((c.tc : Thread nD τ).loc main_arg3)) (m ((c.tc : Thread nD τ).loc main_arg6)) := by
  refine (dats m 0 c).arrAt_eq_of_covers 13 _ (by decide +kernel) fun t hf y => ?_
  blk_simp
  obtain ⟨j, hj, e1⟩ : ∃ j : S1x1024.Idx, ((cfg0.win 13).blk t).view.emb y = j
      ∧ j 1 = y 1 := ⟨_, rfl, Fin.ext (by blk_simp [idx t])⟩
  rw [after0_13, hj, ref_gate_gain_rows, e1]
  refine over_tokens N_0 (fun n h => (outsAt0 m c n h).2.2.2.2.2.2)
    (fun l j => gateGainBack (dx_row (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) l) (row (m ((c.tc : Thread nD τ).loc main_arg3)) l) (slab (m ((c.tc : Thread nD τ).loc main_arg6)) (seqOf l) 2) (j 1))
    (fun t h j => ?_) (fun t h j => ?_) t ((flush0_13 t).mp hf) y
  · rcases point t with h' | h' | h'
    · rw [outsAt0_A m c t (by omega) (by omega) (by omega) (by omega) (by omega) (by omega) (by omega) (by omega) (by omega) (by omega)]; frame_out; rw [gate_gain_first]; exact congrArg (_ + ·) (Finset.sum_congr rfl fun r _ => gate_gain_block m c t r (j 1))
    · omega
    · omega
  · rcases point t with h' | h' | h'
    · omega
    · rw [outsAt0_C m c t (by omega) (by omega) (by omega) (by omega) (by omega) (by omega) (by omega) (by omega) (by omega) (by omega)]; frame_out; rw [gate_gain_next]; exact congrArg (_ + ·) (Finset.sum_congr rfl fun r _ => gate_gain_block m c t r (j 1))
    · rw [outsAt0_B m c t (by omega) (by omega) (by omega) (by omega) (by omega) (by omega) (by omega) (by omega) (by omega) (by omega)]; frame_out; rw [gate_gain_next]; exact congrArg (_ + ·) (Finset.sum_congr rfl fun r _ => gate_gain_block m c t r (j 1))
end launch

/-- The kernel's results are the reference's. -/
theorem algebraic : Cert.algebraic_BwdMidIdeal_BwdMidReferenceIdeal := fun m g m' g' _ h =>
  ⟨_, _, _, _, _, _, _, Cert.BwdMidIdeal.Value.run_blocks (F := Ideal) m g,
    (θ_run Cert.BwdMidReferenceIdeal.defs _ _).mono
      (fun r hr c => by
        obtain ⟨h0, h1, h2, h3, h4, h5, h6⟩ := h c
        obtain ⟨r0, r1, r2, r3, r4, r5, r6, rs⟩ := hr c
        refine ⟨r0.trans ?_, r1.trans ?_, r2.trans ?_, r3.trans ?_, r4.trans ?_, r5.trans ?_, r6.trans ?_, rs⟩
        · rw [h0, h1, h2, h4, h6]; exact (final_x m c).symm
        · unfold Cert.BwdMidReferenceIdeal.Value.res_main_v65; rw [h0, h1, h2, h3, h4, h5, h6]; exact (final_mix m c).symm
        · rw [h0]; exact (final_shift m c).symm
        · rw [h0, h2, h4]; exact (final_scale m c).symm
        · unfold Cert.BwdMidReferenceIdeal.Value.res_main_v79; rw [h0, h1, h2, h3, h4, h5, h6]; exact (final_gate m c).symm
        · rw [h0, h2, h6]; exact (final_gain m c).symm
        · unfold Cert.BwdMidReferenceIdeal.Value.res_main_v85; rw [h0, h1, h2, h3, h4, h6]; exact (final_gate_gain m c).symm)
      (Cert.BwdMidReferenceIdeal.Value.run (F := Ideal) m' g')⟩

end Cert.BwdMidNorm

namespace Cert.BwdPreNorm
open Cert.Rows

section reference
open Cert.BwdPreReferenceIdeal Cert.BwdPreReferenceIdeal.Gen

/-- The reference's results, as it computes them. -/
abbrev ref_x (dh dx x : FVec Ideal S4096x1024 .f32) (g : FVec Ideal S1x1024 .f32) (cd : FVec Ideal S2x6x1024 .f32) : FVec Ideal S4096x1024 .f32 :=
  shapeCast _ (addf (shapeCast _ dx shapeCasts_S4096x1024_S2x2048x1024) (mulf (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))) (subf (mulf (mulf (shapeCast _ dh shapeCasts_S4096x1024_S2x2048x1024) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 1, 0] cd slices_S2x6x1024_S2x1x1024_0_1_0)))) (broadcastInDim S2x2048x1024 ![0, 1, 2] bcast_S1x1x1024_S2x2048x1024_0_1_2 (broadcastInDim S1x1x1024 ![1, 2] bcast_S1x1024_S1x1x1024_1_2 g))) (mulf (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S2x2048x1_S2x2048x1024_0_1_2 (Host.divf (broadcastInDim S2x2048x1 ![0, 1] bcast_S2x2048_S2x2048x1_0_1 (Host.reduceAdd (mulf (mulf (mulf (shapeCast _ dh shapeCasts_S4096x1024_S2x2048x1024) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 1, 0] cd slices_S2x6x1024_S2x1x1024_0_1_0)))) (broadcastInDim S2x2048x1024 ![0, 1, 2] bcast_S1x1x1024_S2x2048x1024_0_1_2 (broadcastInDim S1x1x1024 ![1, 2] bcast_S1x1024_S1x1x1024_1_2 g))) (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S2x2048_d2 h_S_)) (broadcastInDim S2x2048x1 ![] bcast_S_S2x2048x1 (constant S_ .f32 0x44800000#32)))))))) shapeCasts_S2x2048x1024_S4096x1024
@[inherit_doc ref_x] abbrev ref_shift (dh : FVec Ideal S4096x1024 .f32) : FVec Ideal S2x1x1024 .f32 :=
  broadcastInDim S2x1x1024 ![0, 2] bcast_S2x1024_S2x1x1024_0_2 (Host.reduceAdd (shapeCast _ dh shapeCasts_S4096x1024_S2x2048x1024) (constant S_ .f32 0x00000000#32) reducesTo_S2x2048x1024_S2x1024_d1 h_S_)
@[inherit_doc ref_x] abbrev ref_scale (dh x : FVec Ideal S4096x1024 .f32) (g : FVec Ideal S1x1024 .f32) : FVec Ideal S2x1x1024 .f32 :=
  broadcastInDim S2x1x1024 ![0, 2] bcast_S2x1024_S2x1x1024_0_2 (Host.reduceAdd (mulf (mulf (shapeCast _ dh shapeCasts_S4096x1024_S2x2048x1024) (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (broadcastInDim S2x2048x1024 ![0, 1, 2] bcast_S1x1x1024_S2x2048x1024_0_1_2 (broadcastInDim S1x1x1024 ![1, 2] bcast_S1x1024_S1x1x1024_1_2 g))) (constant S_ .f32 0x00000000#32) reducesTo_S2x2048x1024_S2x1024_d1 h_S_)
@[inherit_doc ref_x] abbrev ref_gain (dh x : FVec Ideal S4096x1024 .f32) (cd : FVec Ideal S2x6x1024 .f32) : FVec Ideal S1x1024 .f32 :=
  shapeCast _ (Host.reduceAdd (mulf (mulf (shapeCast _ dh shapeCasts_S4096x1024_S2x2048x1024) (broadcastInDim S2x2048x1024 ![0, 1, 2] bcast_S2x1x1024_S2x2048x1024_0_1_2 (addf (broadcastInDim S2x1x1024 ![] bcast_S_S2x1x1024 (constant S_ .f32 0x3F800000#32)) (extractStridedSlice S2x1x1024 ![0, 1, 0] cd slices_S2x6x1024_S2x1x1024_0_1_0)))) (mulf (shapeCast _ x shapeCasts_S4096x1024_S2x2048x1024) (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf (shapeCast _ x shapeCasts_S4096x1024_S2x2048x1024) (shapeCast _ x shapeCasts_S4096x1024_S2x2048x1024)) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))))))) (constant S_ .f32 0x00000000#32) reducesTo_S2x2048x1024_S1024_d0_1 h_S_) shapeCasts_S1024_S1x1024

/-- The reference's results, row by row. -/
theorem ref_x_apply (dh dx x g cd) (j) : ref_x dh dx x g cd j
    = streamBack (row dh (j 0)) (row dx (j 0)) (row x (j 0)) (row g 0) (slab cd (seqOf (j 0)) 1) (j 1) := by
  pointwise [ref_x, streamBack, modBack, normedBack, normed, rowInv, rowMean, row, slab, seqOf]
@[inherit_doc ref_x_apply] theorem ref_shift_apply (dh) (j) : ref_shift dh j = ∑ b, row dh (inSeq (j 0) b) (j 2) := by
  pointwise [ref_shift, row, inSeq]
@[inherit_doc ref_x_apply] theorem ref_scale_apply (dh x g) (j) : ref_scale dh x g j
    = ∑ b, gainedBack (row dh (inSeq (j 0) b)) (row x (inSeq (j 0) b)) (row g 0) (j 2) := by
  pointwise [ref_scale, gainedBack, normed, rowInv, rowMean, row, inSeq]
@[inherit_doc ref_x_apply] theorem ref_gain_apply (dh x cd) (j) : ref_gain dh x cd j
    = ∑ l, gainBack (row dh l) (row x l) (slab cd (seqOf l) 1) (j 1) := by
  pointwise [ref_gain, sum_tokens]
  refine Fin.sum_mul_add_congr fun a b hl => ?_
  rw [seqOf_inSeq a b]
  pointwise [gainBack, modBack, normed, rowInv, rowMean, row, slab]
end reference
open Cert.BwdPreIdeal Cert.BwdPreIdeal.Gen

/-- Running the reference leaves the arguments as they were and no signal pending. -/
theorem frame_reference_ideal : Cert.quiescent_BwdPreReferenceIdeal := fun m g _ =>
  (θ_run Cert.BwdPreReferenceIdeal.defs _ _).mono
    (fun r h => ⟨fun c => (h c).2.2.2.2, sem_eq_zero_of_no_sems (by decide) r.2⟩)
    (Cert.BwdPreReferenceIdeal.Value.run (F := Ideal) m g)

/-- The block each window is at, point by point. -/
theorem idx : ∀ t : Fin cfg0.N, win0_0.index t = ![t.val, 0] ∧ win0_1.index t = ![t.val, 0] ∧ win0_2.index t = ![t.val, 0]
    ∧ win0_3.index t = ![0, 0] ∧ win0_4.index t = ![t.val / 8, 0, 0] ∧ win0_5.index t = ![t.val, 0]
    ∧ win0_6.index t = ![t.val / 8, 0, 0] ∧ win0_7.index t = ![t.val / 8, 0, 0] ∧ win0_8.index t = ![0, 0] :=
  (by decide +kernel : ∀ t : Fin grid0.N, _)

/-- A point is the first of all, the first of the second sequence, or neither. -/
theorem point (t : Fin cfg0.N) : t.val = 0 ∨ t.val = 8 ∨ (t.val < 16 ∧ ¬ t.val % 8 = 0) := by
  have := lt_of_lt_of_eq t.isLt N_0
  omega

/-- What the kernel writes at a point, row by row of the blocks it holds. -/
theorem pay_x (dh dx x : FVec Ideal S256x1024 .f32) (g : FVec Ideal S1x1024 .f32) (s : FVec Ideal S1x1x1024 .f32) (i) : k0_pay6 (F := Ideal) dh (k0_pay7 x) (k0_pay8 x) g s dx i
    = streamBack (row dh (i 0)) (row dx (i 0)) (row x (i 0)) (row g 0) (slab s 0 0) (i 1) := by
  pointwise [k0_pay6, k0_pay3, k0_pay8, k0_pay7, streamBack, modBack, normedBack, normed, rowInv, rowMean, row, slab]
@[inherit_doc pay_x] theorem shift_first (dh : FVec Ideal S256x1024 .f32) (i) : k0_pay10 (F := Ideal) dh i = 0 + ∑ r, row dh r (i 2) := by
  pointwise [k0_pay10, k0_pay9, row]
@[inherit_doc pay_x] theorem shift_next (dh : FVec Ideal S256x1024 .f32) (a : FVec Ideal S1x1x1024 .f32) (i) : k0_pay11 (F := Ideal) dh a i = a i + ∑ r, row dh r (i 2) := by
  pointwise [k0_pay11, k0_pay9, row]
@[inherit_doc pay_x] theorem scale_first (dh x : FVec Ideal S256x1024 .f32) (g : FVec Ideal S1x1024 .f32) (i) : k0_pay1 (F := Ideal) (k0_pay12 dh x g) i
    = 0 + ∑ r, gainedBack (row dh r) (row x r) (row g 0) (i 2) := by
  pointwise [k0_pay1, k0_pay12, k0_pay8, k0_pay7, gainedBack, normed, rowInv, rowMean, row]
@[inherit_doc pay_x] theorem scale_next (dh x : FVec Ideal S256x1024 .f32) (g : FVec Ideal S1x1024 .f32) (a : FVec Ideal S1x1x1024 .f32) (i) : k0_pay2 (F := Ideal) (k0_pay12 dh x g) a i
    = a i + ∑ r, gainedBack (row dh r) (row x r) (row g 0) (i 2) := by
  pointwise [k0_pay2, k0_pay12, k0_pay8, k0_pay7, gainedBack, normed, rowInv, rowMean, row]
@[inherit_doc pay_x] theorem gain_first (dh x : FVec Ideal S256x1024 .f32) (s : FVec Ideal S1x1x1024 .f32) (i) : k0_pay4 (F := Ideal) dh (k0_pay8 x) s i
    = 0 + ∑ r, gainBack (row dh r) (row x r) (slab s 0 0) (i 1) := by
  pointwise [k0_pay4, k0_pay3, k0_pay8, k0_pay7, gainBack, modBack, normed, rowInv, rowMean, row, slab]
@[inherit_doc pay_x] theorem gain_next (dh x : FVec Ideal S256x1024 .f32) (s : FVec Ideal S1x1x1024 .f32) (a : FVec Ideal S1x1024 .f32) (i) : k0_pay5 (F := Ideal) dh (k0_pay8 x) s a i
    = a i + ∑ r, gainBack (row dh r) (row x r) (slab s 0 0) (i 1) := by
  pointwise [k0_pay5, k0_pay4, k0_pay3, k0_pay8, k0_pay7, gainBack, modBack, normed, rowInv, rowMean, row, slab]

section launch
variable (m : (ℓ : Loc nD τ sig) → Buf (Elt Ideal) ℓ) (c : Dev nD) (t : Fin cfg0.N)

/-- A row of a block is the token's row of the whole array. -/
theorem row0 (r) : row (iblk m c 0 t) r = row (m ((c.tc : Thread nD τ).loc main_arg0)) (token N_0 t r) := funext fun _ => by unfold row; blk_ext [iblk, V, idx t]
@[inherit_doc row0] theorem row1 (r) : row (iblk m c 1 t) r = row (m ((c.tc : Thread nD τ).loc main_arg1)) (token N_0 t r) := funext fun _ => by unfold row; blk_ext [iblk, V, idx t]
@[inherit_doc row0] theorem row2 (r) : row (iblk m c 2 t) r = row (m ((c.tc : Thread nD τ).loc main_arg2)) (token N_0 t r) := funext fun _ => by unfold row; blk_ext [iblk, V, idx t]
@[inherit_doc row0] theorem row3 : row (iblk m c 3 t) 0 = row (m ((c.tc : Thread nD τ).loc main_arg3)) 0 := funext fun _ => by unfold row; blk_ext [iblk, V, idx t]

/-- The scale a block is given is that of its tokens' sequence. -/
theorem row4 (r) : slab (View.ld (iblk m c 4 t) (Rect.unit ![0, 1, 0] ![1, 1, 1024] inb_S1x6x1024_S1x1x1024_0_1_0)) 0 0
    = slab (m ((c.tc : Thread nD τ).loc main_arg4)) (seqOf (token N_0 t r)) 1 := funext fun _ => by
  pointwise [slab]
  blk_ext [iblk, V, idx t]

/-- What the kernel leaves of the gradient of `x` at a point. -/
theorem at_x (i) : (outsAt0 m c t.val t.isLt).1 i = streamBack (row (m ((c.tc : Thread nD τ).loc main_arg0)) (token N_0 t (i 0))) (row (m ((c.tc : Thread nD τ).loc main_arg1)) (token N_0 t (i 0)))
    (row (m ((c.tc : Thread nD τ).loc main_arg2)) (token N_0 t (i 0))) (row (m ((c.tc : Thread nD τ).loc main_arg3)) 0) (slab (m ((c.tc : Thread nD τ).loc main_arg4)) (seqOf (token N_0 t (i 0))) 1) (i 1) := by
  obtain ⟨r, hr⟩ : ∃ r : Fin 256, r = i 0 := ⟨_, rfl⟩
  rw [← hr]
  rcases point t with h | h | h
  · rw [outsAt0_A m c t (by omega) (by omega) (by omega) (by omega) (by omega) (by omega)]; frame_out; rw [pay_x, ← hr, row0, row1, row2, row3]; exact congrArg (streamBack _ _ _ _ · (i 1)) (row4 m c t r)
  · rw [outsAt0_C m c t (by omega) (by omega) (by omega) (by omega) (by omega) (by omega)]; frame_out; rw [pay_x, ← hr, row0, row1, row2, row3]; exact congrArg (streamBack _ _ _ _ · (i 1)) (row4 m c t r)
  · rw [outsAt0_B m c t (by omega) (by omega) (by omega) (by omega) (by omega) (by omega)]; frame_out; rw [pay_x, ← hr, row0, row1, row2, row3]; exact congrArg (streamBack _ _ _ _ · (i 1)) (row4 m c t r)

/-- The kernel's gradient of `x` is the reference's. -/
theorem final_x : (dats m 0 c).arrAt 5 cfg0.N
    = ref_x (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  obtain ⟨j, hj, e0, e1⟩ : ∃ j : S4096x1024.Idx, ((cfg0.win 5).blk t).view.emb y = j
      ∧ j 0 = token N_0 t (y 0) ∧ j 1 = y 1 := ⟨_, rfl, Fin.ext (by blk_simp [idx t]), Fin.ext (by blk_simp [idx t])⟩
  rw [after0_5, hj, ref_x_apply, e0, e1]
  exact at_x m c t y

/-- The kernel's gradient of the shift is the reference's. -/
theorem final_shift : (dats m 0 c).arrAt 6 cfg0.N = ref_shift (m ((c.tc : Thread nD τ).loc main_arg0)) := by
  refine (dats m 0 c).arrAt_eq_of_covers 6 _ (by decide +kernel) fun t hf y => ?_
  blk_simp
  obtain ⟨j, hj, e0, e2⟩ : ∃ j : S2x1x1024.Idx, ((cfg0.win 6).blk t).view.emb y = j
      ∧ (j 0).val = t.val / 8 ∧ j 2 = y 2 := ⟨_, rfl, by blk_simp [idx t], Fin.ext (by blk_simp [idx t])⟩
  rw [after0_6, hj, ref_shift_apply, e2]
  refine over_sequence N_0 (fun n h => (outsAt0 m c n h).2.1) (fun l => row (m ((c.tc : Thread nD τ).loc main_arg0)) l)
    (fun t h j => ?_) (fun t h j => ?_) t ((flush0_6 t).mp hf) (j 0) e0 y
  · rcases point t with h' | h' | h'
    · rw [outsAt0_A m c t (by omega) (by omega) (by omega) (by omega) (by omega) (by omega)]; frame_out; rw [shift_first]; simp only [row0]
    · rw [outsAt0_C m c t (by omega) (by omega) (by omega) (by omega) (by omega) (by omega)]; frame_out; rw [shift_first]; simp only [row0]
    · omega
  · rcases point t with h' | h' | h'
    · omega
    · omega
    · rw [outsAt0_B m c t (by omega) (by omega) (by omega) (by omega) (by omega) (by omega)]; frame_out; rw [shift_next]; simp only [row0]

/-- The kernel's gradient of the scale is the reference's. -/
theorem final_scale : (dats m 0 c).arrAt 7 cfg0.N = ref_scale (m ((c.tc : Thread nD τ).loc main_arg0)) (m ((c.tc : Thread nD τ).loc main_arg2)) (m ((c.tc : Thread nD τ).loc main_arg3)) := by
  refine (dats m 0 c).arrAt_eq_of_covers 7 _ (by decide +kernel) fun t hf y => ?_
  blk_simp
  obtain ⟨j, hj, e0, e2⟩ : ∃ j : S2x1x1024.Idx, ((cfg0.win 7).blk t).view.emb y = j
      ∧ (j 0).val = t.val / 8 ∧ j 2 = y 2 := ⟨_, rfl, by blk_simp [idx t], Fin.ext (by blk_simp [idx t])⟩
  rw [after0_7, hj, ref_scale_apply, e2]
  refine over_sequence N_0 (fun n h => (outsAt0 m c n h).2.2.1) (fun l => gainedBack (row (m ((c.tc : Thread nD τ).loc main_arg0)) l) (row (m ((c.tc : Thread nD τ).loc main_arg2)) l) (row (m ((c.tc : Thread nD τ).loc main_arg3)) 0))
    (fun t h j => ?_) (fun t h j => ?_) t ((flush0_7 t).mp hf) (j 0) e0 y
  · rcases point t with h' | h' | h'
    · rw [outsAt0_A m c t (by omega) (by omega) (by omega) (by omega) (by omega) (by omega)]; frame_out; rw [scale_first]; simp only [row0, row2, row3]
    · rw [outsAt0_C m c t (by omega) (by omega) (by omega) (by omega) (by omega) (by omega)]; frame_out; rw [scale_first]; simp only [row0, row2, row3]
    · omega
  · rcases point t with h' | h' | h'
    · omega
    · omega
    · rw [outsAt0_B m c t (by omega) (by omega) (by omega) (by omega) (by omega) (by omega)]; frame_out; rw [scale_next]; simp only [row0, row2, row3]

/-- The kernel's gradient of the gain is the reference's. -/
theorem final_gain : (dats m 0 c).arrAt 8 cfg0.N = ref_gain (m ((c.tc : Thread nD τ).loc main_arg0)) (m ((c.tc : Thread nD τ).loc main_arg2)) (m ((c.tc : Thread nD τ).loc main_arg4)) := by
  refine (dats m 0 c).arrAt_eq_of_covers 8 _ (by decide +kernel) fun t hf y => ?_
  blk_simp
  obtain ⟨j, hj, e1⟩ : ∃ j : S1x1024.Idx, ((cfg0.win 8).blk t).view.emb y = j
      ∧ j 1 = y 1 := ⟨_, rfl, Fin.ext (by blk_simp [idx t])⟩
  rw [after0_8, hj, ref_gain_apply, e1]
  refine over_tokens N_0 (fun n h => (outsAt0 m c n h).2.2.2)
    (fun l j => gainBack (row (m ((c.tc : Thread nD τ).loc main_arg0)) l) (row (m ((c.tc : Thread nD τ).loc main_arg2)) l) (slab (m ((c.tc : Thread nD τ).loc main_arg4)) (seqOf l) 1) (j 1))
    (fun t h j => ?_) (fun t h j => ?_) t ((flush0_8 t).mp hf) y
  · rcases point t with h' | h' | h'
    · rw [outsAt0_A m c t (by omega) (by omega) (by omega) (by omega) (by omega) (by omega)]; frame_out; rw [gain_first]; simp only [row0, row2]; exact congrArg (_ + ·) (Finset.sum_congr rfl fun r _ => congrArg (gainBack _ _ · (j 1)) (row4 m c t r))
    · omega
    · omega
  · rcases point t with h' | h' | h'
    · omega
    · rw [outsAt0_C m c t (by omega) (by omega) (by omega) (by omega) (by omega) (by omega)]; frame_out; rw [gain_next]; simp only [row0, row2]; exact congrArg (_ + ·) (Finset.sum_congr rfl fun r _ => congrArg (gainBack _ _ · (j 1)) (row4 m c t r))
    · rw [outsAt0_B m c t (by omega) (by omega) (by omega) (by omega) (by omega) (by omega)]; frame_out; rw [gain_next]; simp only [row0, row2]; exact congrArg (_ + ·) (Finset.sum_congr rfl fun r _ => congrArg (gainBack _ _ · (j 1)) (row4 m c t r))
end launch

/-- The kernel's results are the reference's. -/
theorem algebraic : Cert.algebraic_BwdPreIdeal_BwdPreReferenceIdeal := fun m g m' g' _ h =>
  ⟨_, _, _, _, Cert.BwdPreIdeal.Value.run_blocks (F := Ideal) m g,
    (θ_run Cert.BwdPreReferenceIdeal.defs _ _).mono
      (fun r hr c => by
        obtain ⟨h0, h1, h2, h3, h4⟩ := h c
        obtain ⟨r0, r1, r2, r3, rs⟩ := hr c
        refine ⟨r0.trans ?_, r1.trans ?_, r2.trans ?_, r3.trans ?_, rs⟩
        · rw [h0, h1, h2, h3, h4]; exact (final_x m c).symm
        · rw [h0]; exact (final_shift m c).symm
        · rw [h0, h2, h3]; exact (final_scale m c).symm
        · rw [h0, h2, h4]; exact (final_gain m c).symm)
      (Cert.BwdPreReferenceIdeal.Value.run (F := Ideal) m' g')⟩

end Cert.BwdPreNorm

end
-- ==== Proof.lean ====
/-
  The proof of `Cert.Claim`: the claims proved under `Proof/`, call by call, each at the facts its program states.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.ExchangeC
public import proofs.«01_k».proof.Proof.Gen.ExchangeCIdeal
public import proofs.«01_k».proof.Proof.Gen.ExchangeCIdeal.Skeleton
public import proofs.«01_k».proof.Proof.Gen.ExchangeCIdeal.Launch
public import proofs.«01_k».proof.Proof.Gen.ExchangeCIdeal.Points
public import proofs.«01_k».proof.Proof.Gen.ExchangeCReferenceIdeal
public import proofs.«01_k».proof.Proof.Gen.ExchangeCReferenceIdeal.Run
public import proofs.«01_k».proof.Proof.Gen.ExchangeCReference
public import proofs.«01_k».proof.Proof.Gen.ExchangeCReference.Run
public import proofs.«01_k».proof.Proof.Gen.ExchangeX
public import proofs.«01_k».proof.Proof.Gen.ExchangeXIdeal
public import proofs.«01_k».proof.Proof.Gen.ExchangeXIdeal.Skeleton
public import proofs.«01_k».proof.Proof.Gen.ExchangeXIdeal.Launch
public import proofs.«01_k».proof.Proof.Gen.ExchangeXIdeal.Points
public import proofs.«01_k».proof.Proof.Gen.ExchangeXReferenceIdeal
public import proofs.«01_k».proof.Proof.Gen.ExchangeXReferenceIdeal.Run
public import proofs.«01_k».proof.Proof.Gen.ExchangeXReference
public import proofs.«01_k».proof.Proof.Gen.ExchangeXReference.Run
public import proofs.«01_k».proof.Proof.Gen.ExchangeY
public import proofs.«01_k».proof.Proof.Gen.ExchangeYIdeal
public import proofs.«01_k».proof.Proof.Gen.ExchangeYIdeal.Skeleton
public import proofs.«01_k».proof.Proof.Gen.ExchangeYIdeal.Launch
public import proofs.«01_k».proof.Proof.Gen.ExchangeYIdeal.Points
public import proofs.«01_k».proof.Proof.Gen.ExchangeYReferenceIdeal
public import proofs.«01_k».proof.Proof.Gen.ExchangeYReferenceIdeal.Run
public import proofs.«01_k».proof.Proof.Gen.ExchangeYReference
public import proofs.«01_k».proof.Proof.Gen.ExchangeYReference.Run
public import proofs.«01_k».proof.Proof.Gen.GatherMod
public import proofs.«01_k».proof.Proof.Gen.GatherModIdeal
public import proofs.«01_k».proof.Proof.Gen.GatherModIdeal.Skeleton
public import proofs.«01_k».proof.Proof.Gen.GatherModIdeal.Launch
public import proofs.«01_k».proof.Proof.Gen.GatherModIdeal.Points
public import proofs.«01_k».proof.Proof.Gen.GatherModReferenceIdeal
public import proofs.«01_k».proof.Proof.Gen.GatherModReferenceIdeal.Run
public import proofs.«01_k».proof.Proof.Gen.GatherModReference
public import proofs.«01_k».proof.Proof.Gen.GatherModReference.Run
public import proofs.«01_k».proof.Proof.Gen.GatherSmall
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherSmallReferenceIdeal
public import proofs.«01_k».proof.Proof.Gen.GatherSmallReferenceIdeal.Run
public import proofs.«01_k».proof.Proof.Gen.GatherSmallReference
public import proofs.«01_k».proof.Proof.Gen.GatherSmallReference.Run
public import proofs.«01_k».proof.Proof.Gen.AdamCond.Frame
public import proofs.«01_k».proof.Proof.Gen.AdamCondIdeal.Value
public import proofs.«01_k».proof.Proof.Gen.AdamCondReferenceIdeal.Run
public import proofs.«01_k».proof.Proof.Gen.AdamBias.Frame
public import proofs.«01_k».proof.Proof.Gen.AdamBiasIdeal.Value
public import proofs.«01_k».proof.Proof.Gen.AdamBiasReferenceIdeal.Run
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamOut.Frame
public import proofs.«01_k».proof.Proof.Gen.AdamOutIdeal.Value
public import proofs.«01_k».proof.Proof.Gen.AdamOutReferenceIdeal.Run
public import proofs.«01_k».proof.Proof.Gen.AdamGate.Frame
public import proofs.«01_k».proof.Proof.Gen.AdamGateIdeal.Value
public import proofs.«01_k».proof.Proof.Gen.AdamGateReferenceIdeal.Run
public import proofs.«01_k».proof.Proof.Gen.AdamUp.Frame
public import proofs.«01_k».proof.Proof.Gen.AdamUpIdeal.Value
public import proofs.«01_k».proof.Proof.Gen.AdamUpReferenceIdeal.Run
public import proofs.«01_k».proof.Proof.Gen.AdamDown.Frame
public import proofs.«01_k».proof.Proof.Gen.AdamDownIdeal.Value
public import proofs.«01_k».proof.Proof.Gen.AdamDownReferenceIdeal.Run
public import proofs.«01_k».proof.Proof.Gen.CondForward.Frame
public import proofs.«01_k».proof.Proof.Gen.CondForwardIdeal.Value
public import proofs.«01_k».proof.Proof.Gen.CondForwardReferenceIdeal.Run
public import proofs.«01_k».proof.Proof.Gen.CondBackward.Frame
public import proofs.«01_k».proof.Proof.Gen.CondBackwardIdeal.Value
public import proofs.«01_k».proof.Proof.Gen.CondBackwardReferenceIdeal.Run
public import proofs.«01_k».proof.Proof.Gen.AdamSmall
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallReferenceIdeal.Run
public import proofs.«01_k».proof.Proof.Gen.Proj.Frame
public import proofs.«01_k».proof.Proof.Gen.ProjIdeal.Value
public import proofs.«01_k».proof.Proof.Gen.ProjReferenceIdeal.Run
public import proofs.«01_k».proof.Proof.Gen.Mix.Frame
public import proofs.«01_k».proof.Proof.Gen.MixIdeal.Value
public import proofs.«01_k».proof.Proof.Gen.MixReferenceIdeal.Run
public import proofs.«01_k».proof.Proof.Gen.FfnDown.Frame
public import proofs.«01_k».proof.Proof.Gen.FfnDownIdeal.Value
public import proofs.«01_k».proof.Proof.Gen.FfnDownReferenceIdeal.Run
public import proofs.«01_k».proof.Proof.Gen.GradDown.Frame
public import proofs.«01_k».proof.Proof.Gen.GradDownIdeal.Value
public import proofs.«01_k».proof.Proof.Gen.GradDownReferenceIdeal.Run
public import proofs.«01_k».proof.Proof.Gen.GradGateUp.Frame
public import proofs.«01_k».proof.Proof.Gen.GradGateUpIdeal.Value
public import proofs.«01_k».proof.Proof.Gen.GradGateUpReferenceIdeal.Run
public import proofs.«01_k».proof.Proof.Gen.BackFfn.Frame
public import proofs.«01_k».proof.Proof.Gen.BackFfnIdeal.Value
public import proofs.«01_k».proof.Proof.Gen.BackFfnReferenceIdeal.Run
public import proofs.«01_k».proof.Proof.Gen.BackOut.Frame
public import proofs.«01_k».proof.Proof.Gen.BackOutIdeal.Value
public import proofs.«01_k».proof.Proof.Gen.BackOutReferenceIdeal.Run
public import proofs.«01_k».proof.Proof.Gen.GradOut.Frame
public import proofs.«01_k».proof.Proof.Gen.GradOutIdeal.Value
public import proofs.«01_k».proof.Proof.Gen.GradOutReferenceIdeal.Run
public import proofs.«01_k».proof.Proof.Gen.GradIn.Frame
public import proofs.«01_k».proof.Proof.Gen.GradInIdeal.Value
public import proofs.«01_k».proof.Proof.Gen.GradInReferenceIdeal.Run
public import proofs.«01_k».proof.Proof.Gen.BackIn.Frame
public import proofs.«01_k».proof.Proof.Gen.BackInIdeal.Value
public import proofs.«01_k».proof.Proof.Gen.BackInReferenceIdeal.Run
public import proofs.«01_k».proof.Proof.Gen.FfnUp.Frame
public import proofs.«01_k».proof.Proof.Gen.FfnUpIdeal.Value
public import proofs.«01_k».proof.Proof.Gen.FfnUpReferenceIdeal.Run
public import proofs.«01_k».proof.Proof.Gen.FfnBack.Frame
public import proofs.«01_k».proof.Proof.Gen.FfnBackIdeal.Value
public import proofs.«01_k».proof.Proof.Gen.FfnBackReferenceIdeal.Run
public import proofs.«01_k».proof.Proof.Gen.PreMix.Frame
public import proofs.«01_k».proof.Proof.Gen.PreMixIdeal.Value
public import proofs.«01_k».proof.Proof.Gen.PreMixReferenceIdeal.Run
public import proofs.«01_k».proof.Proof.Gen.Mid.Frame
public import proofs.«01_k».proof.Proof.Gen.MidIdeal.Value
public import proofs.«01_k».proof.Proof.Gen.MidReferenceIdeal.Run
public import proofs.«01_k».proof.Proof.Gen.Post.Frame
public import proofs.«01_k».proof.Proof.Gen.PostIdeal.Value
public import proofs.«01_k».proof.Proof.Gen.PostReferenceIdeal.Run
public import proofs.«01_k».proof.Proof.Gen.BwdMid.Frame
public import proofs.«01_k».proof.Proof.Gen.BwdMidIdeal.Value
public import proofs.«01_k».proof.Proof.Gen.BwdMidReferenceIdeal.Run
public import proofs.«01_k».proof.Proof.Gen.BwdPre.Frame
public import proofs.«01_k».proof.Proof.Gen.BwdPreIdeal.Value
public import proofs.«01_k».proof.Proof.Gen.BwdPreReferenceIdeal.Run
public import proofs.«01_k».proof.Proof.WeightsClaims
public import proofs.«01_k».proof.Proof.ExchangeCClaims
public import proofs.«01_k».proof.Proof.ExchangeXClaims
public import proofs.«01_k».proof.Proof.ExchangeYClaims
public import proofs.«01_k».proof.Proof.GatherMod
public import proofs.«01_k».proof.Proof.GatherSmall
public import proofs.«01_k».proof.Proof.Adam
public import proofs.«01_k».proof.Proof.AdamSmall
public import proofs.«01_k».proof.Proof.Cond
public import proofs.«01_k».proof.Proof.Products
public import proofs.«01_k».proof.Proof.Gates
public import proofs.«01_k».proof.Proof.Norms
public import proofs.«01_k».proof.Proof.NormsBackward

@[expose] public section

noncomputable section

namespace Cert.Proof

theorem claim : Cert.Claim :=
  ⟨Cert.Kernel.Gen.facts, Cert.KernelIdeal.Gen.facts, Cert.ReferenceIdeal.Gen.facts, Cert.Reference.Gen.facts,
    Cert.ExchangeC.Gen.facts, Cert.ExchangeCIdeal.Gen.facts, Cert.ExchangeCReferenceIdeal.Gen.facts, Cert.ExchangeCReference.Gen.facts,
    Cert.ExchangeX.Gen.facts, Cert.ExchangeXIdeal.Gen.facts, Cert.ExchangeXReferenceIdeal.Gen.facts, Cert.ExchangeXReference.Gen.facts,
    Cert.ExchangeY.Gen.facts, Cert.ExchangeYIdeal.Gen.facts, Cert.ExchangeYReferenceIdeal.Gen.facts, Cert.ExchangeYReference.Gen.facts,
    Cert.GatherMod.Gen.facts, Cert.GatherModIdeal.Gen.facts, Cert.GatherModReferenceIdeal.Gen.facts, Cert.GatherModReference.Gen.facts,
    Cert.GatherSmall.Gen.facts, Cert.GatherSmallIdeal.Gen.facts, Cert.GatherSmallReferenceIdeal.Gen.facts, Cert.GatherSmallReference.Gen.facts,
    Cert.AdamCond.Gen.facts, Cert.AdamCondIdeal.Gen.facts, Cert.AdamCondReferenceIdeal.Gen.facts,
    Cert.AdamBias.Gen.facts, Cert.AdamBiasIdeal.Gen.facts, Cert.AdamBiasReferenceIdeal.Gen.facts,
    Cert.AdamIn.Gen.facts, Cert.AdamInIdeal.Gen.facts, Cert.AdamInReferenceIdeal.Gen.facts,
    Cert.AdamOut.Gen.facts, Cert.AdamOutIdeal.Gen.facts, Cert.AdamOutReferenceIdeal.Gen.facts,
    Cert.AdamGate.Gen.facts, Cert.AdamGateIdeal.Gen.facts, Cert.AdamGateReferenceIdeal.Gen.facts,
    Cert.AdamUp.Gen.facts, Cert.AdamUpIdeal.Gen.facts, Cert.AdamUpReferenceIdeal.Gen.facts,
    Cert.AdamDown.Gen.facts, Cert.AdamDownIdeal.Gen.facts, Cert.AdamDownReferenceIdeal.Gen.facts,
    Cert.AdamSmall.Gen.facts, Cert.AdamSmallIdeal.Gen.facts, Cert.AdamSmallReferenceIdeal.Gen.facts,
    Cert.CondForward.Gen.facts, Cert.CondForwardIdeal.Gen.facts, Cert.CondForwardReferenceIdeal.Gen.facts,
    Cert.CondBackward.Gen.facts, Cert.CondBackwardIdeal.Gen.facts, Cert.CondBackwardReferenceIdeal.Gen.facts,
    Cert.Proj.Gen.facts, Cert.ProjIdeal.Gen.facts, Cert.ProjReferenceIdeal.Gen.facts,
    Cert.Mix.Gen.facts, Cert.MixIdeal.Gen.facts, Cert.MixReferenceIdeal.Gen.facts,
    Cert.FfnDown.Gen.facts, Cert.FfnDownIdeal.Gen.facts, Cert.FfnDownReferenceIdeal.Gen.facts,
    Cert.GradDown.Gen.facts, Cert.GradDownIdeal.Gen.facts, Cert.GradDownReferenceIdeal.Gen.facts,
    Cert.GradGateUp.Gen.facts, Cert.GradGateUpIdeal.Gen.facts, Cert.GradGateUpReferenceIdeal.Gen.facts,
    Cert.BackFfn.Gen.facts, Cert.BackFfnIdeal.Gen.facts, Cert.BackFfnReferenceIdeal.Gen.facts,
    Cert.BackOut.Gen.facts, Cert.BackOutIdeal.Gen.facts, Cert.BackOutReferenceIdeal.Gen.facts,
    Cert.GradOut.Gen.facts, Cert.GradOutIdeal.Gen.facts, Cert.GradOutReferenceIdeal.Gen.facts,
    Cert.GradIn.Gen.facts, Cert.GradInIdeal.Gen.facts, Cert.GradInReferenceIdeal.Gen.facts,
    Cert.BackIn.Gen.facts, Cert.BackInIdeal.Gen.facts, Cert.BackInReferenceIdeal.Gen.facts,
    Cert.FfnUp.Gen.facts, Cert.FfnUpIdeal.Gen.facts, Cert.FfnUpReferenceIdeal.Gen.facts,
    Cert.FfnBack.Gen.facts, Cert.FfnBackIdeal.Gen.facts, Cert.FfnBackReferenceIdeal.Gen.facts,
    Cert.PreMix.Gen.facts, Cert.PreMixIdeal.Gen.facts, Cert.PreMixReferenceIdeal.Gen.facts,
    Cert.Mid.Gen.facts, Cert.MidIdeal.Gen.facts, Cert.MidReferenceIdeal.Gen.facts,
    Cert.Post.Gen.facts, Cert.PostIdeal.Gen.facts, Cert.PostReferenceIdeal.Gen.facts,
    Cert.BwdMid.Gen.facts, Cert.BwdMidIdeal.Gen.facts, Cert.BwdMidReferenceIdeal.Gen.facts,
    Cert.BwdPre.Gen.facts, Cert.BwdPreIdeal.Gen.facts, Cert.BwdPreReferenceIdeal.Gen.facts,
    Cert.Weights.frame_kernel, Cert.Weights.frame_ideal, Cert.Weights.frame_reference_ideal, Cert.Weights.frame_reference,
    Cert.ExchangeC.frame_kernel, Cert.ExchangeC.frame_ideal, Cert.ExchangeC.frame_reference_ideal, Cert.ExchangeC.frame_reference,
    Cert.ExchangeX.frame_kernel, Cert.ExchangeX.frame_ideal, Cert.ExchangeX.frame_reference_ideal, Cert.ExchangeX.frame_reference,
    Cert.ExchangeY.frame_kernel, Cert.ExchangeY.frame_ideal, Cert.ExchangeY.frame_reference_ideal, Cert.ExchangeY.frame_reference,
    Cert.ModGather.frame_kernel, Cert.ModGather.frame_ideal, Cert.ModGather.frame_reference_ideal, Cert.ModGather.frame_reference,
    Cert.SmallGather.frame_kernel, Cert.SmallGather.frame_ideal, Cert.SmallGather.frame_reference_ideal, Cert.SmallGather.frame_reference,
    fun m g _ => Cert.AdamCond.Gen.frame m g, fun m g _ => Cert.AdamCondIdeal.Gen.frame m g, Cert.CondAdam.frame_reference_ideal,
    fun m g _ => Cert.AdamBias.Gen.frame m g, fun m g _ => Cert.AdamBiasIdeal.Gen.frame m g, Cert.BiasAdam.frame_reference_ideal,
    fun m g _ => Cert.AdamIn.Gen.frame m g, fun m g _ => Cert.AdamInIdeal.Gen.frame m g, Cert.InAdam.frame_reference_ideal,
    fun m g _ => Cert.AdamOut.Gen.frame m g, fun m g _ => Cert.AdamOutIdeal.Gen.frame m g, Cert.OutAdam.frame_reference_ideal,
    fun m g _ => Cert.AdamGate.Gen.frame m g, fun m g _ => Cert.AdamGateIdeal.Gen.frame m g, Cert.GateAdam.frame_reference_ideal,
    fun m g _ => Cert.AdamUp.Gen.frame m g, fun m g _ => Cert.AdamUpIdeal.Gen.frame m g, Cert.UpAdam.frame_reference_ideal,
    fun m g _ => Cert.AdamDown.Gen.frame m g, fun m g _ => Cert.AdamDownIdeal.Gen.frame m g, Cert.DownAdam.frame_reference_ideal,
    Cert.SmallAdam.frame_kernel, Cert.SmallAdam.frame_kernel_ideal, Cert.SmallAdam.frame_reference_ideal,
    fun m g _ => Cert.CondForward.Gen.frame m g, fun m g _ => Cert.CondForwardIdeal.Gen.frame m g, Cert.ForwardCond.frame_reference_ideal,
    fun m g _ => Cert.CondBackward.Gen.frame m g, fun m g _ => Cert.CondBackwardIdeal.Gen.frame m g, Cert.BackwardCond.frame_reference_ideal,
    fun m g _ => Cert.Proj.Gen.frame m g, fun m g _ => Cert.ProjIdeal.Gen.frame m g, Cert.ProjProduct.frame_reference_ideal,
    fun m g _ => Cert.Mix.Gen.frame m g, fun m g _ => Cert.MixIdeal.Gen.frame m g, Cert.MixProduct.frame_reference_ideal,
    fun m g _ => Cert.FfnDown.Gen.frame m g, fun m g _ => Cert.FfnDownIdeal.Gen.frame m g, Cert.FfnDownProduct.frame_reference_ideal,
    fun m g _ => Cert.GradDown.Gen.frame m g, fun m g _ => Cert.GradDownIdeal.Gen.frame m g, Cert.GradDownProduct.frame_reference_ideal,
    fun m g _ => Cert.GradGateUp.Gen.frame m g, fun m g _ => Cert.GradGateUpIdeal.Gen.frame m g, Cert.GradGateUpProduct.frame_reference_ideal,
    fun m g _ => Cert.BackFfn.Gen.frame m g, fun m g _ => Cert.BackFfnIdeal.Gen.frame m g, Cert.BackFfnProduct.frame_reference_ideal,
    fun m g _ => Cert.BackOut.Gen.frame m g, fun m g _ => Cert.BackOutIdeal.Gen.frame m g, Cert.BackOutProduct.frame_reference_ideal,
    fun m g _ => Cert.GradOut.Gen.frame m g, fun m g _ => Cert.GradOutIdeal.Gen.frame m g, Cert.GradOutProduct.frame_reference_ideal,
    fun m g _ => Cert.GradIn.Gen.frame m g, fun m g _ => Cert.GradInIdeal.Gen.frame m g, Cert.GradInProduct.frame_reference_ideal,
    fun m g _ => Cert.BackIn.Gen.frame m g, fun m g _ => Cert.BackInIdeal.Gen.frame m g, Cert.BackInProduct.frame_reference_ideal,
    fun m g _ => Cert.FfnUp.Gen.frame m g, fun m g _ => Cert.FfnUpIdeal.Gen.frame m g, Cert.FfnUpGate.frame_reference_ideal,
    fun m g _ => Cert.FfnBack.Gen.frame m g, fun m g _ => Cert.FfnBackIdeal.Gen.frame m g, Cert.FfnBackGate.frame_reference_ideal,
    fun m g _ => Cert.PreMix.Gen.frame m g, fun m g _ => Cert.PreMixIdeal.Gen.frame m g, Cert.PreMixNorm.frame_reference_ideal,
    fun m g _ => Cert.Mid.Gen.frame m g, fun m g _ => Cert.MidIdeal.Gen.frame m g, Cert.MidNorm.frame_reference_ideal,
    fun m g _ => Cert.Post.Gen.frame m g, fun m g _ => Cert.PostIdeal.Gen.frame m g, Cert.PostNorm.frame_reference_ideal,
    fun m g _ => Cert.BwdMid.Gen.frame m g, fun m g _ => Cert.BwdMidIdeal.Gen.frame m g, Cert.BwdMidNorm.frame_reference_ideal,
    fun m g _ => Cert.BwdPre.Gen.frame m g, fun m g _ => Cert.BwdPreIdeal.Gen.frame m g, Cert.BwdPreNorm.frame_reference_ideal,
    trivial, Cert.Weights.algebraic, Cert.Weights.bitexact,
    trivial, Cert.ExchangeC.algebraic, Cert.ExchangeC.bitexact,
    trivial, Cert.ExchangeX.algebraic, Cert.ExchangeX.bitexact,
    trivial, Cert.ExchangeY.algebraic, Cert.ExchangeY.bitexact,
    trivial, Cert.ModGather.algebraic, Cert.ModGather.bitexact,
    trivial, Cert.SmallGather.algebraic, Cert.SmallGather.bitexact,
    trivial, Cert.CondAdam.algebraic,
    trivial, Cert.BiasAdam.algebraic,
    trivial, Cert.InAdam.algebraic,
    trivial, Cert.OutAdam.algebraic,
    trivial, Cert.GateAdam.algebraic,
    trivial, Cert.UpAdam.algebraic,
    trivial, Cert.DownAdam.algebraic,
    trivial, Cert.SmallAdam.algebraic,
    trivial, Cert.ForwardCond.algebraic,
    trivial, Cert.BackwardCond.algebraic,
    trivial, Cert.ProjProduct.algebraic,
    trivial, Cert.MixProduct.algebraic,
    trivial, Cert.FfnDownProduct.algebraic,
    trivial, Cert.GradDownProduct.algebraic,
    trivial, Cert.GradGateUpProduct.algebraic,
    trivial, Cert.BackFfnProduct.algebraic,
    trivial, Cert.BackOutProduct.algebraic,
    trivial, Cert.GradOutProduct.algebraic,
    trivial, Cert.GradInProduct.algebraic,
    trivial, Cert.BackInProduct.algebraic,
    trivial, Cert.FfnUpGate.algebraic,
    trivial, Cert.FfnBackGate.algebraic,
    trivial, Cert.PreMixNorm.algebraic,
    trivial, Cert.MidNorm.algebraic,
    trivial, Cert.PostNorm.algebraic,
    trivial, Cert.BwdMidNorm.algebraic,
    trivial, Cert.BwdPreNorm.algebraic⟩

end Cert.Proof

end
